-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2.2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.2 = (fun _ => 1#1)

def Pre_Fnorm (m : (ℓ : Loc Cert.Fnorm.nD Cert.Fnorm.τ Cert.Fnorm.sig) → Buf (Elt Bits) ℓ) : Prop :=
  True

def Pre_FnormIdeal (m : (ℓ : Loc Cert.FnormIdeal.nD Cert.FnormIdeal.τ Cert.FnormIdeal.sig) → Buf (Elt Ideal) ℓ) : Prop :=
  True

def Pre_FnormIdeal_fnorm_finite [hPre_fnorm_finite : Cert.Pre_fnorm_finite.Facts] (m : (ℓ : Loc Cert.FnormIdeal.nD Cert.FnormIdeal.τ Cert.FnormIdeal.sig) → Buf (Elt Ideal) ℓ) : Prop :=
  ∀ c : Dev Cert.FnormIdeal.nD,
    (Cert.Pre_fnorm_finite.fn (F := Ideal) (m ((c.tc : Thread Cert.FnormIdeal.nD Cert.FnormIdeal.τ).loc Cert.FnormIdeal.main_arg0)) (m ((c.tc : Thread Cert.FnormIdeal.nD Cert.FnormIdeal.τ).loc Cert.FnormIdeal.main_arg1)) (m ((c.tc : Thread Cert.FnormIdeal.nD Cert.FnormIdeal.τ).loc Cert.FnormIdeal.main_arg2))).1 = (fun _ => 1#1)
    ∧ (Cert.Pre_fnorm_finite.fn (F := Ideal) (m ((c.tc : Thread Cert.FnormIdeal.nD Cert.FnormIdeal.τ).loc Cert.FnormIdeal.main_arg0)) (m ((c.tc : Thread Cert.FnormIdeal.nD Cert.FnormIdeal.τ).loc Cert.FnormIdeal.main_arg1)) (m ((c.tc : Thread Cert.FnormIdeal.nD Cert.FnormIdeal.τ).loc Cert.FnormIdeal.main_arg2))).2.1 = (fun _ => 1#1)
    ∧ (Cert.Pre_fnorm_finite.fn (F := Ideal) (m ((c.tc : Thread Cert.FnormIdeal.nD Cert.FnormIdeal.τ).loc Cert.FnormIdeal.main_arg0)) (m ((c.tc : Thread Cert.FnormIdeal.nD Cert.FnormIdeal.τ).loc Cert.FnormIdeal.main_arg1)) (m ((c.tc : Thread Cert.FnormIdeal.nD Cert.FnormIdeal.τ).loc Cert.FnormIdeal.main_arg2))).2.2 = (fun _ => 1#1)

def Pre_FnormRefIdeal (m : (ℓ : Loc Cert.FnormRefIdeal.nD Cert.FnormRefIdeal.τ Cert.FnormRefIdeal.sig) → Buf (Elt Ideal) ℓ) : Prop :=
  True

def Pre_FnormRefIdeal_fnorm_finite [hPre_fnorm_finite : Cert.Pre_fnorm_finite.Facts] (m : (ℓ : Loc Cert.FnormRefIdeal.nD Cert.FnormRefIdeal.τ Cert.FnormRefIdeal.sig) → Buf (Elt Ideal) ℓ) : Prop :=
  ∀ c : Dev Cert.FnormRefIdeal.nD,
    (Cert.Pre_fnorm_finite.fn (F := Ideal) (m ((c.tc : Thread Cert.FnormRefIdeal.nD Cert.FnormRefIdeal.τ).loc Cert.FnormRefIdeal.main_arg0)) (m ((c.tc : Thread Cert.FnormRefIdeal.nD Cert.FnormRefIdeal.τ).loc Cert.FnormRefIdeal.main_arg1)) (m ((c.tc : Thread Cert.FnormRefIdeal.nD Cert.FnormRefIdeal.τ).loc Cert.FnormRefIdeal.main_arg2))).1 = (fun _ => 1#1)
    ∧ (Cert.Pre_fnorm_finite.fn (F := Ideal) (m ((c.tc : Thread Cert.FnormRefIdeal.nD Cert.FnormRefIdeal.τ).loc Cert.FnormRefIdeal.main_arg0)) (m ((c.tc : Thread Cert.FnormRefIdeal.nD Cert.FnormRefIdeal.τ).loc Cert.FnormRefIdeal.main_arg1)) (m ((c.tc : Thread Cert.FnormRefIdeal.nD Cert.FnormRefIdeal.τ).loc Cert.FnormRefIdeal.main_arg2))).2.1 = (fun _ => 1#1)
    ∧ (Cert.Pre_fnorm_finite.fn (F := Ideal) (m ((c.tc : Thread Cert.FnormRefIdeal.nD Cert.FnormRefIdeal.τ).loc Cert.FnormRefIdeal.main_arg0)) (m ((c.tc : Thread Cert.FnormRefIdeal.nD Cert.FnormRefIdeal.τ).loc Cert.FnormRefIdeal.main_arg1)) (m ((c.tc : Thread Cert.FnormRefIdeal.nD Cert.FnormRefIdeal.τ).loc Cert.FnormRefIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_RopeQRefIdeal (m : (ℓ : Loc Cert.RopeQRefIdeal.nD Cert.RopeQRefIdeal.τ Cert.RopeQRefIdeal.sig) → Buf (Elt Ideal) ℓ) : Prop :=
  True

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeKRefIdeal (m : (ℓ : Loc Cert.RopeKRefIdeal.nD Cert.RopeKRefIdeal.τ Cert.RopeKRefIdeal.sig) → Buf (Elt Ideal) ℓ) : Prop :=
  True

def Pre_Outn (m : (ℓ : Loc Cert.Outn.nD Cert.Outn.τ Cert.Outn.sig) → Buf (Elt Bits) ℓ) : Prop :=
  True

def Pre_OutnIdeal (m : (ℓ : Loc Cert.OutnIdeal.nD Cert.OutnIdeal.τ Cert.OutnIdeal.sig) → Buf (Elt Ideal) ℓ) : Prop :=
  True

def Pre_OutnIdeal_outn_finite [hPre_outn_finite : Cert.Pre_outn_finite.Facts] (m : (ℓ : Loc Cert.OutnIdeal.nD Cert.OutnIdeal.τ Cert.OutnIdeal.sig) → Buf (Elt Ideal) ℓ) : Prop :=
  ∀ c : Dev Cert.OutnIdeal.nD,
    (Cert.Pre_outn_finite.fn (F := Ideal) (m ((c.tc : Thread Cert.OutnIdeal.nD Cert.OutnIdeal.τ).loc Cert.OutnIdeal.main_arg0)) (m ((c.tc : Thread Cert.OutnIdeal.nD Cert.OutnIdeal.τ).loc Cert.OutnIdeal.main_arg1)) (m ((c.tc : Thread Cert.OutnIdeal.nD Cert.OutnIdeal.τ).loc Cert.OutnIdeal.main_arg2)) (m ((c.tc : Thread Cert.OutnIdeal.nD Cert.OutnIdeal.τ).loc Cert.OutnIdeal.main_arg3)) (m ((c.tc : Thread Cert.OutnIdeal.nD Cert.OutnIdeal.τ).loc Cert.OutnIdeal.main_arg4))).1 = (fun _ => 1#1)
    ∧ (Cert.Pre_outn_finite.fn (F := Ideal) (m ((c.tc : Thread Cert.OutnIdeal.nD Cert.OutnIdeal.τ).loc Cert.OutnIdeal.main_arg0)) (m ((c.tc : Thread Cert.OutnIdeal.nD Cert.OutnIdeal.τ).loc Cert.OutnIdeal.main_arg1)) (m ((c.tc : Thread Cert.OutnIdeal.nD Cert.OutnIdeal.τ).loc Cert.OutnIdeal.main_arg2)) (m ((c.tc : Thread Cert.OutnIdeal.nD Cert.OutnIdeal.τ).loc Cert.OutnIdeal.main_arg3)) (m ((c.tc : Thread Cert.OutnIdeal.nD Cert.OutnIdeal.τ).loc Cert.OutnIdeal.main_arg4))).2.1 = (fun _ => 1#1)
    ∧ (Cert.Pre_outn_finite.fn (F := Ideal) (m ((c.tc : Thread Cert.OutnIdeal.nD Cert.OutnIdeal.τ).loc Cert.OutnIdeal.main_arg0)) (m ((c.tc : Thread Cert.OutnIdeal.nD Cert.OutnIdeal.τ).loc Cert.OutnIdeal.main_arg1)) (m ((c.tc : Thread Cert.OutnIdeal.nD Cert.OutnIdeal.τ).loc Cert.OutnIdeal.main_arg2)) (m ((c.tc : Thread Cert.OutnIdeal.nD Cert.OutnIdeal.τ).loc Cert.OutnIdeal.main_arg3)) (m ((c.tc : Thread Cert.OutnIdeal.nD Cert.OutnIdeal.τ).loc Cert.OutnIdeal.main_arg4))).2.2.1 = (fun _ => 1#1)
    ∧ (Cert.Pre_outn_finite.fn (F := Ideal) (m ((c.tc : Thread Cert.OutnIdeal.nD Cert.OutnIdeal.τ).loc Cert.OutnIdeal.main_arg0)) (m ((c.tc : Thread Cert.OutnIdeal.nD Cert.OutnIdeal.τ).loc Cert.OutnIdeal.main_arg1)) (m ((c.tc : Thread Cert.OutnIdeal.nD Cert.OutnIdeal.τ).loc Cert.OutnIdeal.main_arg2)) (m ((c.tc : Thread Cert.OutnIdeal.nD Cert.OutnIdeal.τ).loc Cert.OutnIdeal.main_arg3)) (m ((c.tc : Thread Cert.OutnIdeal.nD Cert.OutnIdeal.τ).loc Cert.OutnIdeal.main_arg4))).2.2.2.1 = (fun _ => 1#1)
    ∧ (Cert.Pre_outn_finite.fn (F := Ideal) (m ((c.tc : Thread Cert.OutnIdeal.nD Cert.OutnIdeal.τ).loc Cert.OutnIdeal.main_arg0)) (m ((c.tc : Thread Cert.OutnIdeal.nD Cert.OutnIdeal.τ).loc Cert.OutnIdeal.main_arg1)) (m ((c.tc : Thread Cert.OutnIdeal.nD Cert.OutnIdeal.τ).loc Cert.OutnIdeal.main_arg2)) (m ((c.tc : Thread Cert.OutnIdeal.nD Cert.OutnIdeal.τ).loc Cert.OutnIdeal.main_arg3)) (m ((c.tc : Thread Cert.OutnIdeal.nD Cert.OutnIdeal.τ).loc Cert.OutnIdeal.main_arg4))).2.2.2.2 = (fun _ => 1#1)

def Pre_OutnRefIdeal (m : (ℓ : Loc Cert.OutnRefIdeal.nD Cert.OutnRefIdeal.τ Cert.OutnRefIdeal.sig) → Buf (Elt Ideal) ℓ) : Prop :=
  True

def Pre_OutnRefIdeal_outn_finite [hPre_outn_finite : Cert.Pre_outn_finite.Facts] (m : (ℓ : Loc Cert.OutnRefIdeal.nD Cert.OutnRefIdeal.τ Cert.OutnRefIdeal.sig) → Buf (Elt Ideal) ℓ) : Prop :=
  ∀ c : Dev Cert.OutnRefIdeal.nD,
    (Cert.Pre_outn_finite.fn (F := Ideal) (m ((c.tc : Thread Cert.OutnRefIdeal.nD Cert.OutnRefIdeal.τ).loc Cert.OutnRefIdeal.main_arg0)) (m ((c.tc : Thread Cert.OutnRefIdeal.nD Cert.OutnRefIdeal.τ).loc Cert.OutnRefIdeal.main_arg1)) (m ((c.tc : Thread Cert.OutnRefIdeal.nD Cert.OutnRefIdeal.τ).loc Cert.OutnRefIdeal.main_arg2)) (m ((c.tc : Thread Cert.OutnRefIdeal.nD Cert.OutnRefIdeal.τ).loc Cert.OutnRefIdeal.main_arg3)) (m ((c.tc : Thread Cert.OutnRefIdeal.nD Cert.OutnRefIdeal.τ).loc Cert.OutnRefIdeal.main_arg4))).1 = (fun _ => 1#1)
    ∧ (Cert.Pre_outn_finite.fn (F := Ideal) (m ((c.tc : Thread Cert.OutnRefIdeal.nD Cert.OutnRefIdeal.τ).loc Cert.OutnRefIdeal.main_arg0)) (m ((c.tc : Thread Cert.OutnRefIdeal.nD Cert.OutnRefIdeal.τ).loc Cert.OutnRefIdeal.main_arg1)) (m ((c.tc : Thread Cert.OutnRefIdeal.nD Cert.OutnRefIdeal.τ).loc Cert.OutnRefIdeal.main_arg2)) (m ((c.tc : Thread Cert.OutnRefIdeal.nD Cert.OutnRefIdeal.τ).loc Cert.OutnRefIdeal.main_arg3)) (m ((c.tc : Thread Cert.OutnRefIdeal.nD Cert.OutnRefIdeal.τ).loc Cert.OutnRefIdeal.main_arg4))).2.1 = (fun _ => 1#1)
    ∧ (Cert.Pre_outn_finite.fn (F := Ideal) (m ((c.tc : Thread Cert.OutnRefIdeal.nD Cert.OutnRefIdeal.τ).loc Cert.OutnRefIdeal.main_arg0)) (m ((c.tc : Thread Cert.OutnRefIdeal.nD Cert.OutnRefIdeal.τ).loc Cert.OutnRefIdeal.main_arg1)) (m ((c.tc : Thread Cert.OutnRefIdeal.nD Cert.OutnRefIdeal.τ).loc Cert.OutnRefIdeal.main_arg2)) (m ((c.tc : Thread Cert.OutnRefIdeal.nD Cert.OutnRefIdeal.τ).loc Cert.OutnRefIdeal.main_arg3)) (m ((c.tc : Thread Cert.OutnRefIdeal.nD Cert.OutnRefIdeal.τ).loc Cert.OutnRefIdeal.main_arg4))).2.2.1 = (fun _ => 1#1)
    ∧ (Cert.Pre_outn_finite.fn (F := Ideal) (m ((c.tc : Thread Cert.OutnRefIdeal.nD Cert.OutnRefIdeal.τ).loc Cert.OutnRefIdeal.main_arg0)) (m ((c.tc : Thread Cert.OutnRefIdeal.nD Cert.OutnRefIdeal.τ).loc Cert.OutnRefIdeal.main_arg1)) (m ((c.tc : Thread Cert.OutnRefIdeal.nD Cert.OutnRefIdeal.τ).loc Cert.OutnRefIdeal.main_arg2)) (m ((c.tc : Thread Cert.OutnRefIdeal.nD Cert.OutnRefIdeal.τ).loc Cert.OutnRefIdeal.main_arg3)) (m ((c.tc : Thread Cert.OutnRefIdeal.nD Cert.OutnRefIdeal.τ).loc Cert.OutnRefIdeal.main_arg4))).2.2.2.1 = (fun _ => 1#1)
    ∧ (Cert.Pre_outn_finite.fn (F := Ideal) (m ((c.tc : Thread Cert.OutnRefIdeal.nD Cert.OutnRefIdeal.τ).loc Cert.OutnRefIdeal.main_arg0)) (m ((c.tc : Thread Cert.OutnRefIdeal.nD Cert.OutnRefIdeal.τ).loc Cert.OutnRefIdeal.main_arg1)) (m ((c.tc : Thread Cert.OutnRefIdeal.nD Cert.OutnRefIdeal.τ).loc Cert.OutnRefIdeal.main_arg2)) (m ((c.tc : Thread Cert.OutnRefIdeal.nD Cert.OutnRefIdeal.τ).loc Cert.OutnRefIdeal.main_arg3)) (m ((c.tc : Thread Cert.OutnRefIdeal.nD Cert.OutnRefIdeal.τ).loc Cert.OutnRefIdeal.main_arg4))).2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_OutnFwd (m : (ℓ : Loc Cert.OutnFwd.nD Cert.OutnFwd.τ Cert.OutnFwd.sig) → Buf (Elt Bits) ℓ) : Prop :=
  True

def Pre_OutnFwdIdeal (m : (ℓ : Loc Cert.OutnFwdIdeal.nD Cert.OutnFwdIdeal.τ Cert.OutnFwdIdeal.sig) → Buf (Elt Ideal) ℓ) : Prop :=
  True

def Pre_OutnFwdRefIdeal (m : (ℓ : Loc Cert.OutnFwdRefIdeal.nD Cert.OutnFwdRefIdeal.τ Cert.OutnFwdRefIdeal.sig) → Buf (Elt Ideal) ℓ) : Prop :=
  True

def Pre_RopeQFwd (m : (ℓ : Loc Cert.RopeQFwd.nD Cert.RopeQFwd.τ Cert.RopeQFwd.sig) → Buf (Elt Bits) ℓ) : Prop :=
  True

def Pre_RopeQFwdIdeal (m : (ℓ : Loc Cert.RopeQFwdIdeal.nD Cert.RopeQFwdIdeal.τ Cert.RopeQFwdIdeal.sig) → Buf (Elt Ideal) ℓ) : Prop :=
  True

def Pre_RopeQFwdRefIdeal (m : (ℓ : Loc Cert.RopeQFwdRefIdeal.nD Cert.RopeQFwdRefIdeal.τ Cert.RopeQFwdRefIdeal.sig) → Buf (Elt Ideal) ℓ) : Prop :=
  True

def Pre_RopeKFwd (m : (ℓ : Loc Cert.RopeKFwd.nD Cert.RopeKFwd.τ Cert.RopeKFwd.sig) → Buf (Elt Bits) ℓ) : Prop :=
  True

def Pre_RopeKFwdIdeal (m : (ℓ : Loc Cert.RopeKFwdIdeal.nD Cert.RopeKFwdIdeal.τ Cert.RopeKFwdIdeal.sig) → Buf (Elt Ideal) ℓ) : Prop :=
  True

def Pre_RopeKFwdRefIdeal (m : (ℓ : Loc Cert.RopeKFwdRefIdeal.nD Cert.RopeKFwdRefIdeal.τ Cert.RopeKFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamLayer (m : (ℓ : Loc Cert.AdamLayer.nD Cert.AdamLayer.τ Cert.AdamLayer.sig) → Buf (Elt Bits) ℓ) : Prop :=
  True

def Pre_AdamLayerIdeal (m : (ℓ : Loc Cert.AdamLayerIdeal.nD Cert.AdamLayerIdeal.τ Cert.AdamLayerIdeal.sig) → Buf (Elt Ideal) ℓ) : Prop :=
  True

def Pre_AdamLayerRefIdeal (m : (ℓ : Loc Cert.AdamLayerRefIdeal.nD Cert.AdamLayerRefIdeal.τ Cert.AdamLayerRefIdeal.sig) → Buf (Elt Ideal) ℓ) : Prop :=
  True

def Pre_AddHalf (m : (ℓ : Loc Cert.AddHalf.nD Cert.AddHalf.τ Cert.AddHalf.sig) → Buf (Elt Bits) ℓ) : Prop :=
  True

def Pre_AddHalfIdeal (m : (ℓ : Loc Cert.AddHalfIdeal.nD Cert.AddHalfIdeal.τ Cert.AddHalfIdeal.sig) → Buf (Elt Ideal) ℓ) : Prop :=
  True

def Pre_AddHalfRefIdeal (m : (ℓ : Loc Cert.AddHalfRefIdeal.nD Cert.AddHalfRefIdeal.τ Cert.AddHalfRefIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_CastLayer (m : (ℓ : Loc Cert.CastLayer.nD Cert.CastLayer.τ Cert.CastLayer.sig) → Buf (Elt Bits) ℓ) : Prop :=
  True

def Pre_CastLayerIdeal (m : (ℓ : Loc Cert.CastLayerIdeal.nD Cert.CastLayerIdeal.τ Cert.CastLayerIdeal.sig) → Buf (Elt Ideal) ℓ) : Prop :=
  True

def Pre_CastLayerRefIdeal (m : (ℓ : Loc Cert.CastLayerRefIdeal.nD Cert.CastLayerRefIdeal.τ Cert.CastLayerRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Fnorm [hFnorm : Cert.Fnorm.Facts] : Prop :=
  ∀ (m : (ℓ : Loc Cert.Fnorm.nD Cert.Fnorm.τ Cert.Fnorm.sig) → Buf (Elt Bits) ℓ) (g : Dev Cert.Fnorm.nD → PrngReg), Pre_Fnorm m →
    θ_run (Cert.Fnorm.defs (F := Bits)) (onTc (τ := Cert.Fnorm.τ) (Cert.Fnorm.main (F := Bits))) ⟨m, fun _ => 0, g⟩ (fun r => (∀ c : Dev Cert.Fnorm.nD,
      r.2.mem ((c.tc : Thread Cert.Fnorm.nD Cert.Fnorm.τ).loc Cert.Fnorm.main_arg0) = m ((c.tc : Thread Cert.Fnorm.nD Cert.Fnorm.τ).loc Cert.Fnorm.main_arg0)
      ∧ r.2.mem ((c.tc : Thread Cert.Fnorm.nD Cert.Fnorm.τ).loc Cert.Fnorm.main_arg1) = m ((c.tc : Thread Cert.Fnorm.nD Cert.Fnorm.τ).loc Cert.Fnorm.main_arg1)
      ∧ r.2.mem ((c.tc : Thread Cert.Fnorm.nD Cert.Fnorm.τ).loc Cert.Fnorm.main_arg2) = m ((c.tc : Thread Cert.Fnorm.nD Cert.Fnorm.τ).loc Cert.Fnorm.main_arg2))
      ∧ r.2.sem = fun _ => 0)

def quiescent_FnormIdeal [hFnormIdeal : Cert.FnormIdeal.Facts] : Prop :=
  ∀ (m : (ℓ : Loc Cert.FnormIdeal.nD Cert.FnormIdeal.τ Cert.FnormIdeal.sig) → Buf (Elt Ideal) ℓ) (g : Dev Cert.FnormIdeal.nD → PrngReg), Pre_FnormIdeal m →
    θ_run (Cert.FnormIdeal.defs (F := Ideal)) (onTc (τ := Cert.FnormIdeal.τ) (Cert.FnormIdeal.main (F := Ideal))) ⟨m, fun _ => 0, g⟩ (fun r => (∀ c : Dev Cert.FnormIdeal.nD,
      r.2.mem ((c.tc : Thread Cert.FnormIdeal.nD Cert.FnormIdeal.τ).loc Cert.FnormIdeal.main_arg0) = m ((c.tc : Thread Cert.FnormIdeal.nD Cert.FnormIdeal.τ).loc Cert.FnormIdeal.main_arg0)
      ∧ r.2.mem ((c.tc : Thread Cert.FnormIdeal.nD Cert.FnormIdeal.τ).loc Cert.FnormIdeal.main_arg1) = m ((c.tc : Thread Cert.FnormIdeal.nD Cert.FnormIdeal.τ).loc Cert.FnormIdeal.main_arg1)
      ∧ r.2.mem ((c.tc : Thread Cert.FnormIdeal.nD Cert.FnormIdeal.τ).loc Cert.FnormIdeal.main_arg2) = m ((c.tc : Thread Cert.FnormIdeal.nD Cert.FnormIdeal.τ).loc Cert.FnormIdeal.main_arg2))
      ∧ r.2.sem = fun _ => 0)

def quiescent_FnormIdeal_pre_fnorm_finite [hFnormIdeal : Cert.FnormIdeal.Facts] [hPre_fnorm_finite : Cert.Pre_fnorm_finite.Facts] : Prop :=
  ∀ (m : (ℓ : Loc Cert.FnormIdeal.nD Cert.FnormIdeal.τ Cert.FnormIdeal.sig) → Buf (Elt Ideal) ℓ) (g : Dev Cert.FnormIdeal.nD → PrngReg), Pre_FnormIdeal_fnorm_finite m →
    θ_run (Cert.FnormIdeal.defs (F := Ideal)) (onTc (τ := Cert.FnormIdeal.τ) (Cert.FnormIdeal.main (F := Ideal))) ⟨m, fun _ => 0, g⟩ (fun r => (∀ c : Dev Cert.FnormIdeal.nD,
      r.2.mem ((c.tc : Thread Cert.FnormIdeal.nD Cert.FnormIdeal.τ).loc Cert.FnormIdeal.main_arg0) = m ((c.tc : Thread Cert.FnormIdeal.nD Cert.FnormIdeal.τ).loc Cert.FnormIdeal.main_arg0)
      ∧ r.2.mem ((c.tc : Thread Cert.FnormIdeal.nD Cert.FnormIdeal.τ).loc Cert.FnormIdeal.main_arg1) = m ((c.tc : Thread Cert.FnormIdeal.nD Cert.FnormIdeal.τ).loc Cert.FnormIdeal.main_arg1)
      ∧ r.2.mem ((c.tc : Thread Cert.FnormIdeal.nD Cert.FnormIdeal.τ).loc Cert.FnormIdeal.main_arg2) = m ((c.tc : Thread Cert.FnormIdeal.nD Cert.FnormIdeal.τ).loc Cert.FnormIdeal.main_arg2))
      ∧ r.2.sem = fun _ => 0)

def quiescent_FnormRefIdeal [hFnormRefIdeal : Cert.FnormRefIdeal.Facts] : Prop :=
  ∀ (m : (ℓ : Loc Cert.FnormRefIdeal.nD Cert.FnormRefIdeal.τ Cert.FnormRefIdeal.sig) → Buf (Elt Ideal) ℓ) (g : Dev Cert.FnormRefIdeal.nD → PrngReg), Pre_FnormRefIdeal m →
    θ_run (Cert.FnormRefIdeal.defs (F := Ideal)) (onTc (τ := Cert.FnormRefIdeal.τ) (Cert.FnormRefIdeal.main (F := Ideal))) ⟨m, fun _ => 0, g⟩ (fun r => (∀ c : Dev Cert.FnormRefIdeal.nD,
      r.2.mem ((c.tc : Thread Cert.FnormRefIdeal.nD Cert.FnormRefIdeal.τ).loc Cert.FnormRefIdeal.main_arg0) = m ((c.tc : Thread Cert.FnormRefIdeal.nD Cert.FnormRefIdeal.τ).loc Cert.FnormRefIdeal.main_arg0)
      ∧ r.2.mem ((c.tc : Thread Cert.FnormRefIdeal.nD Cert.FnormRefIdeal.τ).loc Cert.FnormRefIdeal.main_arg1) = m ((c.tc : Thread Cert.FnormRefIdeal.nD Cert.FnormRefIdeal.τ).loc Cert.FnormRefIdeal.main_arg1)
      ∧ r.2.mem ((c.tc : Thread Cert.FnormRefIdeal.nD Cert.FnormRefIdeal.τ).loc Cert.FnormRefIdeal.main_arg2) = m ((c.tc : Thread Cert.FnormRefIdeal.nD Cert.FnormRefIdeal.τ).loc Cert.FnormRefIdeal.main_arg2))
      ∧ r.2.sem = fun _ => 0)

def quiescent_FnormRefIdeal_pre_fnorm_finite [hFnormRefIdeal : Cert.FnormRefIdeal.Facts] [hPre_fnorm_finite : Cert.Pre_fnorm_finite.Facts] : Prop :=
  ∀ (m : (ℓ : Loc Cert.FnormRefIdeal.nD Cert.FnormRefIdeal.τ Cert.FnormRefIdeal.sig) → Buf (Elt Ideal) ℓ) (g : Dev Cert.FnormRefIdeal.nD → PrngReg), Pre_FnormRefIdeal_fnorm_finite m →
    θ_run (Cert.FnormRefIdeal.defs (F := Ideal)) (onTc (τ := Cert.FnormRefIdeal.τ) (Cert.FnormRefIdeal.main (F := Ideal))) ⟨m, fun _ => 0, g⟩ (fun r => (∀ c : Dev Cert.FnormRefIdeal.nD,
      r.2.mem ((c.tc : Thread Cert.FnormRefIdeal.nD Cert.FnormRefIdeal.τ).loc Cert.FnormRefIdeal.main_arg0) = m ((c.tc : Thread Cert.FnormRefIdeal.nD Cert.FnormRefIdeal.τ).loc Cert.FnormRefIdeal.main_arg0)
      ∧ r.2.mem ((c.tc : Thread Cert.FnormRefIdeal.nD Cert.FnormRefIdeal.τ).loc Cert.FnormRefIdeal.main_arg1) = m ((c.tc : Thread Cert.FnormRefIdeal.nD Cert.FnormRefIdeal.τ).loc Cert.FnormRefIdeal.main_arg1)
      ∧ r.2.mem ((c.tc : Thread Cert.FnormRefIdeal.nD Cert.FnormRefIdeal.τ).loc Cert.FnormRefIdeal.main_arg2) = m ((c.tc : Thread Cert.FnormRefIdeal.nD Cert.FnormRefIdeal.τ).loc Cert.FnormRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0))
      ∧ r.2.sem = fun _ => 0)

def quiescent_RopeQRefIdeal [hRopeQRefIdeal : Cert.RopeQRefIdeal.Facts] : Prop :=
  ∀ (m : (ℓ : Loc Cert.RopeQRefIdeal.nD Cert.RopeQRefIdeal.τ Cert.RopeQRefIdeal.sig) → Buf (Elt Ideal) ℓ) (g : Dev Cert.RopeQRefIdeal.nD → PrngReg), Pre_RopeQRefIdeal m →
    θ_run (Cert.RopeQRefIdeal.defs (F := Ideal)) (onTc (τ := Cert.RopeQRefIdeal.τ) (Cert.RopeQRefIdeal.main (F := Ideal))) ⟨m, fun _ => 0, g⟩ (fun r => (∀ c : Dev Cert.RopeQRefIdeal.nD,
      r.2.mem ((c.tc : Thread Cert.RopeQRefIdeal.nD Cert.RopeQRefIdeal.τ).loc Cert.RopeQRefIdeal.main_arg0) = m ((c.tc : Thread Cert.RopeQRefIdeal.nD Cert.RopeQRefIdeal.τ).loc Cert.RopeQRefIdeal.main_arg0))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0))
      ∧ r.2.sem = fun _ => 0)

def quiescent_RopeKRefIdeal [hRopeKRefIdeal : Cert.RopeKRefIdeal.Facts] : Prop :=
  ∀ (m : (ℓ : Loc Cert.RopeKRefIdeal.nD Cert.RopeKRefIdeal.τ Cert.RopeKRefIdeal.sig) → Buf (Elt Ideal) ℓ) (g : Dev Cert.RopeKRefIdeal.nD → PrngReg), Pre_RopeKRefIdeal m →
    θ_run (Cert.RopeKRefIdeal.defs (F := Ideal)) (onTc (τ := Cert.RopeKRefIdeal.τ) (Cert.RopeKRefIdeal.main (F := Ideal))) ⟨m, fun _ => 0, g⟩ (fun r => (∀ c : Dev Cert.RopeKRefIdeal.nD,
      r.2.mem ((c.tc : Thread Cert.RopeKRefIdeal.nD Cert.RopeKRefIdeal.τ).loc Cert.RopeKRefIdeal.main_arg0) = m ((c.tc : Thread Cert.RopeKRefIdeal.nD Cert.RopeKRefIdeal.τ).loc Cert.RopeKRefIdeal.main_arg0))
      ∧ r.2.sem = fun _ => 0)

def quiescent_Outn [hOutn : Cert.Outn.Facts] : Prop :=
  ∀ (m : (ℓ : Loc Cert.Outn.nD Cert.Outn.τ Cert.Outn.sig) → Buf (Elt Bits) ℓ) (g : Dev Cert.Outn.nD → PrngReg), Pre_Outn m →
    θ_run (Cert.Outn.defs (F := Bits)) (onTc (τ := Cert.Outn.τ) (Cert.Outn.main (F := Bits))) ⟨m, fun _ => 0, g⟩ (fun r => (∀ c : Dev Cert.Outn.nD,
      r.2.mem ((c.tc : Thread Cert.Outn.nD Cert.Outn.τ).loc Cert.Outn.main_arg0) = m ((c.tc : Thread Cert.Outn.nD Cert.Outn.τ).loc Cert.Outn.main_arg0)
      ∧ r.2.mem ((c.tc : Thread Cert.Outn.nD Cert.Outn.τ).loc Cert.Outn.main_arg1) = m ((c.tc : Thread Cert.Outn.nD Cert.Outn.τ).loc Cert.Outn.main_arg1)
      ∧ r.2.mem ((c.tc : Thread Cert.Outn.nD Cert.Outn.τ).loc Cert.Outn.main_arg2) = m ((c.tc : Thread Cert.Outn.nD Cert.Outn.τ).loc Cert.Outn.main_arg2)
      ∧ r.2.mem ((c.tc : Thread Cert.Outn.nD Cert.Outn.τ).loc Cert.Outn.main_arg3) = m ((c.tc : Thread Cert.Outn.nD Cert.Outn.τ).loc Cert.Outn.main_arg3)
      ∧ r.2.mem ((c.tc : Thread Cert.Outn.nD Cert.Outn.τ).loc Cert.Outn.main_arg4) = m ((c.tc : Thread Cert.Outn.nD Cert.Outn.τ).loc Cert.Outn.main_arg4))
      ∧ r.2.sem = fun _ => 0)

def quiescent_OutnIdeal [hOutnIdeal : Cert.OutnIdeal.Facts] : Prop :=
  ∀ (m : (ℓ : Loc Cert.OutnIdeal.nD Cert.OutnIdeal.τ Cert.OutnIdeal.sig) → Buf (Elt Ideal) ℓ) (g : Dev Cert.OutnIdeal.nD → PrngReg), Pre_OutnIdeal m →
    θ_run (Cert.OutnIdeal.defs (F := Ideal)) (onTc (τ := Cert.OutnIdeal.τ) (Cert.OutnIdeal.main (F := Ideal))) ⟨m, fun _ => 0, g⟩ (fun r => (∀ c : Dev Cert.OutnIdeal.nD,
      r.2.mem ((c.tc : Thread Cert.OutnIdeal.nD Cert.OutnIdeal.τ).loc Cert.OutnIdeal.main_arg0) = m ((c.tc : Thread Cert.OutnIdeal.nD Cert.OutnIdeal.τ).loc Cert.OutnIdeal.main_arg0)
      ∧ r.2.mem ((c.tc : Thread Cert.OutnIdeal.nD Cert.OutnIdeal.τ).loc Cert.OutnIdeal.main_arg1) = m ((c.tc : Thread Cert.OutnIdeal.nD Cert.OutnIdeal.τ).loc Cert.OutnIdeal.main_arg1)
      ∧ r.2.mem ((c.tc : Thread Cert.OutnIdeal.nD Cert.OutnIdeal.τ).loc Cert.OutnIdeal.main_arg2) = m ((c.tc : Thread Cert.OutnIdeal.nD Cert.OutnIdeal.τ).loc Cert.OutnIdeal.main_arg2)
      ∧ r.2.mem ((c.tc : Thread Cert.OutnIdeal.nD Cert.OutnIdeal.τ).loc Cert.OutnIdeal.main_arg3) = m ((c.tc : Thread Cert.OutnIdeal.nD Cert.OutnIdeal.τ).loc Cert.OutnIdeal.main_arg3)
      ∧ r.2.mem ((c.tc : Thread Cert.OutnIdeal.nD Cert.OutnIdeal.τ).loc Cert.OutnIdeal.main_arg4) = m ((c.tc : Thread Cert.OutnIdeal.nD Cert.OutnIdeal.τ).loc Cert.OutnIdeal.main_arg4))
      ∧ r.2.sem = fun _ => 0)

def quiescent_OutnIdeal_pre_outn_finite [hOutnIdeal : Cert.OutnIdeal.Facts] [hPre_outn_finite : Cert.Pre_outn_finite.Facts] : Prop :=
  ∀ (m : (ℓ : Loc Cert.OutnIdeal.nD Cert.OutnIdeal.τ Cert.OutnIdeal.sig) → Buf (Elt Ideal) ℓ) (g : Dev Cert.OutnIdeal.nD → PrngReg), Pre_OutnIdeal_outn_finite m →
    θ_run (Cert.OutnIdeal.defs (F := Ideal)) (onTc (τ := Cert.OutnIdeal.τ) (Cert.OutnIdeal.main (F := Ideal))) ⟨m, fun _ => 0, g⟩ (fun r => (∀ c : Dev Cert.OutnIdeal.nD,
      r.2.mem ((c.tc : Thread Cert.OutnIdeal.nD Cert.OutnIdeal.τ).loc Cert.OutnIdeal.main_arg0) = m ((c.tc : Thread Cert.OutnIdeal.nD Cert.OutnIdeal.τ).loc Cert.OutnIdeal.main_arg0)
      ∧ r.2.mem ((c.tc : Thread Cert.OutnIdeal.nD Cert.OutnIdeal.τ).loc Cert.OutnIdeal.main_arg1) = m ((c.tc : Thread Cert.OutnIdeal.nD Cert.OutnIdeal.τ).loc Cert.OutnIdeal.main_arg1)
      ∧ r.2.mem ((c.tc : Thread Cert.OutnIdeal.nD Cert.OutnIdeal.τ).loc Cert.OutnIdeal.main_arg2) = m ((c.tc : Thread Cert.OutnIdeal.nD Cert.OutnIdeal.τ).loc Cert.OutnIdeal.main_arg2)
      ∧ r.2.mem ((c.tc : Thread Cert.OutnIdeal.nD Cert.OutnIdeal.τ).loc Cert.OutnIdeal.main_arg3) = m ((c.tc : Thread Cert.OutnIdeal.nD Cert.OutnIdeal.τ).loc Cert.OutnIdeal.main_arg3)
      ∧ r.2.mem ((c.tc : Thread Cert.OutnIdeal.nD Cert.OutnIdeal.τ).loc Cert.OutnIdeal.main_arg4) = m ((c.tc : Thread Cert.OutnIdeal.nD Cert.OutnIdeal.τ).loc Cert.OutnIdeal.main_arg4))
      ∧ r.2.sem = fun _ => 0)

def quiescent_OutnRefIdeal [hOutnRefIdeal : Cert.OutnRefIdeal.Facts] : Prop :=
  ∀ (m : (ℓ : Loc Cert.OutnRefIdeal.nD Cert.OutnRefIdeal.τ Cert.OutnRefIdeal.sig) → Buf (Elt Ideal) ℓ) (g : Dev Cert.OutnRefIdeal.nD → PrngReg), Pre_OutnRefIdeal m →
    θ_run (Cert.OutnRefIdeal.defs (F := Ideal)) (onTc (τ := Cert.OutnRefIdeal.τ) (Cert.OutnRefIdeal.main (F := Ideal))) ⟨m, fun _ => 0, g⟩ (fun r => (∀ c : Dev Cert.OutnRefIdeal.nD,
      r.2.mem ((c.tc : Thread Cert.OutnRefIdeal.nD Cert.OutnRefIdeal.τ).loc Cert.OutnRefIdeal.main_arg0) = m ((c.tc : Thread Cert.OutnRefIdeal.nD Cert.OutnRefIdeal.τ).loc Cert.OutnRefIdeal.main_arg0)
      ∧ r.2.mem ((c.tc : Thread Cert.OutnRefIdeal.nD Cert.OutnRefIdeal.τ).loc Cert.OutnRefIdeal.main_arg1) = m ((c.tc : Thread Cert.OutnRefIdeal.nD Cert.OutnRefIdeal.τ).loc Cert.OutnRefIdeal.main_arg1)
      ∧ r.2.mem ((c.tc : Thread Cert.OutnRefIdeal.nD Cert.OutnRefIdeal.τ).loc Cert.OutnRefIdeal.main_arg2) = m ((c.tc : Thread Cert.OutnRefIdeal.nD Cert.OutnRefIdeal.τ).loc Cert.OutnRefIdeal.main_arg2)
      ∧ r.2.mem ((c.tc : Thread Cert.OutnRefIdeal.nD Cert.OutnRefIdeal.τ).loc Cert.OutnRefIdeal.main_arg3) = m ((c.tc : Thread Cert.OutnRefIdeal.nD Cert.OutnRefIdeal.τ).loc Cert.OutnRefIdeal.main_arg3)
      ∧ r.2.mem ((c.tc : Thread Cert.OutnRefIdeal.nD Cert.OutnRefIdeal.τ).loc Cert.OutnRefIdeal.main_arg4) = m ((c.tc : Thread Cert.OutnRefIdeal.nD Cert.OutnRefIdeal.τ).loc Cert.OutnRefIdeal.main_arg4))
      ∧ r.2.sem = fun _ => 0)

def quiescent_OutnRefIdeal_pre_outn_finite [hOutnRefIdeal : Cert.OutnRefIdeal.Facts] [hPre_outn_finite : Cert.Pre_outn_finite.Facts] : Prop :=
  ∀ (m : (ℓ : Loc Cert.OutnRefIdeal.nD Cert.OutnRefIdeal.τ Cert.OutnRefIdeal.sig) → Buf (Elt Ideal) ℓ) (g : Dev Cert.OutnRefIdeal.nD → PrngReg), Pre_OutnRefIdeal_outn_finite m →
    θ_run (Cert.OutnRefIdeal.defs (F := Ideal)) (onTc (τ := Cert.OutnRefIdeal.τ) (Cert.OutnRefIdeal.main (F := Ideal))) ⟨m, fun _ => 0, g⟩ (fun r => (∀ c : Dev Cert.OutnRefIdeal.nD,
      r.2.mem ((c.tc : Thread Cert.OutnRefIdeal.nD Cert.OutnRefIdeal.τ).loc Cert.OutnRefIdeal.main_arg0) = m ((c.tc : Thread Cert.OutnRefIdeal.nD Cert.OutnRefIdeal.τ).loc Cert.OutnRefIdeal.main_arg0)
      ∧ r.2.mem ((c.tc : Thread Cert.OutnRefIdeal.nD Cert.OutnRefIdeal.τ).loc Cert.OutnRefIdeal.main_arg1) = m ((c.tc : Thread Cert.OutnRefIdeal.nD Cert.OutnRefIdeal.τ).loc Cert.OutnRefIdeal.main_arg1)
      ∧ r.2.mem ((c.tc : Thread Cert.OutnRefIdeal.nD Cert.OutnRefIdeal.τ).loc Cert.OutnRefIdeal.main_arg2) = m ((c.tc : Thread Cert.OutnRefIdeal.nD Cert.OutnRefIdeal.τ).loc Cert.OutnRefIdeal.main_arg2)
      ∧ r.2.mem ((c.tc : Thread Cert.OutnRefIdeal.nD Cert.OutnRefIdeal.τ).loc Cert.OutnRefIdeal.main_arg3) = m ((c.tc : Thread Cert.OutnRefIdeal.nD Cert.OutnRefIdeal.τ).loc Cert.OutnRefIdeal.main_arg3)
      ∧ r.2.mem ((c.tc : Thread Cert.OutnRefIdeal.nD Cert.OutnRefIdeal.τ).loc Cert.OutnRefIdeal.main_arg4) = m ((c.tc : Thread Cert.OutnRefIdeal.nD Cert.OutnRefIdeal.τ).loc Cert.OutnRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_OutnFwd [hOutnFwd : Cert.OutnFwd.Facts] : Prop :=
  ∀ (m : (ℓ : Loc Cert.OutnFwd.nD Cert.OutnFwd.τ Cert.OutnFwd.sig) → Buf (Elt Bits) ℓ) (g : Dev Cert.OutnFwd.nD → PrngReg), Pre_OutnFwd m →
    θ_run (Cert.OutnFwd.defs (F := Bits)) (onTc (τ := Cert.OutnFwd.τ) (Cert.OutnFwd.main (F := Bits))) ⟨m, fun _ => 0, g⟩ (fun r => (∀ c : Dev Cert.OutnFwd.nD,
      r.2.mem ((c.tc : Thread Cert.OutnFwd.nD Cert.OutnFwd.τ).loc Cert.OutnFwd.main_arg0) = m ((c.tc : Thread Cert.OutnFwd.nD Cert.OutnFwd.τ).loc Cert.OutnFwd.main_arg0)
      ∧ r.2.mem ((c.tc : Thread Cert.OutnFwd.nD Cert.OutnFwd.τ).loc Cert.OutnFwd.main_arg1) = m ((c.tc : Thread Cert.OutnFwd.nD Cert.OutnFwd.τ).loc Cert.OutnFwd.main_arg1)
      ∧ r.2.mem ((c.tc : Thread Cert.OutnFwd.nD Cert.OutnFwd.τ).loc Cert.OutnFwd.main_arg2) = m ((c.tc : Thread Cert.OutnFwd.nD Cert.OutnFwd.τ).loc Cert.OutnFwd.main_arg2)
      ∧ r.2.mem ((c.tc : Thread Cert.OutnFwd.nD Cert.OutnFwd.τ).loc Cert.OutnFwd.main_arg3) = m ((c.tc : Thread Cert.OutnFwd.nD Cert.OutnFwd.τ).loc Cert.OutnFwd.main_arg3))
      ∧ r.2.sem = fun _ => 0)

def quiescent_OutnFwdIdeal [hOutnFwdIdeal : Cert.OutnFwdIdeal.Facts] : Prop :=
  ∀ (m : (ℓ : Loc Cert.OutnFwdIdeal.nD Cert.OutnFwdIdeal.τ Cert.OutnFwdIdeal.sig) → Buf (Elt Ideal) ℓ) (g : Dev Cert.OutnFwdIdeal.nD → PrngReg), Pre_OutnFwdIdeal m →
    θ_run (Cert.OutnFwdIdeal.defs (F := Ideal)) (onTc (τ := Cert.OutnFwdIdeal.τ) (Cert.OutnFwdIdeal.main (F := Ideal))) ⟨m, fun _ => 0, g⟩ (fun r => (∀ c : Dev Cert.OutnFwdIdeal.nD,
      r.2.mem ((c.tc : Thread Cert.OutnFwdIdeal.nD Cert.OutnFwdIdeal.τ).loc Cert.OutnFwdIdeal.main_arg0) = m ((c.tc : Thread Cert.OutnFwdIdeal.nD Cert.OutnFwdIdeal.τ).loc Cert.OutnFwdIdeal.main_arg0)
      ∧ r.2.mem ((c.tc : Thread Cert.OutnFwdIdeal.nD Cert.OutnFwdIdeal.τ).loc Cert.OutnFwdIdeal.main_arg1) = m ((c.tc : Thread Cert.OutnFwdIdeal.nD Cert.OutnFwdIdeal.τ).loc Cert.OutnFwdIdeal.main_arg1)
      ∧ r.2.mem ((c.tc : Thread Cert.OutnFwdIdeal.nD Cert.OutnFwdIdeal.τ).loc Cert.OutnFwdIdeal.main_arg2) = m ((c.tc : Thread Cert.OutnFwdIdeal.nD Cert.OutnFwdIdeal.τ).loc Cert.OutnFwdIdeal.main_arg2)
      ∧ r.2.mem ((c.tc : Thread Cert.OutnFwdIdeal.nD Cert.OutnFwdIdeal.τ).loc Cert.OutnFwdIdeal.main_arg3) = m ((c.tc : Thread Cert.OutnFwdIdeal.nD Cert.OutnFwdIdeal.τ).loc Cert.OutnFwdIdeal.main_arg3))
      ∧ r.2.sem = fun _ => 0)

def quiescent_OutnFwdRefIdeal [hOutnFwdRefIdeal : Cert.OutnFwdRefIdeal.Facts] : Prop :=
  ∀ (m : (ℓ : Loc Cert.OutnFwdRefIdeal.nD Cert.OutnFwdRefIdeal.τ Cert.OutnFwdRefIdeal.sig) → Buf (Elt Ideal) ℓ) (g : Dev Cert.OutnFwdRefIdeal.nD → PrngReg), Pre_OutnFwdRefIdeal m →
    θ_run (Cert.OutnFwdRefIdeal.defs (F := Ideal)) (onTc (τ := Cert.OutnFwdRefIdeal.τ) (Cert.OutnFwdRefIdeal.main (F := Ideal))) ⟨m, fun _ => 0, g⟩ (fun r => (∀ c : Dev Cert.OutnFwdRefIdeal.nD,
      r.2.mem ((c.tc : Thread Cert.OutnFwdRefIdeal.nD Cert.OutnFwdRefIdeal.τ).loc Cert.OutnFwdRefIdeal.main_arg0) = m ((c.tc : Thread Cert.OutnFwdRefIdeal.nD Cert.OutnFwdRefIdeal.τ).loc Cert.OutnFwdRefIdeal.main_arg0)
      ∧ r.2.mem ((c.tc : Thread Cert.OutnFwdRefIdeal.nD Cert.OutnFwdRefIdeal.τ).loc Cert.OutnFwdRefIdeal.main_arg1) = m ((c.tc : Thread Cert.OutnFwdRefIdeal.nD Cert.OutnFwdRefIdeal.τ).loc Cert.OutnFwdRefIdeal.main_arg1)
      ∧ r.2.mem ((c.tc : Thread Cert.OutnFwdRefIdeal.nD Cert.OutnFwdRefIdeal.τ).loc Cert.OutnFwdRefIdeal.main_arg2) = m ((c.tc : Thread Cert.OutnFwdRefIdeal.nD Cert.OutnFwdRefIdeal.τ).loc Cert.OutnFwdRefIdeal.main_arg2)
      ∧ r.2.mem ((c.tc : Thread Cert.OutnFwdRefIdeal.nD Cert.OutnFwdRefIdeal.τ).loc Cert.OutnFwdRefIdeal.main_arg3) = m ((c.tc : Thread Cert.OutnFwdRefIdeal.nD Cert.OutnFwdRefIdeal.τ).loc Cert.OutnFwdRefIdeal.main_arg3))
      ∧ r.2.sem = fun _ => 0)

def quiescent_RopeQFwd [hRopeQFwd : Cert.RopeQFwd.Facts] : Prop :=
  ∀ (m : (ℓ : Loc Cert.RopeQFwd.nD Cert.RopeQFwd.τ Cert.RopeQFwd.sig) → Buf (Elt Bits) ℓ) (g : Dev Cert.RopeQFwd.nD → PrngReg), Pre_RopeQFwd m →
    θ_run (Cert.RopeQFwd.defs (F := Bits)) (onTc (τ := Cert.RopeQFwd.τ) (Cert.RopeQFwd.main (F := Bits))) ⟨m, fun _ => 0, g⟩ (fun r => (∀ c : Dev Cert.RopeQFwd.nD,
      r.2.mem ((c.tc : Thread Cert.RopeQFwd.nD Cert.RopeQFwd.τ).loc Cert.RopeQFwd.main_arg0) = m ((c.tc : Thread Cert.RopeQFwd.nD Cert.RopeQFwd.τ).loc Cert.RopeQFwd.main_arg0))
      ∧ r.2.sem = fun _ => 0)

def quiescent_RopeQFwdIdeal [hRopeQFwdIdeal : Cert.RopeQFwdIdeal.Facts] : Prop :=
  ∀ (m : (ℓ : Loc Cert.RopeQFwdIdeal.nD Cert.RopeQFwdIdeal.τ Cert.RopeQFwdIdeal.sig) → Buf (Elt Ideal) ℓ) (g : Dev Cert.RopeQFwdIdeal.nD → PrngReg), Pre_RopeQFwdIdeal m →
    θ_run (Cert.RopeQFwdIdeal.defs (F := Ideal)) (onTc (τ := Cert.RopeQFwdIdeal.τ) (Cert.RopeQFwdIdeal.main (F := Ideal))) ⟨m, fun _ => 0, g⟩ (fun r => (∀ c : Dev Cert.RopeQFwdIdeal.nD,
      r.2.mem ((c.tc : Thread Cert.RopeQFwdIdeal.nD Cert.RopeQFwdIdeal.τ).loc Cert.RopeQFwdIdeal.main_arg0) = m ((c.tc : Thread Cert.RopeQFwdIdeal.nD Cert.RopeQFwdIdeal.τ).loc Cert.RopeQFwdIdeal.main_arg0))
      ∧ r.2.sem = fun _ => 0)

def quiescent_RopeQFwdRefIdeal [hRopeQFwdRefIdeal : Cert.RopeQFwdRefIdeal.Facts] : Prop :=
  ∀ (m : (ℓ : Loc Cert.RopeQFwdRefIdeal.nD Cert.RopeQFwdRefIdeal.τ Cert.RopeQFwdRefIdeal.sig) → Buf (Elt Ideal) ℓ) (g : Dev Cert.RopeQFwdRefIdeal.nD → PrngReg), Pre_RopeQFwdRefIdeal m →
    θ_run (Cert.RopeQFwdRefIdeal.defs (F := Ideal)) (onTc (τ := Cert.RopeQFwdRefIdeal.τ) (Cert.RopeQFwdRefIdeal.main (F := Ideal))) ⟨m, fun _ => 0, g⟩ (fun r => (∀ c : Dev Cert.RopeQFwdRefIdeal.nD,
      r.2.mem ((c.tc : Thread Cert.RopeQFwdRefIdeal.nD Cert.RopeQFwdRefIdeal.τ).loc Cert.RopeQFwdRefIdeal.main_arg0) = m ((c.tc : Thread Cert.RopeQFwdRefIdeal.nD Cert.RopeQFwdRefIdeal.τ).loc Cert.RopeQFwdRefIdeal.main_arg0))
      ∧ r.2.sem = fun _ => 0)

def quiescent_RopeKFwd [hRopeKFwd : Cert.RopeKFwd.Facts] : Prop :=
  ∀ (m : (ℓ : Loc Cert.RopeKFwd.nD Cert.RopeKFwd.τ Cert.RopeKFwd.sig) → Buf (Elt Bits) ℓ) (g : Dev Cert.RopeKFwd.nD → PrngReg), Pre_RopeKFwd m →
    θ_run (Cert.RopeKFwd.defs (F := Bits)) (onTc (τ := Cert.RopeKFwd.τ) (Cert.RopeKFwd.main (F := Bits))) ⟨m, fun _ => 0, g⟩ (fun r => (∀ c : Dev Cert.RopeKFwd.nD,
      r.2.mem ((c.tc : Thread Cert.RopeKFwd.nD Cert.RopeKFwd.τ).loc Cert.RopeKFwd.main_arg0) = m ((c.tc : Thread Cert.RopeKFwd.nD Cert.RopeKFwd.τ).loc Cert.RopeKFwd.main_arg0))
      ∧ r.2.sem = fun _ => 0)

def quiescent_RopeKFwdIdeal [hRopeKFwdIdeal : Cert.RopeKFwdIdeal.Facts] : Prop :=
  ∀ (m : (ℓ : Loc Cert.RopeKFwdIdeal.nD Cert.RopeKFwdIdeal.τ Cert.RopeKFwdIdeal.sig) → Buf (Elt Ideal) ℓ) (g : Dev Cert.RopeKFwdIdeal.nD → PrngReg), Pre_RopeKFwdIdeal m →
    θ_run (Cert.RopeKFwdIdeal.defs (F := Ideal)) (onTc (τ := Cert.RopeKFwdIdeal.τ) (Cert.RopeKFwdIdeal.main (F := Ideal))) ⟨m, fun _ => 0, g⟩ (fun r => (∀ c : Dev Cert.RopeKFwdIdeal.nD,
      r.2.mem ((c.tc : Thread Cert.RopeKFwdIdeal.nD Cert.RopeKFwdIdeal.τ).loc Cert.RopeKFwdIdeal.main_arg0) = m ((c.tc : Thread Cert.RopeKFwdIdeal.nD Cert.RopeKFwdIdeal.τ).loc Cert.RopeKFwdIdeal.main_arg0))
      ∧ r.2.sem = fun _ => 0)

def quiescent_RopeKFwdRefIdeal [hRopeKFwdRefIdeal : Cert.RopeKFwdRefIdeal.Facts] : Prop :=
  ∀ (m : (ℓ : Loc Cert.RopeKFwdRefIdeal.nD Cert.RopeKFwdRefIdeal.τ Cert.RopeKFwdRefIdeal.sig) → Buf (Elt Ideal) ℓ) (g : Dev Cert.RopeKFwdRefIdeal.nD → PrngReg), Pre_RopeKFwdRefIdeal m →
    θ_run (Cert.RopeKFwdRefIdeal.defs (F := Ideal)) (onTc (τ := Cert.RopeKFwdRefIdeal.τ) (Cert.RopeKFwdRefIdeal.main (F := Ideal))) ⟨m, fun _ => 0, g⟩ (fun r => (∀ c : Dev Cert.RopeKFwdRefIdeal.nD,
      r.2.mem ((c.tc : Thread Cert.RopeKFwdRefIdeal.nD Cert.RopeKFwdRefIdeal.τ).loc Cert.RopeKFwdRefIdeal.main_arg0) = m ((c.tc : Thread Cert.RopeKFwdRefIdeal.nD Cert.RopeKFwdRefIdeal.τ).loc Cert.RopeKFwdRefIdeal.main_arg0))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamLayer [hAdamLayer : Cert.AdamLayer.Facts] : Prop :=
  ∀ (m : (ℓ : Loc Cert.AdamLayer.nD Cert.AdamLayer.τ Cert.AdamLayer.sig) → Buf (Elt Bits) ℓ) (g : Dev Cert.AdamLayer.nD → PrngReg), Pre_AdamLayer m →
    θ_run (Cert.AdamLayer.defs (F := Bits)) (onTc (τ := Cert.AdamLayer.τ) (Cert.AdamLayer.main (F := Bits))) ⟨m, fun _ => 0, g⟩ (fun r => (∀ c : Dev Cert.AdamLayer.nD,
      r.2.mem ((c.tc : Thread Cert.AdamLayer.nD Cert.AdamLayer.τ).loc Cert.AdamLayer.main_arg0) = m ((c.tc : Thread Cert.AdamLayer.nD Cert.AdamLayer.τ).loc Cert.AdamLayer.main_arg0)
      ∧ r.2.mem ((c.tc : Thread Cert.AdamLayer.nD Cert.AdamLayer.τ).loc Cert.AdamLayer.main_arg1) = m ((c.tc : Thread Cert.AdamLayer.nD Cert.AdamLayer.τ).loc Cert.AdamLayer.main_arg1)
      ∧ r.2.mem ((c.tc : Thread Cert.AdamLayer.nD Cert.AdamLayer.τ).loc Cert.AdamLayer.main_arg2) = m ((c.tc : Thread Cert.AdamLayer.nD Cert.AdamLayer.τ).loc Cert.AdamLayer.main_arg2)
      ∧ r.2.mem ((c.tc : Thread Cert.AdamLayer.nD Cert.AdamLayer.τ).loc Cert.AdamLayer.main_arg3) = m ((c.tc : Thread Cert.AdamLayer.nD Cert.AdamLayer.τ).loc Cert.AdamLayer.main_arg3)
      ∧ r.2.mem ((c.tc : Thread Cert.AdamLayer.nD Cert.AdamLayer.τ).loc Cert.AdamLayer.main_arg4) = m ((c.tc : Thread Cert.AdamLayer.nD Cert.AdamLayer.τ).loc Cert.AdamLayer.main_arg4))
      ∧ r.2.sem = fun _ => 0)

def quiescent_AdamLayerIdeal [hAdamLayerIdeal : Cert.AdamLayerIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg), Pre_AdamLayerIdeal m →
    θ_run (Cert.AdamLayerIdeal.defs (F := Ideal)) (onTc (τ := Cert.AdamLayerIdeal.τ) (Cert.AdamLayerIdeal.main (F := Ideal))) ⟨m, fun _ => 0, g⟩ (fun r => (∀ c : Dev Cert.AdamLayerIdeal.nD,
      r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
      ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
      ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
      ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
      ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4))
      ∧ r.2.sem = fun _ => 0)

def quiescent_AdamLayerRefIdeal [hAdamLayerRefIdeal : Cert.AdamLayerRefIdeal.Facts] : Prop :=
  ∀ (m : (ℓ : Loc Cert.AdamLayerRefIdeal.nD Cert.AdamLayerRefIdeal.τ Cert.AdamLayerRefIdeal.sig) → Buf (Elt Ideal) ℓ) (g : Dev Cert.AdamLayerRefIdeal.nD → PrngReg), Pre_AdamLayerRefIdeal m →
    θ_run (Cert.AdamLayerRefIdeal.defs (F := Ideal)) (onTc (τ := Cert.AdamLayerRefIdeal.τ) (Cert.AdamLayerRefIdeal.main (F := Ideal))) ⟨m, fun _ => 0, g⟩ (fun r => (∀ c : Dev Cert.AdamLayerRefIdeal.nD,
      r.2.mem ((c.tc : Thread Cert.AdamLayerRefIdeal.nD Cert.AdamLayerRefIdeal.τ).loc Cert.AdamLayerRefIdeal.main_arg0) = m ((c.tc : Thread Cert.AdamLayerRefIdeal.nD Cert.AdamLayerRefIdeal.τ).loc Cert.AdamLayerRefIdeal.main_arg0)
      ∧ r.2.mem ((c.tc : Thread Cert.AdamLayerRefIdeal.nD Cert.AdamLayerRefIdeal.τ).loc Cert.AdamLayerRefIdeal.main_arg1) = m ((c.tc : Thread Cert.AdamLayerRefIdeal.nD Cert.AdamLayerRefIdeal.τ).loc Cert.AdamLayerRefIdeal.main_arg1)
      ∧ r.2.mem ((c.tc : Thread Cert.AdamLayerRefIdeal.nD Cert.AdamLayerRefIdeal.τ).loc Cert.AdamLayerRefIdeal.main_arg2) = m ((c.tc : Thread Cert.AdamLayerRefIdeal.nD Cert.AdamLayerRefIdeal.τ).loc Cert.AdamLayerRefIdeal.main_arg2)
      ∧ r.2.mem ((c.tc : Thread Cert.AdamLayerRefIdeal.nD Cert.AdamLayerRefIdeal.τ).loc Cert.AdamLayerRefIdeal.main_arg3) = m ((c.tc : Thread Cert.AdamLayerRefIdeal.nD Cert.AdamLayerRefIdeal.τ).loc Cert.AdamLayerRefIdeal.main_arg3)
      ∧ r.2.mem ((c.tc : Thread Cert.AdamLayerRefIdeal.nD Cert.AdamLayerRefIdeal.τ).loc Cert.AdamLayerRefIdeal.main_arg4) = m ((c.tc : Thread Cert.AdamLayerRefIdeal.nD Cert.AdamLayerRefIdeal.τ).loc Cert.AdamLayerRefIdeal.main_arg4))
      ∧ r.2.sem = fun _ => 0)

def quiescent_AddHalf [hAddHalf : Cert.AddHalf.Facts] : Prop :=
  ∀ (m : (ℓ : Loc Cert.AddHalf.nD Cert.AddHalf.τ Cert.AddHalf.sig) → Buf (Elt Bits) ℓ) (g : Dev Cert.AddHalf.nD → PrngReg), Pre_AddHalf m →
    θ_run (Cert.AddHalf.defs (F := Bits)) (onTc (τ := Cert.AddHalf.τ) (Cert.AddHalf.main (F := Bits))) ⟨m, fun _ => 0, g⟩ (fun r => (∀ c : Dev Cert.AddHalf.nD,
      r.2.mem ((c.tc : Thread Cert.AddHalf.nD Cert.AddHalf.τ).loc Cert.AddHalf.main_arg0) = m ((c.tc : Thread Cert.AddHalf.nD Cert.AddHalf.τ).loc Cert.AddHalf.main_arg0)
      ∧ r.2.mem ((c.tc : Thread Cert.AddHalf.nD Cert.AddHalf.τ).loc Cert.AddHalf.main_arg1) = m ((c.tc : Thread Cert.AddHalf.nD Cert.AddHalf.τ).loc Cert.AddHalf.main_arg1))
      ∧ r.2.sem = fun _ => 0)

def quiescent_AddHalfIdeal [hAddHalfIdeal : Cert.AddHalfIdeal.Facts] : Prop :=
  ∀ (m : (ℓ : Loc Cert.AddHalfIdeal.nD Cert.AddHalfIdeal.τ Cert.AddHalfIdeal.sig) → Buf (Elt Ideal) ℓ) (g : Dev Cert.AddHalfIdeal.nD → PrngReg), Pre_AddHalfIdeal m →
    θ_run (Cert.AddHalfIdeal.defs (F := Ideal)) (onTc (τ := Cert.AddHalfIdeal.τ) (Cert.AddHalfIdeal.main (F := Ideal))) ⟨m, fun _ => 0, g⟩ (fun r => (∀ c : Dev Cert.AddHalfIdeal.nD,
      r.2.mem ((c.tc : Thread Cert.AddHalfIdeal.nD Cert.AddHalfIdeal.τ).loc Cert.AddHalfIdeal.main_arg0) = m ((c.tc : Thread Cert.AddHalfIdeal.nD Cert.AddHalfIdeal.τ).loc Cert.AddHalfIdeal.main_arg0)
      ∧ r.2.mem ((c.tc : Thread Cert.AddHalfIdeal.nD Cert.AddHalfIdeal.τ).loc Cert.AddHalfIdeal.main_arg1) = m ((c.tc : Thread Cert.AddHalfIdeal.nD Cert.AddHalfIdeal.τ).loc Cert.AddHalfIdeal.main_arg1))
      ∧ r.2.sem = fun _ => 0)

def quiescent_AddHalfRefIdeal [hAddHalfRefIdeal : Cert.AddHalfRefIdeal.Facts] : Prop :=
  ∀ (m : (ℓ : Loc Cert.AddHalfRefIdeal.nD Cert.AddHalfRefIdeal.τ Cert.AddHalfRefIdeal.sig) → Buf (Elt Ideal) ℓ) (g : Dev Cert.AddHalfRefIdeal.nD → PrngReg), Pre_AddHalfRefIdeal m →
    θ_run (Cert.AddHalfRefIdeal.defs (F := Ideal)) (onTc (τ := Cert.AddHalfRefIdeal.τ) (Cert.AddHalfRefIdeal.main (F := Ideal))) ⟨m, fun _ => 0, g⟩ (fun r => (∀ c : Dev Cert.AddHalfRefIdeal.nD,
      r.2.mem ((c.tc : Thread Cert.AddHalfRefIdeal.nD Cert.AddHalfRefIdeal.τ).loc Cert.AddHalfRefIdeal.main_arg0) = m ((c.tc : Thread Cert.AddHalfRefIdeal.nD Cert.AddHalfRefIdeal.τ).loc Cert.AddHalfRefIdeal.main_arg0)
      ∧ r.2.mem ((c.tc : Thread Cert.AddHalfRefIdeal.nD Cert.AddHalfRefIdeal.τ).loc Cert.AddHalfRefIdeal.main_arg1) = m ((c.tc : Thread Cert.AddHalfRefIdeal.nD Cert.AddHalfRefIdeal.τ).loc Cert.AddHalfRefIdeal.main_arg1))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0)
      ∧ r.2.mem ((c.tc : Thread Cert.SumChips.nD Cert.SumChips.τ).loc Cert.SumChips.main_arg1) = m ((c.tc : Thread Cert.SumChips.nD Cert.SumChips.τ).loc Cert.SumChips.main_arg1))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
      ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0)
      ∧ r.2.mem ((c.tc : Thread Cert.SumChipsRefIdeal.nD Cert.SumChipsRefIdeal.τ).loc Cert.SumChipsRefIdeal.main_arg1) = m ((c.tc : Thread Cert.SumChipsRefIdeal.nD Cert.SumChipsRefIdeal.τ).loc Cert.SumChipsRefIdeal.main_arg1))
      ∧ r.2.sem = fun _ => 0)

def quiescent_CastLayer [hCastLayer : Cert.CastLayer.Facts] : Prop :=
  ∀ (m : (ℓ : Loc Cert.CastLayer.nD Cert.CastLayer.τ Cert.CastLayer.sig) → Buf (Elt Bits) ℓ) (g : Dev Cert.CastLayer.nD → PrngReg), Pre_CastLayer m →
    θ_run (Cert.CastLayer.defs (F := Bits)) (onTc (τ := Cert.CastLayer.τ) (Cert.CastLayer.main (F := Bits))) ⟨m, fun _ => 0, g⟩ (fun r => (∀ c : Dev Cert.CastLayer.nD,
      r.2.mem ((c.tc : Thread Cert.CastLayer.nD Cert.CastLayer.τ).loc Cert.CastLayer.main_arg0) = m ((c.tc : Thread Cert.CastLayer.nD Cert.CastLayer.τ).loc Cert.CastLayer.main_arg0))
      ∧ r.2.sem = fun _ => 0)

def quiescent_CastLayerIdeal [hCastLayerIdeal : Cert.CastLayerIdeal.Facts] : Prop :=
  ∀ (m : (ℓ : Loc Cert.CastLayerIdeal.nD Cert.CastLayerIdeal.τ Cert.CastLayerIdeal.sig) → Buf (Elt Ideal) ℓ) (g : Dev Cert.CastLayerIdeal.nD → PrngReg), Pre_CastLayerIdeal m →
    θ_run (Cert.CastLayerIdeal.defs (F := Ideal)) (onTc (τ := Cert.CastLayerIdeal.τ) (Cert.CastLayerIdeal.main (F := Ideal))) ⟨m, fun _ => 0, g⟩ (fun r => (∀ c : Dev Cert.CastLayerIdeal.nD,
      r.2.mem ((c.tc : Thread Cert.CastLayerIdeal.nD Cert.CastLayerIdeal.τ).loc Cert.CastLayerIdeal.main_arg0) = m ((c.tc : Thread Cert.CastLayerIdeal.nD Cert.CastLayerIdeal.τ).loc Cert.CastLayerIdeal.main_arg0))
      ∧ r.2.sem = fun _ => 0)

def quiescent_CastLayerRefIdeal [hCastLayerRefIdeal : Cert.CastLayerRefIdeal.Facts] : Prop :=
  ∀ (m : (ℓ : Loc Cert.CastLayerRefIdeal.nD Cert.CastLayerRefIdeal.τ Cert.CastLayerRefIdeal.sig) → Buf (Elt Ideal) ℓ) (g : Dev Cert.CastLayerRefIdeal.nD → PrngReg), Pre_CastLayerRefIdeal m →
    θ_run (Cert.CastLayerRefIdeal.defs (F := Ideal)) (onTc (τ := Cert.CastLayerRefIdeal.τ) (Cert.CastLayerRefIdeal.main (F := Ideal))) ⟨m, fun _ => 0, g⟩ (fun r => (∀ c : Dev Cert.CastLayerRefIdeal.nD,
      r.2.mem ((c.tc : Thread Cert.CastLayerRefIdeal.nD Cert.CastLayerRefIdeal.τ).loc Cert.CastLayerRefIdeal.main_arg0) = m ((c.tc : Thread Cert.CastLayerRefIdeal.nD Cert.CastLayerRefIdeal.τ).loc Cert.CastLayerRefIdeal.main_arg0))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v8_0)) (v1 : (c : Dev Cert.GqaIdeal.nD) → Buf (Elt Ideal) ((c.tc : Thread Cert.GqaIdeal.nD Cert.GqaIdeal.τ).loc Cert.GqaIdeal.main_v9_0)) (v2 : (c : Dev Cert.GqaIdeal.nD) → Buf (Elt Ideal) ((c.tc : Thread Cert.GqaIdeal.nD Cert.GqaIdeal.τ).loc Cert.GqaIdeal.main_v9_1)) (v3 : (c : Dev Cert.GqaIdeal.nD) → Buf (Elt Ideal) ((c.tc : Thread Cert.GqaIdeal.nD Cert.GqaIdeal.τ).loc Cert.GqaIdeal.main_v9_2)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v8_0) = v0 c
          ∧ r.2.mem ((c.tc : Thread Cert.GqaIdeal.nD Cert.GqaIdeal.τ).loc Cert.GqaIdeal.main_v9_0) = v1 c
          ∧ r.2.mem ((c.tc : Thread Cert.GqaIdeal.nD Cert.GqaIdeal.τ).loc Cert.GqaIdeal.main_v9_1) = v2 c
          ∧ r.2.mem ((c.tc : Thread Cert.GqaIdeal.nD Cert.GqaIdeal.τ).loc Cert.GqaIdeal.main_v9_2) = v3 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v62) = v0 c
          ∧ r.2.mem ((c.tc : Thread Cert.GqaRefIdeal.nD Cert.GqaRefIdeal.τ).loc Cert.GqaRefIdeal.main_v63) = v1 c
          ∧ r.2.mem ((c.tc : Thread Cert.GqaRefIdeal.nD Cert.GqaRefIdeal.τ).loc Cert.GqaRefIdeal.main_v64) = v2 c
          ∧ r.2.mem ((c.tc : Thread Cert.GqaRefIdeal.nD Cert.GqaRefIdeal.τ).loc Cert.GqaRefIdeal.main_v65) = v3 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v15_0)) (v1 : (c : Dev Cert.MlaIdeal.nD) → Buf (Elt Ideal) ((c.tc : Thread Cert.MlaIdeal.nD Cert.MlaIdeal.τ).loc Cert.MlaIdeal.main_v16_0)) (v2 : (c : Dev Cert.MlaIdeal.nD) → Buf (Elt Ideal) ((c.tc : Thread Cert.MlaIdeal.nD Cert.MlaIdeal.τ).loc Cert.MlaIdeal.main_v16_1)) (v3 : (c : Dev Cert.MlaIdeal.nD) → Buf (Elt Ideal) ((c.tc : Thread Cert.MlaIdeal.nD Cert.MlaIdeal.τ).loc Cert.MlaIdeal.main_v16_2)) (v4 : (c : Dev Cert.MlaIdeal.nD) → Buf (Elt Ideal) ((c.tc : Thread Cert.MlaIdeal.nD Cert.MlaIdeal.τ).loc Cert.MlaIdeal.main_v16_3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v15_0) = v0 c
          ∧ r.2.mem ((c.tc : Thread Cert.MlaIdeal.nD Cert.MlaIdeal.τ).loc Cert.MlaIdeal.main_v16_0) = v1 c
          ∧ r.2.mem ((c.tc : Thread Cert.MlaIdeal.nD Cert.MlaIdeal.τ).loc Cert.MlaIdeal.main_v16_1) = v2 c
          ∧ r.2.mem ((c.tc : Thread Cert.MlaIdeal.nD Cert.MlaIdeal.τ).loc Cert.MlaIdeal.main_v16_2) = v3 c
          ∧ r.2.mem ((c.tc : Thread Cert.MlaIdeal.nD Cert.MlaIdeal.τ).loc Cert.MlaIdeal.main_v16_3) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v76) = v0 c
          ∧ r.2.mem ((c.tc : Thread Cert.MlaRefIdeal.nD Cert.MlaRefIdeal.τ).loc Cert.MlaRefIdeal.main_v79) = v1 c
          ∧ r.2.mem ((c.tc : Thread Cert.MlaRefIdeal.nD Cert.MlaRefIdeal.τ).loc Cert.MlaRefIdeal.main_v80) = v2 c
          ∧ r.2.mem ((c.tc : Thread Cert.MlaRefIdeal.nD Cert.MlaRefIdeal.τ).loc Cert.MlaRefIdeal.main_v81) = v3 c
          ∧ r.2.mem ((c.tc : Thread Cert.MlaRefIdeal.nD Cert.MlaRefIdeal.τ).loc Cert.MlaRefIdeal.main_v83) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Fnorm_FnormIdeal : Prop :=
  True

def algebraic_FnormIdeal_FnormRefIdeal_pre_fnorm_finite [hFnormIdeal : Cert.FnormIdeal.Facts] [hFnormRefIdeal : Cert.FnormRefIdeal.Facts] [hPre_fnorm_finite : Cert.Pre_fnorm_finite.Facts] : Prop :=
  ∀ (m : (ℓ : Loc Cert.FnormIdeal.nD Cert.FnormIdeal.τ Cert.FnormIdeal.sig) → Buf (Elt Ideal) ℓ) (g : Dev Cert.FnormIdeal.nD → PrngReg)
    (m' : (ℓ : Loc Cert.FnormRefIdeal.nD Cert.FnormRefIdeal.τ Cert.FnormRefIdeal.sig) → Buf (Elt Ideal) ℓ) (g' : Dev Cert.FnormRefIdeal.nD → PrngReg), Pre_FnormIdeal_fnorm_finite m →
    (∀ c : Dev Cert.FnormIdeal.nD,
      m' ((c.tc : Thread Cert.FnormRefIdeal.nD Cert.FnormRefIdeal.τ).loc Cert.FnormRefIdeal.main_arg0) = m ((c.tc : Thread Cert.FnormIdeal.nD Cert.FnormIdeal.τ).loc Cert.FnormIdeal.main_arg0)
      ∧ m' ((c.tc : Thread Cert.FnormRefIdeal.nD Cert.FnormRefIdeal.τ).loc Cert.FnormRefIdeal.main_arg1) = m ((c.tc : Thread Cert.FnormIdeal.nD Cert.FnormIdeal.τ).loc Cert.FnormIdeal.main_arg1)
      ∧ m' ((c.tc : Thread Cert.FnormRefIdeal.nD Cert.FnormRefIdeal.τ).loc Cert.FnormRefIdeal.main_arg2) = m ((c.tc : Thread Cert.FnormIdeal.nD Cert.FnormIdeal.τ).loc Cert.FnormIdeal.main_arg2)) →
    ∃ (v0 : (c : Dev Cert.FnormIdeal.nD) → Buf (Elt Ideal) ((c.tc : Thread Cert.FnormIdeal.nD Cert.FnormIdeal.τ).loc Cert.FnormIdeal.main_v1_0)) (v1 : (c : Dev Cert.FnormIdeal.nD) → Buf (Elt Ideal) ((c.tc : Thread Cert.FnormIdeal.nD Cert.FnormIdeal.τ).loc Cert.FnormIdeal.main_v1_1)) (v2 : (c : Dev Cert.FnormIdeal.nD) → Buf (Elt Ideal) ((c.tc : Thread Cert.FnormIdeal.nD Cert.FnormIdeal.τ).loc Cert.FnormIdeal.main_v1_2)),
      θ_run (Cert.FnormIdeal.defs (F := Ideal)) (onTc (τ := Cert.FnormIdeal.τ) (Cert.FnormIdeal.main (F := Ideal))) ⟨m, fun _ => 0, g⟩ (fun r => ∀ c : Dev Cert.FnormIdeal.nD,
          r.2.mem ((c.tc : Thread Cert.FnormIdeal.nD Cert.FnormIdeal.τ).loc Cert.FnormIdeal.main_v1_0) = v0 c
          ∧ r.2.mem ((c.tc : Thread Cert.FnormIdeal.nD Cert.FnormIdeal.τ).loc Cert.FnormIdeal.main_v1_1) = v1 c
          ∧ r.2.mem ((c.tc : Thread Cert.FnormIdeal.nD Cert.FnormIdeal.τ).loc Cert.FnormIdeal.main_v1_2) = v2 c
          ∧ r.2.mem ((c.tc : Thread Cert.FnormIdeal.nD Cert.FnormIdeal.τ).loc Cert.FnormIdeal.main_arg0) = m ((c.tc : Thread Cert.FnormIdeal.nD Cert.FnormIdeal.τ).loc Cert.FnormIdeal.main_arg0)
          ∧ r.2.mem ((c.tc : Thread Cert.FnormIdeal.nD Cert.FnormIdeal.τ).loc Cert.FnormIdeal.main_arg1) = m ((c.tc : Thread Cert.FnormIdeal.nD Cert.FnormIdeal.τ).loc Cert.FnormIdeal.main_arg1)
          ∧ r.2.mem ((c.tc : Thread Cert.FnormIdeal.nD Cert.FnormIdeal.τ).loc Cert.FnormIdeal.main_arg2) = m ((c.tc : Thread Cert.FnormIdeal.nD Cert.FnormIdeal.τ).loc Cert.FnormIdeal.main_arg2))
      ∧ θ_run (Cert.FnormRefIdeal.defs (F := Ideal)) (onTc (τ := Cert.FnormRefIdeal.τ) (Cert.FnormRefIdeal.main (F := Ideal))) ⟨m', fun _ => 0, g'⟩ (fun r => ∀ c : Dev Cert.FnormRefIdeal.nD,
          r.2.mem ((c.tc : Thread Cert.FnormRefIdeal.nD Cert.FnormRefIdeal.τ).loc Cert.FnormRefIdeal.main_v35) = v0 c
          ∧ r.2.mem ((c.tc : Thread Cert.FnormRefIdeal.nD Cert.FnormRefIdeal.τ).loc Cert.FnormRefIdeal.main_v36) = v1 c
          ∧ r.2.mem ((c.tc : Thread Cert.FnormRefIdeal.nD Cert.FnormRefIdeal.τ).loc Cert.FnormRefIdeal.main_v37) = v2 c
          ∧ r.2.mem ((c.tc : Thread Cert.FnormRefIdeal.nD Cert.FnormRefIdeal.τ).loc Cert.FnormRefIdeal.main_arg0) = m' ((c.tc : Thread Cert.FnormRefIdeal.nD Cert.FnormRefIdeal.τ).loc Cert.FnormRefIdeal.main_arg0)
          ∧ r.2.mem ((c.tc : Thread Cert.FnormRefIdeal.nD Cert.FnormRefIdeal.τ).loc Cert.FnormRefIdeal.main_arg1) = m' ((c.tc : Thread Cert.FnormRefIdeal.nD Cert.FnormRefIdeal.τ).loc Cert.FnormRefIdeal.main_arg1)
          ∧ r.2.mem ((c.tc : Thread Cert.FnormRefIdeal.nD Cert.FnormRefIdeal.τ).loc Cert.FnormRefIdeal.main_arg2) = m' ((c.tc : Thread Cert.FnormRefIdeal.nD Cert.FnormRefIdeal.τ).loc Cert.FnormRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_RopeQ_RopeQIdeal : Prop :=
  True

def algebraic_RopeQIdeal_RopeQRefIdeal [hRopeQIdeal : Cert.RopeQIdeal.Facts] [hRopeQRefIdeal : Cert.RopeQRefIdeal.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.RopeQRefIdeal.nD Cert.RopeQRefIdeal.τ Cert.RopeQRefIdeal.sig) → Buf (Elt Ideal) ℓ) (g' : Dev Cert.RopeQRefIdeal.nD → PrngReg), Pre_RopeQIdeal m →
    (∀ c : Dev Cert.RopeQIdeal.nD,
      m' ((c.tc : Thread Cert.RopeQRefIdeal.nD Cert.RopeQRefIdeal.τ).loc Cert.RopeQRefIdeal.main_arg0) = m ((c.tc : Thread Cert.RopeQIdeal.nD Cert.RopeQIdeal.τ).loc Cert.RopeQIdeal.main_arg0)) →
    ∃ (v0 : (c : Dev Cert.RopeQIdeal.nD) → Buf (Elt Ideal) ((c.tc : Thread Cert.RopeQIdeal.nD Cert.RopeQIdeal.τ).loc Cert.RopeQIdeal.main_v114)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v114) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0))
      ∧ θ_run (Cert.RopeQRefIdeal.defs (F := Ideal)) (onTc (τ := Cert.RopeQRefIdeal.τ) (Cert.RopeQRefIdeal.main (F := Ideal))) ⟨m', fun _ => 0, g'⟩ (fun r => ∀ c : Dev Cert.RopeQRefIdeal.nD,
          r.2.mem ((c.tc : Thread Cert.RopeQRefIdeal.nD Cert.RopeQRefIdeal.τ).loc Cert.RopeQRefIdeal.main_v56) = v0 c
          ∧ r.2.mem ((c.tc : Thread Cert.RopeQRefIdeal.nD Cert.RopeQRefIdeal.τ).loc Cert.RopeQRefIdeal.main_arg0) = m' ((c.tc : Thread Cert.RopeQRefIdeal.nD Cert.RopeQRefIdeal.τ).loc Cert.RopeQRefIdeal.main_arg0))

def preserves_RopeK_RopeKIdeal : Prop :=
  True

def algebraic_RopeKIdeal_RopeKRefIdeal [hRopeKIdeal : Cert.RopeKIdeal.Facts] [hRopeKRefIdeal : Cert.RopeKRefIdeal.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeKRefIdeal.nD Cert.RopeKRefIdeal.τ Cert.RopeKRefIdeal.sig) → Buf (Elt Ideal) ℓ) (g' : Dev Cert.RopeKRefIdeal.nD → PrngReg), Pre_RopeKIdeal m →
    (∀ c : Dev Cert.RopeKIdeal.nD,
      m' ((c.tc : Thread Cert.RopeKRefIdeal.nD Cert.RopeKRefIdeal.τ).loc Cert.RopeKRefIdeal.main_arg0) = m ((c.tc : Thread Cert.RopeKIdeal.nD Cert.RopeKIdeal.τ).loc Cert.RopeKIdeal.main_arg0)) →
    ∃ (v0 : (c : Dev Cert.RopeKIdeal.nD) → Buf (Elt Ideal) ((c.tc : Thread Cert.RopeKIdeal.nD Cert.RopeKIdeal.τ).loc Cert.RopeKIdeal.main_v113)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v113) = v0 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0))
      ∧ θ_run (Cert.RopeKRefIdeal.defs (F := Ideal)) (onTc (τ := Cert.RopeKRefIdeal.τ) (Cert.RopeKRefIdeal.main (F := Ideal))) ⟨m', fun _ => 0, g'⟩ (fun r => ∀ c : Dev Cert.RopeKRefIdeal.nD,
          r.2.mem ((c.tc : Thread Cert.RopeKRefIdeal.nD Cert.RopeKRefIdeal.τ).loc Cert.RopeKRefIdeal.main_v47) = v0 c
          ∧ r.2.mem ((c.tc : Thread Cert.RopeKRefIdeal.nD Cert.RopeKRefIdeal.τ).loc Cert.RopeKRefIdeal.main_arg0) = m' ((c.tc : Thread Cert.RopeKRefIdeal.nD Cert.RopeKRefIdeal.τ).loc Cert.RopeKRefIdeal.main_arg0))

def preserves_Outn_OutnIdeal : Prop :=
  True

def algebraic_OutnIdeal_OutnRefIdeal_pre_outn_finite [hOutnIdeal : Cert.OutnIdeal.Facts] [hOutnRefIdeal : Cert.OutnRefIdeal.Facts] [hPre_outn_finite : Cert.Pre_outn_finite.Facts] : Prop :=
  ∀ (m : (ℓ : Loc Cert.OutnIdeal.nD Cert.OutnIdeal.τ Cert.OutnIdeal.sig) → Buf (Elt Ideal) ℓ) (g : Dev Cert.OutnIdeal.nD → PrngReg)
    (m' : (ℓ : Loc Cert.OutnRefIdeal.nD Cert.OutnRefIdeal.τ Cert.OutnRefIdeal.sig) → Buf (Elt Ideal) ℓ) (g' : Dev Cert.OutnRefIdeal.nD → PrngReg), Pre_OutnIdeal_outn_finite m →
    (∀ c : Dev Cert.OutnIdeal.nD,
      m' ((c.tc : Thread Cert.OutnRefIdeal.nD Cert.OutnRefIdeal.τ).loc Cert.OutnRefIdeal.main_arg0) = m ((c.tc : Thread Cert.OutnIdeal.nD Cert.OutnIdeal.τ).loc Cert.OutnIdeal.main_arg0)
      ∧ m' ((c.tc : Thread Cert.OutnRefIdeal.nD Cert.OutnRefIdeal.τ).loc Cert.OutnRefIdeal.main_arg1) = m ((c.tc : Thread Cert.OutnIdeal.nD Cert.OutnIdeal.τ).loc Cert.OutnIdeal.main_arg1)
      ∧ m' ((c.tc : Thread Cert.OutnRefIdeal.nD Cert.OutnRefIdeal.τ).loc Cert.OutnRefIdeal.main_arg2) = m ((c.tc : Thread Cert.OutnIdeal.nD Cert.OutnIdeal.τ).loc Cert.OutnIdeal.main_arg2)
      ∧ m' ((c.tc : Thread Cert.OutnRefIdeal.nD Cert.OutnRefIdeal.τ).loc Cert.OutnRefIdeal.main_arg3) = m ((c.tc : Thread Cert.OutnIdeal.nD Cert.OutnIdeal.τ).loc Cert.OutnIdeal.main_arg3)
      ∧ m' ((c.tc : Thread Cert.OutnRefIdeal.nD Cert.OutnRefIdeal.τ).loc Cert.OutnRefIdeal.main_arg4) = m ((c.tc : Thread Cert.OutnIdeal.nD Cert.OutnIdeal.τ).loc Cert.OutnIdeal.main_arg4)) →
    ∃ (v0 : (c : Dev Cert.OutnIdeal.nD) → Buf (Elt Ideal) ((c.tc : Thread Cert.OutnIdeal.nD Cert.OutnIdeal.τ).loc Cert.OutnIdeal.main_v1_0)) (v1 : (c : Dev Cert.OutnIdeal.nD) → Buf (Elt Ideal) ((c.tc : Thread Cert.OutnIdeal.nD Cert.OutnIdeal.τ).loc Cert.OutnIdeal.main_v1_1)) (v2 : (c : Dev Cert.OutnIdeal.nD) → Buf (Elt Ideal) ((c.tc : Thread Cert.OutnIdeal.nD Cert.OutnIdeal.τ).loc Cert.OutnIdeal.main_v1_2)) (v3 : (c : Dev Cert.OutnIdeal.nD) → Buf (Elt Ideal) ((c.tc : Thread Cert.OutnIdeal.nD Cert.OutnIdeal.τ).loc Cert.OutnIdeal.main_v1_3)),
      θ_run (Cert.OutnIdeal.defs (F := Ideal)) (onTc (τ := Cert.OutnIdeal.τ) (Cert.OutnIdeal.main (F := Ideal))) ⟨m, fun _ => 0, g⟩ (fun r => ∀ c : Dev Cert.OutnIdeal.nD,
          r.2.mem ((c.tc : Thread Cert.OutnIdeal.nD Cert.OutnIdeal.τ).loc Cert.OutnIdeal.main_v1_0) = v0 c
          ∧ r.2.mem ((c.tc : Thread Cert.OutnIdeal.nD Cert.OutnIdeal.τ).loc Cert.OutnIdeal.main_v1_1) = v1 c
          ∧ r.2.mem ((c.tc : Thread Cert.OutnIdeal.nD Cert.OutnIdeal.τ).loc Cert.OutnIdeal.main_v1_2) = v2 c
          ∧ r.2.mem ((c.tc : Thread Cert.OutnIdeal.nD Cert.OutnIdeal.τ).loc Cert.OutnIdeal.main_v1_3) = v3 c
          ∧ r.2.mem ((c.tc : Thread Cert.OutnIdeal.nD Cert.OutnIdeal.τ).loc Cert.OutnIdeal.main_arg0) = m ((c.tc : Thread Cert.OutnIdeal.nD Cert.OutnIdeal.τ).loc Cert.OutnIdeal.main_arg0)
          ∧ r.2.mem ((c.tc : Thread Cert.OutnIdeal.nD Cert.OutnIdeal.τ).loc Cert.OutnIdeal.main_arg1) = m ((c.tc : Thread Cert.OutnIdeal.nD Cert.OutnIdeal.τ).loc Cert.OutnIdeal.main_arg1)
          ∧ r.2.mem ((c.tc : Thread Cert.OutnIdeal.nD Cert.OutnIdeal.τ).loc Cert.OutnIdeal.main_arg2) = m ((c.tc : Thread Cert.OutnIdeal.nD Cert.OutnIdeal.τ).loc Cert.OutnIdeal.main_arg2)
          ∧ r.2.mem ((c.tc : Thread Cert.OutnIdeal.nD Cert.OutnIdeal.τ).loc Cert.OutnIdeal.main_arg3) = m ((c.tc : Thread Cert.OutnIdeal.nD Cert.OutnIdeal.τ).loc Cert.OutnIdeal.main_arg3)
          ∧ r.2.mem ((c.tc : Thread Cert.OutnIdeal.nD Cert.OutnIdeal.τ).loc Cert.OutnIdeal.main_arg4) = m ((c.tc : Thread Cert.OutnIdeal.nD Cert.OutnIdeal.τ).loc Cert.OutnIdeal.main_arg4))
      ∧ θ_run (Cert.OutnRefIdeal.defs (F := Ideal)) (onTc (τ := Cert.OutnRefIdeal.τ) (Cert.OutnRefIdeal.main (F := Ideal))) ⟨m', fun _ => 0, g'⟩ (fun r => ∀ c : Dev Cert.OutnRefIdeal.nD,
          r.2.mem ((c.tc : Thread Cert.OutnRefIdeal.nD Cert.OutnRefIdeal.τ).loc Cert.OutnRefIdeal.main_v116) = v0 c
          ∧ r.2.mem ((c.tc : Thread Cert.OutnRefIdeal.nD Cert.OutnRefIdeal.τ).loc Cert.OutnRefIdeal.main_v94) = v1 c
          ∧ r.2.mem ((c.tc : Thread Cert.OutnRefIdeal.nD Cert.OutnRefIdeal.τ).loc Cert.OutnRefIdeal.main_v117) = v2 c
          ∧ r.2.mem ((c.tc : Thread Cert.OutnRefIdeal.nD Cert.OutnRefIdeal.τ).loc Cert.OutnRefIdeal.main_v118) = v3 c
          ∧ r.2.mem ((c.tc : Thread Cert.OutnRefIdeal.nD Cert.OutnRefIdeal.τ).loc Cert.OutnRefIdeal.main_arg0) = m' ((c.tc : Thread Cert.OutnRefIdeal.nD Cert.OutnRefIdeal.τ).loc Cert.OutnRefIdeal.main_arg0)
          ∧ r.2.mem ((c.tc : Thread Cert.OutnRefIdeal.nD Cert.OutnRefIdeal.τ).loc Cert.OutnRefIdeal.main_arg1) = m' ((c.tc : Thread Cert.OutnRefIdeal.nD Cert.OutnRefIdeal.τ).loc Cert.OutnRefIdeal.main_arg1)
          ∧ r.2.mem ((c.tc : Thread Cert.OutnRefIdeal.nD Cert.OutnRefIdeal.τ).loc Cert.OutnRefIdeal.main_arg2) = m' ((c.tc : Thread Cert.OutnRefIdeal.nD Cert.OutnRefIdeal.τ).loc Cert.OutnRefIdeal.main_arg2)
          ∧ r.2.mem ((c.tc : Thread Cert.OutnRefIdeal.nD Cert.OutnRefIdeal.τ).loc Cert.OutnRefIdeal.main_arg3) = m' ((c.tc : Thread Cert.OutnRefIdeal.nD Cert.OutnRefIdeal.τ).loc Cert.OutnRefIdeal.main_arg3)
          ∧ r.2.mem ((c.tc : Thread Cert.OutnRefIdeal.nD Cert.OutnRefIdeal.τ).loc Cert.OutnRefIdeal.main_arg4) = m' ((c.tc : Thread Cert.OutnRefIdeal.nD Cert.OutnRefIdeal.τ).loc Cert.OutnRefIdeal.main_arg4))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v8_0)) (v1 : (c : Dev Cert.GateIdeal.nD) → Buf (Elt Ideal) ((c.tc : Thread Cert.GateIdeal.nD Cert.GateIdeal.τ).loc Cert.GateIdeal.main_v8_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8_0) = v0 c
          ∧ r.2.mem ((c.tc : Thread Cert.GateIdeal.nD Cert.GateIdeal.τ).loc Cert.GateIdeal.main_v8_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v80) = v0 c
          ∧ r.2.mem ((c.tc : Thread Cert.GateRefIdeal.nD Cert.GateRefIdeal.τ).loc Cert.GateRefIdeal.main_v77) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_OutnFwd_OutnFwdIdeal : Prop :=
  True

def algebraic_OutnFwdIdeal_OutnFwdRefIdeal [hOutnFwdIdeal : Cert.OutnFwdIdeal.Facts] [hOutnFwdRefIdeal : Cert.OutnFwdRefIdeal.Facts] : Prop :=
  ∀ (m : (ℓ : Loc Cert.OutnFwdIdeal.nD Cert.OutnFwdIdeal.τ Cert.OutnFwdIdeal.sig) → Buf (Elt Ideal) ℓ) (g : Dev Cert.OutnFwdIdeal.nD → PrngReg)
    (m' : (ℓ : Loc Cert.OutnFwdRefIdeal.nD Cert.OutnFwdRefIdeal.τ Cert.OutnFwdRefIdeal.sig) → Buf (Elt Ideal) ℓ) (g' : Dev Cert.OutnFwdRefIdeal.nD → PrngReg), Pre_OutnFwdIdeal m →
    (∀ c : Dev Cert.OutnFwdIdeal.nD,
      m' ((c.tc : Thread Cert.OutnFwdRefIdeal.nD Cert.OutnFwdRefIdeal.τ).loc Cert.OutnFwdRefIdeal.main_arg0) = m ((c.tc : Thread Cert.OutnFwdIdeal.nD Cert.OutnFwdIdeal.τ).loc Cert.OutnFwdIdeal.main_arg0)
      ∧ m' ((c.tc : Thread Cert.OutnFwdRefIdeal.nD Cert.OutnFwdRefIdeal.τ).loc Cert.OutnFwdRefIdeal.main_arg1) = m ((c.tc : Thread Cert.OutnFwdIdeal.nD Cert.OutnFwdIdeal.τ).loc Cert.OutnFwdIdeal.main_arg1)
      ∧ m' ((c.tc : Thread Cert.OutnFwdRefIdeal.nD Cert.OutnFwdRefIdeal.τ).loc Cert.OutnFwdRefIdeal.main_arg2) = m ((c.tc : Thread Cert.OutnFwdIdeal.nD Cert.OutnFwdIdeal.τ).loc Cert.OutnFwdIdeal.main_arg2)
      ∧ m' ((c.tc : Thread Cert.OutnFwdRefIdeal.nD Cert.OutnFwdRefIdeal.τ).loc Cert.OutnFwdRefIdeal.main_arg3) = m ((c.tc : Thread Cert.OutnFwdIdeal.nD Cert.OutnFwdIdeal.τ).loc Cert.OutnFwdIdeal.main_arg3)) →
    ∃ (v0 : (c : Dev Cert.OutnFwdIdeal.nD) → Buf (Elt Ideal) ((c.tc : Thread Cert.OutnFwdIdeal.nD Cert.OutnFwdIdeal.τ).loc Cert.OutnFwdIdeal.main_v1)),
      θ_run (Cert.OutnFwdIdeal.defs (F := Ideal)) (onTc (τ := Cert.OutnFwdIdeal.τ) (Cert.OutnFwdIdeal.main (F := Ideal))) ⟨m, fun _ => 0, g⟩ (fun r => ∀ c : Dev Cert.OutnFwdIdeal.nD,
          r.2.mem ((c.tc : Thread Cert.OutnFwdIdeal.nD Cert.OutnFwdIdeal.τ).loc Cert.OutnFwdIdeal.main_v1) = v0 c
          ∧ r.2.mem ((c.tc : Thread Cert.OutnFwdIdeal.nD Cert.OutnFwdIdeal.τ).loc Cert.OutnFwdIdeal.main_arg0) = m ((c.tc : Thread Cert.OutnFwdIdeal.nD Cert.OutnFwdIdeal.τ).loc Cert.OutnFwdIdeal.main_arg0)
          ∧ r.2.mem ((c.tc : Thread Cert.OutnFwdIdeal.nD Cert.OutnFwdIdeal.τ).loc Cert.OutnFwdIdeal.main_arg1) = m ((c.tc : Thread Cert.OutnFwdIdeal.nD Cert.OutnFwdIdeal.τ).loc Cert.OutnFwdIdeal.main_arg1)
          ∧ r.2.mem ((c.tc : Thread Cert.OutnFwdIdeal.nD Cert.OutnFwdIdeal.τ).loc Cert.OutnFwdIdeal.main_arg2) = m ((c.tc : Thread Cert.OutnFwdIdeal.nD Cert.OutnFwdIdeal.τ).loc Cert.OutnFwdIdeal.main_arg2)
          ∧ r.2.mem ((c.tc : Thread Cert.OutnFwdIdeal.nD Cert.OutnFwdIdeal.τ).loc Cert.OutnFwdIdeal.main_arg3) = m ((c.tc : Thread Cert.OutnFwdIdeal.nD Cert.OutnFwdIdeal.τ).loc Cert.OutnFwdIdeal.main_arg3))
      ∧ θ_run (Cert.OutnFwdRefIdeal.defs (F := Ideal)) (onTc (τ := Cert.OutnFwdRefIdeal.τ) (Cert.OutnFwdRefIdeal.main (F := Ideal))) ⟨m', fun _ => 0, g'⟩ (fun r => ∀ c : Dev Cert.OutnFwdRefIdeal.nD,
          r.2.mem ((c.tc : Thread Cert.OutnFwdRefIdeal.nD Cert.OutnFwdRefIdeal.τ).loc Cert.OutnFwdRefIdeal.main_v43) = v0 c
          ∧ r.2.mem ((c.tc : Thread Cert.OutnFwdRefIdeal.nD Cert.OutnFwdRefIdeal.τ).loc Cert.OutnFwdRefIdeal.main_arg0) = m' ((c.tc : Thread Cert.OutnFwdRefIdeal.nD Cert.OutnFwdRefIdeal.τ).loc Cert.OutnFwdRefIdeal.main_arg0)
          ∧ r.2.mem ((c.tc : Thread Cert.OutnFwdRefIdeal.nD Cert.OutnFwdRefIdeal.τ).loc Cert.OutnFwdRefIdeal.main_arg1) = m' ((c.tc : Thread Cert.OutnFwdRefIdeal.nD Cert.OutnFwdRefIdeal.τ).loc Cert.OutnFwdRefIdeal.main_arg1)
          ∧ r.2.mem ((c.tc : Thread Cert.OutnFwdRefIdeal.nD Cert.OutnFwdRefIdeal.τ).loc Cert.OutnFwdRefIdeal.main_arg2) = m' ((c.tc : Thread Cert.OutnFwdRefIdeal.nD Cert.OutnFwdRefIdeal.τ).loc Cert.OutnFwdRefIdeal.main_arg2)
          ∧ r.2.mem ((c.tc : Thread Cert.OutnFwdRefIdeal.nD Cert.OutnFwdRefIdeal.τ).loc Cert.OutnFwdRefIdeal.main_arg3) = m' ((c.tc : Thread Cert.OutnFwdRefIdeal.nD Cert.OutnFwdRefIdeal.τ).loc Cert.OutnFwdRefIdeal.main_arg3))

def preserves_RopeQFwd_RopeQFwdIdeal : Prop :=
  True

def algebraic_RopeQFwdIdeal_RopeQFwdRefIdeal [hRopeQFwdIdeal : Cert.RopeQFwdIdeal.Facts] [hRopeQFwdRefIdeal : Cert.RopeQFwdRefIdeal.Facts] : Prop :=
  ∀ (m : (ℓ : Loc Cert.RopeQFwdIdeal.nD Cert.RopeQFwdIdeal.τ Cert.RopeQFwdIdeal.sig) → Buf (Elt Ideal) ℓ) (g : Dev Cert.RopeQFwdIdeal.nD → PrngReg)
    (m' : (ℓ : Loc Cert.RopeQFwdRefIdeal.nD Cert.RopeQFwdRefIdeal.τ Cert.RopeQFwdRefIdeal.sig) → Buf (Elt Ideal) ℓ) (g' : Dev Cert.RopeQFwdRefIdeal.nD → PrngReg), Pre_RopeQFwdIdeal m →
    (∀ c : Dev Cert.RopeQFwdIdeal.nD,
      m' ((c.tc : Thread Cert.RopeQFwdRefIdeal.nD Cert.RopeQFwdRefIdeal.τ).loc Cert.RopeQFwdRefIdeal.main_arg0) = m ((c.tc : Thread Cert.RopeQFwdIdeal.nD Cert.RopeQFwdIdeal.τ).loc Cert.RopeQFwdIdeal.main_arg0)) →
    ∃ (v0 : (c : Dev Cert.RopeQFwdIdeal.nD) → Buf (Elt Ideal) ((c.tc : Thread Cert.RopeQFwdIdeal.nD Cert.RopeQFwdIdeal.τ).loc Cert.RopeQFwdIdeal.main_v119)),
      θ_run (Cert.RopeQFwdIdeal.defs (F := Ideal)) (onTc (τ := Cert.RopeQFwdIdeal.τ) (Cert.RopeQFwdIdeal.main (F := Ideal))) ⟨m, fun _ => 0, g⟩ (fun r => ∀ c : Dev Cert.RopeQFwdIdeal.nD,
          r.2.mem ((c.tc : Thread Cert.RopeQFwdIdeal.nD Cert.RopeQFwdIdeal.τ).loc Cert.RopeQFwdIdeal.main_v119) = v0 c
          ∧ r.2.mem ((c.tc : Thread Cert.RopeQFwdIdeal.nD Cert.RopeQFwdIdeal.τ).loc Cert.RopeQFwdIdeal.main_arg0) = m ((c.tc : Thread Cert.RopeQFwdIdeal.nD Cert.RopeQFwdIdeal.τ).loc Cert.RopeQFwdIdeal.main_arg0))
      ∧ θ_run (Cert.RopeQFwdRefIdeal.defs (F := Ideal)) (onTc (τ := Cert.RopeQFwdRefIdeal.τ) (Cert.RopeQFwdRefIdeal.main (F := Ideal))) ⟨m', fun _ => 0, g'⟩ (fun r => ∀ c : Dev Cert.RopeQFwdRefIdeal.nD,
          r.2.mem ((c.tc : Thread Cert.RopeQFwdRefIdeal.nD Cert.RopeQFwdRefIdeal.τ).loc Cert.RopeQFwdRefIdeal.main_v46) = v0 c
          ∧ r.2.mem ((c.tc : Thread Cert.RopeQFwdRefIdeal.nD Cert.RopeQFwdRefIdeal.τ).loc Cert.RopeQFwdRefIdeal.main_arg0) = m' ((c.tc : Thread Cert.RopeQFwdRefIdeal.nD Cert.RopeQFwdRefIdeal.τ).loc Cert.RopeQFwdRefIdeal.main_arg0))

def preserves_RopeKFwd_RopeKFwdIdeal : Prop :=
  True

def algebraic_RopeKFwdIdeal_RopeKFwdRefIdeal [hRopeKFwdIdeal : Cert.RopeKFwdIdeal.Facts] [hRopeKFwdRefIdeal : Cert.RopeKFwdRefIdeal.Facts] : Prop :=
  ∀ (m : (ℓ : Loc Cert.RopeKFwdIdeal.nD Cert.RopeKFwdIdeal.τ Cert.RopeKFwdIdeal.sig) → Buf (Elt Ideal) ℓ) (g : Dev Cert.RopeKFwdIdeal.nD → PrngReg)
    (m' : (ℓ : Loc Cert.RopeKFwdRefIdeal.nD Cert.RopeKFwdRefIdeal.τ Cert.RopeKFwdRefIdeal.sig) → Buf (Elt Ideal) ℓ) (g' : Dev Cert.RopeKFwdRefIdeal.nD → PrngReg), Pre_RopeKFwdIdeal m →
    (∀ c : Dev Cert.RopeKFwdIdeal.nD,
      m' ((c.tc : Thread Cert.RopeKFwdRefIdeal.nD Cert.RopeKFwdRefIdeal.τ).loc Cert.RopeKFwdRefIdeal.main_arg0) = m ((c.tc : Thread Cert.RopeKFwdIdeal.nD Cert.RopeKFwdIdeal.τ).loc Cert.RopeKFwdIdeal.main_arg0)) →
    ∃ (v0 : (c : Dev Cert.RopeKFwdIdeal.nD) → Buf (Elt Ideal) ((c.tc : Thread Cert.RopeKFwdIdeal.nD Cert.RopeKFwdIdeal.τ).loc Cert.RopeKFwdIdeal.main_v113)),
      θ_run (Cert.RopeKFwdIdeal.defs (F := Ideal)) (onTc (τ := Cert.RopeKFwdIdeal.τ) (Cert.RopeKFwdIdeal.main (F := Ideal))) ⟨m, fun _ => 0, g⟩ (fun r => ∀ c : Dev Cert.RopeKFwdIdeal.nD,
          r.2.mem ((c.tc : Thread Cert.RopeKFwdIdeal.nD Cert.RopeKFwdIdeal.τ).loc Cert.RopeKFwdIdeal.main_v113) = v0 c
          ∧ r.2.mem ((c.tc : Thread Cert.RopeKFwdIdeal.nD Cert.RopeKFwdIdeal.τ).loc Cert.RopeKFwdIdeal.main_arg0) = m ((c.tc : Thread Cert.RopeKFwdIdeal.nD Cert.RopeKFwdIdeal.τ).loc Cert.RopeKFwdIdeal.main_arg0))
      ∧ θ_run (Cert.RopeKFwdRefIdeal.defs (F := Ideal)) (onTc (τ := Cert.RopeKFwdRefIdeal.τ) (Cert.RopeKFwdRefIdeal.main (F := Ideal))) ⟨m', fun _ => 0, g'⟩ (fun r => ∀ c : Dev Cert.RopeKFwdRefIdeal.nD,
          r.2.mem ((c.tc : Thread Cert.RopeKFwdRefIdeal.nD Cert.RopeKFwdRefIdeal.τ).loc Cert.RopeKFwdRefIdeal.main_v37) = v0 c
          ∧ r.2.mem ((c.tc : Thread Cert.RopeKFwdRefIdeal.nD Cert.RopeKFwdRefIdeal.τ).loc Cert.RopeKFwdRefIdeal.main_arg0) = m' ((c.tc : Thread Cert.RopeKFwdRefIdeal.nD Cert.RopeKFwdRefIdeal.τ).loc Cert.RopeKFwdRefIdeal.main_arg0))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v8_0)) (v1 : (c : Dev Cert.FfnUpIdeal.nD) → Buf (Elt Ideal) ((c.tc : Thread Cert.FfnUpIdeal.nD Cert.FfnUpIdeal.τ).loc Cert.FfnUpIdeal.main_v8_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v8_0) = v0 c
          ∧ r.2.mem ((c.tc : Thread Cert.FfnUpIdeal.nD Cert.FfnUpIdeal.τ).loc Cert.FfnUpIdeal.main_v8_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v28) = v0 c
          ∧ r.2.mem ((c.tc : Thread Cert.FfnUpRefIdeal.nD Cert.FfnUpRefIdeal.τ).loc Cert.FfnUpRefIdeal.main_v31) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v115_0)) (v1 : (c : Dev Cert.PrepFwdIdeal.nD) → Buf (Elt Ideal) ((c.tc : Thread Cert.PrepFwdIdeal.nD Cert.PrepFwdIdeal.τ).loc Cert.PrepFwdIdeal.main_v115_1)) (v2 : (c : Dev Cert.PrepFwdIdeal.nD) → Buf (Elt Ideal) ((c.tc : Thread Cert.PrepFwdIdeal.nD Cert.PrepFwdIdeal.τ).loc Cert.PrepFwdIdeal.main_v115_2)) (v3 : (c : Dev Cert.PrepFwdIdeal.nD) → Buf (Elt Ideal) ((c.tc : Thread Cert.PrepFwdIdeal.nD Cert.PrepFwdIdeal.τ).loc Cert.PrepFwdIdeal.main_v115_3)) (v4 : (c : Dev Cert.PrepFwdIdeal.nD) → Buf (Elt Ideal) ((c.tc : Thread Cert.PrepFwdIdeal.nD Cert.PrepFwdIdeal.τ).loc Cert.PrepFwdIdeal.main_v115_4)) (v5 : (c : Dev Cert.PrepFwdIdeal.nD) → Buf (Elt Ideal) ((c.tc : Thread Cert.PrepFwdIdeal.nD Cert.PrepFwdIdeal.τ).loc Cert.PrepFwdIdeal.main_v115_5)) (v6 : (c : Dev Cert.PrepFwdIdeal.nD) → Buf (Elt Ideal) ((c.tc : Thread Cert.PrepFwdIdeal.nD Cert.PrepFwdIdeal.τ).loc Cert.PrepFwdIdeal.main_v115_6)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v115_0) = v0 c
          ∧ r.2.mem ((c.tc : Thread Cert.PrepFwdIdeal.nD Cert.PrepFwdIdeal.τ).loc Cert.PrepFwdIdeal.main_v115_1) = v1 c
          ∧ r.2.mem ((c.tc : Thread Cert.PrepFwdIdeal.nD Cert.PrepFwdIdeal.τ).loc Cert.PrepFwdIdeal.main_v115_2) = v2 c
          ∧ r.2.mem ((c.tc : Thread Cert.PrepFwdIdeal.nD Cert.PrepFwdIdeal.τ).loc Cert.PrepFwdIdeal.main_v115_3) = v3 c
          ∧ r.2.mem ((c.tc : Thread Cert.PrepFwdIdeal.nD Cert.PrepFwdIdeal.τ).loc Cert.PrepFwdIdeal.main_v115_4) = v4 c
          ∧ r.2.mem ((c.tc : Thread Cert.PrepFwdIdeal.nD Cert.PrepFwdIdeal.τ).loc Cert.PrepFwdIdeal.main_v115_5) = v5 c
          ∧ r.2.mem ((c.tc : Thread Cert.PrepFwdIdeal.nD Cert.PrepFwdIdeal.τ).loc Cert.PrepFwdIdeal.main_v115_6) = v6 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v154) = v0 c
          ∧ r.2.mem ((c.tc : Thread Cert.PrepFwdRefIdeal.nD Cert.PrepFwdRefIdeal.τ).loc Cert.PrepFwdRefIdeal.main_v155) = v1 c
          ∧ r.2.mem ((c.tc : Thread Cert.PrepFwdRefIdeal.nD Cert.PrepFwdRefIdeal.τ).loc Cert.PrepFwdRefIdeal.main_v156) = v2 c
          ∧ r.2.mem ((c.tc : Thread Cert.PrepFwdRefIdeal.nD Cert.PrepFwdRefIdeal.τ).loc Cert.PrepFwdRefIdeal.main_v157) = v3 c
          ∧ r.2.mem ((c.tc : Thread Cert.PrepFwdRefIdeal.nD Cert.PrepFwdRefIdeal.τ).loc Cert.PrepFwdRefIdeal.main_v158) = v4 c
          ∧ r.2.mem ((c.tc : Thread Cert.PrepFwdRefIdeal.nD Cert.PrepFwdRefIdeal.τ).loc Cert.PrepFwdRefIdeal.main_v172) = v5 c
          ∧ r.2.mem ((c.tc : Thread Cert.PrepFwdRefIdeal.nD Cert.PrepFwdRefIdeal.τ).loc Cert.PrepFwdRefIdeal.main_v186) = v6 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v5)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamLayer_AdamLayerIdeal : Prop :=
  True

def algebraic_AdamLayerIdeal_AdamLayerRefIdeal [hAdamLayerIdeal : Cert.AdamLayerIdeal.Facts] [hAdamLayerRefIdeal : Cert.AdamLayerRefIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg)
    (m' : (ℓ : Loc Cert.AdamLayerRefIdeal.nD Cert.AdamLayerRefIdeal.τ Cert.AdamLayerRefIdeal.sig) → Buf (Elt Ideal) ℓ) (g' : Dev Cert.AdamLayerRefIdeal.nD → PrngReg), Pre_AdamLayerIdeal m →
    (∀ c : Dev Cert.AdamLayerIdeal.nD,
      m' ((c.tc : Thread Cert.AdamLayerRefIdeal.nD Cert.AdamLayerRefIdeal.τ).loc Cert.AdamLayerRefIdeal.main_arg0) = m ((c.tc : Thread Cert.AdamLayerIdeal.nD Cert.AdamLayerIdeal.τ).loc Cert.AdamLayerIdeal.main_arg0)
      ∧ m' ((c.tc : Thread Cert.AdamLayerRefIdeal.nD Cert.AdamLayerRefIdeal.τ).loc Cert.AdamLayerRefIdeal.main_arg1) = m ((c.tc : Thread Cert.AdamLayerIdeal.nD Cert.AdamLayerIdeal.τ).loc Cert.AdamLayerIdeal.main_arg1)
      ∧ m' ((c.tc : Thread Cert.AdamLayerRefIdeal.nD Cert.AdamLayerRefIdeal.τ).loc Cert.AdamLayerRefIdeal.main_arg2) = m ((c.tc : Thread Cert.AdamLayerIdeal.nD Cert.AdamLayerIdeal.τ).loc Cert.AdamLayerIdeal.main_arg2)
      ∧ m' ((c.tc : Thread Cert.AdamLayerRefIdeal.nD Cert.AdamLayerRefIdeal.τ).loc Cert.AdamLayerRefIdeal.main_arg3) = m ((c.tc : Thread Cert.AdamLayerIdeal.nD Cert.AdamLayerIdeal.τ).loc Cert.AdamLayerIdeal.main_arg3)
      ∧ m' ((c.tc : Thread Cert.AdamLayerRefIdeal.nD Cert.AdamLayerRefIdeal.τ).loc Cert.AdamLayerRefIdeal.main_arg4) = m ((c.tc : Thread Cert.AdamLayerIdeal.nD Cert.AdamLayerIdeal.τ).loc Cert.AdamLayerIdeal.main_arg4)) →
    ∃ (v0 : (c : Dev Cert.AdamLayerIdeal.nD) → Buf (Elt Ideal) ((c.tc : Thread Cert.AdamLayerIdeal.nD Cert.AdamLayerIdeal.τ).loc Cert.AdamLayerIdeal.main_v1_0)) (v1 : (c : Dev Cert.AdamLayerIdeal.nD) → Buf (Elt Ideal) ((c.tc : Thread Cert.AdamLayerIdeal.nD Cert.AdamLayerIdeal.τ).loc Cert.AdamLayerIdeal.main_v1_1)) (v2 : (c : Dev Cert.AdamLayerIdeal.nD) → Buf (Elt Ideal) ((c.tc : Thread Cert.AdamLayerIdeal.nD Cert.AdamLayerIdeal.τ).loc Cert.AdamLayerIdeal.main_v1_2)) (v3 : (c : Dev Cert.AdamLayerIdeal.nD) → Buf (Elt Ideal) ((c.tc : Thread Cert.AdamLayerIdeal.nD Cert.AdamLayerIdeal.τ).loc Cert.AdamLayerIdeal.main_v1_3)),
      θ_run (Cert.AdamLayerIdeal.defs (F := Ideal)) (onTc (τ := Cert.AdamLayerIdeal.τ) (Cert.AdamLayerIdeal.main (F := Ideal))) ⟨m, fun _ => 0, g⟩ (fun r => ∀ c : Dev Cert.AdamLayerIdeal.nD,
          r.2.mem ((c.tc : Thread Cert.AdamLayerIdeal.nD Cert.AdamLayerIdeal.τ).loc Cert.AdamLayerIdeal.main_v1_0) = v0 c
          ∧ r.2.mem ((c.tc : Thread Cert.AdamLayerIdeal.nD Cert.AdamLayerIdeal.τ).loc Cert.AdamLayerIdeal.main_v1_1) = v1 c
          ∧ r.2.mem ((c.tc : Thread Cert.AdamLayerIdeal.nD Cert.AdamLayerIdeal.τ).loc Cert.AdamLayerIdeal.main_v1_2) = v2 c
          ∧ r.2.mem ((c.tc : Thread Cert.AdamLayerIdeal.nD Cert.AdamLayerIdeal.τ).loc Cert.AdamLayerIdeal.main_v1_3) = v3 c
          ∧ r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
          ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
          ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
          ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
          ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4))
      ∧ θ_run (Cert.AdamLayerRefIdeal.defs (F := Ideal)) (onTc (τ := Cert.AdamLayerRefIdeal.τ) (Cert.AdamLayerRefIdeal.main (F := Ideal))) ⟨m', fun _ => 0, g'⟩ (fun r => ∀ c : Dev Cert.AdamLayerRefIdeal.nD,
          r.2.mem ((c.tc : Thread Cert.AdamLayerRefIdeal.nD Cert.AdamLayerRefIdeal.τ).loc Cert.AdamLayerRefIdeal.main_v2) = v0 c
          ∧ r.2.mem ((c.tc : Thread Cert.AdamLayerRefIdeal.nD Cert.AdamLayerRefIdeal.τ).loc Cert.AdamLayerRefIdeal.main_v26) = v1 c
          ∧ r.2.mem ((c.tc : Thread Cert.AdamLayerRefIdeal.nD Cert.AdamLayerRefIdeal.τ).loc Cert.AdamLayerRefIdeal.main_v7) = v2 c
          ∧ r.2.mem ((c.tc : Thread Cert.AdamLayerRefIdeal.nD Cert.AdamLayerRefIdeal.τ).loc Cert.AdamLayerRefIdeal.main_v13) = v3 c
          ∧ r.2.mem ((c.tc : Thread Cert.AdamLayerRefIdeal.nD Cert.AdamLayerRefIdeal.τ).loc Cert.AdamLayerRefIdeal.main_arg0) = m' ((c.tc : Thread Cert.AdamLayerRefIdeal.nD Cert.AdamLayerRefIdeal.τ).loc Cert.AdamLayerRefIdeal.main_arg0)
          ∧ r.2.mem ((c.tc : Thread Cert.AdamLayerRefIdeal.nD Cert.AdamLayerRefIdeal.τ).loc Cert.AdamLayerRefIdeal.main_arg1) = m' ((c.tc : Thread Cert.AdamLayerRefIdeal.nD Cert.AdamLayerRefIdeal.τ).loc Cert.AdamLayerRefIdeal.main_arg1)
          ∧ r.2.mem ((c.tc : Thread Cert.AdamLayerRefIdeal.nD Cert.AdamLayerRefIdeal.τ).loc Cert.AdamLayerRefIdeal.main_arg2) = m' ((c.tc : Thread Cert.AdamLayerRefIdeal.nD Cert.AdamLayerRefIdeal.τ).loc Cert.AdamLayerRefIdeal.main_arg2)
          ∧ r.2.mem ((c.tc : Thread Cert.AdamLayerRefIdeal.nD Cert.AdamLayerRefIdeal.τ).loc Cert.AdamLayerRefIdeal.main_arg3) = m' ((c.tc : Thread Cert.AdamLayerRefIdeal.nD Cert.AdamLayerRefIdeal.τ).loc Cert.AdamLayerRefIdeal.main_arg3)
          ∧ r.2.mem ((c.tc : Thread Cert.AdamLayerRefIdeal.nD Cert.AdamLayerRefIdeal.τ).loc Cert.AdamLayerRefIdeal.main_arg4) = m' ((c.tc : Thread Cert.AdamLayerRefIdeal.nD Cert.AdamLayerRefIdeal.τ).loc Cert.AdamLayerRefIdeal.main_arg4))

def preserves_AddHalf_AddHalfIdeal : Prop :=
  True

def algebraic_AddHalfIdeal_AddHalfRefIdeal [hAddHalfIdeal : Cert.AddHalfIdeal.Facts] [hAddHalfRefIdeal : Cert.AddHalfRefIdeal.Facts] : Prop :=
  ∀ (m : (ℓ : Loc Cert.AddHalfIdeal.nD Cert.AddHalfIdeal.τ Cert.AddHalfIdeal.sig) → Buf (Elt Ideal) ℓ) (g : Dev Cert.AddHalfIdeal.nD → PrngReg)
    (m' : (ℓ : Loc Cert.AddHalfRefIdeal.nD Cert.AddHalfRefIdeal.τ Cert.AddHalfRefIdeal.sig) → Buf (Elt Ideal) ℓ) (g' : Dev Cert.AddHalfRefIdeal.nD → PrngReg), Pre_AddHalfIdeal m →
    (∀ c : Dev Cert.AddHalfIdeal.nD,
      m' ((c.tc : Thread Cert.AddHalfRefIdeal.nD Cert.AddHalfRefIdeal.τ).loc Cert.AddHalfRefIdeal.main_arg0) = m ((c.tc : Thread Cert.AddHalfIdeal.nD Cert.AddHalfIdeal.τ).loc Cert.AddHalfIdeal.main_arg0)
      ∧ m' ((c.tc : Thread Cert.AddHalfRefIdeal.nD Cert.AddHalfRefIdeal.τ).loc Cert.AddHalfRefIdeal.main_arg1) = m ((c.tc : Thread Cert.AddHalfIdeal.nD Cert.AddHalfIdeal.τ).loc Cert.AddHalfIdeal.main_arg1)) →
    ∃ (v0 : (c : Dev Cert.AddHalfIdeal.nD) → Buf (Elt Ideal) ((c.tc : Thread Cert.AddHalfIdeal.nD Cert.AddHalfIdeal.τ).loc Cert.AddHalfIdeal.main_v1)),
      θ_run (Cert.AddHalfIdeal.defs (F := Ideal)) (onTc (τ := Cert.AddHalfIdeal.τ) (Cert.AddHalfIdeal.main (F := Ideal))) ⟨m, fun _ => 0, g⟩ (fun r => ∀ c : Dev Cert.AddHalfIdeal.nD,
          r.2.mem ((c.tc : Thread Cert.AddHalfIdeal.nD Cert.AddHalfIdeal.τ).loc Cert.AddHalfIdeal.main_v1) = v0 c
          ∧ r.2.mem ((c.tc : Thread Cert.AddHalfIdeal.nD Cert.AddHalfIdeal.τ).loc Cert.AddHalfIdeal.main_arg0) = m ((c.tc : Thread Cert.AddHalfIdeal.nD Cert.AddHalfIdeal.τ).loc Cert.AddHalfIdeal.main_arg0)
          ∧ r.2.mem ((c.tc : Thread Cert.AddHalfIdeal.nD Cert.AddHalfIdeal.τ).loc Cert.AddHalfIdeal.main_arg1) = m ((c.tc : Thread Cert.AddHalfIdeal.nD Cert.AddHalfIdeal.τ).loc Cert.AddHalfIdeal.main_arg1))
      ∧ θ_run (Cert.AddHalfRefIdeal.defs (F := Ideal)) (onTc (τ := Cert.AddHalfRefIdeal.τ) (Cert.AddHalfRefIdeal.main (F := Ideal))) ⟨m', fun _ => 0, g'⟩ (fun r => ∀ c : Dev Cert.AddHalfRefIdeal.nD,
          r.2.mem ((c.tc : Thread Cert.AddHalfRefIdeal.nD Cert.AddHalfRefIdeal.τ).loc Cert.AddHalfRefIdeal.main_v2) = v0 c
          ∧ r.2.mem ((c.tc : Thread Cert.AddHalfRefIdeal.nD Cert.AddHalfRefIdeal.τ).loc Cert.AddHalfRefIdeal.main_arg0) = m' ((c.tc : Thread Cert.AddHalfRefIdeal.nD Cert.AddHalfRefIdeal.τ).loc Cert.AddHalfRefIdeal.main_arg0)
          ∧ r.2.mem ((c.tc : Thread Cert.AddHalfRefIdeal.nD Cert.AddHalfRefIdeal.τ).loc Cert.AddHalfRefIdeal.main_arg1) = m' ((c.tc : Thread Cert.AddHalfRefIdeal.nD Cert.AddHalfRefIdeal.τ).loc Cert.AddHalfRefIdeal.main_arg1))

def preserves_SumChips_SumChipsIdeal : Prop :=
  True

def algebraic_SumChipsIdeal_SumChipsRefIdeal [hSumChipsIdeal : Cert.SumChipsIdeal.Facts] [hSumChipsRefIdeal : Cert.SumChipsRefIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)
      ∧ m' ((c.tc : Thread Cert.SumChipsRefIdeal.nD Cert.SumChipsRefIdeal.τ).loc Cert.SumChipsRefIdeal.main_arg1) = m ((c.tc : Thread Cert.SumChipsIdeal.nD Cert.SumChipsIdeal.τ).loc Cert.SumChipsIdeal.main_arg1)) →
    ∃ (v0 : (c : Dev Cert.SumChipsIdeal.nD) → Buf (Elt Ideal) ((c.tc : Thread Cert.SumChipsIdeal.nD Cert.SumChipsIdeal.τ).loc Cert.SumChipsIdeal.main_v2)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v2) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
          ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v14) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0)
          ∧ r.2.mem ((c.tc : Thread Cert.SumChipsRefIdeal.nD Cert.SumChipsRefIdeal.τ).loc Cert.SumChipsRefIdeal.main_arg1) = m' ((c.tc : Thread Cert.SumChipsRefIdeal.nD Cert.SumChipsRefIdeal.τ).loc Cert.SumChipsRefIdeal.main_arg1))

def preserves_CastLayer_CastLayerIdeal : Prop :=
  True

def algebraic_CastLayerIdeal_CastLayerRefIdeal [hCastLayerIdeal : Cert.CastLayerIdeal.Facts] [hCastLayerRefIdeal : Cert.CastLayerRefIdeal.Facts] : Prop :=
  ∀ (m : (ℓ : Loc Cert.CastLayerIdeal.nD Cert.CastLayerIdeal.τ Cert.CastLayerIdeal.sig) → Buf (Elt Ideal) ℓ) (g : Dev Cert.CastLayerIdeal.nD → PrngReg)
    (m' : (ℓ : Loc Cert.CastLayerRefIdeal.nD Cert.CastLayerRefIdeal.τ Cert.CastLayerRefIdeal.sig) → Buf (Elt Ideal) ℓ) (g' : Dev Cert.CastLayerRefIdeal.nD → PrngReg), Pre_CastLayerIdeal m →
    (∀ c : Dev Cert.CastLayerIdeal.nD,
      m' ((c.tc : Thread Cert.CastLayerRefIdeal.nD Cert.CastLayerRefIdeal.τ).loc Cert.CastLayerRefIdeal.main_arg0) = m ((c.tc : Thread Cert.CastLayerIdeal.nD Cert.CastLayerIdeal.τ).loc Cert.CastLayerIdeal.main_arg0)) →
    ∃ (v0 : (c : Dev Cert.CastLayerIdeal.nD) → Buf (Elt Ideal) ((c.tc : Thread Cert.CastLayerIdeal.nD Cert.CastLayerIdeal.τ).loc Cert.CastLayerIdeal.main_v3)),
      θ_run (Cert.CastLayerIdeal.defs (F := Ideal)) (onTc (τ := Cert.CastLayerIdeal.τ) (Cert.CastLayerIdeal.main (F := Ideal))) ⟨m, fun _ => 0, g⟩ (fun r => ∀ c : Dev Cert.CastLayerIdeal.nD,
          r.2.mem ((c.tc : Thread Cert.CastLayerIdeal.nD Cert.CastLayerIdeal.τ).loc Cert.CastLayerIdeal.main_v3) = v0 c
          ∧ r.2.mem ((c.tc : Thread Cert.CastLayerIdeal.nD Cert.CastLayerIdeal.τ).loc Cert.CastLayerIdeal.main_arg0) = m ((c.tc : Thread Cert.CastLayerIdeal.nD Cert.CastLayerIdeal.τ).loc Cert.CastLayerIdeal.main_arg0))
      ∧ θ_run (Cert.CastLayerRefIdeal.defs (F := Ideal)) (onTc (τ := Cert.CastLayerRefIdeal.τ) (Cert.CastLayerRefIdeal.main (F := Ideal))) ⟨m', fun _ => 0, g'⟩ (fun r => ∀ c : Dev Cert.CastLayerRefIdeal.nD,
          r.2.mem ((c.tc : Thread Cert.CastLayerRefIdeal.nD Cert.CastLayerRefIdeal.τ).loc Cert.CastLayerRefIdeal.main_v2) = v0 c
          ∧ r.2.mem ((c.tc : Thread Cert.CastLayerRefIdeal.nD Cert.CastLayerRefIdeal.τ).loc Cert.CastLayerRefIdeal.main_arg0) = m' ((c.tc : Thread Cert.CastLayerRefIdeal.nD Cert.CastLayerRefIdeal.τ).loc Cert.CastLayerRefIdeal.main_arg0))

def Claim : Prop :=
  ∃ (hNorm : Cert.Norm.Facts) (hNormIdeal : Cert.NormIdeal.Facts) (hNormRefIdeal : Cert.NormRefIdeal.Facts) (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hFnorm : Cert.Fnorm.Facts) (hFnormIdeal : Cert.FnormIdeal.Facts) (hFnormRefIdeal : Cert.FnormRefIdeal.Facts) (hLoss : Cert.Loss.Facts) (hLossIdeal : Cert.LossIdeal.Facts) (hLossRefIdeal : Cert.LossRefIdeal.Facts) (hRopeQ : Cert.RopeQ.Facts) (hRopeQIdeal : Cert.RopeQIdeal.Facts) (hRopeQRefIdeal : Cert.RopeQRefIdeal.Facts) (hRopeK : Cert.RopeK.Facts) (hRopeKIdeal : Cert.RopeKIdeal.Facts) (hRopeKRefIdeal : Cert.RopeKRefIdeal.Facts) (hOutn : Cert.Outn.Facts) (hOutnIdeal : Cert.OutnIdeal.Facts) (hOutnRefIdeal : Cert.OutnRefIdeal.Facts) (hGate : Cert.Gate.Facts) (hGateIdeal : Cert.GateIdeal.Facts) (hGateRefIdeal : Cert.GateRefIdeal.Facts) (hNormFwd : Cert.NormFwd.Facts) (hNormFwdIdeal : Cert.NormFwdIdeal.Facts) (hNormFwdRefIdeal : Cert.NormFwdRefIdeal.Facts) (hOutnFwd : Cert.OutnFwd.Facts) (hOutnFwdIdeal : Cert.OutnFwdIdeal.Facts) (hOutnFwdRefIdeal : Cert.OutnFwdRefIdeal.Facts) (hRopeQFwd : Cert.RopeQFwd.Facts) (hRopeQFwdIdeal : Cert.RopeQFwdIdeal.Facts) (hRopeQFwdRefIdeal : Cert.RopeQFwdRefIdeal.Facts) (hRopeKFwd : Cert.RopeKFwd.Facts) (hRopeKFwdIdeal : Cert.RopeKFwdIdeal.Facts) (hRopeKFwdRefIdeal : Cert.RopeKFwdRefIdeal.Facts) (hFfnUp : Cert.FfnUp.Facts) (hFfnUpIdeal : Cert.FfnUpIdeal.Facts) (hFfnUpRefIdeal : Cert.FfnUpRefIdeal.Facts) (hPrepFwd : Cert.PrepFwd.Facts) (hPrepFwdIdeal : Cert.PrepFwdIdeal.Facts) (hPrepFwdRefIdeal : Cert.PrepFwdRefIdeal.Facts) (hDown : Cert.Down.Facts) (hDownIdeal : Cert.DownIdeal.Facts) (hDownRefIdeal : Cert.DownRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hAdamSmall : Cert.AdamSmall.Facts) (hAdamSmallIdeal : Cert.AdamSmallIdeal.Facts) (hAdamSmallRefIdeal : Cert.AdamSmallRefIdeal.Facts) (hAdamLayer : Cert.AdamLayer.Facts) (hAdamLayerIdeal : Cert.AdamLayerIdeal.Facts) (hAdamLayerRefIdeal : Cert.AdamLayerRefIdeal.Facts) (hAddHalf : Cert.AddHalf.Facts) (hAddHalfIdeal : Cert.AddHalfIdeal.Facts) (hAddHalfRefIdeal : Cert.AddHalfRefIdeal.Facts) (hSumChips : Cert.SumChips.Facts) (hSumChipsIdeal : Cert.SumChipsIdeal.Facts) (hSumChipsRefIdeal : Cert.SumChipsRefIdeal.Facts) (hCastLayer : Cert.CastLayer.Facts) (hCastLayerIdeal : Cert.CastLayerIdeal.Facts) (hCastLayerRefIdeal : Cert.CastLayerRefIdeal.Facts) (hPre_norm_finite : Cert.Pre_norm_finite.Facts) (hPre_gqa_finite : Cert.Pre_gqa_finite.Facts) (hPre_mla_finite : Cert.Pre_mla_finite.Facts) (hPre_fnorm_finite : Cert.Pre_fnorm_finite.Facts) (hPre_outn_finite : Cert.Pre_outn_finite.Facts) (hPre_gate_finite : Cert.Pre_gate_finite.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Fnorm (hFnorm := hFnorm)
    ∧ quiescent_FnormIdeal (hFnormIdeal := hFnormIdeal)
    ∧ quiescent_FnormIdeal_pre_fnorm_finite (hFnormIdeal := hFnormIdeal) (hPre_fnorm_finite := hPre_fnorm_finite)
    ∧ quiescent_FnormRefIdeal (hFnormRefIdeal := hFnormRefIdeal)
    ∧ quiescent_FnormRefIdeal_pre_fnorm_finite (hFnormRefIdeal := hFnormRefIdeal) (hPre_fnorm_finite := hPre_fnorm_finite)
    ∧ quiescent_Loss (hLoss := hLoss)
    ∧ quiescent_LossIdeal (hLossIdeal := hLossIdeal)
    ∧ quiescent_LossRefIdeal (hLossRefIdeal := hLossRefIdeal)
    ∧ quiescent_RopeQ (hRopeQ := hRopeQ)
    ∧ quiescent_RopeQIdeal (hRopeQIdeal := hRopeQIdeal)
    ∧ quiescent_RopeQRefIdeal (hRopeQRefIdeal := hRopeQRefIdeal)
    ∧ quiescent_RopeK (hRopeK := hRopeK)
    ∧ quiescent_RopeKIdeal (hRopeKIdeal := hRopeKIdeal)
    ∧ quiescent_RopeKRefIdeal (hRopeKRefIdeal := hRopeKRefIdeal)
    ∧ quiescent_Outn (hOutn := hOutn)
    ∧ quiescent_OutnIdeal (hOutnIdeal := hOutnIdeal)
    ∧ quiescent_OutnIdeal_pre_outn_finite (hOutnIdeal := hOutnIdeal) (hPre_outn_finite := hPre_outn_finite)
    ∧ quiescent_OutnRefIdeal (hOutnRefIdeal := hOutnRefIdeal)
    ∧ quiescent_OutnRefIdeal_pre_outn_finite (hOutnRefIdeal := hOutnRefIdeal) (hPre_outn_finite := hPre_outn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_OutnFwd (hOutnFwd := hOutnFwd)
    ∧ quiescent_OutnFwdIdeal (hOutnFwdIdeal := hOutnFwdIdeal)
    ∧ quiescent_OutnFwdRefIdeal (hOutnFwdRefIdeal := hOutnFwdRefIdeal)
    ∧ quiescent_RopeQFwd (hRopeQFwd := hRopeQFwd)
    ∧ quiescent_RopeQFwdIdeal (hRopeQFwdIdeal := hRopeQFwdIdeal)
    ∧ quiescent_RopeQFwdRefIdeal (hRopeQFwdRefIdeal := hRopeQFwdRefIdeal)
    ∧ quiescent_RopeKFwd (hRopeKFwd := hRopeKFwd)
    ∧ quiescent_RopeKFwdIdeal (hRopeKFwdIdeal := hRopeKFwdIdeal)
    ∧ quiescent_RopeKFwdRefIdeal (hRopeKFwdRefIdeal := hRopeKFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_Down (hDown := hDown)
    ∧ quiescent_DownIdeal (hDownIdeal := hDownIdeal)
    ∧ quiescent_DownRefIdeal (hDownRefIdeal := hDownRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamLayer (hAdamLayer := hAdamLayer)
    ∧ quiescent_AdamLayerIdeal (hAdamLayerIdeal := hAdamLayerIdeal)
    ∧ quiescent_AdamLayerRefIdeal (hAdamLayerRefIdeal := hAdamLayerRefIdeal)
    ∧ quiescent_AddHalf (hAddHalf := hAddHalf)
    ∧ quiescent_AddHalfIdeal (hAddHalfIdeal := hAddHalfIdeal)
    ∧ quiescent_AddHalfRefIdeal (hAddHalfRefIdeal := hAddHalfRefIdeal)
    ∧ quiescent_SumChips (hSumChips := hSumChips)
    ∧ quiescent_SumChipsIdeal (hSumChipsIdeal := hSumChipsIdeal)
    ∧ quiescent_SumChipsRefIdeal (hSumChipsRefIdeal := hSumChipsRefIdeal)
    ∧ quiescent_CastLayer (hCastLayer := hCastLayer)
    ∧ quiescent_CastLayerIdeal (hCastLayerIdeal := hCastLayerIdeal)
    ∧ quiescent_CastLayerRefIdeal (hCastLayerRefIdeal := hCastLayerRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Fnorm_FnormIdeal
    ∧ algebraic_FnormIdeal_FnormRefIdeal_pre_fnorm_finite (hFnormIdeal := hFnormIdeal) (hFnormRefIdeal := hFnormRefIdeal) (hPre_fnorm_finite := hPre_fnorm_finite)
    ∧ preserves_Loss_LossIdeal
    ∧ algebraic_LossIdeal_LossRefIdeal (hLossIdeal := hLossIdeal) (hLossRefIdeal := hLossRefIdeal)
    ∧ preserves_RopeQ_RopeQIdeal
    ∧ algebraic_RopeQIdeal_RopeQRefIdeal (hRopeQIdeal := hRopeQIdeal) (hRopeQRefIdeal := hRopeQRefIdeal)
    ∧ preserves_RopeK_RopeKIdeal
    ∧ algebraic_RopeKIdeal_RopeKRefIdeal (hRopeKIdeal := hRopeKIdeal) (hRopeKRefIdeal := hRopeKRefIdeal)
    ∧ preserves_Outn_OutnIdeal
    ∧ algebraic_OutnIdeal_OutnRefIdeal_pre_outn_finite (hOutnIdeal := hOutnIdeal) (hOutnRefIdeal := hOutnRefIdeal) (hPre_outn_finite := hPre_outn_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_NormFwd_NormFwdIdeal
    ∧ algebraic_NormFwdIdeal_NormFwdRefIdeal (hNormFwdIdeal := hNormFwdIdeal) (hNormFwdRefIdeal := hNormFwdRefIdeal)
    ∧ preserves_OutnFwd_OutnFwdIdeal
    ∧ algebraic_OutnFwdIdeal_OutnFwdRefIdeal (hOutnFwdIdeal := hOutnFwdIdeal) (hOutnFwdRefIdeal := hOutnFwdRefIdeal)
    ∧ preserves_RopeQFwd_RopeQFwdIdeal
    ∧ algebraic_RopeQFwdIdeal_RopeQFwdRefIdeal (hRopeQFwdIdeal := hRopeQFwdIdeal) (hRopeQFwdRefIdeal := hRopeQFwdRefIdeal)
    ∧ preserves_RopeKFwd_RopeKFwdIdeal
    ∧ algebraic_RopeKFwdIdeal_RopeKFwdRefIdeal (hRopeKFwdIdeal := hRopeKFwdIdeal) (hRopeKFwdRefIdeal := hRopeKFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_Down_DownIdeal
    ∧ algebraic_DownIdeal_DownRefIdeal (hDownIdeal := hDownIdeal) (hDownRefIdeal := hDownRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamLayer_AdamLayerIdeal
    ∧ algebraic_AdamLayerIdeal_AdamLayerRefIdeal (hAdamLayerIdeal := hAdamLayerIdeal) (hAdamLayerRefIdeal := hAdamLayerRefIdeal)
    ∧ preserves_AddHalf_AddHalfIdeal
    ∧ algebraic_AddHalfIdeal_AddHalfRefIdeal (hAddHalfIdeal := hAddHalfIdeal) (hAddHalfRefIdeal := hAddHalfRefIdeal)
    ∧ preserves_SumChips_SumChipsIdeal
    ∧ algebraic_SumChipsIdeal_SumChipsRefIdeal (hSumChipsIdeal := hSumChipsIdeal) (hSumChipsRefIdeal := hSumChipsRefIdeal)
    ∧ preserves_CastLayer_CastLayerIdeal
    ∧ algebraic_CastLayerIdeal_CastLayerRefIdeal (hCastLayerIdeal := hCastLayerIdeal) (hCastLayerRefIdeal := hCastLayerRefIdeal)
-- ==== Pre_fnorm_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048 .f32) : IVec S2048x2048 1 × IVec S2048x2048 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_gate_finite.lean ====
abbrev S1x2048x11264 : Shape := ⟨3, ![1, 2048, 11264]⟩
abbrev S3x11264 : Shape := ⟨2, ![3, 11264]⟩
abbrev S11264 : Shape := ⟨1, ![11264]⟩
abbrev S1x2048x5632 : Shape := ⟨3, ![1, 2048, 5632]⟩
abbrev S_ : Shape := ⟨0, ![]⟩

class Facts : Prop where
  bcast_S_S1x2048x11264 : S_.BroadcastsInDim S1x2048x11264 (![] : Fin 0 → Fin S1x2048x11264.rank)
  bcast_S_S3x11264 : S_.BroadcastsInDim S3x11264 (![] : Fin 0 → Fin S3x11264.rank)
  bcast_S_S11264 : S_.BroadcastsInDim S11264 (![] : Fin 0 → Fin S11264.rank)
  bcast_S_S1x2048x5632 : S_.BroadcastsInDim S1x2048x5632 (![] : Fin 0 → Fin S1x2048x5632.rank)

variable [Facts]

def fn {F : FTy → Type} [FloatOps F] (main_arg0 : FVec F S1x2048x11264 .f32) (main_arg1 : FVec F S3x11264 .f32) (main_arg2 : FVec F S11264 .f32) (main_arg3 : FVec F S1x2048x5632 .f32) : IVec S1x2048x11264 1 × IVec S3x11264 1 × IVec S11264 1 × IVec S1x2048x5632 1 :=
  let main_v0 : FVec F S1x2048x11264 .f32 := Host.absf main_arg0
  let main_cst : FVec F S_ .f32 := constant S_ .f32 0x7F800000#32
  let main_v1 : FVec F S1x2048x11264 .f32 := broadcastInDim S1x2048x11264 ![] bcast_S_S1x2048x11264 main_cst
  let main_v2 : IVec S1x2048x11264 1 := cmpf .olt main_v0 main_v1
  let main_v3 : FVec F S3x11264 .f32 := Host.absf main_arg1
  let main_cst_0 : FVec F S_ .f32 := constant S_ .f32 0x7F800000#32
  let main_v4 : FVec F S3x11264 .f32 := broadcastInDim S3x11264 ![] bcast_S_S3x11264 main_cst_0
  let main_v5 : IVec S3x11264 1 := cmpf .olt main_v3 main_v4
  let main_v6 : FVec F S11264 .f32 := Host.absf main_arg2
  let main_cst_1 : FVec F S_ .f32 := constant S_ .f32 0x7F800000#32
  let main_v7 : FVec F S11264 .f32 := broadcastInDim S11264 ![] bcast_S_S11264 main_cst_1
  let main_v8 : IVec S11264 1 := cmpf .olt main_v6 main_v7
  let main_v9 : FVec F S1x2048x5632 .f32 := Host.absf main_arg3
  let main_cst_2 : FVec F S_ .f32 := constant S_ .f32 0x7F800000#32
  let main_v10 : FVec F S1x2048x5632 .f32 := broadcastInDim S1x2048x5632 ![] bcast_S_S1x2048x5632 main_cst_2
  let main_v11 : IVec S1x2048x5632 1 := cmpf .olt main_v9 main_v10
  (main_v2, main_v5, main_v8, main_v11)
-- ==== Pre_gqa_finite.lean ====
abbrev S1x2048x6x128 : Shape := ⟨4, ![1, 2048, 6, 128]⟩
abbrev S1x2048x2x128 : Shape := ⟨4, ![1, 2048, 2, 128]⟩
abbrev S1x2048x768 : Shape := ⟨3, ![1, 2048, 768]⟩
abbrev S_ : Shape := ⟨0, ![]⟩

class Facts : Prop where
  bcast_S_S1x2048x6x128 : S_.BroadcastsInDim S1x2048x6x128 (![] : Fin 0 → Fin S1x2048x6x128.rank)
  bcast_S_S1x2048x2x128 : S_.BroadcastsInDim S1x2048x2x128 (![] : Fin 0 → Fin S1x2048x2x128.rank)
  bcast_S_S1x2048x768 : S_.BroadcastsInDim S1x2048x768 (![] : Fin 0 → Fin S1x2048x768.rank)

variable [Facts]

def fn {F : FTy → Type} [FloatOps F] (main_arg0 : FVec F S1x2048x6x128 .f32) (main_arg1 : FVec F S1x2048x2x128 .f32) (main_arg2 : FVec F S1x2048x2x128 .f32) (main_arg3 : FVec F S1x2048x768 .f32) : IVec S1x2048x6x128 1 × IVec S1x2048x2x128 1 × IVec S1x2048x2x128 1 × IVec S1x2048x768 1 :=
  let main_v0 : FVec F S1x2048x6x128 .f32 := Host.absf main_arg0
  let main_cst : FVec F S_ .f32 := constant S_ .f32 0x7F800000#32
  let main_v1 : FVec F S1x2048x6x128 .f32 := broadcastInDim S1x2048x6x128 ![] bcast_S_S1x2048x6x128 main_cst
  let main_v2 : IVec S1x2048x6x128 1 := cmpf .olt main_v0 main_v1
  let main_v3 : FVec F S1x2048x2x128 .f32 := Host.absf main_arg1
  let main_cst_0 : FVec F S_ .f32 := constant S_ .f32 0x7F800000#32
  let main_v4 : FVec F S1x2048x2x128 .f32 := broadcastInDim S1x2048x2x128 ![] bcast_S_S1x2048x2x128 main_cst_0
  let main_v5 : IVec S1x2048x2x128 1 := cmpf .olt main_v3 main_v4
  let main_v6 : FVec F S1x2048x2x128 .f32 := Host.absf main_arg2
  let main_cst_1 : FVec F S_ .f32 := constant S_ .f32 0x7F800000#32
  let main_v7 : FVec F S1x2048x2x128 .f32 := broadcastInDim S1x2048x2x128 ![] bcast_S_S1x2048x2x128 main_cst_1
  let main_v8 : IVec S1x2048x2x128 1 := cmpf .olt main_v6 main_v7
  let main_v9 : FVec F S1x2048x768 .f32 := Host.absf main_arg3
  let main_cst_2 : FVec F S_ .f32 := constant S_ .f32 0x7F800000#32
  let main_v10 : FVec F S1x2048x768 .f32 := broadcastInDim S1x2048x768 ![] bcast_S_S1x2048x768 main_cst_2
  let main_v11 : IVec S1x2048x768 1 := cmpf .olt main_v9 main_v10
  (main_v2, main_v5, main_v8, main_v11)
-- ==== Pre_mla_finite.lean ====
abbrev S1x2048x6x192 : Shape := ⟨4, ![1, 2048, 6, 192]⟩
abbrev S1x2048x6x256 : Shape := ⟨4, ![1, 2048, 6, 256]⟩
abbrev S1x2048x1x64 : Shape := ⟨4, ![1, 2048, 1, 64]⟩
abbrev S1x2048x768 : Shape := ⟨3, ![1, 2048, 768]⟩
abbrev S_ : Shape := ⟨0, ![]⟩

class Facts : Prop where
  bcast_S_S1x2048x6x192 : S_.BroadcastsInDim S1x2048x6x192 (![] : Fin 0 → Fin S1x2048x6x192.rank)
  bcast_S_S1x2048x6x256 : S_.BroadcastsInDim S1x2048x6x256 (![] : Fin 0 → Fin S1x2048x6x256.rank)
  bcast_S_S1x2048x1x64 : S_.BroadcastsInDim S1x2048x1x64 (![] : Fin 0 → Fin S1x2048x1x64.rank)
  bcast_S_S1x2048x768 : S_.BroadcastsInDim S1x2048x768 (![] : Fin 0 → Fin S1x2048x768.rank)

variable [Facts]

def fn {F : FTy → Type} [FloatOps F] (main_arg0 : FVec F S1x2048x6x192 .f32) (main_arg1 : FVec F S1x2048x6x256 .f32) (main_arg2 : FVec F S1x2048x1x64 .f32) (main_arg3 : FVec F S1x2048x768 .f32) : IVec S1x2048x6x192 1 × IVec S1x2048x6x256 1 × IVec S1x2048x1x64 1 × IVec S1x2048x768 1 :=
  let main_v0 : FVec F S1x2048x6x192 .f32 := Host.absf main_arg0
  let main_cst : FVec F S_ .f32 := constant S_ .f32 0x7F800000#32
  let main_v1 : FVec F S1x2048x6x192 .f32 := broadcastInDim S1x2048x6x192 ![] bcast_S_S1x2048x6x192 main_cst
  let main_v2 : IVec S1x2048x6x192 1 := cmpf .olt main_v0 main_v1
  let main_v3 : FVec F S1x2048x6x256 .f32 := Host.absf main_arg1
  let main_cst_0 : FVec F S_ .f32 := constant S_ .f32 0x7F800000#32
  let main_v4 : FVec F S1x2048x6x256 .f32 := broadcastInDim S1x2048x6x256 ![] bcast_S_S1x2048x6x256 main_cst_0
  let main_v5 : IVec S1x2048x6x256 1 := cmpf .olt main_v3 main_v4
  let main_v6 : FVec F S1x2048x1x64 .f32 := Host.absf main_arg2
  let main_cst_1 : FVec F S_ .f32 := constant S_ .f32 0x7F800000#32
  let main_v7 : FVec F S1x2048x1x64 .f32 := broadcastInDim S1x2048x1x64 ![] bcast_S_S1x2048x1x64 main_cst_1
  let main_v8 : IVec S1x2048x1x64 1 := cmpf .olt main_v6 main_v7
  let main_v9 : FVec F S1x2048x768 .f32 := Host.absf main_arg3
  let main_cst_2 : FVec F S_ .f32 := constant S_ .f32 0x7F800000#32
  let main_v10 : FVec F S1x2048x768 .f32 := broadcastInDim S1x2048x768 ![] bcast_S_S1x2048x768 main_cst_2
  let main_v11 : IVec S1x2048x768 1 := cmpf .olt main_v9 main_v10
  (main_v2, main_v5, main_v8, main_v11)
-- ==== Pre_norm_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048 .f32) (main_arg3 : FVec F S2048x2048 .f32) : IVec S2048x2048 1 × IVec S2048x2048 1 × IVec S2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_outn_finite.lean ====
abbrev S2048x2048 : Shape := ⟨2, ![2048, 2048]⟩
abbrev S2048x768 : Shape := ⟨2, ![2048, 768]⟩
abbrev S2048x512 : Shape := ⟨2, ![2048, 512]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048x768 : S_.BroadcastsInDim S2048x768 (![] : Fin 0 → Fin S2048x768.rank)
  bcast_S_S2048x512 : S_.BroadcastsInDim S2048x512 (![] : Fin 0 → Fin S2048x512.rank)
  bcast_S_S2048 : S_.BroadcastsInDim S2048 (![] : Fin 0 → Fin S2048.rank)

variable [Facts]

def fn {F : FTy → Type} [FloatOps F] (main_arg0 : FVec F S2048x2048 .f32) (main_arg1 : FVec F S2048x768 .f32) (main_arg2 : FVec F S2048x512 .f32) (main_arg3 : FVec F S2048x768 .f32) (main_arg4 : FVec F S2048 .f32) : IVec S2048x2048 1 × IVec S2048x768 1 × IVec S2048x512 1 × IVec S2048x768 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x768 .f32 := Host.absf main_arg1
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x768 .f32 := Host.absf main_arg3
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  (main_v2, main_v5, main_v8, main_v11, main_v14)
-- ==== Norm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Gqa.lean ====
abbrev S1x2048x6x128 : Shape := ⟨4, ![1, 2048, 6, 128]⟩
abbrev S1x2048x2x128 : Shape := ⟨4, ![1, 2048, 2, 128]⟩
abbrev S1x2048x768 : Shape := ⟨3, ![1, 2048, 768]⟩
abbrev S2048x768 : Shape := ⟨2, ![2048, 768]⟩
abbrev S2048x256 : Shape := ⟨2, ![2048, 256]⟩
abbrev S512x128 : Shape := ⟨2, ![512, 128]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 28
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x2x128, .f32⟩
  | .hbm, ⟨2, _⟩ => ⟨S1x2048x2x128, .f32⟩
  | .hbm, ⟨3, _⟩ => ⟨S1x2048x768, .f32⟩
  | .hbm, ⟨4, _⟩ => ⟨S2048x768, .f32⟩
  | .hbm, ⟨5, _⟩ => ⟨S2048x768, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .bf16⟩
  | .hbm, ⟨10, _⟩ => ⟨S2048x768, .f32⟩
  | .hbm, ⟨11, _⟩ => ⟨S2048x768, .bf16⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x256, .f32⟩
  | .hbm, ⟨16, _⟩ => ⟨S2048x256, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S1x2048x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_8 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== GqaRefIdeal.lean ====
abbrev S1x2048x6x128 : Shape := ⟨4, ![1, 2048, 6, 128]⟩
abbrev S1x2048x2x128 : Shape := ⟨4, ![1, 2048, 2, 128]⟩
abbrev S1x2048x768 : Shape := ⟨3, ![1, 2048, 768]⟩
abbrev S1x2048x2x3x128 : Shape := ⟨5, ![1, 2048, 2, 3, 128]⟩
abbrev S1x2x2048x2048x3 : Shape := ⟨5, ![1, 2, 2048, 2048, 3]⟩
abbrev S1x2x3x2048x2048 : Shape := ⟨5, ![1, 2, 3, 2048, 2048]⟩
abbrev S_ : Shape := ⟨0, ![]⟩
abbrev S1x2x3x2048 : Shape := ⟨4, ![1, 2, 3, 2048]⟩
abbrev S1x2x3x2048x1 : Shape := ⟨5, ![1, 2, 3, 2048, 1]⟩
abbrev S1x2x128x3x2048 : Shape := ⟨5, ![1, 2, 128, 3, 2048]⟩
abbrev S1x2x128x2048 : Shape := ⟨4, ![1, 2, 128, 2048]⟩
abbrev S2x3x2048 : Shape := ⟨3, ![2, 3, 2048]⟩
abbrev S1x2x2048x3x128 : Shape := ⟨5, ![1, 2, 2048, 3, 128]⟩
abbrev S1x2x2048x128 : Shape := ⟨4, ![1, 2, 2048, 128]⟩
abbrev S2048x768 : Shape := ⟨2, ![2048, 768]⟩
abbrev S2048x256 : Shape := ⟨2, ![2048, 256]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x6x128, .f32⟩
  | .hbm, ⟨1, _⟩ => ⟨S1x2048x2x128, .f32⟩
  | .hbm, ⟨2, _⟩ => ⟨S1x2048x2x128, .f32⟩
  | .hbm, ⟨3, _⟩ => ⟨S1x2048x768, .f32⟩
  | .hbm, ⟨4, _⟩ => ⟨S1x2048x2x3x128, .f32⟩
  | .hbm, ⟨5, _⟩ => ⟨S1x2x2048x2048x3, .f32⟩
  | .hbm, ⟨6, _⟩ => ⟨S1x2x3x2048x2048, .f32⟩
  | .hbm, ⟨7, _⟩ => ⟨S_, .f32⟩
  | .hbm, ⟨8, _⟩ => ⟨S1x2x3x2048x2048, .f32⟩
  | .hbm, ⟨9, _⟩ => ⟨S1x2x3x2048x2048, .f32⟩
  | .hbm, ⟨10, _⟩ => ⟨S_, .f32⟩
  | .hbm, ⟨11, _⟩ => ⟨S1x2x3x2048, .f32⟩
  | .hbm, ⟨12, _⟩ => ⟨S1x2x3x2048x1, .f32⟩
  | .hbm, ⟨13, _⟩ => ⟨S1x2x3x2048x2048, .f32⟩
  | .hbm, ⟨14, _⟩ => ⟨S1x2x3x2048x2048, .i1⟩
  | .hbm, ⟨15, _⟩ => ⟨S1x2x3x2048x2048, .f32⟩
  | .hbm, ⟨16, _⟩ => ⟨S_, .f32⟩
  | .hbm, ⟨17, _⟩ => ⟨S1x2x3x2048, .f32⟩
  | .hbm, ⟨18, _⟩ => ⟨S_, .f32⟩
  | .hbm, ⟨19, _⟩ => ⟨S1x2x3x2048, .f32⟩
  | .hbm, ⟨20, _⟩ => ⟨S1x2x3x2048, .f32⟩
  | .hbm, ⟨21, _⟩ => ⟨S_, .f32⟩
  | .hbm, ⟨22, _⟩ => ⟨S1x2x3x2048, .f32⟩
  | .hbm, ⟨23, _⟩ => ⟨S1x2x3x2048, .i1⟩
  | .hbm, ⟨24, _⟩ => ⟨S_, .f32⟩
  | .hbm, ⟨25, _⟩ => ⟨S1x2x3x2048, .f32⟩
  | .hbm, ⟨26, _⟩ => ⟨S1x2x3x2048, .i1⟩
  | .hbm, ⟨27, _⟩ => ⟨S_, .f32⟩
  | .hbm, ⟨28, _⟩ => ⟨S1x2x3x2048, .f32⟩
  | .hbm, ⟨29, _⟩ => ⟨S_, .f32⟩
  | .hbm, ⟨30, _⟩ => ⟨S1x2x3x2048, .f32⟩
  | .hbm, ⟨31, _⟩ => ⟨S_, .f32⟩
  | .hbm, ⟨32, _⟩ => ⟨S1x2x3x2048, .f32⟩
  | .hbm, ⟨33, _⟩ => ⟨S1x2x3x2048, .f32⟩
  | .hbm, ⟨34, _⟩ => ⟨S1x2x3x2048, .f32⟩
  | .hbm, ⟨35, _⟩ => ⟨S1x2x3x2048x1, .f32⟩
  | .hbm, ⟨36, _⟩ => ⟨S1x2x3x2048x2048, .f32⟩
  | .hbm, ⟨37, _⟩ => ⟨S1x2x3x2048x2048, .f32⟩
  | .hbm, ⟨38, _⟩ => ⟨S1x2x3x2048x2048, .f32⟩
  | .hbm, ⟨39, _⟩ => ⟨S_, .f32⟩
  | .hbm, ⟨40, _⟩ => ⟨S1x2x3x2048, .f32⟩
  | .hbm, ⟨41, _⟩ => ⟨S1x2x3x2048x1, .f32⟩
  | .hbm, ⟨42, _⟩ => ⟨S1x2x3x2048x2048, .f32⟩
  | .hbm, ⟨43, _⟩ => ⟨S1x2x3x2048x2048, .f32⟩
  | .hbm, ⟨44, _⟩ => ⟨S1x2x3x2048x1, .f32⟩
  | .hbm, ⟨45, _⟩ => ⟨S_, .f32⟩
  | .hbm, ⟨46, _⟩ => ⟨S1x2x3x2048x1, .f32⟩
  | .hbm, ⟨47, _⟩ => ⟨S1x2x3x2048x1, .f32⟩
  | .hbm, ⟨48, _⟩ => ⟨S1x2x128x3x2048, .f32⟩
  | .hbm, ⟨49, _⟩ => ⟨S1x2048x2x3x128, .f32⟩
  | .hbm, ⟨50, _⟩ => ⟨S1x2048x768, .f32⟩
  | .hbm, ⟨51, _⟩ => ⟨S1x2048x2x3x128, .f32⟩
  | .hbm, ⟨52, _⟩ => ⟨S1x2x128x3x2048, .f32⟩
  | .hbm, ⟨53, _⟩ => ⟨S1x2x3x2048x2048, .f32⟩
  | .hbm, ⟨54, _⟩ => ⟨S1x2x128x2048, .f32⟩
  | .hbm, ⟨55, _⟩ => ⟨S1x2048x2x128, .f32⟩
  | .hbm, ⟨56, _⟩ => ⟨S1x2x3x2048x2048, .f32⟩
  | .hbm, ⟨57, _⟩ => ⟨S1x2x3x2048x2048, .f32⟩
  | .hbm, ⟨58, _⟩ => ⟨S1x2x3x2048x2048, .f32⟩
  | .hbm, ⟨59, _⟩ => ⟨S_, .f32⟩
  | .hbm, ⟨60, _⟩ => ⟨S1x2x3x2048, .f32⟩
  | .hbm, ⟨61, _⟩ => ⟨S1x2x3x2048x1, .f32⟩
  | .hbm, ⟨62, _⟩ => ⟨S1x2x3x2048x1, .f32⟩
  | .hbm, ⟨63, _⟩ => ⟨S1x2x3x2048x2048, .f32⟩
  | .hbm, ⟨64, _⟩ => ⟨S1x2x3x2048x2048, .f32⟩
  | .hbm, ⟨65, _⟩ => ⟨S_, .f32⟩
  | .hbm, ⟨66, _⟩ => ⟨S2x3x2048, .f32⟩
  | .hbm, ⟨67, _⟩ => ⟨S1x2x3x2048, .f32⟩
  | .hbm, ⟨68, _⟩ => ⟨S1x2x3x2048x2048, .f32⟩
  | .hbm, ⟨69, _⟩ => ⟨S1x2x3x2048x2048, .f32⟩
  | .hbm, ⟨70, _⟩ => ⟨S1x2x3x2048x2048, .f32⟩
  | .hbm, ⟨71, _⟩ => ⟨S_, .f32⟩
  | .hbm, ⟨72, _⟩ => ⟨S1x2x3x2048x2048, .f32⟩
  | .hbm, ⟨73, _⟩ => ⟨S1x2x3x2048x2048, .f32⟩
  | .hbm, ⟨74, _⟩ => ⟨S1x2x2048x2048x3, .f32⟩
  | .hbm, ⟨75, _⟩ => ⟨S1x2x2048x3x128, .f32⟩
  | .hbm, ⟨76, _⟩ => ⟨S1x2048x2x3x128, .f32⟩
  | .hbm, ⟨77, _⟩ => ⟨S1x2x2048x128, .f32⟩
  | .hbm, ⟨78, _⟩ => ⟨S1x2048x2x128, .f32⟩
  | .hbm, ⟨79, _⟩ => ⟨S1x2048x6x128, .f32⟩
  | .hbm, ⟨80, _⟩ => ⟨S2048x768, .f32⟩
  | .hbm, ⟨81, _⟩ => ⟨S2048x768, .f32⟩
  | .hbm, ⟨82, _⟩ => ⟨S2048x256, .f32⟩
  | .hbm, ⟨83, _⟩ => ⟨S2048x256, .f32⟩
  | _, _ => ⟨S1x2048x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Mla.lean ====
abbrev S1x2048x6x192 : Shape := ⟨4, ![1, 2048, 6, 192]⟩
abbrev S1x2048x6x256 : Shape := ⟨4, ![1, 2048, 6, 256]⟩
abbrev S1x2048x1x64 : Shape := ⟨4, ![1, 2048, 1, 64]⟩
abbrev S1x2048x768 : Shape := ⟨3, ![1, 2048, 768]⟩
abbrev S2048x6x192 : Shape := ⟨3, ![2048, 6, 192]⟩
abbrev S2048x6x64 : Shape := ⟨3, ![2048, 6, 64]⟩
abbrev S_ : Shape := ⟨0, ![]⟩
abbrev S2048x6x128 : Shape := ⟨3, ![2048, 6, 128]⟩
abbrev S2048x768 : Shape := ⟨2, ![2048, 768]⟩
abbrev S2048x1536 : Shape := ⟨2, ![2048, 1536]⟩
abbrev S2048x64 : Shape := ⟨2, ![2048, 64]⟩
abbrev S2048x128 : Shape := ⟨2, ![2048, 128]⟩
abbrev S512x128 : Shape := ⟨2, ![512, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩

abbrev nBuf : Space → Nat
  | .hbm => 29
  | .vmem => 35
  | .smem => 0
  | _ => 0

abbrev bufTy : (tb : Table) → Fin (tcTables nBuf tb) → BufTy
  | .hbm, ⟨0, _⟩ => ⟨S1x2048x6x192, .f32⟩
  | .hbm, ⟨1, _⟩ => ⟨S1x2048x6x256, .f32⟩
  | .hbm, ⟨2, _⟩ => ⟨S1x2048x1x64, .f32⟩
  | .hbm, ⟨3, _⟩ => ⟨S1x2048x768, .f32⟩
  | .hbm, ⟨4, _⟩ => ⟨S2048x6x192, .f32⟩
  | .hbm, ⟨5, _⟩ => ⟨S2048x6x64, .f32⟩
  | .hbm, ⟨6, _⟩ => ⟨S_, .i32⟩
  | .hbm, ⟨7, _⟩ => ⟨S_, .f32⟩
  | .hbm, ⟨8, _⟩ => ⟨S2048x6x128, .f32⟩
  | .hbm, ⟨9, _⟩ => ⟨S2048x6x128, .f32⟩
  | .hbm, ⟨10, _⟩ => ⟨S2048x768, .f32⟩
  | .hbm, ⟨11, _⟩ => ⟨S2048x768, .f32⟩
  | .hbm, ⟨12, _⟩ => ⟨S2048x1536, .f32⟩
  | .hbm, ⟨13, _⟩ => ⟨S2048x1536, .bf16⟩
  | .hbm, ⟨14, _⟩ => ⟨S2048x1536, .f32⟩
  | .hbm, ⟨15, _⟩ => ⟨S2048x1536, .bf16⟩
  | .hbm, ⟨16, _⟩ => ⟨S2048x64, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x128, .bf16⟩
  | .hbm, ⟨21, _⟩ => ⟨S2048x768, .f32⟩
  | .hbm, ⟨22, _⟩ => ⟨S2048x768, .bf16⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S2048x1536, .f32⟩
  | .hbm, ⟨28, _⟩ => ⟨S2048x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S2048x256, .f32⟩
  | .local _ .vmem, ⟨33, _⟩ => ⟨S2048x256, .f32⟩
  | .local _ .vmem, ⟨34, _⟩ => ⟨S2048x128, .f32⟩
  | _, _ => ⟨S1x2048x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2048x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2048x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S2048x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]
-- ==== MlaRefIdeal.lean ====
abbrev S1x2048x6x192 : Shape := ⟨4, ![1, 2048, 6, 192]⟩
abbrev S1x2048x6x256 : Shape := ⟨4, ![1, 2048, 6, 256]⟩
abbrev S1x2048x1x64 : Shape := ⟨4, ![1, 2048, 1, 64]⟩
abbrev S1x2048x768 : Shape := ⟨3, ![1, 2048, 768]⟩
abbrev S1x2048x6x128 : Shape := ⟨4, ![1, 2048, 6, 128]⟩
abbrev S1x2048x6x64 : Shape := ⟨4, ![1, 2048, 6, 64]⟩
abbrev S1x2048x6x1x192 : Shape := ⟨5, ![1, 2048, 6, 1, 192]⟩
abbrev S1x6x2048x2048x1 : Shape := ⟨5, ![1, 6, 2048, 2048, 1]⟩
abbrev S1x6x1x2048x2048 : Shape := ⟨5, ![1, 6, 1, 2048, 2048]⟩
abbrev S_ : Shape := ⟨0, ![]⟩
abbrev S1x6x1x2048 : Shape := ⟨4, ![1, 6, 1, 2048]⟩
abbrev S1x6x1x2048x1 : Shape := ⟨5, ![1, 6, 1, 2048, 1]⟩
abbrev S1x6x128x1x2048 : Shape := ⟨5, ![1, 6, 128, 1, 2048]⟩
abbrev S1x2048x6x1x128 : Shape := ⟨5, ![1, 2048, 6, 1, 128]⟩
abbrev S1x6x128x2048 : Shape := ⟨4, ![1, 6, 128, 2048]⟩
abbrev S6x2048 : Shape := ⟨2, ![6, 2048]⟩
abbrev S1x6x2048x1x192 : Shape := ⟨5, ![1, 6, 2048, 1, 192]⟩
abbrev S1x6x2048x192 : Shape := ⟨4, ![1, 6, 2048, 192]⟩
abbrev S2048x64 : Shape := ⟨2, ![2048, 64]⟩
abbrev S2048x6x64 : Shape := ⟨3, ![2048, 6, 64]⟩
abbrev S2048x6x128 : Shape := ⟨3, ![2048, 6, 128]⟩
abbrev S2048x768 : Shape := ⟨2, ![2048, 768]⟩
abbrev S2048x1536 : Shape := ⟨2, ![2048, 1536]⟩
abbrev S2048x128 : Shape := ⟨2, ![2048, 128]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x6x192, .f32⟩
  | .hbm, ⟨1, _⟩ => ⟨S1x2048x6x256, .f32⟩
  | .hbm, ⟨2, _⟩ => ⟨S1x2048x1x64, .f32⟩
  | .hbm, ⟨3, _⟩ => ⟨S1x2048x768, .f32⟩
  | .hbm, ⟨4, _⟩ => ⟨S1x2048x6x128, .f32⟩
  | .hbm, ⟨5, _⟩ => ⟨S1x2048x6x64, .f32⟩
  | .hbm, ⟨6, _⟩ => ⟨S1x2048x6x192, .f32⟩
  | .hbm, ⟨7, _⟩ => ⟨S1x2048x6x128, .f32⟩
  | .hbm, ⟨8, _⟩ => ⟨S1x2048x6x1x192, .f32⟩
  | .hbm, ⟨9, _⟩ => ⟨S1x6x2048x2048x1, .f32⟩
  | .hbm, ⟨10, _⟩ => ⟨S1x6x1x2048x2048, .f32⟩
  | .hbm, ⟨11, _⟩ => ⟨S_, .f32⟩
  | .hbm, ⟨12, _⟩ => ⟨S1x6x1x2048x2048, .f32⟩
  | .hbm, ⟨13, _⟩ => ⟨S1x6x1x2048x2048, .f32⟩
  | .hbm, ⟨14, _⟩ => ⟨S_, .f32⟩
  | .hbm, ⟨15, _⟩ => ⟨S1x6x1x2048, .f32⟩
  | .hbm, ⟨16, _⟩ => ⟨S1x6x1x2048x1, .f32⟩
  | .hbm, ⟨17, _⟩ => ⟨S1x6x1x2048x2048, .f32⟩
  | .hbm, ⟨18, _⟩ => ⟨S1x6x1x2048x2048, .i1⟩
  | .hbm, ⟨19, _⟩ => ⟨S1x6x1x2048x2048, .f32⟩
  | .hbm, ⟨20, _⟩ => ⟨S_, .f32⟩
  | .hbm, ⟨21, _⟩ => ⟨S1x6x1x2048, .f32⟩
  | .hbm, ⟨22, _⟩ => ⟨S_, .f32⟩
  | .hbm, ⟨23, _⟩ => ⟨S1x6x1x2048, .f32⟩
  | .hbm, ⟨24, _⟩ => ⟨S1x6x1x2048, .f32⟩
  | .hbm, ⟨25, _⟩ => ⟨S_, .f32⟩
  | .hbm, ⟨26, _⟩ => ⟨S1x6x1x2048, .f32⟩
  | .hbm, ⟨27, _⟩ => ⟨S1x6x1x2048, .i1⟩
  | .hbm, ⟨28, _⟩ => ⟨S_, .f32⟩
  | .hbm, ⟨29, _⟩ => ⟨S1x6x1x2048, .f32⟩
  | .hbm, ⟨30, _⟩ => ⟨S1x6x1x2048, .i1⟩
  | .hbm, ⟨31, _⟩ => ⟨S_, .f32⟩
  | .hbm, ⟨32, _⟩ => ⟨S1x6x1x2048, .f32⟩
  | .hbm, ⟨33, _⟩ => ⟨S_, .f32⟩
  | .hbm, ⟨34, _⟩ => ⟨S1x6x1x2048, .f32⟩
  | .hbm, ⟨35, _⟩ => ⟨S_, .f32⟩
  | .hbm, ⟨36, _⟩ => ⟨S1x6x1x2048, .f32⟩
  | .hbm, ⟨37, _⟩ => ⟨S1x6x1x2048, .f32⟩
  | .hbm, ⟨38, _⟩ => ⟨S1x6x1x2048, .f32⟩
  | .hbm, ⟨39, _⟩ => ⟨S1x6x1x2048x1, .f32⟩
  | .hbm, ⟨40, _⟩ => ⟨S1x6x1x2048x2048, .f32⟩
  | .hbm, ⟨41, _⟩ => ⟨S1x6x1x2048x2048, .f32⟩
  | .hbm, ⟨42, _⟩ => ⟨S1x6x1x2048x2048, .f32⟩
  | .hbm, ⟨43, _⟩ => ⟨S_, .f32⟩
  | .hbm, ⟨44, _⟩ => ⟨S1x6x1x2048, .f32⟩
  | .hbm, ⟨45, _⟩ => ⟨S1x6x1x2048x1, .f32⟩
  | .hbm, ⟨46, _⟩ => ⟨S1x6x1x2048x2048, .f32⟩
  | .hbm, ⟨47, _⟩ => ⟨S1x6x1x2048x2048, .f32⟩
  | .hbm, ⟨48, _⟩ => ⟨S1x6x1x2048x1, .f32⟩
  | .hbm, ⟨49, _⟩ => ⟨S_, .f32⟩
  | .hbm, ⟨50, _⟩ => ⟨S1x6x1x2048x1, .f32⟩
  | .hbm, ⟨51, _⟩ => ⟨S1x6x1x2048x1, .f32⟩
  | .hbm, ⟨52, _⟩ => ⟨S1x6x128x1x2048, .f32⟩
  | .hbm, ⟨53, _⟩ => ⟨S1x2048x6x1x128, .f32⟩
  | .hbm, ⟨54, _⟩ => ⟨S1x2048x768, .f32⟩
  | .hbm, ⟨55, _⟩ => ⟨S1x2048x6x1x128, .f32⟩
  | .hbm, ⟨56, _⟩ => ⟨S1x6x128x1x2048, .f32⟩
  | .hbm, ⟨57, _⟩ => ⟨S1x6x1x2048x2048, .f32⟩
  | .hbm, ⟨58, _⟩ => ⟨S1x6x128x2048, .f32⟩
  | .hbm, ⟨59, _⟩ => ⟨S1x2048x6x128, .f32⟩
  | .hbm, ⟨60, _⟩ => ⟨S1x6x1x2048x2048, .f32⟩
  | .hbm, ⟨61, _⟩ => ⟨S1x6x1x2048x2048, .f32⟩
  | .hbm, ⟨62, _⟩ => ⟨S1x6x1x2048x2048, .f32⟩
  | .hbm, ⟨63, _⟩ => ⟨S_, .f32⟩
  | .hbm, ⟨64, _⟩ => ⟨S1x6x1x2048, .f32⟩
  | .hbm, ⟨65, _⟩ => ⟨S1x6x1x2048x1, .f32⟩
  | .hbm, ⟨66, _⟩ => ⟨S1x6x1x2048x1, .f32⟩
  | .hbm, ⟨67, _⟩ => ⟨S1x6x1x2048x2048, .f32⟩
  | .hbm, ⟨68, _⟩ => ⟨S1x6x1x2048x2048, .f32⟩
  | .hbm, ⟨69, _⟩ => ⟨S_, .f32⟩
  | .hbm, ⟨70, _⟩ => ⟨S6x2048, .f32⟩
  | .hbm, ⟨71, _⟩ => ⟨S1x6x1x2048, .f32⟩
  | .hbm, ⟨72, _⟩ => ⟨S1x6x1x2048x2048, .f32⟩
  | .hbm, ⟨73, _⟩ => ⟨S1x6x1x2048x2048, .f32⟩
  | .hbm, ⟨74, _⟩ => ⟨S1x6x1x2048x2048, .f32⟩
  | .hbm, ⟨75, _⟩ => ⟨S_, .f32⟩
  | .hbm, ⟨76, _⟩ => ⟨S1x6x1x2048x2048, .f32⟩
  | .hbm, ⟨77, _⟩ => ⟨S1x6x1x2048x2048, .f32⟩
  | .hbm, ⟨78, _⟩ => ⟨S1x6x2048x2048x1, .f32⟩
  | .hbm, ⟨79, _⟩ => ⟨S1x6x2048x1x192, .f32⟩
  | .hbm, ⟨80, _⟩ => ⟨S1x2048x6x1x192, .f32⟩
  | .hbm, ⟨81, _⟩ => ⟨S1x6x2048x192, .f32⟩
  | .hbm, ⟨82, _⟩ => ⟨S1x2048x6x192, .f32⟩
  | .hbm, ⟨83, _⟩ => ⟨S1x2048x6x192, .f32⟩
  | .hbm, ⟨84, _⟩ => ⟨S_, .f32⟩
  | .hbm, ⟨85, _⟩ => ⟨S1x2048x6x256, .f32⟩
  | .hbm, ⟨86, _⟩ => ⟨S1x2048x6x128, .f32⟩
  | .hbm, ⟨87, _⟩ => ⟨S1x2048x6x64, .f32⟩
  | .hbm, ⟨88, _⟩ => ⟨S_, .f32⟩
  | .hbm, ⟨89, _⟩ => ⟨S2048x64, .f32⟩
  | .hbm, ⟨90, _⟩ => ⟨S1x2048x1x64, .f32⟩
  | .hbm, ⟨91, _⟩ => ⟨S_, .f32⟩
  | .hbm, ⟨92, _⟩ => ⟨S1x2048x6x256, .f32⟩
  | .hbm, ⟨93, _⟩ => ⟨S1x2048x6x256, .f32⟩
  | .hbm, ⟨94, _⟩ => ⟨S1x2048x6x64, .f32⟩
  | .hbm, ⟨95, _⟩ => ⟨S2048x6x64, .f32⟩
  | .hbm, ⟨96, _⟩ => ⟨S_, .i32⟩
  | .hbm, ⟨97, _⟩ => ⟨S_, .f32⟩
  | .hbm, ⟨98, _⟩ => ⟨S2048x6x128, .f32⟩
  | .hbm, ⟨99, _⟩ => ⟨S2048x768, .f32⟩
  | .hbm, ⟨100, _⟩ => ⟨S1x2048x6x128, .f32⟩
  | .hbm, ⟨101, _⟩ => ⟨S2048x6x128, .f32⟩
  | .hbm, ⟨102, _⟩ => ⟨S2048x768, .f32⟩
  | .hbm, ⟨103, _⟩ => ⟨S2048x768, .f32⟩
  | .hbm, ⟨104, _⟩ => ⟨S2048x1536, .f32⟩
  | .hbm, ⟨105, _⟩ => ⟨S2048x64, .f32⟩
  | .hbm, ⟨106, _⟩ => ⟨S_, .i32⟩
  | .hbm, ⟨107, _⟩ => ⟨S_, .f32⟩
  | .hbm, ⟨108, _⟩ => ⟨S2048x128, .f32⟩
  | _, _ => ⟨S1x2048x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_call0_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_16 : Ref sig .tc := ⟨.hbm, 106, rfl⟩
abbrev main_call1_v0 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Fnorm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== FnormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | .hbm, ⟨49, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Loss.lean ====
abbrev S2048x2048 : Shape := ⟨2, ![2048, 2048]⟩
abbrev S1x128 : Shape := ⟨2, ![1, 128]⟩
abbrev S512x2048 : Shape := ⟨2, ![512, 2048]⟩
abbrev S1x2048 : Shape := ⟨2, ![1, 2048]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x128, .f32⟩
  | .hbm, ⟨3, _⟩ => ⟨S2048x2048, .f32⟩
  | .hbm, ⟨4, _⟩ => ⟨S1x1, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x2048 : Shape := ⟨2, ![2048, 2048]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== RopeQ.lean ====
abbrev S1x2048x6x64 : Shape := ⟨4, ![1, 2048, 6, 64]⟩
abbrev S2048x6x64 : Shape := ⟨3, ![2048, 6, 64]⟩
abbrev S_ : Shape := ⟨0, ![]⟩
abbrev S2048x6x128 : Shape := ⟨3, ![2048, 6, 128]⟩
abbrev S2048x768 : Shape := ⟨2, ![2048, 768]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S2048x96 : Shape := ⟨2, ![2048, 96]⟩
abbrev S2048x112 : Shape := ⟨2, ![2048, 112]⟩
abbrev S2048x64 : Shape := ⟨2, ![2048, 64]⟩
abbrev S1024x768 : Shape := ⟨2, ![1024, 768]⟩
abbrev S1024x128 : Shape := ⟨2, ![1024, 128]⟩

abbrev nBuf : Space → Nat
  | .hbm => 158
  | .vmem => 10
  | .smem => 0
  | _ => 0

abbrev hbmTy0_0 (i : Nat) : BufTy := match i % 128 with
  | 0 => ⟨S1x2048x6x64, .f32⟩
  | 1 => ⟨S2048x6x64, .f32⟩
  | 2 => ⟨S_, .i32⟩
  | 3 => ⟨S_, .f32⟩
  | 4 => ⟨S2048x6x128, .f32⟩
  | 5 => ⟨S2048x768, .f32⟩
  | 6 => ⟨S32, .i32⟩
  | 7 => ⟨S32x64, .i32⟩
  | 8 => ⟨S2048, .i32⟩
  | 9 => ⟨S64, .i32⟩
  | 10 => ⟨S1x64, .i32⟩
  | 11 => ⟨S32x64, .i32⟩
  | 12 => ⟨S2048, .i32⟩
  | 13 => ⟨S2048, .i32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S2048, .f32⟩
  | 29 => ⟨S2048x1, .f32⟩
  | 30 => ⟨S1x32, .f32⟩
  | 31 => ⟨S2048x32, .f32⟩
  | 32 => ⟨S2048x32, .f32⟩
  | 33 => ⟨S2048x32, .f32⟩
  | 34 => ⟨S2048x32, .f32⟩
  | 35 => ⟨S2048x32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S2048, .f32⟩
  | 51 => ⟨S2048x1, .f32⟩
  | 52 => ⟨S1x32, .f32⟩
  | 53 => ⟨S2048x32, .f32⟩
  | 54 => ⟨S2048x32, .f32⟩
  | 55 => ⟨S2048x32, .f32⟩
  | 56 => ⟨S2048x32, .f32⟩
  | 57 => ⟨S2048x32, .f32⟩
  | 58 => ⟨S2048x128, .f32⟩
  | 59 => ⟨S2048x32, .f32⟩
  | 60 => ⟨S_, .f32⟩
  | 61 => ⟨S2048x32, .f32⟩
  | 62 => ⟨S2048x32, .f32⟩
  | 63 => ⟨S_, .f32⟩
  | 64 => ⟨S2048x32, .f32⟩
  | 65 => ⟨S2048x128, .f32⟩
  | 66 => ⟨S_, .f32⟩
  | 67 => ⟨S2048x32, .f32⟩
  | 68 => ⟨S_, .f32⟩
  | 69 => ⟨S2048x32, .f32⟩
  | 70 => ⟨S2048x128, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S2048, .f32⟩
  | 86 => ⟨S2048x1, .f32⟩
  | 87 => ⟨S1x16, .f32⟩
  | 88 => ⟨S2048x16, .f32⟩
  | 89 => ⟨S2048x16, .f32⟩
  | 90 => ⟨S2048x16, .f32⟩
  | 91 => ⟨S2048x16, .f32⟩
  | 92 => ⟨S2048x16, .f32⟩
  | 93 => ⟨S_, .f32⟩
  | 94 => ⟨S2048x96, .f32⟩
  | 95 => ⟨S2048x128, .f32⟩
  | 96 => ⟨S2048x16, .f32⟩
  | 97 => ⟨S_, .f32⟩
  | 98 => ⟨S2048x112, .f32⟩
  | 99 => ⟨S2048x128, .f32⟩
  | 100 => ⟨S_, .f32⟩
  | 101 => ⟨S2048x16, .f32⟩
  | 102 => ⟨S_, .f32⟩
  | 103 => ⟨S2048x96, .f32⟩
  | 104 => ⟨S2048x128, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S2048, .f32⟩
  | 120 => ⟨S2048x1, .f32⟩
  | 121 => ⟨S1x32, .f32⟩
  | 122 => ⟨S2048x32, .f32⟩
  | 123 => ⟨S2048x32, .f32⟩
  | 124 => ⟨S2048x32, .f32⟩
  | 125 => ⟨S2048x32, .f32⟩
  | 126 => ⟨S2048x32, .f32⟩
  | 127 => ⟨S_, .f32⟩
  | _ => ⟨S1x2048x6x64, .f32⟩

abbrev hbmTy0_1 (i : Nat) : BufTy := match i % 128 with
  | 0 => ⟨S2048x64, .f32⟩
  | 1 => ⟨S2048x128, .f32⟩
  | 2 => ⟨S2048x32, .f32⟩
  | 3 => ⟨S_, .f32⟩
  | 4 => ⟨S2048x96, .f32⟩
  | 5 => ⟨S2048x128, .f32⟩
  | 6 => ⟨S_, .f32⟩
  | 7 => ⟨S2048x32, .f32⟩
  | 8 => ⟨S_, .f32⟩
  | 9 => ⟨S2048x64, .f32⟩
  | 10 => ⟨S2048x128, .f32⟩
  | 11 => ⟨S2048x96, .f32⟩
  | 12 => ⟨S2048x32, .f32⟩
  | 13 => ⟨S2048x128, .f32⟩
  | 14 => ⟨S2048x32, .f32⟩
  | 15 => ⟨S2048x96, .f32⟩
  | 16 => ⟨S2048x128, .f32⟩
  | 17 => ⟨S2048x112, .f32⟩
  | 18 => ⟨S2048x16, .f32⟩
  | 19 => ⟨S2048x128, .f32⟩
  | 20 => ⟨S2048x16, .f32⟩
  | 21 => ⟨S2048x112, .f32⟩
  | 22 => ⟨S2048x128, .f32⟩
  | 23 => ⟨S2048x96, .f32⟩
  | 24 => ⟨S2048x32, .f32⟩
  | 25 => ⟨S2048x128, .f32⟩
  | 26 => ⟨S2048x32, .f32⟩
  | 27 => ⟨S2048x96, .f32⟩
  | 28 => ⟨S2048x128, .f32⟩
  | 29 => ⟨S2048x768, .bf16⟩
  | _ => ⟨S1x2048x6x64, .f32⟩

abbrev hbmTy (i : Nat) : BufTy := match i / 128 with
  | 0 => hbmTy0_0 i
  | 1 => hbmTy0_1 i
  | _ => ⟨S1x2048x6x64, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .bf16⟩
  | .local _ .vmem, ⟨9, _⟩ => ⟨S1024x768, .bf16⟩
  | _, _ => ⟨S1x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_15 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_cst_18 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_cst_20 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_21 : Ref sig .tc := ⟨.hbm, 113, rfl⟩
abbrev main_v88 : Ref sig .tc := ⟨.hbm, 114, rfl⟩
abbrev main_v89 : Ref sig .tc := ⟨.hbm, 115, rfl⟩
abbrev main_cst_22 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_23 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_24 : Ref sig .tc := ⟨.hbm, 131, rfl⟩
abbrev main_v103 : Ref sig .tc := ⟨.hbm, 132, rfl⟩
abbrev main_v104 : Ref sig .tc := ⟨.hbm, 133, rfl⟩
abbrev main_cst_25 : Ref sig .tc := ⟨.hbm, 134, rfl⟩
abbrev main_v105 : Ref sig .tc := ⟨.hbm, 135, rfl⟩
abbrev main_cst_26 : Ref sig .tc := ⟨.hbm, 136, rfl⟩
abbrev main_v106 : Ref sig .tc := ⟨.hbm, 137, rfl⟩
abbrev main_v107 : Ref sig .tc := ⟨.hbm, 138, rfl⟩
abbrev main_call1_v0 : Ref sig .tc := ⟨.hbm, 139, rfl⟩
abbrev main_call1_v1 : Ref sig .tc := ⟨.hbm, 140, rfl⟩
abbrev main_v108 : Ref sig .tc := ⟨.hbm, 141, rfl⟩
abbrev main_call2_v0 : Ref sig .tc := ⟨.hbm, 142, rfl⟩
abbrev main_call2_v1 : Ref sig .tc := ⟨.hbm, 143, rfl⟩
abbrev main_v109 : Ref sig .tc := ⟨.hbm, 144, rfl⟩
abbrev main_call3_v0 : Ref sig .tc := ⟨.hbm, 145, rfl⟩
abbrev main_call3_v1 : Ref sig .tc := ⟨.hbm, 146, rfl⟩
abbrev main_v110 : Ref sig .tc := ⟨.hbm, 147, rfl⟩
abbrev main_call4_v0 : Ref sig .tc := ⟨.hbm, 148, rfl⟩
abbrev main_call4_v1 : Ref sig .tc := ⟨.hbm, 149, rfl⟩
abbrev main_v111 : Ref sig .tc := ⟨.hbm, 150, rfl⟩
abbrev main_call5_v0 : Ref sig .tc := ⟨.hbm, 151, rfl⟩
abbrev main_call5_v1 : Ref sig .tc := ⟨.hbm, 152, rfl⟩
abbrev main_v112 : Ref sig .tc := ⟨.hbm, 153, rfl⟩
abbrev main_call6_v0 : Ref sig .tc := ⟨.hbm, 154, rfl⟩
abbrev main_call6_v1 : Ref sig .tc := ⟨.hbm, 155, rfl⟩
abbrev main_v113 : Ref sig .tc := ⟨.hbm, 156, rfl⟩
abbrev main_v114 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeQRefIdeal.lean ====
abbrev S1x2048x6x64 : Shape := ⟨4, ![1, 2048, 6, 64]⟩
abbrev S_ : Shape := ⟨0, ![]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x6x32 : Shape := ⟨4, ![1, 2048, 6, 32]⟩
abbrev S1x2048x1x32 : Shape := ⟨4, ![1, 2048, 1, 32]⟩
abbrev S2048x6x64 : Shape := ⟨3, ![2048, 6, 64]⟩
abbrev S2048x6x128 : Shape := ⟨3, ![2048, 6, 128]⟩
abbrev S2048x768 : Shape := ⟨2, ![2048, 768]⟩

abbrev nBuf : Space → Nat
  | .hbm => 65
  | .vmem => 0
  | .smem => 0
  | _ => 0

abbrev bufTy : (tb : Table) → Fin (tcTables nBuf tb) → BufTy
  | .hbm, ⟨0, _⟩ => ⟨S1x2048x6x64, .f32⟩
  | .hbm, ⟨1, _⟩ => ⟨S_, .f32⟩
  | .hbm, ⟨2, _⟩ => ⟨S1x2048x6x64, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x1x32, .f32⟩
  | .hbm, ⟨27, _⟩ => ⟨S2048x1x32, .f32⟩
  | .hbm, ⟨28, _⟩ => ⟨S1x2048x6x32, .f32⟩
  | .hbm, ⟨29, _⟩ => ⟨S1x2048x6x32, .f32⟩
  | .hbm, ⟨30, _⟩ => ⟨S1x2048x1x32, .f32⟩
  | .hbm, ⟨31, _⟩ => ⟨S1x2048x6x32, .f32⟩
  | .hbm, ⟨32, _⟩ => ⟨S1x2048x6x32, .f32⟩
  | .hbm, ⟨33, _⟩ => ⟨S1x2048x1x32, .f32⟩
  | .hbm, ⟨34, _⟩ => ⟨S1x2048x6x32, .f32⟩
  | .hbm, ⟨35, _⟩ => ⟨S1x2048x6x32, .f32⟩
  | .hbm, ⟨36, _⟩ => ⟨S1x2048x6x32, .f32⟩
  | .hbm, ⟨37, _⟩ => ⟨S1x2048x1x32, .f32⟩
  | .hbm, ⟨38, _⟩ => ⟨S1x2048x6x32, .f32⟩
  | .hbm, ⟨39, _⟩ => ⟨S1x2048x6x32, .f32⟩
  | .hbm, ⟨40, _⟩ => ⟨S1x2048x1x32, .f32⟩
  | .hbm, ⟨41, _⟩ => ⟨S1x2048x6x32, .f32⟩
  | .hbm, ⟨42, _⟩ => ⟨S1x2048x6x32, .f32⟩
  | .hbm, ⟨43, _⟩ => ⟨S1x2048x6x32, .f32⟩
  | .hbm, ⟨44, _⟩ => ⟨S1x2048x6x64, .f32⟩
  | .hbm, ⟨45, _⟩ => ⟨S1x2048x6x32, .f32⟩
  | .hbm, ⟨46, _⟩ => ⟨S1x2048x6x32, .f32⟩
  | .hbm, ⟨47, _⟩ => ⟨S1x2048x6x32, .f32⟩
  | .hbm, ⟨48, _⟩ => ⟨S1x2048x6x32, .f32⟩
  | .hbm, ⟨49, _⟩ => ⟨S1x2048x6x32, .f32⟩
  | .hbm, ⟨50, _⟩ => ⟨S1x2048x6x32, .f32⟩
  | .hbm, ⟨51, _⟩ => ⟨S1x2048x6x32, .f32⟩
  | .hbm, ⟨52, _⟩ => ⟨S1x2048x6x32, .f32⟩
  | .hbm, ⟨53, _⟩ => ⟨S1x2048x6x32, .f32⟩
  | .hbm, ⟨54, _⟩ => ⟨S1x2048x6x32, .f32⟩
  | .hbm, ⟨55, _⟩ => ⟨S1x2048x6x32, .f32⟩
  | .hbm, ⟨56, _⟩ => ⟨S1x2048x6x32, .f32⟩
  | .hbm, ⟨57, _⟩ => ⟨S1x2048x6x32, .f32⟩
  | .hbm, ⟨58, _⟩ => ⟨S1x2048x6x64, .f32⟩
  | .hbm, ⟨59, _⟩ => ⟨S2048x6x64, .f32⟩
  | .hbm, ⟨60, _⟩ => ⟨S_, .i32⟩
  | .hbm, ⟨61, _⟩ => ⟨S_, .f32⟩
  | .hbm, ⟨62, _⟩ => ⟨S2048x6x128, .f32⟩
  | .hbm, ⟨63, _⟩ => ⟨S2048x768, .f32⟩
  | .hbm, ⟨64, _⟩ => ⟨S2048x768, .bf16⟩
  | _, _ => ⟨S1x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_c : Ref sig .tc := ⟨.hbm, 60, rfl⟩
abbrev main_call0_v0 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩

abbrev nD : Nat := 1
abbrev τ : Topo := Topo.v7x

variable {F : FTy → Type} [FloatOps F]
-- ==== RopeK.lean ====
abbrev S1x2048x1x64 : Shape := ⟨4, ![1, 2048, 1, 64]⟩
abbrev S2048x64 : Shape := ⟨2, ![2048, 64]⟩
abbrev S_ : Shape := ⟨0, ![]⟩
abbrev S2048x128 : Shape := ⟨2, ![2048, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S16 : Shape := ⟨1, ![16]⟩
abbrev S1x16 : Shape := ⟨2, ![1, 16]⟩
abbrev S2048x16 : Shape := ⟨2, ![2048, 16]⟩
abbrev S2048x96 : Shape := ⟨2, ![2048, 96]⟩
abbrev S2048x112 : Shape := ⟨2, ![2048, 112]⟩

abbrev nBuf : Space → Nat
  | .hbm => 157
  | .vmem => 5
  | .smem => 0
  | _ => 0

abbrev hbmTy0_0 (i : Nat) : BufTy := match i % 128 with
  | 0 => ⟨S1x2048x1x64, .f32⟩
  | 1 => ⟨S2048x64, .f32⟩
  | 2 => ⟨S_, .i32⟩
  | 3 => ⟨S_, .f32⟩
  | 4 => ⟨S2048x128, .f32⟩
  | 5 => ⟨S32, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S2048, .i32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S2048x32, .f32⟩
  | 57 => ⟨S2048x128, .f32⟩
  | 58 => ⟨S2048x32, .f32⟩
  | 59 => ⟨S_, .f32⟩
  | 60 => ⟨S2048x32, .f32⟩
  | 61 => ⟨S2048x32, .f32⟩
  | 62 => ⟨S_, .f32⟩
  | 63 => ⟨S2048x32, .f32⟩
  | 64 => ⟨S2048x128, .f32⟩
  | 65 => ⟨S_, .f32⟩
  | 66 => ⟨S2048x32, .f32⟩
  | 67 => ⟨S_, .f32⟩
  | 68 => ⟨S2048x32, .f32⟩
  | 69 => ⟨S2048x128, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x16, .f32⟩
  | 91 => ⟨S2048x16, .f32⟩
  | 92 => ⟨S_, .f32⟩
  | 93 => ⟨S2048x96, .f32⟩
  | 94 => ⟨S2048x128, .f32⟩
  | 95 => ⟨S2048x16, .f32⟩
  | 96 => ⟨S_, .f32⟩
  | 97 => ⟨S2048x112, .f32⟩
  | 98 => ⟨S2048x128, .f32⟩
  | 99 => ⟨S_, .f32⟩
  | 100 => ⟨S2048x16, .f32⟩
  | 101 => ⟨S_, .f32⟩
  | 102 => ⟨S2048x96, .f32⟩
  | 103 => ⟨S2048x128, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S2048, .f32⟩
  | 119 => ⟨S2048x1, .f32⟩
  | 120 => ⟨S1x32, .f32⟩
  | 121 => ⟨S2048x32, .f32⟩
  | 122 => ⟨S2048x32, .f32⟩
  | 123 => ⟨S2048x32, .f32⟩
  | 124 => ⟨S2048x32, .f32⟩
  | 125 => ⟨S2048x32, .f32⟩
  | 126 => ⟨S_, .f32⟩
  | 127 => ⟨S2048x64, .f32⟩
  | _ => ⟨S1x2048x1x64, .f32⟩

abbrev hbmTy0_1 (i : Nat) : BufTy := match i % 128 with
  | 0 => ⟨S2048x128, .f32⟩
  | 1 => ⟨S2048x32, .f32⟩
  | 2 => ⟨S_, .f32⟩
  | 3 => ⟨S2048x96, .f32⟩
  | 4 => ⟨S2048x128, .f32⟩
  | 5 => ⟨S_, .f32⟩
  | 6 => ⟨S2048x32, .f32⟩
  | 7 => ⟨S_, .f32⟩
  | 8 => ⟨S2048x64, .f32⟩
  | 9 => ⟨S2048x128, .f32⟩
  | 10 => ⟨S2048x96, .f32⟩
  | 11 => ⟨S2048x32, .f32⟩
  | 12 => ⟨S2048x128, .f32⟩
  | 13 => ⟨S2048x32, .f32⟩
  | 14 => ⟨S2048x96, .f32⟩
  | 15 => ⟨S2048x128, .f32⟩
  | 16 => ⟨S2048x112, .f32⟩
  | 17 => ⟨S2048x16, .f32⟩
  | 18 => ⟨S2048x128, .f32⟩
  | 19 => ⟨S2048x16, .f32⟩
  | 20 => ⟨S2048x112, .f32⟩
  | 21 => ⟨S2048x128, .f32⟩
  | 22 => ⟨S2048x96, .f32⟩
  | 23 => ⟨S2048x32, .f32⟩
  | 24 => ⟨S2048x128, .f32⟩
  | 25 => ⟨S2048x32, .f32⟩
  | 26 => ⟨S2048x96, .f32⟩
  | 27 => ⟨S2048x128, .f32⟩
  | 28 => ⟨S2048x128, .bf16⟩
  | _ => ⟨S1x2048x1x64, .f32⟩

abbrev hbmTy (i : Nat) : BufTy := match i / 128 with
  | 0 => hbmTy0_0 i
  | 1 => hbmTy0_1 i
  | _ => ⟨S1x2048x1x64, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | _, _ => ⟨S1x2048x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_19 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_21 : Ref sig .tc := ⟨.hbm, 112, rfl⟩
abbrev main_v87 : Ref sig .tc := ⟨.hbm, 113, rfl⟩
abbrev main_v88 : Ref sig .tc := ⟨.hbm, 114, rfl⟩
abbrev main_cst_22 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_23 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_24 : Ref sig .tc := ⟨.hbm, 130, rfl⟩
abbrev main_v102 : Ref sig .tc := ⟨.hbm, 131, rfl⟩
abbrev main_v103 : Ref sig .tc := ⟨.hbm, 132, rfl⟩
abbrev main_cst_25 : Ref sig .tc := ⟨.hbm, 133, rfl⟩
abbrev main_v104 : Ref sig .tc := ⟨.hbm, 134, rfl⟩
abbrev main_cst_26 : Ref sig .tc := ⟨.hbm, 135, rfl⟩
abbrev main_v105 : Ref sig .tc := ⟨.hbm, 136, rfl⟩
abbrev main_v106 : Ref sig .tc := ⟨.hbm, 137, rfl⟩
abbrev main_call1_v0 : Ref sig .tc := ⟨.hbm, 138, rfl⟩
abbrev main_call1_v1 : Ref sig .tc := ⟨.hbm, 139, rfl⟩
abbrev main_v107 : Ref sig .tc := ⟨.hbm, 140, rfl⟩
abbrev main_call2_v0 : Ref sig .tc := ⟨.hbm, 141, rfl⟩
abbrev main_call2_v1 : Ref sig .tc := ⟨.hbm, 142, rfl⟩
abbrev main_v108 : Ref sig .tc := ⟨.hbm, 143, rfl⟩
abbrev main_call3_v0 : Ref sig .tc := ⟨.hbm, 144, rfl⟩
abbrev main_call3_v1 : Ref sig .tc := ⟨.hbm, 145, rfl⟩
abbrev main_v109 : Ref sig .tc := ⟨.hbm, 146, rfl⟩
abbrev main_call4_v0 : Ref sig .tc := ⟨.hbm, 147, rfl⟩
abbrev main_call4_v1 : Ref sig .tc := ⟨.hbm, 148, rfl⟩
abbrev main_v110 : Ref sig .tc := ⟨.hbm, 149, rfl⟩
abbrev main_call5_v0 : Ref sig .tc := ⟨.hbm, 150, rfl⟩
abbrev main_call5_v1 : Ref sig .tc := ⟨.hbm, 151, rfl⟩
abbrev main_v111 : Ref sig .tc := ⟨.hbm, 152, rfl⟩
abbrev main_call6_v0 : Ref sig .tc := ⟨.hbm, 153, rfl⟩
abbrev main_call6_v1 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== RopeKRefIdeal.lean ====
abbrev S1x2048x1x64 : Shape := ⟨4, ![1, 2048, 1, 64]⟩
abbrev S_ : Shape := ⟨0, ![]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x1x32 : Shape := ⟨4, ![1, 2048, 1, 32]⟩
abbrev S2048x64 : Shape := ⟨2, ![2048, 64]⟩
abbrev S2048x128 : Shape := ⟨2, ![2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x1x64, .f32⟩
  | .hbm, ⟨1, _⟩ => ⟨S_, .f32⟩
  | .hbm, ⟨2, _⟩ => ⟨S1x2048x1x64, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x1x32, .f32⟩
  | .hbm, ⟨27, _⟩ => ⟨S2048x1x32, .f32⟩
  | .hbm, ⟨28, _⟩ => ⟨S1x2048x1x32, .f32⟩
  | .hbm, ⟨29, _⟩ => ⟨S1x2048x1x32, .f32⟩
  | .hbm, ⟨30, _⟩ => ⟨S1x2048x1x32, .f32⟩
  | .hbm, ⟨31, _⟩ => ⟨S1x2048x1x32, .f32⟩
  | .hbm, ⟨32, _⟩ => ⟨S1x2048x1x32, .f32⟩
  | .hbm, ⟨33, _⟩ => ⟨S1x2048x1x32, .f32⟩
  | .hbm, ⟨34, _⟩ => ⟨S1x2048x1x32, .f32⟩
  | .hbm, ⟨35, _⟩ => ⟨S1x2048x1x32, .f32⟩
  | .hbm, ⟨36, _⟩ => ⟨S1x2048x1x32, .f32⟩
  | .hbm, ⟨37, _⟩ => ⟨S1x2048x1x32, .f32⟩
  | .hbm, ⟨38, _⟩ => ⟨S1x2048x1x32, .f32⟩
  | .hbm, ⟨39, _⟩ => ⟨S1x2048x1x32, .f32⟩
  | .hbm, ⟨40, _⟩ => ⟨S1x2048x1x64, .f32⟩
  | .hbm, ⟨41, _⟩ => ⟨S1x2048x1x32, .f32⟩
  | .hbm, ⟨42, _⟩ => ⟨S1x2048x1x32, .f32⟩
  | .hbm, ⟨43, _⟩ => ⟨S1x2048x1x32, .f32⟩
  | .hbm, ⟨44, _⟩ => ⟨S1x2048x1x32, .f32⟩
  | .hbm, ⟨45, _⟩ => ⟨S1x2048x1x32, .f32⟩
  | .hbm, ⟨46, _⟩ => ⟨S1x2048x1x32, .f32⟩
  | .hbm, ⟨47, _⟩ => ⟨S1x2048x1x32, .f32⟩
  | .hbm, ⟨48, _⟩ => ⟨S1x2048x1x32, .f32⟩
  | .hbm, ⟨49, _⟩ => ⟨S1x2048x1x32, .f32⟩
  | .hbm, ⟨50, _⟩ => ⟨S1x2048x1x64, .f32⟩
  | .hbm, ⟨51, _⟩ => ⟨S2048x64, .f32⟩
  | .hbm, ⟨52, _⟩ => ⟨S_, .i32⟩
  | .hbm, ⟨53, _⟩ => ⟨S_, .f32⟩
  | .hbm, ⟨54, _⟩ => ⟨S2048x128, .f32⟩
  | .hbm, ⟨55, _⟩ => ⟨S2048x128, .bf16⟩
  | _, _ => ⟨S1x2048x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c : Ref sig .tc := ⟨.hbm, 52, rfl⟩
abbrev main_call0_v0 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Outn.lean ====
abbrev S2048x2048 : Shape := ⟨2, ![2048, 2048]⟩
abbrev S2048x768 : Shape := ⟨2, ![2048, 768]⟩
abbrev S2048x512 : Shape := ⟨2, ![2048, 512]⟩
abbrev S2048 : Shape := ⟨1, ![2048]⟩
abbrev S1x2048 : Shape := ⟨2, ![1, 2048]⟩
abbrev S256x2048 : Shape := ⟨2, ![256, 2048]⟩
abbrev S256x768 : Shape := ⟨2, ![256, 768]⟩
abbrev S256x512 : Shape := ⟨2, ![256, 512]⟩
abbrev S256 : Shape := ⟨1, ![256]⟩
abbrev S256x1 : Shape := ⟨2, ![256, 1]⟩
abbrev S1x768 : Shape := ⟨2, ![1, 768]⟩
abbrev S768 : Shape := ⟨1, ![768]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x768, .f32⟩
  | .hbm, ⟨2, _⟩ => ⟨S2048x512, .f32⟩
  | .hbm, ⟨3, _⟩ => ⟨S2048x768, .f32⟩
  | .hbm, ⟨4, _⟩ => ⟨S2048, .f32⟩
  | .hbm, ⟨5, _⟩ => ⟨S1x2048, .f32⟩
  | .hbm, ⟨6, _⟩ => ⟨S2048x768, .bf16⟩
  | .hbm, ⟨7, _⟩ => ⟨S2048x512, .f32⟩
  | .hbm, ⟨8, _⟩ => ⟨S2048x768, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x768, .f32⟩
  | .local _ .vmem, ⟨7, _⟩ => ⟨S256x768, .f32⟩
  | .local _ .vmem, ⟨8, _⟩ => ⟨S1x2048, .f32⟩
  | .local _ .vmem, ⟨9, _⟩ => ⟨S256x768, .bf16⟩
  | .local _ .vmem, ⟨10, _⟩ => ⟨S256x768, .bf16⟩
  | .local _ .vmem, ⟨11, _⟩ => ⟨S256x512, .f32⟩
  | .local _ .vmem, ⟨12, _⟩ => ⟨S256x512, .f32⟩
  | .local _ .vmem, ⟨13, _⟩ => ⟨S256x768, .bf16⟩
  | .local _ .vmem, ⟨14, _⟩ => ⟨S256x768, .bf16⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutnRefIdeal.lean ====
abbrev S2048x2048 : Shape := ⟨2, ![2048, 2048]⟩
abbrev S2048x768 : Shape := ⟨2, ![2048, 768]⟩
abbrev S2048x512 : Shape := ⟨2, ![2048, 512]⟩
abbrev S2048 : Shape := ⟨1, ![2048]⟩
abbrev S768 : Shape := ⟨1, ![768]⟩
abbrev S512 : Shape := ⟨1, ![512]⟩
abbrev S_ : Shape := ⟨0, ![]⟩
abbrev S2048x1 : Shape := ⟨2, ![2048, 1]⟩
abbrev S1x768 : Shape := ⟨2, ![1, 768]⟩
abbrev S1x512 : Shape := ⟨2, ![1, 512]⟩
abbrev S1x2048 : Shape := ⟨2, ![1, 2048]⟩

abbrev nBuf : Space → Nat
  | .hbm => 151
  | .vmem => 0
  | .smem => 0
  | _ => 0

abbrev hbmTy0_0 (i : Nat) : BufTy := match i % 128 with
  | 0 => ⟨S2048x2048, .f32⟩
  | 1 => ⟨S2048x768, .f32⟩
  | 2 => ⟨S2048x512, .f32⟩
  | 3 => ⟨S2048x768, .f32⟩
  | 4 => ⟨S2048, .f32⟩
  | 5 => ⟨S768, .f32⟩
  | 6 => ⟨S512, .f32⟩
  | 7 => ⟨S768, .f32⟩
  | 8 => ⟨S2048x768, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x768, .f32⟩
  | 24 => ⟨S2048x768, .f32⟩
  | 25 => ⟨S1x768, .f32⟩
  | 26 => ⟨S2048x768, .f32⟩
  | 27 => ⟨S2048x768, .f32⟩
  | 28 => ⟨S2048x512, .f32⟩
  | 29 => ⟨S_, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S_, .f32⟩
  | 36 => ⟨S2048x1, .f32⟩
  | 37 => ⟨S2048x1, .f32⟩
  | 38 => ⟨S2048x1, .f32⟩
  | 39 => ⟨S2048x1, .f32⟩
  | 40 => ⟨S_, .f32⟩
  | 41 => ⟨S2048x1, .f32⟩
  | 42 => ⟨S2048x1, .f32⟩
  | 43 => ⟨S2048x512, .f32⟩
  | 44 => ⟨S2048x512, .f32⟩
  | 45 => ⟨S1x512, .f32⟩
  | 46 => ⟨S2048x512, .f32⟩
  | 47 => ⟨S2048x512, .f32⟩
  | 48 => ⟨S2048x768, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x768, .f32⟩
  | 64 => ⟨S2048x768, .f32⟩
  | 65 => ⟨S1x768, .f32⟩
  | 66 => ⟨S2048x768, .f32⟩
  | 67 => ⟨S2048x768, .f32⟩
  | 68 => ⟨S2048x2048, .f32⟩
  | 69 => ⟨S2048x768, .f32⟩
  | 70 => ⟨S2048x512, .f32⟩
  | 71 => ⟨S2048x768, .f32⟩
  | 72 => ⟨S2048x768, .f32⟩
  | 73 => ⟨S_, .f32⟩
  | 74 => ⟨S768, .f32⟩
  | 75 => ⟨S1x768, .f32⟩
  | 76 => ⟨S2048x768, .f32⟩
  | 77 => ⟨S2048x768, .f32⟩
  | 78 => ⟨S_, .f32⟩
  | 79 => ⟨S768, .f32⟩
  | 80 => ⟨S2048x768, .f32⟩
  | 81 => ⟨S_, .f32⟩
  | 82 => ⟨S2048, .f32⟩
  | 83 => ⟨S2048x1, .f32⟩
  | 84 => ⟨S2048x768, .f32⟩
  | 85 => ⟨S2048x768, .f32⟩
  | 86 => ⟨S2048x1, .f32⟩
  | 87 => ⟨S_, .f32⟩
  | 88 => ⟨S2048x1, .f32⟩
  | 89 => ⟨S2048x1, .f32⟩
  | 90 => ⟨S_, .f32⟩
  | 91 => ⟨S2048, .f32⟩
  | 92 => ⟨S2048x768, .f32⟩
  | 93 => ⟨S2048x768, .f32⟩
  | 94 => ⟨S2048x768, .f32⟩
  | 95 => ⟨S2048x768, .f32⟩
  | 96 => ⟨S2048x768, .f32⟩
  | 97 => ⟨S2048x512, .f32⟩
  | 98 => ⟨S_, .f32⟩
  | 99 => ⟨S512, .f32⟩
  | 100 => ⟨S1x512, .f32⟩
  | 101 => ⟨S2048x512, .f32⟩
  | 102 => ⟨S2048x512, .f32⟩
  | 103 => ⟨S_, .f32⟩
  | 104 => ⟨S512, .f32⟩
  | 105 => ⟨S2048x512, .f32⟩
  | 106 => ⟨S_, .f32⟩
  | 107 => ⟨S2048, .f32⟩
  | 108 => ⟨S2048x1, .f32⟩
  | 109 => ⟨S2048x512, .f32⟩
  | 110 => ⟨S2048x512, .f32⟩
  | 111 => ⟨S2048x1, .f32⟩
  | 112 => ⟨S_, .f32⟩
  | 113 => ⟨S2048x1, .f32⟩
  | 114 => ⟨S2048x1, .f32⟩
  | 115 => ⟨S_, .f32⟩
  | 116 => ⟨S2048, .f32⟩
  | 117 => ⟨S2048x512, .f32⟩
  | 118 => ⟨S2048x512, .f32⟩
  | 119 => ⟨S2048x512, .f32⟩
  | 120 => ⟨S2048x512, .f32⟩
  | 121 => ⟨S2048x512, .f32⟩
  | 122 => ⟨S2048x768, .f32⟩
  | 123 => ⟨S_, .f32⟩
  | 124 => ⟨S768, .f32⟩
  | 125 => ⟨S1x768, .f32⟩
  | 126 => ⟨S2048x768, .f32⟩
  | 127 => ⟨S2048x768, .f32⟩
  | _ => ⟨S2048x2048, .f32⟩

abbrev hbmTy0_1 (i : Nat) : BufTy := match i % 128 with
  | 0 => ⟨S_, .f32⟩
  | 1 => ⟨S768, .f32⟩
  | 2 => ⟨S2048x768, .f32⟩
  | 3 => ⟨S_, .f32⟩
  | 4 => ⟨S2048, .f32⟩
  | 5 => ⟨S2048x1, .f32⟩
  | 6 => ⟨S2048x768, .f32⟩
  | 7 => ⟨S2048x768, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x768, .f32⟩
  | 15 => ⟨S2048x768, .f32⟩
  | 16 => ⟨S2048x768, .f32⟩
  | 17 => ⟨S2048x768, .f32⟩
  | 18 => ⟨S2048x768, .f32⟩
  | 19 => ⟨S2048, .f32⟩
  | 20 => ⟨S2048x768, .bf16⟩
  | 21 => ⟨S2048x768, .bf16⟩
  | 22 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_cst_23 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_24 : Ref sig .tc := ⟨.hbm, 137, rfl⟩
abbrev main_v107 : Ref sig .tc := ⟨.hbm, 138, rfl⟩
abbrev main_v108 : Ref sig .tc := ⟨.hbm, 139, rfl⟩
abbrev main_cst_25 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Gate.lean ====
abbrev S1x2048x11264 : Shape := ⟨3, ![1, 2048, 11264]⟩
abbrev S3x11264 : Shape := ⟨2, ![3, 11264]⟩
abbrev S11264 : Shape := ⟨1, ![11264]⟩
abbrev S1x2048x5632 : Shape := ⟨3, ![1, 2048, 5632]⟩
abbrev S2048x2x5632 : Shape := ⟨3, ![2048, 2, 5632]⟩
abbrev S2x2048x5632 : Shape := ⟨3, ![2, 2048, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S_ : Shape := ⟨0, ![]⟩
abbrev S2x4x5632 : Shape := ⟨3, ![2, 4, 5632]⟩
abbrev S2x8x5632 : Shape := ⟨3, ![2, 8, 5632]⟩
abbrev S2048x5632 : Shape := ⟨2, ![2048, 5632]⟩
abbrev S2x2048x256 : Shape := ⟨3, ![2, 2048, 256]⟩
abbrev S2048x256 : Shape := ⟨2, ![2048, 256]⟩
abbrev S2x8x256 : Shape := ⟨3, ![2, 8, 256]⟩
abbrev S1x2048x256 : Shape := ⟨3, ![1, 2048, 256]⟩
abbrev S1x8x256 : Shape := ⟨3, ![1, 8, 256]⟩
abbrev S8x256 : Shape := ⟨2, ![8, 256]⟩
abbrev S1x256 : Shape := ⟨2, ![1, 256]⟩
abbrev S256 : Shape := ⟨1, ![256]⟩
abbrev S1x1x256 : Shape := ⟨3, ![1, 1, 256]⟩
abbrev S4x256 : Shape := ⟨2, ![4, 256]⟩
abbrev S1x4x256 : Shape := ⟨3, ![1, 4, 256]⟩

abbrev nBuf : Space → Nat
  | .hbm => 15
  | .vmem => 10
  | .smem => 0
  | _ => 0

abbrev bufTy : (tb : Table) → Fin (tcTables nBuf tb) → BufTy
  | .hbm, ⟨0, _⟩ => ⟨S1x2048x11264, .f32⟩
  | .hbm, ⟨1, _⟩ => ⟨S3x11264, .f32⟩
  | .hbm, ⟨2, _⟩ => ⟨S11264, .f32⟩
  | .hbm, ⟨3, _⟩ => ⟨S1x2048x5632, .f32⟩
  | .hbm, ⟨4, _⟩ => ⟨S2048x2x5632, .f32⟩
  | .hbm, ⟨5, _⟩ => ⟨S2x2048x5632, .f32⟩
  | .hbm, ⟨6, _⟩ => ⟨S3x2x5632, .f32⟩
  | .hbm, ⟨7, _⟩ => ⟨S2x3x5632, .f32⟩
  | .hbm, ⟨8, _⟩ => ⟨S2x1x5632, .f32⟩
  | .hbm, ⟨9, _⟩ => ⟨S_, .f32⟩
  | .hbm, ⟨10, _⟩ => ⟨S2x4x5632, .f32⟩
  | .hbm, ⟨11, _⟩ => ⟨S2x8x5632, .f32⟩
  | .hbm, ⟨12, _⟩ => ⟨S2048x5632, .f32⟩
  | .hbm, ⟨13, _⟩ => ⟨S2x2048x5632, .bf16⟩
  | .hbm, ⟨14, _⟩ => ⟨S2x8x5632, .f32⟩
  | .local _ .vmem, ⟨0, _⟩ => ⟨S2x2048x256, .f32⟩
  | .local _ .vmem, ⟨1, _⟩ => ⟨S2x2048x256, .f32⟩
  | .local _ .vmem, ⟨2, _⟩ => ⟨S2048x256, .f32⟩
  | .local _ .vmem, ⟨3, _⟩ => ⟨S2048x256, .f32⟩
  | .local _ .vmem, ⟨4, _⟩ => ⟨S2x8x256, .f32⟩
  | .local _ .vmem, ⟨5, _⟩ => ⟨S2x8x256, .f32⟩
  | .local _ .vmem, ⟨6, _⟩ => ⟨S2x2048x256, .bf16⟩
  | .local _ .vmem, ⟨7, _⟩ => ⟨S2x2048x256, .bf16⟩
  | .local _ .vmem, ⟨8, _⟩ => ⟨S2x8x256, .f32⟩
  | .local _ .vmem, ⟨9, _⟩ => ⟨S2x8x256, .f32⟩
  | _, _ => ⟨S1x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S1x2048x11264 : Shape := ⟨3, ![1, 2048, 11264]⟩
abbrev S3x11264 : Shape := ⟨2, ![3, 11264]⟩
abbrev S11264 : Shape := ⟨1, ![11264]⟩
abbrev S1x2048x5632 : Shape := ⟨3, ![1, 2048, 5632]⟩
abbrev S_ : Shape := ⟨0, ![]⟩
abbrev S1x1x11264 : Shape := ⟨3, ![1, 1, 11264]⟩
abbrev S1x2050x11264 : Shape := ⟨3, ![1, 2050, 11264]⟩
abbrev S1x11264 : Shape := ⟨2, ![1, 11264]⟩
abbrev S3x2x5632 : Shape := ⟨3, ![3, 2, 5632]⟩
abbrev S2x3x5632 : Shape := ⟨3, ![2, 3, 5632]⟩
abbrev S1x2x5632 : Shape := ⟨3, ![1, 2, 5632]⟩
abbrev S2x1x5632 : Shape := ⟨3, ![2, 1, 5632]⟩
abbrev S2x4x5632 : Shape := ⟨3, ![2, 4, 5632]⟩
abbrev S2x8x5632 : Shape := ⟨3, ![2, 8, 5632]⟩
abbrev S2048x2x5632 : Shape := ⟨3, ![2048, 2, 5632]⟩
abbrev S2x2048x5632 : Shape := ⟨3, ![2, 2048, 5632]⟩

abbrev nBuf : Space → Nat
  | .hbm => 118
  | .vmem => 0
  | .smem => 0
  | _ => 0

abbrev bufTy : (tb : Table) → Fin (tcTables nBuf tb) → BufTy
  | .hbm, ⟨0, _⟩ => ⟨S1x2048x11264, .f32⟩
  | .hbm, ⟨1, _⟩ => ⟨S3x11264, .f32⟩
  | .hbm, ⟨2, _⟩ => ⟨S11264, .f32⟩
  | .hbm, ⟨3, _⟩ => ⟨S1x2048x5632, .f32⟩
  | .hbm, ⟨4, _⟩ => ⟨S_, .f32⟩
  | .hbm, ⟨5, _⟩ => ⟨S1x1x11264, .f32⟩
  | .hbm, ⟨6, _⟩ => ⟨S1x2050x11264, .f32⟩
  | .hbm, ⟨7, _⟩ => ⟨S_, .f32⟩
  | .hbm, ⟨8, _⟩ => ⟨S1x1x11264, .f32⟩
  | .hbm, ⟨9, _⟩ => ⟨S_, .f32⟩
  | .hbm, ⟨10, _⟩ => ⟨S1x1x11264, .f32⟩
  | .hbm, ⟨11, _⟩ => ⟨S1x2048x11264, .f32⟩
  | .hbm, ⟨12, _⟩ => ⟨S1x11264, .f32⟩
  | .hbm, ⟨13, _⟩ => ⟨S11264, .f32⟩
  | .hbm, ⟨14, _⟩ => ⟨S1x1x11264, .f32⟩
  | .hbm, ⟨15, _⟩ => ⟨S1x2048x11264, .f32⟩
  | .hbm, ⟨16, _⟩ => ⟨S1x2048x11264, .f32⟩
  | .hbm, ⟨17, _⟩ => ⟨S1x2048x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S1x2048x11264, .f32⟩
  | .hbm, ⟨22, _⟩ => ⟨S1x2048x11264, .f32⟩
  | .hbm, ⟨23, _⟩ => ⟨S1x2048x11264, .f32⟩
  | .hbm, ⟨24, _⟩ => ⟨S1x2048x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S1x2048x11264, .f32⟩
  | .hbm, ⟨29, _⟩ => ⟨S1x2048x11264, .f32⟩
  | .hbm, ⟨30, _⟩ => ⟨S1x2048x11264, .f32⟩
  | .hbm, ⟨31, _⟩ => ⟨S1x1x11264, .f32⟩
  | .hbm, ⟨32, _⟩ => ⟨S1x2048x11264, .f32⟩
  | .hbm, ⟨33, _⟩ => ⟨S1x2048x11264, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S_, .f32⟩
  | .hbm, ⟨39, _⟩ => ⟨S1x2048x5632, .f32⟩
  | .hbm, ⟨40, _⟩ => ⟨S1x2048x5632, .f32⟩
  | .hbm, ⟨41, _⟩ => ⟨S_, .f32⟩
  | .hbm, ⟨42, _⟩ => ⟨S1x2048x5632, .f32⟩
  | .hbm, ⟨43, _⟩ => ⟨S1x2048x5632, .f32⟩
  | .hbm, ⟨44, _⟩ => ⟨S_, .f32⟩
  | .hbm, ⟨45, _⟩ => ⟨S1x2048x5632, .f32⟩
  | .hbm, ⟨46, _⟩ => ⟨S1x2048x5632, .f32⟩
  | .hbm, ⟨47, _⟩ => ⟨S1x2048x5632, .f32⟩
  | .hbm, ⟨48, _⟩ => ⟨S1x2048x5632, .f32⟩
  | .hbm, ⟨49, _⟩ => ⟨S1x2048x5632, .f32⟩
  | .hbm, ⟨50, _⟩ => ⟨S1x2048x5632, .f32⟩
  | .hbm, ⟨51, _⟩ => ⟨S1x2048x5632, .f32⟩
  | .hbm, ⟨52, _⟩ => ⟨S1x2048x5632, .f32⟩
  | .hbm, ⟨53, _⟩ => ⟨S1x2048x5632, .f32⟩
  | .hbm, ⟨54, _⟩ => ⟨S1x2048x5632, .f32⟩
  | .hbm, ⟨55, _⟩ => ⟨S1x2048x5632, .f32⟩
  | .hbm, ⟨56, _⟩ => ⟨S1x2048x11264, .f32⟩
  | .hbm, ⟨57, _⟩ => ⟨S_, .f32⟩
  | .hbm, ⟨58, _⟩ => ⟨S1x11264, .f32⟩
  | .hbm, ⟨59, _⟩ => ⟨S1x1x11264, .f32⟩
  | .hbm, ⟨60, _⟩ => ⟨S_, .f32⟩
  | .hbm, ⟨61, _⟩ => ⟨S11264, .f32⟩
  | .hbm, ⟨62, _⟩ => ⟨S1x2048x11264, .f32⟩
  | .hbm, ⟨63, _⟩ => ⟨S_, .f32⟩
  | .hbm, ⟨64, _⟩ => ⟨S1x11264, .f32⟩
  | .hbm, ⟨65, _⟩ => ⟨S1x1x11264, .f32⟩
  | .hbm, ⟨66, _⟩ => ⟨S1x2048x11264, .f32⟩
  | .hbm, ⟨67, _⟩ => ⟨S1x2048x11264, .f32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S_, .f32⟩
  | .hbm, ⟨72, _⟩ => ⟨S3x11264, .f32⟩
  | .hbm, ⟨73, _⟩ => ⟨S_, .f32⟩
  | .hbm, ⟨74, _⟩ => ⟨S1x2050x11264, .f32⟩
  | .hbm, ⟨75, _⟩ => ⟨S1x2048x11264, .f32⟩
  | .hbm, ⟨76, _⟩ => ⟨S_, .f32⟩
  | .hbm, ⟨77, _⟩ => ⟨S1x11264, .f32⟩
  | .hbm, ⟨78, _⟩ => ⟨S1x1x11264, .f32⟩
  | .hbm, ⟨79, _⟩ => ⟨S1x2048x11264, .f32⟩
  | .hbm, ⟨80, _⟩ => ⟨S1x2048x11264, .f32⟩
  | .hbm, ⟨81, _⟩ => ⟨S_, .f32⟩
  | .hbm, ⟨82, _⟩ => ⟨S11264, .f32⟩
  | .hbm, ⟨83, _⟩ => ⟨S1x11264, .f32⟩
  | .hbm, ⟨84, _⟩ => ⟨S_, .f32⟩
  | .hbm, ⟨85, _⟩ => ⟨S3x11264, .f32⟩
  | .hbm, ⟨86, _⟩ => ⟨S3x11264, .f32⟩
  | .hbm, ⟨87, _⟩ => ⟨S_, .f32⟩
  | .hbm, ⟨88, _⟩ => ⟨S1x2050x11264, .f32⟩
  | .hbm, ⟨89, _⟩ => ⟨S1x2050x11264, .f32⟩
  | .hbm, ⟨90, _⟩ => ⟨S1x2048x11264, .f32⟩
  | .hbm, ⟨91, _⟩ => ⟨S_, .f32⟩
  | .hbm, ⟨92, _⟩ => ⟨S1x11264, .f32⟩
  | .hbm, ⟨93, _⟩ => ⟨S1x1x11264, .f32⟩
  | .hbm, ⟨94, _⟩ => ⟨S1x2048x11264, .f32⟩
  | .hbm, ⟨95, _⟩ => ⟨S1x2048x11264, .f32⟩
  | .hbm, ⟨96, _⟩ => ⟨S_, .f32⟩
  | .hbm, ⟨97, _⟩ => ⟨S11264, .f32⟩
  | .hbm, ⟨98, _⟩ => ⟨S1x11264, .f32⟩
  | .hbm, ⟨99, _⟩ => ⟨S_, .f32⟩
  | .hbm, ⟨100, _⟩ => ⟨S3x11264, .f32⟩
  | .hbm, ⟨101, _⟩ => ⟨S3x11264, .f32⟩
  | .hbm, ⟨102, _⟩ => ⟨S_, .f32⟩
  | .hbm, ⟨103, _⟩ => ⟨S1x2050x11264, .f32⟩
  | .hbm, ⟨104, _⟩ => ⟨S1x2050x11264, .f32⟩
  | .hbm, ⟨105, _⟩ => ⟨S1x1x11264, .f32⟩
  | .hbm, ⟨106, _⟩ => ⟨S1x2048x11264, .f32⟩
  | .hbm, ⟨107, _⟩ => ⟨S1x1x11264, .f32⟩
  | .hbm, ⟨108, _⟩ => ⟨S3x2x5632, .f32⟩
  | .hbm, ⟨109, _⟩ => ⟨S2x3x5632, .f32⟩
  | .hbm, ⟨110, _⟩ => ⟨S1x2x5632, .f32⟩
  | .hbm, ⟨111, _⟩ => ⟨S2x1x5632, .f32⟩
  | .hbm, ⟨112, _⟩ => ⟨S_, .f32⟩
  | .hbm, ⟨113, _⟩ => ⟨S2x4x5632, .f32⟩
  | .hbm, ⟨114, _⟩ => ⟨S2x8x5632, .f32⟩
  | .hbm, ⟨115, _⟩ => ⟨S2048x2x5632, .f32⟩
  | .hbm, ⟨116, _⟩ => ⟨S2x2048x5632, .f32⟩
  | .hbm, ⟨117, _⟩ => ⟨S2x2048x5632, .bf16⟩
  | _, _ => ⟨S1x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== NormFwd.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutnFwd.lean ====
abbrev S2048x768 : Shape := ⟨2, ![2048, 768]⟩
abbrev S2048x512 : Shape := ⟨2, ![2048, 512]⟩
abbrev S2048 : Shape := ⟨1, ![2048]⟩
abbrev S1x2048 : Shape := ⟨2, ![1, 2048]⟩
abbrev S2048x2048 : Shape := ⟨2, ![2048, 2048]⟩
abbrev S256x768 : Shape := ⟨2, ![256, 768]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x768 : Shape := ⟨2, ![1, 768]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x768, .f32⟩
  | .hbm, ⟨1, _⟩ => ⟨S2048x512, .f32⟩
  | .hbm, ⟨2, _⟩ => ⟨S2048x768, .f32⟩
  | .hbm, ⟨3, _⟩ => ⟨S2048, .f32⟩
  | .hbm, ⟨4, _⟩ => ⟨S1x2048, .f32⟩
  | .hbm, ⟨5, _⟩ => ⟨S2048x2048, .bf16⟩
  | .local _ .vmem, ⟨0, _⟩ => ⟨S256x768, .f32⟩
  | .local _ .vmem, ⟨1, _⟩ => ⟨S256x768, .f32⟩
  | .local _ .vmem, ⟨2, _⟩ => ⟨S256x512, .f32⟩
  | .local _ .vmem, ⟨3, _⟩ => ⟨S256x512, .f32⟩
  | .local _ .vmem, ⟨4, _⟩ => ⟨S256x768, .f32⟩
  | .local _ .vmem, ⟨5, _⟩ => ⟨S256x768, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutnFwdRefIdeal.lean ====
abbrev S2048x768 : Shape := ⟨2, ![2048, 768]⟩
abbrev S2048x512 : Shape := ⟨2, ![2048, 512]⟩
abbrev S2048 : Shape := ⟨1, ![2048]⟩
abbrev S768 : Shape := ⟨1, ![768]⟩
abbrev S512 : Shape := ⟨1, ![512]⟩
abbrev S_ : Shape := ⟨0, ![]⟩
abbrev S2048x1 : Shape := ⟨2, ![2048, 1]⟩
abbrev S1x768 : Shape := ⟨2, ![1, 768]⟩
abbrev S1x512 : Shape := ⟨2, ![1, 512]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x512, .f32⟩
  | .hbm, ⟨2, _⟩ => ⟨S2048x768, .f32⟩
  | .hbm, ⟨3, _⟩ => ⟨S2048, .f32⟩
  | .hbm, ⟨4, _⟩ => ⟨S768, .f32⟩
  | .hbm, ⟨5, _⟩ => ⟨S512, .f32⟩
  | .hbm, ⟨6, _⟩ => ⟨S768, .f32⟩
  | .hbm, ⟨7, _⟩ => ⟨S2048x768, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x768, .f32⟩
  | .hbm, ⟨19, _⟩ => ⟨S2048x768, .f32⟩
  | .hbm, ⟨20, _⟩ => ⟨S1x768, .f32⟩
  | .hbm, ⟨21, _⟩ => ⟨S2048x768, .f32⟩
  | .hbm, ⟨22, _⟩ => ⟨S2048x768, .f32⟩
  | .hbm, ⟨23, _⟩ => ⟨S2048x512, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x768, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x768, .f32⟩
  | .hbm, ⟨51, _⟩ => ⟨S2048x768, .f32⟩
  | .hbm, ⟨52, _⟩ => ⟨S1x768, .f32⟩
  | .hbm, ⟨53, _⟩ => ⟨S2048x768, .f32⟩
  | .hbm, ⟨54, _⟩ => ⟨S2048x768, .f32⟩
  | .hbm, ⟨55, _⟩ => ⟨S2048x2048, .f32⟩
  | .hbm, ⟨56, _⟩ => ⟨S2048x2048, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== RopeQFwd.lean ====
abbrev S1x2048x6x192 : Shape := ⟨4, ![1, 2048, 6, 192]⟩
abbrev S1x2048x6x128 : Shape := ⟨4, ![1, 2048, 6, 128]⟩
abbrev S2048x6x128 : Shape := ⟨3, ![2048, 6, 128]⟩
abbrev S2048x768 : Shape := ⟨2, ![2048, 768]⟩
abbrev S1x2048x6x64 : Shape := ⟨4, ![1, 2048, 6, 64]⟩
abbrev S2048x6x64 : Shape := ⟨3, ![2048, 6, 64]⟩
abbrev S_ : Shape := ⟨0, ![]⟩
abbrev S2048x1536 : Shape := ⟨2, ![2048, 1536]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S2048x96 : Shape := ⟨2, ![2048, 96]⟩
abbrev S2048x112 : Shape := ⟨2, ![2048, 112]⟩
abbrev S2048x64 : Shape := ⟨2, ![2048, 64]⟩
abbrev S512x1536 : Shape := ⟨2, ![512, 1536]⟩
abbrev S512x128 : Shape := ⟨2, ![512, 128]⟩

abbrev nBuf : Space → Nat
  | .hbm => 163
  | .vmem => 10
  | .smem => 0
  | _ => 0

abbrev hbmTy0_0 (i : Nat) : BufTy := match i % 128 with
  | 0 => ⟨S1x2048x6x192, .f32⟩
  | 1 => ⟨S1x2048x6x128, .f32⟩
  | 2 => ⟨S2048x6x128, .f32⟩
  | 3 => ⟨S2048x768, .f32⟩
  | 4 => ⟨S1x2048x6x64, .f32⟩
  | 5 => ⟨S2048x6x64, .f32⟩
  | 6 => ⟨S_, .i32⟩
  | 7 => ⟨S_, .f32⟩
  | 8 => ⟨S2048x6x128, .f32⟩
  | 9 => ⟨S2048x768, .f32⟩
  | 10 => ⟨S2048x1536, .f32⟩
  | 11 => ⟨S32, .i32⟩
  | 12 => ⟨S32x64, .i32⟩
  | 13 => ⟨S2048, .i32⟩
  | 14 => ⟨S64, .i32⟩
  | 15 => ⟨S1x64, .i32⟩
  | 16 => ⟨S32x64, .i32⟩
  | 17 => ⟨S2048, .i32⟩
  | 18 => ⟨S2048, .i32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S2048, .f32⟩
  | 34 => ⟨S2048x1, .f32⟩
  | 35 => ⟨S1x32, .f32⟩
  | 36 => ⟨S2048x32, .f32⟩
  | 37 => ⟨S2048x32, .f32⟩
  | 38 => ⟨S2048x32, .f32⟩
  | 39 => ⟨S2048x32, .f32⟩
  | 40 => ⟨S2048x32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S2048, .f32⟩
  | 56 => ⟨S2048x1, .f32⟩
  | 57 => ⟨S1x32, .f32⟩
  | 58 => ⟨S2048x32, .f32⟩
  | 59 => ⟨S2048x32, .f32⟩
  | 60 => ⟨S2048x32, .f32⟩
  | 61 => ⟨S2048x32, .f32⟩
  | 62 => ⟨S2048x32, .f32⟩
  | 63 => ⟨S2048x128, .f32⟩
  | 64 => ⟨S2048x32, .f32⟩
  | 65 => ⟨S_, .f32⟩
  | 66 => ⟨S2048x32, .f32⟩
  | 67 => ⟨S2048x32, .f32⟩
  | 68 => ⟨S_, .f32⟩
  | 69 => ⟨S2048x32, .f32⟩
  | 70 => ⟨S2048x128, .f32⟩
  | 71 => ⟨S_, .f32⟩
  | 72 => ⟨S2048x32, .f32⟩
  | 73 => ⟨S_, .f32⟩
  | 74 => ⟨S2048x32, .f32⟩
  | 75 => ⟨S2048x128, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S2048, .f32⟩
  | 91 => ⟨S2048x1, .f32⟩
  | 92 => ⟨S1x16, .f32⟩
  | 93 => ⟨S2048x16, .f32⟩
  | 94 => ⟨S2048x16, .f32⟩
  | 95 => ⟨S2048x16, .f32⟩
  | 96 => ⟨S2048x16, .f32⟩
  | 97 => ⟨S2048x16, .f32⟩
  | 98 => ⟨S_, .f32⟩
  | 99 => ⟨S2048x96, .f32⟩
  | 100 => ⟨S2048x128, .f32⟩
  | 101 => ⟨S2048x16, .f32⟩
  | 102 => ⟨S_, .f32⟩
  | 103 => ⟨S2048x112, .f32⟩
  | 104 => ⟨S2048x128, .f32⟩
  | 105 => ⟨S_, .f32⟩
  | 106 => ⟨S2048x16, .f32⟩
  | 107 => ⟨S_, .f32⟩
  | 108 => ⟨S2048x96, .f32⟩
  | 109 => ⟨S2048x128, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S2048, .f32⟩
  | 125 => ⟨S2048x1, .f32⟩
  | 126 => ⟨S1x32, .f32⟩
  | 127 => ⟨S2048x32, .f32⟩
  | _ => ⟨S1x2048x6x192, .f32⟩

abbrev hbmTy0_1 (i : Nat) : BufTy := match i % 128 with
  | 0 => ⟨S2048x32, .f32⟩
  | 1 => ⟨S2048x32, .f32⟩
  | 2 => ⟨S2048x32, .f32⟩
  | 3 => ⟨S2048x32, .f32⟩
  | 4 => ⟨S_, .f32⟩
  | 5 => ⟨S2048x64, .f32⟩
  | 6 => ⟨S2048x128, .f32⟩
  | 7 => ⟨S2048x32, .f32⟩
  | 8 => ⟨S_, .f32⟩
  | 9 => ⟨S2048x96, .f32⟩
  | 10 => ⟨S2048x128, .f32⟩
  | 11 => ⟨S_, .f32⟩
  | 12 => ⟨S2048x32, .f32⟩
  | 13 => ⟨S_, .f32⟩
  | 14 => ⟨S2048x64, .f32⟩
  | 15 => ⟨S2048x128, .f32⟩
  | 16 => ⟨S2048x96, .f32⟩
  | 17 => ⟨S2048x32, .f32⟩
  | 18 => ⟨S2048x128, .f32⟩
  | 19 => ⟨S2048x32, .f32⟩
  | 20 => ⟨S2048x96, .f32⟩
  | 21 => ⟨S2048x128, .f32⟩
  | 22 => ⟨S2048x112, .f32⟩
  | 23 => ⟨S2048x16, .f32⟩
  | 24 => ⟨S2048x128, .f32⟩
  | 25 => ⟨S2048x16, .f32⟩
  | 26 => ⟨S2048x112, .f32⟩
  | 27 => ⟨S2048x128, .f32⟩
  | 28 => ⟨S2048x96, .f32⟩
  | 29 => ⟨S2048x32, .f32⟩
  | 30 => ⟨S2048x128, .f32⟩
  | 31 => ⟨S2048x32, .f32⟩
  | 32 => ⟨S2048x96, .f32⟩
  | 33 => ⟨S2048x128, .f32⟩
  | 34 => ⟨S2048x1536, .bf16⟩
  | _ => ⟨S1x2048x6x192, .f32⟩

abbrev hbmTy (i : Nat) : BufTy := match i / 128 with
  | 0 => hbmTy0_0 i
  | 1 => hbmTy0_1 i
  | _ => ⟨S1x2048x6x192, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1536, .bf16⟩
  | .local _ .vmem, ⟨9, _⟩ => ⟨S512x1536, .bf16⟩
  | _, _ => ⟨S1x2048x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_15 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_cst_17 : Ref sig .tc := ⟨.hbm, 105, rfl⟩
abbrev main_v84 : Ref sig .tc := ⟨.hbm, 106, rfl⟩
abbrev main_cst_18 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_19 : Ref sig .tc := ⟨.hbm, 111, rfl⟩
abbrev main_v88 : Ref sig .tc := ⟨.hbm, 112, rfl⟩
abbrev main_v89 : Ref sig .tc := ⟨.hbm, 113, rfl⟩
abbrev main_cst_20 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_21 : Ref sig .tc := ⟨.hbm, 118, rfl⟩
abbrev main_v93 : Ref sig .tc := ⟨.hbm, 119, rfl⟩
abbrev main_v94 : Ref sig .tc := ⟨.hbm, 120, rfl⟩
abbrev main_cst_22 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_23 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_24 : Ref sig .tc := ⟨.hbm, 136, rfl⟩
abbrev main_v108 : Ref sig .tc := ⟨.hbm, 137, rfl⟩
abbrev main_v109 : Ref sig .tc := ⟨.hbm, 138, rfl⟩
abbrev main_cst_25 : Ref sig .tc := ⟨.hbm, 139, rfl⟩
abbrev main_v110 : Ref sig .tc := ⟨.hbm, 140, rfl⟩
abbrev main_cst_26 : Ref sig .tc := ⟨.hbm, 141, rfl⟩
abbrev main_v111 : Ref sig .tc := ⟨.hbm, 142, rfl⟩
abbrev main_v112 : Ref sig .tc := ⟨.hbm, 143, rfl⟩
abbrev main_call1_v0 : Ref sig .tc := ⟨.hbm, 144, rfl⟩
abbrev main_call1_v1 : Ref sig .tc := ⟨.hbm, 145, rfl⟩
abbrev main_v113 : Ref sig .tc := ⟨.hbm, 146, rfl⟩
abbrev main_call2_v0 : Ref sig .tc := ⟨.hbm, 147, rfl⟩
abbrev main_call2_v1 : Ref sig .tc := ⟨.hbm, 148, rfl⟩
abbrev main_v114 : Ref sig .tc := ⟨.hbm, 149, rfl⟩
abbrev main_call3_v0 : Ref sig .tc := ⟨.hbm, 150, rfl⟩
abbrev main_call3_v1 : Ref sig .tc := ⟨.hbm, 151, rfl⟩
abbrev main_v115 : Ref sig .tc := ⟨.hbm, 152, rfl⟩
abbrev main_call4_v0 : Ref sig .tc := ⟨.hbm, 153, rfl⟩
abbrev main_call4_v1 : Ref sig .tc := ⟨.hbm, 154, rfl⟩
abbrev main_v116 : Ref sig .tc := ⟨.hbm, 155, rfl⟩
abbrev main_call5_v0 : Ref sig .tc := ⟨.hbm, 156, rfl⟩
abbrev main_call5_v1 : Ref sig .tc := ⟨.hbm, 157, rfl⟩
abbrev main_v117 : Ref sig .tc := ⟨.hbm, 158, rfl⟩
abbrev main_call6_v0 : Ref sig .tc := ⟨.hbm, 159, rfl⟩
abbrev main_call6_v1 : Ref sig .tc := ⟨.hbm, 160, rfl⟩
abbrev main_v118 : Ref sig .tc := ⟨.hbm, 161, rfl⟩
abbrev main_v119 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeQFwdRefIdeal.lean ====
abbrev S1x2048x6x192 : Shape := ⟨4, ![1, 2048, 6, 192]⟩
abbrev S1x2048x6x64 : Shape := ⟨4, ![1, 2048, 6, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x6x32 : Shape := ⟨4, ![1, 2048, 6, 32]⟩
abbrev S1x2048x1x32 : Shape := ⟨4, ![1, 2048, 1, 32]⟩
abbrev S2048x6x64 : Shape := ⟨3, ![2048, 6, 64]⟩
abbrev S2048x6x128 : Shape := ⟨3, ![2048, 6, 128]⟩
abbrev S2048x768 : Shape := ⟨2, ![2048, 768]⟩
abbrev S1x2048x6x128 : Shape := ⟨4, ![1, 2048, 6, 128]⟩
abbrev S2048x1536 : Shape := ⟨2, ![2048, 1536]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x6x192, .f32⟩
  | .hbm, ⟨1, _⟩ => ⟨S1x2048x6x64, .f32⟩
  | .hbm, ⟨2, _⟩ => ⟨S2048, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1x32, .f32⟩
  | .hbm, ⟨26, _⟩ => ⟨S2048x1x32, .f32⟩
  | .hbm, ⟨27, _⟩ => ⟨S1x2048x6x32, .f32⟩
  | .hbm, ⟨28, _⟩ => ⟨S1x2048x6x32, .f32⟩
  | .hbm, ⟨29, _⟩ => ⟨S1x2048x1x32, .f32⟩
  | .hbm, ⟨30, _⟩ => ⟨S1x2048x6x32, .f32⟩
  | .hbm, ⟨31, _⟩ => ⟨S1x2048x6x32, .f32⟩
  | .hbm, ⟨32, _⟩ => ⟨S1x2048x1x32, .f32⟩
  | .hbm, ⟨33, _⟩ => ⟨S1x2048x6x32, .f32⟩
  | .hbm, ⟨34, _⟩ => ⟨S1x2048x6x32, .f32⟩
  | .hbm, ⟨35, _⟩ => ⟨S1x2048x6x32, .f32⟩
  | .hbm, ⟨36, _⟩ => ⟨S1x2048x1x32, .f32⟩
  | .hbm, ⟨37, _⟩ => ⟨S1x2048x6x32, .f32⟩
  | .hbm, ⟨38, _⟩ => ⟨S1x2048x6x32, .f32⟩
  | .hbm, ⟨39, _⟩ => ⟨S1x2048x1x32, .f32⟩
  | .hbm, ⟨40, _⟩ => ⟨S1x2048x6x32, .f32⟩
  | .hbm, ⟨41, _⟩ => ⟨S1x2048x6x32, .f32⟩
  | .hbm, ⟨42, _⟩ => ⟨S1x2048x6x32, .f32⟩
  | .hbm, ⟨43, _⟩ => ⟨S1x2048x6x64, .f32⟩
  | .hbm, ⟨44, _⟩ => ⟨S2048x6x64, .f32⟩
  | .hbm, ⟨45, _⟩ => ⟨S_, .i32⟩
  | .hbm, ⟨46, _⟩ => ⟨S_, .f32⟩
  | .hbm, ⟨47, _⟩ => ⟨S2048x6x128, .f32⟩
  | .hbm, ⟨48, _⟩ => ⟨S2048x768, .f32⟩
  | .hbm, ⟨49, _⟩ => ⟨S1x2048x6x128, .f32⟩
  | .hbm, ⟨50, _⟩ => ⟨S2048x6x128, .f32⟩
  | .hbm, ⟨51, _⟩ => ⟨S2048x768, .f32⟩
  | .hbm, ⟨52, _⟩ => ⟨S2048x1536, .f32⟩
  | .hbm, ⟨53, _⟩ => ⟨S2048x1536, .bf16⟩
  | _, _ => ⟨S1x2048x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c : Ref sig .tc := ⟨.hbm, 45, rfl⟩
abbrev main_call0_v0 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== RopeKFwd.lean ====
abbrev S1x2048x64 : Shape := ⟨3, ![1, 2048, 64]⟩
abbrev S2048x64 : Shape := ⟨2, ![2048, 64]⟩
abbrev S_ : Shape := ⟨0, ![]⟩
abbrev S2048x128 : Shape := ⟨2, ![2048, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S16 : Shape := ⟨1, ![16]⟩
abbrev S1x16 : Shape := ⟨2, ![1, 16]⟩
abbrev S2048x16 : Shape := ⟨2, ![2048, 16]⟩
abbrev S2048x96 : Shape := ⟨2, ![2048, 96]⟩
abbrev S2048x112 : Shape := ⟨2, ![2048, 112]⟩

abbrev nBuf : Space → Nat
  | .hbm => 157
  | .vmem => 5
  | .smem => 0
  | _ => 0

abbrev hbmTy0_0 (i : Nat) : BufTy := match i % 128 with
  | 0 => ⟨S1x2048x64, .f32⟩
  | 1 => ⟨S2048x64, .f32⟩
  | 2 => ⟨S_, .i32⟩
  | 3 => ⟨S_, .f32⟩
  | 4 => ⟨S2048x128, .f32⟩
  | 5 => ⟨S32, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S2048, .i32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S2048x32, .f32⟩
  | 57 => ⟨S2048x128, .f32⟩
  | 58 => ⟨S2048x32, .f32⟩
  | 59 => ⟨S_, .f32⟩
  | 60 => ⟨S2048x32, .f32⟩
  | 61 => ⟨S2048x32, .f32⟩
  | 62 => ⟨S_, .f32⟩
  | 63 => ⟨S2048x32, .f32⟩
  | 64 => ⟨S2048x128, .f32⟩
  | 65 => ⟨S_, .f32⟩
  | 66 => ⟨S2048x32, .f32⟩
  | 67 => ⟨S_, .f32⟩
  | 68 => ⟨S2048x32, .f32⟩
  | 69 => ⟨S2048x128, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x16, .f32⟩
  | 91 => ⟨S2048x16, .f32⟩
  | 92 => ⟨S_, .f32⟩
  | 93 => ⟨S2048x96, .f32⟩
  | 94 => ⟨S2048x128, .f32⟩
  | 95 => ⟨S2048x16, .f32⟩
  | 96 => ⟨S_, .f32⟩
  | 97 => ⟨S2048x112, .f32⟩
  | 98 => ⟨S2048x128, .f32⟩
  | 99 => ⟨S_, .f32⟩
  | 100 => ⟨S2048x16, .f32⟩
  | 101 => ⟨S_, .f32⟩
  | 102 => ⟨S2048x96, .f32⟩
  | 103 => ⟨S2048x128, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S2048, .f32⟩
  | 119 => ⟨S2048x1, .f32⟩
  | 120 => ⟨S1x32, .f32⟩
  | 121 => ⟨S2048x32, .f32⟩
  | 122 => ⟨S2048x32, .f32⟩
  | 123 => ⟨S2048x32, .f32⟩
  | 124 => ⟨S2048x32, .f32⟩
  | 125 => ⟨S2048x32, .f32⟩
  | 126 => ⟨S_, .f32⟩
  | 127 => ⟨S2048x64, .f32⟩
  | _ => ⟨S1x2048x64, .f32⟩

abbrev hbmTy0_1 (i : Nat) : BufTy := match i % 128 with
  | 0 => ⟨S2048x128, .f32⟩
  | 1 => ⟨S2048x32, .f32⟩
  | 2 => ⟨S_, .f32⟩
  | 3 => ⟨S2048x96, .f32⟩
  | 4 => ⟨S2048x128, .f32⟩
  | 5 => ⟨S_, .f32⟩
  | 6 => ⟨S2048x32, .f32⟩
  | 7 => ⟨S_, .f32⟩
  | 8 => ⟨S2048x64, .f32⟩
  | 9 => ⟨S2048x128, .f32⟩
  | 10 => ⟨S2048x96, .f32⟩
  | 11 => ⟨S2048x32, .f32⟩
  | 12 => ⟨S2048x128, .f32⟩
  | 13 => ⟨S2048x32, .f32⟩
  | 14 => ⟨S2048x96, .f32⟩
  | 15 => ⟨S2048x128, .f32⟩
  | 16 => ⟨S2048x112, .f32⟩
  | 17 => ⟨S2048x16, .f32⟩
  | 18 => ⟨S2048x128, .f32⟩
  | 19 => ⟨S2048x16, .f32⟩
  | 20 => ⟨S2048x112, .f32⟩
  | 21 => ⟨S2048x128, .f32⟩
  | 22 => ⟨S2048x96, .f32⟩
  | 23 => ⟨S2048x32, .f32⟩
  | 24 => ⟨S2048x128, .f32⟩
  | 25 => ⟨S2048x32, .f32⟩
  | 26 => ⟨S2048x96, .f32⟩
  | 27 => ⟨S2048x128, .f32⟩
  | 28 => ⟨S2048x128, .bf16⟩
  | _ => ⟨S1x2048x64, .f32⟩

abbrev hbmTy (i : Nat) : BufTy := match i / 128 with
  | 0 => hbmTy0_0 i
  | 1 => hbmTy0_1 i
  | _ => ⟨S1x2048x64, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | _, _ => ⟨S1x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_19 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_21 : Ref sig .tc := ⟨.hbm, 112, rfl⟩
abbrev main_v87 : Ref sig .tc := ⟨.hbm, 113, rfl⟩
abbrev main_v88 : Ref sig .tc := ⟨.hbm, 114, rfl⟩
abbrev main_cst_22 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_23 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_24 : Ref sig .tc := ⟨.hbm, 130, rfl⟩
abbrev main_v102 : Ref sig .tc := ⟨.hbm, 131, rfl⟩
abbrev main_v103 : Ref sig .tc := ⟨.hbm, 132, rfl⟩
abbrev main_cst_25 : Ref sig .tc := ⟨.hbm, 133, rfl⟩
abbrev main_v104 : Ref sig .tc := ⟨.hbm, 134, rfl⟩
abbrev main_cst_26 : Ref sig .tc := ⟨.hbm, 135, rfl⟩
abbrev main_v105 : Ref sig .tc := ⟨.hbm, 136, rfl⟩
abbrev main_v106 : Ref sig .tc := ⟨.hbm, 137, rfl⟩
abbrev main_call1_v0 : Ref sig .tc := ⟨.hbm, 138, rfl⟩
abbrev main_call1_v1 : Ref sig .tc := ⟨.hbm, 139, rfl⟩
abbrev main_v107 : Ref sig .tc := ⟨.hbm, 140, rfl⟩
abbrev main_call2_v0 : Ref sig .tc := ⟨.hbm, 141, rfl⟩
abbrev main_call2_v1 : Ref sig .tc := ⟨.hbm, 142, rfl⟩
abbrev main_v108 : Ref sig .tc := ⟨.hbm, 143, rfl⟩
abbrev main_call3_v0 : Ref sig .tc := ⟨.hbm, 144, rfl⟩
abbrev main_call3_v1 : Ref sig .tc := ⟨.hbm, 145, rfl⟩
abbrev main_v109 : Ref sig .tc := ⟨.hbm, 146, rfl⟩
abbrev main_call4_v0 : Ref sig .tc := ⟨.hbm, 147, rfl⟩
abbrev main_call4_v1 : Ref sig .tc := ⟨.hbm, 148, rfl⟩
abbrev main_v110 : Ref sig .tc := ⟨.hbm, 149, rfl⟩
abbrev main_call5_v0 : Ref sig .tc := ⟨.hbm, 150, rfl⟩
abbrev main_call5_v1 : Ref sig .tc := ⟨.hbm, 151, rfl⟩
abbrev main_v111 : Ref sig .tc := ⟨.hbm, 152, rfl⟩
abbrev main_call6_v0 : Ref sig .tc := ⟨.hbm, 153, rfl⟩
abbrev main_call6_v1 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== RopeKFwdRefIdeal.lean ====
abbrev S1x2048x64 : Shape := ⟨3, ![1, 2048, 64]⟩
abbrev S1x2048x1x64 : Shape := ⟨4, ![1, 2048, 1, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x1x32 : Shape := ⟨4, ![1, 2048, 1, 32]⟩
abbrev S2048x64 : Shape := ⟨2, ![2048, 64]⟩
abbrev S2048x128 : Shape := ⟨2, ![2048, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x64, .f32⟩
  | .hbm, ⟨1, _⟩ => ⟨S1x2048x1x64, .f32⟩
  | .hbm, ⟨2, _⟩ => ⟨S2048, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1x32, .f32⟩
  | .hbm, ⟨26, _⟩ => ⟨S2048x1x32, .f32⟩
  | .hbm, ⟨27, _⟩ => ⟨S1x2048x1x32, .f32⟩
  | .hbm, ⟨28, _⟩ => ⟨S1x2048x1x32, .f32⟩
  | .hbm, ⟨29, _⟩ => ⟨S1x2048x1x32, .f32⟩
  | .hbm, ⟨30, _⟩ => ⟨S1x2048x1x32, .f32⟩
  | .hbm, ⟨31, _⟩ => ⟨S1x2048x1x32, .f32⟩
  | .hbm, ⟨32, _⟩ => ⟨S1x2048x1x32, .f32⟩
  | .hbm, ⟨33, _⟩ => ⟨S1x2048x1x32, .f32⟩
  | .hbm, ⟨34, _⟩ => ⟨S1x2048x1x32, .f32⟩
  | .hbm, ⟨35, _⟩ => ⟨S1x2048x1x32, .f32⟩
  | .hbm, ⟨36, _⟩ => ⟨S1x2048x1x32, .f32⟩
  | .hbm, ⟨37, _⟩ => ⟨S1x2048x1x32, .f32⟩
  | .hbm, ⟨38, _⟩ => ⟨S1x2048x1x32, .f32⟩
  | .hbm, ⟨39, _⟩ => ⟨S1x2048x1x64, .f32⟩
  | .hbm, ⟨40, _⟩ => ⟨S2048x64, .f32⟩
  | .hbm, ⟨41, _⟩ => ⟨S_, .i32⟩
  | .hbm, ⟨42, _⟩ => ⟨S_, .f32⟩
  | .hbm, ⟨43, _⟩ => ⟨S2048x128, .f32⟩
  | .hbm, ⟨44, _⟩ => ⟨S2048x128, .bf16⟩
  | _, _ => ⟨S1x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_c : Ref sig .tc := ⟨.hbm, 41, rfl⟩
abbrev main_call0_v0 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== FfnUp.lean ====
abbrev S2048x2048 : Shape := ⟨2, ![2048, 2048]⟩
abbrev S2048x11264 : Shape := ⟨2, ![2048, 11264]⟩
abbrev S3x11264 : Shape := ⟨2, ![3, 11264]⟩
abbrev S11264 : Shape := ⟨1, ![11264]⟩
abbrev S2048x4x2816 : Shape := ⟨3, ![2048, 4, 2816]⟩
abbrev S4x2048x2816 : Shape := ⟨3, ![4, 2048, 2816]⟩
abbrev S2x2x2048x2816 : Shape := ⟨4, ![2, 2, 2048, 2816]⟩
abbrev S3x2x5632 : Shape := ⟨3, ![3, 2, 5632]⟩
abbrev S2x3x5632 : Shape := ⟨3, ![2, 3, 5632]⟩
abbrev S2x1x5632 : Shape := ⟨3, ![2, 1, 5632]⟩
abbrev S_ : Shape := ⟨0, ![]⟩
abbrev S2x4x5632 : Shape := ⟨3, ![2, 4, 5632]⟩
abbrev S2x8x5632 : Shape := ⟨3, ![2, 8, 5632]⟩
abbrev S2x2048x5632 : Shape := ⟨3, ![2, 2048, 5632]⟩
abbrev S2048x5632 : Shape := ⟨2, ![2048, 5632]⟩
abbrev S2x1x2048x256 : Shape := ⟨4, ![2, 1, 2048, 256]⟩
abbrev S2x8x256 : Shape := ⟨3, ![2, 8, 256]⟩
abbrev S2x2048x256 : Shape := ⟨3, ![2, 2048, 256]⟩
abbrev S2048x256 : Shape := ⟨2, ![2048, 256]⟩
abbrev S1x1x2048x256 : Shape := ⟨4, ![1, 1, 2048, 256]⟩
abbrev S1x2048x256 : Shape := ⟨3, ![1, 2048, 256]⟩
abbrev S1x8x256 : Shape := ⟨3, ![1, 8, 256]⟩
abbrev S8x256 : Shape := ⟨2, ![8, 256]⟩
abbrev S1x256 : Shape := ⟨2, ![1, 256]⟩

abbrev nBuf : Space → Nat
  | .hbm => 15
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2048x4x2816, .bf16⟩
  | .hbm, ⟨5, _⟩ => ⟨S4x2048x2816, .bf16⟩
  | .hbm, ⟨6, _⟩ => ⟨S2x2x2048x2816, .bf16⟩
  | .hbm, ⟨7, _⟩ => ⟨S3x2x5632, .f32⟩
  | .hbm, ⟨8, _⟩ => ⟨S2x3x5632, .f32⟩
  | .hbm, ⟨9, _⟩ => ⟨S2x1x5632, .f32⟩
  | .hbm, ⟨10, _⟩ => ⟨S_, .f32⟩
  | .hbm, ⟨11, _⟩ => ⟨S2x4x5632, .f32⟩
  | .hbm, ⟨12, _⟩ => ⟨S2x8x5632, .f32⟩
  | .hbm, ⟨13, _⟩ => ⟨S2x2048x5632, .f32⟩
  | .hbm, ⟨14, _⟩ => ⟨S2048x5632, .bf16⟩
  | .local _ .vmem, ⟨0, _⟩ => ⟨S2048x2048, .bf16⟩
  | .local _ .vmem, ⟨1, _⟩ => ⟨S2x1x2048x256, .bf16⟩
  | .local _ .vmem, ⟨2, _⟩ => ⟨S2x1x2048x256, .bf16⟩
  | .local _ .vmem, ⟨3, _⟩ => ⟨S2x8x256, .f32⟩
  | .local _ .vmem, ⟨4, _⟩ => ⟨S2x8x256, .f32⟩
  | .local _ .vmem, ⟨5, _⟩ => ⟨S2x2048x256, .f32⟩
  | .local _ .vmem, ⟨6, _⟩ => ⟨S2x2048x256, .f32⟩
  | .local _ .vmem, ⟨7, _⟩ => ⟨S2048x256, .bf16⟩
  | .local _ .vmem, ⟨8, _⟩ => ⟨S2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpRefIdeal.lean ====
abbrev S2048x2048 : Shape := ⟨2, ![2048, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S2050x11264 : Shape := ⟨2, ![2050, 11264]⟩
abbrev S1x11264 : Shape := ⟨2, ![1, 11264]⟩
abbrev S2048x5632 : Shape := ⟨2, ![2048, 5632]⟩
abbrev S2048x2x5632 : Shape := ⟨3, ![2048, 2, 5632]⟩
abbrev S2x2048x5632 : Shape := ⟨3, ![2, 2048, 5632]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2048x11264, .f32⟩
  | .hbm, ⟨5, _⟩ => ⟨S_, .i32⟩
  | .hbm, ⟨6, _⟩ => ⟨S_, .f32⟩
  | .hbm, ⟨7, _⟩ => ⟨S2050x11264, .f32⟩
  | .hbm, ⟨8, _⟩ => ⟨S2048x11264, .f32⟩
  | .hbm, ⟨9, _⟩ => ⟨S1x11264, .f32⟩
  | .hbm, ⟨10, _⟩ => ⟨S11264, .f32⟩
  | .hbm, ⟨11, _⟩ => ⟨S1x11264, .f32⟩
  | .hbm, ⟨12, _⟩ => ⟨S2048x11264, .f32⟩
  | .hbm, ⟨13, _⟩ => ⟨S2048x11264, .f32⟩
  | .hbm, ⟨14, _⟩ => ⟨S2048x11264, .f32⟩
  | .hbm, ⟨15, _⟩ => ⟨S1x11264, .f32⟩
  | .hbm, ⟨16, _⟩ => ⟨S11264, .f32⟩
  | .hbm, ⟨17, _⟩ => ⟨S1x11264, .f32⟩
  | .hbm, ⟨18, _⟩ => ⟨S2048x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S11264, .f32⟩
  | .hbm, ⟨24, _⟩ => ⟨S1x11264, .f32⟩
  | .hbm, ⟨25, _⟩ => ⟨S2048x11264, .f32⟩
  | .hbm, ⟨26, _⟩ => ⟨S2048x11264, .f32⟩
  | .hbm, ⟨27, _⟩ => ⟨S2048x11264, .f32⟩
  | .hbm, ⟨28, _⟩ => ⟨S1x11264, .f32⟩
  | .hbm, ⟨29, _⟩ => ⟨S2048x11264, .f32⟩
  | .hbm, ⟨30, _⟩ => ⟨S2048x11264, .f32⟩
  | .hbm, ⟨31, _⟩ => ⟨S2048x5632, .f32⟩
  | .hbm, ⟨32, _⟩ => ⟨S2048x5632, .f32⟩
  | .hbm, ⟨33, _⟩ => ⟨S2048x2x5632, .f32⟩
  | .hbm, ⟨34, _⟩ => ⟨S2x2048x5632, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S_, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== PrepFwd.lean ====
abbrev S2048x4928 : Shape := ⟨2, ![2048, 4928]⟩
abbrev S128 : Shape := ⟨1, ![128]⟩
abbrev S512 : Shape := ⟨1, ![512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16 : Shape := ⟨1, ![16]⟩
abbrev S1x16 : Shape := ⟨2, ![1, 16]⟩
abbrev S2048x16 : Shape := ⟨2, ![2048, 16]⟩
abbrev S2048x96 : Shape := ⟨2, ![2048, 96]⟩
abbrev S2048x112 : Shape := ⟨2, ![2048, 112]⟩
abbrev S2048x64 : Shape := ⟨2, ![2048, 64]⟩
abbrev S1x128 : Shape := ⟨2, ![1, 128]⟩
abbrev S1x512 : Shape := ⟨2, ![1, 512]⟩
abbrev S2048x768 : Shape := ⟨2, ![2048, 768]⟩
abbrev S2048x256 : Shape := ⟨2, ![2048, 256]⟩
abbrev S2048x1536 : Shape := ⟨2, ![2048, 1536]⟩
abbrev S2048x512 : Shape := ⟨2, ![2048, 512]⟩
abbrev S256x4928 : Shape := ⟨2, ![256, 4928]⟩
abbrev S256x128 : Shape := ⟨2, ![256, 128]⟩
abbrev S256x768 : Shape := ⟨2, ![256, 768]⟩
abbrev S256x256 : Shape := ⟨2, ![256, 256]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩

abbrev nBuf : Space → Nat
  | .hbm => 167
  | .vmem => 32
  | .smem => 0
  | _ => 0

abbrev hbmTy0_0 (i : Nat) : BufTy := match i % 128 with
  | 0 => ⟨S2048x4928, .f32⟩
  | 1 => ⟨S128, .f32⟩
  | 2 => ⟨S128, .f32⟩
  | 3 => ⟨S512, .f32⟩
  | 4 => ⟨S512, .f32⟩
  | 5 => ⟨S32, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S2048, .i32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S2048x32, .f32⟩
  | 57 => ⟨S2048x128, .f32⟩
  | 58 => ⟨S2048x32, .f32⟩
  | 59 => ⟨S_, .f32⟩
  | 60 => ⟨S2048x32, .f32⟩
  | 61 => ⟨S2048x32, .f32⟩
  | 62 => ⟨S_, .f32⟩
  | 63 => ⟨S2048x32, .f32⟩
  | 64 => ⟨S2048x128, .f32⟩
  | 65 => ⟨S_, .f32⟩
  | 66 => ⟨S2048x32, .f32⟩
  | 67 => ⟨S_, .f32⟩
  | 68 => ⟨S2048x32, .f32⟩
  | 69 => ⟨S2048x128, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x16, .f32⟩
  | 91 => ⟨S2048x16, .f32⟩
  | 92 => ⟨S_, .f32⟩
  | 93 => ⟨S2048x96, .f32⟩
  | 94 => ⟨S2048x128, .f32⟩
  | 95 => ⟨S2048x16, .f32⟩
  | 96 => ⟨S_, .f32⟩
  | 97 => ⟨S2048x112, .f32⟩
  | 98 => ⟨S2048x128, .f32⟩
  | 99 => ⟨S_, .f32⟩
  | 100 => ⟨S2048x16, .f32⟩
  | 101 => ⟨S_, .f32⟩
  | 102 => ⟨S2048x96, .f32⟩
  | 103 => ⟨S2048x128, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S2048, .f32⟩
  | 119 => ⟨S2048x1, .f32⟩
  | 120 => ⟨S1x32, .f32⟩
  | 121 => ⟨S2048x32, .f32⟩
  | 122 => ⟨S2048x32, .f32⟩
  | 123 => ⟨S2048x32, .f32⟩
  | 124 => ⟨S2048x32, .f32⟩
  | 125 => ⟨S2048x32, .f32⟩
  | 126 => ⟨S_, .f32⟩
  | 127 => ⟨S2048x64, .f32⟩
  | _ => ⟨S2048x4928, .f32⟩

abbrev hbmTy0_1 (i : Nat) : BufTy := match i % 128 with
  | 0 => ⟨S2048x128, .f32⟩
  | 1 => ⟨S2048x32, .f32⟩
  | 2 => ⟨S_, .f32⟩
  | 3 => ⟨S2048x96, .f32⟩
  | 4 => ⟨S2048x128, .f32⟩
  | 5 => ⟨S_, .f32⟩
  | 6 => ⟨S2048x32, .f32⟩
  | 7 => ⟨S_, .f32⟩
  | 8 => ⟨S2048x64, .f32⟩
  | 9 => ⟨S2048x128, .f32⟩
  | 10 => ⟨S2048x96, .f32⟩
  | 11 => ⟨S2048x32, .f32⟩
  | 12 => ⟨S2048x128, .f32⟩
  | 13 => ⟨S2048x32, .f32⟩
  | 14 => ⟨S2048x96, .f32⟩
  | 15 => ⟨S2048x128, .f32⟩
  | 16 => ⟨S2048x112, .f32⟩
  | 17 => ⟨S2048x16, .f32⟩
  | 18 => ⟨S2048x128, .f32⟩
  | 19 => ⟨S2048x16, .f32⟩
  | 20 => ⟨S2048x112, .f32⟩
  | 21 => ⟨S2048x128, .f32⟩
  | 22 => ⟨S2048x96, .f32⟩
  | 23 => ⟨S2048x32, .f32⟩
  | 24 => ⟨S2048x128, .f32⟩
  | 25 => ⟨S2048x32, .f32⟩
  | 26 => ⟨S2048x96, .f32⟩
  | 27 => ⟨S2048x128, .f32⟩
  | 28 => ⟨S1x128, .f32⟩
  | 29 => ⟨S1x128, .f32⟩
  | 30 => ⟨S1x512, .f32⟩
  | 31 => ⟨S1x512, .f32⟩
  | 32 => ⟨S2048x768, .bf16⟩
  | 33 => ⟨S2048x256, .bf16⟩
  | 34 => ⟨S2048x256, .bf16⟩
  | 35 => ⟨S2048x1536, .f32⟩
  | 36 => ⟨S2048x512, .f32⟩
  | 37 => ⟨S2048x512, .bf16⟩
  | 38 => ⟨S2048x512, .bf16⟩
  | _ => ⟨S2048x4928, .f32⟩

abbrev hbmTy (i : Nat) : BufTy := match i / 128 with
  | 0 => hbmTy0_0 i
  | 1 => hbmTy0_1 i
  | _ => ⟨S2048x4928, .f32⟩

abbrev bufTy : (tb : Table) → Fin (tcTables nBuf tb) → BufTy
  | .hbm, ⟨i, _⟩ => hbmTy i
  | .local _ .vmem, ⟨0, _⟩ => ⟨S256x4928, .f32⟩
  | .local _ .vmem, ⟨1, _⟩ => ⟨S256x4928, .f32⟩
  | .local _ .vmem, ⟨2, _⟩ => ⟨S1x128, .f32⟩
  | .local _ .vmem, ⟨3, _⟩ => ⟨S1x128, .f32⟩
  | .local _ .vmem, ⟨4, _⟩ => ⟨S1x512, .f32⟩
  | .local _ .vmem, ⟨5, _⟩ => ⟨S1x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x768, .bf16⟩
  | .local _ .vmem, ⟨19, _⟩ => ⟨S256x768, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x1536, .f32⟩
  | .local _ .vmem, ⟨25, _⟩ => ⟨S256x1536, .f32⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | _, _ => ⟨S2048x4928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_cst_20 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_21 : Ref sig .tc := ⟨.hbm, 112, rfl⟩
abbrev main_v85 : Ref sig .tc := ⟨.hbm, 113, rfl⟩
abbrev main_v86 : Ref sig .tc := ⟨.hbm, 114, rfl⟩
abbrev main_cst_22 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_24 : Ref sig .tc := ⟨.hbm, 130, rfl⟩
abbrev main_v100 : Ref sig .tc := ⟨.hbm, 131, rfl⟩
abbrev main_v101 : Ref sig .tc := ⟨.hbm, 132, rfl⟩
abbrev main_cst_25 : Ref sig .tc := ⟨.hbm, 133, rfl⟩
abbrev main_v102 : Ref sig .tc := ⟨.hbm, 134, rfl⟩
abbrev main_cst_26 : Ref sig .tc := ⟨.hbm, 135, rfl⟩
abbrev main_v103 : Ref sig .tc := ⟨.hbm, 136, rfl⟩
abbrev main_v104 : Ref sig .tc := ⟨.hbm, 137, rfl⟩
abbrev main_call0_v0 : Ref sig .tc := ⟨.hbm, 138, rfl⟩
abbrev main_call0_v1 : Ref sig .tc := ⟨.hbm, 139, rfl⟩
abbrev main_v105 : Ref sig .tc := ⟨.hbm, 140, rfl⟩
abbrev main_call1_v0 : Ref sig .tc := ⟨.hbm, 141, rfl⟩
abbrev main_call1_v1 : Ref sig .tc := ⟨.hbm, 142, rfl⟩
abbrev main_v106 : Ref sig .tc := ⟨.hbm, 143, rfl⟩
abbrev main_call2_v0 : Ref sig .tc := ⟨.hbm, 144, rfl⟩
abbrev main_call2_v1 : Ref sig .tc := ⟨.hbm, 145, rfl⟩
abbrev main_v107 : Ref sig .tc := ⟨.hbm, 146, rfl⟩
abbrev main_call3_v0 : Ref sig .tc := ⟨.hbm, 147, rfl⟩
abbrev main_call3_v1 : Ref sig .tc := ⟨.hbm, 148, rfl⟩
abbrev main_v108 : Ref sig .tc := ⟨.hbm, 149, rfl⟩
abbrev main_call4_v0 : Ref sig .tc := ⟨.hbm, 150, rfl⟩
abbrev main_call4_v1 : Ref sig .tc := ⟨.hbm, 151, rfl⟩
abbrev main_v109 : Ref sig .tc := ⟨.hbm, 152, rfl⟩
abbrev main_call5_v0 : Ref sig .tc := ⟨.hbm, 153, rfl⟩
abbrev main_call5_v1 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115_0 : Ref sig .tc := ⟨.hbm, 160, rfl⟩
abbrev main_v115_1 : Ref sig .tc := ⟨.hbm, 161, rfl⟩
abbrev main_v115_2 : Ref sig .tc := ⟨.hbm, 162, rfl⟩
abbrev main_v115_3 : Ref sig .tc := ⟨.hbm, 163, rfl⟩
abbrev main_v115_4 : Ref sig .tc := ⟨.hbm, 164, rfl⟩
abbrev main_v115_5 : Ref sig .tc := ⟨.hbm, 165, rfl⟩
abbrev main_v115_6 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4928 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepFwdRefIdeal.lean ====
abbrev S2048x4928 : Shape := ⟨2, ![2048, 4928]⟩
abbrev S128 : Shape := ⟨1, ![128]⟩
abbrev S512 : Shape := ⟨1, ![512]⟩
abbrev S32 : Shape := ⟨1, ![32]⟩
abbrev S32x64 : Shape := ⟨2, ![32, 64]⟩
abbrev S2048 : Shape := ⟨1, ![2048]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S64 : Shape := ⟨1, ![64]⟩
abbrev S1x64 : Shape := ⟨2, ![1, 64]⟩
abbrev S16 : Shape := ⟨1, ![16]⟩
abbrev S1x16 : Shape := ⟨2, ![1, 16]⟩
abbrev S2048x16 : Shape := ⟨2, ![2048, 16]⟩
abbrev S2048x768 : Shape := ⟨2, ![2048, 768]⟩
abbrev S2048x256 : Shape := ⟨2, ![2048, 256]⟩
abbrev S2048x2048 : Shape := ⟨2, ![2048, 2048]⟩
abbrev S2048x512 : Shape := ⟨2, ![2048, 512]⟩
abbrev S2048x64 : Shape := ⟨2, ![2048, 64]⟩
abbrev S2048x6x128 : Shape := ⟨3, ![2048, 6, 128]⟩
abbrev S2048x6 : Shape := ⟨2, ![2048, 6]⟩
abbrev S2048x6x1 : Shape := ⟨3, ![2048, 6, 1]⟩
abbrev S1x1x128 : Shape := ⟨3, ![1, 1, 128]⟩
abbrev S2048x2x128 : Shape := ⟨3, ![2048, 2, 128]⟩
abbrev S2048x2 : Shape := ⟨2, ![2048, 2]⟩
abbrev S2048x2x1 : Shape := ⟨3, ![2048, 2, 1]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x1024 : Shape := ⟨2, ![2048, 1024]⟩
abbrev S2048x16x128 : Shape := ⟨3, ![2048, 16, 128]⟩
abbrev S2048x16x32 : Shape := ⟨3, ![2048, 16, 32]⟩
abbrev S2048x1x16 : Shape := ⟨3, ![2048, 1, 16]⟩
abbrev S2048x16x16 : Shape := ⟨3, ![2048, 16, 16]⟩
abbrev S2048x16x96 : Shape := ⟨3, ![2048, 16, 96]⟩
abbrev S2048x1536 : Shape := ⟨2, ![2048, 1536]⟩
abbrev S1x512 : Shape := ⟨2, ![1, 512]⟩

abbrev nBuf : Space → Nat
  | .hbm => 216
  | .vmem => 0
  | .smem => 0
  | _ => 0

abbrev hbmTy0_0 (i : Nat) : BufTy := match i % 128 with
  | 0 => ⟨S2048x4928, .f32⟩
  | 1 => ⟨S128, .f32⟩
  | 2 => ⟨S128, .f32⟩
  | 3 => ⟨S512, .f32⟩
  | 4 => ⟨S512, .f32⟩
  | 5 => ⟨S32, .i32⟩
  | 6 => ⟨S32x64, .i32⟩
  | 7 => ⟨S2048, .i32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S64, .i32⟩
  | 31 => ⟨S1x64, .i32⟩
  | 32 => ⟨S32x64, .i32⟩
  | 33 => ⟨S2048, .i32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2048, .f32⟩
  | 49 => ⟨S2048x1, .f32⟩
  | 50 => ⟨S1x32, .f32⟩
  | 51 => ⟨S2048x32, .f32⟩
  | 52 => ⟨S2048x32, .f32⟩
  | 53 => ⟨S2048x32, .f32⟩
  | 54 => ⟨S2048x32, .f32⟩
  | 55 => ⟨S2048x32, .f32⟩
  | 56 => ⟨S2048, .i32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S2048, .f32⟩
  | 72 => ⟨S2048x1, .f32⟩
  | 73 => ⟨S1x16, .f32⟩
  | 74 => ⟨S2048x16, .f32⟩
  | 75 => ⟨S2048x16, .f32⟩
  | 76 => ⟨S2048x16, .f32⟩
  | 77 => ⟨S2048x16, .f32⟩
  | 78 => ⟨S2048x16, .f32⟩
  | 79 => ⟨S2048x768, .f32⟩
  | 80 => ⟨S2048x256, .f32⟩
  | 81 => ⟨S2048x256, .f32⟩
  | 82 => ⟨S2048x2048, .f32⟩
  | 83 => ⟨S2048x512, .f32⟩
  | 84 => ⟨S2048x512, .f32⟩
  | 85 => ⟨S2048x512, .f32⟩
  | 86 => ⟨S2048x64, .f32⟩
  | 87 => ⟨S2048x6x128, .f32⟩
  | 88 => ⟨S2048x6x128, .f32⟩
  | 89 => ⟨S_, .f32⟩
  | 90 => ⟨S2048x6, .f32⟩
  | 91 => ⟨S2048x6x1, .f32⟩
  | 92 => ⟨S_, .f32⟩
  | 93 => ⟨S2048x6x1, .f32⟩
  | 94 => ⟨S2048x6x1, .f32⟩
  | 95 => ⟨S_, .f32⟩
  | 96 => ⟨S2048x6x1, .f32⟩
  | 97 => ⟨S2048x6x1, .f32⟩
  | 98 => ⟨S2048x6x1, .f32⟩
  | 99 => ⟨S2048x6x128, .f32⟩
  | 100 => ⟨S2048x6x128, .f32⟩
  | 101 => ⟨S1x1x128, .f32⟩
  | 102 => ⟨S2048x6x128, .f32⟩
  | 103 => ⟨S2048x6x128, .f32⟩
  | 104 => ⟨S2048x2x128, .f32⟩
  | 105 => ⟨S2048x2x128, .f32⟩
  | 106 => ⟨S_, .f32⟩
  | 107 => ⟨S2048x2, .f32⟩
  | 108 => ⟨S2048x2x1, .f32⟩
  | 109 => ⟨S_, .f32⟩
  | 110 => ⟨S2048x2x1, .f32⟩
  | 111 => ⟨S2048x2x1, .f32⟩
  | 112 => ⟨S_, .f32⟩
  | 113 => ⟨S2048x2x1, .f32⟩
  | 114 => ⟨S2048x2x1, .f32⟩
  | 115 => ⟨S2048x2x1, .f32⟩
  | 116 => ⟨S2048x2x128, .f32⟩
  | 117 => ⟨S2048x2x128, .f32⟩
  | 118 => ⟨S1x1x128, .f32⟩
  | 119 => ⟨S2048x2x128, .f32⟩
  | 120 => ⟨S2048x2x128, .f32⟩
  | 121 => ⟨S2048x8x128, .f32⟩
  | 122 => ⟨S2048x8x64, .f32⟩
  | 123 => ⟨S2048x1x32, .f32⟩
  | 124 => ⟨S2048x1x32, .f32⟩
  | 125 => ⟨S2048x8x32, .f32⟩
  | 126 => ⟨S2048x8x32, .f32⟩
  | 127 => ⟨S2048x8x32, .f32⟩
  | _ => ⟨S2048x4928, .f32⟩

abbrev hbmTy0_1 (i : Nat) : BufTy := match i % 128 with
  | 0 => ⟨S2048x8x32, .f32⟩
  | 1 => ⟨S2048x8x32, .f32⟩
  | 2 => ⟨S2048x8x32, .f32⟩
  | 3 => ⟨S2048x8x32, .f32⟩
  | 4 => ⟨S2048x8x32, .f32⟩
  | 5 => ⟨S2048x8x32, .f32⟩
  | 6 => ⟨S2048x8x32, .f32⟩
  | 7 => ⟨S2048x8x32, .f32⟩
  | 8 => ⟨S2048x8x32, .f32⟩
  | 9 => ⟨S2048x8x64, .f32⟩
  | 10 => ⟨S2048x8x64, .f32⟩
  | 11 => ⟨S2048x1x32, .f32⟩
  | 12 => ⟨S2048x1x32, .f32⟩
  | 13 => ⟨S2048x8x32, .f32⟩
  | 14 => ⟨S2048x8x32, .f32⟩
  | 15 => ⟨S2048x8x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x64, .f32⟩
  | 26 => ⟨S2048x8x128, .f32⟩
  | 27 => ⟨S2048x1024, .f32⟩
  | 28 => ⟨S2048x1024, .bf16⟩
  | 29 => ⟨S2048x16x128, .f32⟩
  | 30 => ⟨S2048x16x32, .f32⟩
  | 31 => ⟨S2048x1x16, .f32⟩
  | 32 => ⟨S2048x1x16, .f32⟩
  | 33 => ⟨S2048x16x16, .f32⟩
  | 34 => ⟨S2048x16x16, .f32⟩
  | 35 => ⟨S2048x16x16, .f32⟩
  | 36 => ⟨S2048x16x16, .f32⟩
  | 37 => ⟨S2048x16x16, .f32⟩
  | 38 => ⟨S2048x16x16, .f32⟩
  | 39 => ⟨S2048x16x16, .f32⟩
  | 40 => ⟨S2048x16x16, .f32⟩
  | 41 => ⟨S2048x16x16, .f32⟩
  | 42 => ⟨S2048x16x16, .f32⟩
  | 43 => ⟨S2048x16x16, .f32⟩
  | 44 => ⟨S2048x16x16, .f32⟩
  | 45 => ⟨S2048x16x32, .f32⟩
  | 46 => ⟨S2048x16x96, .f32⟩
  | 47 => ⟨S2048x16x128, .f32⟩
  | 48 => ⟨S2048x2048, .f32⟩
  | 49 => ⟨S2048x768, .bf16⟩
  | 50 => ⟨S2048x256, .bf16⟩
  | 51 => ⟨S2048x256, .bf16⟩
  | 52 => ⟨S2048x1536, .f32⟩
  | 53 => ⟨S2048x512, .f32⟩
  | 54 => ⟨S2048x512, .f32⟩
  | 55 => ⟨S_, .f32⟩
  | 56 => ⟨S2048, .f32⟩
  | 57 => ⟨S2048x1, .f32⟩
  | 58 => ⟨S_, .f32⟩
  | 59 => ⟨S2048x1, .f32⟩
  | 60 => ⟨S2048x1, .f32⟩
  | 61 => ⟨S_, .f32⟩
  | 62 => ⟨S2048x1, .f32⟩
  | 63 => ⟨S2048x1, .f32⟩
  | 64 => ⟨S2048x1, .f32⟩
  | 65 => ⟨S2048x512, .f32⟩
  | 66 => ⟨S2048x512, .f32⟩
  | 67 => ⟨S1x512, .f32⟩
  | 68 => ⟨S2048x512, .f32⟩
  | 69 => ⟨S2048x512, .f32⟩
  | 70 => ⟨S2048x512, .bf16⟩
  | 71 => ⟨S2048x512, .f32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S_, .f32⟩
  | 79 => ⟨S2048x1, .f32⟩
  | 80 => ⟨S2048x1, .f32⟩
  | 81 => ⟨S2048x1, .f32⟩
  | 82 => ⟨S2048x512, .f32⟩
  | 83 => ⟨S2048x512, .f32⟩
  | 84 => ⟨S1x512, .f32⟩
  | 85 => ⟨S2048x512, .f32⟩
  | 86 => ⟨S2048x512, .f32⟩
  | 87 => ⟨S2048x512, .bf16⟩
  | _ => ⟨S2048x4928, .f32⟩

abbrev hbmTy (i : Nat) : BufTy := match i / 128 with
  | 0 => hbmTy0_0 i
  | 1 => hbmTy0_1 i
  | _ => ⟨S2048x4928, .f32⟩

abbrev bufTy : (tb : Table) → Fin (tcTables nBuf tb) → BufTy
  | .hbm, ⟨i, _⟩ => hbmTy i
  | _, _ => ⟨S2048x4928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_14 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_v88 : Ref sig .tc := ⟨.hbm, 110, rfl⟩
abbrev main_v89 : Ref sig .tc := ⟨.hbm, 111, rfl⟩
abbrev main_cst_16 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_cst_17 : Ref sig .tc := ⟨.hbm, 183, rfl⟩
abbrev main_v160 : Ref sig .tc := ⟨.hbm, 184, rfl⟩
abbrev main_v161 : Ref sig .tc := ⟨.hbm, 185, rfl⟩
abbrev main_cst_18 : Ref sig .tc := ⟨.hbm, 186, rfl⟩
abbrev main_v162 : Ref sig .tc := ⟨.hbm, 187, rfl⟩
abbrev main_v163 : Ref sig .tc := ⟨.hbm, 188, rfl⟩
abbrev main_cst_19 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_20 : Ref sig .tc := ⟨.hbm, 200, rfl⟩
abbrev main_v174 : Ref sig .tc := ⟨.hbm, 201, rfl⟩
abbrev main_v175 : Ref sig .tc := ⟨.hbm, 202, rfl⟩
abbrev main_cst_21 : Ref sig .tc := ⟨.hbm, 203, rfl⟩
abbrev main_v176 : Ref sig .tc := ⟨.hbm, 204, rfl⟩
abbrev main_v177 : Ref sig .tc := ⟨.hbm, 205, rfl⟩
abbrev main_cst_22 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpDx.lean ====
abbrev S2048x11264 : Shape := ⟨2, ![2048, 11264]⟩
abbrev S2048x4x2816 : Shape := ⟨3, ![2048, 4, 2816]⟩
abbrev S4x2048x2816 : Shape := ⟨3, ![4, 2048, 2816]⟩
abbrev S2x2x2048x2816 : Shape := ⟨4, ![2, 2, 2048, 2816]⟩
abbrev S2048x2x5632 : Shape := ⟨3, ![2048, 2, 5632]⟩
abbrev S2x2048x5632 : Shape := ⟨3, ![2, 2048, 5632]⟩
abbrev S2048x2048 : Shape := ⟨2, ![2048, 2048]⟩
abbrev S1x1024x2816 : Shape := ⟨3, ![1, 1024, 2816]⟩
abbrev S1x1x1024x2816 : Shape := ⟨4, ![1, 1, 1024, 2816]⟩
abbrev S1024x1024 : Shape := ⟨2, ![1024, 1024]⟩
abbrev S1024x2816 : Shape := ⟨2, ![1024, 2816]⟩

abbrev nBuf : Space → Nat
  | .hbm => 8
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x4x2816, .bf16⟩
  | .hbm, ⟨3, _⟩ => ⟨S4x2048x2816, .bf16⟩
  | .hbm, ⟨4, _⟩ => ⟨S2x2x2048x2816, .bf16⟩
  | .hbm, ⟨5, _⟩ => ⟨S2048x2x5632, .bf16⟩
  | .hbm, ⟨6, _⟩ => ⟨S2x2048x5632, .bf16⟩
  | .hbm, ⟨7, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg2 c1_i32_4
  let c0_i32_5 : BitVec 32 := 0#32
  let v18 : BitVec 1 := Scalar.cmpi .sgt arg2 c0_i32_5
  let v19 : BitVec 32 := Scalar.extui v18
  let c0_i32_6 : BitVec 32 := 0#32
  let v20 : BitVec 1 := Scalar.cmpi .slt arg2 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg2 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, arg1.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S2x2x2048x2816 : Shape := ⟨4, ![2, 2, 2048, 2816]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2x5632, .bf16⟩
  | .hbm, ⟨3, _⟩ => ⟨S2x2048x5632, .bf16⟩
  | .hbm, ⟨4, _⟩ => ⟨S2x2x2048x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .f32⟩
  | .local _ .vmem, ⟨5, _⟩ => ⟨S1x1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg1 c2_i32
  let c0_i32_4 : BitVec 32 := 0#32
  let v18 : BitVec 1 := Scalar.cmpi .sgt arg1 c0_i32_4
  let v19 : BitVec 32 := Scalar.extui v18
  let c0_i32_5 : BitVec 32 := 0#32
  let v20 : BitVec 1 := Scalar.cmpi .slt arg1 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg1 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi v33 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v43.toNat, arg0.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩
abbrev S2x2x2048x2816 : Shape := ⟨4, ![2, 2, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | .hbm, ⟨11, _⟩ => ⟨S2x2x2048x2816, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamSmall.lean ====
abbrev S440x128 : Shape := ⟨2, ![440, 128]⟩

abbrev nBuf : Space → Nat
  | .hbm => 7
  | .vmem => 7
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S440x128, .f32⟩
  | .hbm, ⟨5, _⟩ => ⟨S440x128, .f32⟩
  | .hbm, ⟨6, _⟩ => ⟨S440x128, .f32⟩
  | .local _ .vmem, ⟨0, _⟩ => ⟨S440x128, .f32⟩
  | .local _ .vmem, ⟨1, _⟩ => ⟨S440x128, .f32⟩
  | .local _ .vmem, ⟨2, _⟩ => ⟨S440x128, .f32⟩
  | .local _ .vmem, ⟨3, _⟩ => ⟨S440x128, .f32⟩
  | .local _ .vmem, ⟨4, _⟩ => ⟨S440x128, .f32⟩
  | .local _ .vmem, ⟨5, _⟩ => ⟨S440x128, .f32⟩
  | .local _ .vmem, ⟨6, _⟩ => ⟨S440x128, .f32⟩
  | _, _ => ⟨S440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S440x128 : Shape := ⟨2, ![440, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S_, .f32⟩
  | .hbm, ⟨5, _⟩ => ⟨S440x128, .f32⟩
  | .hbm, ⟨6, _⟩ => ⟨S440x128, .f32⟩
  | .hbm, ⟨7, _⟩ => ⟨S_, .f32⟩
  | .hbm, ⟨8, _⟩ => ⟨S440x128, .f32⟩
  | .hbm, ⟨9, _⟩ => ⟨S440x128, .f32⟩
  | .hbm, ⟨10, _⟩ => ⟨S440x128, .f32⟩
  | .hbm, ⟨11, _⟩ => ⟨S_, .f32⟩
  | .hbm, ⟨12, _⟩ => ⟨S440x128, .f32⟩
  | .hbm, ⟨13, _⟩ => ⟨S440x128, .f32⟩
  | .hbm, ⟨14, _⟩ => ⟨S440x128, .f32⟩
  | .hbm, ⟨15, _⟩ => ⟨S_, .f32⟩
  | .hbm, ⟨16, _⟩ => ⟨S440x128, .f32⟩
  | .hbm, ⟨17, _⟩ => ⟨S440x128, .f32⟩
  | .hbm, ⟨18, _⟩ => ⟨S440x128, .f32⟩
  | .hbm, ⟨19, _⟩ => ⟨S_, .f32⟩
  | .hbm, ⟨20, _⟩ => ⟨S440x128, .f32⟩
  | .hbm, ⟨21, _⟩ => ⟨S440x128, .f32⟩
  | .hbm, ⟨22, _⟩ => ⟨S_, .f32⟩
  | .hbm, ⟨23, _⟩ => ⟨S440x128, .f32⟩
  | .hbm, ⟨24, _⟩ => ⟨S440x128, .f32⟩
  | .hbm, ⟨25, _⟩ => ⟨S440x128, .f32⟩
  | .hbm, ⟨26, _⟩ => ⟨S_, .f32⟩
  | .hbm, ⟨27, _⟩ => ⟨S440x128, .f32⟩
  | .hbm, ⟨28, _⟩ => ⟨S440x128, .f32⟩
  | .hbm, ⟨29, _⟩ => ⟨S440x128, .f32⟩
  | .hbm, ⟨30, _⟩ => ⟨S_, .f32⟩
  | .hbm, ⟨31, _⟩ => ⟨S440x128, .f32⟩
  | .hbm, ⟨32, _⟩ => ⟨S440x128, .f32⟩
  | .hbm, ⟨33, _⟩ => ⟨S440x128, .f32⟩
  | .hbm, ⟨34, _⟩ => ⟨S_, .f32⟩
  | .hbm, ⟨35, _⟩ => ⟨S440x128, .f32⟩
  | .hbm, ⟨36, _⟩ => ⟨S440x128, .f32⟩
  | _, _ => ⟨S440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLayer.lean ====
abbrev S2048x2816 : Shape := ⟨2, ![2048, 2816]⟩
abbrev S2x2048x2816 : Shape := ⟨3, ![2, 2048, 2816]⟩
abbrev S128x2816 : Shape := ⟨2, ![128, 2816]⟩
abbrev S1x128x2816 : Shape := ⟨3, ![1, 128, 2816]⟩

abbrev nBuf : Space → Nat
  | .hbm => 13
  | .vmem => 32
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .local _ .vmem, ⟨0, _⟩ => ⟨S128x2816, .f32⟩
  | .local _ .vmem, ⟨1, _⟩ => ⟨S128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | .local _ .vmem, ⟨16, _⟩ => ⟨S128x2816, .f32⟩
  | .local _ .vmem, ⟨17, _⟩ => ⟨S128x2816, .f32⟩
  | .local _ .vmem, ⟨18, _⟩ => ⟨S1x128x2816, .f32⟩
  | .local _ .vmem, ⟨19, _⟩ => ⟨S1x128x2816, .f32⟩
  | .local _ .vmem, ⟨20, _⟩ => ⟨S1x128x2816, .f32⟩
  | .local _ .vmem, ⟨21, _⟩ => ⟨S1x128x2816, .f32⟩
  | .local _ .vmem, ⟨22, _⟩ => ⟨S1x128x2816, .f32⟩
  | .local _ .vmem, ⟨23, _⟩ => ⟨S1x128x2816, .f32⟩
  | .local _ .vmem, ⟨24, _⟩ => ⟨S1x128x2816, .f32⟩
  | .local _ .vmem, ⟨25, _⟩ => ⟨S1x128x2816, .f32⟩
  | .local _ .vmem, ⟨26, _⟩ => ⟨S1x128x2816, .f32⟩
  | .local _ .vmem, ⟨27, _⟩ => ⟨S1x128x2816, .f32⟩
  | .local _ .vmem, ⟨28, _⟩ => ⟨S1x128x2816, .f32⟩
  | .local _ .vmem, ⟨29, _⟩ => ⟨S1x128x2816, .f32⟩
  | .local _ .vmem, ⟨30, _⟩ => ⟨S1x128x2816, .f32⟩
  | .local _ .vmem, ⟨31, _⟩ => ⟨S1x128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S128x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2816 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2816 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2816 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2816 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2816 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2816 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamLayerRefIdeal.lean ====
abbrev S2048x2816 : Shape := ⟨2, ![2048, 2816]⟩
abbrev S2x2048x2816 : Shape := ⟨3, ![2, 2048, 2816]⟩
abbrev S1x2048x2816 : Shape := ⟨3, ![1, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AddHalf.lean ====
abbrev S4x2048x2816 : Shape := ⟨3, ![4, 2048, 2816]⟩
abbrev S4x1024x2816 : Shape := ⟨3, ![4, 1024, 2816]⟩
abbrev S_ : Shape := ⟨0, ![]⟩
abbrev S2 : Shape := ⟨1, ![2]⟩
abbrev S1x256x2816 : Shape := ⟨3, ![1, 256, 2816]⟩
abbrev S1 : Shape := ⟨1, ![1]⟩
abbrev S256x2816 : Shape := ⟨2, ![256, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S_, .i32⟩
  | .hbm, ⟨3, _⟩ => ⟨S4x1024x2816, .bf16⟩
  | .local _ .vmem, ⟨0, _⟩ => ⟨S1x256x2816, .f32⟩
  | .local _ .vmem, ⟨1, _⟩ => ⟨S1x256x2816, .f32⟩
  | .local _ .vmem, ⟨2, _⟩ => ⟨S1x256x2816, .f32⟩
  | .local _ .vmem, ⟨3, _⟩ => ⟨S1x256x2816, .f32⟩
  | .local _ .vmem, ⟨4, _⟩ => ⟨S1x256x2816, .bf16⟩
  | .local _ .vmem, ⟨5, _⟩ => ⟨S1x256x2816, .bf16⟩
  | .local _ .smem, ⟨0, _⟩ => ⟨S2, .i32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddHalfRefIdeal.lean ====
abbrev S4x2048x2816 : Shape := ⟨3, ![4, 2048, 2816]⟩
abbrev S4x1024x2816 : Shape := ⟨3, ![4, 1024, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x1024x2816, .f32⟩
  | .hbm, ⟨2, _⟩ => ⟨S4x1024x2816, .f32⟩
  | .hbm, ⟨3, _⟩ => ⟨S4x1024x2816, .f32⟩
  | .hbm, ⟨4, _⟩ => ⟨S4x1024x2816, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumChips.lean ====
abbrev S4x1024x2816 : Shape := ⟨3, ![4, 1024, 2816]⟩
abbrev S_ : Shape := ⟨0, ![]⟩
abbrev S2 : Shape := ⟨1, ![2]⟩
abbrev S2048x2816 : Shape := ⟨2, ![2048, 2816]⟩
abbrev S1x256x2816 : Shape := ⟨3, ![1, 256, 2816]⟩
abbrev S1 : Shape := ⟨1, ![1]⟩
abbrev S256x2816 : Shape := ⟨2, ![256, 2816]⟩
abbrev S1024x2816 : Shape := ⟨2, ![1024, 2816]⟩

abbrev nBuf : Space → Nat
  | .hbm => 5
  | .vmem => 10
  | .smem => 1
  | _ => 0

abbrev bufTy : (tb : Table) → Fin (tcTables nBuf tb) → BufTy
  | .hbm, ⟨0, _⟩ => ⟨S4x1024x2816, .bf16⟩
  | .hbm, ⟨1, _⟩ => ⟨S4x1024x2816, .bf16⟩
  | .hbm, ⟨2, _⟩ => ⟨S_, .i32⟩
  | .hbm, ⟨3, _⟩ => ⟨S2048x2816, .f32⟩
  | .hbm, ⟨4, _⟩ => ⟨S1024x2816, .f32⟩
  | .local _ .vmem, ⟨0, _⟩ => ⟨S1x256x2816, .bf16⟩
  | .local _ .vmem, ⟨1, _⟩ => ⟨S1x256x2816, .bf16⟩
  | .local _ .vmem, ⟨2, _⟩ => ⟨S1x256x2816, .bf16⟩
  | .local _ .vmem, ⟨3, _⟩ => ⟨S1x256x2816, .bf16⟩
  | .local _ .vmem, ⟨4, _⟩ => ⟨S1x256x2816, .bf16⟩
  | .local _ .vmem, ⟨5, _⟩ => ⟨S1x256x2816, .bf16⟩
  | .local _ .vmem, ⟨6, _⟩ => ⟨S1x256x2816, .bf16⟩
  | .local _ .vmem, ⟨7, _⟩ => ⟨S1x256x2816, .bf16⟩
  | .local _ .vmem, ⟨8, _⟩ => ⟨S256x2816, .f32⟩
  | .local _ .vmem, ⟨9, _⟩ => ⟨S256x2816, .f32⟩
  | .local _ .smem, ⟨0, _⟩ => ⟨S2, .i32⟩
  | _, _ => ⟨S4x1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let v1 : BitVec 32 := Scalar.addi v0 c0_i32
  let c4_i32 : BitVec 32 := 4#32
  let v2 : BitVec 32 := Scalar.remsi v1 c4_i32
  let c0_i32_0 : BitVec 32 := 0#32
  let c0_i32_1 : BitVec 32 := 0#32
  ![v2.toNat, arg0.toNat, c0_i32_0.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let c4_i32 : BitVec 32 := 4#32
  let v2 : BitVec 32 := Scalar.remsi v1 c4_i32
  let c0_i32 : BitVec 32 := 0#32
  let c0_i32_0 : BitVec 32 := 0#32
  ![v2.toNat, arg0.toNat, c0_i32.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi v0 c2_i32
  let c4_i32 : BitVec 32 := 4#32
  let v2 : BitVec 32 := Scalar.remsi v1 c4_i32
  let c0_i32 : BitVec 32 := 0#32
  let c0_i32_0 : BitVec 32 := 0#32
  ![v2.toNat, arg0.toNat, c0_i32.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c3_i32 : BitVec 32 := 3#32
  let v1 : BitVec 32 := Scalar.addi v0 c3_i32
  let c4_i32 : BitVec 32 := 4#32
  let v2 : BitVec 32 := Scalar.remsi v1 c4_i32
  let c0_i32 : BitVec 32 := 0#32
  let c0_i32_0 : BitVec 32 := 0#32
  ![v2.toNat, arg0.toNat, c0_i32.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumChipsRefIdeal.lean ====
abbrev S4x1024x2816 : Shape := ⟨3, ![4, 1024, 2816]⟩
abbrev S1x1024x2816 : Shape := ⟨3, ![1, 1024, 2816]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4x1024x2816, .bf16⟩
  | .hbm, ⟨1, _⟩ => ⟨S4x1024x2816, .bf16⟩
  | .hbm, ⟨2, _⟩ => ⟨S1x1024x2816, .bf16⟩
  | .hbm, ⟨3, _⟩ => ⟨S1024x2816, .bf16⟩
  | .hbm, ⟨4, _⟩ => ⟨S1024x2816, .f32⟩
  | .hbm, ⟨5, _⟩ => ⟨S1x1024x2816, .bf16⟩
  | .hbm, ⟨6, _⟩ => ⟨S1024x2816, .bf16⟩
  | .hbm, ⟨7, _⟩ => ⟨S1024x2816, .f32⟩
  | .hbm, ⟨8, _⟩ => ⟨S1024x2816, .f32⟩
  | .hbm, ⟨9, _⟩ => ⟨S1x1024x2816, .bf16⟩
  | .hbm, ⟨10, _⟩ => ⟨S1024x2816, .bf16⟩
  | .hbm, ⟨11, _⟩ => ⟨S1024x2816, .f32⟩
  | .hbm, ⟨12, _⟩ => ⟨S1024x2816, .f32⟩
  | .hbm, ⟨13, _⟩ => ⟨S1x1024x2816, .bf16⟩
  | .hbm, ⟨14, _⟩ => ⟨S1024x2816, .bf16⟩
  | .hbm, ⟨15, _⟩ => ⟨S1024x2816, .f32⟩
  | .hbm, ⟨16, _⟩ => ⟨S1024x2816, .f32⟩
  | _, _ => ⟨S4x1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== CastLayer.lean ====
abbrev S2x2048x2816 : Shape := ⟨3, ![2, 2048, 2816]⟩
abbrev S_ : Shape := ⟨0, ![]⟩
abbrev S2 : Shape := ⟨1, ![2]⟩
abbrev S4x2048x2816 : Shape := ⟨3, ![4, 2048, 2816]⟩
abbrev S1x256x2816 : Shape := ⟨3, ![1, 256, 2816]⟩
abbrev S1 : Shape := ⟨1, ![1]⟩
abbrev S256x2816 : Shape := ⟨2, ![256, 2816]⟩
abbrev S1x2048x2816 : Shape := ⟨3, ![1, 2048, 2816]⟩
abbrev S2048x2816 : Shape := ⟨2, ![2048, 2816]⟩

abbrev nBuf : Space → Nat
  | .hbm => 5
  | .vmem => 4
  | .smem => 1
  | _ => 0

abbrev bufTy : (tb : Table) → Fin (tcTables nBuf tb) → BufTy
  | .hbm, ⟨0, _⟩ => ⟨S2x2048x2816, .f32⟩
  | .hbm, ⟨1, _⟩ => ⟨S_, .i32⟩
  | .hbm, ⟨2, _⟩ => ⟨S4x2048x2816, .bf16⟩
  | .hbm, ⟨3, _⟩ => ⟨S1x2048x2816, .bf16⟩
  | .hbm, ⟨4, _⟩ => ⟨S2048x2816, .bf16⟩
  | .local _ .vmem, ⟨0, _⟩ => ⟨S1x256x2816, .f32⟩
  | .local _ .vmem, ⟨1, _⟩ => ⟨S1x256x2816, .f32⟩
  | .local _ .vmem, ⟨2, _⟩ => ⟨S1x256x2816, .bf16⟩
  | .local _ .vmem, ⟨3, _⟩ => ⟨S1x256x2816, .bf16⟩
  | .local _ .smem, ⟨0, _⟩ => ⟨S2, .i32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastLayerRefIdeal.lean ====
abbrev S2x2048x2816 : Shape := ⟨3, ![2, 2048, 2816]⟩
abbrev S1x2048x2816 : Shape := ⟨3, ![1, 2048, 2816]⟩
abbrev S2048x2816 : Shape := ⟨2, ![2048, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2048x2816, .f32⟩
  | .hbm, ⟨2, _⟩ => ⟨S2048x2816, .f32⟩
  | .hbm, ⟨3, _⟩ => ⟨S2048x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Reals.lean ====
/-
  Extended reals that are real numbers. Every claim of this certificate is about finite arguments; what the programs
  compute from them stays a real number, and the operations of the model then are the operations of the field of reals.
  These lemmas carry an expression over extended reals, whose leaves are reals, to the real expression it denotes.
-/
module

public import Idealize.ShloMosaic.Lib.Pointwise
public import Idealize.ShloMosaic.Lib.Pipeline.Value

@[expose] public section

noncomputable section

namespace Cert.Reals

open Idealize.ShloMosaic

/-- A finite sum of reals, taken over the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_real {a b : ℝ} (h : b ≠ 0) : Ideal.div (a : EReal) (b : EReal) = ((a / b : ℝ) : EReal) := by
  rw [Ideal.div_coe h, ← EReal.coe_mul, mul_one_div]

/-- The reciprocal root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The slope of the reciprocal root, as a power of the reciprocal root. -/
theorem inv_sqrt_div {p : ℝ} (hp : 0 < p) : (Real.sqrt p)⁻¹ / p = (Real.sqrt p)⁻¹ ^ 3 := by
  have hne := (Real.sqrt_pos.mpr hp).ne'
  have hs : p = Real.sqrt p ^ 2 := (Real.sq_sqrt hp.le).symm
  rw [div_eq_iff hp.ne']
  nth_rewrite 3 [hs]
  field_simp

/-- The logarithm of a positive real. -/
theorem log_real {a : ℝ} (h : 0 < a) : Ideal.log (a : EReal) = ((Real.log a : ℝ) : EReal) := by
  rw [Ideal.log_coe, if_neg (not_le.mpr h)]

/-- The larger of two reals. -/
theorem max_real (a b : ℝ) : max (a : EReal) (b : EReal) = ((max a b : ℝ) : EReal) := (EReal.coe_strictMono.monotone.map_max (a := a) (b := b)).symm

/-- An extended real whose absolute value is below infinity is a real. -/
theorem exists_real {x : EReal} (h : max x (-x) < ⊤) : ∃ r : ℝ, x = r := by
  induction x with
  | bot => simp at h
  | coe r => exact ⟨r, rfl⟩
  | top => simp at h

/-- The word `0x7F800000` denotes infinity. -/
theorem ofBits_inf : Ideal.ofBits .f32 0x7F800000#32 = ⊤ := by
  simp [Ideal.ofBits, Ideal.ieee]

/-- An array whose entries all compare below infinity in absolute value is an array of reals. -/
theorem array_real {s : Shape} (x : FVec Ideal s .f32) (i : FVec Ideal s .f32) (hi : ∀ j, i j = Ideal.ofBits .f32 0x7F800000#32)
    (h : cmpf .olt (Host.absf x) i = fun _ => 1#1) : ∃ X : s.Idx → ℝ, x = fun j => (X j : EReal) := by
  have hx : ∀ j, ∃ r : ℝ, x j = r := fun j => by
    have hj := congrFun h j
    simp only [ValueIdx.cmpf_apply, hi j, ofBits_inf] at hj
    refine exists_real ?_
    by_contra hn
    have : FloatOps.cmpf (F := Ideal) (φ := .f32) .olt (Host.absf x j) (⊤ : EReal) = 0#1 := by
      show BitVec.ofBool (decide (max (x j) (-(x j)) < (⊤ : EReal))) = 0#1
      rw [decide_eq_false hn]; rfl
    rw [this] at hj
    exact absurd hj (by decide)
  choose X hX using hx
  exact ⟨X, funext hX⟩

/-- The small number the norms add under the root: the f32 nearest to `1e-6`. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps]

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The word of 128^(-1/2). -/
def scale128 : ℝ := 11863283 * (2 : ℝ) ^ (-27 : ℤ)

theorem ofBits_scale128 : Ideal.ofBits .f32 0x3DB504F3#32 = ((scale128 : ℝ) : EReal) := by
  simp [scale128, Ideal.ofBits, Ideal.ieee, -EReal.coe_mul]

/-- The f32 nearest to 1/√192, the scale of the scores of latent attention. -/
def scale192 : ℝ := 9686330 * (2 : ℝ) ^ (-27 : ℤ)

theorem ofBits_scale192 : Ideal.ofBits .f32 0x3D93CD3A#32 = ((scale192 : ℝ) : EReal) := by
  simp [scale192, Ideal.ofBits, Ideal.ieee, -EReal.coe_mul]

theorem exp_real (a : ℝ) : Ideal.exp (a : EReal) = ((Real.exp a : ℝ) : EReal) := rfl

end Cert.Reals

end
-- ==== Proof.NormMath.lean ====
/-
  The gradient of the root-mean-square norm, one row at a time, over the reals: what a block of the kernel computes from
  its rows, and what the reference's operations compute from the same rows.
-/
module

public import proofs.«01_k».proof.Proof.Reals
public import proofs.«01_k».proof.Proof.Gen.NormIdeal.Skeleton
public import proofs.«01_k».proof.Proof.Gen.NormRefIdeal.Read

@[expose] public section

set_option maxRecDepth 16384

noncomputable section

namespace Cert.NormMath

open Idealize.ShloMosaic Cert.Reals

/-- The reciprocal root mean square of a row. -/
def rms (x : Fin 2048 → ℝ) : ℝ := (Real.sqrt ((∑ k, x k * x k) / 2048 + eps))⁻¹

theorem ms_pos (x : Fin 2048 → ℝ) : 0 < (∑ k, x k * x k) / 2048 + eps := by
  have := Finset.sum_nonneg (s := Finset.univ) fun k _ => mul_self_nonneg (x k)
  have := eps_pos
  positivity

/-- The gradient of one entry of a row, with the row that is added to it. -/
def dx (x dy g : Fin 2048 → ℝ) (add : ℝ) (j : Fin 2048) : ℝ :=
  rms x * (dy j * g j - x j * rms x * ((∑ k, dy k * g k * (x k * rms x)) / 2048)) + add

/-- One row's part of the gain's gradient. -/
def gain {n : ℕ} (x dy : Fin n → Fin 2048 → ℝ) (r : Fin n) (j : Fin 2048) : ℝ := dy r j * (x r j * rms (x r))

section Kernel
open Cert.NormIdeal Cert.NormIdeal.Gen

variable {v0 v1 v26 : FVec Ideal S512x2048 .f32} {v12 : FVec Ideal S1x2048 .f32} {r : Fin 512}
variable {x dy g : Fin 2048 → ℝ} {add : Fin 2048 → ℝ}

theorem pay3_real (h0 : ∀ k, v0 (ix2 r k) = x k) (z : Fin 1) : k0_pay3 (F := Ideal) v0 (ix2 r z) = (rms x : EReal) := by
  pointwise [k0_pay3]
  simp only [h0, ← EReal.coe_mul, coe_sum, ofBits_2048, ofBits_eps, div_real (b := 2048) (by norm_num), ← EReal.coe_add,
    rsqrt_real (ms_pos x)]
  rfl

theorem pay4_real (h0 : ∀ k, v0 (ix2 r k) = x k) (j : Fin 2048) : k0_pay4 (F := Ideal) v0 (ix2 r j) = ((x j * rms x : ℝ) : EReal) := by
  pointwise [k0_pay4]
  rw [h0, pay3_real h0, EReal.coe_mul]

/-- A row of the block the kernel writes. -/
theorem pay5_real (h0 : ∀ k, v0 (ix2 r k) = x k) (h1 : ∀ k, v1 (ix2 r k) = dy k) (h12 : ∀ k, v12 (ix2 0 k) = g k)
    (h26 : ∀ k, v26 (ix2 r k) = add k) (j : Fin 2048) : k0_pay5 (F := Ideal) v0 v1 v12 v26 (ix2 r j) = (dx x dy g (add j) j : EReal) := by
  pointwise [k0_pay5]
  simp only [h1, h12, h26, pay3_real h0, pay4_real h0, ← EReal.coe_mul, coe_sum, ofBits_2048,
    div_real (b := 2048) (by norm_num), ← EReal.coe_add, ← EReal.coe_sub]
  rfl

/-- What a block adds to the gain's gradient. -/
theorem pay2_real {v36 : FVec Ideal S1x2048 .f32} {x dy : Fin 512 → Fin 2048 → ℝ} (h0 : ∀ r k, v0 (ix2 r k) = x r k)
    (h1 : ∀ r k, v1 (ix2 r k) = dy r k) {j : Fin 2048} {a : ℝ} (ha : v36 (ix2 0 j) = a) :
    k0_pay2 (F := Ideal) v1 (k0_pay4 (F := Ideal) v0) v36 (ix2 0 j) = ((a + ∑ r, gain x dy r j : ℝ) : EReal) := by
  pointwise [k0_pay2]
  simp only [h1, fun r => pay4_real (v0 := v0) (r := r) (h0 r), ha, ← EReal.coe_mul, coe_sum, ← EReal.coe_add]
  rfl

end Kernel

section Reference
open Cert.NormRefIdeal Cert.NormRefIdeal.Gen Cert.NormRefIdeal.Read

variable {x0 x1 x3 : FVec Ideal S2048x2048 .f32} {x2 : FVec Ideal S2048 .f32}
variable {dy x add : Fin 2048 → Fin 2048 → ℝ} {g : Fin 2048 → ℝ}

theorem v7_real (h1 : ∀ r k, x1 (ix2 r k) = x r k) (r : Fin 2048) (z : Fin 1) : val_main_v7 (F := Ideal) x1 (ix2 r z) = (rms (x r) : EReal) := by
  pointwise [val_main_v7, val_main_v6, val_main_v5, val_main_v4, val_main_v3, val_main_v2, val_main_v1, val_main_v0, val_main_cst, val_main_cst_0, val_main_cst_1]
  simp only [h1, ← EReal.coe_mul, coe_sum, ofBits_2048, ofBits_eps, div_real (b := 2048) (by norm_num), ← EReal.coe_add,
    rsqrt_real (ms_pos (x r))]
  rfl

theorem v10_real (h1 : ∀ r k, x1 (ix2 r k) = x r k) (r : Fin 2048) (z : Fin 1) :
    val_main_v10 (F := Ideal) x1 (ix2 r z) = ((-(1 / 2) * rms (x r) ^ 3 : ℝ) : EReal) := by
  have h6 : val_main_v6 (F := Ideal) x1 (ix2 r z) = (((∑ k, x r k * x r k) / 2048 + eps : ℝ) : EReal) := by
    pointwise [val_main_v6, val_main_v5, val_main_v4, val_main_v3, val_main_v2, val_main_v1, val_main_v0, val_main_cst, val_main_cst_0, val_main_cst_1]
    simp only [h1, ← EReal.coe_mul, coe_sum, ofBits_2048, ofBits_eps, div_real (b := 2048) (by norm_num), ← EReal.coe_add]
  pointwise [val_main_v10, val_main_v9, val_main_v8, val_main_cst_2]
  rw [v7_real h1, h6, div_real (ms_pos (x r)).ne', ofBits_neg_half, ← EReal.coe_mul]
  exact congrArg (fun t : ℝ => ((-(1 / 2) * t : ℝ) : EReal)) (inv_sqrt_div (ms_pos (x r)))

/-- The reference's gradient of one entry. -/
theorem v36_real (h0 : ∀ r k, x0 (ix2 r k) = dy r k) (h1 : ∀ r k, x1 (ix2 r k) = x r k) (h2 : ∀ k, x2 (ix1 k) = g k)
    (h3 : ∀ r k, x3 (ix2 r k) = add r k) (r j : Fin 2048) :
    val_main_v36 (F := Ideal) x0 x1 x2 x3 (ix2 r j) = (dx (x r) (dy r) g (add r j) j : EReal) := by
  pointwise [val_main_v36, val_main_v35, val_main_v34, val_main_v33, val_main_v32, val_main_v31, val_main_v30, val_main_v29,
    val_main_v28, val_main_v27, val_main_v26, val_main_v25, val_main_v24, val_main_v23, val_main_v22, val_main_v20,
    val_main_v19, val_main_v13, val_main_cst_5, val_main_cst_6, val_main_cst_7]
  simp only [h0, h1, h2, h3, v7_real h1, v10_real h1, ← EReal.coe_mul, coe_sum, ofBits_2048, div_real (b := 2048) (by norm_num), ← EReal.coe_add]
  have hs : ∑ k, dy r k * g k * (x r k * rms (x r)) = rms (x r) * ∑ k, x r k * (dy r k * g k) := by
    rw [Finset.mul_sum]; exact Finset.sum_congr rfl fun k _ => by ring
  simp only [Fin.sum_univ_one, dx, hs]
  exact congrArg _ (by ring)

/-- The reference's gradient of the gain: the sum over the rows. -/
theorem v38_real (h0 : ∀ r k, x0 (ix2 r k) = dy r k) (h1 : ∀ r k, x1 (ix2 r k) = x r k) (z : Fin 1) (j : Fin 2048) :
    val_main_v38 (F := Ideal) x0 x1 (ix2 z j) = ((∑ r, gain x dy r j : ℝ) : EReal) := by
  pointwise [val_main_v38, val_main_v21, val_main_v18, val_main_v17, val_main_v16, val_main_v12, val_main_v11, val_main_cst_4, val_main_cst_3]
  simp only [h0, h1, v7_real h1, ← EReal.coe_mul, coe_sum]
  simp only [Fin.sum_univ_one]
  exact congrArg _ (Finset.sum_congr rfl fun r _ => mul_comm _ _)
end Reference
end Cert.NormMath
end
-- ==== Proof.NormValue.lean ====
/-
  What the norm's gradient kernel leaves in its three results, read off its run.
-/
module

public import proofs.«01_k».proof.Proof.NormMath
public import proofs.«01_k».proof.Proof.Gen.NormIdeal.Value

@[expose] public section

set_option maxRecDepth 16384

noncomputable section

namespace Cert.NormIdeal.Hand

open Cert.NormIdeal Cert.NormIdeal.Gen Idealize.ShloMosaic Idealize.ShloMosaic.TcCoe Idealize.SL.Sem Cert.Reals Cert.NormMath
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block of the gradient a point writes: the payload at the point's input blocks, in either case. -/
theorem outs_4 (c : Dev nD) (t : Fin cfg0.N) :
    (outsAt0 m c t.val t.isLt).1 = k0_pay5 (iblk m c 1 t) (iblk m c 0 t) (iblk m c 2 t) (iblk m c 3 t) := by
  by_cases h0 : t.val % 4 = 0
  · rw [outsAt0_A m c t h0]
    dsimp only
    unfold out0_A_4
    rw [View.read_writes_eq_canon _ _ _ fun y => cover0_A_4 (y := y) ..]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x2048) hz, View.ld_unit_zero (S := S1x2048) hz]
  · rw [outsAt0_B m c t h0]
    dsimp only
    unfold out0_B_4
    rw [View.read_writes_eq_canon _ _ _ fun y => cover0_B_4 (y := y) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x2048) hz, View.ld_unit_zero (S := S1x2048) hz]

/-- The narrowed block a point writes: the payload at the point's input blocks, in either case. -/
theorem outs_5 (c : Dev nD) (t : Fin cfg0.N) :
    (outsAt0 m c t.val t.isLt).2.1 = k0_pay6 (iblk m c 1 t) (iblk m c 0 t) (iblk m c 2 t) (iblk m c 3 t) := by
  by_cases h0 : t.val % 4 = 0
  · rw [outsAt0_A m c t h0]
    dsimp only
    unfold out0_A_5
    rw [View.read_writes_eq_canon _ _ _ fun y => cover0_A_5 (y := y) ..]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x2048) hz, View.ld_unit_zero (S := S1x2048) hz]
  · rw [outsAt0_B m c t h0]
    dsimp only
    unfold out0_B_5
    rw [View.read_writes_eq_canon _ _ _ fun y => cover0_B_5 (y := y) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S512x2048) hz, View.ld_unit_zero (S := S1x2048) hz]

theorem outs_6_first (c : Dev nD) (t : Fin cfg0.N) (h0 : t.val % 4 = 0) :
    (outsAt0 m c t.val t.isLt).2.2 = k0_pay2 (iblk m c 0 t) (k0_pay4 (iblk m c 1 t)) (k0_pay1 (F := Ideal)) := by
  rw [outsAt0_A m c t h0]
  dsimp only
  unfold out0_A_6
  rw [View.read_writes_eq_canon _ _ _ fun y => cover0_A_6 (y := y) ..]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, (hs0_2 t).read_unread, (hs0_3 t).read_unread, View.ld_unit_zero (S := S512x2048) hz, View.ld_unit_zero (S := S1x2048) hz]

theorem outs_6_next (c : Dev nD) (t : Fin cfg0.N) (h0 : ¬t.val % 4 = 0) :
    (outsAt0 m c t.val t.isLt).2.2 = k0_pay2 (iblk m c 0 t) (k0_pay4 (iblk m c 1 t)) (outsAt0 m c (t.val - 1) (Nat.lt_of_le_of_lt (Nat.sub_le _ _) t.isLt)).2.2 := by
  rw [outsAt0_B m c t h0]
  dsimp only
  unfold out0_B_6
  rw [View.read_writes_eq_canon _ _ _ fun y => cover0_B_6 (y := y) ..]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_6 t).read_unread, View.ld_unit_zero (S := S512x2048) hz, View.ld_unit_zero (S := S1x2048) hz]

theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = 0 ∧ win0_6.index t 1 = 0 :=
  (by decide +kernel : ∀ t : Fin grid0.N, _)

theorem iblk0 (c : Dev nD) (t : Fin cfg0.N) (r : Fin 512) (k : Fin 2048) :
    (iblk m c 0 t : Vec Ideal S512x2048 .f32) (ix2 r k) = (m ((c : Thread nD τ).loc main_arg0) : Vec Ideal S2048x2048 .f32) (ix2 ⟨512 * t.val + r.val, by have := t.isLt; have : cfg0.N = 4 := N_0; omega⟩ k) := by
  unfold iblk
  rw [View.read_apply]
  show V m c main_arg0 _ = _
  rw [V_main_arg0]
  congr 1
  have hi := idx_facts t
  refine Shape.idx_ext₂ ?_ ?_
  · show win0_0.index t 0 * 512 + 1 * r.val = 512 * t.val + r.val; omega
  · show win0_0.index t 1 * 2048 + 1 * k.val = k.val; omega

theorem iblk1 (c : Dev nD) (t : Fin cfg0.N) (r : Fin 512) (k : Fin 2048) :
    (iblk m c 1 t : Vec Ideal S512x2048 .f32) (ix2 r k) = (m ((c : Thread nD τ).loc main_arg1) : Vec Ideal S2048x2048 .f32) (ix2 ⟨512 * t.val + r.val, by have := t.isLt; have : cfg0.N = 4 := N_0; omega⟩ k) := by
  unfold iblk
  rw [View.read_apply]
  show V m c main_arg1 _ = _
  rw [V_main_arg1]
  congr 1
  have hi := idx_facts t
  refine Shape.idx_ext₂ ?_ ?_
  · show win0_1.index t 0 * 512 + 1 * r.val = 512 * t.val + r.val; omega
  · show win0_1.index t 1 * 2048 + 1 * k.val = k.val; omega

theorem iblk3 (c : Dev nD) (t : Fin cfg0.N) (r : Fin 512) (k : Fin 2048) :
    (iblk m c 3 t : Vec Ideal S512x2048 .f32) (ix2 r k) = (m ((c : Thread nD τ).loc main_arg3) : Vec Ideal S2048x2048 .f32) (ix2 ⟨512 * t.val + r.val, by have := t.isLt; have : cfg0.N = 4 := N_0; omega⟩ k) := by
  unfold iblk
  rw [View.read_apply]
  show V m c main_arg3 _ = _
  rw [V_main_arg3]
  congr 1
  have hi := idx_facts t
  refine Shape.idx_ext₂ ?_ ?_
  · show win0_3.index t 0 * 512 + 1 * r.val = 512 * t.val + r.val; omega
  · show win0_3.index t 1 * 2048 + 1 * k.val = k.val; omega

theorem iblk2 (c : Dev nD) (t : Fin cfg0.N) (k : Fin 2048) :
    (iblk m c 2 t : Vec Ideal S1x2048 .f32) (ix2 0 k) = (m ((c : Thread nD τ).loc main_arg2) : Vec Ideal S2048 .f32) (ix1 k) := by
  unfold iblk
  rw [View.read_apply]
  show V m c main_v0 _ = _
  unfold V
  after_results
  show shapeCast S1x2048 (m (c, Proc.tc.devRef main_arg2)) shapeCasts_S2048_S1x2048 _ = _
  have hi := idx_facts t
  refine (shapeCast_apply _ _ _ (ix1 k) ?_)
  rw [Shape.rowMajor_val_one, Shape.rowMajor_val_two]
  show k.val = (win0_2.index t 0 * 1 + 1 * 0) * 2048 + (win0_2.index t 1 * 2048 + 1 * k.val)
  omega

variable {dy x add : Fin 2048 → Fin 2048 → ℝ} {g : Fin 2048 → ℝ}

/-- The row of the whole array that row `r` of block `t` is. -/
abbrev row (t : Fin cfg0.N) (r : Fin 512) : Fin 2048 := ⟨512 * t.val + r.val, by have := t.isLt; have : cfg0.N = 4 := N_0; omega⟩

/-- The point whose block holds an index. -/
abbrev point (i : S2048x2048.Idx) : Fin cfg0.N := ⟨(i 0 : Nat) / 512, by have h : (i 0 : Nat) < 2048 := (i 0).isLt; have : cfg0.N = 4 := N_0; omega⟩

theorem cover_rows (i : S2048x2048.Idx) {w : Fin 2 → ℕ} (e0 : w 0 = (point i).val) (e1 : w 1 = 0) (a : Fin 2) :
    w a * S512x2048.size a ≤ (i a : Nat) ∧ (i a : Nat) < w a * S512x2048.size a + S512x2048.size a := by
  have b1 : (i 1 : Nat) < 2048 := (i 1).isLt
  have e0' : w 0 = (i 0 : Nat) / 512 := e0
  match a with
  | ⟨0, _⟩ => show w 0 * 512 ≤ (i 0 : Nat) ∧ (i 0 : Nat) < w 0 * 512 + 512; omega
  | ⟨1, _⟩ => show w 1 * 2048 ≤ (i 1 : Nat) ∧ (i 1 : Nat) < w 1 * 2048 + 2048; omega

section Rows
variable (c : Dev nD)
  (h0 : (m ((c : Thread nD τ).loc main_arg0) : Vec Ideal S2048x2048 .f32) = fun i => (dy (i 0) (i 1) : EReal))
  (h1 : (m ((c : Thread nD τ).loc main_arg1) : Vec Ideal S2048x2048 .f32) = fun i => (x (i 0) (i 1) : EReal))
  (h2 : (m ((c : Thread nD τ).loc main_arg2) : Vec Ideal S2048 .f32) = fun i => (g (i 0) : EReal))
  (h3 : (m ((c : Thread nD τ).loc main_arg3) : Vec Ideal S2048x2048 .f32) = fun i => (add (i 0) (i 1) : EReal))
include h0 h1 h2 h3

/-- The gradient at row `r` of block `t`. -/
theorem block_row (t : Fin cfg0.N) (r : Fin 512) (j : Fin 2048) :
    k0_pay5 (F := Ideal) (iblk m c 1 t) (iblk m c 0 t) (iblk m c 2 t) (iblk m c 3 t) (ix2 r j)
      = (NormMath.dx (x (row t r)) (dy (row t r)) g (add (row t r) j) j : EReal) :=
  pay5_real (fun k => (iblk1 m c t r k).trans (congrFun h1 _)) (fun k => (iblk0 m c t r k).trans (congrFun h0 _))
    (fun k => (iblk2 m c t k).trans (congrFun h2 _)) (fun k => (iblk3 m c t r k).trans (congrFun h3 _)) j

/-- The gradient array the kernel leaves. -/
theorem final_4 : (dats m 0 c).arrAt 4 cfg0.N = (fun i => (NormMath.dx (x (i 0)) (dy (i 0)) g (add (i 0) (i 1)) (i 1) : EReal) : Vec Ideal S2048x2048 .f32) := by
  refine (dats m 0 c).arrAt_eq_of_cover 4 _ (fun t _ => ?_) fun i => ⟨point i, flush0_4 _, ?_⟩
  · rw [Value.flushed4, outs_4]
    funext y
    rw [View.read_apply]
    have he : ((cfg0.win 4).blk t).view.emb y = ix2 (row t (y 0)) (y 1) := by
      have hi := idx_facts t
      refine Shape.idx_ext₂ ?_ ?_
      · show win0_4.index t 0 * 512 + 1 * (y 0).val = 512 * t.val + (y 0).val; omega
      · show win0_4.index t 1 * 2048 + 1 * (y 1).val = (y 1).val; omega
    rw [he]
    exact (congrArg _ (eq_ix2 y)).trans (block_row m c h0 h1 h2 h3 t (y 0) (y 1))
  · show i ∈ ((View.whole main_v1_0).slice (win0_4.rect (point i))).set
    rw [View.set_slice_whole, Rect.mem_set_unit]
    exact cover_rows i (idx_facts (point i)).2.2.2.2.2.2.2.2.1 (idx_facts (point i)).2.2.2.2.2.2.2.2.2.1

/-- The same gradient, narrowed. -/
theorem final_5 : (dats m 0 c).arrAt 5 cfg0.N = (fun i => (NormMath.dx (x (i 0)) (dy (i 0)) g (add (i 0) (i 1)) (i 1) : EReal) : Vec Ideal S2048x2048 .bf16) := by
  refine (dats m 0 c).arrAt_eq_of_cover 5 _ (fun t _ => ?_) fun i => ⟨point i, flush0_5 _, ?_⟩
  · rw [Value.flushed5, outs_5]
    funext y
    rw [View.read_apply]
    have he : ((cfg0.win 5).blk t).view.emb y = ix2 (row t (y 0)) (y 1) := by
      have hi := idx_facts t
      refine Shape.idx_ext₂ ?_ ?_
      · show win0_5.index t 0 * 512 + 1 * (y 0).val = 512 * t.val + (y 0).val; omega
      · show win0_5.index t 1 * 2048 + 1 * (y 1).val = (y 1).val; omega
    rw [he]
    exact (congrArg _ (eq_ix2 y)).trans (block_row m c h0 h1 h2 h3 t (y 0) (y 1))
  · show i ∈ ((View.whole main_v1_1).slice (win0_5.rect (point i))).set
    rw [View.set_slice_whole, Rect.mem_set_unit]
    exact cover_rows i (idx_facts (point i)).2.2.2.2.2.2.2.2.2.2.1 (idx_facts (point i)).2.2.2.2.2.2.2.2.2.2.2.1

omit h2 h3 in
/-- The gain's gradient after point `n`: the rows of the blocks so far. -/
theorem acc_6 (j : Fin 2048) : ∀ (n : ℕ) (h : n < cfg0.N),
    (outsAt0 m c n h).2.2 (ix2 0 j) = ((∑ s ∈ Finset.range (n + 1), ∑ r : Fin 512, gain x dy (Fin.ofNat 2048 (512 * s + r.val)) j : ℝ) : EReal) := by
  have hp : ∀ (t : Fin cfg0.N) (v : FVec Ideal S1x2048 .f32) (a : ℝ), v (ix2 0 j) = a →
      k0_pay2 (F := Ideal) (iblk m c 0 t) (k0_pay4 (F := Ideal) (iblk m c 1 t)) v (ix2 0 j)
        = ((a + ∑ r : Fin 512, gain x dy (Fin.ofNat 2048 (512 * t.val + r.val)) j : ℝ) : EReal) := fun t v a hv => by
    have hr : ∀ r : Fin 512, Fin.ofNat 2048 (512 * t.val + r.val) = row t r := fun r =>
      Fin.ext (Nat.mod_eq_of_lt (row t r).isLt)
    simp only [hr]
    exact pay2_real (fun r k => (iblk1 m c t r k).trans (congrFun h1 _)) (fun r k => (iblk0 m c t r k).trans (congrFun h0 _)) hv
  intro n
  induction n with
  | zero =>
    intro h
    rw [outs_6_first m c ⟨0, h⟩ rfl, hp ⟨0, h⟩ _ 0 (by pointwise [k0_pay1]; rfl), Finset.sum_range_one, zero_add]
  | succ n ih =>
    intro h
    have hN : cfg0.N = 4 := N_0
    rw [Finset.sum_range_succ (n := n + 1)]
    exact (congrFun (outs_6_next m c ⟨n + 1, h⟩ (by dsimp only; omega)) _).trans (hp ⟨n + 1, h⟩ _ _ (ih (n.lt_succ_self.trans h)))

omit h2 h3 in
/-- The gain's gradient the kernel leaves. -/
theorem final_6 : (dats m 0 c).arrAt 6 cfg0.N = (fun i => ((∑ r, gain x dy r (i 1) : ℝ) : EReal) : Vec Ideal S1x2048 .f32) := by
  have hN : cfg0.N = 4 := N_0
  have hl : 3 < cfg0.N := by omega
  refine (dats m 0 c).arrAt_eq_of_cover 6 _ (fun t hf => ?_) fun (i : S1x2048.Idx) => ⟨⟨3, hl⟩, (flush0_6 _).mpr rfl, ?_⟩
  · have h3 : t.val = 3 := by have := (flush0_6 t).mp hf; have := t.isLt; omega
    rw [Value.flushed6]
    funext y
    rw [View.read_apply]
    have he : ((cfg0.win 6).blk t).view.emb y = ix2 0 (y 1) := by
      have hi := idx_facts t
      have : (y 0).val < 1 := (y 0).isLt
      refine Shape.idx_ext₂ ?_ ?_
      · show win0_6.index t 0 * 1 + 1 * (y 0).val = 0; omega
      · show win0_6.index t 1 * 2048 + 1 * (y 1).val = (y 1).val; omega
    rw [he]
    have hy : y = ix2 0 (y 1) := Shape.idx_ext₂ (by have : (y 0).val < 1 := (y 0).isLt; show (y 0).val = 0; omega) rfl
    refine (congrArg _ hy).trans ((acc_6 m c h0 h1 (y 1) t.val t.isLt).trans ?_)
    show _ = ((∑ r, gain x dy r (y 1) : ℝ) : EReal)
    rw [h3, Finset.sum_range, Fin.sum_univ_tiles 4 512 rfl]
    refine congrArg _ (Finset.sum_congr rfl fun s _ => Finset.sum_congr rfl fun r _ => congrArg (gain x dy · (y 1)) (Fin.ext ?_))
    show (512 * s.val + r.val) % 2048 = s.val * 512 + r.val
    omega
  · show i ∈ ((View.whole main_v1_2).slice (win0_6.rect ⟨3, hl⟩)).set
    rw [View.set_slice_whole, Rect.mem_set_unit]
    have hi := idx_facts ⟨3, hl⟩
    have b0 : (i 0 : Nat) < 1 := (i 0).isLt
    have b1 : (i 1 : Nat) < 2048 := (i 1).isLt
    intro a
    match a with
    | ⟨0, _⟩ =>
      show win0_6.index ⟨3, _⟩ 0 * 1 ≤ (i 0 : Nat) ∧ (i 0 : Nat) < win0_6.index ⟨3, _⟩ 0 * 1 + 1
      omega
    | ⟨1, _⟩ =>
      show win0_6.index ⟨3, _⟩ 1 * 2048 ≤ (i 1 : Nat) ∧ (i 1 : Nat) < win0_6.index ⟨3, _⟩ 1 * 2048 + 2048
      omega

end Rows

end Cert.NormIdeal.Hand

end
-- ==== Proof.NormPair.lean ====
/- The norm's gradient: the kernel's three results are the reference's, on finite arguments. -/
module

public import proofs.«01_k».proof.Defs
public import proofs.«01_k».proof.Proof.NormValue
public import proofs.«01_k».proof.Proof.Gen.NormRefIdeal.Run
public import proofs.«01_k».proof.Proof.Gen.Pre_norm_finite

@[expose] public section

set_option maxRecDepth 16384

noncomputable section

namespace Cert.NormPair

open Idealize.ShloMosaic Idealize.ShloMosaic.TcCoe Idealize.SL.Sem Cert.Reals Cert.NormMath
open Idealize.ShloMosaic (ix1 ix2)

/-- On finite arguments the norm's hand-written gradient leaves what differentiating the norm leaves: the gradient added to what came
    in, the same narrowed, and the gain's gradient. -/
theorem algebraic : algebraic_NormIdeal_NormRefIdeal_pre_norm_finite := by
  intro m g m' g' hpre hag
  have hfin : ∀ c : Dev NormIdeal.nD, ∃ (dy x : Fin 2048 → Fin 2048 → ℝ) (gn : Fin 2048 → ℝ) (add : Fin 2048 → Fin 2048 → ℝ),
      (m ((c : Thread NormIdeal.nD NormIdeal.τ).loc NormIdeal.main_arg0) = fun i => (dy (i 0) (i 1) : EReal))
      ∧ (m ((c : Thread NormIdeal.nD NormIdeal.τ).loc NormIdeal.main_arg1) = fun i => (x (i 0) (i 1) : EReal))
      ∧ (m ((c : Thread NormIdeal.nD NormIdeal.τ).loc NormIdeal.main_arg2) = fun i => (gn (i 0) : EReal))
      ∧ (m ((c : Thread NormIdeal.nD NormIdeal.τ).loc NormIdeal.main_arg3) = fun i => (add (i 0) (i 1) : EReal)) := fun c => by
    obtain ⟨p0, p1, p2, p3⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    obtain ⟨a3, e3⟩ := array_real _ _ (fun _ => rfl) p3
    refine ⟨fun r k => a0 (ix2 r k), fun r k => a1 (ix2 r k), fun k => a2 (ix1 k), fun r k => a3 (ix2 r k), ?_, ?_, ?_, ?_⟩
    · exact e0.trans (funext fun i => congrArg (fun i => (a0 i : EReal)) (eq_ix2 i))
    · exact e1.trans (funext fun i => congrArg (fun i => (a1 i : EReal)) (eq_ix2 i))
    · exact e2.trans (funext fun i => congrArg (fun i => (a2 i : EReal)) (eq_ix1 i))
    · exact e3.trans (funext fun i => congrArg (fun i => (a3 i : EReal)) (eq_ix2 i))
  choose dy x gn add h0 h1 h2 h3 using hfin
  refine ⟨fun c i => (dx (x c (i 0)) (dy c (i 0)) (gn c) (add c (i 0) (i 1)) (i 1) : EReal),
    fun c i => (dx (x c (i 0)) (dy c (i 0)) (gn c) (add c (i 0) (i 1)) (i 1) : EReal),
    fun c i => ((∑ r, gain (x c) (dy c) r (i 1) : ℝ) : EReal), ?_, ?_⟩
  · refine (θ_run NormIdeal.defs _ _).mono (fun r h c => ?_) (NormIdeal.Value.run_blocks m g)
    obtain ⟨e4, e5, e6, k⟩ := h c
    exact ⟨e4.trans (NormIdeal.Hand.final_4 m c (h0 c) (h1 c) (h2 c) (h3 c)),
      e5.trans (NormIdeal.Hand.final_5 m c (h0 c) (h1 c) (h2 c) (h3 c)), e6.trans (NormIdeal.Hand.final_6 m c (h0 c) (h1 c)), k⟩
  · refine (θ_run NormRefIdeal.defs _ _).mono (fun r h c => ?_) (NormRefIdeal.Value.run m' g')
    obtain ⟨e36, e37, e38, k⟩ := h c
    obtain ⟨q0, q1, q2, q3⟩ := hag c
    have w0 : ∀ r k, m' ((c : Thread NormRefIdeal.nD NormRefIdeal.τ).loc NormRefIdeal.main_arg0) (ix2 r k) = (dy c r k : EReal) := fun r k => congrFun (q0.trans (h0 c)) _
    have w1 : ∀ r k, m' ((c : Thread NormRefIdeal.nD NormRefIdeal.τ).loc NormRefIdeal.main_arg1) (ix2 r k) = (x c r k : EReal) := fun r k => congrFun (q1.trans (h1 c)) _
    have w2 : ∀ k, m' ((c : Thread NormRefIdeal.nD NormRefIdeal.τ).loc NormRefIdeal.main_arg2) (ix1 k) = (gn c k : EReal) := fun k => congrFun (q2.trans (h2 c)) _
    have w3 : ∀ r k, m' ((c : Thread NormRefIdeal.nD NormRefIdeal.τ).loc NormRefIdeal.main_arg3) (ix2 r k) = (add c r k : EReal) := fun r k => congrFun (q3.trans (h3 c)) _
    refine ⟨e36.trans ((NormRefIdeal.Read.val_main_v36_eq _ _ _ _).trans (funext fun i => ?_)),
      e37.trans ((NormRefIdeal.Read.val_main_v37_eq _ _ _ _).trans (funext fun i => ?_)),
      e38.trans ((NormRefIdeal.Read.val_main_v38_eq _ _).trans (funext fun i => ?_)), k⟩
    · rw [eq_ix2 i]; exact v36_real w0 w1 w2 w3 _ _
    · rw [eq_ix2 i]; exact v36_real w0 w1 w2 w3 _ _
    · rw [eq_ix2 i]; exact v38_real w0 w1 _ _

end Cert.NormPair

end
-- ==== Proof.Cols.lean ====
/- Columns gathered by heads of 128, halves of a 512-row block, and sums that grow over a grid's points. -/
module

public import proofs.«01_k».proof.Proof.Reals

@[expose] public section

open Idealize.ShloMosaic

namespace Cert.Cols

/-- Lane `d` of head `h`. -/
def col {n : ℕ} (N : ℕ) (e : N = 128 * n) (h : Fin n) (d : Fin 128) : Fin N := ⟨128 * h.val + d.val, by omega⟩

/-- The head of a column, -/
def head {N : ℕ} (n : ℕ) (e : N = 128 * n) (j : Fin N) : Fin n := ⟨j.val / 128, by omega⟩

/-- and its lane. -/
def lane {N : ℕ} (j : Fin N) : Fin 128 := ⟨j.val % 128, Nat.mod_lt _ (by decide)⟩

theorem col_head_lane {N n : ℕ} (e : N = 128 * n) (j : Fin N) : col N e (head n e j) (lane j) = j :=
  Fin.ext (Nat.div_add_mod j.val 128)

theorem head_col {N n : ℕ} (e : N = 128 * n) (h : Fin n) (d : Fin 128) : head n e (col N e h d) = h :=
  Fin.ext (show (128 * h.val + d.val) / 128 = h.val by omega)

theorem lane_col {N n : ℕ} (e : N = 128 * n) (h : Fin n) (d : Fin 128) : lane (col N e h d) = d :=
  Fin.ext (show (128 * h.val + d.val) % 128 = d.val by omega)

/-- A row of the lower half of a block of 512, -/
def low (r : Fin 256) : Fin 512 := ⟨r.val, by omega⟩

/-- and of the upper. -/
def high (r : Fin 256) : Fin 512 := ⟨256 + r.val, by omega⟩

theorem sum_halves (f : Fin 512 → ℝ) : ∑ r, f (low r) + ∑ r, f (high r) = ∑ r, f r :=
  (Fin.sum_univ_add (a := 256) (b := 256) f).symm

/-- What is zeroed at every `P`-th point and grows by `C n` at point `n`. -/
theorem acc_sum {N P : ℕ} (hP : 0 < P) (C : ℕ → ℝ) (A : (n : ℕ) → n < N → EReal)
    (hfirst : ∀ n h, n % P = 0 → A n h = C n)
    (hnext : ∀ n (h : n + 1 < N) (a : ℝ), ¬(n + 1) % P = 0 → A n (n.lt_succ_self.trans h) = a → A (n + 1) h = ((a + C (n + 1) : ℝ) : EReal)) :
    ∀ n h, A n h = ((∑ s ∈ Finset.range (n % P + 1), C (P * (n / P) + s) : ℝ) : EReal) := by
  have first : ∀ n h, n % P = 0 → A n h = ((∑ s ∈ Finset.range (n % P + 1), C (P * (n / P) + s) : ℝ) : EReal) := fun n h hn => by
    rw [hfirst n h hn, hn, Finset.sum_range_one, add_zero, Nat.mul_div_cancel' (Nat.dvd_of_mod_eq_zero hn)]
  intro n
  induction n with
  | zero => exact fun h => first 0 h (Nat.zero_mod _)
  | succ n ih =>
    intro h
    by_cases hn : (n + 1) % P = 0
    · exact first _ h hn
    · have hm : n / P * P + n % P = n := Nat.div_add_mod' n P
      have hl : n % P < P := Nat.mod_lt _ hP
      have hl' : n % P + 1 < P := by
        refine lt_of_le_of_ne hl fun he => hn ?_
        rw [← hm, add_assoc, he, ← Nat.succ_mul, Nat.mul_mod_left]
      have hd : (n + 1) / P = n / P ∧ (n + 1) % P = n % P + 1 :=
        (Nat.div_mod_unique hP).mpr ⟨by rw [add_comm, ← add_assoc, mul_comm, hm], hl'⟩
      rw [hnext n h _ hn (ih _), hd.1, hd.2, Finset.sum_range_succ (n := n % P + 1)]
      congr 3
      rw [← add_assoc, mul_comm, hm]

/-- A host sum over the first and the last axis of a rank-five array, both of length one, is the initial value and the one entry. -/
theorem sum_ends {n1 n2 n3 : Nat} (h : (⟨5, ![1, n1, n2, n3, 1]⟩ : Shape).ReducesTo [0, 4] ⟨3, ![n1, n2, n3]⟩)
    (v : (⟨5, ![1, n1, n2, n3, 1]⟩ : Shape).Idx → EReal) (init : EReal) (a : Fin n1) (b : Fin n2) (c : Fin n3) :
    Ideal.hostReduceAdd h v init (ix3 a b c) = init + v (ix5 0 a b c 0) := by
  refine congrArg (init + ·) ?_
  have e : Finset.univ.filter (fun i => h.drop i = ix3 a b c) = {ix5 0 a b c 0} := by
    ext i
    simp only [Finset.mem_filter, Finset.mem_univ, true_and, Finset.mem_singleton]
    constructor
    · intro e
      funext x
      match x with
      | ⟨0, _⟩ => exact Fin.ext (by have h0 : (i 0).val < 1 := (i 0).isLt; show (i 0).val = 0; omega)
      | ⟨1, _⟩ => exact Fin.ext (congrArg Fin.val (congrFun e 0))
      | ⟨2, _⟩ => exact Fin.ext (congrArg Fin.val (congrFun e 1))
      | ⟨3, _⟩ => exact Fin.ext (congrArg Fin.val (congrFun e 2))
      | ⟨4, _⟩ => exact Fin.ext (by have h0 : (i 4).val < 1 := (i 4).isLt; show (i 4).val = 0; omega)
    · rintro rfl
      funext x
      match x with
      | ⟨0, _⟩ => rfl
      | ⟨1, _⟩ => rfl
      | ⟨2, _⟩ => rfl
  rw [e, Finset.sum_singleton]

end Cert.Cols
-- ==== Proof.Softmax.lean ====
/- The softmax of a row of real scores, and the gradient of a row of attention. -/
module

public import proofs.«01_k».proof.Proof.Reals

@[expose] public section

noncomputable section

namespace Cert.Softmax

open Idealize.ShloMosaic Cert.Reals

variable {ι κ : Type} [Fintype ι] [Fintype κ]

/-- The sum of the exponentials of a row's scores. -/
def mass (σ : ι → ℝ) : ℝ := ∑ k, Real.exp (σ k)
/-- A key's weight in its row. -/
def soft (σ : ι → ℝ) (k : ι) : ℝ := Real.exp (σ k) / mass σ
/-- The weighted mean of a column of values. -/
def mix (σ v : ι → ℝ) : ℝ := ∑ k, soft σ k * v k
/-- The gradient of a row's unscaled scores: `g` is the cotangent of the row's output, `V` the values. -/
def slope (c : ℝ) (σ : ι → ℝ) (V : ι → κ → ℝ) (g : κ → ℝ) (k : ι) : ℝ :=
  soft σ k * ((∑ d, g d * V k d) - ∑ d, g d * mix σ (fun j => V j d)) * c

theorem mass_pos [Nonempty ι] (σ : ι → ℝ) : 0 < mass σ := Finset.sum_pos (fun _ _ => Real.exp_pos _) Finset.univ_nonempty

theorem mass_shift (σ : ι → ℝ) (M : ℝ) : ∑ k, Real.exp (σ k - M) = mass σ / Real.exp M := by
  simp only [mass, Real.exp_sub, Finset.sum_div]

theorem shift_pos [Nonempty ι] (σ : ι → ℝ) (M : ℝ) : 0 < ∑ k, Real.exp (σ k - M) := by
  rw [mass_shift]; exact div_pos (mass_pos σ) (Real.exp_pos M)

/-- A weight does not see a constant taken off the row's scores. -/
theorem soft_shift [Nonempty ι] (σ : ι → ℝ) (M : ℝ) (k : ι) : Real.exp (σ k - M) / (∑ j, Real.exp (σ j - M)) = soft σ k := by
  rw [mass_shift, Real.exp_sub, soft]
  have := (mass_pos σ).ne'; have := (Real.exp_pos M).ne'
  field_simp

/-- Dividing after the weighted sum is the same as dividing each weight. -/
theorem mix_shift [Nonempty ι] (σ v : ι → ℝ) (M : ℝ) : (∑ k, Real.exp (σ k - M) * v k) / (∑ j, Real.exp (σ j - M)) = mix σ v := by
  simp only [mix, Finset.sum_div, ← soft_shift σ M, div_mul_eq_mul_div]

/-- The log-sum a row saves. -/
def lse (σ : ι → ℝ) : ℝ := Real.log (mass σ)

theorem lse_shift [Nonempty ι] (σ : ι → ℝ) (M : ℝ) : M + Real.log (∑ j, Real.exp (σ j - M)) = lse σ := by
  rw [mass_shift, Real.log_div (mass_pos σ).ne' (Real.exp_pos M).ne', Real.log_exp, lse]
  ring

/-- The saved log-sum recovers every weight. -/
theorem exp_saved [Nonempty ι] (σ : ι → ℝ) (k : ι) : Real.exp (σ k - lse σ) = soft σ k := by
  rw [lse, Real.exp_sub, Real.exp_log (mass_pos σ), soft]

/-- The row's sum of cotangent times output is the weighted sum of the weights' cotangents. -/
theorem slope_mean (σ : ι → ℝ) (V : ι → κ → ℝ) (g : κ → ℝ) : ∑ d, g d * mix σ (fun j => V j d) = ∑ j, soft σ j * ∑ d, g d * V j d := by
  simp only [mix, Finset.mul_sum]
  rw [Finset.sum_comm]
  exact Finset.sum_congr rfl fun j _ => Finset.sum_congr rfl fun d _ => by ring

/-- What differentiating the quotient of the exponentials by their sum gives. -/
theorem slope_quotient [Nonempty ι] (c : ℝ) (σ : ι → ℝ) (V : ι → κ → ℝ) (g : κ → ℝ) (M : ℝ) (k : ι) :
    ((∑ d, g d * V k d) / (∑ j, Real.exp (σ j - M))
      + -(∑ i, (∑ d, g d * V i d) * (1 / ((∑ j, Real.exp (σ j - M)) * (∑ j, Real.exp (σ j - M)))) * Real.exp (σ i - M))) * Real.exp (σ k - M) * c
      = slope c σ V g k := by
  have hL := (shift_pos σ M).ne'
  rw [slope, slope_mean, ← soft_shift σ M]
  simp only [← soft_shift σ M]
  generalize (∑ j, Real.exp (σ j - M)) = L at *
  have e : ∑ i, (∑ d, g d * V i d) * (1 / (L * L)) * Real.exp (σ i - M) = (∑ i, Real.exp (σ i - M) / L * ∑ d, g d * V i d) / L := by
    rw [Finset.sum_div]
    exact Finset.sum_congr rfl fun i _ => by field_simp
  rw [e]
  field_simp
  ring

theorem ofBits_neg_inf : Ideal.ofBits .f32 0xFF800000#32 = ⊥ := by simp [Ideal.ofBits, Ideal.ieee]

/-- The largest of finitely many reals is real. -/
theorem fold_real (s : Finset ι) (hs : s.Nonempty) (σ : ι → ℝ) : ∃ M : ℝ, s.fold max (⊥ : EReal) (fun k => (σ k : EReal)) = M := by
  classical
  induction hs using Finset.Nonempty.cons_induction with
  | singleton a => exact ⟨σ a, by simp⟩
  | cons a s ha hs ih =>
    obtain ⟨M, hM⟩ := ih
    exact ⟨max (σ a) M, by rw [Finset.fold_cons, hM, max_real]⟩

end Cert.Softmax

end
-- ==== Proof.GqaMath.lean ====
/- Grouped attention: what each vector of the two kernels' bodies holds, its operands real. -/
module

public import proofs.«01_k».proof.Proof.Softmax
public import proofs.«01_k».proof.Proof.Gen.GqaIdeal.Frame

@[expose] public section

set_option maxRecDepth 16384

noncomputable section

namespace Cert.GqaMath

open Idealize.ShloMosaic Cert.Reals Cert.Softmax Cert.GqaIdeal Cert.GqaIdeal.Gen
open Idealize.ShloMosaic (ix1 ix2)

/-- A query row's scores. -/
def score (q : Fin 128 → ℝ) (K : Fin 2048 → Fin 128 → ℝ) (k : Fin 2048) : ℝ := (∑ d, q d * K k d) * scale128

section Forward
variable {v0 : Vec Ideal S256x128 .bf16} {v2 v15 : Vec Ideal S2048x128 .bf16} {v32 : FVec Ideal S256x2048 .f32} {v33 : FVec Ideal S256 .f32}
variable {r : Fin 256} {q : Fin 128 → ℝ} {K V : Fin 2048 → Fin 128 → ℝ} {σ : Fin 2048 → ℝ} {M : ℝ}

theorem pay12_real (h0 : ∀ d, v0 (ix2 r d) = q d) (h2 : ∀ k d, v2 (ix2 k d) = K k d) (k : Fin 2048) :
    k0_pay12 (F := Ideal) v0 v2 (ix2 r k) = (score q K k : EReal) := by
  pointwise [k0_pay12]
  simp only [h0, h2, ← EReal.coe_mul, coe_sum, ofBits_scale128]
  rfl

theorem pay13_real (h0 : ∀ d, v0 (ix2 r d) = q d) (h2 : ∀ k d, v2 (ix2 k d) = K k d) :
    ∃ M : ℝ, k0_pay13 (F := Ideal) v0 v2 (ix1 r) = M := by
  obtain ⟨M, hM⟩ := fold_real Finset.univ Finset.univ_nonempty (score q K)
  refine ⟨M, ?_⟩
  pointwise [k0_pay13]
  simp only [pay12_real h0 h2, ofBits_neg_inf]
  exact hM

theorem pay4_real (h32 : ∀ k, v32 (ix2 r k) = σ k) (h33 : v33 (ix1 r) = M) (h15 : ∀ k d, v15 (ix2 k d) = V k d) (d : Fin 128) :
    k0_pay4 (F := Ideal) v32 v33 v15 (ix2 r d) = (mix σ (fun k => V k d) : EReal) := by
  pointwise [k0_pay4, k0_pay3, k0_pay2, k0_pay1]
  simp only [h32, h33, h15, ← EReal.coe_sub, exp_real, ← EReal.coe_mul, coe_sum]
  rw [div_real (shift_pos σ M).ne', mix_shift]

theorem pay5_real (h32 : ∀ k, v32 (ix2 r k) = σ k) (h33 : v33 (ix1 r) = M) (d : Fin 128) :
    k0_pay5 (F := Ideal) v32 v33 (ix2 r d) = (lse σ : EReal) := by
  pointwise [k0_pay5, k0_pay3, k0_pay2, k0_pay1]
  simp only [h32, h33, ← EReal.coe_sub, exp_real, coe_sum]
  rw [log_real (shift_pos σ M), ← EReal.coe_add, lse_shift]

end Forward

section Backward
variable {v31 v42 : FVec Ideal S256x128 .bf16} {v33 v50 : FVec Ideal S2048x128 .bf16} {v37 : Vec Ideal S256x1 .f32} {v45 : Vec Ideal S256x128 .f32}
variable {q g : Fin 128 → ℝ} {K V : Fin 2048 → Fin 128 → ℝ} {r : Fin 256}

theorem pay9_real (h31 : ∀ d, v31 (ix2 r d) = q d) (h33 : ∀ k d, v33 (ix2 k d) = K k d) (h37 : v37 (ix2 r 0) = (lse (score q K) : EReal)) (k : Fin 2048) :
    k1_pay9 (F := Ideal) v31 v33 v37 (ix2 r k) = (soft (score q K) k : EReal) := by
  pointwise [k1_pay9]
  simp only [h31, h33, h37, ← EReal.coe_mul, coe_sum, ofBits_scale128, ← EReal.coe_sub, exp_real]
  rw [← exp_saved]
  rfl

theorem pay11_real (h31 : ∀ d, v31 (ix2 r d) = q d) (h33 : ∀ k d, v33 (ix2 k d) = K k d) (h37 : v37 (ix2 r 0) = (lse (score q K) : EReal))
    (h42 : ∀ d, v42 (ix2 r d) = g d) (h45 : ∀ d, v45 (ix2 r d) = (mix (score q K) (fun k => V k d) : EReal)) (h50 : ∀ k d, v50 (ix2 k d) = V k d) (k : Fin 2048) :
    k1_pay11 (F := Ideal) v31 v33 v37 v42 v45 v50 (ix2 r k) = (slope scale128 (score q K) V g k : EReal) := by
  pointwise [k1_pay11, k1_pay10]
  simp only [pay9_real h31 h33 h37, h42, h45, h50, ← EReal.coe_mul, coe_sum, ofBits_scale128, ← EReal.coe_sub]
  rfl

theorem pay12_bwd {q g : Fin 256 → Fin 128 → ℝ} {v59 : Vec Ideal S2048x128 .f32} {a : ℝ} (h31 : ∀ r d, v31 (ix2 r d) = q r d) (h33 : ∀ k d, v33 (ix2 k d) = K k d)
    (h37 : ∀ r, v37 (ix2 r 0) = (lse (score (q r) K) : EReal)) (h42 : ∀ r d, v42 (ix2 r d) = g r d) {k : Fin 2048} {d : Fin 128} (h59 : v59 (ix2 k d) = a) :
    k1_pay12 (F := Ideal) v31 v33 v37 v42 v59 (ix2 k d) = ((a + ∑ r, soft (score (q r) K) k * g r d : ℝ) : EReal) := by
  pointwise [k1_pay12, k1_pay10]
  simp only [fun r => pay9_real (h31 r) h33 (h37 r), h42, h59, ← EReal.coe_mul, coe_sum, ← EReal.coe_add]

theorem pay3_real {v103 : FVec Ideal S256x2048 .f32} {s : Fin 2048 → ℝ} (h103 : ∀ k, v103 (ix2 r k) = s k) (h33 : ∀ k d, v33 (ix2 k d) = K k d) (d : Fin 128) :
    k1_pay3 (F := Ideal) v103 v33 (ix2 r d) = ((∑ k, s k * K k d : ℝ) : EReal) := by
  pointwise [k1_pay3, k1_pay1]
  simp only [h103, h33, ← EReal.coe_mul, coe_sum]

theorem pay4_bwd {v103 : FVec Ideal S256x2048 .f32} {s : Fin 256 → Fin 2048 → ℝ} {q : Fin 256 → Fin 128 → ℝ} {v115 : Vec Ideal S2048x128 .f32} {a : ℝ}
    (h103 : ∀ r k, v103 (ix2 r k) = s r k) (h31 : ∀ r d, v31 (ix2 r d) = q r d) {k : Fin 2048} {d : Fin 128} (h115 : v115 (ix2 k d) = a) :
    k1_pay4 (F := Ideal) v103 v115 v31 (ix2 k d) = ((a + ∑ r, s r k * q r d : ℝ) : EReal) := by
  pointwise [k1_pay4, k1_pay1]
  simp only [h103, h31, h115, ← EReal.coe_mul, coe_sum, ← EReal.coe_add]

end Backward

/-! The first half of a block is treated as the second half is. -/

theorem pay7_at (v : Vec Ideal S256x128 .bf16) (r : Fin 256) (d : Fin 128) : k1_pay7 (F := Ideal) v (ix2 r d) = v (ix2 r d) := by
  pointwise [k1_pay7]

theorem pay8_at (v : Vec Ideal S2048x128 .bf16) (r : Fin 2048) (d : Fin 128) : k1_pay8 (F := Ideal) v (ix2 r d) = v (ix2 r d) := by
  pointwise [k1_pay8]

theorem pay10_eq (v0 : Vec Ideal S256x128 .bf16) (v2 v15 : Vec Ideal S2048x128 .bf16) : k0_pay10 (F := Ideal) v0 v2 v15 = k0_pay4 (k0_pay12 v0 v2) (k0_pay13 v0 v2) v15 := rfl

theorem pay11_eq (v0 : Vec Ideal S256x128 .bf16) (v2 : Vec Ideal S2048x128 .bf16) : k0_pay11 (F := Ideal) v0 v2 = k0_pay5 (k0_pay12 v0 v2) (k0_pay13 v0 v2) := rfl

theorem pay17_eq (v0 v42 : Vec Ideal S256x128 .bf16) (v2 v50 : Vec Ideal S2048x128 .bf16) (v37 : Vec Ideal S256x1 .f32) (v45 : Vec Ideal S256x128 .f32) :
    k1_pay11 (F := Ideal) (k1_pay7 v0) (k1_pay8 v2) v37 v42 v45 v50 = k1_pay17 v0 v2 v37 v42 v45 v50 := rfl

theorem pay13_eq (v0 v42 : Vec Ideal S256x128 .bf16) (v2 v50 v3 : Vec Ideal S2048x128 .bf16) (v37 : Vec Ideal S256x1 .f32) (v45 : Vec Ideal S256x128 .f32) :
    k1_pay13 (F := Ideal) (k1_pay7 v0) (k1_pay8 v2) v37 v42 v45 v50 v3 = k1_pay3 (k1_pay17 v0 v2 v37 v42 v45 v50) v3 := rfl

theorem pay14_eq (s : FVec Ideal S256x2048 .f32) (a : Vec Ideal S2048x128 .f32) (v : Vec Ideal S256x128 .bf16) : k1_pay14 (F := Ideal) s a v = k1_pay4 s a v := rfl

theorem pay12_eq (v0 v42 : Vec Ideal S256x128 .bf16) (v2 : Vec Ideal S2048x128 .bf16) (v37 : Vec Ideal S256x1 .f32) (a : Vec Ideal S2048x128 .f32) :
    k1_pay2 (F := Ideal) (k1_pay15 v0 v2 v37) (k1_pay16 v42) a = k1_pay12 (k1_pay7 v0) (k1_pay8 v2) v37 v42 a := rfl

end Cert.GqaMath

end
-- ==== Proof.GqaValue.lean ====
/- Grouped attention: what the two kernels leave in their results, read off their runs. -/
module

public import proofs.«01_k».proof.Proof.Cols
public import proofs.«01_k».proof.Proof.GqaMath

@[expose] public section

set_option maxRecDepth 16384

noncomputable section

namespace Cert.GqaIdeal.Hand

open Cert.GqaIdeal Cert.GqaIdeal.Gen Idealize.ShloMosaic Idealize.ShloMosaic.TcCoe Idealize.SL.Sem Cert.Reals Cert.Cols Cert.Softmax Cert.GqaMath
open Idealize.ShloMosaic (ix1 ix2)

theorem hz : (![0, 0] : Fin 2 → Nat) = fun _ => 0 := funext fun a => by fin_cases a <;> rfl

abbrev col6 := col (n := 6) 768 rfl
abbrev col2 := col (n := 2) 256 rfl
abbrev head6 := head (N := 768) 6 rfl
abbrev head2 := head (N := 256) 2 rfl

/-- The group of keys a query head reads. -/
def grp (h : Fin 6) : Fin 2 := ⟨h.val / 3, by omega⟩

/-! The grid: six heads, four blocks of 512 rows each. -/

def rowOf (n : ℕ) (r : Fin 512) : Fin 2048 := ⟨512 * (n % 4) + r.val, by omega⟩
def headOf (n : ℕ) : Fin 6 := ⟨n / 4 % 6, Nat.mod_lt _ (by decide)⟩

theorem ld_low {e : EltTy} (x : Vec Ideal S512x128 e) (r : Fin 256) (d : Fin 128) :
    View.ld x (Rect.unit (s := S512x128) ![0, 0] S256x128.size inb_S512x128_S256x128_0_0) (ix2 r d) = x (ix2 (low r) d) :=
  congrArg x (Shape.idx_ext₂ (by show 0 + 1 * r.val = r.val; omega) (by show 0 + 1 * d.val = d.val; omega))

theorem ld_high {e : EltTy} (x : Vec Ideal S512x128 e) (r : Fin 256) (d : Fin 128) :
    View.ld x (Rect.unit (s := S512x128) ![256, 0] S256x128.size inb_S512x128_S256x128_256_0) (ix2 r d) = x (ix2 (high r) d) :=
  congrArg x (Shape.idx_ext₂ (by show 256 + 1 * r.val = 256 + r.val; omega) (by show 0 + 1 * d.val = d.val; omega))

theorem ld_low1 {e : EltTy} (x : Vec Ideal S512x128 e) (r : Fin 256) :
    View.ld x (Rect.unit (s := S512x128) ![0, 0] S256x1.size inb_S512x128_S256x1_0_0) (ix2 r 0) = x (ix2 (low r) 0) :=
  congrArg x (Shape.idx_ext₂ (by show 0 + 1 * r.val = r.val; omega) rfl)

theorem ld_high1 {e : EltTy} (x : Vec Ideal S512x128 e) (r : Fin 256) :
    View.ld x (Rect.unit (s := S512x128) ![256, 0] S256x1.size inb_S512x128_S256x1_256_0) (ix2 r 0) = x (ix2 (high r) 0) :=
  congrArg x (Shape.idx_ext₂ (by show 256 + 1 * r.val = 256 + r.val; omega) rfl)

/-- Two halves that each hold `G`'s rows hold `G`. -/
theorem canon_halves (G : S512x128.Idx → EReal) {p q : Vec Ideal S256x128 .f32}
    (hp : ∀ r d, p (ix2 r d) = G (ix2 (high r) d)) (hq : ∀ r d, q (ix2 r d) = G (ix2 (low r) d)) :
    (View.canon [⟨r0_2, p⟩, ⟨r0_0, q⟩] : Vec Ideal S512x128 .f32) = G := by
  funext y
  refine View.canon_apply_of_pieces (Val := Elt Ideal) (e := .f32) G _ ?_ y (cover0_3 p q y)
  intro pc hpc
  rcases List.mem_cons.mp hpc with rfl | hpc
  · intro x
    refine ((congrArg p (eq_ix2 x)).trans (hp _ _)).trans (congrArg G (Shape.idx_ext₂ ?_ ?_))
    · show 256 + (x 0).val = 256 + 1 * (x 0).val; omega
    · show (x 1).val = 0 + 1 * (x 1).val; omega
  · obtain rfl := List.mem_singleton.mp hpc
    intro x
    refine ((congrArg q (eq_ix2 x)).trans (hq _ _)).trans (congrArg G (Shape.idx_ext₂ ?_ ?_))
    · show (x 0).val = 0 + 1 * (x 0).val; omega
    · show (x 1).val = 0 + 1 * (x 1).val; omega

variable {q g : Fin 2048 → Fin 6 → Fin 128 → ℝ} {K W : Fin 2048 → Fin 2 → Fin 128 → ℝ}
variable (V : (c : Dev nD) → (b : Ref sig .tc) → Buf (Elt Ideal) ((c : Thread nD τ).loc b)) (c : Dev nD)

/-- A query row's scores against its group's keys. -/
abbrev sc (q : Fin 2048 → Fin 6 → Fin 128 → ℝ) (K : Fin 2048 → Fin 2 → Fin 128 → ℝ) (r : Fin 2048) (h : Fin 6) : Fin 2048 → ℝ :=
  score (q r h) fun k d => K k (grp h) d

/-- The attention's output, -/
def outR (q : Fin 2048 → Fin 6 → Fin 128 → ℝ) (K W : Fin 2048 → Fin 2 → Fin 128 → ℝ) (r : Fin 2048) (h : Fin 6) (d : Fin 128) : ℝ :=
  mix (sc q K r h) fun k => W k (grp h) d

/-- the gradient at a score, -/
def slopeR (q g : Fin 2048 → Fin 6 → Fin 128 → ℝ) (K W : Fin 2048 → Fin 2 → Fin 128 → ℝ) (r : Fin 2048) (h : Fin 6) (k : Fin 2048) : ℝ :=
  slope scale128 (sc q K r h) (fun k d => W k (grp h) d) (g r h) k

/-- and the three gradients. -/
def dqR (q g : Fin 2048 → Fin 6 → Fin 128 → ℝ) (K W : Fin 2048 → Fin 2 → Fin 128 → ℝ) (r : Fin 2048) (h : Fin 6) (d : Fin 128) : ℝ :=
  ∑ k, slopeR q g K W r h k * K k (grp h) d

def head3 (p : Fin 2) (j : Fin 3) : Fin 6 := ⟨3 * p.val + j.val, by omega⟩

def dkR (q g : Fin 2048 → Fin 6 → Fin 128 → ℝ) (K W : Fin 2048 → Fin 2 → Fin 128 → ℝ) (k : Fin 2048) (p : Fin 2) (d : Fin 128) : ℝ :=
  ∑ j : Fin 3, ∑ r, slopeR q g K W r (head3 p j) k * q r (head3 p j) d

def dvR (q g : Fin 2048 → Fin 6 → Fin 128 → ℝ) (K : Fin 2048 → Fin 2 → Fin 128 → ℝ) (k : Fin 2048) (p : Fin 2) (d : Fin 128) : ℝ :=
  ∑ j : Fin 3, ∑ r, soft (sc q K r (head3 p j)) k * g r (head3 p j) d

/-! ## The forward kernel -/

theorem idx0 : ∀ t : Fin cfg0.N, win0_0.index t 0 = t.val % 4 ∧ win0_0.index t 1 = t.val / 4 ∧ win0_1.index t 0 = 0 ∧ win0_1.index t 1 = t.val / 12
    ∧ win0_2.index t 0 = 0 ∧ win0_2.index t 1 = t.val / 12 ∧ win0_3.index t 0 = t.val % 4 ∧ win0_3.index t 1 = t.val / 4
    ∧ win0_4.index t 0 = t.val % 4 ∧ win0_4.index t 1 = t.val / 4 :=
  (by decide +kernel : ∀ t : Fin grid0.N, _)

/-- The point that writes a row of a head. -/
def pt (i : S2048x768.Idx) : ℕ := 4 * ((i 1).val / 128) + (i 0).val / 512

theorem pt_lt (i : S2048x768.Idx) : pt i < 24 := by
  have b0 : (i 0 : Nat) < 2048 := (i 0).isLt
  have b1 : (i 1 : Nat) < 768 := (i 1).isLt
  unfold pt
  omega

theorem cover_block (i : S2048x768.Idx) {w : Fin 2 → ℕ} (e0 : w 0 = pt i % 4) (e1 : w 1 = pt i / 4) (a : Fin 2) :
    w a * S512x128.size a ≤ (i a : Nat) ∧ (i a : Nat) < w a * S512x128.size a + S512x128.size a := by
  have b0 : (i 0 : Nat) < 2048 := (i 0).isLt
  have b1 : (i 1 : Nat) < 768 := (i 1).isLt
  have e0' : w 0 = (4 * ((i 1).val / 128) + (i 0).val / 512) % 4 := e0
  have e1' : w 1 = (4 * ((i 1).val / 128) + (i 0).val / 512) / 4 := e1
  match a with
  | ⟨0, _⟩ => show w 0 * 512 ≤ (i 0 : Nat) ∧ (i 0 : Nat) < w 0 * 512 + 512; omega
  | ⟨1, _⟩ => show w 1 * 128 ≤ (i 1 : Nat) ∧ (i 1 : Nat) < w 1 * 128 + 128; omega

section Forward
variable (hq : ∀ r h d, (V c main_v1 : Vec Ideal S2048x768 .bf16) (ix2 r (col6 h d)) = (q r h d : EReal))
  (hK : ∀ r h d, (V c main_v3 : Vec Ideal S2048x256 .bf16) (ix2 r (col2 h d)) = (K r h d : EReal))
  (hW : ∀ r h d, (V c main_v5 : Vec Ideal S2048x256 .bf16) (ix2 r (col2 h d)) = (W r h d : EReal))

include hq in
theorem blk0_0 (t : Fin cfg0.N) (r : Fin 512) (d : Fin 128) : (iblk0 V c 0 t : Vec Ideal S512x128 .bf16) (ix2 r d) = (q (rowOf t r) (headOf t) d : EReal) := by
  refine Eq.trans ?_ (hq _ _ _)
  unfold iblk0
  rw [View.read_apply]
  refine congrArg (V c main_v1 : Vec Ideal S2048x768 .bf16) ?_
  have hi := idx0 t
  have hN : t.val < 24 := t.isLt
  refine Shape.idx_ext₂ ?_ ?_
  · show win0_0.index t 0 * 512 + 1 * r.val = 512 * (t.val % 4) + r.val; omega
  · show win0_0.index t 1 * 128 + 1 * d.val = 128 * (t.val / 4 % 6) + d.val; omega

include hK in
theorem blk0_1 (t : Fin cfg0.N) (r : Fin 2048) (d : Fin 128) : (iblk0 V c 1 t : Vec Ideal S2048x128 .bf16) (ix2 r d) = (K r (grp (headOf t)) d : EReal) := by
  refine Eq.trans ?_ (hK _ _ _)
  unfold iblk0
  rw [View.read_apply]
  refine congrArg (V c main_v3 : Vec Ideal S2048x256 .bf16) ?_
  have hi := idx0 t
  have hN : t.val < 24 := t.isLt
  refine Shape.idx_ext₂ ?_ ?_
  · show win0_1.index t 0 * 2048 + 1 * r.val = r.val; omega
  · show win0_1.index t 1 * 128 + 1 * d.val = 128 * (t.val / 4 % 6 / 3) + d.val; omega

include hW in
theorem blk0_2 (t : Fin cfg0.N) (r : Fin 2048) (d : Fin 128) : (iblk0 V c 2 t : Vec Ideal S2048x128 .bf16) (ix2 r d) = (W r (grp (headOf t)) d : EReal) := by
  refine Eq.trans ?_ (hW _ _ _)
  unfold iblk0
  rw [View.read_apply]
  refine congrArg (V c main_v5 : Vec Ideal S2048x256 .bf16) ?_
  have hi := idx0 t
  have hN : t.val < 24 := t.isLt
  refine Shape.idx_ext₂ ?_ ?_
  · show win0_2.index t 0 * 2048 + 1 * r.val = r.val; omega
  · show win0_2.index t 1 * 128 + 1 * d.val = 128 * (t.val / 4 % 6 / 3) + d.val; omega

include hq hK hW in
theorem out3_real (t : Fin cfg0.N) :
    (dat0 V c).after 3 t = ((fun i => (outR q K W (rowOf t (i 0)) (headOf t) (i 1) : EReal)) : Vec Ideal S512x128 .f32) := by
  rw [after0_3]
  unfold out0_3 k0_pay14 k0_pay15
  simp only [pay10_eq, View.ld_unit_zero (S := S2048x128) hz]
  have key : ∀ (v0 : Vec Ideal S256x128 .bf16) (e : Fin 256 → Fin 512) (h0 : ∀ r d, v0 (ix2 r d) = (iblk0 V c 0 t : Vec Ideal S512x128 .bf16) (ix2 (e r) d)) (r d),
      k0_pay4 (F := Ideal) (k0_pay12 v0 (iblk0 V c 1 t)) (k0_pay13 v0 (iblk0 V c 1 t)) (iblk0 V c 2 t) (ix2 r d) = (outR q K W (rowOf t (e r)) (headOf t) d : EReal) := fun v0 e h0 r d => by
    have h0' := fun d => (h0 r d).trans (blk0_0 V c hq t (e r) d)
    obtain ⟨M, hM⟩ := pay13_real h0' (blk0_1 V c hK t)
    exact pay4_real (pay12_real h0' (blk0_1 V c hK t)) hM (blk0_2 V c hW t) d
  exact canon_halves _ (key _ high (ld_high _)) (key _ low (ld_low _))

include hq hK in
theorem out4_real (t : Fin cfg0.N) :
    (dat0 V c).after 4 t = ((fun i => (lse (sc q K (rowOf t (i 0)) (headOf t)) : EReal)) : Vec Ideal S512x128 .f32) := by
  rw [after0_4]
  unfold out0_4 k0_pay14 k0_pay15
  simp only [pay11_eq, View.ld_unit_zero (S := S2048x128) hz]
  have key : ∀ (v0 : Vec Ideal S256x128 .bf16) (e : Fin 256 → Fin 512) (h0 : ∀ r d, v0 (ix2 r d) = (iblk0 V c 0 t : Vec Ideal S512x128 .bf16) (ix2 (e r) d)) (r d),
      k0_pay5 (F := Ideal) (k0_pay12 v0 (iblk0 V c 1 t)) (k0_pay13 v0 (iblk0 V c 1 t)) (ix2 r d) = (lse (sc q K (rowOf t (e r)) (headOf t)) : EReal) := fun v0 e h0 r d => by
    have h0' := fun d => (h0 r d).trans (blk0_0 V c hq t (e r) d)
    obtain ⟨M, hM⟩ := pay13_real h0' (blk0_1 V c hK t)
    exact pay5_real (pay12_real h0' (blk0_1 V c hK t)) hM d
  exact canon_halves _ (key _ high (ld_high _)) (key _ low (ld_low _))

/-- A block of 512 rows of a head, read from the whole array's function. -/
theorem block_fun {F : Fin 2048 → Fin 6 → Fin 128 → EReal} (n : ℕ) {i : S2048x768.Idx} {y : S512x128.Idx} (hi : i = ix2 (rowOf n (y 0)) (col6 (headOf n) (y 1))) :
    F (i 0) (head6 (i 1)) (lane (i 1)) = F (rowOf n (y 0)) (headOf n) (y 1) := by
  subst hi
  exact congrArg₂ (F (rowOf n (y 0))) (head_col rfl _ _) (lane_col rfl _ _)

include hq hK hW in
/-- The attention's output array. -/
theorem final0_3 : (dat0 V c).arrAt 3 cfg0.N = ((fun i => (outR q K W (i 0) (head6 (i 1)) (lane (i 1)) : EReal)) : Vec Ideal S2048x768 .f32) := by
  refine (dat0 V c).arrAt_eq_of_cover 3 _ (fun t _ => ?_) fun (i : S2048x768.Idx) => ⟨⟨pt i, pt_lt i⟩, flush0_3 _, ?_⟩
  · show (cfg0.win 3).cut (grid0.coords t) ((dat0 V c).after 3 t) = _
    rw [out3_real V c hq hK hW]
    funext y
    rw [View.read_apply]
    have hi := idx0 t
    have hN : t.val < 24 := t.isLt
    refine (block_fun (F := fun r h d => (outR q K W r h d : EReal)) t.val (Shape.idx_ext₂ ?_ ?_)).symm
    · show win0_3.index t 0 * 512 + 1 * (y 0).val = 512 * (t.val % 4) + (y 0).val; omega
    · show win0_3.index t 1 * 128 + 1 * (y 1).val = 128 * (t.val / 4 % 6) + (y 1).val; omega
  · show i ∈ ((View.whole main_v8_0).slice (win0_3.rect ⟨pt i, pt_lt i⟩)).set
    rw [View.set_slice_whole, Rect.mem_set_unit]
    exact cover_block i (idx0 ⟨pt i, pt_lt i⟩).2.2.2.2.2.2.1 (idx0 ⟨pt i, pt_lt i⟩).2.2.2.2.2.2.2.1

include hq hK in
/-- The rows' log-sums. -/
theorem final0_4 : (dat0 V c).arrAt 4 cfg0.N = ((fun i => (lse (sc q K (i 0) (head6 (i 1))) : EReal)) : Vec Ideal S2048x768 .f32) := by
  refine (dat0 V c).arrAt_eq_of_cover 4 _ (fun t _ => ?_) fun (i : S2048x768.Idx) => ⟨⟨pt i, pt_lt i⟩, flush0_4 _, ?_⟩
  · show (cfg0.win 4).cut (grid0.coords t) ((dat0 V c).after 4 t) = _
    rw [out4_real V c hq hK]
    funext y
    rw [View.read_apply]
    have hi := idx0 t
    have hN : t.val < 24 := t.isLt
    refine (block_fun (F := fun r h _ => (lse (sc q K r h) : EReal)) t.val (Shape.idx_ext₂ ?_ ?_)).symm
    · show win0_4.index t 0 * 512 + 1 * (y 0).val = 512 * (t.val % 4) + (y 0).val; omega
    · show win0_4.index t 1 * 128 + 1 * (y 1).val = 128 * (t.val / 4 % 6) + (y 1).val; omega
  · show i ∈ ((View.whole main_v8_1).slice (win0_4.rect ⟨pt i, pt_lt i⟩)).set
    rw [View.set_slice_whole, Rect.mem_set_unit]
    exact cover_block i (idx0 ⟨pt i, pt_lt i⟩).2.2.2.2.2.2.2.2.1 (idx0 ⟨pt i, pt_lt i⟩).2.2.2.2.2.2.2.2.2

end Forward

/-! ## The backward kernel -/

theorem idx1 : ∀ t : Fin cfg1.N, win1_0.index t 0 = t.val % 4 ∧ win1_0.index t 1 = t.val / 4 ∧ win1_1.index t 0 = 0 ∧ win1_1.index t 1 = t.val / 12
    ∧ win1_2.index t 0 = 0 ∧ win1_2.index t 1 = t.val / 12 ∧ win1_3.index t 0 = t.val % 4 ∧ win1_3.index t 1 = t.val / 4
    ∧ win1_4.index t 0 = t.val % 4 ∧ win1_4.index t 1 = t.val / 4 ∧ win1_5.index t 0 = t.val % 4 ∧ win1_5.index t 1 = t.val / 4
    ∧ win1_6.index t 0 = t.val % 4 ∧ win1_6.index t 1 = t.val / 4
    ∧ win1_7.index t 0 = 0 ∧ win1_7.index t 1 = t.val / 12 ∧ win1_8.index t 0 = 0 ∧ win1_8.index t 1 = t.val / 12 :=
  (by decide +kernel : ∀ t : Fin grid1.N, _)

section Backward
variable (hq : ∀ r h d, (V c main_v1 : Vec Ideal S2048x768 .bf16) (ix2 r (col6 h d)) = (q r h d : EReal))
  (hK : ∀ r h d, (V c main_v3 : Vec Ideal S2048x256 .bf16) (ix2 r (col2 h d)) = (K r h d : EReal))
  (hW : ∀ r h d, (V c main_v5 : Vec Ideal S2048x256 .bf16) (ix2 r (col2 h d)) = (W r h d : EReal))
  (hL : ∀ r h d, (V c main_v8_1 : Vec Ideal S2048x768 .f32) (ix2 r (col6 h d)) = (lse (sc q K r h) : EReal))
  (hO : ∀ r h d, (V c main_v8_0 : Vec Ideal S2048x768 .f32) (ix2 r (col6 h d)) = (outR q K W r h d : EReal))
  (hg : ∀ r h d, (V c main_v7 : Vec Ideal S2048x768 .bf16) (ix2 r (col6 h d)) = (g r h d : EReal))

include hq in
theorem blk1_0 (t : Fin cfg1.N) (r : Fin 512) (d : Fin 128) : (iblk1 V c 0 t : Vec Ideal S512x128 .bf16) (ix2 r d) = (q (rowOf t r) (headOf t) d : EReal) := by
  refine Eq.trans ?_ (hq _ _ _)
  unfold iblk1
  rw [View.read_apply]
  refine congrArg (V c main_v1 : Vec Ideal S2048x768 .bf16) ?_
  have hi := idx1 t
  have hN : t.val < 24 := t.isLt
  refine Shape.idx_ext₂ ?_ ?_
  · show win1_0.index t 0 * 512 + 1 * r.val = 512 * (t.val % 4) + r.val; omega
  · show win1_0.index t 1 * 128 + 1 * d.val = 128 * (t.val / 4 % 6) + d.val; omega

include hK in
theorem blk1_1 (t : Fin cfg1.N) (r : Fin 2048) (d : Fin 128) : (iblk1 V c 1 t : Vec Ideal S2048x128 .bf16) (ix2 r d) = (K r (grp (headOf t)) d : EReal) := by
  refine Eq.trans ?_ (hK _ _ _)
  unfold iblk1
  rw [View.read_apply]
  refine congrArg (V c main_v3 : Vec Ideal S2048x256 .bf16) ?_
  have hi := idx1 t
  have hN : t.val < 24 := t.isLt
  refine Shape.idx_ext₂ ?_ ?_
  · show win1_1.index t 0 * 2048 + 1 * r.val = r.val; omega
  · show win1_1.index t 1 * 128 + 1 * d.val = 128 * (t.val / 4 % 6 / 3) + d.val; omega

include hW in
theorem blk1_2 (t : Fin cfg1.N) (r : Fin 2048) (d : Fin 128) : (iblk1 V c 2 t : Vec Ideal S2048x128 .bf16) (ix2 r d) = (W r (grp (headOf t)) d : EReal) := by
  refine Eq.trans ?_ (hW _ _ _)
  unfold iblk1
  rw [View.read_apply]
  refine congrArg (V c main_v5 : Vec Ideal S2048x256 .bf16) ?_
  have hi := idx1 t
  have hN : t.val < 24 := t.isLt
  refine Shape.idx_ext₂ ?_ ?_
  · show win1_2.index t 0 * 2048 + 1 * r.val = r.val; omega
  · show win1_2.index t 1 * 128 + 1 * d.val = 128 * (t.val / 4 % 6 / 3) + d.val; omega

include hL in
theorem blk1_3 (t : Fin cfg1.N) (r : Fin 512) (d : Fin 128) : (iblk1 V c 3 t : Vec Ideal S512x128 .f32) (ix2 r d) = (lse (sc q K (rowOf t r) (headOf t)) : EReal) := by
  refine Eq.trans ?_ (hL _ _ d)
  unfold iblk1
  rw [View.read_apply]
  refine congrArg (V c main_v8_1 : Vec Ideal S2048x768 .f32) ?_
  have hi := idx1 t
  have hN : t.val < 24 := t.isLt
  refine Shape.idx_ext₂ ?_ ?_
  · show win1_3.index t 0 * 512 + 1 * r.val = 512 * (t.val % 4) + r.val; omega
  · show win1_3.index t 1 * 128 + 1 * d.val = 128 * (t.val / 4 % 6) + d.val; omega

include hO in
theorem blk1_4 (t : Fin cfg1.N) (r : Fin 512) (d : Fin 128) : (iblk1 V c 4 t : Vec Ideal S512x128 .f32) (ix2 r d) = (outR q K W (rowOf t r) (headOf t) d : EReal) := by
  refine Eq.trans ?_ (hO _ _ _)
  unfold iblk1
  rw [View.read_apply]
  refine congrArg (V c main_v8_0 : Vec Ideal S2048x768 .f32) ?_
  have hi := idx1 t
  have hN : t.val < 24 := t.isLt
  refine Shape.idx_ext₂ ?_ ?_
  · show win1_4.index t 0 * 512 + 1 * r.val = 512 * (t.val % 4) + r.val; omega
  · show win1_4.index t 1 * 128 + 1 * d.val = 128 * (t.val / 4 % 6) + d.val; omega

include hg in
theorem blk1_5 (t : Fin cfg1.N) (r : Fin 512) (d : Fin 128) : (iblk1 V c 5 t : Vec Ideal S512x128 .bf16) (ix2 r d) = (g (rowOf t r) (headOf t) d : EReal) := by
  refine Eq.trans ?_ (hg _ _ _)
  unfold iblk1
  rw [View.read_apply]
  refine congrArg (V c main_v7 : Vec Ideal S2048x768 .bf16) ?_
  have hi := idx1 t
  have hN : t.val < 24 := t.isLt
  refine Shape.idx_ext₂ ?_ ?_
  · show win1_5.index t 0 * 512 + 1 * r.val = 512 * (t.val % 4) + r.val; omega
  · show win1_5.index t 1 * 128 + 1 * d.val = 128 * (t.val / 4 % 6) + d.val; omega

/-- The slopes of a half's rows. -/
abbrev dsH (t : Fin cfg1.N) : FVec Ideal S256x2048 .f32 :=
  k1_pay17 (View.ld (iblk1 V c 0 t) (Rect.unit (s := S512x128) ![256, 0] S256x128.size inb_S512x128_S256x128_256_0)) (iblk1 V c 1 t) (View.ld (iblk1 V c 3 t) (Rect.unit (s := S512x128) ![256, 0] S256x1.size inb_S512x128_S256x1_256_0)) (View.ld (iblk1 V c 5 t) (Rect.unit (s := S512x128) ![256, 0] S256x128.size inb_S512x128_S256x128_256_0)) (View.ld (iblk1 V c 4 t) (Rect.unit (s := S512x128) ![256, 0] S256x128.size inb_S512x128_S256x128_256_0)) (iblk1 V c 2 t)

abbrev dsL (t : Fin cfg1.N) : FVec Ideal S256x2048 .f32 :=
  k1_pay17 (View.ld (iblk1 V c 0 t) (Rect.unit (s := S512x128) ![0, 0] S256x128.size inb_S512x128_S256x128_0_0)) (iblk1 V c 1 t) (View.ld (iblk1 V c 3 t) (Rect.unit (s := S512x128) ![0, 0] S256x1.size inb_S512x128_S256x1_0_0)) (View.ld (iblk1 V c 5 t) (Rect.unit (s := S512x128) ![0, 0] S256x128.size inb_S512x128_S256x128_0_0)) (View.ld (iblk1 V c 4 t) (Rect.unit (s := S512x128) ![0, 0] S256x128.size inb_S512x128_S256x128_0_0)) (iblk1 V c 2 t)

/-- What a point adds to the keys' gradient, -/
abbrev dkStep (t : Fin cfg1.N) (a : Vec Ideal S2048x128 .f32) : Vec Ideal S2048x128 .f32 :=
  k1_pay4 (dsH V c t) (k1_pay4 (dsL V c t) a (View.ld (iblk1 V c 0 t) (Rect.unit (s := S512x128) ![0, 0] S256x128.size inb_S512x128_S256x128_0_0))) (View.ld (iblk1 V c 0 t) (Rect.unit (s := S512x128) ![256, 0] S256x128.size inb_S512x128_S256x128_256_0))

/-- and to the values'. -/
abbrev dvStep (t : Fin cfg1.N) (a : Vec Ideal S2048x128 .f32) : Vec Ideal S2048x128 .f32 :=
  k1_pay12 (k1_pay7 (View.ld (iblk1 V c 0 t) (Rect.unit (s := S512x128) ![256, 0] S256x128.size inb_S512x128_S256x128_256_0))) (k1_pay8 (iblk1 V c 1 t)) (View.ld (iblk1 V c 3 t) (Rect.unit (s := S512x128) ![256, 0] S256x1.size inb_S512x128_S256x1_256_0)) (View.ld (iblk1 V c 5 t) (Rect.unit (s := S512x128) ![256, 0] S256x128.size inb_S512x128_S256x128_256_0))
    (k1_pay12 (k1_pay7 (View.ld (iblk1 V c 0 t) (Rect.unit (s := S512x128) ![0, 0] S256x128.size inb_S512x128_S256x128_0_0))) (k1_pay8 (iblk1 V c 1 t)) (View.ld (iblk1 V c 3 t) (Rect.unit (s := S512x128) ![0, 0] S256x1.size inb_S512x128_S256x1_0_0)) (View.ld (iblk1 V c 5 t) (Rect.unit (s := S512x128) ![0, 0] S256x128.size inb_S512x128_S256x128_0_0)) a)

theorem outs_6 (t : Fin cfg1.N) : (outsAt1 V c t.val t.isLt).1
    = View.canon [⟨r0_2, k1_pay3 (dsH V c t) (iblk1 V c 1 t)⟩, ⟨r0_0, k1_pay3 (dsL V c t) (iblk1 V c 1 t)⟩] := by
  by_cases h0 : t.val % 12 = 0
  · rw [outsAt1_A V c t h0 h0]
    dsimp only
    unfold out1_A_6
    rw [View.read_writes_eq_canon _ _ _ fun y => cover1_A_6 (y := y) ..]
    unfold kernelRun1_A
    dsimp only
    sl_unfold_words
    simp only [View.readAt_eq_ld, (hs1_0 t).read_unread, (hs1_1 t).read_unread, (hs1_2 t).read_unread, (hs1_3 t).read_unread, (hs1_4 t).read_unread, (hs1_5 t).read_unread, View.ld_unit_zero (S := S2048x128) hz, pay13_eq]
    rfl
  · rw [outsAt1_B V c t h0 h0]
    dsimp only
    unfold out1_B_6
    rw [View.read_writes_eq_canon _ _ _ fun y => cover1_B_6 (y := y) ..]
    unfold kernelRun1_B
    dsimp only
    sl_unfold_words
    simp only [View.readAt_eq_ld, (hs1_0 t).read_unread, (hs1_1 t).read_unread, (hs1_2 t).read_unread, (hs1_3 t).read_unread, (hs1_4 t).read_unread, (hs1_5 t).read_unread, View.ld_unit_zero (S := S2048x128) hz, pay13_eq]
    rfl

theorem outs_7_first (t : Fin cfg1.N) (h0 : t.val % 12 = 0) : (outsAt1 V c t.val t.isLt).2.1 = dkStep V c t (k1_pay6 (F := Ideal)) := by
  rw [outsAt1_A V c t h0 h0]
  dsimp only
  unfold out1_A_7
  rw [View.read_writes_eq_canon _ _ _ fun y => cover1_A_7 (y := y) ..]
  unfold kernelRun1_A
  dsimp only
  sl_unfold_words
  simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_7 t).read_unread, View.ld_unit_zero (S := S2048x128) hz, pay17_eq, pay14_eq]
  rfl

theorem outs_7_next (t : Fin cfg1.N) (h0 : ¬t.val % 12 = 0) :
    (outsAt1 V c t.val t.isLt).2.1 = dkStep V c t (outsAt1 V c (t.val - 1) (Nat.lt_of_le_of_lt (Nat.sub_le _ _) t.isLt)).2.1 := by
  rw [outsAt1_B V c t h0 h0]
  dsimp only
  unfold out1_B_7
  rw [View.read_writes_eq_canon _ _ _ fun y => cover1_B_7 (y := y) ..]
  unfold kernelRun1_B
  dsimp only
  sl_unfold_words
  simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_7 t).read_unread, View.ld_unit_zero (S := S2048x128) hz, pay17_eq, pay14_eq]
  rfl

theorem outs_8_first (t : Fin cfg1.N) (h0 : t.val % 12 = 0) : (outsAt1 V c t.val t.isLt).2.2 = dvStep V c t (k1_pay5 (F := Ideal)) := by
  rw [outsAt1_A V c t h0 h0]
  dsimp only
  unfold out1_A_8
  rw [View.read_writes_eq_canon _ _ _ fun y => cover1_A_8 (y := y) ..]
  unfold kernelRun1_A
  dsimp only
  sl_unfold_words
  simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_8 t).read_unread, View.ld_unit_zero (S := S2048x128) hz, pay12_eq]
  rfl

theorem outs_8_next (t : Fin cfg1.N) (h0 : ¬t.val % 12 = 0) :
    (outsAt1 V c t.val t.isLt).2.2 = dvStep V c t (outsAt1 V c (t.val - 1) (Nat.lt_of_le_of_lt (Nat.sub_le _ _) t.isLt)).2.2 := by
  rw [outsAt1_B V c t h0 h0]
  dsimp only
  unfold out1_B_8
  rw [View.read_writes_eq_canon _ _ _ fun y => cover1_B_8 (y := y) ..]
  unfold kernelRun1_B
  dsimp only
  sl_unfold_words
  simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_8 t).read_unread, View.ld_unit_zero (S := S2048x128) hz, pay12_eq]
  rfl

include hq hK hW hL hO hg

/-- A half's slopes, by row. -/
theorem half_slope (t : Fin cfg1.N) (e : Fin 256 → Fin 512) {v0 v5 : Vec Ideal S256x128 .bf16} {v3 : Vec Ideal S256x1 .f32} {v4 : Vec Ideal S256x128 .f32}
    (h0 : ∀ r d, v0 (ix2 r d) = (iblk1 V c 0 t : Vec Ideal S512x128 .bf16) (ix2 (e r) d)) (h3 : ∀ r, v3 (ix2 r 0) = (iblk1 V c 3 t : Vec Ideal S512x128 .f32) (ix2 (e r) 0))
    (h5 : ∀ r d, v5 (ix2 r d) = (iblk1 V c 5 t : Vec Ideal S512x128 .bf16) (ix2 (e r) d)) (h4 : ∀ r d, v4 (ix2 r d) = (iblk1 V c 4 t : Vec Ideal S512x128 .f32) (ix2 (e r) d))
    (r : Fin 256) (k : Fin 2048) :
    k1_pay17 (F := Ideal) v0 (iblk1 V c 1 t) v3 v5 v4 (iblk1 V c 2 t) (ix2 r k) = (slopeR q g K W (rowOf t (e r)) (headOf t) k : EReal) := by
  rw [← pay17_eq]
  exact pay11_real (v31 := k1_pay7 v0) (v33 := k1_pay8 (iblk1 V c 1 t)) (fun d => ((pay7_at _ r d).trans ((h0 r d).trans (blk1_0 V c hq t (e r) d)))) (fun k d => ((pay8_at _ k d).trans (blk1_1 V c hK t k d)))
    ((h3 r).trans (blk1_3 V c hL t (e r) 0)) (fun d => (h5 r d).trans (blk1_5 V c hg t (e r) d)) (fun d => (h4 r d).trans (blk1_4 V c hO t (e r) d)) (blk1_2 V c hW t) k

theorem high_slope (t : Fin cfg1.N) (r : Fin 256) (k : Fin 2048) : dsH V c t (ix2 r k) = (slopeR q g K W (rowOf t (high r)) (headOf t) k : EReal) :=
  half_slope V c hq hK hW hL hO hg t high (ld_high _) (ld_high1 _) (ld_high _) (ld_high _) r k

theorem low_slope (t : Fin cfg1.N) (r : Fin 256) (k : Fin 2048) : dsL V c t (ix2 r k) = (slopeR q g K W (rowOf t (low r)) (headOf t) k : EReal) :=
  half_slope V c hq hK hW hL hO hg t low (ld_low _) (ld_low1 _) (ld_low _) (ld_low _) r k

theorem out6_real (t : Fin cfg1.N) :
    (dat1 V c).after 6 t = ((fun i => (dqR q g K W (rowOf t (i 0)) (headOf t) (i 1) : EReal)) : Vec Ideal S512x128 .f32) := by
  rw [after1_6, outs_6]
  exact canon_halves _ (fun r d => pay3_real (high_slope V c hq hK hW hL hO hg t r) (blk1_1 V c hK t) d)
    (fun r d => pay3_real (low_slope V c hq hK hW hL hO hg t r) (blk1_1 V c hK t) d)

/-- What a point adds to a key's gradient. -/
theorem dkStep_real (t : Fin cfg1.N) {x : Vec Ideal S2048x128 .f32} {k : Fin 2048} {d : Fin 128} {a : ℝ} (ha : x (ix2 k d) = a) :
    dkStep V c t x (ix2 k d) = ((a + ∑ r, slopeR q g K W (rowOf t r) (headOf t) k * q (rowOf t r) (headOf t) d : ℝ) : EReal) := by
  rw [← sum_halves, ← add_assoc]
  exact pay4_bwd (high_slope V c hq hK hW hL hO hg t) (fun r d => (ld_high _ r d).trans (blk1_0 V c hq t _ d))
    (pay4_bwd (low_slope V c hq hK hW hL hO hg t) (fun r d => (ld_low _ r d).trans (blk1_0 V c hq t _ d)) ha)

omit hW hO in
/-- What a point adds to a value's gradient. -/
theorem dvStep_real (t : Fin cfg1.N) {x : Vec Ideal S2048x128 .f32} {k : Fin 2048} {d : Fin 128} {a : ℝ} (ha : x (ix2 k d) = a) :
    dvStep V c t x (ix2 k d) = ((a + ∑ r, soft (sc q K (rowOf t r) (headOf t)) k * g (rowOf t r) (headOf t) d : ℝ) : EReal) := by
  rw [← sum_halves, ← add_assoc]
  have hk : ∀ k d, k1_pay8 (F := Ideal) (iblk1 V c 1 t) (ix2 k d) = (K k (grp (headOf t)) d : EReal) := fun k d => (pay8_at _ k d).trans (blk1_1 V c hK t k d)
  exact pay12_bwd (fun r d => ((pay7_at _ r d).trans ((ld_high _ r d).trans (blk1_0 V c hq t _ d)))) hk
    (fun r => (ld_high1 _ r).trans (blk1_3 V c hL t _ 0)) (fun r d => (ld_high _ r d).trans (blk1_5 V c hg t _ d))
    (pay12_bwd (fun r d => ((pay7_at _ r d).trans ((ld_low _ r d).trans (blk1_0 V c hq t _ d)))) hk
    (fun r => (ld_low1 _ r).trans (blk1_3 V c hL t _ 0)) (fun r d => (ld_low _ r d).trans (blk1_5 V c hg t _ d)) ha)

/-- A key's gradient after point `n`: the blocks of its group's heads so far. -/
theorem acc_7 (k : Fin 2048) (d : Fin 128) (n : ℕ) (h : n < cfg1.N) :
    (outsAt1 V c n h).2.1 (ix2 k d)
      = ((∑ s ∈ Finset.range (n % 12 + 1), ∑ r, slopeR q g K W (rowOf (12 * (n / 12) + s) r) (headOf (12 * (n / 12) + s)) k * q (rowOf (12 * (n / 12) + s) r) (headOf (12 * (n / 12) + s)) d : ℝ) : EReal) := by
  refine acc_sum (by decide) (fun n => ∑ r, slopeR q g K W (rowOf n r) (headOf n) k * q (rowOf n r) (headOf n) d)
    (fun n h => (outsAt1 V c n h).2.1 (ix2 k d)) (fun n h hn => ?_) (fun n h a hn ha => ?_) n h
  · refine (congrFun (outs_7_first V c ⟨n, h⟩ hn) _).trans ((dkStep_real V c hq hK hW hL hO hg ⟨n, h⟩ (a := 0) (by pointwise [k1_pay6]; rfl)).trans ?_)
    rw [zero_add]
  · exact (congrFun (outs_7_next V c ⟨n + 1, h⟩ hn) _).trans (dkStep_real V c hq hK hW hL hO hg ⟨n + 1, h⟩ ha)

omit hW hO in
/-- A value's gradient after point `n`. -/
theorem acc_8 (k : Fin 2048) (d : Fin 128) (n : ℕ) (h : n < cfg1.N) :
    (outsAt1 V c n h).2.2 (ix2 k d)
      = ((∑ s ∈ Finset.range (n % 12 + 1), ∑ r, soft (sc q K (rowOf (12 * (n / 12) + s) r) (headOf (12 * (n / 12) + s))) k * g (rowOf (12 * (n / 12) + s) r) (headOf (12 * (n / 12) + s)) d : ℝ) : EReal) := by
  refine acc_sum (by decide) (fun n => ∑ r, soft (sc q K (rowOf n r) (headOf n)) k * g (rowOf n r) (headOf n) d)
    (fun n h => (outsAt1 V c n h).2.2 (ix2 k d)) (fun n h hn => ?_) (fun n h a hn ha => ?_) n h
  · refine (congrFun (outs_8_first V c ⟨n, h⟩ hn) _).trans ((dvStep_real V c hq hK hL hg ⟨n, h⟩ (a := 0) (by pointwise [k1_pay5]; rfl)).trans ?_)
    rw [zero_add]
  · exact (congrFun (outs_8_next V c ⟨n + 1, h⟩ hn) _).trans (dvStep_real V c hq hK hL hg ⟨n + 1, h⟩ ha)

omit hq hK hW hL hO hg in
/-- The twelve points of a group are its three heads' four blocks. -/
theorem group_sum (f : Fin 2048 → Fin 6 → ℝ) {n : ℕ} (hn : n < 24) (h : n % 12 = 11) :
    ∑ s ∈ Finset.range (n % 12 + 1), ∑ r, f (rowOf (12 * (n / 12) + s) r) (headOf (12 * (n / 12) + s))
      = ∑ j : Fin 3, ∑ r, f r (head3 ⟨n / 12, by omega⟩ j) := by
  rw [h, Finset.sum_range, Fin.sum_univ_tiles 3 4 rfl]
  refine Finset.sum_congr rfl fun j _ => ?_
  rw [Fin.sum_univ_tiles 4 512 rfl]
  refine Finset.sum_congr rfl fun b _ => Finset.sum_congr rfl fun r _ => congrArg₂ f (Fin.ext ?_) (Fin.ext ?_)
  · show 512 * ((12 * (n / 12) + (j.val * 4 + b.val)) % 4) + r.val = b.val * 512 + r.val; omega
  · show (12 * (n / 12) + (j.val * 4 + b.val)) / 4 % 6 = 3 * (n / 12) + j.val; omega

omit hq hK hW hL hO hg in
theorem group_fun {F : Fin 2048 → Fin 2 → Fin 128 → EReal} (p : Fin 2) {i : S2048x256.Idx} {y : S2048x128.Idx} (hi : i = ix2 (y 0) (col2 p (y 1))) :
    F (i 0) (head2 (i 1)) (lane (i 1)) = F (y 0) p (y 1) := by
  subst hi
  exact congrArg₂ (F (y 0)) (head_col rfl _ _) (lane_col rfl _ _)

omit hq hK hW hL hO hg in
theorem cover_group (i : S2048x256.Idx) {w : Fin 2 → ℕ} (e0 : w 0 = 0) (e1 : w 1 = (12 * ((i 1).val / 128) + 11) / 12) (a : Fin 2) :
    w a * S2048x128.size a ≤ (i a : Nat) ∧ (i a : Nat) < w a * S2048x128.size a + S2048x128.size a := by
  have b0 : (i 0 : Nat) < 2048 := (i 0).isLt
  match a with
  | ⟨0, _⟩ => show w 0 * 2048 ≤ (i 0 : Nat) ∧ (i 0 : Nat) < w 0 * 2048 + 2048; omega
  | ⟨1, _⟩ => show w 1 * 128 ≤ (i 1 : Nat) ∧ (i 1 : Nat) < w 1 * 128 + 128; omega

/-- The queries' gradient. -/
theorem final1_6 : (dat1 V c).arrAt 6 cfg1.N = ((fun i => (dqR q g K W (i 0) (head6 (i 1)) (lane (i 1)) : EReal)) : Vec Ideal S2048x768 .f32) := by
  refine (dat1 V c).arrAt_eq_of_cover 6 _ (fun t _ => ?_) fun (i : S2048x768.Idx) => ⟨⟨pt i, pt_lt i⟩, flush1_6 _, ?_⟩
  · show (cfg1.win 6).cut (grid1.coords t) ((dat1 V c).after 6 t) = _
    rw [out6_real V c hq hK hW hL hO hg]
    funext y
    rw [View.read_apply]
    have hi := idx1 t
    have hN : t.val < 24 := t.isLt
    refine (block_fun (F := fun r h d => (dqR q g K W r h d : EReal)) t.val (Shape.idx_ext₂ ?_ ?_)).symm
    · show win1_6.index t 0 * 512 + 1 * (y 0).val = 512 * (t.val % 4) + (y 0).val; omega
    · show win1_6.index t 1 * 128 + 1 * (y 1).val = 128 * (t.val / 4 % 6) + (y 1).val; omega
  · show i ∈ ((View.whole main_v9_0).slice (win1_6.rect ⟨pt i, pt_lt i⟩)).set
    rw [View.set_slice_whole, Rect.mem_set_unit]
    have hi := idx1 ⟨pt i, pt_lt i⟩
    exact cover_block i hi.2.2.2.2.2.2.2.2.2.2.2.2.1 hi.2.2.2.2.2.2.2.2.2.2.2.2.2.1

/-- The keys' gradient. -/
theorem final1_7 : (dat1 V c).arrAt 7 cfg1.N = ((fun i => (dkR q g K W (i 0) (head2 (i 1)) (lane (i 1)) : EReal)) : Vec Ideal S2048x256 .f32) := by
  have hl : ∀ i : S2048x256.Idx, 12 * ((i 1).val / 128) + 11 < cfg1.N := fun i => by
    have b1 : (i 1 : Nat) < 256 := (i 1).isLt
    show _ < 24
    omega
  refine (dat1 V c).arrAt_eq_of_cover 7 _ (fun t hf => ?_) fun (i : S2048x256.Idx) => ⟨⟨_, hl i⟩, (flush1_7 _).mpr ?_, ?_⟩
  · have h11 : t.val % 12 = 11 := (flush1_7 t).mp hf
    show (cfg1.win 7).cut (grid1.coords t) ((dat1 V c).after 7 t) = _
    rw [after1_7]
    funext y
    rw [View.read_apply]
    have hi := idx1 t
    have hN : t.val < 24 := t.isLt
    refine Eq.trans ?_ (group_fun (F := fun k p d => (dkR q g K W k p d : EReal)) ⟨t.val / 12, by omega⟩ (y := y) (Shape.idx_ext₂ ?_ ?_)).symm
    · refine (congrArg _ (eq_ix2 y)).trans ((acc_7 V c hq hK hW hL hO hg (y 0) (y 1) t.val t.isLt).trans (congrArg _ ?_))
      exact group_sum (fun r h => slopeR q g K W r h (y 0) * q r h (y 1)) hN h11
    · show win1_7.index t 0 * 2048 + 1 * (y 0).val = (y 0).val; omega
    · show win1_7.index t 1 * 128 + 1 * (y 1).val = 128 * (t.val / 12) + (y 1).val; omega
  · show (12 * ((i 1).val / 128) + 11) % 12 = 11
    omega
  · show i ∈ ((View.whole main_v9_1).slice (win1_7.rect ⟨_, hl i⟩)).set
    rw [View.set_slice_whole, Rect.mem_set_unit]
    have hi := idx1 ⟨_, hl i⟩
    exact cover_group i hi.2.2.2.2.2.2.2.2.2.2.2.2.2.2.1 hi.2.2.2.2.2.2.2.2.2.2.2.2.2.2.2.1

omit hW hO in
/-- The values' gradient. -/
theorem final1_8 : (dat1 V c).arrAt 8 cfg1.N = ((fun i => (dvR q g K (i 0) (head2 (i 1)) (lane (i 1)) : EReal)) : Vec Ideal S2048x256 .f32) := by
  have hl : ∀ i : S2048x256.Idx, 12 * ((i 1).val / 128) + 11 < cfg1.N := fun i => by
    have b1 : (i 1 : Nat) < 256 := (i 1).isLt
    show _ < 24
    omega
  refine (dat1 V c).arrAt_eq_of_cover 8 _ (fun t hf => ?_) fun (i : S2048x256.Idx) => ⟨⟨_, hl i⟩, (flush1_8 _).mpr ?_, ?_⟩
  · have h11 : t.val % 12 = 11 := (flush1_8 t).mp hf
    show (cfg1.win 8).cut (grid1.coords t) ((dat1 V c).after 8 t) = _
    rw [after1_8]
    funext y
    rw [View.read_apply]
    have hi := idx1 t
    have hN : t.val < 24 := t.isLt
    refine Eq.trans ?_ (group_fun (F := fun k p d => (dvR q g K k p d : EReal)) ⟨t.val / 12, by omega⟩ (y := y) (Shape.idx_ext₂ ?_ ?_)).symm
    · refine (congrArg _ (eq_ix2 y)).trans ((acc_8 V c hq hK hL hg (y 0) (y 1) t.val t.isLt).trans (congrArg _ ?_))
      exact group_sum (fun r h => soft (sc q K r h) (y 0) * g r h (y 1)) hN h11
    · show win1_8.index t 0 * 2048 + 1 * (y 0).val = (y 0).val; omega
    · show win1_8.index t 1 * 128 + 1 * (y 1).val = 128 * (t.val / 12) + (y 1).val; omega
  · show (12 * ((i 1).val / 128) + 11) % 12 = 11
    omega
  · show i ∈ ((View.whole main_v9_2).slice (win1_8.rect ⟨_, hl i⟩)).set
    rw [View.set_slice_whole, Rect.mem_set_unit]
    have hi := idx1 ⟨_, hl i⟩
    exact cover_group i hi.2.2.2.2.2.2.2.2.2.2.2.2.2.2.2.2.1 hi.2.2.2.2.2.2.2.2.2.2.2.2.2.2.2.2.2

end Backward

end Cert.GqaIdeal.Hand

end
-- ==== Proof.GqaRef.lean ====
/- Grouped attention differentiated: what each array of the reference holds, its arguments real. -/
module

public import proofs.«01_k».proof.Proof.GqaValue
public import proofs.«01_k».proof.Proof.Gen.GqaRefIdeal.Read

@[expose] public section

set_option maxRecDepth 16384

noncomputable section

namespace Cert.GqaRef

open Idealize.ShloMosaic Cert.Reals Cert.Cols Cert.Softmax Cert.GqaMath Cert.GqaRefIdeal Cert.GqaRefIdeal.Read
open Cert.GqaIdeal.Hand (sc outR slopeR dqR dkR dvR grp head3 col6 col2 head6 head2)
open Idealize.ShloMosaic (ix1 ix2 ix3 ix4 ix5)

theorem grp_head3 (p : Fin 2) (j : Fin 3) : grp (head3 p j) = p := Fin.ext (show (3 * p.val + j.val) / 3 = p.val by omega)

variable {q g : Fin 2048 → Fin 6 → Fin 128 → ℝ} {K W : Fin 2048 → Fin 2 → Fin 128 → ℝ}
variable {x0 : FVec Ideal S1x2048x6x128 .f32} {x1 x2 : FVec Ideal S1x2048x2x128 .f32} {x3 : FVec Ideal S1x2048x768 .f32}
variable (h0 : ∀ z r h d, x0 (ix4 z r h d) = (q r h d : EReal)) (h1 : ∀ z r p d, x1 (ix4 z r p d) = (K r p d : EReal))
  (h2 : ∀ z r p d, x2 (ix4 z r p d) = (W r p d : EReal)) (h3 : ∀ z r h d, x3 (ix3 z r (col6 h d)) = (g r h d : EReal))
variable {M : Fin 2 → Fin 3 → Fin 2048 → ℝ}

include h0 in
theorem v0_real (z : Fin 1) (r : Fin 2048) (p : Fin 2) (j : Fin 3) (d : Fin 128) :
    val_main_v0 (F := Ideal) x0 (ix5 z r p j d) = (q r (head3 p j) d : EReal) := by
  rw [val_main_v0_apply, ← h0 0 r (head3 p j) d]
  congr 1
  have hz := z.isLt
  funext a
  match a with
  | ⟨0, _⟩ => rfl
  | ⟨1, _⟩ => exact Fin.ext (show ((((z.val * 2048 + r.val) * 2 + p.val) * 3 + j.val) * 128 + d.val) / 768 % 2048 = r.val by omega)
  | ⟨2, _⟩ => exact Fin.ext (show ((((z.val * 2048 + r.val) * 2 + p.val) * 3 + j.val) * 128 + d.val) / 128 % 6 = 3 * p.val + j.val by omega)
  | ⟨3, _⟩ => exact Fin.ext (show ((((z.val * 2048 + r.val) * 2 + p.val) * 3 + j.val) * 128 + d.val) % 128 = d.val by omega)

include h3 in
theorem v36_real (z : Fin 1) (r : Fin 2048) (p : Fin 2) (j : Fin 3) (d : Fin 128) :
    val_main_v36 (F := Ideal) x3 (ix5 z r p j d) = (g r (head3 p j) d : EReal) := by
  rw [val_main_v36_apply, ← h3 0 r (head3 p j) d]
  congr 1
  have hz := z.isLt
  funext a
  match a with
  | ⟨0, _⟩ => rfl
  | ⟨1, _⟩ => exact Fin.ext (show ((((z.val * 2048 + r.val) * 2 + p.val) * 3 + j.val) * 128 + d.val) / 768 % 2048 = r.val by omega)
  | ⟨2, _⟩ => exact Fin.ext (show ((((z.val * 2048 + r.val) * 2 + p.val) * 3 + j.val) * 128 + d.val) % 768 = 128 * (3 * p.val + j.val) + d.val by omega)

include h0 h1 in
theorem v4_real (z : Fin 1) (p : Fin 2) (j : Fin 3) (r k : Fin 2048) :
    val_main_v4 (F := Ideal) x0 x1 (ix5 z p j r k) = (sc q K r (head3 p j) k : EReal) := by
  pointwise [val_main_v4, val_main_v3, val_main_v2, val_main_v1, val_main_cst]
  simp only [v0_real h0, h1, ← EReal.coe_mul, coe_sum, ofBits_scale128, sc, score, grp_head3]
  exact congrArg (fun t : ℝ => ((t * scale128 : ℝ) : EReal)) (Finset.sum_congr rfl fun d _ => mul_comm _ _)

include h0 h1 in
theorem v5_real : ∃ M : Fin 2 → Fin 3 → Fin 2048 → ℝ, ∀ z p j r, val_main_v5 (F := Ideal) x0 x1 (ix4 z p j r) = (M p j r : EReal) := by
  have h : ∀ p j r, ∃ M : ℝ, ∀ z : Fin 1, val_main_v5 (F := Ideal) x0 x1 (ix4 z p j r) = (M : EReal) := fun p j r => by
    obtain ⟨M, hM⟩ := fold_real Finset.univ Finset.univ_nonempty (sc q K r (head3 p j))
    refine ⟨M, fun z => ?_⟩
    pointwise [val_main_v5, val_main_cst_0]
    simp only [v4_real h0 h1, ofBits_neg_inf]
    exact hM
  choose M hM using h
  exact ⟨M, fun z p j r => hM p j r z⟩

include h0 h1 in
theorem v12_real : ∃ M : Fin 2 → Fin 3 → Fin 2048 → ℝ, ∀ z p j r, val_main_v12 (F := Ideal) x0 x1 (ix4 z p j r) = (M p j r : EReal) := by
  obtain ⟨M, hM⟩ := v5_real h0 h1
  refine ⟨M, fun z p j r => ?_⟩
  rw [val_main_v12_apply, hM]
  generalize (M p j r : EReal) = y
  pointwise [val_main_v11, val_main_cst_2]
  simp only [ofBits_neg_inf]
  exact max_eq_right bot_le

section Max
variable (hM : ∀ z p j r, val_main_v12 (F := Ideal) x0 x1 (ix4 z p j r) = (M p j r : EReal))
include h0 h1 hM

theorem v25_real (z : Fin 1) (p : Fin 2) (j : Fin 3) (r k : Fin 2048) :
    val_main_v25 (F := Ideal) x0 x1 (ix5 z p j r k) = (Real.exp (sc q K r (head3 p j) k - M p j r) : EReal) := by
  pointwise [val_main_v25, val_main_v24, val_main_v23, val_main_v22]
  simp only [v4_real h0 h1, hM, ← EReal.coe_sub, exp_real]

theorem v26_real (z : Fin 1) (p : Fin 2) (j : Fin 3) (r : Fin 2048) :
    val_main_v26 (F := Ideal) x0 x1 (ix4 z p j r) = ((∑ k, Real.exp (sc q K r (head3 p j) k - M p j r) : ℝ) : EReal) := by
  pointwise [val_main_v26, val_main_cst_8]
  simp only [v25_real h0 h1 hM, coe_sum]

theorem v29_real (z : Fin 1) (p : Fin 2) (j : Fin 3) (r k : Fin 2048) :
    val_main_v29 (F := Ideal) x0 x1 (ix5 z p j r k) = (soft (sc q K r (head3 p j)) k : EReal) := by
  pointwise [val_main_v29, val_main_v28, val_main_v27]
  simp only [v25_real h0 h1 hM, v26_real h0 h1 hM]
  rw [div_real (shift_pos _ _).ne', soft_shift]

include h2 in
theorem v34_real (z : Fin 1) (r : Fin 2048) (p : Fin 2) (j : Fin 3) (d : Fin 128) :
    val_main_v34 (F := Ideal) x0 x1 x2 (ix5 z r p j d) = (outR q K W r (head3 p j) d : EReal) := by
  pointwise [val_main_v34, val_main_v33]
  simp only [v29_real h0 h1 hM, h2, ← EReal.coe_mul, coe_sum, outR, mix, grp_head3]
  exact congrArg _ (Finset.sum_congr rfl fun k _ => mul_comm _ _)

include h3 in
theorem v40_real (z : Fin 1) (k : Fin 2048) (p : Fin 2) (d : Fin 128) :
    val_main_v40 (F := Ideal) x0 x1 x3 (ix4 z k p d) = (dvR q g K k p d : EReal) := by
  pointwise [val_main_v40, val_main_v39, val_main_v37]
  simp only [v29_real h0 h1 hM, v36_real h3, ← EReal.coe_mul, coe_sum, dvR]
  exact congrArg _ (Finset.sum_congr rfl fun j _ => Finset.sum_congr rfl fun r _ => mul_comm _ _)

omit h0 h1 hM in
include h2 h3 in
theorem v38_real (z : Fin 1) (p : Fin 2) (j : Fin 3) (r k : Fin 2048) :
    val_main_v38 (F := Ideal) x2 x3 (ix5 z p j r k) = ((∑ d, g r (head3 p j) d * W k p d : ℝ) : EReal) := by
  pointwise [val_main_v38, val_main_v37]
  simp only [v36_real h3, h2, ← EReal.coe_mul, coe_sum]

include h2 h3 in
theorem v46_real (z : Fin 1) (p : Fin 2) (j : Fin 3) (r : Fin 2048) (y : Fin 1) :
    val_main_v46 (F := Ideal) x0 x1 x2 x3 (ix5 z p j r y)
      = ((-∑ i, (∑ d, g r (head3 p j) d * W i p d) * (1 / ((∑ k, Real.exp (sc q K r (head3 p j) k - M p j r)) * ∑ k, Real.exp (sc q K r (head3 p j) k - M p j r)))
          * Real.exp (sc q K r (head3 p j) i - M p j r) : ℝ) : EReal) := by
  have hL := (shift_pos (sc q K r (head3 p j)) (M p j r)).ne'
  pointwise [val_main_v46, val_main_v45, val_main_v44, val_main_v43, val_main_v42, val_main_v41, val_main_v32, val_main_v31, val_main_v30, val_main_v27,
    val_main_cst_9, val_main_cst_10]
  simp only [v38_real h2 h3, v25_real h0 h1 hM, v26_real h0 h1 hM, ← EReal.coe_mul, ← EReal.coe_one, div_real (mul_ne_zero hL hL), coe_sum, ← EReal.coe_neg]

include h2 h3 in
theorem v49_real (p : Fin 2) (j : Fin 3) (r : Fin 2048) :
    val_main_v49 (F := Ideal) x0 x1 x2 x3 (ix3 p j r)
      = ((-∑ i, (∑ d, g r (head3 p j) d * W i p d) * (1 / ((∑ k, Real.exp (sc q K r (head3 p j) k - M p j r)) * ∑ k, Real.exp (sc q K r (head3 p j) k - M p j r)))
          * Real.exp (sc q K r (head3 p j) i - M p j r) : ℝ) : EReal) := by
  pointwise [val_main_v49, val_main_cst_11]
  rw [sum_ends, v46_real h0 h1 h2 h3 hM, zero_add]

include h2 h3 in
theorem v55_real (z : Fin 1) (p : Fin 2) (j : Fin 3) (r k : Fin 2048) :
    val_main_v55 (F := Ideal) x0 x1 x2 x3 (ix5 z p j r k) = (slopeR q g K W r (head3 p j) k : EReal) := by
  have hL := (shift_pos (sc q K r (head3 p j)) (M p j r)).ne'
  pointwise [val_main_v55, val_main_v54, val_main_v53, val_main_v52, val_main_v51, val_main_v50, val_main_v48, val_main_v47, val_main_v27, val_main_cst_12]
  simp only [v38_real h2 h3, v49_real h0 h1 h2 h3 hM, v25_real h0 h1 hM, v26_real h0 h1 hM, ofBits_scale128, div_real hL, ← EReal.coe_mul, ← EReal.coe_add]
  refine (congrArg Real.toEReal (slope_quotient scale128 (sc q K r (head3 p j)) (fun k => W k p) (g r (head3 p j)) (M p j r) k)).trans ?_
  rw [slopeR, grp_head3]

include h2 h3 in
theorem v58_real (z : Fin 1) (r : Fin 2048) (p : Fin 2) (j : Fin 3) (d : Fin 128) :
    val_main_v58 (F := Ideal) x0 x1 x2 x3 (ix5 z r p j d) = (dqR q g K W r (head3 p j) d : EReal) := by
  pointwise [val_main_v58, val_main_v57, val_main_v56]
  simp only [v55_real h0 h1 h2 h3 hM, h1, ← EReal.coe_mul, coe_sum, dqR, grp_head3]

include h2 h3 in
theorem v60_real (z : Fin 1) (k : Fin 2048) (p : Fin 2) (d : Fin 128) :
    val_main_v60 (F := Ideal) x0 x1 x2 x3 (ix4 z k p d) = (dkR q g K W k p d : EReal) := by
  pointwise [val_main_v60, val_main_v59, val_main_v56]
  simp only [v55_real h0 h1 h2 h3 hM, v0_real h0, ← EReal.coe_mul, coe_sum, dkR]
  exact congrArg _ Finset.sum_comm

/-! The results, laid out by columns. -/

/-- A column's group of keys, -/
def grpOf (c : Fin 768) : Fin 2 := ⟨c.val / 384, by omega⟩

/-- and its head's place in the group. -/
def memOf (c : Fin 768) : Fin 3 := ⟨c.val / 128 % 3, by omega⟩

omit h0 h1 hM in
theorem head3_of (c : Fin 768) : head3 (grpOf c) (memOf c) = head6 c :=
  Fin.ext (show 3 * (c.val / 384) + c.val / 128 % 3 = c.val / 128 by omega)

include h2 in
theorem y_real (r : Fin 2048) (c : Fin 768) :
    val_main_v62 (F := Ideal) x0 x1 x2 (ix2 r c) = (outR q K W r (head6 c) (lane c) : EReal) := by
  have e : idx_main_v35 (idx_main_v62 (ix2 r c)) = ix5 0 r (grpOf c) (memOf c) (lane c) := by
    funext a
    match a with
    | ⟨0, _⟩ => rfl
    | ⟨1, _⟩ => exact Fin.ext (show ((0 * 2048 + (r.val * 768 + c.val) / 768 % 2048) * 768 + (r.val * 768 + c.val) % 768) / 768 % 2048 = r.val by omega)
    | ⟨2, _⟩ => exact Fin.ext (show ((0 * 2048 + (r.val * 768 + c.val) / 768 % 2048) * 768 + (r.val * 768 + c.val) % 768) / 384 % 2 = c.val / 384 by omega)
    | ⟨3, _⟩ => exact Fin.ext (show ((0 * 2048 + (r.val * 768 + c.val) / 768 % 2048) * 768 + (r.val * 768 + c.val) % 768) / 128 % 3 = c.val / 128 % 3 by omega)
    | ⟨4, _⟩ => exact Fin.ext (show ((0 * 2048 + (r.val * 768 + c.val) / 768 % 2048) * 768 + (r.val * 768 + c.val) % 768) % 128 = c.val % 128 by omega)
  rw [val_main_v62_apply, val_main_v35_apply, e, v34_real h0 h1 h2 hM, head3_of]

include h2 h3 in
theorem dq_real (r : Fin 2048) (c : Fin 768) :
    val_main_v63 (F := Ideal) x0 x1 x2 x3 (ix2 r c) = (dqR q g K W r (head6 c) (lane c) : EReal) := by
  have e : idx_main_v63 (ix2 r c) = ix4 0 r (head6 c) (lane c) := by
    funext a
    match a with
    | ⟨0, _⟩ => rfl
    | ⟨1, _⟩ => exact Fin.ext (show (r.val * 768 + c.val) / 768 % 2048 = r.val by omega)
    | ⟨2, _⟩ => exact Fin.ext (show (r.val * 768 + c.val) / 128 % 6 = c.val / 128 by omega)
    | ⟨3, _⟩ => exact Fin.ext (show (r.val * 768 + c.val) % 128 = c.val % 128 by omega)
  have e' : idx_main_v61 (ix4 0 r (head6 c) (lane c)) = ix5 0 r (grpOf c) (memOf c) (lane c) := by
    funext a
    match a with
    | ⟨0, _⟩ => rfl
    | ⟨1, _⟩ => exact Fin.ext (show (((0 * 2048 + r.val) * 6 + c.val / 128) * 128 + c.val % 128) / 768 % 2048 = r.val by omega)
    | ⟨2, _⟩ => exact Fin.ext (show (((0 * 2048 + r.val) * 6 + c.val / 128) * 128 + c.val % 128) / 384 % 2 = c.val / 384 by omega)
    | ⟨3, _⟩ => exact Fin.ext (show (((0 * 2048 + r.val) * 6 + c.val / 128) * 128 + c.val % 128) / 128 % 3 = c.val / 128 % 3 by omega)
    | ⟨4, _⟩ => exact Fin.ext (show (((0 * 2048 + r.val) * 6 + c.val / 128) * 128 + c.val % 128) % 128 = c.val % 128 by omega)
  rw [val_main_v63_apply, e, val_main_v61_apply, e', v58_real h0 h1 h2 h3 hM, head3_of]

omit h0 h1 hM in
theorem cols2 (r : Fin 2048) (c : Fin 256) : idx_main_v65 (ix2 r c) = ix4 0 r (head2 c) (lane c) := by
  funext a
  match a with
  | ⟨0, _⟩ => rfl
  | ⟨1, _⟩ => exact Fin.ext (show (r.val * 256 + c.val) / 256 % 2048 = r.val by omega)
  | ⟨2, _⟩ => exact Fin.ext (show (r.val * 256 + c.val) / 128 % 2 = c.val / 128 by omega)
  | ⟨3, _⟩ => exact Fin.ext (show (r.val * 256 + c.val) % 128 = c.val % 128 by omega)

include h2 h3 in
theorem dk_real (k : Fin 2048) (c : Fin 256) :
    val_main_v64 (F := Ideal) x0 x1 x2 x3 (ix2 k c) = (dkR q g K W k (head2 c) (lane c) : EReal) := by
  rw [val_main_v64_apply, ← v60_real h0 h1 h2 h3 hM 0 k (head2 c) (lane c)]
  exact congrArg _ (cols2 k c)

include h3 in
theorem dv_real (k : Fin 2048) (c : Fin 256) :
    val_main_v65 (F := Ideal) x0 x1 x3 (ix2 k c) = (dvR q g K k (head2 c) (lane c) : EReal) := by
  rw [val_main_v65_apply, cols2, v40_real h0 h1 h3 hM]

end Max

end Cert.GqaRef

end
-- ==== Proof.GqaPair.lean ====
/- Grouped attention and its gradients: what the two kernels leave, one after the other, is what differentiating the attention leaves. -/
module

public import proofs.«01_k».proof.Defs
public import proofs.«01_k».proof.Proof.GqaRef
public import proofs.«01_k».proof.Proof.Gen.GqaRefIdeal.Run
public import proofs.«01_k».proof.Proof.Gen.Pre_gqa_finite

@[expose] public section

set_option maxRecDepth 16384

noncomputable section

namespace Cert.GqaIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Reals Cert.Cols Cert.Softmax Cert.GqaIdeal Cert.GqaIdeal.Gen
open Idealize.ShloMosaic (ix1 ix2 ix3 ix4 ix5)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in a type
set_option backward.isDefEq.respectTransparency.types false in
/-- Every buffer of the program ends with what the two regions leave: the launch over the host stretch and the regions. -/
theorem run : θ_run defs (onTc (τ := τ) (main (F := Ideal))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-! What the regions are entered with: the arguments, laid out by columns. -/

variable {m} (c : Dev nD) {q g : Fin 2048 → Fin 6 → Fin 128 → ℝ} {K W : Fin 2048 → Fin 2 → Fin 128 → ℝ}
variable (h0 : ∀ r h d, m ((c : Thread nD τ).loc main_arg0) (ix4 0 r h d) = (q r h d : EReal))
  (h1 : ∀ r p d, m ((c : Thread nD τ).loc main_arg1) (ix4 0 r p d) = (K r p d : EReal))
  (h2 : ∀ r p d, m ((c : Thread nD τ).loc main_arg2) (ix4 0 r p d) = (W r p d : EReal))
  (h3 : ∀ r h d, m ((c : Thread nD τ).loc main_arg3) (ix3 0 r (col6 h d)) = (g r h d : EReal))

include h0 in
theorem entry_q (r : Fin 2048) (h : Fin 6) (d : Fin 128) : (V1 m ρ c main_v1 : Vec Ideal S2048x768 .bf16) (ix2 r (col6 h d)) = (q r h d : EReal) := by
  have e : (V1 m ρ c main_v1 : Vec Ideal S2048x768 .bf16) = truncf (F := Ideal) .bf16 (shapeCast S2048x768 (m ((c : Thread nD τ).loc main_arg0)) shapeCasts_S1x2048x6x128_S2048x768) bitsLt_bf16_f32 := by
    show StableHlo.after hostOps0 (W0 m ρ c) (Proc.devRef .tc main_v1) = _
    after_results_simp <;> rfl
  rw [e, ← h0 r h d]
  refine shapeCast_apply (m ((c : Thread nD τ).loc main_arg0)) shapeCasts_S1x2048x6x128_S2048x768 (ix2 r (col6 h d)) (ix4 0 r h d) ?_
  show (S1x2048x6x128.rowMajor (ix4 0 r h d)).val = (S2048x768.rowMajor (ix2 r (col6 h d))).val
  rw [Shape.rowMajor_val_four, Shape.rowMajor_val_two]
  show ((0 * 2048 + r.val) * 6 + h.val) * 128 + d.val = r.val * 768 + (128 * h.val + d.val)
  omega

include h1 in
theorem entry_k (r : Fin 2048) (p : Fin 2) (d : Fin 128) : (V1 m ρ c main_v3 : Vec Ideal S2048x256 .bf16) (ix2 r (col2 p d)) = (K r p d : EReal) := by
  have e : (V1 m ρ c main_v3 : Vec Ideal S2048x256 .bf16) = truncf (F := Ideal) .bf16 (shapeCast S2048x256 (m ((c : Thread nD τ).loc main_arg1)) shapeCasts_S1x2048x2x128_S2048x256) bitsLt_bf16_f32 := by
    show StableHlo.after hostOps0 (W0 m ρ c) (Proc.devRef .tc main_v3) = _
    after_results_simp <;> rfl
  rw [e, ← h1 r p d]
  refine shapeCast_apply (m ((c : Thread nD τ).loc main_arg1)) shapeCasts_S1x2048x2x128_S2048x256 (ix2 r (col2 p d)) (ix4 0 r p d) ?_
  show (S1x2048x2x128.rowMajor (ix4 0 r p d)).val = (S2048x256.rowMajor (ix2 r (col2 p d))).val
  rw [Shape.rowMajor_val_four, Shape.rowMajor_val_two]
  show ((0 * 2048 + r.val) * 2 + p.val) * 128 + d.val = r.val * 256 + (128 * p.val + d.val)
  omega

include h2 in
theorem entry_v (r : Fin 2048) (p : Fin 2) (d : Fin 128) : (V1 m ρ c main_v5 : Vec Ideal S2048x256 .bf16) (ix2 r (col2 p d)) = (W r p d : EReal) := by
  have e : (V1 m ρ c main_v5 : Vec Ideal S2048x256 .bf16) = truncf (F := Ideal) .bf16 (shapeCast S2048x256 (m ((c : Thread nD τ).loc main_arg2)) shapeCasts_S1x2048x2x128_S2048x256) bitsLt_bf16_f32 := by
    show StableHlo.after hostOps0 (W0 m ρ c) (Proc.devRef .tc main_v5) = _
    after_results_simp <;> rfl
  rw [e, ← h2 r p d]
  refine shapeCast_apply (m ((c : Thread nD τ).loc main_arg2)) shapeCasts_S1x2048x2x128_S2048x256 (ix2 r (col2 p d)) (ix4 0 r p d) ?_
  show (S1x2048x2x128.rowMajor (ix4 0 r p d)).val = (S2048x256.rowMajor (ix2 r (col2 p d))).val
  rw [Shape.rowMajor_val_four, Shape.rowMajor_val_two]
  show ((0 * 2048 + r.val) * 2 + p.val) * 128 + d.val = r.val * 256 + (128 * p.val + d.val)
  omega

include h3 in
theorem entry_g (r : Fin 2048) (h : Fin 6) (d : Fin 128) : (V1 m ρ c main_v7 : Vec Ideal S2048x768 .bf16) (ix2 r (col6 h d)) = (g r h d : EReal) := by
  have e : (V1 m ρ c main_v7 : Vec Ideal S2048x768 .bf16) = truncf (F := Ideal) .bf16 (shapeCast S2048x768 (m ((c : Thread nD τ).loc main_arg3)) shapeCasts_S1x2048x768_S2048x768) bitsLt_bf16_f32 := by
    show StableHlo.after hostOps0 (W0 m ρ c) (Proc.devRef .tc main_v7) = _
    after_results_simp <;> rfl
  rw [e, ← h3 r h d]
  refine shapeCast_apply (m ((c : Thread nD τ).loc main_arg3)) shapeCasts_S1x2048x768_S2048x768 (ix2 r (col6 h d)) (ix3 0 r (col6 h d)) ?_
  show (S1x2048x768.rowMajor (ix3 0 r (col6 h d))).val = (S2048x768.rowMajor (ix2 r (col6 h d))).val
  rw [Shape.rowMajor_val_three, Shape.rowMajor_val_two]
  show (0 * 2048 + r.val) * 768 + (128 * h.val + d.val) = r.val * 768 + (128 * h.val + d.val)
  omega

/-! The second region reads the arguments as the first did, and the first region's results. -/

include h0 in
theorem again_q (r : Fin 2048) (h : Fin 6) (d : Fin 128) : (V2 m ρ c main_v1 : Vec Ideal S2048x768 .bf16) (ix2 r (col6 h d)) = (q r h d : EReal) :=
  (congrFun (W2_of m ρ c main_v1 (by decide)) _).trans (entry_q ρ c h0 r h d)

include h1 in
theorem again_k (r : Fin 2048) (p : Fin 2) (d : Fin 128) : (V2 m ρ c main_v3 : Vec Ideal S2048x256 .bf16) (ix2 r (col2 p d)) = (K r p d : EReal) :=
  (congrFun (W2_of m ρ c main_v3 (by decide)) _).trans (entry_k ρ c h1 r p d)

include h2 in
theorem again_v (r : Fin 2048) (p : Fin 2) (d : Fin 128) : (V2 m ρ c main_v5 : Vec Ideal S2048x256 .bf16) (ix2 r (col2 p d)) = (W r p d : EReal) :=
  (congrFun (W2_of m ρ c main_v5 (by decide)) _).trans (entry_v ρ c h2 r p d)

include h3 in
theorem again_g (r : Fin 2048) (h : Fin 6) (d : Fin 128) : (V2 m ρ c main_v7 : Vec Ideal S2048x768 .bf16) (ix2 r (col6 h d)) = (g r h d : EReal) :=
  (congrFun (W2_of m ρ c main_v7 (by decide)) _).trans (entry_g ρ c h3 r h d)

include h0 h1 in
theorem saved_lse : V2 m ρ c main_v8_1 = ((fun i => (lse (sc q K (i 0) (head6 (i 1))) : EReal)) : Vec Ideal S2048x768 .f32) :=
  (W2_arr m ρ c 4).trans (final0_4 (V1 m ρ) c (entry_q ρ c h0) (entry_k ρ c h1))

include h0 h1 h2 in
theorem saved_out : V2 m ρ c main_v8_0 = ((fun i => (outR q K W (i 0) (head6 (i 1)) (lane (i 1)) : EReal)) : Vec Ideal S2048x768 .f32) :=
  (W2_arr m ρ c 3).trans (final0_3 (V1 m ρ) c (entry_q ρ c h0) (entry_k ρ c h1) (entry_v ρ c h2))

include h0 h1 h2 in
/-- The first region's output is not written again, -/
theorem end_y : W3 m ρ c (Proc.devRef .tc main_v8_0) = ((fun i => (outR q K W (i 0) (head6 (i 1)) (lane (i 1)) : EReal)) : Vec Ideal S2048x768 .f32) :=
  (W3_of m ρ c main_v8_0 (by decide)).trans (saved_out ρ c h0 h1 h2)

include h0 h1 in
theorem saved_lse_at (r : Fin 2048) (a : Fin 6) (d : Fin 128) :
    (V2 m ρ c main_v8_1 : Vec Ideal S2048x768 .f32) (ix2 r (col6 a d)) = (lse (sc q K r a) : EReal) :=
  (congrFun (saved_lse ρ c h0 h1) (ix2 r (col6 a d))).trans (congrArg (fun a => (lse (sc q K r a) : EReal)) (head_col rfl a d))

include h0 h1 h2 in
theorem saved_out_at (r : Fin 2048) (a : Fin 6) (d : Fin 128) :
    (V2 m ρ c main_v8_0 : Vec Ideal S2048x768 .f32) (ix2 r (col6 a d)) = (outR q K W r a d : EReal) :=
  (congrFun (saved_out ρ c h0 h1 h2) (ix2 r (col6 a d))).trans
    (congrArg₂ (fun a d => (outR q K W r a d : EReal)) (head_col rfl a d) (lane_col rfl a d))

include h0 h1 h2 h3 in
/-- and the second region leaves the three gradients. -/
theorem end_dq : W3 m ρ c (Proc.devRef .tc main_v9_0) = ((fun i => (dqR q g K W (i 0) (head6 (i 1)) (lane (i 1)) : EReal)) : Vec Ideal S2048x768 .f32) :=
  (W3_arr m ρ c 6).trans (final1_6 (V2 m ρ) c (again_q ρ c h0) (again_k ρ c h1) (again_v ρ c h2) (saved_lse_at ρ c h0 h1) (saved_out_at ρ c h0 h1 h2) (again_g ρ c h3))

include h0 h1 h2 h3 in
theorem end_dk : W3 m ρ c (Proc.devRef .tc main_v9_1) = ((fun i => (dkR q g K W (i 0) (head2 (i 1)) (lane (i 1)) : EReal)) : Vec Ideal S2048x256 .f32) :=
  (W3_arr m ρ c 7).trans (final1_7 (V2 m ρ) c (again_q ρ c h0) (again_k ρ c h1) (again_v ρ c h2) (saved_lse_at ρ c h0 h1) (saved_out_at ρ c h0 h1 h2) (again_g ρ c h3))

include h0 h1 h3 in
theorem end_dv : W3 m ρ c (Proc.devRef .tc main_v9_2) = ((fun i => (dvR q g K (i 0) (head2 (i 1)) (lane (i 1)) : EReal)) : Vec Ideal S2048x256 .f32) :=
  (W3_arr m ρ c 8).trans (final1_8 (V2 m ρ) c (again_q ρ c h0) (again_k ρ c h1) (saved_lse_at ρ c h0 h1) (again_g ρ c h3))

end Cert.GqaIdeal.Hand

namespace Cert.GqaPair

open Idealize.ShloMosaic Idealize.ShloMosaic.TcCoe Idealize.SL.Sem Cert.Reals Cert.Cols
open Cert.GqaIdeal.Hand (outR dqR dkR dvR col6 col2 head6 head2)
open Idealize.ShloMosaic (ix1 ix2 ix3 ix4 ix5)

/-- On finite arguments the forward kernel and the hand-written gradient leave what the attention and its derivative leave: the
    output and the gradients of the queries, the keys and the values. -/
theorem algebraic : algebraic_GqaIdeal_GqaRefIdeal_pre_gqa_finite := by
  intro m g m' g' hpre hag
  have hfin : ∀ c : Dev GqaIdeal.nD, ∃ (q : Fin 2048 → Fin 6 → Fin 128 → ℝ) (K W : Fin 2048 → Fin 2 → Fin 128 → ℝ) (u : Fin 2048 → Fin 6 → Fin 128 → ℝ),
      (∀ z r h d, m ((c : Thread GqaIdeal.nD GqaIdeal.τ).loc GqaIdeal.main_arg0) (ix4 z r h d) = (q r h d : EReal))
      ∧ (∀ z r p d, m ((c : Thread GqaIdeal.nD GqaIdeal.τ).loc GqaIdeal.main_arg1) (ix4 z r p d) = (K r p d : EReal))
      ∧ (∀ z r p d, m ((c : Thread GqaIdeal.nD GqaIdeal.τ).loc GqaIdeal.main_arg2) (ix4 z r p d) = (W r p d : EReal))
      ∧ (∀ z r h d, m ((c : Thread GqaIdeal.nD GqaIdeal.τ).loc GqaIdeal.main_arg3) (ix3 z r (col6 h d)) = (u r h d : EReal)) := fun c => by
    obtain ⟨p0, p1, p2, p3⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    obtain ⟨a3, e3⟩ := array_real _ _ (fun _ => rfl) p3
    refine ⟨fun r h d => a0 (ix4 0 r h d), fun r p d => a1 (ix4 0 r p d), fun r p d => a2 (ix4 0 r p d), fun r h d => a3 (ix3 0 r (col6 h d)), ?_, ?_, ?_, ?_⟩
    · intro z r h d; obtain rfl := Subsingleton.elim z 0; exact congrFun e0 _
    · intro z r h d; obtain rfl := Subsingleton.elim z 0; exact congrFun e1 _
    · intro z r h d; obtain rfl := Subsingleton.elim z 0; exact congrFun e2 _
    · intro z r h d; obtain rfl := Subsingleton.elim z 0; exact congrFun e3 _
  choose q K W u h0 h1 h2 h3 using hfin
  refine ⟨fun c i => (outR (q c) (K c) (W c) (i 0) (head6 (i 1)) (lane (i 1)) : EReal),
    fun c i => (dqR (q c) (u c) (K c) (W c) (i 0) (head6 (i 1)) (lane (i 1)) : EReal),
    fun c i => (dkR (q c) (u c) (K c) (W c) (i 0) (head2 (i 1)) (lane (i 1)) : EReal),
    fun c i => (dvR (q c) (u c) (K c) (i 0) (head2 (i 1)) (lane (i 1)) : EReal), ?_, ?_⟩
  · refine (θ_run GqaIdeal.defs _ _).mono (fun r h c => ?_) (GqaIdeal.Hand.run m g)
    have z0 := h0 c 0
    have z1 := h1 c 0
    have z2 := h2 c 0
    have z3 := h3 c 0
    exact ⟨(h c _ (GqaIdeal.Gen.mem_uc GqaIdeal.main_v8_0 (by decide))).trans (GqaIdeal.Hand.end_y g c z0 z1 z2),
      (h c _ (GqaIdeal.Gen.mem_uc GqaIdeal.main_v9_0 (by decide))).trans (GqaIdeal.Hand.end_dq g c z0 z1 z2 z3),
      (h c _ (GqaIdeal.Gen.mem_uc GqaIdeal.main_v9_1 (by decide))).trans (GqaIdeal.Hand.end_dk g c z0 z1 z2 z3),
      (h c _ (GqaIdeal.Gen.mem_uc GqaIdeal.main_v9_2 (by decide))).trans (GqaIdeal.Hand.end_dv g c z0 z1 z3),
      (h c _ (GqaIdeal.Gen.mem_uc GqaIdeal.main_arg0 (by decide))).trans (GqaIdeal.Gen.W3_main_arg0 m g c),
      (h c _ (GqaIdeal.Gen.mem_uc GqaIdeal.main_arg1 (by decide))).trans (GqaIdeal.Gen.W3_main_arg1 m g c),
      (h c _ (GqaIdeal.Gen.mem_uc GqaIdeal.main_arg2 (by decide))).trans (GqaIdeal.Gen.W3_main_arg2 m g c),
      (h c _ (GqaIdeal.Gen.mem_uc GqaIdeal.main_arg3 (by decide))).trans (GqaIdeal.Gen.W3_main_arg3 m g c)⟩
  · refine (θ_run GqaRefIdeal.defs _ _).mono (fun r h c => ?_) (GqaRefIdeal.Value.run m' g')
    obtain ⟨e62, e63, e64, e65, k⟩ := h c
    obtain ⟨q0, q1, q2, q3⟩ := hag c
    have w0 : ∀ z r h d, m' ((c : Thread GqaRefIdeal.nD GqaRefIdeal.τ).loc GqaRefIdeal.main_arg0) (ix4 z r h d) = (q c r h d : EReal) := fun z r h d => (congrFun q0 _).trans (h0 c z r h d)
    have w1 : ∀ z r p d, m' ((c : Thread GqaRefIdeal.nD GqaRefIdeal.τ).loc GqaRefIdeal.main_arg1) (ix4 z r p d) = (K c r p d : EReal) := fun z r h d => (congrFun q1 _).trans (h1 c z r h d)
    have w2 : ∀ z r p d, m' ((c : Thread GqaRefIdeal.nD GqaRefIdeal.τ).loc GqaRefIdeal.main_arg2) (ix4 z r p d) = (W c r p d : EReal) := fun z r h d => (congrFun q2 _).trans (h2 c z r h d)
    have w3 : ∀ z r h d, m' ((c : Thread GqaRefIdeal.nD GqaRefIdeal.τ).loc GqaRefIdeal.main_arg3) (ix3 z r (col6 h d)) = (u c r h d : EReal) := fun z r h d => (congrFun q3 _).trans (h3 c z r h d)
    obtain ⟨M, hM⟩ := GqaRef.v12_real w0 w1
    refine ⟨e62.trans ((GqaRefIdeal.Read.val_main_v62_eq _ _ _).trans (funext fun i => ?_)),
      e63.trans ((GqaRefIdeal.Read.val_main_v63_eq _ _).trans (funext fun i => ?_)),
      e64.trans ((GqaRefIdeal.Read.val_main_v64_eq _ _).trans (funext fun i => ?_)),
      e65.trans ((GqaRefIdeal.Read.val_main_v65_eq _ _ _).trans (funext fun i => ?_)), k⟩
    · rw [eq_ix2 i]; exact GqaRef.y_real w0 w1 w2 hM _ _
    · rw [eq_ix2 i]; exact GqaRef.dq_real w0 w1 w2 w3 hM _ _
    · rw [eq_ix2 i]; exact GqaRef.dk_real w0 w1 w2 w3 hM _ _
    · rw [eq_ix2 i]; exact GqaRef.dv_real w0 w1 w3 hM _ _

end Cert.GqaPair

end
-- ==== Proof.MlaMath.lean ====
/- Latent attention: what each vector of the two kernels' bodies holds, its operands real. -/
module

public import proofs.«01_k».proof.Proof.Softmax
public import proofs.«01_k».proof.Proof.Gen.MlaIdeal.Frame

@[expose] public section

set_option maxRecDepth 16384

noncomputable section

namespace Cert.MlaMath

open Idealize.ShloMosaic Cert.Reals Cert.Softmax Cert.MlaIdeal Cert.MlaIdeal.Gen
open Idealize.ShloMosaic (ix1 ix2)

/-- A query row's scores: the part without position, and the part with it. -/
def score (qn qr : Fin 128 → ℝ) (Kn Kr : Fin 2048 → Fin 128 → ℝ) (k : Fin 2048) : ℝ := (∑ d, qn d * Kn k d + ∑ d, qr d * Kr k d) * scale192

section Forward
variable {v0 v5 : Vec Ideal S256x128 .bf16} {v2 v7 v21 : Vec Ideal S2048x128 .bf16}
variable {r : Fin 256} {qn qr : Fin 128 → ℝ} {Kn Kr V : Fin 2048 → Fin 128 → ℝ}

theorem pay1_real (h0 : ∀ d, v0 (ix2 r d) = qn d) (h2 : ∀ k d, v2 (ix2 k d) = Kn k d) (h5 : ∀ d, v5 (ix2 r d) = qr d) (h7 : ∀ k d, v7 (ix2 k d) = Kr k d) (k : Fin 2048) :
    k0_pay1 (F := Ideal) v0 v2 v5 v7 (ix2 r k) = (score qn qr Kn Kr k : EReal) := by
  pointwise [k0_pay1]
  simp only [h0, h2, h5, h7, ← EReal.coe_mul, coe_sum, ← EReal.coe_add, ofBits_scale192]
  rfl

theorem pay2_real (h0 : ∀ d, v0 (ix2 r d) = qn d) (h2 : ∀ k d, v2 (ix2 k d) = Kn k d) (h5 : ∀ d, v5 (ix2 r d) = qr d) (h7 : ∀ k d, v7 (ix2 k d) = Kr k d) :
    ∃ M : ℝ, k0_pay2 (F := Ideal) v0 v2 v5 v7 (ix2 r 0) = M := by
  obtain ⟨M, hM⟩ := fold_real Finset.univ Finset.univ_nonempty (score qn qr Kn Kr)
  refine ⟨M, ?_⟩
  pointwise [k0_pay2]
  simp only [pay1_real h0 h2 h5 h7, ofBits_neg_inf]
  exact hM

theorem pay5_real (h0 : ∀ d, v0 (ix2 r d) = qn d) (h2 : ∀ k d, v2 (ix2 k d) = Kn k d) (h5 : ∀ d, v5 (ix2 r d) = qr d) (h7 : ∀ k d, v7 (ix2 k d) = Kr k d)
    (h21 : ∀ k d, v21 (ix2 k d) = V k d) (d : Fin 128) :
    k0_pay5 (F := Ideal) v0 v2 v5 v7 v21 (ix2 r d) = (mix (score qn qr Kn Kr) (fun k => V k d) : EReal) := by
  obtain ⟨M, hM⟩ := pay2_real h0 h2 h5 h7
  pointwise [k0_pay5, k0_pay4, k0_pay3]
  simp only [pay1_real h0 h2 h5 h7, hM, h21, ← EReal.coe_sub, exp_real, ← EReal.coe_mul, coe_sum]
  rw [div_real (shift_pos _ M).ne', mix_shift]

theorem pay6_real (h0 : ∀ d, v0 (ix2 r d) = qn d) (h2 : ∀ k d, v2 (ix2 k d) = Kn k d) (h5 : ∀ d, v5 (ix2 r d) = qr d) (h7 : ∀ k d, v7 (ix2 k d) = Kr k d) (d : Fin 128) :
    k0_pay6 (F := Ideal) v0 v2 v5 v7 (ix2 r d) = (lse (score qn qr Kn Kr) : EReal) := by
  obtain ⟨M, hM⟩ := pay2_real h0 h2 h5 h7
  pointwise [k0_pay6, k0_pay4, k0_pay3]
  simp only [pay1_real h0 h2 h5 h7, hM, ← EReal.coe_sub, exp_real, coe_sum]
  rw [log_real (shift_pos _ M), ← EReal.coe_add, lse_shift]

end Forward

section Backward
variable {v71 v76 v89 : Vec Ideal S256x128 .bf16} {v73 v78 v97 : Vec Ideal S2048x128 .bf16} {v84 : Vec Ideal S256x1 .f32} {v92 : Vec Ideal S256x128 .f32}
variable {qn qr g : Fin 128 → ℝ} {Kn Kr V : Fin 2048 → Fin 128 → ℝ} {r : Fin 256}

theorem pay13_real (h71 : ∀ d, v71 (ix2 r d) = qn d) (h73 : ∀ k d, v73 (ix2 k d) = Kn k d) (h76 : ∀ d, v76 (ix2 r d) = qr d) (h78 : ∀ k d, v78 (ix2 k d) = Kr k d)
    (h84 : v84 (ix2 r 0) = (lse (score qn qr Kn Kr) : EReal)) (k : Fin 2048) :
    k1_pay13 (F := Ideal) v71 v73 v76 v78 v84 (ix2 r k) = (soft (score qn qr Kn Kr) k : EReal) := by
  pointwise [k1_pay13]
  simp only [h71, h73, h76, h78, h84, ← EReal.coe_mul, coe_sum, ← EReal.coe_add, ofBits_scale192, ← EReal.coe_sub, exp_real]
  rw [← exp_saved]
  rfl

theorem pay14_at (v : Vec Ideal S256x128 .bf16) (r : Fin 256) (d : Fin 128) : k1_pay14 (F := Ideal) v (ix2 r d) = v (ix2 r d) := by
  pointwise [k1_pay14]

theorem pay16_real {P : FVec Ideal S256x2048 .f32} {σ : Fin 2048 → ℝ} (hP : ∀ k, P (ix2 r k) = (soft σ k : EReal))
    (h89 : ∀ d, v89 (ix2 r d) = g d) (h92 : ∀ d, v92 (ix2 r d) = (mix σ (fun k => V k d) : EReal)) (h97 : ∀ k d, v97 (ix2 k d) = V k d) (k : Fin 2048) :
    k1_pay16 (F := Ideal) P (k1_pay14 v89) (k1_pay15 v89 v92) v97 (ix2 r k) = (slope scale192 σ V g k : EReal) := by
  pointwise [k1_pay16, k1_pay15, k1_pay14]
  simp only [hP, h89, h92, h97, ← EReal.coe_mul, coe_sum, ofBits_scale192, ← EReal.coe_sub]
  rfl

theorem pay17_real {P : FVec Ideal S256x2048 .f32} {p : Fin 256 → Fin 2048 → ℝ} {g : Fin 256 → Fin 128 → ℝ} {acc : Vec Ideal S2048x128 .f32} {a : ℝ}
    (hP : ∀ r k, P (ix2 r k) = p r k) (h89 : ∀ r d, v89 (ix2 r d) = g r d) {k : Fin 2048} {d : Fin 128} (ha : acc (ix2 k d) = a) :
    k1_pay17 (F := Ideal) P (k1_pay14 v89) acc (ix2 k d) = ((a + ∑ r, p r k * g r d : ℝ) : EReal) := by
  pointwise [k1_pay17, k1_pay14]
  simp only [hP, h89, ha, ← EReal.coe_mul, coe_sum, ← EReal.coe_add]

variable {P : FVec Ideal S256x2048 .f32} {G : FVec Ideal S256x128 .bf16} {D : FVec Ideal S256x1 .f32}

theorem pay18_real {s : Fin 2048 → ℝ} {x : Vec Ideal S2048x128 .bf16} {K : Fin 2048 → Fin 128 → ℝ} (hs : ∀ k, k1_pay16 (F := Ideal) P G D v97 (ix2 r k) = s k)
    (hx : ∀ k d, x (ix2 k d) = K k d) (d : Fin 128) : k1_pay18 (F := Ideal) P G D v97 x (ix2 r d) = ((∑ k, s k * K k d : ℝ) : EReal) := by
  pointwise [k1_pay18]
  simp only [hs, hx, ← EReal.coe_mul, coe_sum]

theorem pay1_bwd {S : FVec Ideal S256x2048 .bf16} {s : Fin 256 → Fin 2048 → ℝ} {q : Fin 256 → Fin 128 → ℝ} {acc : Vec Ideal S2048x128 .f32} {x : Vec Ideal S256x128 .bf16} {a : ℝ}
    (hs : ∀ r k, S (ix2 r k) = s r k) (hx : ∀ r d, x (ix2 r d) = q r d) {k : Fin 2048} {d : Fin 128} (ha : acc (ix2 k d) = a) :
    k1_pay1 (F := Ideal) S acc x (ix2 k d) = ((a + ∑ r, s r k * q r d : ℝ) : EReal) := by
  pointwise [k1_pay1]
  simp only [hs, hx, ha, ← EReal.coe_mul, coe_sum, ← EReal.coe_add]

end Backward

/-! The first half of a block is treated as the second half is. -/

theorem pay13_at (v : Vec Ideal S256x128 .bf16) (r : Fin 256) (d : Fin 128) : k0_pay13 (F := Ideal) v (ix2 r d) = v (ix2 r d) := by
  pointwise [k0_pay13]

theorem pay11_eq (v0 v5 : Vec Ideal S256x128 .bf16) (v2 v7 v21 : Vec Ideal S2048x128 .bf16) : k0_pay11 (F := Ideal) v0 v2 v5 v7 v21 = k0_pay5 (k0_pay13 v0) v2 v5 v7 v21 := rfl

theorem pay12_eq (v0 v5 : Vec Ideal S256x128 .bf16) (v2 v7 : Vec Ideal S2048x128 .bf16) : k0_pay12 (F := Ideal) v0 v2 v5 v7 = k0_pay6 (k0_pay13 v0) v2 v5 v7 := rfl

theorem pay4_eq (v0 v5 : Vec Ideal S256x128 .bf16) (v2 v7 : Vec Ideal S2048x128 .bf16) (l : Vec Ideal S256x1 .f32) : k1_pay4 (F := Ideal) v0 v2 v5 v7 l = k1_pay13 v0 v2 v5 v7 l := rfl

theorem pay5_eq (v : Vec Ideal S256x128 .bf16) : k1_pay5 (F := Ideal) v = k1_pay14 v := rfl

theorem pay7_eq (P : FVec Ideal S256x2048 .f32) (G v : FVec Ideal S256x128 .bf16) (o : Vec Ideal S256x128 .f32) (w : Vec Ideal S2048x128 .bf16) :
    k1_pay7 (F := Ideal) P G (k1_pay6 v o) w = k1_pay16 P G (k1_pay15 v o) w := rfl

theorem pay8_eq (P : FVec Ideal S256x2048 .f32) (G : FVec Ideal S256x128 .bf16) (a : Vec Ideal S2048x128 .f32) : k1_pay8 (F := Ideal) P G a = k1_pay17 P G a := rfl

theorem pay9_eq (P : FVec Ideal S256x2048 .f32) (G v : FVec Ideal S256x128 .bf16) (o : Vec Ideal S256x128 .f32) (w x : Vec Ideal S2048x128 .bf16) :
    k1_pay9 (F := Ideal) P G (k1_pay6 v o) w x = k1_pay18 P G (k1_pay15 v o) w x := rfl

theorem pay10_eq (P : FVec Ideal S256x2048 .f32) (G v : FVec Ideal S256x128 .bf16) (o : Vec Ideal S256x128 .f32) (w x : Vec Ideal S2048x128 .bf16) :
    k1_pay10 (F := Ideal) P G (k1_pay6 v o) w x = k1_pay18 P G (k1_pay15 v o) w x := rfl

theorem pay19_eq (P : FVec Ideal S256x2048 .f32) (G : FVec Ideal S256x128 .bf16) (D : FVec Ideal S256x1 .f32) (w x : Vec Ideal S2048x128 .bf16) :
    k1_pay19 (F := Ideal) P G D w x = k1_pay18 P G D w x := rfl

theorem pay11_bwd (P : FVec Ideal S256x2048 .f32) (G v : FVec Ideal S256x128 .bf16) (o : Vec Ideal S256x128 .f32) (w : Vec Ideal S2048x128 .bf16) (a : Vec Ideal S2048x128 .f32) (x : Vec Ideal S256x128 .bf16) :
    k1_pay11 (F := Ideal) P G (k1_pay6 v o) w a x = k1_pay1 (k1_pay16 P G (k1_pay15 v o) w) a x := rfl

theorem pay20_eq (P : FVec Ideal S256x2048 .f32) (G : FVec Ideal S256x128 .bf16) (D : FVec Ideal S256x1 .f32) (w : Vec Ideal S2048x128 .bf16) (a : Vec Ideal S2048x128 .f32) (x : Vec Ideal S256x128 .bf16) :
    k1_pay20 (F := Ideal) P G D w a x = k1_pay1 (k1_pay16 P G D w) a x := rfl

theorem pay12_bwd (S : FVec Ideal S256x2048 .bf16) (a : Vec Ideal S2048x128 .f32) (x : Vec Ideal S256x128 .bf16) : k1_pay12 (F := Ideal) S a x = k1_pay1 S a x := rfl

end Cert.MlaMath

end
-- ==== Proof.MlaValue.lean ====
/- Latent attention: what the two kernels leave in their results, read off their runs. -/
module

public import proofs.«01_k».proof.Proof.Cols
public import proofs.«01_k».proof.Proof.MlaMath
public import Idealize.ShloMosaic.Lib.Pipeline.ReadBack

@[expose] public section

set_option maxRecDepth 16384

noncomputable section

namespace Cert.MlaIdeal.Hand

open Cert.MlaIdeal Cert.MlaIdeal.Gen Idealize.ShloMosaic Idealize.ShloMosaic.TcCoe Idealize.SL.Sem Cert.Reals Cert.Cols Cert.Softmax Cert.MlaMath
open Idealize.ShloMosaic (ix1 ix2)

theorem hz : (![0, 0] : Fin 2 → Nat) = fun _ => 0 := funext fun a => by fin_cases a <;> rfl

abbrev col12 := col (n := 12) 1536 rfl
abbrev col6 := col (n := 6) 768 rfl
abbrev col2 := col (n := 2) 256 rfl
abbrev head6 := head (N := 768) 6 rfl

/-! The blocks of 128 columns: the queries' heads, then their positioned parts; a head's keys and its values next to each other. -/

def plain (h : Fin 6) : Fin 12 := ⟨h.val, by omega⟩
def turned (h : Fin 6) : Fin 12 := ⟨6 + h.val, by omega⟩
def keyOf (h : Fin 6) : Fin 12 := ⟨2 * h.val, by omega⟩
def valueOf (h : Fin 6) : Fin 12 := ⟨2 * h.val + 1, by omega⟩

/-- The attention's operands: queries, keys and values by row and head, the keys' positioned part shared by the heads, and the output's cotangent. -/
structure Args where
  qn : Fin 2048 → Fin 6 → Fin 128 → ℝ
  qr : Fin 2048 → Fin 6 → Fin 128 → ℝ
  kn : Fin 2048 → Fin 6 → Fin 128 → ℝ
  kr : Fin 2048 → Fin 128 → ℝ
  v : Fin 2048 → Fin 6 → Fin 128 → ℝ
  g : Fin 2048 → Fin 6 → Fin 128 → ℝ

namespace Args
variable (A : Args)

/-- A query row's scores, -/
abbrev sc (r : Fin 2048) (h : Fin 6) : Fin 2048 → ℝ := score (A.qn r h) (A.qr r h) (fun k d => A.kn k h d) A.kr

/-- the attention's output, -/
def out (r : Fin 2048) (h : Fin 6) (d : Fin 128) : ℝ := mix (A.sc r h) fun k => A.v k h d

/-- the gradient at a score, -/
def slope (r : Fin 2048) (h : Fin 6) (k : Fin 2048) : ℝ := Softmax.slope scale192 (A.sc r h) (fun k d => A.v k h d) (A.g r h) k

/-- and the gradients: the queries' two parts, the keys' two parts, the values. -/
def dqn (r : Fin 2048) (h : Fin 6) (d : Fin 128) : ℝ := ∑ k, A.slope r h k * A.kn k h d
def dqr (r : Fin 2048) (h : Fin 6) (d : Fin 128) : ℝ := ∑ k, A.slope r h k * A.kr k d
def dkn (k : Fin 2048) (h : Fin 6) (d : Fin 128) : ℝ := ∑ r, A.slope r h k * A.qn r h d
def dkr (k : Fin 2048) (d : Fin 128) : ℝ := ∑ h, ∑ r, A.slope r h k * A.qr r h d
def dv (k : Fin 2048) (h : Fin 6) (d : Fin 128) : ℝ := ∑ r, soft (A.sc r h) k * A.g r h d

/-- The joint gradient of keys and values, in its columns' order: block `n` is head `n / 2`'s keys or, odd, its values. -/
def dkv (k : Fin 2048) (n : Fin 12) (d : Fin 128) : ℝ :=
  if n.val % 2 = 0 then A.dkn k ⟨n.val / 2, by omega⟩ d else A.dv k ⟨n.val / 2, by omega⟩ d

end Args

/-! The grid: six heads, four blocks of 512 rows each. -/

def rowOf (n : ℕ) (r : Fin 512) : Fin 2048 := ⟨512 * (n % 4) + r.val, by omega⟩
def headOf (n : ℕ) : Fin 6 := ⟨n / 4 % 6, Nat.mod_lt _ (by decide)⟩

theorem ld_low {e : EltTy} (x : Vec Ideal S512x128 e) (r : Fin 256) (d : Fin 128) :
    View.ld x (Rect.unit (s := S512x128) ![0, 0] S256x128.size inb_S512x128_S256x128_0_0) (ix2 r d) = x (ix2 (low r) d) :=
  congrArg x (Shape.idx_ext₂ (by show 0 + 1 * r.val = r.val; omega) (by show 0 + 1 * d.val = d.val; omega))

theorem ld_high {e : EltTy} (x : Vec Ideal S512x128 e) (r : Fin 256) (d : Fin 128) :
    View.ld x (Rect.unit (s := S512x128) ![256, 0] S256x128.size inb_S512x128_S256x128_256_0) (ix2 r d) = x (ix2 (high r) d) :=
  congrArg x (Shape.idx_ext₂ (by show 256 + 1 * r.val = 256 + r.val; omega) (by show 0 + 1 * d.val = d.val; omega))

theorem ld_low1 {e : EltTy} (x : Vec Ideal S512x128 e) (r : Fin 256) :
    View.ld x (Rect.unit (s := S512x128) ![0, 0] S256x1.size inb_S512x128_S256x1_0_0) (ix2 r 0) = x (ix2 (low r) 0) :=
  congrArg x (Shape.idx_ext₂ (by show 0 + 1 * r.val = r.val; omega) rfl)

theorem ld_high1 {e : EltTy} (x : Vec Ideal S512x128 e) (r : Fin 256) :
    View.ld x (Rect.unit (s := S512x128) ![256, 0] S256x1.size inb_S512x128_S256x1_256_0) (ix2 r 0) = x (ix2 (high r) 0) :=
  congrArg x (Shape.idx_ext₂ (by show 256 + 1 * r.val = 256 + r.val; omega) rfl)

/-- Two halves that each hold `G`'s rows hold `G`. -/
theorem canon_halves (G : S512x128.Idx → EReal) {p q : Vec Ideal S256x128 .f32}
    (hp : ∀ r d, p (ix2 r d) = G (ix2 (high r) d)) (hq : ∀ r d, q (ix2 r d) = G (ix2 (low r) d)) :
    (View.canon [⟨r0_2, p⟩, ⟨r0_0, q⟩] : Vec Ideal S512x128 .f32) = G := by
  funext y
  refine View.canon_apply_of_pieces (Val := Elt Ideal) (e := .f32) G _ ?_ y (cover0_5 p q y)
  intro pc hpc
  rcases List.mem_cons.mp hpc with rfl | hpc
  · intro x
    refine ((congrArg p (eq_ix2 x)).trans (hp _ _)).trans (congrArg G (Shape.idx_ext₂ ?_ ?_))
    · show 256 + (x 0).val = 256 + 1 * (x 0).val; omega
    · show (x 1).val = 0 + 1 * (x 1).val; omega
  · obtain rfl := List.mem_singleton.mp hpc
    intro x
    refine ((congrArg q (eq_ix2 x)).trans (hq _ _)).trans (congrArg G (Shape.idx_ext₂ ?_ ?_))
    · show (x 0).val = 0 + 1 * (x 0).val; omega
    · show (x 1).val = 0 + 1 * (x 1).val; omega

/-! A head's block of the joint gradient: its keys' columns, then its values'. -/

abbrev rK : Rect S2048x256 := Rect.unit (s := S2048x256) ![0, 0] S2048x128.size inb_S2048x256_S2048x128_0_0
abbrev rV : Rect S2048x256 := Rect.unit (s := S2048x256) ![0, 128] S2048x128.size inb_S2048x256_S2048x128_0_128

section Joint
variable {κ : Kind} {sp : Space} (v : View sig κ sp S2048x256 .f32) (w a b : Vec Ideal S2048x128 .f32) (Z : Vec Ideal S2048x256 .f32) (L : List (View.Piece (Elt Ideal) S2048x256 .f32))

theorem skip_k : v.readCov (⟨rK, w⟩ :: L) rV.toLoadRect = v.readCov L rV.toLoadRect := View.readCov_skip v rK w L _ (by decide)
theorem skip_v : v.readCov (⟨rV, w⟩ :: L) rK.toLoadRect = v.readCov L rK.toLoadRect := View.readCov_skip v rV w L _ (by decide)
theorem fill_k : v.readCov (⟨Rect.unit (s := S2048x256) ![0, 0] S2048x256.size inb_S2048x256_S2048x256_0_0, Z⟩ :: L) rK.toLoadRect = View.ld Z rK :=
  View.readCov_fill v inb_S2048x256_S2048x256_0_0 Z L rK (by decide)
theorem fill_v : v.readCov (⟨Rect.unit (s := S2048x256) ![0, 0] S2048x256.size inb_S2048x256_S2048x256_0_0, Z⟩ :: L) rV.toLoadRect = View.ld Z rV :=
  View.readCov_fill v inb_S2048x256_S2048x256_0_0 Z L rV (by decide)

theorem emb_k (k : Fin 2048) (d : Fin 128) : (ix2 k (col2 0 d) : S2048x256.Idx) = rK.emb (ix2 k d) :=
  Shape.idx_ext₂ (by show k.val = 0 + 1 * k.val; omega) (by show 128 * 0 + d.val = 0 + 1 * d.val; omega)
theorem emb_v (k : Fin 2048) (d : Fin 128) : (ix2 k (col2 1 d) : S2048x256.Idx) = rV.emb (ix2 k d) :=
  Shape.idx_ext₂ (by show k.val = 0 + 1 * k.val; omega) (by show 128 * 1 + d.val = 128 + 1 * d.val; omega)

theorem ld_k (k : Fin 2048) (d : Fin 128) : View.ld Z rK (ix2 k d) = Z (ix2 k (col2 0 d)) := congrArg Z (emb_k k d).symm
theorem ld_v (k : Fin 2048) (d : Fin 128) : View.ld Z rV (ix2 k d) = Z (ix2 k (col2 1 d)) := congrArg Z (emb_v k d).symm

theorem canon_k (k : Fin 2048) (d : Fin 128) : (View.canon (⟨rK, a⟩ :: ⟨rV, b⟩ :: L) : Vec Ideal S2048x256 .f32) (ix2 k (col2 0 d)) = a (ix2 k d) := by
  rw [emb_k]
  exact View.canon_cons_emb (Val := Elt Ideal) (e := .f32) rK a _ (ix2 k d)

theorem canon_v (k : Fin 2048) (d : Fin 128) : (View.canon (⟨rK, a⟩ :: ⟨rV, b⟩ :: L) : Vec Ideal S2048x256 .f32) (ix2 k (col2 1 d)) = b (ix2 k d) := by
  refine (View.canon_cons_of_not_mem (Val := Elt Ideal) (e := .f32) ⟨rK, a⟩ _ ?_).trans ?_
  · rw [Rect.mem_set_unit]
    intro h
    have := (h 1).2
    have e : 128 * 1 + d.val < 0 + 128 := this
    omega
  · rw [emb_v]
    exact View.canon_cons_emb (Val := Elt Ideal) (e := .f32) rV b _ (ix2 k d)

end Joint

variable (V : (c : Dev nD) → (b : Ref sig .tc) → Buf (Elt Ideal) ((c : Thread nD τ).loc b)) (c : Dev nD) (A : Args)

/-- What the kernels are entered with: the packed operands, -/
structure Entry : Prop where
  qn : ∀ r h d, (V c main_v7 : Vec Ideal S2048x1536 .bf16) (ix2 r (col12 (plain h) d)) = (A.qn r h d : EReal)
  qr : ∀ r h d, (V c main_v7 : Vec Ideal S2048x1536 .bf16) (ix2 r (col12 (turned h) d)) = (A.qr r h d : EReal)
  kn : ∀ r h d, (V c main_v9 : Vec Ideal S2048x1536 .bf16) (ix2 r (col12 (keyOf h) d)) = (A.kn r h d : EReal)
  kr : ∀ r d, (V c main_v12 : Vec Ideal S2048x128 .bf16) (ix2 r d) = (A.kr r d : EReal)
  v : ∀ r h d, (V c main_v9 : Vec Ideal S2048x1536 .bf16) (ix2 r (col12 (valueOf h) d)) = (A.v r h d : EReal)

/-- and, the backward one, what the forward one saved and the cotangent. -/
structure Saved : Prop extends Entry V c A where
  l : ∀ r h d, (V c main_v15_1 : Vec Ideal S2048x768 .f32) (ix2 r (col6 h d)) = (lse (A.sc r h) : EReal)
  o : ∀ r h d, (V c main_v15_0 : Vec Ideal S2048x768 .f32) (ix2 r (col6 h d)) = (A.out r h d : EReal)
  g : ∀ r h d, (V c main_v14 : Vec Ideal S2048x768 .bf16) (ix2 r (col6 h d)) = (A.g r h d : EReal)

/-! ## The forward kernel -/

theorem idx0 : ∀ t : Fin cfg0.N, win0_0.index t 0 = t.val % 4 ∧ win0_0.index t 1 = t.val / 4 ∧ win0_1.index t 0 = t.val % 4 ∧ win0_1.index t 1 = 6 + t.val / 4
    ∧ win0_2.index t 0 = 0 ∧ win0_2.index t 1 = 2 * (t.val / 4) ∧ win0_3.index t 0 = 0 ∧ win0_3.index t 1 = 0
    ∧ win0_4.index t 0 = 0 ∧ win0_4.index t 1 = 2 * (t.val / 4) + 1 ∧ win0_5.index t 0 = t.val % 4 ∧ win0_5.index t 1 = t.val / 4
    ∧ win0_6.index t 0 = t.val % 4 ∧ win0_6.index t 1 = t.val / 4 :=
  (by decide +kernel : ∀ t : Fin grid0.N, _)

/-- The point that writes a row of a head. -/
def pt (i : S2048x768.Idx) : ℕ := 4 * ((i 1).val / 128) + (i 0).val / 512

theorem pt_lt (i : S2048x768.Idx) : pt i < 24 := by
  have b0 : (i 0 : Nat) < 2048 := (i 0).isLt
  have b1 : (i 1 : Nat) < 768 := (i 1).isLt
  unfold pt
  omega

theorem cover_block (i : S2048x768.Idx) {w : Fin 2 → ℕ} (e0 : w 0 = pt i % 4) (e1 : w 1 = pt i / 4) (a : Fin 2) :
    w a * S512x128.size a ≤ (i a : Nat) ∧ (i a : Nat) < w a * S512x128.size a + S512x128.size a := by
  have b0 : (i 0 : Nat) < 2048 := (i 0).isLt
  have b1 : (i 1 : Nat) < 768 := (i 1).isLt
  have e0' : w 0 = (4 * ((i 1).val / 128) + (i 0).val / 512) % 4 := e0
  have e1' : w 1 = (4 * ((i 1).val / 128) + (i 0).val / 512) / 4 := e1
  match a with
  | ⟨0, _⟩ => show w 0 * 512 ≤ (i 0 : Nat) ∧ (i 0 : Nat) < w 0 * 512 + 512; omega
  | ⟨1, _⟩ => show w 1 * 128 ≤ (i 1 : Nat) ∧ (i 1 : Nat) < w 1 * 128 + 128; omega

section Forward
variable {V c A} (H : Entry V c A)
include H

theorem blk0_0 (t : Fin cfg0.N) (r : Fin 512) (d : Fin 128) : (iblk0 V c 0 t : Vec Ideal S512x128 .bf16) (ix2 r d) = (A.qn (rowOf t r) (headOf t) d : EReal) := by
  refine Eq.trans ?_ (H.qn _ _ _)
  unfold iblk0
  rw [View.read_apply]
  refine congrArg (V c main_v7 : Vec Ideal S2048x1536 .bf16) ?_
  have hi := idx0 t
  have hN : t.val < 24 := t.isLt
  refine Shape.idx_ext₂ ?_ ?_
  · show win0_0.index t 0 * 512 + 1 * r.val = 512 * (t.val % 4) + r.val; omega
  · show win0_0.index t 1 * 128 + 1 * d.val = 128 * (t.val / 4 % 6) + d.val; omega

theorem blk0_1 (t : Fin cfg0.N) (r : Fin 512) (d : Fin 128) : (iblk0 V c 1 t : Vec Ideal S512x128 .bf16) (ix2 r d) = (A.qr (rowOf t r) (headOf t) d : EReal) := by
  refine Eq.trans ?_ (H.qr _ _ _)
  unfold iblk0
  rw [View.read_apply]
  refine congrArg (V c main_v7 : Vec Ideal S2048x1536 .bf16) ?_
  have hi := idx0 t
  have hN : t.val < 24 := t.isLt
  refine Shape.idx_ext₂ ?_ ?_
  · show win0_1.index t 0 * 512 + 1 * r.val = 512 * (t.val % 4) + r.val; omega
  · show win0_1.index t 1 * 128 + 1 * d.val = 128 * (6 + t.val / 4 % 6) + d.val; omega

theorem blk0_2 (t : Fin cfg0.N) (r : Fin 2048) (d : Fin 128) : (iblk0 V c 2 t : Vec Ideal S2048x128 .bf16) (ix2 r d) = (A.kn r (headOf t) d : EReal) := by
  refine Eq.trans ?_ (H.kn _ _ _)
  unfold iblk0
  rw [View.read_apply]
  refine congrArg (V c main_v9 : Vec Ideal S2048x1536 .bf16) ?_
  have hi := idx0 t
  have hN : t.val < 24 := t.isLt
  refine Shape.idx_ext₂ ?_ ?_
  · show win0_2.index t 0 * 2048 + 1 * r.val = r.val; omega
  · show win0_2.index t 1 * 128 + 1 * d.val = 128 * (2 * (t.val / 4 % 6)) + d.val; omega

theorem blk0_3 (t : Fin cfg0.N) (r : Fin 2048) (d : Fin 128) : (iblk0 V c 3 t : Vec Ideal S2048x128 .bf16) (ix2 r d) = (A.kr r d : EReal) := by
  refine Eq.trans ?_ (H.kr _ _)
  unfold iblk0
  rw [View.read_apply]
  refine congrArg (V c main_v12 : Vec Ideal S2048x128 .bf16) ?_
  have hi := idx0 t
  have hN : t.val < 24 := t.isLt
  refine Shape.idx_ext₂ ?_ ?_
  · show win0_3.index t 0 * 2048 + 1 * r.val = r.val; omega
  · show win0_3.index t 1 * 128 + 1 * d.val = d.val; omega

theorem blk0_4 (t : Fin cfg0.N) (r : Fin 2048) (d : Fin 128) : (iblk0 V c 4 t : Vec Ideal S2048x128 .bf16) (ix2 r d) = (A.v r (headOf t) d : EReal) := by
  refine Eq.trans ?_ (H.v _ _ _)
  unfold iblk0
  rw [View.read_apply]
  refine congrArg (V c main_v9 : Vec Ideal S2048x1536 .bf16) ?_
  have hi := idx0 t
  have hN : t.val < 24 := t.isLt
  refine Shape.idx_ext₂ ?_ ?_
  · show win0_4.index t 0 * 2048 + 1 * r.val = r.val; omega
  · show win0_4.index t 1 * 128 + 1 * d.val = 128 * (2 * (t.val / 4 % 6) + 1) + d.val; omega

/-- The forward kernel's half blocks: the output, -/
theorem half_out (t : Fin cfg0.N) (e : Fin 256 → Fin 512) {v0 v1 : Vec Ideal S256x128 .bf16} (h0 : ∀ r d, v0 (ix2 r d) = (iblk0 V c 0 t : Vec Ideal S512x128 .bf16) (ix2 (e r) d))
    (h1 : ∀ r d, v1 (ix2 r d) = (iblk0 V c 1 t : Vec Ideal S512x128 .bf16) (ix2 (e r) d)) (r : Fin 256) (d : Fin 128) :
    k0_pay5 (F := Ideal) (k0_pay13 v0) (iblk0 V c 2 t) v1 (iblk0 V c 3 t) (iblk0 V c 4 t) (ix2 r d) = (A.out (rowOf t (e r)) (headOf t) d : EReal) :=
  pay5_real (v0 := k0_pay13 v0) (fun d => (pay13_at v0 r d).trans ((h0 r d).trans (blk0_0 H t (e r) d))) (blk0_2 H t) (fun d => (h1 r d).trans (blk0_1 H t (e r) d)) (blk0_3 H t) (blk0_4 H t) d

/-- and the rows' log-sums. -/
theorem half_lse (t : Fin cfg0.N) (e : Fin 256 → Fin 512) {v0 v1 : Vec Ideal S256x128 .bf16} (h0 : ∀ r d, v0 (ix2 r d) = (iblk0 V c 0 t : Vec Ideal S512x128 .bf16) (ix2 (e r) d))
    (h1 : ∀ r d, v1 (ix2 r d) = (iblk0 V c 1 t : Vec Ideal S512x128 .bf16) (ix2 (e r) d)) (r : Fin 256) (d : Fin 128) :
    k0_pay6 (F := Ideal) (k0_pay13 v0) (iblk0 V c 2 t) v1 (iblk0 V c 3 t) (ix2 r d) = (lse (A.sc (rowOf t (e r)) (headOf t)) : EReal) :=
  pay6_real (v0 := k0_pay13 v0) (fun d => (pay13_at v0 r d).trans ((h0 r d).trans (blk0_0 H t (e r) d))) (blk0_2 H t) (fun d => (h1 r d).trans (blk0_1 H t (e r) d)) (blk0_3 H t) d

theorem out5_real (t : Fin cfg0.N) :
    (dat0 V c).after 5 t = ((fun i => (A.out (rowOf t (i 0)) (headOf t) (i 1) : EReal)) : Vec Ideal S512x128 .f32) := by
  rw [after0_5]
  unfold out0_5 k0_pay14
  simp only [pay11_eq, View.ld_unit_zero (S := S2048x128) hz]
  exact canon_halves _ (half_out H t high (ld_high _) (ld_high _)) (half_out H t low (ld_low _) (ld_low _))

theorem out6_real (t : Fin cfg0.N) :
    (dat0 V c).after 6 t = ((fun i => (lse (A.sc (rowOf t (i 0)) (headOf t)) : EReal)) : Vec Ideal S512x128 .f32) := by
  rw [after0_6]
  unfold out0_6 k0_pay14
  simp only [pay12_eq, View.ld_unit_zero (S := S2048x128) hz]
  exact canon_halves _ (half_lse H t high (ld_high _) (ld_high _)) (half_lse H t low (ld_low _) (ld_low _))

omit H in
/-- A block of 512 rows of a head, read from the whole array's function. -/
theorem block_fun {F : Fin 2048 → Fin 6 → Fin 128 → EReal} (n : ℕ) {i : S2048x768.Idx} {y : S512x128.Idx} (hi : i = ix2 (rowOf n (y 0)) (col6 (headOf n) (y 1))) :
    F (i 0) (head6 (i 1)) (lane (i 1)) = F (rowOf n (y 0)) (headOf n) (y 1) := by
  subst hi
  exact congrArg₂ (F (rowOf n (y 0))) (head_col rfl _ _) (lane_col rfl _ _)

/-- The attention's output array. -/
theorem final0_5 : (dat0 V c).arrAt 5 cfg0.N = ((fun i => (A.out (i 0) (head6 (i 1)) (lane (i 1)) : EReal)) : Vec Ideal S2048x768 .f32) := by
  refine (dat0 V c).arrAt_eq_of_cover 5 _ (fun t _ => ?_) fun (i : S2048x768.Idx) => ⟨⟨pt i, pt_lt i⟩, flush0_5 _, ?_⟩
  · show (cfg0.win 5).cut (grid0.coords t) ((dat0 V c).after 5 t) = _
    rw [out5_real H]
    funext y
    rw [View.read_apply]
    have hi := idx0 t
    have hN : t.val < 24 := t.isLt
    refine (block_fun (F := fun r h d => (A.out r h d : EReal)) t.val (Shape.idx_ext₂ ?_ ?_)).symm
    · show win0_5.index t 0 * 512 + 1 * (y 0).val = 512 * (t.val % 4) + (y 0).val; omega
    · show win0_5.index t 1 * 128 + 1 * (y 1).val = 128 * (t.val / 4 % 6) + (y 1).val; omega
  · show i ∈ ((View.whole main_v15_0).slice (win0_5.rect ⟨pt i, pt_lt i⟩)).set
    rw [View.set_slice_whole, Rect.mem_set_unit]
    have hi := idx0 ⟨pt i, pt_lt i⟩
    exact cover_block i (w := fun a => win0_5.index ⟨pt i, pt_lt i⟩ a) (by dsimp only at hi ⊢; omega) (by dsimp only at hi ⊢; omega)

/-- The rows' log-sums. -/
theorem final0_6 : (dat0 V c).arrAt 6 cfg0.N = ((fun i => (lse (A.sc (i 0) (head6 (i 1))) : EReal)) : Vec Ideal S2048x768 .f32) := by
  refine (dat0 V c).arrAt_eq_of_cover 6 _ (fun t _ => ?_) fun (i : S2048x768.Idx) => ⟨⟨pt i, pt_lt i⟩, flush0_6 _, ?_⟩
  · show (cfg0.win 6).cut (grid0.coords t) ((dat0 V c).after 6 t) = _
    rw [out6_real H]
    funext y
    rw [View.read_apply]
    have hi := idx0 t
    have hN : t.val < 24 := t.isLt
    refine (block_fun (F := fun r h _ => (lse (A.sc r h) : EReal)) t.val (Shape.idx_ext₂ ?_ ?_)).symm
    · show win0_6.index t 0 * 512 + 1 * (y 0).val = 512 * (t.val % 4) + (y 0).val; omega
    · show win0_6.index t 1 * 128 + 1 * (y 1).val = 128 * (t.val / 4 % 6) + (y 1).val; omega
  · show i ∈ ((View.whole main_v15_1).slice (win0_6.rect ⟨pt i, pt_lt i⟩)).set
    rw [View.set_slice_whole, Rect.mem_set_unit]
    have hi := idx0 ⟨pt i, pt_lt i⟩
    exact cover_block i (w := fun a => win0_6.index ⟨pt i, pt_lt i⟩ a) (by dsimp only at hi ⊢; omega) (by dsimp only at hi ⊢; omega)

end Forward

/-! ## The backward kernel -/

theorem idx1 : ∀ t : Fin cfg1.N, win1_0.index t 0 = t.val % 4 ∧ win1_0.index t 1 = t.val / 4 ∧ win1_1.index t 0 = t.val % 4 ∧ win1_1.index t 1 = 6 + t.val / 4
    ∧ win1_2.index t 0 = 0 ∧ win1_2.index t 1 = 2 * (t.val / 4) ∧ win1_3.index t 0 = 0 ∧ win1_3.index t 1 = 0
    ∧ win1_4.index t 0 = 0 ∧ win1_4.index t 1 = 2 * (t.val / 4) + 1 ∧ win1_5.index t 0 = t.val % 4 ∧ win1_5.index t 1 = t.val / 4
    ∧ win1_6.index t 0 = t.val % 4 ∧ win1_6.index t 1 = t.val / 4 ∧ win1_7.index t 0 = t.val % 4 ∧ win1_7.index t 1 = t.val / 4
    ∧ win1_8.index t 0 = t.val % 4 ∧ win1_8.index t 1 = t.val / 4 ∧ win1_9.index t 0 = t.val % 4 ∧ win1_9.index t 1 = t.val / 4
    ∧ win1_10.index t 0 = 0 ∧ win1_10.index t 1 = t.val / 4 ∧ win1_11.index t 0 = 0 ∧ win1_11.index t 1 = 0 :=
  (by decide +kernel : ∀ t : Fin grid1.N, _)

section Backward
variable {V c A} (H : Saved V c A)

section
include H

theorem blk1_0 (t : Fin cfg1.N) (r : Fin 512) (d : Fin 128) : (iblk1 V c 0 t : Vec Ideal S512x128 .bf16) (ix2 r d) = (A.qn (rowOf t r) (headOf t) d : EReal) := by
  refine Eq.trans ?_ (H.qn _ _ _)
  unfold iblk1
  rw [View.read_apply]
  refine congrArg (V c main_v7 : Vec Ideal S2048x1536 .bf16) ?_
  have hi := idx1 t
  have hN : t.val < 24 := t.isLt
  refine Shape.idx_ext₂ ?_ ?_
  · show win1_0.index t 0 * 512 + 1 * r.val = 512 * (t.val % 4) + r.val; omega
  · show win1_0.index t 1 * 128 + 1 * d.val = 128 * (t.val / 4 % 6) + d.val; omega

theorem blk1_1 (t : Fin cfg1.N) (r : Fin 512) (d : Fin 128) : (iblk1 V c 1 t : Vec Ideal S512x128 .bf16) (ix2 r d) = (A.qr (rowOf t r) (headOf t) d : EReal) := by
  refine Eq.trans ?_ (H.qr _ _ _)
  unfold iblk1
  rw [View.read_apply]
  refine congrArg (V c main_v7 : Vec Ideal S2048x1536 .bf16) ?_
  have hi := idx1 t
  have hN : t.val < 24 := t.isLt
  refine Shape.idx_ext₂ ?_ ?_
  · show win1_1.index t 0 * 512 + 1 * r.val = 512 * (t.val % 4) + r.val; omega
  · show win1_1.index t 1 * 128 + 1 * d.val = 128 * (6 + t.val / 4 % 6) + d.val; omega

theorem blk1_2 (t : Fin cfg1.N) (r : Fin 2048) (d : Fin 128) : (iblk1 V c 2 t : Vec Ideal S2048x128 .bf16) (ix2 r d) = (A.kn r (headOf t) d : EReal) := by
  refine Eq.trans ?_ (H.kn _ _ _)
  unfold iblk1
  rw [View.read_apply]
  refine congrArg (V c main_v9 : Vec Ideal S2048x1536 .bf16) ?_
  have hi := idx1 t
  have hN : t.val < 24 := t.isLt
  refine Shape.idx_ext₂ ?_ ?_
  · show win1_2.index t 0 * 2048 + 1 * r.val = r.val; omega
  · show win1_2.index t 1 * 128 + 1 * d.val = 128 * (2 * (t.val / 4 % 6)) + d.val; omega

theorem blk1_3 (t : Fin cfg1.N) (r : Fin 2048) (d : Fin 128) : (iblk1 V c 3 t : Vec Ideal S2048x128 .bf16) (ix2 r d) = (A.kr r d : EReal) := by
  refine Eq.trans ?_ (H.kr _ _)
  unfold iblk1
  rw [View.read_apply]
  refine congrArg (V c main_v12 : Vec Ideal S2048x128 .bf16) ?_
  have hi := idx1 t
  have hN : t.val < 24 := t.isLt
  refine Shape.idx_ext₂ ?_ ?_
  · show win1_3.index t 0 * 2048 + 1 * r.val = r.val; omega
  · show win1_3.index t 1 * 128 + 1 * d.val = d.val; omega

theorem blk1_4 (t : Fin cfg1.N) (r : Fin 2048) (d : Fin 128) : (iblk1 V c 4 t : Vec Ideal S2048x128 .bf16) (ix2 r d) = (A.v r (headOf t) d : EReal) := by
  refine Eq.trans ?_ (H.v _ _ _)
  unfold iblk1
  rw [View.read_apply]
  refine congrArg (V c main_v9 : Vec Ideal S2048x1536 .bf16) ?_
  have hi := idx1 t
  have hN : t.val < 24 := t.isLt
  refine Shape.idx_ext₂ ?_ ?_
  · show win1_4.index t 0 * 2048 + 1 * r.val = r.val; omega
  · show win1_4.index t 1 * 128 + 1 * d.val = 128 * (2 * (t.val / 4 % 6) + 1) + d.val; omega

theorem blk1_5 (t : Fin cfg1.N) (r : Fin 512) (d : Fin 128) : (iblk1 V c 5 t : Vec Ideal S512x128 .f32) (ix2 r d) = (lse (A.sc (rowOf t r) (headOf t)) : EReal) := by
  refine Eq.trans ?_ (H.l _ _ d)
  unfold iblk1
  rw [View.read_apply]
  refine congrArg (V c main_v15_1 : Vec Ideal S2048x768 .f32) ?_
  have hi := idx1 t
  have hN : t.val < 24 := t.isLt
  refine Shape.idx_ext₂ ?_ ?_
  · show win1_5.index t 0 * 512 + 1 * r.val = 512 * (t.val % 4) + r.val; omega
  · show win1_5.index t 1 * 128 + 1 * d.val = 128 * (t.val / 4 % 6) + d.val; omega

theorem blk1_6 (t : Fin cfg1.N) (r : Fin 512) (d : Fin 128) : (iblk1 V c 6 t : Vec Ideal S512x128 .f32) (ix2 r d) = (A.out (rowOf t r) (headOf t) d : EReal) := by
  refine Eq.trans ?_ (H.o _ _ _)
  unfold iblk1
  rw [View.read_apply]
  refine congrArg (V c main_v15_0 : Vec Ideal S2048x768 .f32) ?_
  have hi := idx1 t
  have hN : t.val < 24 := t.isLt
  refine Shape.idx_ext₂ ?_ ?_
  · show win1_6.index t 0 * 512 + 1 * r.val = 512 * (t.val % 4) + r.val; omega
  · show win1_6.index t 1 * 128 + 1 * d.val = 128 * (t.val / 4 % 6) + d.val; omega

theorem blk1_7 (t : Fin cfg1.N) (r : Fin 512) (d : Fin 128) : (iblk1 V c 7 t : Vec Ideal S512x128 .bf16) (ix2 r d) = (A.g (rowOf t r) (headOf t) d : EReal) := by
  refine Eq.trans ?_ (H.g _ _ _)
  unfold iblk1
  rw [View.read_apply]
  refine congrArg (V c main_v14 : Vec Ideal S2048x768 .bf16) ?_
  have hi := idx1 t
  have hN : t.val < 24 := t.isLt
  refine Shape.idx_ext₂ ?_ ?_
  · show win1_7.index t 0 * 512 + 1 * r.val = 512 * (t.val % 4) + r.val; omega
  · show win1_7.index t 1 * 128 + 1 * d.val = 128 * (t.val / 4 % 6) + d.val; omega

end

variable (V c)

/-- The rows' weights in a point's first half, -/
abbrev wtL (t : Fin cfg1.N) : FVec Ideal S256x2048 .f32 :=
  k1_pay13 (View.ld (iblk1 V c 0 t) (Rect.unit (s := S512x128) ![0, 0] S256x128.size inb_S512x128_S256x128_0_0)) (iblk1 V c 2 t) (View.ld (iblk1 V c 1 t) (Rect.unit (s := S512x128) ![0, 0] S256x128.size inb_S512x128_S256x128_0_0)) (iblk1 V c 3 t) (View.ld (iblk1 V c 5 t) (Rect.unit (s := S512x128) ![0, 0] S256x1.size inb_S512x128_S256x1_0_0))

/-- and in its second; -/
abbrev wtH (t : Fin cfg1.N) : FVec Ideal S256x2048 .f32 :=
  k1_pay13 (View.ld (iblk1 V c 0 t) (Rect.unit (s := S512x128) ![256, 0] S256x128.size inb_S512x128_S256x128_256_0)) (iblk1 V c 2 t) (View.ld (iblk1 V c 1 t) (Rect.unit (s := S512x128) ![256, 0] S256x128.size inb_S512x128_S256x128_256_0)) (iblk1 V c 3 t) (View.ld (iblk1 V c 5 t) (Rect.unit (s := S512x128) ![256, 0] S256x1.size inb_S512x128_S256x1_256_0))

/-- the gradients at the scores in the first half, -/
abbrev dsL (t : Fin cfg1.N) : FVec Ideal S256x2048 .bf16 :=
  k1_pay16 (wtL V c t) (k1_pay14 (View.ld (iblk1 V c 7 t) (Rect.unit (s := S512x128) ![0, 0] S256x128.size inb_S512x128_S256x128_0_0))) (k1_pay15 (View.ld (iblk1 V c 7 t) (Rect.unit (s := S512x128) ![0, 0] S256x128.size inb_S512x128_S256x128_0_0)) (View.ld (iblk1 V c 6 t) (Rect.unit (s := S512x128) ![0, 0] S256x128.size inb_S512x128_S256x128_0_0))) (iblk1 V c 4 t)

/-- and in the second. -/
abbrev dsH (t : Fin cfg1.N) : FVec Ideal S256x2048 .bf16 :=
  k1_pay16 (wtH V c t) (k1_pay14 (View.ld (iblk1 V c 7 t) (Rect.unit (s := S512x128) ![256, 0] S256x128.size inb_S512x128_S256x128_256_0))) (k1_pay15 (View.ld (iblk1 V c 7 t) (Rect.unit (s := S512x128) ![256, 0] S256x128.size inb_S512x128_S256x128_256_0)) (View.ld (iblk1 V c 6 t) (Rect.unit (s := S512x128) ![256, 0] S256x128.size inb_S512x128_S256x128_256_0))) (iblk1 V c 4 t)

/-- What a point adds to the keys' gradient, -/
abbrev dkStep (t : Fin cfg1.N) (a : Vec Ideal S2048x128 .f32) : Vec Ideal S2048x128 .f32 :=
  k1_pay1 (dsH V c t) (k1_pay1 (dsL V c t) a (View.ld (iblk1 V c 0 t) (Rect.unit (s := S512x128) ![0, 0] S256x128.size inb_S512x128_S256x128_0_0))) (View.ld (iblk1 V c 0 t) (Rect.unit (s := S512x128) ![256, 0] S256x128.size inb_S512x128_S256x128_256_0))

/-- to the gradient of the keys' positioned part, -/
abbrev dkrStep (t : Fin cfg1.N) (a : Vec Ideal S2048x128 .f32) : Vec Ideal S2048x128 .f32 :=
  k1_pay1 (dsH V c t) (k1_pay1 (dsL V c t) a (View.ld (iblk1 V c 1 t) (Rect.unit (s := S512x128) ![0, 0] S256x128.size inb_S512x128_S256x128_0_0))) (View.ld (iblk1 V c 1 t) (Rect.unit (s := S512x128) ![256, 0] S256x128.size inb_S512x128_S256x128_256_0))

/-- and to the values'. -/
abbrev dvStep (t : Fin cfg1.N) (a : Vec Ideal S2048x128 .f32) : Vec Ideal S2048x128 .f32 :=
  k1_pay17 (wtH V c t) (k1_pay14 (View.ld (iblk1 V c 7 t) (Rect.unit (s := S512x128) ![256, 0] S256x128.size inb_S512x128_S256x128_256_0))) (k1_pay17 (wtL V c t) (k1_pay14 (View.ld (iblk1 V c 7 t) (Rect.unit (s := S512x128) ![0, 0] S256x128.size inb_S512x128_S256x128_0_0))) a)

theorem outs_8 (t : Fin cfg1.N) : (outsAt1 V c t.val t.isLt).1
    = View.canon [⟨r0_2, k1_pay18 (wtH V c t) (k1_pay14 (View.ld (iblk1 V c 7 t) (Rect.unit (s := S512x128) ![256, 0] S256x128.size inb_S512x128_S256x128_256_0))) (k1_pay15 (View.ld (iblk1 V c 7 t) (Rect.unit (s := S512x128) ![256, 0] S256x128.size inb_S512x128_S256x128_256_0)) (View.ld (iblk1 V c 6 t) (Rect.unit (s := S512x128) ![256, 0] S256x128.size inb_S512x128_S256x128_256_0))) (iblk1 V c 4 t) (iblk1 V c 2 t)⟩,
      ⟨r0_0, k1_pay18 (wtL V c t) (k1_pay14 (View.ld (iblk1 V c 7 t) (Rect.unit (s := S512x128) ![0, 0] S256x128.size inb_S512x128_S256x128_0_0))) (k1_pay15 (View.ld (iblk1 V c 7 t) (Rect.unit (s := S512x128) ![0, 0] S256x128.size inb_S512x128_S256x128_0_0)) (View.ld (iblk1 V c 6 t) (Rect.unit (s := S512x128) ![0, 0] S256x128.size inb_S512x128_S256x128_0_0))) (iblk1 V c 4 t) (iblk1 V c 2 t)⟩] := by
  by_cases h0 : t.val % 4 = 0
  · by_cases h1 : t.val % 24 = 0
    · rw [outsAt1_A V c t h0 h1]
      dsimp only
      unfold out1_A_8
      rw [View.read_writes_eq_canon _ _ _ fun y => cover1_A_8 (y := y) ..]
      unfold kernelRun1_A
      dsimp only
      sl_unfold_words
      simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay9_eq]
      rfl
    · rw [outsAt1_C V c t h0 h1]
      dsimp only
      unfold out1_C_8
      rw [View.read_writes_eq_canon _ _ _ fun y => cover1_C_8 (y := y) ..]
      unfold kernelRun1_C
      dsimp only
      sl_unfold_words
      simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay9_eq]
      rfl
  · have h1 : ¬t.val % 24 = 0 := by omega
    rw [outsAt1_B V c t h0 h1]
    dsimp only
    unfold out1_B_8
    rw [View.read_writes_eq_canon _ _ _ fun y => cover1_B_8 (y := y) ..]
    unfold kernelRun1_B
    dsimp only
    sl_unfold_words
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay9_eq]
    rfl

theorem outs_9 (t : Fin cfg1.N) : (outsAt1 V c t.val t.isLt).2.1
    = View.canon [⟨r0_2, k1_pay18 (wtH V c t) (k1_pay14 (View.ld (iblk1 V c 7 t) (Rect.unit (s := S512x128) ![256, 0] S256x128.size inb_S512x128_S256x128_256_0))) (k1_pay15 (View.ld (iblk1 V c 7 t) (Rect.unit (s := S512x128) ![256, 0] S256x128.size inb_S512x128_S256x128_256_0)) (View.ld (iblk1 V c 6 t) (Rect.unit (s := S512x128) ![256, 0] S256x128.size inb_S512x128_S256x128_256_0))) (iblk1 V c 4 t) (iblk1 V c 3 t)⟩,
      ⟨r0_0, k1_pay18 (wtL V c t) (k1_pay14 (View.ld (iblk1 V c 7 t) (Rect.unit (s := S512x128) ![0, 0] S256x128.size inb_S512x128_S256x128_0_0))) (k1_pay15 (View.ld (iblk1 V c 7 t) (Rect.unit (s := S512x128) ![0, 0] S256x128.size inb_S512x128_S256x128_0_0)) (View.ld (iblk1 V c 6 t) (Rect.unit (s := S512x128) ![0, 0] S256x128.size inb_S512x128_S256x128_0_0))) (iblk1 V c 4 t) (iblk1 V c 3 t)⟩] := by
  by_cases h0 : t.val % 4 = 0
  · by_cases h1 : t.val % 24 = 0
    · rw [outsAt1_A V c t h0 h1]
      dsimp only
      unfold out1_A_9
      rw [View.read_writes_eq_canon _ _ _ fun y => cover1_A_9 (y := y) ..]
      unfold kernelRun1_A
      dsimp only
      sl_unfold_words
      simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay10_eq, pay19_eq]
      rfl
    · rw [outsAt1_C V c t h0 h1]
      dsimp only
      unfold out1_C_9
      rw [View.read_writes_eq_canon _ _ _ fun y => cover1_C_9 (y := y) ..]
      unfold kernelRun1_C
      dsimp only
      sl_unfold_words
      simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay10_eq, pay19_eq]
      rfl
  · have h1 : ¬t.val % 24 = 0 := by omega
    rw [outsAt1_B V c t h0 h1]
    dsimp only
    unfold out1_B_9
    rw [View.read_writes_eq_canon _ _ _ fun y => cover1_B_9 (y := y) ..]
    unfold kernelRun1_B
    dsimp only
    sl_unfold_words
    simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay10_eq, pay19_eq]
    rfl

theorem outs_10_first (t : Fin cfg1.N) (h0 : t.val % 4 = 0) : ∃ L, (outsAt1 V c t.val t.isLt).2.2.1
    = View.canon (⟨rK, dkStep V c t (View.ld (k1_pay2 (F := Ideal)) rK)⟩ :: ⟨rV, dvStep V c t (View.ld (k1_pay2 (F := Ideal)) rV)⟩ :: L) := by
  by_cases h1 : t.val % 24 = 0
  · rw [outsAt1_A V c t h0 h1]
    dsimp only
    unfold out1_A_10
    rw [View.read_writes_eq_canon _ _ _ fun y => cover1_A_10 (y := y) ..]
    unfold kernelRun1_A
    dsimp only
    sl_unfold_words
    simp only [↓skip_k, ↓skip_v, ↓fill_k, ↓fill_v, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay7_eq, pay8_eq, pay20_eq, pay11_bwd]
    exact ⟨_, rfl⟩
  · rw [outsAt1_C V c t h0 h1]
    dsimp only
    unfold out1_C_10
    rw [View.read_writes_eq_canon _ _ _ fun y => cover1_C_10 (y := y) ..]
    unfold kernelRun1_C
    dsimp only
    sl_unfold_words
    simp only [↓skip_k, ↓skip_v, ↓fill_k, ↓fill_v, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay7_eq, pay8_eq, pay20_eq, pay11_bwd]
    exact ⟨_, rfl⟩

theorem outs_10_next (t : Fin cfg1.N) (h0 : ¬t.val % 4 = 0) : ∃ L, (outsAt1 V c t.val t.isLt).2.2.1
    = View.canon (⟨rK, dkStep V c t (View.ld (outsAt1 V c (t.val - 1) (Nat.lt_of_le_of_lt (Nat.sub_le _ _) t.isLt)).2.2.1 rK)⟩ :: ⟨rV, dvStep V c t (View.ld (outsAt1 V c (t.val - 1) (Nat.lt_of_le_of_lt (Nat.sub_le _ _) t.isLt)).2.2.1 rV)⟩ :: L) := by
  have h1 : ¬t.val % 24 = 0 := by omega
  rw [outsAt1_B V c t h0 h1]
  dsimp only
  unfold out1_B_10
  rw [View.read_writes_eq_canon _ _ _ fun y => cover1_B_10 (y := y) ..]
  unfold kernelRun1_B
  dsimp only
  sl_unfold_words
  simp only [↓skip_k, ↓skip_v, ↓fill_k, ↓fill_v, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_10 t).read_unread, View.ld_unit_zero (S := S2048x128) hz, pay4_eq, pay5_eq, pay7_eq, pay8_eq, pay20_eq, pay11_bwd]
  exact ⟨_, rfl⟩

theorem outs_11_first (t : Fin cfg1.N) (h1 : t.val % 24 = 0) : (outsAt1 V c t.val t.isLt).2.2.2 = dkrStep V c t (k1_pay3 (F := Ideal)) := by
  have h0 : t.val % 4 = 0 := by omega
  rw [outsAt1_A V c t h0 h1]
  dsimp only
  unfold out1_A_11
  rw [View.read_writes_eq_canon _ _ _ fun y => cover1_A_11 (y := y) ..]
  unfold kernelRun1_A
  dsimp only
  sl_unfold_words
  simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, View.ld_unit_zero (S := S2048x128) hz, pay4_eq, pay5_eq, pay7_eq, pay12_bwd]
  rfl

theorem outs_11_next (t : Fin cfg1.N) (h1 : ¬t.val % 24 = 0) : (outsAt1 V c t.val t.isLt).2.2.2 = dkrStep V c t (outsAt1 V c (t.val - 1) (Nat.lt_of_le_of_lt (Nat.sub_le _ _) t.isLt)).2.2.2 := by
  by_cases h0 : t.val % 4 = 0
  · rw [outsAt1_C V c t h0 h1]
    dsimp only
    unfold out1_C_11
    rw [View.read_writes_eq_canon _ _ _ fun y => cover1_C_11 (y := y) ..]
    unfold kernelRun1_C
    dsimp only
    sl_unfold_words
    simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_11 t).read_unread, View.ld_unit_zero (S := S2048x128) hz, pay4_eq, pay5_eq, pay7_eq, pay12_bwd]
    rfl
  · rw [outsAt1_B V c t h0 h1]
    dsimp only
    unfold out1_B_11
    rw [View.read_writes_eq_canon _ _ _ fun y => cover1_B_11 (y := y) ..]
    unfold kernelRun1_B
    dsimp only
    sl_unfold_words
    simp only [View.canon_cons_unit_zero (S := S2048x128) hz, View.readCov_cons_toLoadRect, View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_11 t).read_unread, View.ld_unit_zero (S := S2048x128) hz, pay4_eq, pay5_eq, pay7_eq, pay12_bwd]
    rfl

variable {V c}
include H

/-- A half's weights, by row, -/
theorem half_wt (t : Fin cfg1.N) (e : Fin 256 → Fin 512) {v0 v1 : Vec Ideal S256x128 .bf16} {v5 : Vec Ideal S256x1 .f32}
    (h0 : ∀ r d, v0 (ix2 r d) = (iblk1 V c 0 t : Vec Ideal S512x128 .bf16) (ix2 (e r) d)) (h1 : ∀ r d, v1 (ix2 r d) = (iblk1 V c 1 t : Vec Ideal S512x128 .bf16) (ix2 (e r) d))
    (h5 : ∀ r, v5 (ix2 r 0) = (iblk1 V c 5 t : Vec Ideal S512x128 .f32) (ix2 (e r) 0)) (r : Fin 256) (k : Fin 2048) :
    k1_pay13 (F := Ideal) v0 (iblk1 V c 2 t) v1 (iblk1 V c 3 t) v5 (ix2 r k) = (soft (A.sc (rowOf t (e r)) (headOf t)) k : EReal) :=
  pay13_real (fun d => (h0 r d).trans (blk1_0 H t (e r) d)) (blk1_2 H t) (fun d => (h1 r d).trans (blk1_1 H t (e r) d)) (blk1_3 H t) ((h5 r).trans (blk1_5 H t (e r) 0)) k

theorem high_wt (t : Fin cfg1.N) (r : Fin 256) (k : Fin 2048) : wtH V c t (ix2 r k) = (soft (A.sc (rowOf t (high r)) (headOf t)) k : EReal) :=
  half_wt H t high (ld_high _) (ld_high _) (ld_high1 _) r k

theorem low_wt (t : Fin cfg1.N) (r : Fin 256) (k : Fin 2048) : wtL V c t (ix2 r k) = (soft (A.sc (rowOf t (low r)) (headOf t)) k : EReal) :=
  half_wt H t low (ld_low _) (ld_low _) (ld_low1 _) r k

/-- and its slopes. -/
theorem high_slope (t : Fin cfg1.N) (r : Fin 256) (k : Fin 2048) : dsH V c t (ix2 r k) = (A.slope (rowOf t (high r)) (headOf t) k : EReal) :=
  pay16_real (high_wt H t r) (fun d => (ld_high _ r d).trans (blk1_7 H t _ d)) (fun d => (ld_high _ r d).trans (blk1_6 H t _ d)) (blk1_4 H t) k

theorem low_slope (t : Fin cfg1.N) (r : Fin 256) (k : Fin 2048) : dsL V c t (ix2 r k) = (A.slope (rowOf t (low r)) (headOf t) k : EReal) :=
  pay16_real (low_wt H t r) (fun d => (ld_low _ r d).trans (blk1_7 H t _ d)) (fun d => (ld_low _ r d).trans (blk1_6 H t _ d)) (blk1_4 H t) k

theorem out8_real (t : Fin cfg1.N) :
    (dat1 V c).after 8 t = ((fun i => (A.dqn (rowOf t (i 0)) (headOf t) (i 1) : EReal)) : Vec Ideal S512x128 .f32) := by
  rw [after1_8, outs_8]
  exact canon_halves _ (fun r d => pay18_real (high_slope H t r) (blk1_2 H t) d) (fun r d => pay18_real (low_slope H t r) (blk1_2 H t) d)

theorem out9_real (t : Fin cfg1.N) :
    (dat1 V c).after 9 t = ((fun i => (A.dqr (rowOf t (i 0)) (headOf t) (i 1) : EReal)) : Vec Ideal S512x128 .f32) := by
  rw [after1_9, outs_9]
  exact canon_halves _ (fun r d => pay18_real (high_slope H t r) (blk1_3 H t) d) (fun r d => pay18_real (low_slope H t r) (blk1_3 H t) d)

/-- What a point adds to a key's gradient, -/
theorem dkStep_real (t : Fin cfg1.N) {x : Vec Ideal S2048x128 .f32} {k : Fin 2048} {d : Fin 128} {a : ℝ} (ha : x (ix2 k d) = a) :
    dkStep V c t x (ix2 k d) = ((a + ∑ r, A.slope (rowOf t r) (headOf t) k * A.qn (rowOf t r) (headOf t) d : ℝ) : EReal) := by
  rw [← sum_halves, ← add_assoc]
  exact pay1_bwd (high_slope H t) (fun r d => (ld_high _ r d).trans (blk1_0 H t _ d))
    (pay1_bwd (low_slope H t) (fun r d => (ld_low _ r d).trans (blk1_0 H t _ d)) ha)

theorem dkrStep_real (t : Fin cfg1.N) {x : Vec Ideal S2048x128 .f32} {k : Fin 2048} {d : Fin 128} {a : ℝ} (ha : x (ix2 k d) = a) :
    dkrStep V c t x (ix2 k d) = ((a + ∑ r, A.slope (rowOf t r) (headOf t) k * A.qr (rowOf t r) (headOf t) d : ℝ) : EReal) := by
  rw [← sum_halves, ← add_assoc]
  exact pay1_bwd (high_slope H t) (fun r d => (ld_high _ r d).trans (blk1_1 H t _ d))
    (pay1_bwd (low_slope H t) (fun r d => (ld_low _ r d).trans (blk1_1 H t _ d)) ha)

/-- and to a value's. -/
theorem dvStep_real (t : Fin cfg1.N) {x : Vec Ideal S2048x128 .f32} {k : Fin 2048} {d : Fin 128} {a : ℝ} (ha : x (ix2 k d) = a) :
    dvStep V c t x (ix2 k d) = ((a + ∑ r, soft (A.sc (rowOf t r) (headOf t)) k * A.g (rowOf t r) (headOf t) d : ℝ) : EReal) := by
  rw [← sum_halves, ← add_assoc]
  exact pay17_real (high_wt H t) (fun r d => (ld_high _ r d).trans (blk1_7 H t _ d))
    (pay17_real (low_wt H t) (fun r d => (ld_low _ r d).trans (blk1_7 H t _ d)) ha)

/-- A key's gradient after point `n`: the blocks of its head so far. -/
theorem acc_k (k : Fin 2048) (d : Fin 128) (n : ℕ) (h : n < cfg1.N) :
    (outsAt1 V c n h).2.2.1 (ix2 k (col2 0 d))
      = ((∑ s ∈ Finset.range (n % 4 + 1), ∑ r, A.slope (rowOf (4 * (n / 4) + s) r) (headOf (4 * (n / 4) + s)) k * A.qn (rowOf (4 * (n / 4) + s) r) (headOf (4 * (n / 4) + s)) d : ℝ) : EReal) := by
  refine acc_sum (by decide) (fun n => ∑ r, A.slope (rowOf n r) (headOf n) k * A.qn (rowOf n r) (headOf n) d)
    (fun n h => (outsAt1 V c n h).2.2.1 (ix2 k (col2 0 d))) (fun n h hn => ?_) (fun n h a hn ha => ?_) n h
  · obtain ⟨L, e⟩ := outs_10_first V c ⟨n, h⟩ hn
    refine (congrFun e _).trans ((canon_k ..).trans ((dkStep_real H ⟨n, h⟩ (a := 0) ((ld_k ..).trans (by pointwise [k1_pay2]; rfl))).trans ?_))
    rw [zero_add]
  · obtain ⟨L, e⟩ := outs_10_next V c ⟨n + 1, h⟩ hn
    exact (congrFun e _).trans ((canon_k ..).trans (dkStep_real H ⟨n + 1, h⟩ ((ld_k ..).trans ha)))

/-- A value's gradient after point `n`. -/
theorem acc_v (k : Fin 2048) (d : Fin 128) (n : ℕ) (h : n < cfg1.N) :
    (outsAt1 V c n h).2.2.1 (ix2 k (col2 1 d))
      = ((∑ s ∈ Finset.range (n % 4 + 1), ∑ r, soft (A.sc (rowOf (4 * (n / 4) + s) r) (headOf (4 * (n / 4) + s))) k * A.g (rowOf (4 * (n / 4) + s) r) (headOf (4 * (n / 4) + s)) d : ℝ) : EReal) := by
  refine acc_sum (by decide) (fun n => ∑ r, soft (A.sc (rowOf n r) (headOf n)) k * A.g (rowOf n r) (headOf n) d)
    (fun n h => (outsAt1 V c n h).2.2.1 (ix2 k (col2 1 d))) (fun n h hn => ?_) (fun n h a hn ha => ?_) n h
  · obtain ⟨L, e⟩ := outs_10_first V c ⟨n, h⟩ hn
    refine (congrFun e _).trans ((canon_v ..).trans ((dvStep_real H ⟨n, h⟩ (a := 0) ((ld_v ..).trans (by pointwise [k1_pay2]; rfl))).trans ?_))
    rw [zero_add]
  · obtain ⟨L, e⟩ := outs_10_next V c ⟨n + 1, h⟩ hn
    exact (congrFun e _).trans ((canon_v ..).trans (dvStep_real H ⟨n + 1, h⟩ ((ld_v ..).trans ha)))

/-- The gradient of a key's positioned part after point `n`: all the blocks so far. -/
theorem acc_kr (k : Fin 2048) (d : Fin 128) (n : ℕ) (h : n < cfg1.N) :
    (outsAt1 V c n h).2.2.2 (ix2 k d)
      = ((∑ s ∈ Finset.range (n % 24 + 1), ∑ r, A.slope (rowOf (24 * (n / 24) + s) r) (headOf (24 * (n / 24) + s)) k * A.qr (rowOf (24 * (n / 24) + s) r) (headOf (24 * (n / 24) + s)) d : ℝ) : EReal) := by
  refine acc_sum (by decide) (fun n => ∑ r, A.slope (rowOf n r) (headOf n) k * A.qr (rowOf n r) (headOf n) d)
    (fun n h => (outsAt1 V c n h).2.2.2 (ix2 k d)) (fun n h hn => ?_) (fun n h a hn ha => ?_) n h
  · refine (congrFun (outs_11_first V c ⟨n, h⟩ hn) _).trans ((dkrStep_real H ⟨n, h⟩ (a := 0) (by pointwise [k1_pay3]; rfl)).trans ?_)
    rw [zero_add]
  · exact (congrFun (outs_11_next V c ⟨n + 1, h⟩ hn) _).trans (dkrStep_real H ⟨n + 1, h⟩ ha)

omit H in
/-- The four points of a head are its rows' four blocks. -/
theorem head_sum (f : Fin 2048 → Fin 6 → ℝ) {n : ℕ} (hn : n < 24) (h : n % 4 = 3) :
    ∑ s ∈ Finset.range (n % 4 + 1), ∑ r, f (rowOf (4 * (n / 4) + s) r) (headOf (4 * (n / 4) + s)) = ∑ r, f r ⟨n / 4, by omega⟩ := by
  rw [h, Finset.sum_range, Fin.sum_univ_tiles 4 512 rfl]
  refine Finset.sum_congr rfl fun b _ => Finset.sum_congr rfl fun r _ => congrArg₂ f (Fin.ext ?_) (Fin.ext ?_)
  · show 512 * ((4 * (n / 4) + b.val) % 4) + r.val = b.val * 512 + r.val; omega
  · show (4 * (n / 4) + b.val) / 4 % 6 = n / 4; omega

omit H in
/-- The points are the heads' four blocks. -/
theorem all_sum (f : Fin 2048 → Fin 6 → ℝ) : ∑ s ∈ Finset.range (23 % 24 + 1), ∑ r, f (rowOf (24 * (23 / 24) + s) r) (headOf (24 * (23 / 24) + s)) = ∑ h, ∑ r, f r h := by
  rw [show 23 % 24 + 1 = 24 from rfl, Finset.sum_range, Fin.sum_univ_tiles 6 4 rfl]
  refine Finset.sum_congr rfl fun j _ => ?_
  rw [Fin.sum_univ_tiles 4 512 rfl]
  refine Finset.sum_congr rfl fun b _ => Finset.sum_congr rfl fun r _ => congrArg₂ f (Fin.ext ?_) (Fin.ext ?_)
  · show 512 * ((24 * (23 / 24) + (j.val * 4 + b.val)) % 4) + r.val = b.val * 512 + r.val; omega
  · show (24 * (23 / 24) + (j.val * 4 + b.val)) / 4 % 6 = j.val; omega

/-- What the last point of a head leaves of the joint gradient. -/
theorem last_dkv (n : ℕ) (h : n < cfg1.N) (h3 : n % 4 = 3) (p : Fin 2) (k : Fin 2048) (d : Fin 128) :
    (outsAt1 V c n h).2.2.1 (ix2 k (col2 p d)) = (A.dkv k ⟨2 * (n / 4) + p.val, by have : n < 24 := h; omega⟩ d : EReal) := by
  have hN : n < 24 := h
  match p with
  | 0 =>
    refine (acc_k H k d n h).trans (congrArg _ ((head_sum (fun r h => A.slope r h k * A.qn r h d) hN h3).trans ?_))
    unfold Args.dkv
    rw [if_pos (by show (2 * (n / 4) + 0) % 2 = 0; omega)]
    exact congrArg (A.dkn k · d) (Fin.ext (by show n / 4 = (2 * (n / 4) + 0) / 2; omega))
  | 1 =>
    refine (acc_v H k d n h).trans (congrArg _ ((head_sum (fun r h => soft (A.sc r h) k * A.g r h d) hN h3).trans ?_))
    unfold Args.dkv
    rw [if_neg (by show ¬(2 * (n / 4) + 1) % 2 = 0; omega)]
    exact congrArg (A.dv k · d) (Fin.ext (by show n / 4 = (2 * (n / 4) + 1) / 2; omega))

/-- The queries' gradient, -/
theorem final1_8 : (dat1 V c).arrAt 8 cfg1.N = ((fun i => (A.dqn (i 0) (head6 (i 1)) (lane (i 1)) : EReal)) : Vec Ideal S2048x768 .f32) := by
  refine (dat1 V c).arrAt_eq_of_cover 8 _ (fun t _ => ?_) fun (i : S2048x768.Idx) => ⟨⟨pt i, pt_lt i⟩, flush1_8 _, ?_⟩
  · show (cfg1.win 8).cut (grid1.coords t) ((dat1 V c).after 8 t) = _
    rw [out8_real H]
    funext y
    rw [View.read_apply]
    have hi := idx1 t
    have hN : t.val < 24 := t.isLt
    refine (block_fun (F := fun r h d => (A.dqn r h d : EReal)) t.val (Shape.idx_ext₂ ?_ ?_)).symm
    · show win1_8.index t 0 * 512 + 1 * (y 0).val = 512 * (t.val % 4) + (y 0).val; omega
    · show win1_8.index t 1 * 128 + 1 * (y 1).val = 128 * (t.val / 4 % 6) + (y 1).val; omega
  · show i ∈ ((View.whole main_v16_0).slice (win1_8.rect ⟨pt i, pt_lt i⟩)).set
    rw [View.set_slice_whole, Rect.mem_set_unit]
    have hi := idx1 ⟨pt i, pt_lt i⟩
    exact cover_block i (w := fun a => win1_8.index ⟨pt i, pt_lt i⟩ a) (by dsimp only at hi ⊢; omega) (by dsimp only at hi ⊢; omega)

/-- and their positioned part's. -/
theorem final1_9 : (dat1 V c).arrAt 9 cfg1.N = ((fun i => (A.dqr (i 0) (head6 (i 1)) (lane (i 1)) : EReal)) : Vec Ideal S2048x768 .f32) := by
  refine (dat1 V c).arrAt_eq_of_cover 9 _ (fun t _ => ?_) fun (i : S2048x768.Idx) => ⟨⟨pt i, pt_lt i⟩, flush1_9 _, ?_⟩
  · show (cfg1.win 9).cut (grid1.coords t) ((dat1 V c).after 9 t) = _
    rw [out9_real H]
    funext y
    rw [View.read_apply]
    have hi := idx1 t
    have hN : t.val < 24 := t.isLt
    refine (block_fun (F := fun r h d => (A.dqr r h d : EReal)) t.val (Shape.idx_ext₂ ?_ ?_)).symm
    · show win1_9.index t 0 * 512 + 1 * (y 0).val = 512 * (t.val % 4) + (y 0).val; omega
    · show win1_9.index t 1 * 128 + 1 * (y 1).val = 128 * (t.val / 4 % 6) + (y 1).val; omega
  · show i ∈ ((View.whole main_v16_1).slice (win1_9.rect ⟨pt i, pt_lt i⟩)).set
    rw [View.set_slice_whole, Rect.mem_set_unit]
    have hi := idx1 ⟨pt i, pt_lt i⟩
    exact cover_block i (w := fun a => win1_9.index ⟨pt i, pt_lt i⟩ a) (by dsimp only at hi ⊢; omega) (by dsimp only at hi ⊢; omega)

omit H in
theorem joint_fun {F : Fin 2048 → Fin 12 → Fin 128 → EReal} (h : ℕ) (hh : h < 6) {i : S2048x1536.Idx} {k : Fin 2048} {p : Fin 2} {d : Fin 128}
    (e0 : (i 0).val = k.val) (e1 : (i 1).val = 256 * h + (128 * p.val + d.val)) :
    F (i 0) (head (N := 1536) 12 rfl (i 1)) (lane (i 1)) = F k ⟨2 * h + p.val, by omega⟩ d := by
  have hn : 2 * h + p.val < 12 := by omega
  have hi : i = ix2 k (col12 ⟨2 * h + p.val, hn⟩ d) := Shape.idx_ext₂ e0 (e1.trans (show _ = 128 * (2 * h + p.val) + d.val by omega))
  clear e0 e1
  subst hi
  exact congrArg₂ (F k) (head_col rfl _ _) (lane_col rfl _ _)

omit H in
theorem cover_joint (i : S2048x1536.Idx) {w : Fin 2 → ℕ} (e0 : w 0 = 0) (e1 : w 1 = (4 * ((i 1).val / 256) + 3) / 4) (a : Fin 2) :
    w a * S2048x256.size a ≤ (i a : Nat) ∧ (i a : Nat) < w a * S2048x256.size a + S2048x256.size a := by
  have b0 : (i 0 : Nat) < 2048 := (i 0).isLt
  match a with
  | ⟨0, _⟩ => show w 0 * 2048 ≤ (i 0 : Nat) ∧ (i 0 : Nat) < w 0 * 2048 + 2048; omega
  | ⟨1, _⟩ => show w 1 * 256 ≤ (i 1 : Nat) ∧ (i 1 : Nat) < w 1 * 256 + 256; omega

omit H in
theorem cover_one (i : S2048x128.Idx) {w : Fin 2 → ℕ} (e0 : w 0 = 0) (e1 : w 1 = 0) (a : Fin 2) :
    w a * S2048x128.size a ≤ (i a : Nat) ∧ (i a : Nat) < w a * S2048x128.size a + S2048x128.size a := by
  have b0 : (i 0 : Nat) < 2048 := (i 0).isLt
  have b1 : (i 1 : Nat) < 128 := (i 1).isLt
  match a with
  | ⟨0, _⟩ => show w 0 * 2048 ≤ (i 0 : Nat) ∧ (i 0 : Nat) < w 0 * 2048 + 2048; omega
  | ⟨1, _⟩ => show w 1 * 128 ≤ (i 1 : Nat) ∧ (i 1 : Nat) < w 1 * 128 + 128; omega

/-- The joint gradient of keys and values. -/
theorem final1_10 : (dat1 V c).arrAt 10 cfg1.N = ((fun i => (A.dkv (i 0) (head (N := 1536) 12 rfl (i 1)) (lane (i 1)) : EReal)) : Vec Ideal S2048x1536 .f32) := by
  have hl : ∀ i : S2048x1536.Idx, 4 * ((i 1).val / 256) + 3 < cfg1.N := fun i => by
    have b1 : (i 1 : Nat) < 1536 := (i 1).isLt
    show _ < 24
    omega
  refine (dat1 V c).arrAt_eq_of_cover 10 _ (fun t hf => ?_) fun (i : S2048x1536.Idx) => ⟨⟨_, hl i⟩, (flush1_10 _).mpr ?_, ?_⟩
  · have h3 : t.val % 4 = 3 := (flush1_10 t).mp hf
    show (cfg1.win 10).cut (grid1.coords t) ((dat1 V c).after 10 t) = _
    rw [after1_10]
    funext y
    rw [View.read_apply]
    have hi := idx1 t
    have hN : t.val < 24 := t.isLt
    have e : y = ix2 (y 0) (col2 (head (N := 256) 2 rfl (y 1)) (lane (y 1))) :=
      (eq_ix2 y).trans (congrArg (ix2 (y 0)) (col_head_lane (N := 256) (n := 2) rfl (y 1)).symm)
    refine (congrArg (outsAt1 V c t.val t.isLt).2.2.1 e).trans ((last_dkv H t.val t.isLt h3 _ _ _).trans ?_)
    refine (joint_fun (F := fun k n d => (A.dkv k n d : EReal)) (t.val / 4) (by omega) ?_ ?_).symm
    · show win1_10.index t 0 * 2048 + 1 * (y 0).val = (y 0).val; omega
    · show win1_10.index t 1 * 256 + 1 * (y 1).val = 256 * (t.val / 4) + (128 * ((y 1).val / 128) + (y 1).val % 128); omega
  · show (4 * ((i 1).val / 256) + 3) % 4 = 3
    omega
  · show i ∈ ((View.whole main_v16_2).slice (win1_10.rect ⟨_, hl i⟩)).set
    rw [View.set_slice_whole, Rect.mem_set_unit]
    have hi := (idx1 ⟨_, hl i⟩).2.2.2.2.2.2.2.2.2.2.2.2.2.2.2.2.2.2.2.2
    exact cover_joint i hi.1 hi.2.1

/-- The gradient of the keys' positioned part. -/
theorem final1_11 : (dat1 V c).arrAt 11 cfg1.N = ((fun i => (A.dkr (i 0) (i 1) : EReal)) : Vec Ideal S2048x128 .f32) := by
  have hl : 23 < cfg1.N := by decide
  refine (dat1 V c).arrAt_eq_of_cover 11 _ (fun t hf => ?_) fun (i : S2048x128.Idx) => ⟨⟨23, hl⟩, (flush1_11 _).mpr rfl, ?_⟩
  · have hN : t.val < 24 := t.isLt
    have h23 : t.val = 23 := by have := (flush1_11 t).mp hf; omega
    show (cfg1.win 11).cut (grid1.coords t) ((dat1 V c).after 11 t) = _
    rw [after1_11]
    funext y
    rw [View.read_apply]
    have hi := idx1 t
    refine (congrArg (outsAt1 V c t.val t.isLt).2.2.2 (eq_ix2 y)).trans ((acc_kr H (y 0) (y 1) t.val t.isLt).trans ?_)
    rw [h23, all_sum fun r h => A.slope r h (y 0) * A.qr r h (y 1)]
    refine (congrArg₂ (fun k d => (A.dkr k d : EReal)) (Fin.ext ?_) (Fin.ext ?_)).symm
    · show win1_11.index t 0 * 2048 + 1 * (y 0).val = (y 0).val; omega
    · show win1_11.index t 1 * 128 + 1 * (y 1).val = (y 1).val; omega
  · show i ∈ ((View.whole main_v16_3).slice (win1_11.rect ⟨23, hl⟩)).set
    rw [View.set_slice_whole, Rect.mem_set_unit]
    have hi := (idx1 ⟨23, hl⟩).2.2.2.2.2.2.2.2.2.2.2.2.2.2.2.2.2.2.2.2.2.2
    exact cover_one i hi.1 hi.2

end Backward

end Cert.MlaIdeal.Hand

end
-- ==== Proof.MlaRef.lean ====
/- Latent attention differentiated: what each array of the reference holds, its arguments real. -/
module

public import proofs.«01_k».proof.Proof.MlaValue
public import proofs.«01_k».proof.Proof.Gen.MlaRefIdeal.Read
public import Idealize.ShloMosaic.Lib.KernelVsHost

@[expose] public section

set_option maxRecDepth 16384

noncomputable section

namespace Cert.MlaRef

open Idealize.ShloMosaic Cert.Reals Cert.Cols Cert.Softmax Cert.MlaMath Cert.MlaRefIdeal Cert.MlaRefIdeal.Read
open Cert.MlaIdeal.Hand (Args col6 head6)
open Idealize.ShloMosaic (ix1 ix2 ix3 ix4 ix5)

/-! A query's 192 columns are 128 plain ones and 64 turned ones; a head's 256 columns of keys and values are 128 and 128. -/

def plainOf (d : Fin 128) : Fin 192 := ⟨d.val, by omega⟩
def turnedOf (d : Fin 64) : Fin 192 := ⟨128 + d.val, by omega⟩
def keyCol (d : Fin 128) : Fin 256 := ⟨d.val, by omega⟩
def valueCol (d : Fin 128) : Fin 256 := ⟨128 + d.val, by omega⟩

/-- The 64 turned entries, followed by 64 zeros. -/
def filled (x : Fin 64 → ℝ) (d : Fin 128) : ℝ := if h : d.val < 64 then x ⟨d.val, h⟩ else 0

theorem sum_parts (f : Fin 192 → ℝ) : ∑ e, f e = (∑ d, f (plainOf d)) + ∑ d, f (turnedOf d) :=
  (Fin.sum_univ_add (a := 128) (b := 64) f).trans rfl

theorem sum_filled (x y : Fin 64 → ℝ) : ∑ d, filled x d * filled y d = ∑ d, x d * y d := by
  refine (Fin.sum_univ_add (a := 64) (b := 64) _).trans ?_
  rw [Finset.sum_eq_zero (s := Finset.univ) (f := fun i : Fin 64 => filled x (Fin.natAdd 64 i) * filled y (Fin.natAdd 64 i)), add_zero]
  · refine Finset.sum_congr rfl fun d _ => ?_
    show filled x ⟨d.val, by omega⟩ * filled y ⟨d.val, by omega⟩ = _
    rw [filled, filled, dif_pos d.isLt, dif_pos d.isLt]
  · intro d _
    show filled x ⟨64 + d.val, by omega⟩ * _ = 0
    rw [filled, dif_neg (by show ¬64 + d.val < 64; omega), zero_mul]

/-- The real arguments: the queries, the keys and values, the shared turned keys, the output's gradient. -/
structure Raw where
  q : Fin 2048 → Fin 6 → Fin 192 → ℝ
  kv : Fin 2048 → Fin 6 → Fin 256 → ℝ
  kr : Fin 2048 → Fin 64 → ℝ
  g : Fin 2048 → Fin 6 → Fin 128 → ℝ

namespace Raw
variable (B : Raw)

/-- The same, taken apart as the kernel takes them. -/
def args : Args where
  qn r h d := B.q r h (plainOf d)
  qr r h := filled fun d => B.q r h (turnedOf d)
  kn k h d := B.kv k h (keyCol d)
  kr k := filled (B.kr k)
  v k h d := B.kv k h (valueCol d)
  g := B.g

/-- A whole key: the head's plain entries, then the shared turned ones. -/
def key (k : Fin 2048) (h : Fin 6) (e : Fin 192) : ℝ := if he : e.val < 128 then B.kv k h ⟨e.val, by omega⟩ else B.kr k ⟨e.val - 128, by omega⟩

theorem key_plain (k : Fin 2048) (h : Fin 6) (d : Fin 128) : B.key k h (plainOf d) = B.args.kn k h d := dif_pos d.isLt

theorem key_turned (k : Fin 2048) (h : Fin 6) (d : Fin 64) : B.key k h (turnedOf d) = B.kr k d :=
  (dif_neg (by show ¬128 + d.val < 128; omega)).trans (congrArg (B.kr k) (Fin.ext (show 128 + d.val - 128 = d.val by omega)))

theorem dot (r k : Fin 2048) (h : Fin 6) : (∑ e, B.key k h e * B.q r h e) * scale192 = B.args.sc r h k := by
  rw [sum_parts]
  simp only [key_plain, key_turned]
  refine congrArg (· * scale192) (congrArg₂ (· + ·) (Finset.sum_congr rfl fun d _ => mul_comm _ _) ?_)
  exact ((sum_filled _ _).trans (Finset.sum_congr rfl fun d _ => mul_comm _ _)).symm

end Raw

/-- A host sum over the first, the third and the last axis of a rank-five array, all of length one, is the initial value and the one entry. -/
theorem sum_thin {n1 n2 : Nat} (h : (⟨5, ![1, n1, 1, n2, 1]⟩ : Shape).ReducesTo [0, 2, 4] ⟨2, ![n1, n2]⟩)
    (v : (⟨5, ![1, n1, 1, n2, 1]⟩ : Shape).Idx → EReal) (init : EReal) (a : Fin n1) (b : Fin n2) :
    Ideal.hostReduceAdd h v init (ix2 a b) = init + v (ix5 0 a 0 b 0) := by
  refine congrArg (init + ·) ?_
  have e : Finset.univ.filter (fun i => h.drop i = ix2 a b) = {ix5 0 a 0 b 0} := by
    ext i
    simp only [Finset.mem_filter, Finset.mem_univ, true_and, Finset.mem_singleton]
    constructor
    · intro e
      funext x
      match x with
      | ⟨0, _⟩ => exact Fin.ext (by have h0 : (i 0).val < 1 := (i 0).isLt; show (i 0).val = 0; omega)
      | ⟨1, _⟩ => exact Fin.ext (congrArg Fin.val (congrFun e 0))
      | ⟨2, _⟩ => exact Fin.ext (by have h0 : (i 2).val < 1 := (i 2).isLt; show (i 2).val = 0; omega)
      | ⟨3, _⟩ => exact Fin.ext (congrArg Fin.val (congrFun e 1))
      | ⟨4, _⟩ => exact Fin.ext (by have h0 : (i 4).val < 1 := (i 4).isLt; show (i 4).val = 0; omega)
    · intro e
      subst e
      funext x
      match x with
      | ⟨0, _⟩ => rfl
      | ⟨1, _⟩ => rfl
  rw [e, Finset.sum_singleton]

/-- A host sum over the first axis, of length one, and the third of a rank-four array is the initial value and the sum. -/
theorem sum_heads {n1 n2 n3 : Nat} (h : (⟨4, ![1, n1, n2, n3]⟩ : Shape).ReducesTo [0, 2] ⟨2, ![n1, n3]⟩)
    (v : (⟨4, ![1, n1, n2, n3]⟩ : Shape).Idx → EReal) (init : EReal) (a : Fin n1) (b : Fin n3) :
    Ideal.hostReduceAdd h v init (ix2 a b) = init + ∑ j, v (ix4 0 a j b) := by
  refine congrArg (init + ·) ?_
  have e : Finset.univ.filter (fun i => h.drop i = ix2 a b) = Finset.univ.image (fun j : Fin n2 => (ix4 0 a j b : (⟨4, ![1, n1, n2, n3]⟩ : Shape).Idx)) := by
    ext i
    simp only [Finset.mem_filter, Finset.mem_univ, true_and, Finset.mem_image]
    constructor
    · intro e
      refine ⟨i 2, funext fun x => ?_⟩
      match x with
      | ⟨0, _⟩ => exact Fin.ext (by have h0 : (i 0).val < 1 := (i 0).isLt; show 0 = (i 0).val; omega)
      | ⟨1, _⟩ => exact (Fin.ext (congrArg Fin.val (congrFun e 0))).symm
      | ⟨2, _⟩ => rfl
      | ⟨3, _⟩ => exact (Fin.ext (congrArg Fin.val (congrFun e 1))).symm
    · rintro ⟨j, rfl⟩
      funext x
      match x with
      | ⟨0, _⟩ => rfl
      | ⟨1, _⟩ => rfl
  rw [e, Finset.sum_image]
  intro j _ k _ hjk
  exact congrFun hjk 2

variable {B : Raw}
variable {x0 : FVec Ideal S1x2048x6x192 .f32} {x1 : FVec Ideal S1x2048x6x256 .f32} {x2 : FVec Ideal S1x2048x1x64 .f32} {x3 : FVec Ideal S1x2048x768 .f32}
variable (h0 : ∀ z r h d, x0 (ix4 z r h d) = (B.q r h d : EReal)) (h1 : ∀ z r h d, x1 (ix4 z r h d) = (B.kv r h d : EReal))
  (h2 : ∀ z r y d, x2 (ix4 z r y d) = (B.kr r d : EReal)) (h3 : ∀ z r h d, x3 (ix3 z r (col6 h d)) = (B.g r h d : EReal))
variable {M : Fin 6 → Fin 2048 → ℝ}

include h0 in
theorem v4_real (z : Fin 1) (r : Fin 2048) (h : Fin 6) (y : Fin 1) (d : Fin 192) :
    val_main_v4 (F := Ideal) x0 (ix5 z r h y d) = (B.q r h d : EReal) := by
  rw [val_main_v4_apply, ← h0 0 r h d]
  congr 1
  have hz := z.isLt
  have hy := y.isLt
  funext a
  match a with
  | ⟨0, _⟩ => rfl
  | ⟨1, _⟩ => exact Fin.ext (show ((((z.val * 2048 + r.val) * 6 + h.val) * 1 + y.val) * 192 + d.val) / 1152 % 2048 = r.val by omega)
  | ⟨2, _⟩ => exact Fin.ext (show ((((z.val * 2048 + r.val) * 6 + h.val) * 1 + y.val) * 192 + d.val) / 192 % 6 = h.val by omega)
  | ⟨3, _⟩ => exact Fin.ext (show ((((z.val * 2048 + r.val) * 6 + h.val) * 1 + y.val) * 192 + d.val) % 192 = d.val by omega)

include h3 in
theorem v40_real (z : Fin 1) (r : Fin 2048) (h : Fin 6) (y : Fin 1) (d : Fin 128) :
    val_main_v40 (F := Ideal) x3 (ix5 z r h y d) = (B.g r h d : EReal) := by
  rw [val_main_v40_apply, ← h3 0 r h d]
  congr 1
  have hz := z.isLt
  have hy := y.isLt
  funext a
  match a with
  | ⟨0, _⟩ => rfl
  | ⟨1, _⟩ => exact Fin.ext (show ((((z.val * 2048 + r.val) * 6 + h.val) * 1 + y.val) * 128 + d.val) / 768 % 2048 = r.val by omega)
  | ⟨2, _⟩ => exact Fin.ext (show ((((z.val * 2048 + r.val) * 6 + h.val) * 1 + y.val) * 128 + d.val) % 768 = 128 * h.val + d.val by omega)

include h1 in
theorem v0_real (z : Fin 1) (k : Fin 2048) (h : Fin 6) (d : Fin 128) : val_main_v0 (F := Ideal) x1 (ix4 z k h d) = (B.args.kn k h d : EReal) := by
  rw [val_main_v0_apply]
  refine (congrArg x1 ?_).trans (h1 z k h (keyCol d))
  funext a
  match a with
  | ⟨0, _⟩ => rfl
  | ⟨1, _⟩ => rfl
  | ⟨2, _⟩ => rfl
  | ⟨3, _⟩ => rfl

include h1 in
theorem v3_real (z : Fin 1) (k : Fin 2048) (h : Fin 6) (d : Fin 128) : val_main_v3 (F := Ideal) x1 (ix4 z k h d) = (B.args.v k h d : EReal) := by
  rw [val_main_v3_apply]
  refine (congrArg x1 ?_).trans (h1 z k h (valueCol d))
  funext a
  match a with
  | ⟨0, _⟩ => rfl
  | ⟨1, _⟩ => rfl
  | ⟨2, _⟩ => rfl
  | ⟨3, _⟩ => rfl

include h2 in
theorem v1_real (z : Fin 1) (k : Fin 2048) (h : Fin 6) (d : Fin 64) : val_main_v1 (F := Ideal) x2 (ix4 z k h d) = (B.kr k d : EReal) := by
  pointwise [val_main_v1]
  exact h2 _ k _ d

include h1 h2 in
theorem v2_real (z : Fin 1) (k : Fin 2048) (h : Fin 6) (e : Fin 192) : val_main_v2 (F := Ideal) x1 x2 (ix4 z k h e) = (B.key k h e : EReal) := by
  unfold val_main_v2
  by_cases he : e.val < 128
  · refine (concatenate_pair_apply_left (t := S1x2048x6x192) (s₁ := S1x2048x6x128) (s₂ := S1x2048x6x64) 3 _ _ _ _ rfl (ix4 z k h ⟨e.val, he⟩) ?_).trans ?_
    · intro b
      match b with
      | ⟨0, _⟩ => rfl
      | ⟨1, _⟩ => rfl
      | ⟨2, _⟩ => rfl
      | ⟨3, _⟩ => rfl
    · rw [v0_real h1, Raw.key, dif_pos he]; rfl
  · refine (concatenate_pair_apply_right (t := S1x2048x6x192) (s₁ := S1x2048x6x128) (s₂ := S1x2048x6x64) 3 _ _ _ _ rfl rfl (ix4 z k h ⟨e.val - 128, by omega⟩) ?_ ?_).trans ?_
    · intro b hb
      match b, hb with
      | ⟨0, _⟩, _ => rfl
      | ⟨1, _⟩, _ => rfl
      | ⟨2, _⟩, _ => rfl
      | ⟨3, _⟩, hb => exact absurd rfl hb
    · show e.val - 128 + 128 = e.val
      omega
    · rw [v1_real h2, Raw.key, dif_neg he]

include h0 h1 h2 in
theorem v8_real (z : Fin 1) (h : Fin 6) (y : Fin 1) (r k : Fin 2048) :
    val_main_v8 (F := Ideal) x0 x1 x2 (ix5 z h y r k) = (B.args.sc r h k : EReal) := by
  pointwise [val_main_v8, val_main_v7, val_main_v6, val_main_v5, val_main_cst]
  simp only [v4_real h0, v2_real h1 h2, ← EReal.coe_mul, coe_sum, ofBits_scale192, Raw.dot]

include h0 h1 h2 in
theorem v9_real : ∃ M : Fin 6 → Fin 2048 → ℝ, ∀ z h y r, val_main_v9 (F := Ideal) x0 x1 x2 (ix4 z h y r) = (M h r : EReal) := by
  have H : ∀ h r, ∃ M : ℝ, ∀ z y : Fin 1, val_main_v9 (F := Ideal) x0 x1 x2 (ix4 z h y r) = (M : EReal) := fun h r => by
    obtain ⟨M, hM⟩ := fold_real Finset.univ Finset.univ_nonempty (B.args.sc r h)
    refine ⟨M, fun z y => ?_⟩
    pointwise [val_main_v9, val_main_cst_0]
    simp only [v8_real h0 h1 h2, ofBits_neg_inf]
    exact hM
  choose M hM using H
  exact ⟨M, fun z h y r => hM h r z y⟩

include h0 h1 h2 in
theorem v16_real : ∃ M : Fin 6 → Fin 2048 → ℝ, ∀ z h y r, val_main_v16 (F := Ideal) x0 x1 x2 (ix4 z h y r) = (M h r : EReal) := by
  obtain ⟨M, hM⟩ := v9_real h0 h1 h2
  refine ⟨M, fun z h y r => ?_⟩
  rw [val_main_v16_apply, hM]
  generalize (M h r : EReal) = y
  pointwise [val_main_v15, val_main_cst_2]
  simp only [ofBits_neg_inf]
  exact max_eq_right bot_le

section Max
variable (hM : ∀ z h y r, val_main_v16 (F := Ideal) x0 x1 x2 (ix4 z h y r) = (M h r : EReal))
include h0 h1 h2 hM

theorem v29_real (z : Fin 1) (h : Fin 6) (y : Fin 1) (r k : Fin 2048) :
    val_main_v29 (F := Ideal) x0 x1 x2 (ix5 z h y r k) = (Real.exp (B.args.sc r h k - M h r) : EReal) := by
  pointwise [val_main_v29, val_main_v28, val_main_v27, val_main_v26]
  simp only [v8_real h0 h1 h2, hM, ← EReal.coe_sub, exp_real]

theorem v30_real (z : Fin 1) (h : Fin 6) (y : Fin 1) (r : Fin 2048) :
    val_main_v30 (F := Ideal) x0 x1 x2 (ix4 z h y r) = ((∑ k, Real.exp (B.args.sc r h k - M h r) : ℝ) : EReal) := by
  pointwise [val_main_v30, val_main_cst_8]
  simp only [v29_real h0 h1 h2 hM, coe_sum]

theorem v33_real (z : Fin 1) (h : Fin 6) (y : Fin 1) (r k : Fin 2048) :
    val_main_v33 (F := Ideal) x0 x1 x2 (ix5 z h y r k) = (soft (B.args.sc r h) k : EReal) := by
  pointwise [val_main_v33, val_main_v32, val_main_v31]
  simp only [v29_real h0 h1 h2 hM, v30_real h0 h1 h2 hM]
  rw [div_real (shift_pos _ _).ne', soft_shift]

theorem v38_real (z : Fin 1) (r : Fin 2048) (h : Fin 6) (y : Fin 1) (d : Fin 128) :
    val_main_v38 (F := Ideal) x0 x1 x2 (ix5 z r h y d) = (B.args.out r h d : EReal) := by
  pointwise [val_main_v38, val_main_v37]
  simp only [v33_real h0 h1 h2 hM, v3_real h1, ← EReal.coe_mul, coe_sum, Args.out, mix]
  exact congrArg _ (Finset.sum_congr rfl fun k _ => mul_comm _ _)

include h3 in
theorem v44_real (z : Fin 1) (k : Fin 2048) (h : Fin 6) (d : Fin 128) :
    val_main_v44 (F := Ideal) x0 x1 x2 x3 (ix4 z k h d) = (B.args.dv k h d : EReal) := by
  pointwise [val_main_v44, val_main_v43, val_main_v41]
  simp only [v33_real h0 h1 h2 hM, v40_real h3, ← EReal.coe_mul, coe_sum, Args.dv, Fin.sum_univ_one]
  exact congrArg _ (Finset.sum_congr rfl fun r _ => mul_comm _ _)

omit h0 h2 hM in
include h3 in
theorem v42_real (z : Fin 1) (h : Fin 6) (y : Fin 1) (r k : Fin 2048) :
    val_main_v42 (F := Ideal) x1 x3 (ix5 z h y r k) = ((∑ d, B.args.g r h d * B.args.v k h d : ℝ) : EReal) := by
  pointwise [val_main_v42, val_main_v41]
  simp only [v40_real h3, v3_real h1, ← EReal.coe_mul, coe_sum]
  rfl

include h3 in
theorem v50_real (z : Fin 1) (h : Fin 6) (y : Fin 1) (r : Fin 2048) (x : Fin 1) :
    val_main_v50 (F := Ideal) x0 x1 x2 x3 (ix5 z h y r x)
      = ((-∑ i, (∑ d, B.args.g r h d * B.args.v i h d) * (1 / ((∑ k, Real.exp (B.args.sc r h k - M h r)) * ∑ k, Real.exp (B.args.sc r h k - M h r)))
          * Real.exp (B.args.sc r h i - M h r) : ℝ) : EReal) := by
  have hL := (shift_pos (B.args.sc r h) (M h r)).ne'
  pointwise [val_main_v50, val_main_v49, val_main_v48, val_main_v47, val_main_v46, val_main_v45, val_main_v36, val_main_v35, val_main_v34, val_main_v31,
    val_main_cst_9, val_main_cst_10]
  simp only [v42_real h1 h3, v29_real h0 h1 h2 hM, v30_real h0 h1 h2 hM, ← EReal.coe_mul, ← EReal.coe_one, div_real (mul_ne_zero hL hL), coe_sum, ← EReal.coe_neg]

include h3 in
theorem v53_real (h : Fin 6) (r : Fin 2048) :
    val_main_v53 (F := Ideal) x0 x1 x2 x3 (ix2 h r)
      = ((-∑ i, (∑ d, B.args.g r h d * B.args.v i h d) * (1 / ((∑ k, Real.exp (B.args.sc r h k - M h r)) * ∑ k, Real.exp (B.args.sc r h k - M h r)))
          * Real.exp (B.args.sc r h i - M h r) : ℝ) : EReal) := by
  pointwise [val_main_v53, val_main_cst_11]
  rw [sum_thin, v50_real h0 h1 h2 h3 hM, zero_add]

include h3 in
theorem v59_real (z : Fin 1) (h : Fin 6) (y : Fin 1) (r k : Fin 2048) :
    val_main_v59 (F := Ideal) x0 x1 x2 x3 (ix5 z h y r k) = (B.args.slope r h k : EReal) := by
  have hL := (shift_pos (B.args.sc r h) (M h r)).ne'
  pointwise [val_main_v59, val_main_v58, val_main_v57, val_main_v56, val_main_v55, val_main_v54, val_main_v52, val_main_v51, val_main_v31, val_main_cst_12]
  simp only [v42_real h1 h3, v53_real h0 h1 h2 h3 hM, v29_real h0 h1 h2 hM, v30_real h0 h1 h2 hM, ofBits_scale192, div_real hL, ← EReal.coe_mul, ← EReal.coe_add]
  exact congrArg Real.toEReal (slope_quotient scale192 (B.args.sc r h) (fun k => B.args.v k h) (B.args.g r h) (M h r) k)

include h3 in
theorem v65_real (z : Fin 1) (r : Fin 2048) (h : Fin 6) (e : Fin 192) :
    val_main_v65 (F := Ideal) x0 x1 x2 x3 (ix4 z r h e) = ((∑ k, B.args.slope r h k * B.key k h e : ℝ) : EReal) := by
  have hi : idx_main_v65 (ix4 z r h e) = ix5 0 r h 0 e := by
    have hz := z.isLt
    funext a
    match a with
    | ⟨0, _⟩ => rfl
    | ⟨1, _⟩ => exact Fin.ext (show (((z.val * 2048 + r.val) * 6 + h.val) * 192 + e.val) / 1152 % 2048 = r.val by omega)
    | ⟨2, _⟩ => exact Fin.ext (show (((z.val * 2048 + r.val) * 6 + h.val) * 192 + e.val) / 192 % 6 = h.val by omega)
    | ⟨3, _⟩ => rfl
    | ⟨4, _⟩ => exact Fin.ext (show (((z.val * 2048 + r.val) * 6 + h.val) * 192 + e.val) % 192 = e.val by omega)
  rw [val_main_v65_apply, hi]
  pointwise [val_main_v62, val_main_v61, val_main_v60]
  simp only [v59_real h0 h1 h2 h3 hM, v2_real h1 h2, ← EReal.coe_mul, coe_sum]

include h3 in
theorem v64_real (z : Fin 1) (k : Fin 2048) (h : Fin 6) (e : Fin 192) :
    val_main_v64 (F := Ideal) x0 x1 x2 x3 (ix4 z k h e) = ((∑ r, B.args.slope r h k * B.q r h e : ℝ) : EReal) := by
  pointwise [val_main_v64, val_main_v63, val_main_v60]
  simp only [v59_real h0 h1 h2 h3 hM, v4_real h0, ← EReal.coe_mul, coe_sum, Fin.sum_univ_one]

/-! The results, laid out by columns. -/

omit h0 h1 h2 hM in
theorem zero_pad (i : S_.Idx) : val_main_call0_v0 (F := Ideal) i = ((0 : ℝ) : EReal) := by
  pointwise [val_main_call0_v0, val_main_c]
  exact sitofp_zero (φ := .f32)

omit h0 h1 h2 hM in
theorem zero_pad' (i : S_.Idx) : val_main_call1_v0 (F := Ideal) i = ((0 : ℝ) : EReal) := by
  pointwise [val_main_call1_v0, val_main_c_16]
  exact sitofp_zero (φ := .f32)

theorem y_real (r : Fin 2048) (c : Fin 768) :
    val_main_v76 (F := Ideal) x0 x1 x2 (ix2 r c) = (B.args.out r (head6 c) (lane c) : EReal) := by
  have e : idx_main_v39 (idx_main_v76 (ix2 r c)) = ix5 0 r (head6 c) 0 (lane c) := by
    funext a
    match a with
    | ⟨0, _⟩ => rfl
    | ⟨1, _⟩ => exact Fin.ext (show ((0 * 2048 + (r.val * 768 + c.val) / 768 % 2048) * 768 + (r.val * 768 + c.val) % 768) / 768 % 2048 = r.val by omega)
    | ⟨2, _⟩ => exact Fin.ext (show ((0 * 2048 + (r.val * 768 + c.val) / 768 % 2048) * 768 + (r.val * 768 + c.val) % 768) / 128 % 6 = c.val / 128 by omega)
    | ⟨3, _⟩ => rfl
    | ⟨4, _⟩ => exact Fin.ext (show ((0 * 2048 + (r.val * 768 + c.val) / 768 % 2048) * 768 + (r.val * 768 + c.val) % 768) % 128 = c.val % 128 by omega)
  rw [val_main_v76_apply, val_main_v39_apply, e, v38_real h0 h1 h2 hM]

omit h0 h1 h2 hM in
theorem cols6 (r : Fin 2048) (c : Fin 768) : idx_main_v79 (ix2 r c) = ix3 r (head6 c) (lane c) := by
  funext a
  match a with
  | ⟨0, _⟩ => exact Fin.ext (show (r.val * 768 + c.val) / 768 = r.val by omega)
  | ⟨1, _⟩ => exact Fin.ext (show (r.val * 768 + c.val) / 128 % 6 = c.val / 128 by omega)
  | ⟨2, _⟩ => exact Fin.ext (show (r.val * 768 + c.val) % 128 = c.val % 128 by omega)

include h3 in
theorem dqn_real (r : Fin 2048) (c : Fin 768) :
    val_main_v79 (F := Ideal) x0 x1 x2 x3 (ix2 r c) = (B.args.dqn r (head6 c) (lane c) : EReal) := by
  have e : idx_main_v77 (idx_main_v78 (ix3 r (head6 c) (lane c))) = ix4 0 r (head6 c) (plainOf (lane c)) := by
    funext a
    match a with
    | ⟨0, _⟩ => rfl
    | ⟨1, _⟩ => exact Fin.ext (show ((r.val * 6 + c.val / 128) * 128 + c.val % 128) / 768 % 2048 = r.val by omega)
    | ⟨2, _⟩ => exact Fin.ext (show ((r.val * 6 + c.val / 128) * 128 + c.val % 128) / 128 % 6 = c.val / 128 by omega)
    | ⟨3, _⟩ => exact Fin.ext (show ((r.val * 6 + c.val / 128) * 128 + c.val % 128) % 128 = c.val % 128 by omega)
  rw [val_main_v79_apply, cols6, val_main_v78_apply, val_main_v77_apply, e, v65_real h0 h1 h2 h3 hM, Args.dqn]
  simp only [Raw.key_plain]

include h3 in
theorem v74_real (r : Fin 2048) (h : Fin 6) (d : Fin 64) :
    val_main_v74 (F := Ideal) x0 x1 x2 x3 (ix3 r h d) = ((∑ k, B.args.slope r h k * B.kr k d : ℝ) : EReal) := by
  have e : idx_main_v73 (idx_main_v74 (ix3 r h d)) = ix4 0 r h (turnedOf d) := by
    funext a
    match a with
    | ⟨0, _⟩ => rfl
    | ⟨1, _⟩ => exact Fin.ext (show ((r.val * 6 + h.val) * 64 + d.val) / 384 % 2048 = r.val by omega)
    | ⟨2, _⟩ => exact Fin.ext (show ((r.val * 6 + h.val) * 64 + d.val) / 64 % 6 = h.val by omega)
    | ⟨3, _⟩ => exact Fin.ext (show 128 + ((r.val * 6 + h.val) * 64 + d.val) % 64 = 128 + d.val by omega)
  rw [val_main_v74_apply, val_main_v73_apply, e, v65_real h0 h1 h2 h3 hM]
  simp only [Raw.key_turned]

include h3 in
theorem dqr_real (r : Fin 2048) (c : Fin 768) :
    val_main_v80 (F := Ideal) x0 x1 x2 x3 (ix2 r c) = (B.args.dqr r (head6 c) (lane c) : EReal) := by
  rw [val_main_v80_apply, show idx_main_v80 (ix2 r c) = _ from cols6 r c, Args.dqr]
  unfold val_main_v75
  by_cases hd : (lane c).val < 64
  · rw [pad_apply_of_inside (t := S2048x6x128) (s := S2048x6x64) _ _ _ _ _ _ _ _ (ix3 r (head6 c) ⟨(lane c).val, hd⟩), v74_real h0 h1 h2 h3 hM]
    · simp only [Raw.args, filled, dif_pos hd]
    · intro a
      match a with
      | ⟨0, _⟩ => show r.val = 0 + r.val * 1; omega
      | ⟨1, _⟩ => show (head6 c).val = 0 + (head6 c).val * 1; omega
      | ⟨2, _⟩ => show (lane c).val = 0 + (lane c).val * 1; omega
  · rw [pad_apply_of_not_inside (t := S2048x6x128) (s := S2048x6x64) _ _ _ _ _ _ _ _ 2, zero_pad]
    · simp only [Raw.args, filled, dif_neg hd, mul_zero, Finset.sum_const_zero]
    · rintro ⟨-, -, h⟩
      exact hd (by have h' : ((lane c).val - 0) / 1 < 64 := h; omega)

include h3 in
theorem v69_real (k : Fin 2048) (d : Fin 64) :
    val_main_v69 (F := Ideal) x0 x1 x2 x3 (ix2 k d) = ((∑ h, ∑ r, B.args.slope r h k * B.q r h (turnedOf d) : ℝ) : EReal) := by
  have e : ∀ j : Fin 6, val_main_v68 (F := Ideal) x0 x1 x2 x3 (ix4 0 k j d) = ((∑ r, B.args.slope r j k * B.q r j (turnedOf d) : ℝ) : EReal) := fun j => by
    rw [val_main_v68_apply, show idx_main_v68 (ix4 0 k j d) = ix4 0 k j (turnedOf d) from ?_, v64_real h0 h1 h2 h3 hM]
    funext a
    match a with
    | ⟨0, _⟩ => rfl
    | ⟨1, _⟩ => rfl
    | ⟨2, _⟩ => rfl
    | ⟨3, _⟩ => rfl
  pointwise [val_main_v69, val_main_cst_14]
  rw [sum_heads, zero_add]
  simp only [e, coe_sum]

include h3 in
theorem dkr_real (k : Fin 2048) (d : Fin 128) :
    val_main_v83 (F := Ideal) x0 x1 x2 x3 (ix2 k d) = (B.args.dkr k d : EReal) := by
  rw [Args.dkr]
  unfold val_main_v83
  by_cases hd : d.val < 64
  · rw [pad_apply_of_inside (t := S2048x128) (s := S2048x64) _ _ _ _ _ _ _ _ (ix2 k ⟨d.val, hd⟩), val_main_v82_apply, val_main_v70_apply,
      show idx_main_v70 (idx_main_v82 (ix2 k ⟨d.val, hd⟩)) = ix2 k ⟨d.val, hd⟩ from ?_, v69_real h0 h1 h2 h3 hM]
    · simp only [Raw.args, filled, dif_pos hd]
    · funext a
      match a with
      | ⟨0, _⟩ => exact Fin.ext (show (k.val * 64 + d.val) / 64 % 2048 = k.val by omega)
      | ⟨1, _⟩ => exact Fin.ext (show (k.val * 64 + d.val) % 64 = d.val by omega)
    · intro a
      match a with
      | ⟨0, _⟩ => show k.val = 0 + k.val * 1; omega
      | ⟨1, _⟩ => show d.val = 0 + d.val * 1; omega
  · rw [pad_apply_of_not_inside (t := S2048x128) (s := S2048x64) _ _ _ _ _ _ _ _ 1, zero_pad']
    · simp only [Raw.args, filled, dif_neg hd, mul_zero, Finset.sum_const_zero]
    · rintro ⟨-, -, h⟩
      exact hd (by have h' : (d.val - 0) / 1 < 64 := h; omega)

include h3 in
/-- The gradient of a head's 256 columns is the keys' and the values', each padded with zeros. -/
theorem v72_real (k : Fin 2048) (h : Fin 6) (e : Fin 256) :
    val_main_v72 (F := Ideal) x0 x1 x2 x3 (ix4 0 k h e)
      = ((if he : e.val < 128 then B.args.dkn k h ⟨e.val, he⟩ else B.args.dv k h ⟨e.val - 128, by omega⟩ : ℝ) : EReal) := by
  have z13 : ∀ i : S_.Idx, val_main_cst_13 (F := Ideal) i = ((0 : ℝ) : EReal) := fun i => by pointwise [val_main_cst_13]; rfl
  have z15 : ∀ i : S_.Idx, val_main_cst_15 (F := Ideal) i = ((0 : ℝ) : EReal) := fun i => by pointwise [val_main_cst_15]; rfl
  rw [val_main_v72_apply]
  unfold val_main_v66 val_main_v71
  by_cases he : e.val < 128
  · rw [pad_apply_of_not_inside (t := S1x2048x6x256) (s := S1x2048x6x128) _ _ _ (val_main_v44 (F := Ideal) x0 x1 x2 x3) _ _ _ _ 3,
      pad_apply_of_inside (t := S1x2048x6x256) (s := S1x2048x6x128) _ _ _ (val_main_v67 (F := Ideal) x0 x1 x2 x3) _ _ _ _ (ix4 0 k h ⟨e.val, he⟩), z13, dif_pos he,
      val_main_v67_apply, show idx_main_v67 (ix4 0 k h ⟨e.val, he⟩) = ix4 0 k h (plainOf ⟨e.val, he⟩) from ?_, v64_real h0 h1 h2 h3 hM]
    · exact (zero_add _).trans rfl
    · funext a
      match a with
      | ⟨0, _⟩ => rfl
      | ⟨1, _⟩ => rfl
      | ⟨2, _⟩ => rfl
      | ⟨3, _⟩ => rfl
    · intro a
      match a with
      | ⟨0, _⟩ => rfl
      | ⟨1, _⟩ => show k.val = 0 + k.val * 1; omega
      | ⟨2, _⟩ => show h.val = 0 + h.val * 1; omega
      | ⟨3, _⟩ => show e.val = 0 + e.val * 1; omega
    · rintro ⟨h, -⟩
      have h' : 128 ≤ e.val := h
      omega
  · rw [pad_apply_of_inside (t := S1x2048x6x256) (s := S1x2048x6x128) _ _ _ (val_main_v44 (F := Ideal) x0 x1 x2 x3) _ _ _ _ (ix4 0 k h ⟨e.val - 128, by omega⟩),
      pad_apply_of_not_inside (t := S1x2048x6x256) (s := S1x2048x6x128) _ _ _ (val_main_v67 (F := Ideal) x0 x1 x2 x3) _ _ _ _ 3, z15, dif_neg he,
      v44_real h0 h1 h2 h3 hM]
    · exact add_zero _
    · rintro ⟨-, -, h⟩
      exact he (by have h' : (e.val - 0) / 1 < 128 := h; omega)
    · intro a
      match a with
      | ⟨0, _⟩ => rfl
      | ⟨1, _⟩ => show k.val = 0 + k.val * 1; omega
      | ⟨2, _⟩ => show h.val = 0 + h.val * 1; omega
      | ⟨3, _⟩ => show e.val = 128 + (e.val - 128) * 1; omega

include h3 in
theorem dkv_real (k : Fin 2048) (c : Fin 1536) :
    val_main_v81 (F := Ideal) x0 x1 x2 x3 (ix2 k c) = (B.args.dkv k (head 12 rfl c) (lane c) : EReal) := by
  have e : idx_main_v81 (ix2 k c) = ix4 0 k ⟨c.val / 256, by omega⟩ ⟨c.val % 256, by omega⟩ := by
    funext a
    match a with
    | ⟨0, _⟩ => rfl
    | ⟨1, _⟩ => exact Fin.ext (show (k.val * 1536 + c.val) / 1536 % 2048 = k.val by omega)
    | ⟨2, _⟩ => exact Fin.ext (show (k.val * 1536 + c.val) / 256 % 6 = c.val / 256 by omega)
    | ⟨3, _⟩ => exact Fin.ext (show (k.val * 1536 + c.val) % 256 = c.val % 256 by omega)
  rw [val_main_v81_apply, e, v72_real h0 h1 h2 h3 hM, Args.dkv]
  refine congrArg Real.toEReal ?_
  by_cases he : c.val % 256 < 128
  · rw [dif_pos he, if_pos (show (head 12 rfl c).val % 2 = 0 from (show c.val / 128 % 2 = 0 by omega))]
    exact congrArg₂ (B.args.dkn k) (Fin.ext (show c.val / 256 = c.val / 128 / 2 by omega)) (Fin.ext (show c.val % 256 = c.val % 128 by omega))
  · rw [dif_neg he, if_neg (show ¬(head 12 rfl c).val % 2 = 0 from (show ¬c.val / 128 % 2 = 0 by omega))]
    exact congrArg₂ (B.args.dv k) (Fin.ext (show c.val / 256 = c.val / 128 / 2 by omega)) (Fin.ext (show c.val % 256 - 128 = c.val % 128 by omega))

end Max
end Cert.MlaRef
end
-- ==== Proof.MlaPair.lean ====
/- Latent attention and its gradients: what the two kernels leave, one after the other, is what differentiating the attention leaves. -/
module

public import proofs.«01_k».proof.Defs
public import proofs.«01_k».proof.Proof.MlaRef
public import proofs.«01_k».proof.Proof.Gen.MlaRefIdeal.Run
public import proofs.«01_k».proof.Proof.Gen.Pre_mla_finite

@[expose] public section

set_option maxRecDepth 16384

noncomputable section

namespace Cert.MlaIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Reals Cert.Cols Cert.Softmax Cert.MlaIdeal Cert.MlaIdeal.Gen
open Cert.MlaRef (Raw plainOf turnedOf keyCol valueCol filled)
open Idealize.ShloMosaic (ix1 ix2 ix3 ix4 ix5)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in a type
set_option backward.isDefEq.respectTransparency.types false in
/-- Every buffer of the program ends with what the two regions leave: the launch over the host stretches and the regions. -/
theorem run : θ_run defs (onTc (τ := τ) (main (F := Ideal))) ⟨m, fun _ => 0, ρ⟩ (fun r => ∀ c : Dev nD, ∀ b ∈ Pipeline.ucRefs τ sig,
      r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-! What the regions are entered with: the arguments, laid out by columns, the turned parts filled up with zeros. -/

variable {m} (c : Dev nD) {B : Raw}
variable (h0 : ∀ r h d, m ((c : Thread nD τ).loc main_arg0) (ix4 0 r h d) = (B.q r h d : EReal))
  (h1 : ∀ r h d, m ((c : Thread nD τ).loc main_arg1) (ix4 0 r h d) = (B.kv r h d : EReal))
  (h2 : ∀ r d, m ((c : Thread nD τ).loc main_arg2) (ix4 0 r 0 d) = (B.kr r d : EReal))
  (h3 : ∀ r h d, m ((c : Thread nD τ).loc main_arg3) (ix3 0 r (col6 h d)) = (B.g r h d : EReal))

include h0 in
theorem q_at (r : Fin 2048) (h : Fin 6) (e : Fin 192) :
    (shapeCast S2048x6x192 (m ((c : Thread nD τ).loc main_arg0)) shapeCasts_S1x2048x6x192_S2048x6x192 : Vec Ideal S2048x6x192 .f32) (ix3 r h e) = (B.q r h e : EReal) := by
  rw [← h0 r h e]
  refine shapeCast_apply (m ((c : Thread nD τ).loc main_arg0)) shapeCasts_S1x2048x6x192_S2048x6x192 (ix3 r h e) (ix4 0 r h e) ?_
  show (S1x2048x6x192.rowMajor (ix4 0 r h e)).val = (S2048x6x192.rowMajor (ix3 r h e)).val
  rw [Shape.rowMajor_val_four, Shape.rowMajor_val_three]
  show ((0 * 2048 + r.val) * 6 + h.val) * 192 + e.val = (r.val * 6 + h.val) * 192 + e.val
  omega

include h0 in
theorem at_v0 (r : Fin 2048) (h : Fin 6) (e : Fin 192) : (W2 m ρ c (Proc.devRef .tc main_v0) : Vec Ideal S2048x6x192 .f32) (ix3 r h e) = (B.q r h e : EReal) := by
  have e0 : (W1 m ρ c (Proc.devRef .tc main_v0) : Vec Ideal S2048x6x192 .f32) = shapeCast S2048x6x192 (m ((c : Thread nD τ).loc main_arg0)) shapeCasts_S1x2048x6x192_S2048x6x192 := by
    show StableHlo.after hostOps0 (W0 m ρ c) (Proc.devRef .tc main_v0) = _
    after_results_simp <;> rfl
  rw [W2_of m ρ c main_v0 (by decide), e0]
  exact q_at c h0 r h e

include h0 in
theorem at_v1 (r : Fin 2048) (h : Fin 6) (d : Fin 64) : (W1 m ρ c (Proc.devRef .tc main_v1) : Vec Ideal S2048x6x64 .f32) (ix3 r h d) = (B.q r h (turnedOf d) : EReal) := by
  have e1 : (W1 m ρ c (Proc.devRef .tc main_v1) : Vec Ideal S2048x6x64 .f32)
      = extractStridedSlice S2048x6x64 ![0, 0, 128] (shapeCast S2048x6x192 (m ((c : Thread nD τ).loc main_arg0)) shapeCasts_S1x2048x6x192_S2048x6x192 : Vec Ideal S2048x6x192 .f32) slices_S2048x6x192_S2048x6x64_0_0_128 := by
    show StableHlo.after hostOps0 (W0 m ρ c) (Proc.devRef .tc main_v1) = _
    after_results_simp <;> rfl
  rw [e1]
  refine Eq.trans ?_ (q_at c h0 r h (turnedOf d))
  refine congrArg (shapeCast S2048x6x192 (m ((c : Thread nD τ).loc main_arg0)) shapeCasts_S1x2048x6x192_S2048x6x192 : Vec Ideal S2048x6x192 .f32) (funext fun a => ?_)
  match a with
  | ⟨0, _⟩ => exact Fin.ext (show 0 + r.val = r.val by omega)
  | ⟨1, _⟩ => exact Fin.ext (show 0 + h.val = h.val by omega)
  | ⟨2, _⟩ => rfl

theorem zero_at (w : Valuation τ sig (Elt Ideal)) (h : (w (Proc.devRef .tc main_c) : IVec S_ 32) = constantI S_ 32 0#32) (i : S_.Idx) :
    (sitofp .f32 (w (Proc.devRef .tc main_c) : IVec S_ 32) : FVec Ideal S_ .f32) i = ((0 : ℝ) : EReal) := by
  rw [h]; exact sitofp_zero (φ := .f32)

include h0 in
theorem at_v2 (r : Fin 2048) (h : Fin 6) (d : Fin 128) : (W2 m ρ c (Proc.devRef .tc main_v2) : Vec Ideal S2048x6x128 .f32) (ix3 r h d) = (B.args.qr r h d : EReal) := by
  have ec : (W1 m ρ c (Proc.devRef .tc main_c) : IVec S_ 32) = constantI S_ 32 0#32 := by
    show StableHlo.after hostOps0 (W0 m ρ c) (Proc.devRef .tc main_c) = _
    after_results_simp <;> rfl
  have e : (W2 m ρ c (Proc.devRef .tc main_v2) : Vec Ideal S2048x6x128 .f32)
      = pad S2048x6x128 ![0, 0, 0] ![0, 0, 64] ![0, 0, 0] (W1 m ρ c (Proc.devRef .tc main_v1) : Vec Ideal S2048x6x64 .f32)
          (sitofp .f32 (W1 m ρ c (Proc.devRef .tc main_c) : IVec S_ 32) : FVec Ideal S_ .f32) pads_S2048x6x64_S2048x6x128_000_000_0640 h_S_ := by
    show StableHlo.after hostOps0_1 (W1 m ρ c) (Proc.devRef .tc main_v2) = _
    after_results_simp <;> rfl
  rw [e]
  by_cases hd : d.val < 64
  · rw [pad_apply_of_inside (t := S2048x6x128) (s := S2048x6x64) _ _ _ _ _ _ _ _ (ix3 r h ⟨d.val, hd⟩), at_v1 ρ c h0]
    · simp only [Raw.args, filled, dif_pos hd]
    · intro a
      match a with
      | ⟨0, _⟩ => show r.val = 0 + r.val * 1; omega
      | ⟨1, _⟩ => show h.val = 0 + h.val * 1; omega
      | ⟨2, _⟩ => show d.val = 0 + d.val * 1; omega
  · rw [pad_apply_of_not_inside (t := S2048x6x128) (s := S2048x6x64) _ _ _ _ _ _ _ _ 2, ec]
    · simp only [Raw.args, filled, dif_neg hd]
      exact sitofp_zero (φ := .f32)
    · rintro ⟨-, -, h⟩
      exact hd (by have h' : (d.val - 0) / 1 < 64 := h; omega)

/-- The queries' columns: the plain parts of all heads, then the turned parts. -/
theorem v7_eq : (V5 m ρ c main_v7 : Vec Ideal S2048x1536 .bf16)
    = truncf (F := Ideal) .bf16 (concatenate S2048x1536 1
        [⟨S2048x768, shapeCast S2048x768 (extractStridedSlice S2048x6x128 ![0, 0, 0] (W2 m ρ c (Proc.devRef .tc main_v0) : Vec Ideal S2048x6x192 .f32) slices_S2048x6x192_S2048x6x128_0_0_0) shapeCasts_S2048x6x128_S2048x768⟩,
         ⟨S2048x768, shapeCast S2048x768 (W2 m ρ c (Proc.devRef .tc main_v2) : Vec Ideal S2048x6x128 .f32) shapeCasts_S2048x6x128_S2048x768⟩]
        concatenates_S2048x768_S2048x768_S2048x1536_d1) bitsLt_bf16_f32 := by
  refine (W5_of m ρ c main_v7 (by decide)).trans ((W4_of m ρ c main_v7 (by decide)).trans ?_)
  show StableHlo.after hostOps0_2 (W2 m ρ c) (Proc.devRef .tc main_v7) = _
  after_results_simp <;> rfl

theorem cols_of_heads {e : EltTy} (x : Vec Ideal S2048x6x128 e) (r : Fin 2048) (h : Fin 6) (d : Fin 128) :
    (shapeCast S2048x768 x shapeCasts_S2048x6x128_S2048x768 : Vec Ideal S2048x768 e) (ix2 r (col6 h d)) = x (ix3 r h d) := by
  refine shapeCast_apply x shapeCasts_S2048x6x128_S2048x768 (ix2 r (col6 h d)) (ix3 r h d) ?_
  show (S2048x6x128.rowMajor (ix3 r h d)).val = (S2048x768.rowMajor (ix2 r (col6 h d))).val
  rw [Shape.rowMajor_val_three, Shape.rowMajor_val_two]
  show (r.val * 6 + h.val) * 128 + d.val = r.val * 768 + (128 * h.val + d.val)
  omega

include h0 in
theorem entry_qn (r : Fin 2048) (h : Fin 6) (d : Fin 128) : (V5 m ρ c main_v7 : Vec Ideal S2048x1536 .bf16) (ix2 r (col12 (plain h) d)) = (B.args.qn r h d : EReal) := by
  rw [v7_eq]
  refine (concatenate_pair_apply_left (t := S2048x1536) (s₁ := S2048x768) (s₂ := S2048x768) 1 _ _ concatenates_S2048x768_S2048x768_S2048x1536_d1 _ rfl (ix2 r (col6 h d)) ?_).trans ?_
  · intro b
    match b with
    | ⟨0, _⟩ => rfl
    | ⟨1, _⟩ => rfl
  · refine (cols_of_heads (e := .f32) _ r h d).trans ?_
    refine Eq.trans ?_ (at_v0 ρ c h0 r h (plainOf d))
    refine congrArg (W2 m ρ c (Proc.devRef .tc main_v0) : Vec Ideal S2048x6x192 .f32) (funext fun a => ?_)
    match a with
    | ⟨0, _⟩ => exact Fin.ext (show 0 + r.val = r.val by omega)
    | ⟨1, _⟩ => exact Fin.ext (show 0 + h.val = h.val by omega)
    | ⟨2, _⟩ => exact Fin.ext (show 0 + d.val = d.val by omega)

include h0 in
theorem entry_qr (r : Fin 2048) (h : Fin 6) (d : Fin 128) : (V5 m ρ c main_v7 : Vec Ideal S2048x1536 .bf16) (ix2 r (col12 (turned h) d)) = (B.args.qr r h d : EReal) := by
  rw [v7_eq]
  refine (concatenate_pair_apply_right (t := S2048x1536) (s₁ := S2048x768) (s₂ := S2048x768) 1 _ _ concatenates_S2048x768_S2048x768_S2048x1536_d1 _ rfl rfl (ix2 r (col6 h d)) ?_ ?_).trans ?_
  · intro b hb
    match b, hb with
    | ⟨0, _⟩, _ => rfl
    | ⟨1, _⟩, hb => exact absurd rfl hb
  · show 128 * h.val + d.val + 768 = 128 * (6 + h.val) + d.val
    omega
  · exact (cols_of_heads (e := .f32) _ r h d).trans (at_v2 ρ c h0 r h d)

include h1 in
theorem entry_kv (r : Fin 2048) (h : Fin 6) (e : Fin 256) (n : Fin 1536) (hn : n.val = 256 * h.val + e.val) :
    (V5 m ρ c main_v9 : Vec Ideal S2048x1536 .bf16) (ix2 r n) = (B.kv r h e : EReal) := by
  have e9 : (V5 m ρ c main_v9 : Vec Ideal S2048x1536 .bf16) = truncf (F := Ideal) .bf16 (shapeCast S2048x1536 (W2 m ρ c (Proc.devRef .tc main_arg1) : Vec Ideal S1x2048x6x256 .f32) shapeCasts_S1x2048x6x256_S2048x1536) bitsLt_bf16_f32 := by
    refine (W5_of m ρ c main_v9 (by decide)).trans ((W4_of m ρ c main_v9 (by decide)).trans ?_)
    show StableHlo.after hostOps0_2 (W2 m ρ c) (Proc.devRef .tc main_v9) = _
    after_results_simp <;> rfl
  rw [e9, ← h1 r h e, W2_args m ρ c main_arg1 (by decide)]
  refine shapeCast_apply (m ((c : Thread nD τ).loc main_arg1)) shapeCasts_S1x2048x6x256_S2048x1536 (ix2 r n) (ix4 0 r h e) ?_
  show (S1x2048x6x256.rowMajor (ix4 0 r h e)).val = (S2048x1536.rowMajor (ix2 r n)).val
  rw [Shape.rowMajor_val_four, Shape.rowMajor_val_two]
  show ((0 * 2048 + r.val) * 6 + h.val) * 256 + e.val = r.val * 1536 + n.val
  omega

include h2 in
theorem at_v10 (r : Fin 2048) (d : Fin 64) : (W3 m ρ c (Proc.devRef .tc main_v10) : Vec Ideal S2048x64 .f32) (ix2 r d) = (B.kr r d : EReal) := by
  have e : (W3 m ρ c (Proc.devRef .tc main_v10) : Vec Ideal S2048x64 .f32) = shapeCast S2048x64 (W2 m ρ c (Proc.devRef .tc main_arg2) : Vec Ideal S1x2048x1x64 .f32) shapeCasts_S1x2048x1x64_S2048x64 := by
    show StableHlo.after hostOps0_2 (W2 m ρ c) (Proc.devRef .tc main_v10) = _
    after_results_simp <;> rfl
  rw [e, ← h2 r d, W2_args m ρ c main_arg2 (by decide)]
  refine shapeCast_apply (m ((c : Thread nD τ).loc main_arg2)) shapeCasts_S1x2048x1x64_S2048x64 (ix2 r d) (ix4 0 r 0 d) ?_
  show (S1x2048x1x64.rowMajor (ix4 0 r 0 d)).val = (S2048x64.rowMajor (ix2 r d)).val
  rw [Shape.rowMajor_val_four, Shape.rowMajor_val_two]
  show ((0 * 2048 + r.val) * 1 + 0) * 64 + d.val = r.val * 64 + d.val
  omega

include h2 in
theorem entry_kr (r : Fin 2048) (d : Fin 128) : (V5 m ρ c main_v12 : Vec Ideal S2048x128 .bf16) (ix2 r d) = (B.args.kr r d : EReal) := by
  have ec : (W3 m ρ c (Proc.devRef .tc main_c_0) : IVec S_ 32) = constantI S_ 32 0#32 := by
    show StableHlo.after hostOps0_2 (W2 m ρ c) (Proc.devRef .tc main_c_0) = _
    after_results_simp <;> rfl
  have e11 : (W4 m ρ c (Proc.devRef .tc main_v11) : Vec Ideal S2048x128 .f32)
      = pad S2048x128 ![0, 0] ![0, 64] ![0, 0] (W3 m ρ c (Proc.devRef .tc main_v10) : Vec Ideal S2048x64 .f32)
          (sitofp .f32 (W3 m ρ c (Proc.devRef .tc main_c_0) : IVec S_ 32) : FVec Ideal S_ .f32) pads_S2048x64_S2048x128_000_0640 h_S_ := by
    show StableHlo.after hostOps0_3 (W3 m ρ c) (Proc.devRef .tc main_v11) = _
    after_results_simp <;> rfl
  have e12 : (V5 m ρ c main_v12 : Vec Ideal S2048x128 .bf16) = truncf (F := Ideal) .bf16 (W4 m ρ c (Proc.devRef .tc main_v11) : Vec Ideal S2048x128 .f32) bitsLt_bf16_f32 := by
    show StableHlo.after hostOps0_4 (W4 m ρ c) (Proc.devRef .tc main_v12) = _
    after_results_simp <;> rfl
  rw [e12, e11]
  refine (show _ = pad S2048x128 ![0, 0] ![0, 64] ![0, 0] (W3 m ρ c (Proc.devRef .tc main_v10) : Vec Ideal S2048x64 .f32)
          (sitofp .f32 (W3 m ρ c (Proc.devRef .tc main_c_0) : IVec S_ 32) : FVec Ideal S_ .f32) pads_S2048x64_S2048x128_000_0640 h_S_ (ix2 r d) from rfl).trans ?_
  by_cases hd : d.val < 64
  · rw [pad_apply_of_inside (t := S2048x128) (s := S2048x64) _ _ _ _ _ _ _ _ (ix2 r ⟨d.val, hd⟩), at_v10 ρ c h2]
    · simp only [Raw.args, filled, dif_pos hd]
    · intro a
      match a with
      | ⟨0, _⟩ => show r.val = 0 + r.val * 1; omega
      | ⟨1, _⟩ => show d.val = 0 + d.val * 1; omega
  · rw [pad_apply_of_not_inside (t := S2048x128) (s := S2048x64) _ _ _ _ _ _ _ _ 1, ec]
    · simp only [Raw.args, filled, dif_neg hd]
      exact sitofp_zero (φ := .f32)
    · rintro ⟨-, -, h⟩
      exact hd (by have h' : (d.val - 0) / 1 < 64 := h; omega)

include h3 in
theorem entry_g (r : Fin 2048) (h : Fin 6) (d : Fin 128) : (V5 m ρ c main_v14 : Vec Ideal S2048x768 .bf16) (ix2 r (col6 h d)) = (B.args.g r h d : EReal) := by
  have e : (V5 m ρ c main_v14 : Vec Ideal S2048x768 .bf16) = truncf (F := Ideal) .bf16 (shapeCast S2048x768 (W4 m ρ c (Proc.devRef .tc main_arg3) : Vec Ideal S1x2048x768 .f32) shapeCasts_S1x2048x768_S2048x768) bitsLt_bf16_f32 := by
    show StableHlo.after hostOps0_4 (W4 m ρ c) (Proc.devRef .tc main_v14) = _
    after_results_simp <;> rfl
  rw [e, W4_args m ρ c main_arg3 (by decide)]
  refine Eq.trans ?_ (h3 r h d)
  refine shapeCast_apply (m ((c : Thread nD τ).loc main_arg3)) shapeCasts_S1x2048x768_S2048x768 (ix2 r (col6 h d)) (ix3 0 r (col6 h d)) ?_
  show (S1x2048x768.rowMajor (ix3 0 r (col6 h d))).val = (S2048x768.rowMajor (ix2 r (col6 h d))).val
  rw [Shape.rowMajor_val_three, Shape.rowMajor_val_two]
  show (0 * 2048 + r.val) * 768 + (128 * h.val + d.val) = r.val * 768 + (128 * h.val + d.val)
  omega

include h0 h1 h2 in
/-- The first region finds the arguments, -/
theorem entry : Entry (V5 m ρ) c B.args where
  qn := entry_qn ρ c h0
  qr := entry_qr ρ c h0
  kn r h d := entry_kv ρ c h1 r h (keyCol d) _ (show 128 * (2 * h.val) + d.val = 256 * h.val + d.val by omega)
  kr := entry_kr ρ c h2
  v r h d := entry_kv ρ c h1 r h (valueCol d) _ (show 128 * (2 * h.val + 1) + d.val = 256 * h.val + (128 + d.val) by omega)

include h0 h1 h2 in
theorem saved_out : V6 m ρ c main_v15_0 = ((fun i => (B.args.out (i 0) (head6 (i 1)) (lane (i 1)) : EReal)) : Vec Ideal S2048x768 .f32) :=
  (W6_arr m ρ c 5).trans (final0_5 (entry ρ c h0 h1 h2))

include h0 h1 h2 in
theorem saved_lse : V6 m ρ c main_v15_1 = ((fun i => (lse (B.args.sc (i 0) (head6 (i 1))) : EReal)) : Vec Ideal S2048x768 .f32) :=
  (W6_arr m ρ c 6).trans (final0_6 (entry ρ c h0 h1 h2))

include h0 h1 h2 h3 in
/-- and the second the same, with what the first left. -/
theorem saved : Saved (V6 m ρ) c B.args where
  qn r h d := (congrFun (W6_of m ρ c main_v7 (by decide)) _).trans (entry_qn ρ c h0 r h d)
  qr r h d := (congrFun (W6_of m ρ c main_v7 (by decide)) _).trans (entry_qr ρ c h0 r h d)
  kn r h d := (congrFun (W6_of m ρ c main_v9 (by decide)) _).trans ((entry ρ c h0 h1 h2).kn r h d)
  kr r d := (congrFun (W6_of m ρ c main_v12 (by decide)) _).trans (entry_kr ρ c h2 r d)
  v r h d := (congrFun (W6_of m ρ c main_v9 (by decide)) _).trans ((entry ρ c h0 h1 h2).v r h d)
  l r h d := (congrFun (saved_lse ρ c h0 h1 h2) (ix2 r (col6 h d))).trans (congrArg (fun a => (lse (B.args.sc r a) : EReal)) (head_col rfl h d))
  o r h d := (congrFun (saved_out ρ c h0 h1 h2) (ix2 r (col6 h d))).trans
    (congrArg₂ (fun a d => (B.args.out r a d : EReal)) (head_col rfl h d) (lane_col rfl h d))
  g r h d := (congrFun (W6_of m ρ c main_v14 (by decide)) _).trans (entry_g ρ c h3 r h d)

end Cert.MlaIdeal.Hand

namespace Cert.MlaPair

open Idealize.ShloMosaic Idealize.ShloMosaic.TcCoe Idealize.SL.Sem Cert.Reals Cert.Cols
open Cert.MlaIdeal.Hand (col6 head6 Args)
open Cert.MlaRef (Raw)
open Idealize.ShloMosaic (ix1 ix2 ix3 ix4 ix5)

/-- On finite arguments the forward kernel and the hand-written gradient leave what the attention and its derivative leave: the
    output, and the gradients of the queries' plain and turned parts, of the keys and values, and of the shared turned keys. -/
theorem algebraic : algebraic_MlaIdeal_MlaRefIdeal_pre_mla_finite := by
  intro m g m' g' hpre hag
  have hfin : ∀ c : Dev MlaIdeal.nD, ∃ B : Raw,
      (∀ z r h d, m ((c : Thread MlaIdeal.nD MlaIdeal.τ).loc MlaIdeal.main_arg0) (ix4 z r h d) = (B.q r h d : EReal))
      ∧ (∀ z r h d, m ((c : Thread MlaIdeal.nD MlaIdeal.τ).loc MlaIdeal.main_arg1) (ix4 z r h d) = (B.kv r h d : EReal))
      ∧ (∀ z r y d, m ((c : Thread MlaIdeal.nD MlaIdeal.τ).loc MlaIdeal.main_arg2) (ix4 z r y d) = (B.kr r d : EReal))
      ∧ (∀ z r h d, m ((c : Thread MlaIdeal.nD MlaIdeal.τ).loc MlaIdeal.main_arg3) (ix3 z r (col6 h d)) = (B.g r h d : EReal)) := fun c => by
    obtain ⟨p0, p1, p2, p3⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    obtain ⟨a3, e3⟩ := array_real _ _ (fun _ => rfl) p3
    refine ⟨⟨fun r h d => a0 (ix4 0 r h d), fun r h d => a1 (ix4 0 r h d), fun r d => a2 (ix4 0 r 0 d), fun r h d => a3 (ix3 0 r (col6 h d))⟩, ?_, ?_, ?_, ?_⟩
    · intro z r h d; obtain rfl := Subsingleton.elim z 0; exact congrFun e0 _
    · intro z r h d; obtain rfl := Subsingleton.elim z 0; exact congrFun e1 _
    · intro z r y d; obtain rfl := Subsingleton.elim z 0; obtain rfl := Subsingleton.elim y 0; exact congrFun e2 _
    · intro z r h d; obtain rfl := Subsingleton.elim z 0; exact congrFun e3 _
  choose B h0 h1 h2 h3 using hfin
  refine ⟨fun c i => ((B c).args.out (i 0) (head6 (i 1)) (lane (i 1)) : EReal),
    fun c i => ((B c).args.dqn (i 0) (head6 (i 1)) (lane (i 1)) : EReal),
    fun c i => ((B c).args.dqr (i 0) (head6 (i 1)) (lane (i 1)) : EReal),
    fun c i => ((B c).args.dkv (i 0) (head (N := 1536) 12 rfl (i 1)) (lane (i 1)) : EReal),
    fun c i => ((B c).args.dkr (i 0) (i 1) : EReal), ?_, ?_⟩
  · refine (θ_run MlaIdeal.defs _ _).mono (fun r h c => ?_) (MlaIdeal.Hand.run m g)
    have H := MlaIdeal.Hand.saved g c (h0 c 0) (h1 c 0) (fun r d => h2 c 0 r 0 d) (h3 c 0)
    exact ⟨(h c _ (MlaIdeal.Gen.mem_uc MlaIdeal.main_v15_0 (by decide))).trans ((MlaIdeal.Gen.W7_of m g c MlaIdeal.main_v15_0 (by decide)).trans
        (MlaIdeal.Hand.saved_out g c (h0 c 0) (h1 c 0) (fun r d => h2 c 0 r 0 d))),
      (h c _ (MlaIdeal.Gen.mem_uc MlaIdeal.main_v16_0 (by decide))).trans ((MlaIdeal.Gen.W7_arr m g c 8).trans (MlaIdeal.Hand.final1_8 H)),
      (h c _ (MlaIdeal.Gen.mem_uc MlaIdeal.main_v16_1 (by decide))).trans ((MlaIdeal.Gen.W7_arr m g c 9).trans (MlaIdeal.Hand.final1_9 H)),
      (h c _ (MlaIdeal.Gen.mem_uc MlaIdeal.main_v16_2 (by decide))).trans ((MlaIdeal.Gen.W7_arr m g c 10).trans (MlaIdeal.Hand.final1_10 H)),
      (h c _ (MlaIdeal.Gen.mem_uc MlaIdeal.main_v16_3 (by decide))).trans ((MlaIdeal.Gen.W7_arr m g c 11).trans (MlaIdeal.Hand.final1_11 H)),
      (h c _ (MlaIdeal.Gen.mem_uc MlaIdeal.main_arg0 (by decide))).trans (MlaIdeal.Gen.W7_main_arg0 m g c),
      (h c _ (MlaIdeal.Gen.mem_uc MlaIdeal.main_arg1 (by decide))).trans (MlaIdeal.Gen.W7_main_arg1 m g c),
      (h c _ (MlaIdeal.Gen.mem_uc MlaIdeal.main_arg2 (by decide))).trans (MlaIdeal.Gen.W7_main_arg2 m g c),
      (h c _ (MlaIdeal.Gen.mem_uc MlaIdeal.main_arg3 (by decide))).trans (MlaIdeal.Gen.W7_main_arg3 m g c)⟩
  · refine (θ_run MlaRefIdeal.defs _ _).mono (fun r h c => ?_) (MlaRefIdeal.Value.run m' g')
    obtain ⟨e76, e79, e80, e81, e83, k⟩ := h c
    obtain ⟨q0, q1, q2, q3⟩ := hag c
    have w0 : ∀ z r h d, m' ((c : Thread MlaRefIdeal.nD MlaRefIdeal.τ).loc MlaRefIdeal.main_arg0) (ix4 z r h d) = ((B c).q r h d : EReal) := fun z r h d => (congrFun q0 _).trans (h0 c z r h d)
    have w1 : ∀ z r h d, m' ((c : Thread MlaRefIdeal.nD MlaRefIdeal.τ).loc MlaRefIdeal.main_arg1) (ix4 z r h d) = ((B c).kv r h d : EReal) := fun z r h d => (congrFun q1 _).trans (h1 c z r h d)
    have w2 : ∀ z r y d, m' ((c : Thread MlaRefIdeal.nD MlaRefIdeal.τ).loc MlaRefIdeal.main_arg2) (ix4 z r y d) = ((B c).kr r d : EReal) := fun z r y d => (congrFun q2 _).trans (h2 c z r y d)
    have w3 : ∀ z r h d, m' ((c : Thread MlaRefIdeal.nD MlaRefIdeal.τ).loc MlaRefIdeal.main_arg3) (ix3 z r (col6 h d)) = ((B c).g r h d : EReal) := fun z r h d => (congrFun q3 _).trans (h3 c z r h d)
    obtain ⟨M, hM⟩ := MlaRef.v16_real w0 w1 w2
    refine ⟨e76.trans ((MlaRefIdeal.Read.val_main_v76_eq _ _).trans (funext fun i => ?_)),
      e79.trans ((MlaRefIdeal.Read.val_main_v79_eq _ _).trans (funext fun i => ?_)),
      e80.trans ((MlaRefIdeal.Read.val_main_v80_eq _ _).trans (funext fun i => ?_)),
      e81.trans ((MlaRefIdeal.Read.val_main_v81_eq _ _).trans (funext fun i => ?_)),
      e83.trans ((MlaRefIdeal.Read.val_main_v83_eq _ _).trans (funext fun i => ?_)), k⟩
    · rw [eq_ix2 i]; exact MlaRef.y_real w0 w1 w2 hM _ _
    · rw [eq_ix2 i]; exact MlaRef.dqn_real w0 w1 w2 w3 hM _ _
    · rw [eq_ix2 i]; exact MlaRef.dqr_real w0 w1 w2 w3 hM _ _
    · rw [eq_ix2 i]; exact MlaRef.dkv_real w0 w1 w2 w3 hM _ _
    · rw [eq_ix2 i]; exact MlaRef.dkr_real w0 w1 w2 w3 hM _ _

end Cert.MlaPair

end
-- ==== Proof.FnormValue.lean ====
/-
  The final norm's gradient kernel: a block's arithmetic is the other norms' with nothing added to the gradient, and the
  three results are read off its run.
-/
module

public import proofs.«01_k».proof.Proof.NormMath
public import proofs.«01_k».proof.Proof.Gen.FnormIdeal.Value

@[expose] public section

set_option maxRecDepth 16384

noncomputable section

namespace Cert.FnormIdeal.Hand

open Cert.FnormIdeal Cert.FnormIdeal.Gen Idealize.ShloMosaic Idealize.ShloMosaic.TcCoe Idealize.SL.Sem Cert.Reals Cert.NormMath
open Idealize.ShloMosaic.Pipeline (Dat)

/-! ## A block's arithmetic -/

section Block
variable {v0 v1 : FVec Ideal S512x2048 .f32} {v12 : FVec Ideal S1x2048 .f32}

/-- A row of the block the kernel writes: the other norms' row, with nothing added. -/
theorem pay4_real {r : Fin 512} {x dy g : Fin 2048 → ℝ} (h0 : ∀ k, v0 (ix2 r k) = x k) (h1 : ∀ k, v1 (ix2 r k) = dy k) (h12 : ∀ k, v12 (ix2 0 k) = g k)
    (j : Fin 2048) : k0_pay4 (F := Ideal) v0 v1 v12 (ix2 r j) = (NormMath.dx x dy g 0 j : EReal) :=
  (add_zero (k0_pay4 (F := Ideal) v0 v1 v12 (ix2 r j))).symm.trans
    (NormMath.pay5_real (v26 := fun _ => 0) (add := fun _ => 0) h0 h1 h12 (fun _ => rfl) j)

/-- What a block adds to the gain's gradient. -/
theorem pay1_real {v34 : FVec Ideal S1x2048 .f32} {x dy : Fin 512 → Fin 2048 → ℝ} (h0 : ∀ r k, v0 (ix2 r k) = x r k)
    (h1 : ∀ r k, v1 (ix2 r k) = dy r k) {j : Fin 2048} {a : ℝ} (ha : v34 (ix2 0 j) = a) :
    k0_pay1 (F := Ideal) v1 (k0_pay3 (F := Ideal) v0) v34 (ix2 0 j) = ((a + ∑ r, gain x dy r j : ℝ) : EReal) :=
  NormMath.pay2_real h0 h1 ha

end Block

variable (m : (ℓ : Loc nD τ sig) → Buf (Elt Ideal) ℓ)

theorem hz : (![0, 0] : Fin 2 → Nat) = fun _ => 0 := funext fun a => by fin_cases a <;> rfl

/-- The block of the gradient a point writes: the payload at the point's input blocks, in either case. -/
theorem outs_3 (c : Dev nD) (t : Fin cfg0.N) :
    (outsAt0 m c t.val t.isLt).1 = k0_pay4 (iblk m c 1 t) (iblk m c 0 t) (iblk m c 2 t) := by
  by_cases h0 : t.val % 4 = 0
  · rw [outsAt0_A m c t h0]
    dsimp only
    unfold out0_A_3
    rw [View.read_writes_eq_canon _ _ _ fun y => cover0_A_3 (y := y) ..]
    unfold kernelRun0_A
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]
  · rw [outsAt0_B m c t h0]
    dsimp only
    unfold out0_B_3
    rw [View.read_writes_eq_canon _ _ _ fun y => cover0_B_3 (y := y) ..]
    unfold kernelRun0_B
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]

/-- The narrowed block a point writes: the payload at the point's input blocks, in either case. -/
theorem outs_4 (c : Dev nD) (t : Fin cfg0.N) :
    (outsAt0 m c t.val t.isLt).2.1 = k0_pay5 (iblk m c 1 t) (iblk m c 0 t) (iblk m c 2 t) := by
  by_cases h0 : t.val % 4 = 0
  · rw [outsAt0_A m c t h0]
    dsimp only
    unfold out0_A_4
    rw [View.read_writes_eq_canon _ _ _ fun y => cover0_A_4 (y := y) ..]
    unfold kernelRun0_A
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]
  · rw [outsAt0_B m c t h0]
    dsimp only
    unfold out0_B_4
    rw [View.read_writes_eq_canon _ _ _ fun y => cover0_B_4 (y := y) ..]
    unfold kernelRun0_B
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]

theorem outs_5_first (c : Dev nD) (t : Fin cfg0.N) (h0 : t.val % 4 = 0) :
    (outsAt0 m c t.val t.isLt).2.2 = k0_pay1 (iblk m c 0 t) (k0_pay3 (iblk m c 1 t)) (k0_pay6 (F := Ideal)) := by
  rw [outsAt0_A m c t h0]
  dsimp only
  unfold out0_A_5
  rw [View.read_writes_eq_canon _ _ _ fun y => cover0_A_5 (y := y) ..]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, (hs0_2 t).read_unread, View.ld_unit_zero (S := S512x2048) hz, View.ld_unit_zero (S := S1x2048) hz]

theorem outs_5_next (c : Dev nD) (t : Fin cfg0.N) (h0 : ¬t.val % 4 = 0) :
    (outsAt0 m c t.val t.isLt).2.2 = k0_pay1 (iblk m c 0 t) (k0_pay3 (iblk m c 1 t)) (outsAt0 m c (t.val - 1) (Nat.lt_of_le_of_lt (Nat.sub_le _ _) t.isLt)).2.2 := by
  rw [outsAt0_B m c t h0]
  dsimp only
  unfold out0_B_5
  rw [View.read_writes_eq_canon _ _ _ fun y => cover0_B_5 (y := y) ..]
  unfold kernelRun0_B
  dsimp only
  sl_unfold_words
  rw [View.canon_unit_zero hz]
  simp only [View.readAt_eq_ld, (hs0_0 t).read_unread, (hs0_1 t).read_unread, (hs0_2 t).read_unread, (hs0_5 t).read_unread, View.ld_unit_zero (S := S512x2048) hz, View.ld_unit_zero (S := S1x2048) hz]

theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0
    ∧ win0_3.index t 0 = t.val ∧ win0_3.index t 1 = 0 ∧ win0_4.index t 0 = t.val ∧ win0_4.index t 1 = 0
    ∧ win0_5.index t 0 = 0 ∧ win0_5.index t 1 = 0 :=
  (by decide +kernel : ∀ t : Fin grid0.N, _)

theorem iblk0 (c : Dev nD) (t : Fin cfg0.N) (r : Fin 512) (k : Fin 2048) :
    (iblk m c 0 t : Vec Ideal S512x2048 .f32) (ix2 r k) = (m ((c : Thread nD τ).loc main_arg0) : Vec Ideal S2048x2048 .f32) (ix2 ⟨512 * t.val + r.val, by have := t.isLt; have : cfg0.N = 4 := N_0; omega⟩ k) := by
  unfold iblk
  rw [View.read_apply]
  show V m c main_arg0 _ = _
  rw [V_main_arg0]
  congr 1
  have hi := idx_facts t
  refine Shape.idx_ext₂ ?_ ?_
  · show win0_0.index t 0 * 512 + 1 * r.val = 512 * t.val + r.val; omega
  · show win0_0.index t 1 * 2048 + 1 * k.val = k.val; omega

theorem iblk1 (c : Dev nD) (t : Fin cfg0.N) (r : Fin 512) (k : Fin 2048) :
    (iblk m c 1 t : Vec Ideal S512x2048 .f32) (ix2 r k) = (m ((c : Thread nD τ).loc main_arg1) : Vec Ideal S2048x2048 .f32) (ix2 ⟨512 * t.val + r.val, by have := t.isLt; have : cfg0.N = 4 := N_0; omega⟩ k) := by
  unfold iblk
  rw [View.read_apply]
  show V m c main_arg1 _ = _
  rw [V_main_arg1]
  congr 1
  have hi := idx_facts t
  refine Shape.idx_ext₂ ?_ ?_
  · show win0_1.index t 0 * 512 + 1 * r.val = 512 * t.val + r.val; omega
  · show win0_1.index t 1 * 2048 + 1 * k.val = k.val; omega

theorem iblk2 (c : Dev nD) (t : Fin cfg0.N) (k : Fin 2048) :
    (iblk m c 2 t : Vec Ideal S1x2048 .f32) (ix2 0 k) = (m ((c : Thread nD τ).loc main_arg2) : Vec Ideal S2048 .f32) (ix1 k) := by
  unfold iblk
  rw [View.read_apply]
  show V m c main_v0 _ = _
  unfold V
  after_results
  show shapeCast S1x2048 (m (c, Proc.tc.devRef main_arg2)) shapeCasts_S2048_S1x2048 _ = _
  have hi := idx_facts t
  refine (shapeCast_apply _ _ _ (ix1 k) ?_)
  rw [Shape.rowMajor_val_one, Shape.rowMajor_val_two]
  show k.val = (win0_2.index t 0 * 1 + 1 * 0) * 2048 + (win0_2.index t 1 * 2048 + 1 * k.val)
  omega

variable {dy x : Fin 2048 → Fin 2048 → ℝ} {g : Fin 2048 → ℝ}

/-- The row of the whole array that row `r` of block `t` is. -/
abbrev row (t : Fin cfg0.N) (r : Fin 512) : Fin 2048 := ⟨512 * t.val + r.val, by have := t.isLt; have : cfg0.N = 4 := N_0; omega⟩

/-- The point whose block holds an index. -/
abbrev point (i : S2048x2048.Idx) : Fin cfg0.N := ⟨(i 0 : Nat) / 512, by have h : (i 0 : Nat) < 2048 := (i 0).isLt; have : cfg0.N = 4 := N_0; omega⟩

theorem cover_rows (i : S2048x2048.Idx) {w : Fin 2 → ℕ} (e0 : w 0 = (point i).val) (e1 : w 1 = 0) (a : Fin 2) :
    w a * S512x2048.size a ≤ (i a : Nat) ∧ (i a : Nat) < w a * S512x2048.size a + S512x2048.size a := by
  have b1 : (i 1 : Nat) < 2048 := (i 1).isLt
  have e0' : w 0 = (i 0 : Nat) / 512 := e0
  match a with
  | ⟨0, _⟩ => show w 0 * 512 ≤ (i 0 : Nat) ∧ (i 0 : Nat) < w 0 * 512 + 512; omega
  | ⟨1, _⟩ => show w 1 * 2048 ≤ (i 1 : Nat) ∧ (i 1 : Nat) < w 1 * 2048 + 2048; omega

section Rows
variable (c : Dev nD)
  (h0 : (m ((c : Thread nD τ).loc main_arg0) : Vec Ideal S2048x2048 .f32) = fun i => (dy (i 0) (i 1) : EReal))
  (h1 : (m ((c : Thread nD τ).loc main_arg1) : Vec Ideal S2048x2048 .f32) = fun i => (x (i 0) (i 1) : EReal))
  (h2 : (m ((c : Thread nD τ).loc main_arg2) : Vec Ideal S2048 .f32) = fun i => (g (i 0) : EReal))
include h0 h1 h2

/-- The gradient at row `r` of block `t`. -/
theorem block_row (t : Fin cfg0.N) (r : Fin 512) (j : Fin 2048) :
    k0_pay4 (F := Ideal) (iblk m c 1 t) (iblk m c 0 t) (iblk m c 2 t) (ix2 r j)
      = (NormMath.dx (x (row t r)) (dy (row t r)) g 0 j : EReal) :=
  pay4_real (fun k => (iblk1 m c t r k).trans (congrFun h1 _)) (fun k => (iblk0 m c t r k).trans (congrFun h0 _))
    (fun k => (iblk2 m c t k).trans (congrFun h2 _)) j

/-- The gradient array the kernel leaves. -/
theorem final_3 : (dats m 0 c).arrAt 3 cfg0.N = (fun i => (NormMath.dx (x (i 0)) (dy (i 0)) g 0 (i 1) : EReal) : Vec Ideal S2048x2048 .f32) := by
  refine (dats m 0 c).arrAt_eq_of_cover 3 _ (fun t _ => ?_) fun i => ⟨point i, flush0_3 _, ?_⟩
  · rw [Value.flushed3, outs_3]
    funext y
    rw [View.read_apply]
    have he : ((cfg0.win 3).blk t).view.emb y = ix2 (row t (y 0)) (y 1) := by
      have hi := idx_facts t
      refine Shape.idx_ext₂ ?_ ?_
      · show win0_3.index t 0 * 512 + 1 * (y 0).val = 512 * t.val + (y 0).val; omega
      · show win0_3.index t 1 * 2048 + 1 * (y 1).val = (y 1).val; omega
    rw [he]
    exact (congrArg _ (eq_ix2 y)).trans (block_row m c h0 h1 h2 t (y 0) (y 1))
  · show i ∈ ((View.whole main_v1_0).slice (win0_3.rect (point i))).set
    rw [View.set_slice_whole, Rect.mem_set_unit]
    exact cover_rows i (idx_facts (point i)).2.2.2.2.2.2.1 (idx_facts (point i)).2.2.2.2.2.2.2.1

/-- The same gradient, narrowed. -/
theorem final_4 : (dats m 0 c).arrAt 4 cfg0.N = (fun i => (NormMath.dx (x (i 0)) (dy (i 0)) g 0 (i 1) : EReal) : Vec Ideal S2048x2048 .bf16) := by
  refine (dats m 0 c).arrAt_eq_of_cover 4 _ (fun t _ => ?_) fun i => ⟨point i, flush0_4 _, ?_⟩
  · rw [Value.flushed4, outs_4]
    funext y
    rw [View.read_apply]
    have he : ((cfg0.win 4).blk t).view.emb y = ix2 (row t (y 0)) (y 1) := by
      have hi := idx_facts t
      refine Shape.idx_ext₂ ?_ ?_
      · show win0_4.index t 0 * 512 + 1 * (y 0).val = 512 * t.val + (y 0).val; omega
      · show win0_4.index t 1 * 2048 + 1 * (y 1).val = (y 1).val; omega
    rw [he]
    exact (congrArg _ (eq_ix2 y)).trans (block_row m c h0 h1 h2 t (y 0) (y 1))
  · show i ∈ ((View.whole main_v1_1).slice (win0_4.rect (point i))).set
    rw [View.set_slice_whole, Rect.mem_set_unit]
    exact cover_rows i (idx_facts (point i)).2.2.2.2.2.2.2.2.1 (idx_facts (point i)).2.2.2.2.2.2.2.2.2.1

omit h2 in
/-- The gain's gradient after point `n`: the rows of the blocks so far. -/
theorem acc_5 (j : Fin 2048) : ∀ (n : ℕ) (h : n < cfg0.N),
    (outsAt0 m c n h).2.2 (ix2 0 j) = ((∑ s ∈ Finset.range (n + 1), ∑ r : Fin 512, gain x dy (Fin.ofNat 2048 (512 * s + r.val)) j : ℝ) : EReal) := by
  have hp : ∀ (t : Fin cfg0.N) (v : FVec Ideal S1x2048 .f32) (a : ℝ), v (ix2 0 j) = a →
      k0_pay1 (F := Ideal) (iblk m c 0 t) (k0_pay3 (F := Ideal) (iblk m c 1 t)) v (ix2 0 j)
        = ((a + ∑ r : Fin 512, gain x dy (Fin.ofNat 2048 (512 * t.val + r.val)) j : ℝ) : EReal) := fun t v a hv => by
    have hr : ∀ r : Fin 512, Fin.ofNat 2048 (512 * t.val + r.val) = row t r := fun r =>
      Fin.ext (Nat.mod_eq_of_lt (row t r).isLt)
    simp only [hr]
    exact pay1_real (fun r k => (iblk1 m c t r k).trans (congrFun h1 _)) (fun r k => (iblk0 m c t r k).trans (congrFun h0 _)) hv
  intro n
  induction n with
  | zero =>
    intro h
    rw [outs_5_first m c ⟨0, h⟩ rfl, hp ⟨0, h⟩ _ 0 (by pointwise [k0_pay6]; rfl), Finset.sum_range_one, zero_add]
  | succ n ih =>
    intro h
    have hN : cfg0.N = 4 := N_0
    rw [Finset.sum_range_succ (n := n + 1)]
    exact (congrFun (outs_5_next m c ⟨n + 1, h⟩ (by dsimp only; omega)) _).trans (hp ⟨n + 1, h⟩ _ _ (ih (n.lt_succ_self.trans h)))

omit h2 in
/-- The gain's gradient the kernel leaves. -/
theorem final_5 : (dats m 0 c).arrAt 5 cfg0.N = (fun i => ((∑ r, gain x dy r (i 1) : ℝ) : EReal) : Vec Ideal S1x2048 .f32) := by
  have hN : cfg0.N = 4 := N_0
  have hl : 3 < cfg0.N := by omega
  refine (dats m 0 c).arrAt_eq_of_cover 5 _ (fun t hf => ?_) fun (i : S1x2048.Idx) => ⟨⟨3, hl⟩, (flush0_5 _).mpr rfl, ?_⟩
  · have h3 : t.val = 3 := by have := (flush0_5 t).mp hf; have := t.isLt; omega
    rw [Value.flushed5]
    funext y
    rw [View.read_apply]
    have he : ((cfg0.win 5).blk t).view.emb y = ix2 0 (y 1) := by
      have hi := idx_facts t
      have : (y 0).val < 1 := (y 0).isLt
      refine Shape.idx_ext₂ ?_ ?_
      · show win0_5.index t 0 * 1 + 1 * (y 0).val = 0; omega
      · show win0_5.index t 1 * 2048 + 1 * (y 1).val = (y 1).val; omega
    rw [he]
    have hy : y = ix2 0 (y 1) := Shape.idx_ext₂ (by have : (y 0).val < 1 := (y 0).isLt; show (y 0).val = 0; omega) rfl
    refine (congrArg _ hy).trans ((acc_5 m c h0 h1 (y 1) t.val t.isLt).trans ?_)
    show _ = ((∑ r, gain x dy r (y 1) : ℝ) : EReal)
    rw [h3, Finset.sum_range, Fin.sum_univ_tiles 4 512 rfl]
    refine congrArg _ (Finset.sum_congr rfl fun s _ => Finset.sum_congr rfl fun r _ => congrArg (gain x dy · (y 1)) (Fin.ext ?_))
    show (512 * s.val + r.val) % 2048 = s.val * 512 + r.val
    omega
  · show i ∈ ((View.whole main_v1_2).slice (win0_5.rect ⟨3, hl⟩)).set
    rw [View.set_slice_whole, Rect.mem_set_unit]
    have hi := idx_facts ⟨3, hl⟩
    have b0 : (i 0 : Nat) < 1 := (i 0).isLt
    have b1 : (i 1 : Nat) < 2048 := (i 1).isLt
    intro a
    match a with
    | ⟨0, _⟩ =>
      show win0_5.index ⟨3, _⟩ 0 * 1 ≤ (i 0 : Nat) ∧ (i 0 : Nat) < win0_5.index ⟨3, _⟩ 0 * 1 + 1
      omega
    | ⟨1, _⟩ =>
      show win0_5.index ⟨3, _⟩ 1 * 2048 ≤ (i 1 : Nat) ∧ (i 1 : Nat) < win0_5.index ⟨3, _⟩ 1 * 2048 + 2048
      omega

end Rows

end Cert.FnormIdeal.Hand

end
-- ==== Proof.FnormPair.lean ====
/- The final norm's gradient: the kernel's three results are the reference's, on finite arguments. -/
module

public import proofs.«01_k».proof.Defs
public import proofs.«01_k».proof.Proof.FnormValue
public import proofs.«01_k».proof.Proof.Gen.FnormRefIdeal.Run
public import proofs.«01_k».proof.Proof.Gen.FnormRefIdeal.Read
public import proofs.«01_k».proof.Proof.Gen.Pre_fnorm_finite

@[expose] public section

set_option maxRecDepth 16384

noncomputable section

namespace Cert.FnormPair

open Idealize.ShloMosaic Idealize.ShloMosaic.TcCoe Idealize.SL.Sem Cert.Reals Cert.NormMath
open Idealize.ShloMosaic (ix1 ix2)

section Reference
open Cert.FnormRefIdeal Cert.FnormRefIdeal.Gen Cert.FnormRefIdeal.Read

variable {x0 x1 : FVec Ideal S2048x2048 .f32} {x2 : FVec Ideal S2048 .f32} {dy x : Fin 2048 → Fin 2048 → ℝ} {g : Fin 2048 → ℝ}

/-- The reference's gradient of one entry. -/
theorem v35_real (h0 : ∀ r k, x0 (ix2 r k) = dy r k) (h1 : ∀ r k, x1 (ix2 r k) = x r k) (h2 : ∀ k, x2 (ix1 k) = g k) (r j : Fin 2048) :
    val_main_v35 (F := Ideal) x0 x1 x2 (ix2 r j) = (dx (x r) (dy r) g 0 j : EReal) := by
  have h7 : ∀ z : Fin 1, val_main_v7 (F := Ideal) x1 (ix2 r z) = (rms (x r) : EReal) := v7_real h1 r
  have h10 : ∀ z : Fin 1, val_main_v10 (F := Ideal) x1 (ix2 r z) = ((-(1 / 2) * rms (x r) ^ 3 : ℝ) : EReal) := v10_real h1 r
  pointwise [val_main_v35, val_main_v34, val_main_v33, val_main_v32, val_main_v31, val_main_v30, val_main_v29,
    val_main_v28, val_main_v27, val_main_v26, val_main_v25, val_main_v24, val_main_v23, val_main_v22, val_main_v20,
    val_main_v19, val_main_v13, val_main_cst_5, val_main_cst_6, val_main_cst_7]
  simp only [h0, h1, h2, h7, h10, ← EReal.coe_mul, coe_sum, ofBits_2048, div_real (b := 2048) (by norm_num), ← EReal.coe_add]
  have hs : ∑ k, dy r k * g k * (x r k * rms (x r)) = rms (x r) * ∑ k, x r k * (dy r k * g k) := by
    rw [Finset.mul_sum]; exact Finset.sum_congr rfl fun k _ => by ring
  simp only [Fin.sum_univ_one, dx, hs]
  exact congrArg _ (by ring)

/-- The reference's gradient of the gain. -/
theorem v37_real (h0 : ∀ r k, x0 (ix2 r k) = dy r k) (h1 : ∀ r k, x1 (ix2 r k) = x r k) (z : Fin 1) (j : Fin 2048) :
    val_main_v37 (F := Ideal) x0 x1 (ix2 z j) = ((∑ r, gain x dy r j : ℝ) : EReal) :=
  v38_real h0 h1 z j

end Reference

/-- On finite arguments the final norm's hand-written gradient leaves what differentiating the norm leaves: the gradient, the same
    narrowed, and the gain's gradient. -/
theorem algebraic : algebraic_FnormIdeal_FnormRefIdeal_pre_fnorm_finite := by
  intro m g m' g' hpre hag
  have hfin : ∀ c : Dev FnormIdeal.nD, ∃ (dy x : Fin 2048 → Fin 2048 → ℝ) (gn : Fin 2048 → ℝ),
      (m ((c : Thread FnormIdeal.nD FnormIdeal.τ).loc FnormIdeal.main_arg0) = fun i => (dy (i 0) (i 1) : EReal))
      ∧ (m ((c : Thread FnormIdeal.nD FnormIdeal.τ).loc FnormIdeal.main_arg1) = fun i => (x (i 0) (i 1) : EReal))
      ∧ (m ((c : Thread FnormIdeal.nD FnormIdeal.τ).loc FnormIdeal.main_arg2) = fun i => (gn (i 0) : EReal)) := fun c => by
    obtain ⟨p0, p1, p2⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    refine ⟨fun r k => a0 (ix2 r k), fun r k => a1 (ix2 r k), fun k => a2 (ix1 k), ?_, ?_, ?_⟩
    · exact e0.trans (funext fun i => congrArg (fun i => (a0 i : EReal)) (eq_ix2 i))
    · exact e1.trans (funext fun i => congrArg (fun i => (a1 i : EReal)) (eq_ix2 i))
    · exact e2.trans (funext fun i => congrArg (fun i => (a2 i : EReal)) (eq_ix1 i))
  choose dy x gn h0 h1 h2 using hfin
  refine ⟨fun c i => (dx (x c (i 0)) (dy c (i 0)) (gn c) 0 (i 1) : EReal),
    fun c i => (dx (x c (i 0)) (dy c (i 0)) (gn c) 0 (i 1) : EReal),
    fun c i => ((∑ r, gain (x c) (dy c) r (i 1) : ℝ) : EReal), ?_, ?_⟩
  · refine (θ_run FnormIdeal.defs _ _).mono (fun r h c => ?_) (FnormIdeal.Value.run_blocks m g)
    obtain ⟨e3, e4, e5, k⟩ := h c
    exact ⟨e3.trans (FnormIdeal.Hand.final_3 m c (h0 c) (h1 c) (h2 c)),
      e4.trans (FnormIdeal.Hand.final_4 m c (h0 c) (h1 c) (h2 c)), e5.trans (FnormIdeal.Hand.final_5 m c (h0 c) (h1 c)), k⟩
  · refine (θ_run FnormRefIdeal.defs _ _).mono (fun r h c => ?_) (FnormRefIdeal.Value.run m' g')
    obtain ⟨e35, e36, e37, k⟩ := h c
    obtain ⟨q0, q1, q2⟩ := hag c
    have w0 : ∀ r k, m' ((c : Thread FnormRefIdeal.nD FnormRefIdeal.τ).loc FnormRefIdeal.main_arg0) (ix2 r k) = (dy c r k : EReal) := fun r k => congrFun (q0.trans (h0 c)) _
    have w1 : ∀ r k, m' ((c : Thread FnormRefIdeal.nD FnormRefIdeal.τ).loc FnormRefIdeal.main_arg1) (ix2 r k) = (x c r k : EReal) := fun r k => congrFun (q1.trans (h1 c)) _
    have w2 : ∀ k, m' ((c : Thread FnormRefIdeal.nD FnormRefIdeal.τ).loc FnormRefIdeal.main_arg2) (ix1 k) = (gn c k : EReal) := fun k => congrFun (q2.trans (h2 c)) _
    refine ⟨e35.trans ((FnormRefIdeal.Read.val_main_v35_eq _ _ _).trans (funext fun i => ?_)),
      e36.trans ((FnormRefIdeal.Read.val_main_v36_eq _ _ _).trans (funext fun i => ?_)),
      e37.trans ((FnormRefIdeal.Read.val_main_v37_eq _ _).trans (funext fun i => ?_)), k⟩
    · rw [eq_ix2 i]; exact v35_real w0 w1 w2 _ _
    · rw [eq_ix2 i]; exact v35_real w0 w1 w2 _ _
    · rw [eq_ix2 i]; exact v37_real w0 w1 _ _

end Cert.FnormPair

end
-- ==== Proof.LossPair.lean ====
/-
  The loss and the gradient it starts the backward pass with. Nothing here needs finite arguments: a square is not negative
  on the extended reals either, so the constant the sum is scaled by may be moved inside it, and the constants themselves
  are powers of two.
-/
module

public import proofs.«01_k».proof.Defs
public import proofs.«01_k».proof.Proof.Reals
public import proofs.«01_k».proof.Proof.Gen.LossIdeal.Frame
public import proofs.«01_k».proof.Proof.Gen.LossRefIdeal.Run
public import proofs.«01_k».proof.Proof.Gen.LossRefIdeal.Read

@[expose] public section

set_option maxRecDepth 16384

noncomputable section

namespace Cert.LossPair

open Idealize.ShloMosaic Cert.Reals
open Idealize.ShloMosaic (ix1 ix2)

/-- A square is not negative, infinite or not. -/
theorem square_nonneg (x : EReal) : 0 ≤ x * x := by
  induction x with
  | bot => simp
  | coe r => rw [← EReal.coe_mul]; exact EReal.coe_nonneg.mpr (mul_self_nonneg r)
  | top => simp

/-- A factor of a sum of numbers that are not negative, moved inside. -/
theorem sum_mul_nonneg {ι : Type*} (s : Finset ι) (f : ι → EReal) (hf : ∀ i, 0 ≤ f i) (a : EReal) : (∑ i ∈ s, f i) * a = ∑ i ∈ s, f i * a := by
  classical
  induction s using Finset.induction_on with
  | empty => simp
  | insert i s hi ih =>
    rw [Finset.sum_insert hi, Finset.sum_insert hi, EReal.right_distrib_of_nonneg (hf i) (Finset.sum_nonneg fun k _ => hf k), ih]

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num
theorem ofBits_inv4096 : Ideal.ofBits .f32 0x39800000#32 = ((1 / 4096 : ℝ) : EReal) := by
  simp [Ideal.ofBits, Ideal.ieee, -EReal.coe_mul]; norm_num

/-- The squared differences of a row, one column of them. -/
def sq {n : ℕ} (y t : Fin n → Fin 2048 → EReal) (r : Fin n) (j : Fin 2048) : EReal := (y r j - t r j) * (y r j - t r j)

/-- The loss: half the sum over the rows of the mean square. -/
def loss (y t : Fin 2048 → Fin 2048 → EReal) : EReal := (∑ j, ∑ r, sq y t r j) * ((1 / 4096 : ℝ) : EReal)

/-- Its slope in one entry of `y`. -/
def slope (a b : EReal) : EReal := (a - b) * ((1 / 2048 : ℝ) : EReal)

section Reference
open Cert.LossRefIdeal Cert.LossRefIdeal.Gen Cert.LossRefIdeal.Read

variable (x0 x1 : FVec Ideal S2048x2048 .f32)

theorem v8_eq (i : S_.Idx) : val_main_v8 (F := Ideal) x0 x1 i = loss (fun r j => x0 (ix2 r j)) (fun r j => x1 (ix2 r j)) := by
  have h4 : ∀ r : Fin 2048, val_main_v4 (F := Ideal) x0 x1 (ix1 r) = ∑ j, sq (fun r j => x0 (ix2 r j)) (fun r j => x1 (ix2 r j)) r j := fun r => by
    pointwise [val_main_v4, val_main_v1, val_main_v0, val_main_cst_0]
    rfl
  have h7 : val_main_v7 (F := Ideal) x0 x1 i = ∑ r : Fin 2048, Ideal.div (∑ j, sq (fun r j => x0 (ix2 r j)) (fun r j => x1 (ix2 r j)) r j) ((2048 : ℝ) : EReal) := by
    rw [val_main_v7_apply]
    have hz : ∀ i : S_.Idx, val_main_cst_2 (F := Ideal) i = 0 := fun i => Ideal.ofBits_zero .f32
    have h6 : ∀ r : Fin 2048, val_main_v6 (F := Ideal) x0 x1 (ix1 r)
        = Ideal.div (∑ j, sq (fun r j => x0 (ix2 r j)) (fun r j => x1 (ix2 r j)) r j) ((2048 : ℝ) : EReal) := fun r => by
      rw [val_main_v6_apply, h4, val_main_v5_apply, val_main_cst_1_apply, ← ofBits_2048]
      rfl
    rw [hz, zero_add, sum_idx1]
    exact Finset.sum_congr rfl fun r _ => h6 r
  rw [val_main_v8_apply, h7, val_main_cst_3_apply]
  show Ideal.ofBits .f32 0x3F000000#32 * _ = _
  rw [ofBits_half]
  simp only [Ideal.div_coe (show (2048 : ℝ) ≠ 0 by norm_num)]
  rw [← sum_mul_nonneg _ (fun r => ∑ j, sq (fun r j => x0 (ix2 r j)) (fun r j => x1 (ix2 r j)) r j) (fun r => Finset.sum_nonneg fun j _ => square_nonneg _), loss, mul_comm, mul_assoc, ← EReal.coe_mul, Finset.sum_comm]
  norm_num

theorem v14_eq (r j : Fin 2048) : val_main_v14 (F := Ideal) x0 x1 (ix2 r j) = slope (x0 (ix2 r j)) (x1 (ix2 r j)) := by
  pointwise [val_main_v14, val_main_v13, val_main_v12, val_main_v11, val_main_v10, val_main_v9, val_main_v3, val_main_v2, val_main_v0,
    val_main_cst, val_main_cst_4, val_main_cst_5, val_main_cst_6]
  simp only [ofBits_half, ofBits_one, ofBits_two, ofBits_2048, ← EReal.coe_mul, div_real (b := 2048) (by norm_num)]
  rw [← mul_assoc, ← EReal.coe_mul, mul_comm, slope]
  norm_num
end Reference

section Kernel
open Cert.LossIdeal Cert.LossIdeal.Gen Idealize.ShloMosaic.TcCoe Idealize.SL.Sem
open Idealize.ShloMosaic.Pipeline (Dat)

theorem pay3_eq (v3 v4 : FVec Ideal S512x2048 .f32) (r : Fin 512) (j : Fin 2048) :
    k0_pay3 (F := Ideal) v3 v4 (ix2 r j) = slope (v3 (ix2 r j)) (v4 (ix2 r j)) := by
  pointwise [k0_pay3, k0_pay2]
  rw [ofBits_inv2048]; rfl

theorem pay4_eq (v3 v4 : FVec Ideal S512x2048 .f32) (v9 : FVec Ideal S1x2048 .f32) (j : Fin 2048) :
    k0_pay4 (F := Ideal) v3 v4 v9 (ix2 0 j) = v9 (ix2 0 j) + ∑ r, sq (fun r j => v3 (ix2 r j)) (fun r j => v4 (ix2 r j)) r j := by
  pointwise [k0_pay4, k0_pay2]
  rfl

theorem pay5_eq (v20 : FVec Ideal S1x2048 .f32) (z : Fin 1) (l : Fin 128) :
    k0_pay5 (F := Ideal) v20 (ix2 z l) = (∑ j, v20 (ix2 0 j)) * ((1 / 4096 : ℝ) : EReal) := by
  pointwise [k0_pay5]
  rw [ofBits_inv4096]

variable (m : (ℓ : Loc nD τ sig) → Buf (Elt Ideal) ℓ)

theorem hz : (![0, 0] : Fin 2 → Nat) = fun _ => 0 := funext fun a => by fin_cases a <;> rfl

/-- The block of slopes a point writes. -/
theorem outs_3 (c : Dev nD) (t : Fin cfg0.N) :
    (outsAt0 m c t.val t.isLt).2.1 = k0_pay3 (iblk m c 0 t) (iblk m c 1 t) := by
  have hN : cfg0.N = 4 := N_0
  have hlt := t.isLt
  by_cases h0 : t.val % 4 = 0
  · rw [outsAt0_A m c t h0 (by omega)]
    dsimp only
    unfold out0_A_3
    rw [View.read_writes_eq_canon _ _ _ fun y => cover0_A_3 (y := y) ..]
    unfold kernelRun0_A
    dsimp only
    sl_unfold_words
    rw [View.canon_unit_zero hz]
    simp only [View.readAt_eq_ld, (hs0_0 t).read_unread, (hs0_1 t).read_unread, View.ld_unit_zero (S := S512x2048) hz]
  by_cases h1 : t.val % 4 = 3
  · rw [outsAt0_C m c t h0 h1]
    dsimp only
    unfold out0_C_3
    rw [View.read_writes_eq_canon _ _ _ fun y => cover0_C_3 (y := y) ..]
    unfold kernelRun0_C
    dsimp only
    sl_unfold_words
    rw [View.canon_unit_zero hz]
    simp only [View.readAt_eq_ld, (hs0_0 t).read_unread, (hs0_1 t).read_unread, View.ld_unit_zero (S := S512x2048) hz]
  · rw [outsAt0_B m c t h0 h1]
    dsimp only
    unfold out0_B_3
    rw [View.read_writes_eq_canon _ _ _ fun y => cover0_B_3 (y := y) ..]
    unfold kernelRun0_B
    dsimp only
    sl_unfold_words
    rw [View.canon_unit_zero hz]
    simp only [View.readAt_eq_ld, (hs0_0 t).read_unread, (hs0_1 t).read_unread, View.ld_unit_zero (S := S512x2048) hz]

/-- The sums of squares the first point leaves in the scratch row. -/
theorem acc_first (c : Dev nD) (t : Fin cfg0.N) (h0 : t.val % 4 = 0) :
    (outsAt0 m c t.val t.isLt).2.2 = k0_pay4 (iblk m c 0 t) (iblk m c 1 t) (k0_pay1 (F := Ideal)) := by
  rw [outsAt0_A m c t h0 (by omega)]
  dsimp only
  unfold sout0_A_0
  rw [View.read_writes_eq_canon _ _ _ fun y => scover0_A_0 (y := y) ..]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, View.ld_unit_zero (S := S512x2048) hz, View.ld_unit_zero (S := S1x2048) hz]

/-- What a later point makes of them. -/
theorem acc_next (c : Dev nD) (t : Fin cfg0.N) (h0 : ¬t.val % 4 = 0) :
    (outsAt0 m c t.val t.isLt).2.2 = k0_pay4 (iblk m c 0 t) (iblk m c 1 t) (outsAt0 m c (t.val - 1) (Nat.lt_of_le_of_lt (Nat.sub_le _ _) t.isLt)).2.2 := by
  by_cases h1 : t.val % 4 = 3
  · rw [outsAt0_C m c t h0 h1]
    dsimp only
    unfold sout0_C_0
    rw [View.read_writes_eq_canon _ _ _ fun y => scover0_C_0 (y := y) ..]
    unfold kernelRun0_C
    dsimp only
    sl_unfold_words
    rw [View.canon_unit_zero hz]
    simp only [View.readAt_eq_ld, (hs0_0 t).read_unread, (hs0_1 t).read_unread, (Memref.isWhole_whole _).read_unread, View.ld_unit_zero (S := S512x2048) hz, View.ld_unit_zero (S := S1x2048) hz]
  · rw [outsAt0_B m c t h0 h1]
    dsimp only
    unfold sout0_B_0
    rw [View.read_writes_eq_canon _ _ _ fun y => scover0_B_0 (y := y) ..]
    unfold kernelRun0_B
    dsimp only
    sl_unfold_words
    rw [View.canon_unit_zero hz]
    simp only [View.readAt_eq_ld, (hs0_0 t).read_unread, (hs0_1 t).read_unread, (Memref.isWhole_whole _).read_unread, View.ld_unit_zero (S := S512x2048) hz, View.ld_unit_zero (S := S1x2048) hz]

/-- The loss the last point writes: the row of sums the point itself leaves, added up. -/
theorem outs_2 (c : Dev nD) (t : Fin cfg0.N) (h1 : t.val % 4 = 3) :
    (outsAt0 m c t.val t.isLt).1 = k0_pay5 (outsAt0 m c t.val t.isLt).2.2 := by
  have h0 : ¬t.val % 4 = 0 := by omega
  rw [acc_next m c t h0, outsAt0_C m c t h0 h1]
  dsimp only
  unfold out0_C_2
  rw [View.read_writes_eq_canon _ _ _ fun y => cover0_C_2 (y := y) ..]
  unfold kernelRun0_C
  dsimp only
  sl_unfold_words
  rw [View.canon_unit_zero hz, View.readCov_unit_zero (S := S1x2048) _ hz]
  simp only [View.readAt_eq_ld, (hs0_0 t).read_unread, (hs0_1 t).read_unread, (Memref.isWhole_whole _).read_unread, View.ld_unit_zero (S := S512x2048) hz, View.ld_unit_zero (S := S1x2048) hz]

theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 :=
  (by decide +kernel : ∀ t : Fin grid0.N, _)

/-- The row of the whole array that row `r` of block `t` is. -/
abbrev row (t : Fin cfg0.N) (r : Fin 512) : Fin 2048 := ⟨512 * t.val + r.val, by have := t.isLt; have : cfg0.N = 4 := N_0; omega⟩

variable (c : Dev nD)

/-- The predictions and the targets, as functions of row and column. -/
abbrev ys : Fin 2048 → Fin 2048 → EReal := fun r j => (m ((c : Thread nD τ).loc main_arg0) : Vec Ideal S2048x2048 .f32) (ix2 r j)
abbrev ts : Fin 2048 → Fin 2048 → EReal := fun r j => (m ((c : Thread nD τ).loc main_arg1) : Vec Ideal S2048x2048 .f32) (ix2 r j)

theorem iblk0 (t : Fin cfg0.N) (r : Fin 512) (k : Fin 2048) : (iblk m c 0 t : Vec Ideal S512x2048 .f32) (ix2 r k) = ys m c (row t r) k := by
  unfold iblk
  rw [View.read_apply]
  show V m c main_arg0 _ = _
  rw [V_main_arg0]
  have hi := idx_facts t
  refine congrArg (m ((c : Thread nD τ).loc main_arg0) : Vec Ideal S2048x2048 .f32) (Shape.idx_ext₂ ?_ ?_)
  · show win0_0.index t 0 * 512 + 1 * r.val = 512 * t.val + r.val; omega
  · show win0_0.index t 1 * 2048 + 1 * k.val = k.val; omega

theorem iblk1 (t : Fin cfg0.N) (r : Fin 512) (k : Fin 2048) : (iblk m c 1 t : Vec Ideal S512x2048 .f32) (ix2 r k) = ts m c (row t r) k := by
  unfold iblk
  rw [View.read_apply]
  show V m c main_arg1 _ = _
  rw [V_main_arg1]
  have hi := idx_facts t
  refine congrArg (m ((c : Thread nD τ).loc main_arg1) : Vec Ideal S2048x2048 .f32) (Shape.idx_ext₂ ?_ ?_)
  · show win0_1.index t 0 * 512 + 1 * r.val = 512 * t.val + r.val; omega
  · show win0_1.index t 1 * 2048 + 1 * k.val = k.val; omega

theorem flushed_2 (t : Fin cfg0.N) : (dats m 0 c).flushed 2 t = (cfg0.win 2).cut (grid0.coords t) (outsAt0 m c t.val t.isLt).1 := by
  show (cfg0.win 2).cut (grid0.coords t) ((dats m 0 c).after 2 t) = _
  rw [after0_2]
theorem flushed_3 (t : Fin cfg0.N) : (dats m 0 c).flushed 3 t = (cfg0.win 3).cut (grid0.coords t) (outsAt0 m c t.val t.isLt).2.1 := by
  show (cfg0.win 3).cut (grid0.coords t) ((dats m 0 c).after 3 t) = _
  rw [after0_3]

/-- The array of slopes the kernel leaves. -/
theorem final_3 : (dats m 0 c).arrAt 3 cfg0.N = (fun i => slope (ys m c (i 0) (i 1)) (ts m c (i 0) (i 1)) : Vec Ideal S2048x2048 .f32) := by
  refine (dats m 0 c).arrAt_eq_of_cover 3 _ (fun t _ => ?_) fun (i : S2048x2048.Idx) =>
    ⟨⟨(i 0 : Nat) / 512, by have h : (i 0 : Nat) < 2048 := (i 0).isLt; have : cfg0.N = 4 := N_0; omega⟩, flush0_3 _, ?_⟩
  · have hi := idx_facts t
    rw [flushed_3, outs_3]
    funext y
    rw [View.read_apply]
    have he : ((cfg0.win 3).blk t).view.emb y = ix2 (row t (y 0)) (y 1) := by
      refine Shape.idx_ext₂ ?_ ?_
      · show win0_3.index t 0 * 512 + 1 * (y 0).val = 512 * t.val + (y 0).val; omega
      · show win0_3.index t 1 * 2048 + 1 * (y 1).val = (y 1).val; omega
    rw [he]
    refine (congrArg _ (eq_ix2 y)).trans ((pay3_eq _ _ (y 0) (y 1)).trans ?_)
    exact congrArg₂ slope (iblk0 m c t _ _) (iblk1 m c t _ _)
  · generalize hp : (⟨(i 0 : Nat) / 512, _⟩ : Fin cfg0.N) = p
    have hv : p.val = (i 0 : Nat) / 512 := by rw [← hp]
    have hi := idx_facts p
    have b1 : (i 1 : Nat) < 2048 := (i 1).isLt
    show i ∈ ((View.whole main_v0_1).slice (win0_3.rect p)).set
    rw [View.set_slice_whole, Rect.mem_set_unit]
    intro a
    match a with
    | ⟨0, _⟩ => show win0_3.index p 0 * 512 ≤ (i 0 : Nat) ∧ (i 0 : Nat) < win0_3.index p 0 * 512 + 512; omega
    | ⟨1, _⟩ => show win0_3.index p 1 * 2048 ≤ (i 1 : Nat) ∧ (i 1 : Nat) < win0_3.index p 1 * 2048 + 2048; omega

/-- The sums of squares after point `n`: the rows of the blocks so far. -/
theorem acc (j : Fin 2048) : ∀ (n : ℕ) (h : n < cfg0.N), (outsAt0 m c n h).2.2 (ix2 0 j)
    = ∑ s ∈ Finset.range (n + 1), ∑ r : Fin 512, sq (ys m c) (ts m c) (Fin.ofNat 2048 (512 * s + r.val)) j := by
  have hp : ∀ (t : Fin cfg0.N) (v : FVec Ideal S1x2048 .f32), k0_pay4 (F := Ideal) (iblk m c 0 t) (iblk m c 1 t) v (ix2 0 j)
      = v (ix2 0 j) + ∑ r : Fin 512, sq (ys m c) (ts m c) (Fin.ofNat 2048 (512 * t.val + r.val)) j := fun t v => by
    refine (pay4_eq _ _ v j).trans (congrArg (v (ix2 0 j) + ·) (Finset.sum_congr rfl fun r _ => ?_))
    have hr : Fin.ofNat 2048 (512 * t.val + r.val) = row t r := Fin.ext (Nat.mod_eq_of_lt (row t r).isLt)
    rw [hr]
    exact congrArg (fun d => d * d) (congrArg₂ (· - ·) (iblk0 m c t r j) (iblk1 m c t r j))
  intro n
  induction n with
  | zero =>
    intro h
    have h1 : k0_pay1 (F := Ideal) (ix2 0 j) = 0 := by pointwise [k0_pay1]
    rw [acc_first m c ⟨0, h⟩ rfl, hp ⟨0, h⟩ _, Finset.sum_range_one, h1, zero_add]
  | succ n ih =>
    intro h
    have hN : cfg0.N = 4 := N_0
    rw [Finset.sum_range_succ (n := n + 1)]
    exact (congrFun (acc_next m c ⟨n + 1, h⟩ (by dsimp only; omega)) _).trans ((hp ⟨n + 1, h⟩ _).trans
      (congrArg (· + _) (ih (n.lt_succ_self.trans h))))

/-- The row the kernel leaves: the loss in each lane. -/
theorem final_2 : (dats m 0 c).arrAt 2 cfg0.N = (fun _ => loss (ys m c) (ts m c) : Vec Ideal S1x128 .f32) := by
  have hN : cfg0.N = 4 := N_0
  have hl : 3 < cfg0.N := by omega
  refine (dats m 0 c).arrAt_eq_of_cover 2 _ (fun t hf => ?_) fun (i : S1x128.Idx) => ⟨⟨3, hl⟩, (flush0_2 _).mpr rfl, ?_⟩
  · have hm := (flush0_2 t).mp hf
    have h3 : t.val = 3 := by have := t.isLt; omega
    rw [flushed_2 m c t, outs_2 m c t hm]
    funext y
    rw [View.read_apply]
    refine (congrArg _ (eq_ix2 y)).trans ((pay5_eq _ (y 0) (y 1)).trans ?_)
    show _ = loss (ys m c) (ts m c)
    rw [loss]
    refine congrArg (· * _) (Finset.sum_congr rfl fun j _ => ?_)
    rw [acc m c j t.val t.isLt, h3, Finset.sum_range, Fin.sum_univ_tiles 4 512 rfl]
    refine Finset.sum_congr rfl fun s _ => Finset.sum_congr rfl fun r _ => congrArg (sq (ys m c) (ts m c) · j) (Fin.ext ?_)
    show (512 * s.val + r.val) % 2048 = s.val * 512 + r.val
    omega
  · show i ∈ ((View.whole main_v0_0).slice (win0_2.rect ⟨3, hl⟩)).set
    rw [View.set_slice_whole, Rect.mem_set_unit]
    have hi := idx_facts ⟨3, hl⟩
    have b0 : (i 0 : Nat) < 1 := (i 0).isLt
    have b1 : (i 1 : Nat) < 128 := (i 1).isLt
    intro a
    match a with
    | ⟨0, _⟩ => show win0_2.index ⟨3, _⟩ 0 * 1 ≤ (i 0 : Nat) ∧ (i 0 : Nat) < win0_2.index ⟨3, _⟩ 0 * 1 + 1; omega
    | ⟨1, _⟩ => show win0_2.index ⟨3, _⟩ 1 * 128 ≤ (i 1 : Nat) ∧ (i 1 : Nat) < win0_2.index ⟨3, _⟩ 1 * 128 + 128; omega

/-- The scalar the host reads off that row. -/
theorem tail_eq : Pipeline.afterTail₀ cfgs (dats m) 0 (V0 m) [hostOps1] c main_v2 = (fun _ => loss (ys m c) (ts m c) : Vec Ideal S_ .f32) := by
  unfold Pipeline.afterTail₀
  have h := Pipeline.withArrays_arr (cfgs 0).spec launch0.win.arr_inj c (V0 m c) (fun w => (dats m 0 c).arrAt w (cfgs 0).N) 2
  generalize Pipeline.withArrays (cfgs 0).spec c (V0 m c) (fun w => (dats m 0 c).arrAt w (cfgs 0).N) = W at h ⊢
  have h' : W (Proc.devRef .tc main_v0_0) = (fun _ => loss (ys m c) (ts m c) : Vec Ideal S1x128 .f32) := h.trans (final_2 m c)
  simp only [List.flatten_cons, List.flatten_nil, List.append_nil]
  after_results
  funext i
  show shapeCast S_ (extractStridedSlice S1x1 ![0, 0] (W (Proc.devRef .tc main_v0_0)) slices_S1x128_S1x1_0_0) shapeCasts_S1x1_S_ i = _
  rw [h']
  rfl
end Kernel

open Idealize.ShloMosaic.TcCoe Idealize.SL.Sem in
/-- The loss call leaves the loss and the gradient that differentiating the loss leaves, whatever the arguments. -/
theorem algebraic : algebraic_LossIdeal_LossRefIdeal := by
  intro m g m' g' _ hag
  refine ⟨fun c _ => loss (ys m c) (ts m c), fun c i => slope (ys m c (i 0) (i 1)) (ts m c (i 0) (i 1)), ?_, ?_⟩
  · refine (θ_run LossIdeal.defs _ _).mono (fun r h c => ?_) (LossIdeal.Gen.run_main m g)
    exact ⟨((h c).2 LossIdeal.main_v2 (Pipeline.mem_restRefs_of LossIdeal.main_v2 (by decide) (by decide))).trans (tail_eq m c),
      ((h c).1 3).trans (final_3 m c),
      ((h c).1 0).trans (((LossIdeal.Gen.dats m 0 c).arrAt_in 0 rfl _).trans ((LossIdeal.Gen.A_eq m c 0).trans (LossIdeal.Gen.V_main_arg0 m c))),
      ((h c).1 1).trans (((LossIdeal.Gen.dats m 0 c).arrAt_in 1 rfl _).trans ((LossIdeal.Gen.A_eq m c 1).trans (LossIdeal.Gen.V_main_arg1 m c)))⟩
  · refine (θ_run LossRefIdeal.defs _ _).mono (fun r h c => ?_) (LossRefIdeal.Value.run m' g')
    obtain ⟨e8, e14, k⟩ := h c
    obtain ⟨q0, q1⟩ := hag c
    refine ⟨e8.trans ((LossRefIdeal.Read.val_main_v8_eq _ _).trans (funext fun i => ?_)),
      e14.trans ((LossRefIdeal.Read.val_main_v14_eq _ _).trans (funext fun i => ?_)), k⟩
    · rw [v8_eq, q0, q1]
    · exact (congrArg _ (eq_ix2 i)).trans ((v14_eq _ _ (i 0) (i 1)).trans (by rw [q0, q1]))

end Cert.LossPair

end
-- ==== Proof.RopeMath.lean ====
/-
  The gradient of a rotary turn of one head, lane by lane: what the tables of the kernel hold, and that the three products it
  adds are the two a lane needs. Nothing here needs finite arguments: a product with zero is zero on the extended reals too.
-/
module

public import proofs.«01_k».proof.Defs
public import proofs.«01_k».proof.Proof.Reals
public import proofs.«01_k».proof.Proof.Gen.RopeKIdeal.Value
public import Idealize.ShloMosaic.Lib.KernelVsHost

@[expose] public section

set_option maxRecDepth 16384

noncomputable section

namespace Cert.RopeMath

open Idealize.ShloMosaic Cert.Reals
open Idealize.ShloMosaic (ix1 ix2)
open Cert.RopeKIdeal

/-- A head of 64 lanes padded with zeros to 128. -/
def wide (d : Fin 64 → EReal) (l : Fin 128) : EReal := if h : l.val < 64 then d ⟨l.val, h⟩ else 0

theorem wide_in (d : Fin 64 → EReal) (l : Fin 128) (k : Fin 64) (h : l.val = k.val) : wide d l = d k := by
  rw [wide, dif_pos (by omega)]; exact congrArg d (Fin.ext h)
theorem wide_out (d : Fin 64 → EReal) (l : Fin 128) (h : ¬l.val < 64) : wide d l = 0 := dif_neg h

/-- The gradient of a turn by the angles whose cosines are `c` and sines `s`: the turn by the opposite angles. -/
def back (c s : Fin 32 → EReal) (d : Fin 64 → EReal) (l : Fin 64) : EReal :=
  if h : l.val < 32 then d l * c ⟨l.val, h⟩ + d ⟨l.val + 32, by omega⟩ * s ⟨l.val, h⟩
  else d l * c ⟨l.val - 32, by omega⟩ + d ⟨l.val - 32, by omega⟩ * -s ⟨l.val - 32, by omega⟩

/-- What a lane is multiplied by. -/
def tabHere (c : Fin 32 → EReal) (l : Fin 128) : EReal :=
  if h : l.val < 32 then c ⟨l.val, h⟩ else if h' : l.val < 64 then c ⟨l.val - 32, by omega⟩ else 1
/-- What the lane 32 above is multiplied by. -/
def tabAbove (s : Fin 32 → EReal) (l : Fin 128) : EReal := if h : l.val < 32 then s ⟨l.val, h⟩ else 0
/-- What the lane 32 below is multiplied by. -/
def tabBelow (s : Fin 32 → EReal) (l : Fin 128) : EReal :=
  if h : 32 ≤ l.val ∧ l.val < 64 then -s ⟨l.val - 32, by omega⟩ else 0

/-- The lane 32 above, round the end. -/
abbrev above (l : Fin 128) : Fin 128 := ⟨(l.val + 128 - 96 % 128) % 128, Nat.mod_lt _ (by omega)⟩
/-- The lane 32 below, round the end. -/
abbrev below (l : Fin 128) : Fin 128 := ⟨(l.val + 128 - 32 % 128) % 128, Nat.mod_lt _ (by omega)⟩

/-- The three products the kernel adds, for a head padded with zeros. -/
theorem three_products (c s : Fin 32 → EReal) (d : Fin 64 → EReal) (l : Fin 128) :
    wide d l * tabHere c l + wide d (above l) * tabAbove s l + wide d (below l) * tabBelow s l = wide (back c s d) l := by
  have hl := l.isLt
  by_cases h' : l.val < 64
  · rw [wide_in d l ⟨l.val, h'⟩ rfl, wide_in _ l ⟨l.val, h'⟩ rfl, back]
    by_cases h : l.val < 32
    · rw [dif_pos h, tabHere, dif_pos h, tabAbove, dif_pos h, tabBelow, dif_neg (by omega), mul_zero, add_zero,
        wide_in d (above l) ⟨l.val + 32, by omega⟩ (show (l.val + 128 - 96 % 128) % 128 = l.val + 32 by omega)]
    · rw [dif_neg h, tabHere, dif_neg h, dif_pos h', tabAbove, dif_neg h, mul_zero, add_zero, tabBelow, dif_pos ⟨by omega, h'⟩,
        wide_in d (below l) ⟨l.val - 32, by omega⟩ (show (l.val + 128 - 32 % 128) % 128 = l.val - 32 by omega)]
  · rw [wide_out _ l h', wide_out _ l h', zero_mul, zero_add, tabAbove, dif_neg (by omega), mul_zero, zero_add, tabBelow,
      dif_neg (by omega), mul_zero]

section Tables

variable (T : FVec Ideal S2048x32 .f32) (r : Fin 2048) (l : Fin 128)

/-- The ones beside the cosines. -/
theorem ones_apply (h) (l : Fin 64) :
    broadcastInDim S2048x64 ![] h (constant (F := Ideal) S_ .f32 0x3F800000#32) (ix2 r l) = (1 : EReal) := by pointwise []

/-- The first table: the cosines twice, then ones. -/
theorem here_apply (O : FVec Ideal S2048x64 .f32) (hO : ∀ l, O (ix2 r l) = 1) (h) :
    concatenate S2048x128 1 [⟨S2048x32, T⟩, ⟨S2048x32, T⟩, ⟨S2048x64, O⟩] h (ix2 r l) = tabHere (fun i => T (ix2 r i)) l := by
  have hl := l.isLt
  pointwise []
  unfold tabHere
  simp only [hO]
  split_ifs <;> first | rfl | (exfalso; omega) | rw [dif_pos (show l.val < 64 by omega)]

/-- The sines between zeros, turned 32 lanes down: what multiplies the lane above. -/
theorem above_apply (O : FVec Ideal S2048x32 .f32) (O' : FVec Ideal S2048x64 .f32) (hO : ∀ l, O (ix2 r l) = 0) (hO' : ∀ l, O' (ix2 r l) = 0)
    (h h1 h2 h3) :
    concatenate S2048x128 1
      [⟨S2048x96, extractStridedSlice S2048x96 ![0, 32] (concatenate S2048x128 1 [⟨S2048x32, O⟩, ⟨S2048x32, T⟩, ⟨S2048x64, O'⟩] h) h1⟩,
       ⟨S2048x32, extractStridedSlice S2048x32 ![0, 0] (concatenate S2048x128 1 [⟨S2048x32, O⟩, ⟨S2048x32, T⟩, ⟨S2048x64, O'⟩] h) h2⟩] h3
      (ix2 r l) = tabAbove (fun i => T (ix2 r i)) l := by
  have hl := l.isLt
  pointwise []
  unfold tabAbove
  simp only [hO, hO']
  split_ifs <;> first | rfl | omega | exact congrArg T (congrArg (ix2 r) (Fin.ext (by show _ = _; simp)))

/-- The sines negated before zeros, turned 32 lanes up: what multiplies the lane below. -/
theorem below_apply (O : FVec Ideal S2048x96 .f32) (hO : ∀ l, O (ix2 r l) = 0) (h h1 h2 h3) :
    concatenate S2048x128 1
      [⟨S2048x32, extractStridedSlice S2048x32 ![0, 96] (concatenate S2048x128 1 [⟨S2048x32, Host.negf T⟩, ⟨S2048x96, O⟩] h) h1⟩,
       ⟨S2048x96, extractStridedSlice S2048x96 ![0, 0] (concatenate S2048x128 1 [⟨S2048x32, Host.negf T⟩, ⟨S2048x96, O⟩] h) h2⟩] h3
      (ix2 r l) = tabBelow (fun i => T (ix2 r i)) l := by
  have hl := l.isLt
  pointwise []
  unfold tabBelow
  simp only [hO]
  split_ifs <;> first | rfl | (exfalso; omega) | rw [dif_pos (show 32 ≤ l.val ∧ l.val < 64 by omega)]

end Tables

/-- The head the kernel stores, from the tables and the padded head it reads. -/
theorem pay_apply {c s : Fin 32 → EReal} {d : Fin 64 → EReal} (v0 v2 v4 v6 : FVec Ideal S2048x128 .f32) (r : Fin 2048)
    (h0 : ∀ l, v0 (ix2 r l) = tabHere c l) (h2 : ∀ l, v2 (ix2 r l) = tabAbove s l) (h4 : ∀ l, v4 (ix2 r l) = tabBelow s l)
    (h6 : ∀ l, v6 (ix2 r l) = wide d l) (l : Fin 128) :
    Gen.k0_pay1 (F := Ideal) v0 v2 v4 v6 (ix2 r l) = wide (back c s d) l := by
  pointwise [Gen.k0_pay1]
  simp only [h0, h2, h4, h6]
  exact three_products c s d l

end Cert.RopeMath
-- ==== Proof.RopeQPair.lean ====
/- The gradient of the rotary turn of the six query heads: the kernel's result is the reference's, on any arguments. -/
module

public import proofs.«01_k».proof.Defs
public import proofs.«01_k».proof.Proof.Cols
public import proofs.«01_k».proof.Proof.RopeMath
public import proofs.«01_k».proof.Proof.Gen.RopeQIdeal.Value
public import proofs.«01_k».proof.Proof.Gen.RopeQRefIdeal.Run
public import proofs.«01_k».proof.Proof.Gen.RopeQRefIdeal.Read

@[expose] public section

set_option maxRecDepth 16384

noncomputable section

namespace Cert.RopeQIdeal.Hand

open Cert.RopeQIdeal Cert.RopeQIdeal.Gen Idealize.ShloMosaic Idealize.ShloMosaic.TcCoe Cert.RopeMath Cert.Cols
open Cert.RopeQRefIdeal.Read (val_main_v18 val_main_v19)
open Idealize.ShloMosaic (ix1 ix2 ix3 ix4)

/-! What the host prepares. -/

section Host

variable (m : (ℓ : Loc nD τ sig) → Buf (Elt Ideal) ℓ) (c : Dev nD)

/-- The kernel's first table is built from the reference's cosines. -/
theorem table_here : (V m c main_v101 : FVec Ideal S2048x128 .f32) = concatenate S2048x128 1
    [⟨S2048x32, val_main_v18 (F := Ideal)⟩, ⟨S2048x32, val_main_v18 (F := Ideal)⟩,
     ⟨S2048x64, broadcastInDim S2048x64 ![] bcast_S_S2048x64 (constant (F := Ideal) S_ .f32 0x3F800000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- The sines between zeros, before they are turned. -/
abbrev sines : FVec Ideal S2048x128 .f32 := concatenate S2048x128 1
  [⟨S2048x32, broadcastInDim S2048x32 ![] bcast_S_S2048x32 (constant (F := Ideal) S_ .f32 0x00000000#32)⟩,
   ⟨S2048x32, val_main_v19 (F := Ideal)⟩,
   ⟨S2048x64, broadcastInDim S2048x64 ![] bcast_S_S2048x64 (constant (F := Ideal) S_ .f32 0x00000000#32)⟩]
  concatenates_S2048x32_S2048x32_S2048x64_S2048x128_d1

theorem table_above : (V m c main_v112 : FVec Ideal S2048x128 .f32) = concatenate S2048x128 1
    [⟨S2048x96, extractStridedSlice S2048x96 ![0, 32] sines slices_S2048x128_S2048x96_0_32⟩,
     ⟨S2048x32, extractStridedSlice S2048x32 ![0, 0] sines slices_S2048x128_S2048x32_0_0⟩]
    concatenates_S2048x96_S2048x32_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- The sines negated, before zeros. -/
abbrev minusSines : FVec Ideal S2048x128 .f32 := concatenate S2048x128 1
  [⟨S2048x32, Host.negf (val_main_v19 (F := Ideal))⟩,
   ⟨S2048x96, broadcastInDim S2048x96 ![] bcast_S_S2048x96 (constant (F := Ideal) S_ .f32 0x00000000#32)⟩]
  concatenates_S2048x32_S2048x96_S2048x128_d1

theorem table_below : (V m c main_v113 : FVec Ideal S2048x128 .f32) = concatenate S2048x128 1
    [⟨S2048x32, extractStridedSlice S2048x32 ![0, 96] minusSines slices_S2048x128_S2048x32_0_96⟩,
     ⟨S2048x96, extractStridedSlice S2048x96 ![0, 0] minusSines slices_S2048x128_S2048x96_0_0⟩]
    concatenates_S2048x32_S2048x96_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem padded_eq : (V m c main_v2 : FVec Ideal S2048x768 .f32) = shapeCast S2048x768 (pad S2048x6x128 ![0, 0, 0] ![0, 0, 64] ![0, 0, 0]
    (shapeCast S2048x6x64 (m ((c : Thread nD τ).loc main_arg0) : FVec Ideal S1x2048x6x64 .f32) shapeCasts_S1x2048x6x64_S2048x6x64)
    (sitofp .f32 (constantI S_ 32 0#32) : FVec Ideal S_ .f32) pads_S2048x6x64_S2048x6x128_000_000_0640 h_S_)
    shapeCasts_S2048x6x128_S2048x768 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

end Host

/-- The head of one of the 768 columns. -/
abbrev head6 : Fin 768 → Fin 6 := head (N := 768) 6 rfl

/-- Dropping the leading axis. -/
theorem flat_apply (x : FVec Ideal S1x2048x6x64 .f32) (r : Fin 2048) (h : Fin 6) (k : Fin 64) :
    shapeCast S2048x6x64 x shapeCasts_S1x2048x6x64_S2048x6x64 (ix3 r h k) = x (ix4 0 r h k) :=
  shapeCast_apply x _ (ix3 r h k) (ix4 0 r h k) (by
    rewrite [Shape.rowMajor_val_four, Shape.rowMajor_val_three]
    show ((0 * 2048 + r.val) * 6 + h.val) * 64 + k.val = (r.val * 6 + h.val) * 64 + k.val
    omega)

/-- Putting the heads' lanes side by side. -/
theorem wide_flat (x : FVec Ideal S2048x6x128 .f32) (r : Fin 2048) (j : Fin 768) :
    shapeCast S2048x768 x shapeCasts_S2048x6x128_S2048x768 (ix2 r j) = x (ix3 r (head6 j) (lane j)) :=
  shapeCast_apply x _ (ix2 r j) (ix3 r (head6 j) (lane j)) (by
    rewrite [Shape.rowMajor_val_three, Shape.rowMajor_val_two]
    show (r.val * 6 + j.val / 128) * 128 + j.val % 128 = r.val * 768 + j.val
    omega)

/-- A head padded on the host. -/
theorem pad_head (x : FVec Ideal S2048x6x64 .f32) (z : FVec Ideal S_ .f32) (hz : ∀ i, z i = 0) (d : Fin 64 → EReal) (r : Fin 2048) (h : Fin 6)
    (hx : ∀ k, x (ix3 r h k) = d k) (l : Fin 128) :
    pad S2048x6x128 ![0, 0, 0] ![0, 0, 64] ![0, 0, 0] x z pads_S2048x6x64_S2048x6x128_000_000_0640 h_S_ (ix3 r h l) = wide d l := by
  by_cases hd : l.val < 64
  · rw [pad_apply_of_inside (t := S2048x6x128) (s := S2048x6x64) _ _ _ _ _ _ _ _ (ix3 r h ⟨l.val, hd⟩), wide_in d l ⟨l.val, hd⟩ rfl]
    · exact hx _
    · intro a
      match a with
      | ⟨0, _⟩ => show r.val = 0 + r.val * 1; omega
      | ⟨1, _⟩ => show h.val = 0 + h.val * 1; omega
      | ⟨2, _⟩ => show l.val = 0 + l.val * 1; omega
  · rw [pad_apply_of_not_inside (t := S2048x6x128) (s := S2048x6x64) _ _ _ _ _ _ _ _ 2, wide_out d l hd]
    · exact hz _
    · rintro ⟨-, -, h⟩
      exact hd (by have h' : (l.val - 0) / 1 < 64 := h; omega)

/-- The cosines and the sines of a row's angles. -/
abbrev cosines (r : Fin 2048) : Fin 32 → EReal := fun i => val_main_v18 (F := Ideal) (ix2 r i)
abbrev sinesOf (r : Fin 2048) : Fin 32 → EReal := fun i => val_main_v19 (F := Ideal) (ix2 r i)

/-- A row's gradient, column by column: each head's turned back and padded. -/
def grad (x : FVec Ideal S1x2048x6x64 .f32) (r : Fin 2048) (j : Fin 768) : EReal :=
  wide (back (cosines r) (sinesOf r) (fun k => x (ix4 0 r (head6 j) k))) (lane j)

/-- The head the kernel stores, from the tables and the padded head it reads. -/
theorem pay_apply {c s : Fin 32 → EReal} {d : Fin 64 → EReal} (v0 v2 v4 v6 : FVec Ideal S1024x128 .f32) (r : Fin 1024)
    (h0 : ∀ l, v0 (ix2 r l) = tabHere c l) (h2 : ∀ l, v2 (ix2 r l) = tabAbove s l) (h4 : ∀ l, v4 (ix2 r l) = tabBelow s l)
    (h6 : ∀ l, v6 (ix2 r l) = wide d l) (l : Fin 128) : k0_pay4 (F := Ideal) v0 v2 v4 v6 (ix2 r l) = wide (back c s d) l := by
  pointwise [k0_pay4, k0_pay1, k0_pay2, k0_pay3]
  simp only [h0, h2, h4, h6]
  exact three_products c s d l

variable (m : (ℓ : Loc nD τ sig) → Buf (Elt Ideal) ℓ) (c : Dev nD)

/-- The cotangent the program is given. -/
abbrev ct : FVec Ideal S1x2048x6x64 .f32 := m ((c : Thread nD τ).loc main_arg0)

theorem padded_apply (r : Fin 2048) (j : Fin 768) :
    (V m c main_v2 : FVec Ideal S2048x768 .f32) (ix2 r j) = wide (fun k => ct m c (ix4 0 r (head6 j) k)) (lane j) := by
  rw [padded_eq, wide_flat]
  exact pad_head _ _ (fun _ => sitofp_zero (φ := .f32)) _ r _ (fun k => flat_apply _ r _ k) _

theorem idx_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0 ∧ win0_4.index t 0 = t.val ∧ win0_4.index t 1 = 0 :=
  (by decide +kernel : ∀ t : Fin grid0.N, _)

/-- The row of the whole array that row `r` of block `t` is. -/
abbrev row (t : Fin cfg0.N) (r : Fin 1024) : Fin 2048 := ⟨1024 * t.val + r.val, by have := t.isLt; have : cfg0.N = 2 := N_0; omega⟩

theorem iblk0 (t : Fin cfg0.N) (r : Fin 1024) (l : Fin 768) :
    (iblk m c 0 t : FVec Ideal S1024x768 .f32) (ix2 r l) = (V m c main_v2 : FVec Ideal S2048x768 .f32) (ix2 (row t r) l) := by
  unfold iblk
  rw [View.read_apply]
  show V m c main_v2 _ = V m c main_v2 (ix2 (row t r) l)
  generalize V m c main_v2 = W
  have hi := idx_facts t
  refine congrArg (W : FVec Ideal S2048x768 .f32) (Shape.idx_ext₂ ?_ ?_)
  · show win0_0.index t 0 * 1024 + 1 * r.val = 1024 * t.val + r.val; omega
  · show win0_0.index t 1 * 768 + 1 * l.val = l.val; omega

theorem iblk1 (t : Fin cfg0.N) (r : Fin 1024) (l : Fin 128) :
    (iblk m c 1 t : FVec Ideal S1024x128 .f32) (ix2 r l) = (V m c main_v101 : FVec Ideal S2048x128 .f32) (ix2 (row t r) l) := by
  unfold iblk
  rw [View.read_apply]
  show V m c main_v101 _ = V m c main_v101 (ix2 (row t r) l)
  generalize V m c main_v101 = W
  have hi := idx_facts t
  refine congrArg (W : FVec Ideal S2048x128 .f32) (Shape.idx_ext₂ ?_ ?_)
  · show win0_1.index t 0 * 1024 + 1 * r.val = 1024 * t.val + r.val; omega
  · show win0_1.index t 1 * 128 + 1 * l.val = l.val; omega

theorem iblk2 (t : Fin cfg0.N) (r : Fin 1024) (l : Fin 128) :
    (iblk m c 2 t : FVec Ideal S1024x128 .f32) (ix2 r l) = (V m c main_v112 : FVec Ideal S2048x128 .f32) (ix2 (row t r) l) := by
  unfold iblk
  rw [View.read_apply]
  show V m c main_v112 _ = V m c main_v112 (ix2 (row t r) l)
  generalize V m c main_v112 = W
  have hi := idx_facts t
  refine congrArg (W : FVec Ideal S2048x128 .f32) (Shape.idx_ext₂ ?_ ?_)
  · show win0_2.index t 0 * 1024 + 1 * r.val = 1024 * t.val + r.val; omega
  · show win0_2.index t 1 * 128 + 1 * l.val = l.val; omega

theorem iblk3 (t : Fin cfg0.N) (r : Fin 1024) (l : Fin 128) :
    (iblk m c 3 t : FVec Ideal S1024x128 .f32) (ix2 r l) = (V m c main_v113 : FVec Ideal S2048x128 .f32) (ix2 (row t r) l) := by
  unfold iblk
  rw [View.read_apply]
  show V m c main_v113 _ = V m c main_v113 (ix2 (row t r) l)
  generalize V m c main_v113 = W
  have hi := idx_facts t
  refine congrArg (W : FVec Ideal S2048x128 .f32) (Shape.idx_ext₂ ?_ ?_)
  · show win0_3.index t 0 * 1024 + 1 * r.val = 1024 * t.val + r.val; omega
  · show win0_3.index t 1 * 128 + 1 * l.val = l.val; omega

theorem hz : (![0, 0] : Fin 2 → ℕ) = fun _ => 0 := by decide

/-- One head's columns of a block. -/
abbrev part (o : ℕ) (hb : ∀ a, (![0, o] : Fin 2 → ℕ) a + S1024x128.size a ≤ S1024x768.size a) : Rect S1024x768 :=
  Rect.unit (s := S1024x768) ![0, o] S1024x128.size hb

/-- One head's store, from the blocks of the point. -/
theorem head_apply (t : Fin cfg0.N) (h : Fin 6) (o : ℕ) (ho : o = 128 * h.val) (hb) (r : Fin 1024) (l : Fin 128) :
    k0_pay4 (F := Ideal) (View.ld (iblk m c 1 t) r0_0) (View.ld (iblk m c 2 t) r0_0) (View.ld (iblk m c 3 t) r0_0)
      (View.ld (iblk m c 0 t) (part o hb)) (ix2 r l) = grad (ct m c) (row t r) (col (n := 6) 768 rfl h l) := by
  have e : ∀ l : Fin 128, (part o hb).emb (ix2 r l) = ix2 r (col (n := 6) 768 rfl h l) :=
    fun l => Shape.idx_ext₂ (show 0 + 1 * r.val = r.val by omega) (show o + 1 * l.val = 128 * h.val + l.val by omega)
  rw [grad, show head6 (col (n := 6) 768 rfl h l) = h from head_col rfl h l, show lane (col (n := 6) 768 rfl h l) = l from lane_col rfl h l]
  simp only [View.ld_unit_zero (S := S1024x128) hz]
  refine pay_apply _ _ _ _ r (fun l => (iblk1 m c t _ l).trans ?_) (fun l => (iblk2 m c t _ l).trans ?_) (fun l => (iblk3 m c t _ l).trans ?_)
    (fun l => ?_) l
  · rw [table_here]
    exact here_apply _ _ l _ (ones_apply _ _) _
  · rw [table_above]
    exact above_apply _ _ l _ _ (fun l => by pointwise []) (fun l => by pointwise []) _ _ _ _
  · rw [table_below]
    exact below_apply _ _ l _ (fun l => by pointwise []) _ _ _ _
  · refine (congrArg (iblk m c 0 t : FVec Ideal S1024x768 .f32) (e l)).trans ((iblk0 m c t r _).trans ((padded_apply m c _ _).trans ?_))
    rw [show head6 (col (n := 6) 768 rfl h l) = h from head_col rfl h l, show lane (col (n := 6) 768 rfl h l) = l from lane_col rfl h l]

/-- The same at the element of the block it is written to. -/
theorem piece_apply (t : Fin cfg0.N) (h : Fin 6) (o : ℕ) (ho : o = 128 * h.val) (hb) (x : S1024x128.Idx) :
    k0_pay4 (F := Ideal) (View.ld (iblk m c 1 t) r0_0) (View.ld (iblk m c 2 t) r0_0) (View.ld (iblk m c 3 t) r0_0)
      (View.ld (iblk m c 0 t) (part o hb)) x = grad (ct m c) (row t ((part o hb).emb x 0)) ((part o hb).emb x 1) :=
  (congrArg _ (eq_ix2 x)).trans ((head_apply m c t h o ho hb (x 0) (x 1)).trans
    (congrArg₂ (fun r j => grad (ct m c) (row t r) j) (Fin.ext (show (x 0).val = 0 + 1 * (x 0).val by omega))
      (Fin.ext (show 128 * h.val + (x 1).val = o + 1 * (x 1).val by omega))))

/-- What a point writes. -/
theorem out_apply (t : Fin cfg0.N) (y : S1024x768.Idx) :
    out0_4 (iblk m c 0 t) (iblk m c 1 t) (iblk m c 2 t) (iblk m c 3 t) y = grad (ct m c) (row t (y 0)) (y 1) := by
  unfold out0_4
  refine View.canon_apply_of_pieces (Val := Elt Ideal) (fun y => grad (ct m c) (row t (y 0)) (y 1) : FVec Ideal S1024x768 .bf16) _ (fun p hp x => ?_) y (cover0_4 _ _ _ _ _ _ y)
  simp only [List.mem_cons, List.not_mem_nil, or_false] at hp
  rcases hp with rfl | rfl | rfl | rfl | rfl | rfl
  · exact piece_apply m c t 5 640 rfl _ x
  · exact piece_apply m c t 4 512 rfl _ x
  · exact piece_apply m c t 3 384 rfl _ x
  · exact piece_apply m c t 2 256 rfl _ x
  · exact piece_apply m c t 1 128 rfl _ x
  · exact piece_apply m c t 0 0 rfl _ x

/-- The array the kernel leaves. -/
theorem final : (dats m 0 c).arrAt 4 cfg0.N = (fun i => grad (ct m c) (i 0) (i 1) : FVec Ideal S2048x768 .bf16) := by
  refine (dats m 0 c).arrAt_eq_of_cover 4 _ (fun t _ => ?_) fun (i : S2048x768.Idx) =>
    ⟨⟨(i 0 : Nat) / 1024, by have h : (i 0 : Nat) < 2048 := (i 0).isLt; have : cfg0.N = 2 := N_0; omega⟩, flush0_4 _, ?_⟩
  · have hi := idx_facts t
    rw [Value.flushed4]
    funext y
    rw [View.read_apply]
    have he : ((cfg0.win 4).blk t).view.emb y = ix2 (row t (y 0)) (y 1) := by
      refine Shape.idx_ext₂ ?_ ?_
      · show win0_4.index t 0 * 1024 + 1 * (y 0).val = 1024 * t.val + (y 0).val; omega
      · show win0_4.index t 1 * 768 + 1 * (y 1).val = (y 1).val; omega
    rw [he]
    exact out_apply m c t y
  · generalize hp : (⟨(i 0 : Nat) / 1024, _⟩ : Fin cfg0.N) = p
    have hv : p.val = (i 0 : Nat) / 1024 := by rw [← hp]
    have hi := idx_facts p
    have b1 : (i 1 : Nat) < 768 := (i 1).isLt
    show i ∈ ((View.whole main_v114).slice (win0_4.rect p)).set
    rw [View.set_slice_whole, Rect.mem_set_unit]
    intro a
    match a with
    | ⟨0, _⟩ => show win0_4.index p 0 * 1024 ≤ (i 0 : Nat) ∧ (i 0 : Nat) < win0_4.index p 0 * 1024 + 1024; omega
    | ⟨1, _⟩ => show win0_4.index p 1 * 768 ≤ (i 1 : Nat) ∧ (i 1 : Nat) < win0_4.index p 1 * 768 + 768; omega

end Cert.RopeQIdeal.Hand

namespace Cert.RopeQPair

open Idealize.ShloMosaic Idealize.ShloMosaic.TcCoe Idealize.SL.Sem Cert.RopeMath Cert.Cols
open Idealize.ShloMosaic (ix1 ix2 ix3 ix4)

section Reference
open Cert.RopeQRefIdeal Cert.RopeQRefIdeal.Gen Cert.RopeQRefIdeal.Read

/-- The reference's gradient of a head's 64 lanes. -/
theorem v52_apply (x : FVec Ideal S1x2048x6x64 .f32) (r : Fin 2048) (j : Fin 6) (k : Fin 64) :
    val_main_v52 (F := Ideal) x (ix4 0 r j k) = back (RopeQIdeal.Hand.cosines r) (RopeQIdeal.Hand.sinesOf r) (fun k => x (ix4 0 r j k)) k := by
  pointwise [val_main_v52, val_main_v51, val_main_v50, val_main_v49, val_main_v48, val_main_v47, val_main_v46, val_main_v45, val_main_v44,
    val_main_v43, val_main_v42, val_main_v41, val_main_v40, val_main_v39, val_main_v34, val_main_v31, val_main_v27, val_main_v24,
    val_main_v21, val_main_v20]
  by_cases h : k.val < 32
  · rw [back, dif_pos h, dif_pos h, add_comm]
    have e : (⟨32 + k.val, by omega⟩ : Fin 64) = ⟨k.val + 32, by omega⟩ := Fin.ext (Nat.add_comm _ _)
    rw [e]
  · rw [back, dif_neg h, dif_neg h, mul_neg, ← neg_mul]
    have e : (⟨32 + (k.val - 32), by omega⟩ : Fin 64) = k := Fin.ext (show 32 + (k.val - 32) = k.val by omega)
    rw [e]

/-- The array the reference leaves. -/
theorem v56_apply (x : FVec Ideal S1x2048x6x64 .f32) (r : Fin 2048) (j : Fin 768) :
    val_main_v56 (F := Ideal) x (ix2 r j) = RopeQIdeal.Hand.grad x r j := by
  refine (RopeQIdeal.Hand.wide_flat (val_main_v54 (F := Ideal) x) r j).trans ?_
  unfold val_main_v54
  refine RopeQIdeal.Hand.pad_head _ _ (fun _ => sitofp_zero (φ := .f32)) _ r _ (fun k => ?_) _
  exact (RopeQIdeal.Hand.flat_apply _ r _ k).trans (v52_apply x r _ k)

end Reference

/-- The kernel's gradient of the rotary turn of the query heads is the reference's, whatever the cotangent. -/
theorem algebraic : algebraic_RopeQIdeal_RopeQRefIdeal := by
  intro m g m' g' _ hag
  refine ⟨fun c i => RopeQIdeal.Hand.grad (RopeQIdeal.Hand.ct m c) (i 0) (i 1), ?_, ?_⟩
  · refine (θ_run RopeQIdeal.defs _ _).mono (fun r h c => ?_) (RopeQIdeal.Value.run_blocks m g)
    obtain ⟨e, k⟩ := h c
    exact ⟨e.trans (RopeQIdeal.Hand.final m c), k⟩
  · refine (θ_run RopeQRefIdeal.defs _ _).mono (fun r h c => ?_) (RopeQRefIdeal.Value.run m' g')
    obtain ⟨e, k⟩ := h c
    refine ⟨e.trans ((RopeQRefIdeal.Read.val_main_v56_eq _ _).trans (funext fun i => ?_)), k⟩
    refine (congrArg _ (eq_ix2 i)).trans ((v56_apply _ (i 0) (i 1)).trans ?_)
    rw [hag c]

end Cert.RopeQPair
-- ==== Proof.RopeKPair.lean ====
/- The gradient of the rotary turn of the shared key head: the kernel's result is the reference's, on any arguments. -/
module

public import proofs.«01_k».proof.Defs
public import proofs.«01_k».proof.Proof.RopeMath
public import proofs.«01_k».proof.Proof.Gen.RopeKRefIdeal.Run
public import proofs.«01_k».proof.Proof.Gen.RopeKRefIdeal.Read

@[expose] public section

set_option maxRecDepth 16384

noncomputable section

namespace Cert.RopeKIdeal.Hand

open Cert.RopeKIdeal Cert.RopeKIdeal.Gen Idealize.ShloMosaic Idealize.ShloMosaic.TcCoe Cert.RopeMath
open Cert.RopeKRefIdeal.Read (val_main_v18 val_main_v19)
open Idealize.ShloMosaic (ix1 ix2 ix3 ix4)

variable (m : (ℓ : Loc nD τ sig) → Buf (Elt Ideal) ℓ) (c : Dev nD)

/-- The kernel's first table is built from the reference's cosines. -/
theorem table_here : (V m c main_v100 : FVec Ideal S2048x128 .f32) = concatenate S2048x128 1
    [⟨S2048x32, val_main_v18 (F := Ideal)⟩, ⟨S2048x32, val_main_v18 (F := Ideal)⟩,
     ⟨S2048x64, broadcastInDim S2048x64 ![] bcast_S_S2048x64 (constant (F := Ideal) S_ .f32 0x3F800000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The sines between zeros, before they are turned. -/
abbrev sines : FVec Ideal S2048x128 .f32 := concatenate S2048x128 1
  [⟨S2048x32, broadcastInDim S2048x32 ![] bcast_S_S2048x32 (constant (F := Ideal) S_ .f32 0x00000000#32)⟩,
   ⟨S2048x32, val_main_v19 (F := Ideal)⟩,
   ⟨S2048x64, broadcastInDim S2048x64 ![] bcast_S_S2048x64 (constant (F := Ideal) S_ .f32 0x00000000#32)⟩]
  concatenates_S2048x32_S2048x32_S2048x64_S2048x128_d1

theorem table_above : (V m c main_v111 : FVec Ideal S2048x128 .f32) = concatenate S2048x128 1
    [⟨S2048x96, extractStridedSlice S2048x96 ![0, 32] sines slices_S2048x128_S2048x96_0_32⟩,
     ⟨S2048x32, extractStridedSlice S2048x32 ![0, 0] sines slices_S2048x128_S2048x32_0_0⟩]
    concatenates_S2048x96_S2048x32_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The sines negated, before zeros. -/
abbrev minusSines : FVec Ideal S2048x128 .f32 := concatenate S2048x128 1
  [⟨S2048x32, Host.negf (val_main_v19 (F := Ideal))⟩,
   ⟨S2048x96, broadcastInDim S2048x96 ![] bcast_S_S2048x96 (constant (F := Ideal) S_ .f32 0x00000000#32)⟩]
  concatenates_S2048x32_S2048x96_S2048x128_d1

theorem table_below : (V m c main_v112 : FVec Ideal S2048x128 .f32) = concatenate S2048x128 1
    [⟨S2048x32, extractStridedSlice S2048x32 ![0, 96] minusSines slices_S2048x128_S2048x32_0_96⟩,
     ⟨S2048x96, extractStridedSlice S2048x96 ![0, 0] minusSines slices_S2048x128_S2048x96_0_0⟩]
    concatenates_S2048x32_S2048x96_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The cotangent the program is given, a row's 64 lanes. -/
abbrev ct (r : Fin 2048) : Fin 64 → EReal := fun k => (m ((c : Thread nD τ).loc main_arg0) : FVec Ideal S1x2048x1x64 .f32) (ix4 0 r 0 k)

theorem padded_eq : (V m c main_v1 : FVec Ideal S2048x128 .f32) = pad S2048x128 ![0, 0] ![0, 64] ![0, 0]
    (shapeCast S2048x64 (m ((c : Thread nD τ).loc main_arg0) : FVec Ideal S1x2048x1x64 .f32) shapeCasts_S1x2048x1x64_S2048x64)
    (sitofp .f32 (constantI S_ 32 0#32) : FVec Ideal S_ .f32) pads_S2048x64_S2048x128_000_0640 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- Dropping the axes of length one. -/
theorem flat_apply (x : FVec Ideal S1x2048x1x64 .f32) (r : Fin 2048) (k : Fin 64) :
    shapeCast S2048x64 x shapeCasts_S1x2048x1x64_S2048x64 (ix2 r k) = x (ix4 0 r 0 k) :=
  shapeCast_apply x _ (ix2 r k) (ix4 0 r 0 k) (by
    rewrite [Shape.rowMajor_val_four, Shape.rowMajor_val_two]
    show ((0 * 2048 + r.val) * 1 + 0) * 64 + k.val = r.val * 64 + k.val
    omega)

/-- A row padded on the host. -/
theorem pad_row (x : FVec Ideal S2048x64 .f32) (z : FVec Ideal S_ .f32) (hz : ∀ i, z i = 0) (d : Fin 64 → EReal) (r : Fin 2048)
    (hx : ∀ k, x (ix2 r k) = d k) (l : Fin 128) :
    pad S2048x128 ![0, 0] ![0, 64] ![0, 0] x z pads_S2048x64_S2048x128_000_0640 h_S_ (ix2 r l) = wide d l := by
  by_cases hd : l.val < 64
  · rw [pad_apply_of_inside (t := S2048x128) (s := S2048x64) _ _ _ _ _ _ _ _ (ix2 r ⟨l.val, hd⟩), wide_in d l ⟨l.val, hd⟩ rfl]
    · exact hx _
    · intro a
      match a with
      | ⟨0, _⟩ => show r.val = 0 + r.val * 1; omega
      | ⟨1, _⟩ => show l.val = 0 + l.val * 1; omega
  · rw [pad_apply_of_not_inside (t := S2048x128) (s := S2048x64) _ _ _ _ _ _ _ _ 1, wide_out d l hd]
    · exact hz _
    · rintro ⟨-, -, h⟩
      exact hd (by have h' : (l.val - 0) / 1 < 64 := h; omega)

theorem padded_apply (r : Fin 2048) (l : Fin 128) : (V m c main_v1 : FVec Ideal S2048x128 .f32) (ix2 r l) = wide (ct m c r) l := by
  rw [padded_eq]
  exact pad_row _ _ (fun _ => sitofp_zero (φ := .f32)) _ r (fun k => flat_apply _ r k) l

/-- The cosines and the sines of a row's angles. -/
abbrev cosines (r : Fin 2048) : Fin 32 → EReal := fun i => val_main_v18 (F := Ideal) (ix2 r i)
abbrev sinesOf (r : Fin 2048) : Fin 32 → EReal := fun i => val_main_v19 (F := Ideal) (ix2 r i)

/-- The only point. -/
abbrev t0 : Fin cfg0.N := ⟨0, by rw [show cfg0.N = 1 from N_0]; omega⟩
theorem eq_t0 (t : Fin cfg0.N) : t = t0 := Fin.ext (by have := t.isLt; have : cfg0.N = 1 := N_0; show t.val = 0; omega)

theorem idx_facts : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0 :=
  (by decide +kernel : ∀ t : Fin grid0.N, _)

theorem iblk0 (t : Fin cfg0.N) (r : Fin 2048) (l : Fin 128) :
    (iblk m c 0 t : FVec Ideal S2048x128 .f32) (ix2 r l) = (V m c main_v1 : FVec Ideal S2048x128 .f32) (ix2 r l) := by
  unfold iblk
  rw [View.read_apply]
  show V m c main_v1 _ = V m c main_v1 (ix2 r l)
  generalize V m c main_v1 = W
  have hi := idx_facts t
  refine congrArg (W : FVec Ideal S2048x128 .f32) (Shape.idx_ext₂ ?_ ?_)
  · show win0_0.index t 0 * 2048 + 1 * r.val = r.val; omega
  · show win0_0.index t 1 * 128 + 1 * l.val = l.val; omega

theorem iblk1 (t : Fin cfg0.N) (r : Fin 2048) (l : Fin 128) :
    (iblk m c 1 t : FVec Ideal S2048x128 .f32) (ix2 r l) = (V m c main_v100 : FVec Ideal S2048x128 .f32) (ix2 r l) := by
  unfold iblk
  rw [View.read_apply]
  show V m c main_v100 _ = V m c main_v100 (ix2 r l)
  generalize V m c main_v100 = W
  have hi := idx_facts t
  refine congrArg (W : FVec Ideal S2048x128 .f32) (Shape.idx_ext₂ ?_ ?_)
  · show win0_1.index t 0 * 2048 + 1 * r.val = r.val; omega
  · show win0_1.index t 1 * 128 + 1 * l.val = l.val; omega

theorem iblk2 (t : Fin cfg0.N) (r : Fin 2048) (l : Fin 128) :
    (iblk m c 2 t : FVec Ideal S2048x128 .f32) (ix2 r l) = (V m c main_v111 : FVec Ideal S2048x128 .f32) (ix2 r l) := by
  unfold iblk
  rw [View.read_apply]
  show V m c main_v111 _ = V m c main_v111 (ix2 r l)
  generalize V m c main_v111 = W
  have hi := idx_facts t
  refine congrArg (W : FVec Ideal S2048x128 .f32) (Shape.idx_ext₂ ?_ ?_)
  · show win0_2.index t 0 * 2048 + 1 * r.val = r.val; omega
  · show win0_2.index t 1 * 128 + 1 * l.val = l.val; omega

theorem iblk3 (t : Fin cfg0.N) (r : Fin 2048) (l : Fin 128) :
    (iblk m c 3 t : FVec Ideal S2048x128 .f32) (ix2 r l) = (V m c main_v112 : FVec Ideal S2048x128 .f32) (ix2 r l) := by
  unfold iblk
  rw [View.read_apply]
  show V m c main_v112 _ = V m c main_v112 (ix2 r l)
  generalize V m c main_v112 = W
  have hi := idx_facts t
  refine congrArg (W : FVec Ideal S2048x128 .f32) (Shape.idx_ext₂ ?_ ?_)
  · show win0_3.index t 0 * 2048 + 1 * r.val = r.val; omega
  · show win0_3.index t 1 * 128 + 1 * l.val = l.val; omega

theorem hz : (![0, 0] : Fin 2 → ℕ) = fun _ => 0 := by decide

/-- What the only point writes. -/
theorem out_apply (t : Fin cfg0.N) (r : Fin 2048) (l : Fin 128) :
    out0_4 (iblk m c 0 t) (iblk m c 1 t) (iblk m c 2 t) (iblk m c 3 t) (ix2 r l) = wide (back (cosines r) (sinesOf r) (ct m c r)) l := by
  unfold out0_4
  rw [View.canon_unit_zero hz]
  simp only [View.ld_unit_zero (S := S2048x128) hz]
  refine pay_apply _ _ _ _ r (fun l => (iblk1 m c t r l).trans ?_) (fun l => (iblk2 m c t r l).trans ?_) (fun l => (iblk3 m c t r l).trans ?_)
    (fun l => (iblk0 m c t r l).trans (padded_apply m c r l)) l
  · rw [table_here]
    exact here_apply _ r l _ (ones_apply r _) _
  · rw [table_above]
    exact above_apply _ r l _ _ (fun l => by pointwise []) (fun l => by pointwise []) _ _ _ _
  · rw [table_below]
    exact below_apply _ r l _ (fun l => by pointwise []) _ _ _ _

/-- The array the kernel leaves. -/
theorem final : (dats m 0 c).arrAt 4 cfg0.N = (fun i => wide (back (cosines (i 0)) (sinesOf (i 0)) (ct m c (i 0))) (i 1) : FVec Ideal S2048x128 .bf16) := by
  refine (dats m 0 c).arrAt_eq_of_cover 4 _ (fun t _ => ?_) fun (i : S2048x128.Idx) => ⟨t0, flush0_4 _, ?_⟩
  · rw [Value.flushed4]
    funext y
    rw [View.read_apply]
    have hi := idx_facts t
    have he : ((cfg0.win 4).blk t).view.emb y = ix2 (y 0) (y 1) := by
      refine Shape.idx_ext₂ ?_ ?_
      · show win0_4.index t 0 * 2048 + 1 * (y 0).val = (y 0).val; omega
      · show win0_4.index t 1 * 128 + 1 * (y 1).val = (y 1).val; omega
    rw [he]
    exact (congrArg _ (eq_ix2 y)).trans (out_apply m c t (y 0) (y 1))
  · show i ∈ ((View.whole main_v113).slice (win0_4.rect t0)).set
    rw [View.set_slice_whole, Rect.mem_set_unit]
    have hi := idx_facts t0
    have b0 : (i 0 : Nat) < 2048 := (i 0).isLt
    have b1 : (i 1 : Nat) < 128 := (i 1).isLt
    intro a
    match a with
    | ⟨0, _⟩ => show win0_4.index t0 0 * 2048 ≤ (i 0 : Nat) ∧ (i 0 : Nat) < win0_4.index t0 0 * 2048 + 2048; omega
    | ⟨1, _⟩ => show win0_4.index t0 1 * 128 ≤ (i 1 : Nat) ∧ (i 1 : Nat) < win0_4.index t0 1 * 128 + 128; omega

end Cert.RopeKIdeal.Hand

namespace Cert.RopeKPair

open Idealize.ShloMosaic Idealize.ShloMosaic.TcCoe Idealize.SL.Sem Cert.RopeMath
open Idealize.ShloMosaic (ix1 ix2 ix3 ix4)

section Reference
open Cert.RopeKRefIdeal Cert.RopeKRefIdeal.Gen Cert.RopeKRefIdeal.Read

/-- The reference's gradient of the 64 lanes. -/
theorem v44_apply (x : FVec Ideal S1x2048x1x64 .f32) (r : Fin 2048) (k : Fin 64) :
    val_main_v44 (F := Ideal) x (ix4 0 r 0 k) = back (RopeKIdeal.Hand.cosines r) (RopeKIdeal.Hand.sinesOf r) (fun k => x (ix4 0 r 0 k)) k := by
  pointwise [val_main_v44, val_main_v43, val_main_v42, val_main_v41, val_main_v40, val_main_v39, val_main_v38, val_main_v37,
    val_main_v36, val_main_v35, val_main_v31, val_main_v29, val_main_v26, val_main_v24, val_main_v21, val_main_v20]
  by_cases h : k.val < 32
  · rw [back, dif_pos h, dif_pos h, add_comm]
    have e : (⟨32 + k.val, by omega⟩ : Fin 64) = ⟨k.val + 32, by omega⟩ := Fin.ext (Nat.add_comm _ _)
    rw [e]
  · rw [back, dif_neg h, dif_neg h, mul_neg, ← neg_mul]
    have e : (⟨32 + (k.val - 32), by omega⟩ : Fin 64) = k := Fin.ext (show 32 + (k.val - 32) = k.val by omega)
    rw [e]

/-- The array the reference leaves. -/
theorem v47_apply (x : FVec Ideal S1x2048x1x64 .f32) (r : Fin 2048) (l : Fin 128) : val_main_v47 (F := Ideal) x (ix2 r l)
    = wide (back (RopeKIdeal.Hand.cosines r) (RopeKIdeal.Hand.sinesOf r) (fun k => x (ix4 0 r 0 k))) l := by
  show val_main_v46 (F := Ideal) x (ix2 r l) = _
  unfold val_main_v46
  refine RopeKIdeal.Hand.pad_row _ _ (fun _ => sitofp_zero (φ := .f32)) _ r (fun k => ?_) l
  exact (RopeKIdeal.Hand.flat_apply _ r k).trans (v44_apply x r k)

end Reference

/-- The kernel's gradient of the rotary turn of the shared key head is the reference's, whatever the cotangent. -/
theorem algebraic : algebraic_RopeKIdeal_RopeKRefIdeal := by
  intro m g m' g' _ hag
  refine ⟨fun c i => wide (back (RopeKIdeal.Hand.cosines (i 0)) (RopeKIdeal.Hand.sinesOf (i 0)) (RopeKIdeal.Hand.ct m c (i 0))) (i 1), ?_, ?_⟩
  · refine (θ_run RopeKIdeal.defs _ _).mono (fun r h c => ?_) (RopeKIdeal.Value.run_blocks m g)
    obtain ⟨e, k⟩ := h c
    exact ⟨e.trans (RopeKIdeal.Hand.final m c), k⟩
  · refine (θ_run RopeKRefIdeal.defs _ _).mono (fun r h c => ?_) (RopeKRefIdeal.Value.run m' g')
    obtain ⟨e, k⟩ := h c
    refine ⟨e.trans ((RopeKRefIdeal.Read.val_main_v47_eq _ _).trans (funext fun i => ?_)), k⟩
    refine (congrArg _ (eq_ix2 i)).trans ((v47_apply _ (i 0) (i 1)).trans ?_)
    rw [hag c]

end Cert.RopeKPair
-- ==== Proof.RowNorm.lean ====
/-
  The gradient of a root-mean-square norm over a row of any width, over the reals.
-/
module

public import proofs.«01_k».proof.Proof.Reals

@[expose] public section

noncomputable section

namespace Cert.RowNorm

open Idealize.ShloMosaic Cert.Reals

variable {n : ℕ}

/-- The mean square of a row of width `w`, and the small number added to it. -/
def ms (w : ℝ) (x : Fin n → ℝ) : ℝ := (∑ k, x k * x k) / w + eps

/-- The reciprocal root mean square of the row. -/
def rms (w : ℝ) (x : Fin n → ℝ) : ℝ := (Real.sqrt (ms w x))⁻¹

theorem ms_pos {w : ℝ} (hw : 0 < w) (x : Fin n → ℝ) : 0 < ms w x := by
  have := Finset.sum_nonneg (s := Finset.univ) fun k _ => mul_self_nonneg (x k)
  have := eps_pos
  unfold ms
  positivity

/-- The gradient of one entry of the row. -/
def dx (w : ℝ) (x dy g : Fin n → ℝ) (j : Fin n) : ℝ :=
  rms w x * (dy j * g j - x j * rms w x * ((∑ k, dy k * g k * (x k * rms w x)) / w))

/-- A row's part of the gain's gradient. -/
def gain (w : ℝ) (x dy : Fin n → ℝ) (j : Fin n) : ℝ := dy j * (x j * rms w x)

/-- The gradient as differentiating the norm's operations in turn builds it. -/
theorem dx_eq (w : ℝ) (x dy g : Fin n → ℝ) (j : Fin n) :
    dx w x dy g j = dy j * g j * rms w x + ((∑ k, x k * (dy k * g k)) * (-(1 / 2) * rms w x ^ 3) / w * x j
      + (∑ k, x k * (dy k * g k)) * (-(1 / 2) * rms w x ^ 3) / w * x j) := by
  have hs : ∑ k, dy k * g k * (x k * rms w x) = rms w x * ∑ k, x k * (dy k * g k) := by
    rw [Finset.mul_sum]; exact Finset.sum_congr rfl fun k _ => by ring
  rw [dx, hs]
  ring

theorem ofBits_768 : Ideal.ofBits .f32 0x44400000#32 = ((768 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

end Cert.RowNorm

end
-- ==== Proof.OutnMath.lean ====
/-
  The gradient of the three groups' output norms, one row at a time: what a block of the kernel computes from its rows,
  and what the reference's operations compute from the same rows.
-/
module

public import proofs.«01_k».proof.Proof.RowNorm
public import proofs.«01_k».proof.Proof.Gen.OutnIdeal.Skeleton
public import proofs.«01_k».proof.Proof.Gen.OutnRefIdeal.Read

@[expose] public section

set_option maxRecDepth 16384

noncomputable section

namespace Cert.OutnMath

open Idealize.ShloMosaic Cert.Reals Cert.RowNorm
open Idealize.ShloMosaic (ix1 ix2)

section Kernel
open Cert.OutnIdeal Cert.OutnIdeal.Gen

section Wide
variable {v3 v4 : FVec Ideal S256x768 .f32} {v15 : FVec Ideal S1x768 .f32} {r : Fin 256} {x dy g : Fin 768 → ℝ}

theorem pay6_real (h3 : ∀ k, v3 (ix2 r k) = x k) (z : Fin 1) : k0_pay6 (F := Ideal) v3 (ix2 r z) = (rms 768 x : EReal) := by
  pointwise [k0_pay6]
  simp only [h3, ← EReal.coe_mul, coe_sum, ofBits_768, ofBits_eps, div_real (b := 768) (by norm_num), ← EReal.coe_add]
  exact rsqrt_real (ms_pos (by norm_num) x)

theorem pay7_real (h3 : ∀ k, v3 (ix2 r k) = x k) (j : Fin 768) : k0_pay7 (F := Ideal) v3 (ix2 r j) = ((x j * rms 768 x : ℝ) : EReal) := by
  pointwise [k0_pay7]
  rw [h3, pay6_real h3, EReal.coe_mul]

/-- A row of the gradient of a group of 768 columns. -/
theorem pay8_real (h3 : ∀ k, v3 (ix2 r k) = x k) (h4 : ∀ k, v4 (ix2 r k) = dy k) (h15 : ∀ k, v15 (ix2 0 k) = g k) (j : Fin 768) :
    k0_pay8 (F := Ideal) v3 v4 v15 (ix2 r j) = (dx 768 x dy g j : EReal) := by
  pointwise [k0_pay8]
  simp only [h4, h15, pay6_real h3, pay7_real h3, ← EReal.coe_mul, coe_sum, ofBits_768, div_real (b := 768) (by norm_num), ← EReal.coe_sub]
  rfl

/-- What a block adds to such a group's part of the gain's gradient. -/
theorem pay9_real {v31 : FVec Ideal S1x768 .f32} {x dy : Fin 256 → Fin 768 → ℝ} (h3 : ∀ r k, v3 (ix2 r k) = x r k)
    (h4 : ∀ r k, v4 (ix2 r k) = dy r k) {j : Fin 768} {a : ℝ} (ha : v31 (ix2 0 j) = a) :
    k0_pay9 (F := Ideal) v3 v4 v31 (ix2 0 j) = ((a + ∑ r, gain 768 (x r) (dy r) j : ℝ) : EReal) := by
  pointwise [k0_pay9]
  simp only [h4, fun r => pay7_real (v3 := v3) (r := r) (h3 r), ha, ← EReal.coe_mul, coe_sum, ← EReal.coe_add]
  rfl

/-- The third group's payloads are the first's. -/
theorem pay3_eq : k0_pay3 (F := Ideal) = k0_pay8 (F := Ideal) := rfl
theorem pay4_eq : k0_pay4 (F := Ideal) = k0_pay9 (F := Ideal) := rfl

end Wide

section Narrow
variable {v38 v39 : FVec Ideal S256x512 .f32} {v50 : FVec Ideal S1x512 .f32} {r : Fin 256} {x dy g : Fin 512 → ℝ}

theorem pay10_real (h3 : ∀ k, v38 (ix2 r k) = x k) (z : Fin 1) : k0_pay10 (F := Ideal) v38 (ix2 r z) = (rms 512 x : EReal) := by
  pointwise [k0_pay10]
  simp only [h3, ← EReal.coe_mul, coe_sum, ofBits_512, ofBits_eps, div_real (b := 512) (by norm_num), ← EReal.coe_add]
  exact rsqrt_real (ms_pos (by norm_num) x)

theorem pay11_real (h3 : ∀ k, v38 (ix2 r k) = x k) (j : Fin 512) : k0_pay11 (F := Ideal) v38 (ix2 r j) = ((x j * rms 512 x : ℝ) : EReal) := by
  pointwise [k0_pay11]
  rw [h3, pay10_real h3, EReal.coe_mul]

/-- A row of the gradient of the group of 512 columns. -/
theorem pay12_real (h3 : ∀ k, v38 (ix2 r k) = x k) (h4 : ∀ k, v39 (ix2 r k) = dy k) (h15 : ∀ k, v50 (ix2 0 k) = g k) (j : Fin 512) :
    k0_pay12 (F := Ideal) v38 v39 v50 (ix2 r j) = (dx 512 x dy g j : EReal) := by
  pointwise [k0_pay12]
  simp only [h4, h15, pay10_real h3, pay11_real h3, ← EReal.coe_mul, coe_sum, ofBits_512, div_real (b := 512) (by norm_num), ← EReal.coe_sub]
  rfl

/-- What a block adds to that group's part of the gain's gradient. -/
theorem pay13_real {v65 : FVec Ideal S1x512 .f32} {x dy : Fin 256 → Fin 512 → ℝ} (h3 : ∀ r k, v38 (ix2 r k) = x r k)
    (h4 : ∀ r k, v39 (ix2 r k) = dy r k) {j : Fin 512} {a : ℝ} (ha : v65 (ix2 0 j) = a) :
    k0_pay13 (F := Ideal) v38 v39 v65 (ix2 0 j) = ((a + ∑ r, gain 512 (x r) (dy r) j : ℝ) : EReal) := by
  pointwise [k0_pay13]
  simp only [h4, fun r => pay11_real (v38 := v38) (r := r) (h3 r), ha, ← EReal.coe_mul, coe_sum, ← EReal.coe_add]
  rfl

end Narrow
end Kernel

/-- The columns of the three groups among the 2048. -/
def colA (j : Fin 768) : Fin 2048 := ⟨j.val, by omega⟩
def colB (j : Fin 512) : Fin 2048 := ⟨768 + j.val, by omega⟩
def colC (j : Fin 768) : Fin 2048 := ⟨1280 + j.val, by omega⟩

/-- A row of 2048 columns put together of its three groups. -/
def gains (a : Fin 768 → ℝ) (b : Fin 512 → ℝ) (c : Fin 768 → ℝ) (j : Fin 2048) : ℝ :=
  if hA : j.val < 768 then a ⟨j.val, hA⟩ else if hB : j.val < 1280 then b ⟨j.val - 768, by omega⟩ else c ⟨j.val - 1280, by omega⟩

section Reference
open Cert.OutnRefIdeal Cert.OutnRefIdeal.Gen Cert.OutnRefIdeal.Read

variable {x0 : FVec Ideal S2048x2048 .f32} {x1 x3 : FVec Ideal S2048x768 .f32} {x2 : FVec Ideal S2048x512 .f32} {x4 : FVec Ideal S2048 .f32}
variable {dy : Fin 2048 → Fin 2048 → ℝ} {ya yc : Fin 2048 → Fin 768 → ℝ} {yb : Fin 2048 → Fin 512 → ℝ} {g : Fin 2048 → ℝ}

theorem v9_real (h1 : ∀ r k, x1 (ix2 r k) = ya r k) (r : Fin 2048) (z : Fin 1) : val_main_v9 (F := Ideal) x1 (ix2 r z) = (ms 768 (ya r) : EReal) := by
  pointwise [val_main_v9, val_main_v8, val_main_v7, val_main_v6, val_main_v5, val_main_v4, val_main_v3, val_main_cst, val_main_cst_0, val_main_cst_1]
  simp only [h1, ← EReal.coe_mul, coe_sum, ofBits_768, ofBits_eps, div_real (b := 768) (by norm_num), ← EReal.coe_add]
  rfl

theorem v10_real (h1 : ∀ r k, x1 (ix2 r k) = ya r k) (r : Fin 2048) (z : Fin 1) : val_main_v10 (F := Ideal) x1 (ix2 r z) = (rms 768 (ya r) : EReal) := by
  pointwise [val_main_v10]
  rw [v9_real h1]
  exact rsqrt_real (ms_pos (by norm_num) _)

theorem v13_real (h1 : ∀ r k, x1 (ix2 r k) = ya r k) (r : Fin 2048) (z : Fin 1) :
    val_main_v13 (F := Ideal) x1 (ix2 r z) = ((-(1 / 2) * rms 768 (ya r) ^ 3 : ℝ) : EReal) := by
  pointwise [val_main_v13, val_main_v12, val_main_v11, val_main_cst_2]
  have hp : 0 < ms 768 (ya r) := ms_pos (by norm_num) _
  rw [v10_real h1, v9_real h1, div_real hp.ne', ofBits_neg_half, ← EReal.coe_mul]
  exact congrArg (fun t : ℝ => ((-(1 / 2) * t : ℝ) : EReal)) (inv_sqrt_div hp)

/-- The same three rows of the third group are the first's operations. -/
theorem v42_real (h3 : ∀ r k, x3 (ix2 r k) = yc r k) (r : Fin 2048) (z : Fin 1) : val_main_v42 (F := Ideal) x3 (ix2 r z) = (rms 768 (yc r) : EReal) :=
  v10_real h3 r z

theorem v45_real (h3 : ∀ r k, x3 (ix2 r k) = yc r k) (r : Fin 2048) (z : Fin 1) :
    val_main_v45 (F := Ideal) x3 (ix2 r z) = ((-(1 / 2) * rms 768 (yc r) ^ 3 : ℝ) : EReal) :=
  v13_real h3 r z

theorem v25_real (h2 : ∀ r k, x2 (ix2 r k) = yb r k) (r : Fin 2048) (z : Fin 1) : val_main_v25 (F := Ideal) x2 (ix2 r z) = (ms 512 (yb r) : EReal) := by
  pointwise [val_main_v25, val_main_v24, val_main_v23, val_main_v22, val_main_v21, val_main_v20, val_main_v19, val_main_cst_3, val_main_cst_4, val_main_cst_5]
  simp only [h2, ← EReal.coe_mul, coe_sum, ofBits_512, ofBits_eps, div_real (b := 512) (by norm_num), ← EReal.coe_add]
  rfl

theorem v26_real (h2 : ∀ r k, x2 (ix2 r k) = yb r k) (r : Fin 2048) (z : Fin 1) : val_main_v26 (F := Ideal) x2 (ix2 r z) = (rms 512 (yb r) : EReal) := by
  pointwise [val_main_v26]
  rw [v25_real h2]
  exact rsqrt_real (ms_pos (by norm_num) _)

theorem v29_real (h2 : ∀ r k, x2 (ix2 r k) = yb r k) (r : Fin 2048) (z : Fin 1) :
    val_main_v29 (F := Ideal) x2 (ix2 r z) = ((-(1 / 2) * rms 512 (yb r) ^ 3 : ℝ) : EReal) := by
  pointwise [val_main_v29, val_main_v28, val_main_v27, val_main_cst_6]
  have hp : 0 < ms 512 (yb r) := ms_pos (by norm_num) _
  rw [v26_real h2, v25_real h2, div_real hp.ne', ofBits_neg_half, ← EReal.coe_mul]
  exact congrArg (fun t : ℝ => ((-(1 / 2) * t : ℝ) : EReal)) (inv_sqrt_div hp)

/-- The first group's gradient. -/
theorem v114_real (h0 : ∀ r k, x0 (ix2 r k) = dy r k) (h1 : ∀ r k, x1 (ix2 r k) = ya r k) (h4 : ∀ k, x4 (ix1 k) = g k) (r : Fin 2048) (j : Fin 768) :
    val_main_v114 (F := Ideal) x0 x1 x4 (ix2 r j) = (dx 768 (ya r) (fun k => dy r (colA k)) (fun k => g (colA k)) j : EReal) := by
  pointwise [val_main_v114, val_main_v113, val_main_v112, val_main_v111, val_main_v110, val_main_v109, val_main_v108, val_main_v107,
    val_main_v106, val_main_v105, val_main_v104, val_main_v103, val_main_v102, val_main_v101, val_main_v99, val_main_v98, val_main_v52, val_main_v16,
    val_main_v0, val_main_cst_23, val_main_cst_24, val_main_cst_25]
  simp only [h0, h1, h4, v10_real h1, v13_real h1, ← EReal.coe_mul, coe_sum, ofBits_768, div_real (b := 768) (by norm_num), ← EReal.coe_add]
  simp only [Fin.sum_univ_one, dx_eq, colA]
  exact congrArg _ (by ring)

/-- The second group's gradient. -/
theorem v94_real (h0 : ∀ r k, x0 (ix2 r k) = dy r k) (h2 : ∀ r k, x2 (ix2 r k) = yb r k) (h4 : ∀ k, x4 (ix1 k) = g k) (r : Fin 2048) (j : Fin 512) :
    val_main_v94 (F := Ideal) x0 x2 x4 (ix2 r j) = (dx 512 (yb r) (fun k => dy r (colB k)) (fun k => g (colB k)) j : EReal) := by
  pointwise [val_main_v94, val_main_v93, val_main_v92, val_main_v91, val_main_v90, val_main_v89, val_main_v88, val_main_v87,
    val_main_v86, val_main_v85, val_main_v84, val_main_v83, val_main_v82, val_main_v81, val_main_v79, val_main_v78, val_main_v53, val_main_v32,
    val_main_v1, val_main_cst_18, val_main_cst_19, val_main_cst_20]
  simp only [h0, h2, h4, v26_real h2, v29_real h2, ← EReal.coe_mul, coe_sum, ofBits_512, div_real (b := 512) (by norm_num), ← EReal.coe_add]
  simp only [Fin.sum_univ_one, dx_eq, colB]
  exact congrArg _ (by ring)

/-- The third group's gradient. -/
theorem v74_real (h0 : ∀ r k, x0 (ix2 r k) = dy r k) (h3 : ∀ r k, x3 (ix2 r k) = yc r k) (h4 : ∀ k, x4 (ix1 k) = g k) (r : Fin 2048) (j : Fin 768) :
    val_main_v74 (F := Ideal) x0 x3 x4 (ix2 r j) = (dx 768 (yc r) (fun k => dy r (colC k)) (fun k => g (colC k)) j : EReal) := by
  pointwise [val_main_v74, val_main_v73, val_main_v72, val_main_v71, val_main_v70, val_main_v69, val_main_v68, val_main_v67,
    val_main_v66, val_main_v65, val_main_v64, val_main_v63, val_main_v62, val_main_v61, val_main_v59, val_main_v58, val_main_v54, val_main_v48,
    val_main_v2, val_main_cst_13, val_main_cst_14, val_main_cst_15]
  simp only [h0, h3, h4, v42_real h3, v45_real h3, ← EReal.coe_mul, coe_sum, ofBits_768, div_real (b := 768) (by norm_num), ← EReal.coe_add]
  simp only [Fin.sum_univ_one, dx_eq, colC]
  exact congrArg _ (by ring)

/-- The three parts of the gain's gradient. -/
theorem v100_real (h0 : ∀ r k, x0 (ix2 r k) = dy r k) (h1 : ∀ r k, x1 (ix2 r k) = ya r k) (j : Fin 768) :
    val_main_v100 (F := Ideal) x0 x1 (ix1 j) = ((∑ r, gain 768 (ya r) (fun k => dy r (colA k)) j : ℝ) : EReal) := by
  pointwise [val_main_v100, val_main_v97, val_main_v96, val_main_v95, val_main_v52, val_main_v15, val_main_v14, val_main_cst_21, val_main_cst_22]
  simp only [h0, h1, v10_real h1, ← EReal.coe_mul, coe_sum]
  simp only [Fin.sum_univ_one]
  exact congrArg _ (Finset.sum_congr rfl fun r _ => mul_comm _ _)

theorem v80_real (h0 : ∀ r k, x0 (ix2 r k) = dy r k) (h2 : ∀ r k, x2 (ix2 r k) = yb r k) (j : Fin 512) :
    val_main_v80 (F := Ideal) x0 x2 (ix1 j) = ((∑ r, gain 512 (yb r) (fun k => dy r (colB k)) j : ℝ) : EReal) := by
  pointwise [val_main_v80, val_main_v77, val_main_v76, val_main_v75, val_main_v53, val_main_v31, val_main_v30, val_main_cst_16, val_main_cst_17]
  simp only [h0, h2, v26_real h2, ← EReal.coe_mul, coe_sum]
  simp only [Fin.sum_univ_one]
  exact congrArg _ (Finset.sum_congr rfl fun r _ => mul_comm _ _)

theorem v60_real (h0 : ∀ r k, x0 (ix2 r k) = dy r k) (h3 : ∀ r k, x3 (ix2 r k) = yc r k) (j : Fin 768) :
    val_main_v60 (F := Ideal) x0 x3 (ix1 j) = ((∑ r, gain 768 (yc r) (fun k => dy r (colC k)) j : ℝ) : EReal) := by
  pointwise [val_main_v60, val_main_v57, val_main_v56, val_main_v55, val_main_v54, val_main_v47, val_main_v46, val_main_cst_11, val_main_cst_12]
  simp only [h0, h3, v42_real h3, ← EReal.coe_mul, coe_sum]
  simp only [Fin.sum_univ_one]
  exact congrArg _ (Finset.sum_congr rfl fun r _ => mul_comm _ _)

/-- The gain's gradient at one column: its group's part. -/
theorem v118_real (h0 : ∀ r k, x0 (ix2 r k) = dy r k) (h1 : ∀ r k, x1 (ix2 r k) = ya r k) (h2 : ∀ r k, x2 (ix2 r k) = yb r k)
    (h3 : ∀ r k, x3 (ix2 r k) = yc r k) (z : Fin 1) (j : Fin 2048) :
    val_main_v118 (F := Ideal) x0 x1 x2 x3 (ix2 z j) = (gains (∑ r, gain 768 (ya r) (fun k => dy r (colA k)) ·)
      (∑ r, gain 512 (yb r) (fun k => dy r (colB k)) ·) (∑ r, gain 768 (yc r) (fun k => dy r (colC k)) ·) j : EReal) := by
  pointwise [val_main_v118, val_main_v115]
  unfold gains
  by_cases hA : j.val < 768
  · rw [dif_pos hA, dif_pos hA]; exact v100_real h0 h1 _
  · rw [dif_neg hA, dif_neg hA]
    by_cases hB : j.val < 1280
    · rw [dif_pos hB, dif_pos (by omega)]; exact v80_real h0 h2 _
    · rw [dif_neg hB, dif_neg (by omega)]; exact v60_real h0 h3 _

end Reference
end Cert.OutnMath
end
-- ==== Proof.OutnValue.lean ====
/-
  The three groups' output norms, backward: what the kernel's four results are, read off its run.
-/
module

public import proofs.«01_k».proof.Proof.OutnMath
public import proofs.«01_k».proof.Proof.Gen.OutnIdeal.Value
public import Idealize.ShloMosaic.Lib.Pipeline.ReadBack

@[expose] public section

set_option maxRecDepth 16384

noncomputable section

namespace Cert.OutnIdeal.Hand

open Cert.OutnIdeal Cert.OutnIdeal.Gen Idealize.ShloMosaic Idealize.ShloMosaic.TcCoe Idealize.SL.Sem Cert.Reals Cert.RowNorm Cert.OutnMath
open Idealize.ShloMosaic.Pipeline (Dat)
open Idealize.ShloMosaic (ix1 ix2)

theorem hz : (![0, 0] : Fin 2 → Nat) = fun _ => 0 := funext fun a => by fin_cases a <;> rfl

/-! ## The groups' columns -/

abbrev wA : Rect S256x2048 := Rect.unit (s := S256x2048) ![0, 0] S256x768.size inb_S256x2048_S256x768_0_0
abbrev wB : Rect S256x2048 := Rect.unit (s := S256x2048) ![0, 768] S256x512.size inb_S256x2048_S256x512_0_768
abbrev wC : Rect S256x2048 := Rect.unit (s := S256x2048) ![0, 1280] S256x768.size inb_S256x2048_S256x768_0_1280
abbrev rA : Rect S1x2048 := Rect.unit (s := S1x2048) ![0, 0] S1x768.size inb_S1x2048_S1x768_0_0
abbrev rB : Rect S1x2048 := Rect.unit (s := S1x2048) ![0, 768] S1x512.size inb_S1x2048_S1x512_0_768
abbrev rC : Rect S1x2048 := Rect.unit (s := S1x2048) ![0, 1280] S1x768.size inb_S1x2048_S1x768_0_1280
abbrev rAll : Rect S1x2048 := Rect.unit (s := S1x2048) ![0, 0] S1x2048.size inb_S1x2048_S1x2048_0_0

theorem emb_wA (r : Fin 256) (k : Fin 768) : (ix2 r (colA k) : S256x2048.Idx) = wA.emb (ix2 r k) :=
  Shape.idx_ext₂ (by show r.val = 0 + 1 * r.val; omega) (by show k.val = 0 + 1 * k.val; omega)
theorem ld_wA (X : Vec Ideal S256x2048 .f32) (r : Fin 256) (k : Fin 768) : View.ld X wA (ix2 r k) = X (ix2 r (colA k)) := congrArg X (emb_wA r k).symm
theorem emb_wB (r : Fin 256) (k : Fin 512) : (ix2 r (colB k) : S256x2048.Idx) = wB.emb (ix2 r k) :=
  Shape.idx_ext₂ (by show r.val = 0 + 1 * r.val; omega) (by show 768 + k.val = 768 + 1 * k.val; omega)
theorem ld_wB (X : Vec Ideal S256x2048 .f32) (r : Fin 256) (k : Fin 512) : View.ld X wB (ix2 r k) = X (ix2 r (colB k)) := congrArg X (emb_wB r k).symm
theorem emb_wC (r : Fin 256) (k : Fin 768) : (ix2 r (colC k) : S256x2048.Idx) = wC.emb (ix2 r k) :=
  Shape.idx_ext₂ (by show r.val = 0 + 1 * r.val; omega) (by show 1280 + k.val = 1280 + 1 * k.val; omega)
theorem ld_wC (X : Vec Ideal S256x2048 .f32) (r : Fin 256) (k : Fin 768) : View.ld X wC (ix2 r k) = X (ix2 r (colC k)) := congrArg X (emb_wC r k).symm

theorem emb_rA (k : Fin 768) : (ix2 0 (colA k) : S1x2048.Idx) = rA.emb (ix2 0 k) :=
  Shape.idx_ext₂ (by show 0 = 0 + 1 * 0; omega) (by show k.val = 0 + 1 * k.val; omega)
theorem emb_rB (k : Fin 512) : (ix2 0 (colB k) : S1x2048.Idx) = rB.emb (ix2 0 k) :=
  Shape.idx_ext₂ (by show 0 = 0 + 1 * 0; omega) (by show 768 + k.val = 768 + 1 * k.val; omega)
theorem emb_rC (k : Fin 768) : (ix2 0 (colC k) : S1x2048.Idx) = rC.emb (ix2 0 k) :=
  Shape.idx_ext₂ (by show 0 = 0 + 1 * 0; omega) (by show 1280 + k.val = 1280 + 1 * k.val; omega)

theorem ld_rA (X : Vec Ideal S1x2048 .f32) (k : Fin 768) : View.ld X rA (ix2 0 k) = X (ix2 0 (colA k)) := congrArg X (emb_rA k).symm
theorem ld_rB (X : Vec Ideal S1x2048 .f32) (k : Fin 512) : View.ld X rB (ix2 0 k) = X (ix2 0 (colB k)) := congrArg X (emb_rB k).symm
theorem ld_rC (X : Vec Ideal S1x2048 .f32) (k : Fin 768) : View.ld X rC (ix2 0 k) = X (ix2 0 (colC k)) := congrArg X (emb_rC k).symm

/-- Every column is one of the groups'. -/
theorem col_cases (j : Fin 2048) : (∃ k, j = colA k) ∨ (∃ k, j = colB k) ∨ ∃ k, j = colC k := by
  by_cases hA : j.val < 768
  · exact .inl ⟨⟨j.val, hA⟩, rfl⟩
  by_cases hB : j.val < 1280
  · exact .inr (.inl ⟨⟨j.val - 768, by omega⟩, Fin.ext (show j.val = 768 + (j.val - 768) by omega)⟩)
  · exact .inr (.inr ⟨⟨j.val - 1280, by omega⟩, Fin.ext (show j.val = 1280 + (j.val - 1280) by omega)⟩)

theorem gains_A (a : Fin 768 → ℝ) (b : Fin 512 → ℝ) (c : Fin 768 → ℝ) (k : Fin 768) : gains a b c (colA k) = a k := dif_pos k.isLt
theorem gains_B (a : Fin 768 → ℝ) (b : Fin 512 → ℝ) (c : Fin 768 → ℝ) (k : Fin 512) : gains a b c (colB k) = b k := by
  unfold gains colB
  rw [dif_neg (by dsimp only; omega), dif_pos (by dsimp only; omega)]
  exact congrArg b (Fin.ext (show 768 + k.val - 768 = k.val by omega))
theorem gains_C (a : Fin 768 → ℝ) (b : Fin 512 → ℝ) (c : Fin 768 → ℝ) (k : Fin 768) : gains a b c (colC k) = c k := by
  unfold gains colC
  rw [dif_neg (by dsimp only; omega), dif_neg (by dsimp only; omega)]
  exact congrArg c (Fin.ext (show 1280 + k.val - 1280 = k.val by omega))

section Row
variable {κ : Kind} {sp : Space} (v : View sig κ sp S1x2048 .f32) (a : Vec Ideal S1x768 .f32) (b : Vec Ideal S1x512 .f32) (c : Vec Ideal S1x768 .f32)
  (Z : Vec Ideal S1x2048 .f32) (L : List (View.Piece (Elt Ideal) S1x2048 .f32))

theorem skip_AB : v.readCov (⟨rA, a⟩ :: L) rB.toLoadRect = v.readCov L rB.toLoadRect := View.readCov_skip v rA a L _ (by decide)
theorem skip_AC : v.readCov (⟨rA, a⟩ :: L) rC.toLoadRect = v.readCov L rC.toLoadRect := View.readCov_skip v rA a L _ (by decide)
theorem skip_BC : v.readCov (⟨rB, b⟩ :: L) rC.toLoadRect = v.readCov L rC.toLoadRect := View.readCov_skip v rB b L _ (by decide)
theorem fill_A : v.readCov (⟨rAll, Z⟩ :: L) rA.toLoadRect = View.ld Z rA := View.readCov_fill v inb_S1x2048_S1x2048_0_0 Z L rA (by decide)
theorem fill_B : v.readCov (⟨rAll, Z⟩ :: L) rB.toLoadRect = View.ld Z rB := View.readCov_fill v inb_S1x2048_S1x2048_0_0 Z L rB (by decide)
theorem fill_C : v.readCov (⟨rAll, Z⟩ :: L) rC.toLoadRect = View.ld Z rC := View.readCov_fill v inb_S1x2048_S1x2048_0_0 Z L rC (by decide)

theorem not_rC {j : Fin 2048} (h : j.val < 1280) : (ix2 0 j : S1x2048.Idx) ∉ rC.set := fun hm => by
  have h1 : 1280 ≤ j.val := (Rect.mem_set_unit.mp hm 1).1
  omega
theorem not_rB {j : Fin 2048} (h : j.val < 768) : (ix2 0 j : S1x2048.Idx) ∉ rB.set := fun hm => by
  have h1 : 768 ≤ j.val := (Rect.mem_set_unit.mp hm 1).1
  omega

/-- The row after the three groups are written to it. -/
theorem canon_C (k : Fin 768) : View.canon (⟨rC, c⟩ :: ⟨rB, b⟩ :: ⟨rA, a⟩ :: L) (ix2 0 (colC k)) = c (ix2 0 k) := by
  rw [emb_rC]; exact View.canon_cons_emb ..
theorem canon_B (k : Fin 512) : View.canon (⟨rC, c⟩ :: ⟨rB, b⟩ :: ⟨rA, a⟩ :: L) (ix2 0 (colB k)) = b (ix2 0 k) := by
  rw [View.canon_cons_of_not_mem ⟨rC, c⟩ _ (not_rC (j := colB k) (show 768 + k.val < 1280 by omega)), emb_rB]; exact View.canon_cons_emb ..
theorem canon_A (k : Fin 768) : View.canon (⟨rC, c⟩ :: ⟨rB, b⟩ :: ⟨rA, a⟩ :: L) (ix2 0 (colA k)) = a (ix2 0 k) := by
  rw [View.canon_cons_of_not_mem ⟨rC, c⟩ _ (not_rC (j := colA k) (show k.val < 1280 by omega)), View.canon_cons_of_not_mem ⟨rB, b⟩ _ (not_rB (j := colA k) k.isLt), emb_rA]
  exact View.canon_cons_emb ..

end Row

variable (m : (ℓ : Loc nD τ sig) → Buf (Elt Ideal) ℓ)

/-! ## What a point leaves -/

/-- The first group's block. -/
theorem outs_5 (c : Dev nD) (t : Fin cfg0.N) : (outsAt0 m c t.val t.isLt).1 = k0_pay8 (iblk m c 1 t) (View.ld (iblk m c 0 t) wA) (View.ld (iblk m c 4 t) rA) := by
  by_cases h0 : t.val % 8 = 0
  · rw [outsAt0_A m c t h0]
    dsimp only
    unfold out0_A_5
    rw [View.read_writes_eq_canon _ _ _ fun y => cover0_A_5 (y := y) ..]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl
  · rw [outsAt0_B m c t h0]
    dsimp only
    unfold out0_B_5
    rw [View.read_writes_eq_canon _ _ _ fun y => cover0_B_5 (y := y) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl

/-- The second group's block. -/
theorem outs_6 (c : Dev nD) (t : Fin cfg0.N) : (outsAt0 m c t.val t.isLt).2.1 = k0_pay12 (iblk m c 2 t) (View.ld (iblk m c 0 t) wB) (View.ld (iblk m c 4 t) rB) := by
  by_cases h0 : t.val % 8 = 0
  · rw [outsAt0_A m c t h0]
    dsimp only
    unfold out0_A_6
    rw [View.read_writes_eq_canon _ _ _ fun y => cover0_A_6 (y := y) ..]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl
  · rw [outsAt0_B m c t h0]
    dsimp only
    unfold out0_B_6
    rw [View.read_writes_eq_canon _ _ _ fun y => cover0_B_6 (y := y) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl

/-- The third group's block. -/
theorem outs_7 (c : Dev nD) (t : Fin cfg0.N) : (outsAt0 m c t.val t.isLt).2.2.1 = k0_pay3 (iblk m c 3 t) (View.ld (iblk m c 0 t) wC) (View.ld (iblk m c 4 t) rC) := by
  by_cases h0 : t.val % 8 = 0
  · rw [outsAt0_A m c t h0]
    dsimp only
    unfold out0_A_7
    rw [View.read_writes_eq_canon _ _ _ fun y => cover0_A_7 (y := y) ..]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl
  · rw [outsAt0_B m c t h0]
    dsimp only
    unfold out0_B_7
    rw [View.read_writes_eq_canon _ _ _ fun y => cover0_B_7 (y := y) ..]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
    rfl

/-- The row of the gain's gradient after a point, from the row `P` before it. -/
def step (c : Dev nD) (t : Fin cfg0.N) (P : Vec Ideal S1x2048 .f32) (L : List (View.Piece (Elt Ideal) S1x2048 .f32)) : Vec Ideal S1x2048 .f32 :=
  View.canon (⟨rC, k0_pay4 (F := Ideal) (iblk m c 3 t) (View.ld (iblk m c 0 t) wC) (View.ld P rC)⟩
    :: ⟨rB, k0_pay13 (F := Ideal) (iblk m c 2 t) (View.ld (iblk m c 0 t) wB) (View.ld P rB)⟩
    :: ⟨rA, k0_pay9 (F := Ideal) (iblk m c 1 t) (View.ld (iblk m c 0 t) wA) (View.ld P rA)⟩ :: L)

theorem outs_8_first (c : Dev nD) (t : Fin cfg0.N) (h0 : t.val % 8 = 0) :
    (outsAt0 m c t.val t.isLt).2.2.2 = step m c t (k0_pay5 (F := Ideal)) [⟨rAll, k0_pay5 (F := Ideal)⟩] := by
  rw [outsAt0_A m c t h0]
  dsimp only
  unfold out0_A_8
  rw [View.read_writes_eq_canon _ _ _ fun y => cover0_A_8 (y := y) ..]
  unfold kernelRun0_A
  dsimp only
  sl_unfold_words
  simp only [↓skip_AB, ↓fill_A, ↓fill_B, View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
  rw [skip_BC (ms0_8 t).view, skip_AC (ms0_8 t).view, fill_C (ms0_8 t).view]
  rfl

theorem outs_8_next (c : Dev nD) (t : Fin cfg0.N) (h0 : ¬t.val % 8 = 0) :
    (outsAt0 m c t.val t.isLt).2.2.2 = step m c t (outsAt0 m c (t.val - 1) (Nat.lt_of_le_of_lt (Nat.sub_le _ _) t.isLt)).2.2.2 [] := by
  rw [outsAt0_B m c t h0]
  dsimp only
  unfold out0_B_8
  rw [View.read_writes_eq_canon _ _ _ fun y => cover0_B_8 (y := y) ..]
  unfold kernelRun0_B
  dsimp only
  sl_unfold_words
  simp only [(hs0_8 t).read_unread, View.readAt_eq_ld, (hs0_0 t).read_unread, (hs0_1 t).read_unread, (hs0_2 t).read_unread, (hs0_3 t).read_unread, (hs0_4 t).read_unread, View.ld_unit_zero (S := S256x768) hz, View.ld_unit_zero (S := S256x512) hz]
  rfl

/-! ## The blocks are rows of the arrays -/

theorem idx_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = 0 ∧ win0_4.index t 1 = 0
    ∧ win0_5.index t 0 = t.val ∧ win0_5.index t 1 = 0 ∧ win0_6.index t 0 = t.val ∧ win0_6.index t 1 = 0
    ∧ win0_7.index t 0 = t.val ∧ win0_7.index t 1 = 0 ∧ win0_8.index t 0 = 0 ∧ win0_8.index t 1 = 0 :=
  (by decide +kernel : ∀ t : Fin grid0.N, _)

/-- The row of the whole array that row `r` of block `t` is. -/
abbrev row (t : Fin cfg0.N) (r : Fin 256) : Fin 2048 := ⟨256 * t.val + r.val, by have := t.isLt; have : cfg0.N = 8 := N_0; omega⟩

theorem iblk0 (c : Dev nD) (t : Fin cfg0.N) (r : Fin 256) (k : Fin 2048) :
    (iblk m c 0 t : Vec Ideal S256x2048 .f32) (ix2 r k) = (m ((c : Thread nD τ).loc main_arg0) : Vec Ideal S2048x2048 .f32) (ix2 (row t r) k) := by
  unfold iblk
  rw [View.read_apply]
  show V m c main_arg0 _ = _
  rw [V_main_arg0]
  congr 1
  have hi := idx_facts t
  refine Shape.idx_ext₂ ?_ ?_
  · show win0_0.index t 0 * 256 + 1 * r.val = 256 * t.val + r.val; omega
  · show win0_0.index t 1 * 2048 + 1 * k.val = k.val; omega

theorem iblk1 (c : Dev nD) (t : Fin cfg0.N) (r : Fin 256) (k : Fin 768) :
    (iblk m c 1 t : Vec Ideal S256x768 .f32) (ix2 r k) = (m ((c : Thread nD τ).loc main_arg1) : Vec Ideal S2048x768 .f32) (ix2 (row t r) k) := by
  unfold iblk
  rw [View.read_apply]
  show V m c main_arg1 _ = _
  rw [V_main_arg1]
  congr 1
  have hi := idx_facts t
  refine Shape.idx_ext₂ ?_ ?_
  · show win0_1.index t 0 * 256 + 1 * r.val = 256 * t.val + r.val; omega
  · show win0_1.index t 1 * 768 + 1 * k.val = k.val; omega

theorem iblk2 (c : Dev nD) (t : Fin cfg0.N) (r : Fin 256) (k : Fin 512) :
    (iblk m c 2 t : Vec Ideal S256x512 .f32) (ix2 r k) = (m ((c : Thread nD τ).loc main_arg2) : Vec Ideal S2048x512 .f32) (ix2 (row t r) k) := by
  unfold iblk
  rw [View.read_apply]
  show V m c main_arg2 _ = _
  rw [V_main_arg2]
  congr 1
  have hi := idx_facts t
  refine Shape.idx_ext₂ ?_ ?_
  · show win0_2.index t 0 * 256 + 1 * r.val = 256 * t.val + r.val; omega
  · show win0_2.index t 1 * 512 + 1 * k.val = k.val; omega

theorem iblk3 (c : Dev nD) (t : Fin cfg0.N) (r : Fin 256) (k : Fin 768) :
    (iblk m c 3 t : Vec Ideal S256x768 .f32) (ix2 r k) = (m ((c : Thread nD τ).loc main_arg3) : Vec Ideal S2048x768 .f32) (ix2 (row t r) k) := by
  unfold iblk
  rw [View.read_apply]
  show V m c main_arg3 _ = _
  rw [V_main_arg3]
  congr 1
  have hi := idx_facts t
  refine Shape.idx_ext₂ ?_ ?_
  · show win0_3.index t 0 * 256 + 1 * r.val = 256 * t.val + r.val; omega
  · show win0_3.index t 1 * 768 + 1 * k.val = k.val; omega

theorem iblk4 (c : Dev nD) (t : Fin cfg0.N) (k : Fin 2048) :
    (iblk m c 4 t : Vec Ideal S1x2048 .f32) (ix2 0 k) = (m ((c : Thread nD τ).loc main_arg4) : Vec Ideal S2048 .f32) (ix1 k) := by
  unfold iblk
  rw [View.read_apply]
  show V m c main_v0 _ = _
  unfold V
  after_results
  show shapeCast S1x2048 (m (c, Proc.tc.devRef main_arg4)) shapeCasts_S2048_S1x2048 _ = _
  have hi := idx_facts t
  refine (shapeCast_apply _ _ _ (ix1 k) ?_)
  rw [Shape.rowMajor_val_one, Shape.rowMajor_val_two]
  show k.val = (win0_4.index t 0 * 1 + 1 * 0) * 2048 + (win0_4.index t 1 * 2048 + 1 * k.val)
  omega

variable {dy : Fin 2048 → Fin 2048 → ℝ} {ya yc : Fin 2048 → Fin 768 → ℝ} {yb : Fin 2048 → Fin 512 → ℝ} {g : Fin 2048 → ℝ}

/-- One row's part of the gain's gradient, over the three groups. -/
def rowGain (dy : Fin 2048 → Fin 2048 → ℝ) (ya : Fin 2048 → Fin 768 → ℝ) (yb : Fin 2048 → Fin 512 → ℝ) (yc : Fin 2048 → Fin 768 → ℝ) (r : Fin 2048) : Fin 2048 → ℝ :=
  gains (gain 768 (ya r) fun k => dy r (colA k)) (gain 512 (yb r) fun k => dy r (colB k)) (gain 768 (yc r) fun k => dy r (colC k))

/-- Summing the rows group by group is summing them. -/
theorem gains_sum (j : Fin 2048) : gains (∑ r, gain 768 (ya r) (fun k => dy r (colA k)) ·) (∑ r, gain 512 (yb r) (fun k => dy r (colB k)) ·)
    (∑ r, gain 768 (yc r) (fun k => dy r (colC k)) ·) j = ∑ r, rowGain dy ya yb yc r j := by
  unfold rowGain
  rcases col_cases j with ⟨k, rfl⟩ | ⟨k, rfl⟩ | ⟨k, rfl⟩
  · simp only [gains_A]
  · simp only [gains_B]
  · simp only [gains_C]

theorem cover_rows {W : ℕ} (q p : ℕ) (b : p < W) (hq : q < 2048) {w : Fin 2 → ℕ} (e0 : w 0 = q / 256) (e1 : w 1 = 0) :
    (w 0 * 256 ≤ q ∧ q < w 0 * 256 + 256) ∧ (w 1 * W ≤ p ∧ p < w 1 * W + W) := by
  rw [e0, e1]
  omega

section Rows
variable (c : Dev nD)
  (h0 : (m ((c : Thread nD τ).loc main_arg0) : Vec Ideal S2048x2048 .f32) = fun i => (dy (i 0) (i 1) : EReal))
  (h1 : (m ((c : Thread nD τ).loc main_arg1) : Vec Ideal S2048x768 .f32) = fun i => (ya (i 0) (i 1) : EReal))
  (h2 : (m ((c : Thread nD τ).loc main_arg2) : Vec Ideal S2048x512 .f32) = fun i => (yb (i 0) (i 1) : EReal))
  (h3 : (m ((c : Thread nD τ).loc main_arg3) : Vec Ideal S2048x768 .f32) = fun i => (yc (i 0) (i 1) : EReal))
  (h4 : (m ((c : Thread nD τ).loc main_arg4) : Vec Ideal S2048 .f32) = fun i => (g (i 0) : EReal))
include h0

theorem dyA (t : Fin cfg0.N) (r : Fin 256) (k : Fin 768) : (View.ld (iblk m c 0 t) wA : Vec Ideal S256x768 .f32) (ix2 r k) = (dy (row t r) (colA k) : EReal) :=
  (ld_wA _ r k).trans ((iblk0 m c t r _).trans (congrFun h0 _))
theorem dyB (t : Fin cfg0.N) (r : Fin 256) (k : Fin 512) : (View.ld (iblk m c 0 t) wB : Vec Ideal S256x512 .f32) (ix2 r k) = (dy (row t r) (colB k) : EReal) :=
  (ld_wB _ r k).trans ((iblk0 m c t r _).trans (congrFun h0 _))
theorem dyC (t : Fin cfg0.N) (r : Fin 256) (k : Fin 768) : (View.ld (iblk m c 0 t) wC : Vec Ideal S256x768 .f32) (ix2 r k) = (dy (row t r) (colC k) : EReal) :=
  (ld_wC _ r k).trans ((iblk0 m c t r _).trans (congrFun h0 _))

include h1 h4 in
/-- The first group's gradient, as the kernel leaves it. -/
theorem final_5 : (dats m 0 c).arrAt 5 cfg0.N
    = (fun i => (dx 768 (ya (i 0)) (fun k => dy (i 0) (colA k)) (fun k => g (colA k)) (i 1) : EReal) : Vec Ideal S2048x768 .bf16) := by
  refine (dats m 0 c).arrAt_eq_of_cover 5 _ (fun t _ => ?_) fun (i : S2048x768.Idx) =>
    ⟨⟨(i 0 : Nat) / 256, by have h : (i 0 : Nat) < 2048 := (i 0).isLt; have : cfg0.N = 8 := N_0; omega⟩, flush0_5 _, ?_⟩
  · rw [Value.flushed5, outs_5]
    funext y
    rw [View.read_apply]
    have he : ((cfg0.win 5).blk t).view.emb y = ix2 (row t (y 0)) (y 1) := by
      have hi := idx_facts t
      refine Shape.idx_ext₂ ?_ ?_
      · show win0_5.index t 0 * 256 + 1 * (y 0).val = 256 * t.val + (y 0).val; omega
      · show win0_5.index t 1 * 768 + 1 * (y 1).val = (y 1).val; omega
    rw [he]
    exact (congrArg _ (eq_ix2 y)).trans (pay8_real (fun k => (iblk1 m c t _ k).trans (congrFun h1 _)) (fun k => dyA m c h0 t _ k)
      (fun k => (ld_rA _ k).trans ((iblk4 m c t _).trans (congrFun h4 _))) (y 1))
  · generalize hp : (⟨(i 0 : Nat) / 256, _⟩ : Fin cfg0.N) = p
    have hv : p.val = (i 0 : Nat) / 256 := by rw [← hp]
    have hi := idx_facts p
    have b0 : (i 0 : Nat) < 2048 := (i 0).isLt
    have b1 : (i 1 : Nat) < 768 := (i 1).isLt
    obtain ⟨c0, c1⟩ := cover_rows (i 0 : Nat) (i 1 : Nat) b1 b0 (w := win0_5.index p) (by omega) (by omega)
    show i ∈ ((View.whole main_v1_0).slice (win0_5.rect p)).set
    rw [View.set_slice_whole, Rect.mem_set_unit]
    intro a
    match a with
    | ⟨0, _⟩ => exact c0
    | ⟨1, _⟩ => exact c1

include h2 h4 in
/-- The second group's. -/
theorem final_6 : (dats m 0 c).arrAt 6 cfg0.N
    = (fun i => (dx 512 (yb (i 0)) (fun k => dy (i 0) (colB k)) (fun k => g (colB k)) (i 1) : EReal) : Vec Ideal S2048x512 .f32) := by
  refine (dats m 0 c).arrAt_eq_of_cover 6 _ (fun t _ => ?_) fun (i : S2048x512.Idx) =>
    ⟨⟨(i 0 : Nat) / 256, by have h : (i 0 : Nat) < 2048 := (i 0).isLt; have : cfg0.N = 8 := N_0; omega⟩, flush0_6 _, ?_⟩
  · rw [Value.flushed6, outs_6]
    funext y
    rw [View.read_apply]
    have he : ((cfg0.win 6).blk t).view.emb y = ix2 (row t (y 0)) (y 1) := by
      have hi := idx_facts t
      refine Shape.idx_ext₂ ?_ ?_
      · show win0_6.index t 0 * 256 + 1 * (y 0).val = 256 * t.val + (y 0).val; omega
      · show win0_6.index t 1 * 512 + 1 * (y 1).val = (y 1).val; omega
    rw [he]
    exact (congrArg _ (eq_ix2 y)).trans (pay12_real (fun k => (iblk2 m c t _ k).trans (congrFun h2 _)) (fun k => dyB m c h0 t _ k)
      (fun k => (ld_rB _ k).trans ((iblk4 m c t _).trans (congrFun h4 _))) (y 1))
  · generalize hp : (⟨(i 0 : Nat) / 256, _⟩ : Fin cfg0.N) = p
    have hv : p.val = (i 0 : Nat) / 256 := by rw [← hp]
    have hi := idx_facts p
    have b0 : (i 0 : Nat) < 2048 := (i 0).isLt
    have b1 : (i 1 : Nat) < 512 := (i 1).isLt
    obtain ⟨c0, c1⟩ := cover_rows (i 0 : Nat) (i 1 : Nat) b1 b0 (w := win0_6.index p) (by omega) (by omega)
    show i ∈ ((View.whole main_v1_1).slice (win0_6.rect p)).set
    rw [View.set_slice_whole, Rect.mem_set_unit]
    intro a
    match a with
    | ⟨0, _⟩ => exact c0
    | ⟨1, _⟩ => exact c1

include h3 h4 in
/-- The third group's. -/
theorem final_7 : (dats m 0 c).arrAt 7 cfg0.N
    = (fun i => (dx 768 (yc (i 0)) (fun k => dy (i 0) (colC k)) (fun k => g (colC k)) (i 1) : EReal) : Vec Ideal S2048x768 .bf16) := by
  refine (dats m 0 c).arrAt_eq_of_cover 7 _ (fun t _ => ?_) fun (i : S2048x768.Idx) =>
    ⟨⟨(i 0 : Nat) / 256, by have h : (i 0 : Nat) < 2048 := (i 0).isLt; have : cfg0.N = 8 := N_0; omega⟩, flush0_7 _, ?_⟩
  · rw [Value.flushed7, outs_7]
    funext y
    rw [View.read_apply]
    have he : ((cfg0.win 7).blk t).view.emb y = ix2 (row t (y 0)) (y 1) := by
      have hi := idx_facts t
      refine Shape.idx_ext₂ ?_ ?_
      · show win0_7.index t 0 * 256 + 1 * (y 0).val = 256 * t.val + (y 0).val; omega
      · show win0_7.index t 1 * 768 + 1 * (y 1).val = (y 1).val; omega
    rw [he]
    exact (congrArg _ (eq_ix2 y)).trans (pay8_real (fun k => (iblk3 m c t _ k).trans (congrFun h3 _)) (fun k => dyC m c h0 t _ k)
      (fun k => (ld_rC _ k).trans ((iblk4 m c t _).trans (congrFun h4 _))) (y 1))
  · generalize hp : (⟨(i 0 : Nat) / 256, _⟩ : Fin cfg0.N) = p
    have hv : p.val = (i 0 : Nat) / 256 := by rw [← hp]
    have hi := idx_facts p
    have b0 : (i 0 : Nat) < 2048 := (i 0).isLt
    have b1 : (i 1 : Nat) < 768 := (i 1).isLt
    obtain ⟨c0, c1⟩ := cover_rows (i 0 : Nat) (i 1 : Nat) b1 b0 (w := win0_7.index p) (by omega) (by omega)
    show i ∈ ((View.whole main_v1_2).slice (win0_7.rect p)).set
    rw [View.set_slice_whole, Rect.mem_set_unit]
    intro a
    match a with
    | ⟨0, _⟩ => exact c0
    | ⟨1, _⟩ => exact c1

include h1 h2 h3

/-- What a point adds to a column of the gain's gradient. -/
theorem step_apply (t : Fin cfg0.N) (P : Vec Ideal S1x2048 .f32) (L : List (View.Piece (Elt Ideal) S1x2048 .f32)) (j : Fin 2048) (a : ℝ) (ha : P (ix2 0 j) = a) :
    step m c t P L (ix2 0 j) = ((a + ∑ r : Fin 256, rowGain dy ya yb yc (row t r) j : ℝ) : EReal) := by
  unfold step rowGain
  rcases col_cases j with ⟨k, rfl⟩ | ⟨k, rfl⟩ | ⟨k, rfl⟩
  · simp only [gains_A]
    exact (canon_A ..).trans (pay9_real (fun r k => (iblk1 m c t r k).trans (congrFun h1 _)) (dyA m c h0 t) ((ld_rA P k).trans ha))
  · simp only [gains_B]
    exact (canon_B ..).trans (pay13_real (fun r k => (iblk2 m c t r k).trans (congrFun h2 _)) (dyB m c h0 t) ((ld_rB P k).trans ha))
  · simp only [gains_C]
    exact (canon_C ..).trans (pay9_real (fun r k => (iblk3 m c t r k).trans (congrFun h3 _)) (dyC m c h0 t) ((ld_rC P k).trans ha))

/-- The gain's gradient after point `n`: the rows of the blocks so far. -/
theorem acc_8 (j : Fin 2048) : ∀ (n : ℕ) (h : n < cfg0.N),
    (outsAt0 m c n h).2.2.2 (ix2 0 j) = ((∑ s ∈ Finset.range (n + 1), ∑ r : Fin 256, rowGain dy ya yb yc (Fin.ofNat 2048 (256 * s + r.val)) j : ℝ) : EReal) := by
  have hp : ∀ (t : Fin cfg0.N) (P L) (a : ℝ), P (ix2 0 j) = (a : EReal) →
      step m c t P L (ix2 0 j) = ((a + ∑ r : Fin 256, rowGain dy ya yb yc (Fin.ofNat 2048 (256 * t.val + r.val)) j : ℝ) : EReal) := fun t P L a hv => by
    have hr : ∀ r : Fin 256, Fin.ofNat 2048 (256 * t.val + r.val) = row t r := fun r =>
      Fin.ext (Nat.mod_eq_of_lt (row t r).isLt)
    simp only [hr]
    exact step_apply m c h0 h1 h2 h3 t P L j a hv
  intro n
  induction n with
  | zero =>
    intro h
    rw [outs_8_first m c ⟨0, h⟩ rfl, hp ⟨0, h⟩ _ _ 0 (by pointwise [k0_pay5]; rfl), Finset.sum_range_one, zero_add]
  | succ n ih =>
    intro h
    have hN : cfg0.N = 8 := N_0
    rw [Finset.sum_range_succ (n := n + 1)]
    exact (congrFun (outs_8_next m c ⟨n + 1, h⟩ (by dsimp only; omega)) _).trans (hp ⟨n + 1, h⟩ _ _ _ (ih (n.lt_succ_self.trans h)))

/-- The gain's gradient the kernel leaves. -/
theorem final_8 : (dats m 0 c).arrAt 8 cfg0.N = (fun i => ((∑ r, rowGain dy ya yb yc r (i 1) : ℝ) : EReal) : Vec Ideal S1x2048 .f32) := by
  have hN : cfg0.N = 8 := N_0
  have hl : 7 < cfg0.N := by omega
  refine (dats m 0 c).arrAt_eq_of_cover 8 _ (fun t hf => ?_) fun (i : S1x2048.Idx) => ⟨⟨7, hl⟩, (flush0_8 _).mpr rfl, ?_⟩
  · have h7 : t.val = 7 := by have := (flush0_8 t).mp hf; have := t.isLt; omega
    rw [Value.flushed8]
    funext y
    rw [View.read_apply]
    have he : ((cfg0.win 8).blk t).view.emb y = ix2 0 (y 1) := by
      have hi := idx_facts t
      have : (y 0).val < 1 := (y 0).isLt
      refine Shape.idx_ext₂ ?_ ?_
      · show win0_8.index t 0 * 1 + 1 * (y 0).val = 0; omega
      · show win0_8.index t 1 * 2048 + 1 * (y 1).val = (y 1).val; omega
    rw [he]
    have hy : y = ix2 0 (y 1) := Shape.idx_ext₂ (by have : (y 0).val < 1 := (y 0).isLt; show (y 0).val = 0; omega) rfl
    refine (congrArg _ hy).trans ((acc_8 m c h0 h1 h2 h3 (y 1) t.val t.isLt).trans ?_)
    show _ = ((∑ r, rowGain dy ya yb yc r (y 1) : ℝ) : EReal)
    rw [h7, Finset.sum_range, Fin.sum_univ_tiles 8 256 rfl]
    refine congrArg _ (Finset.sum_congr rfl fun s _ => Finset.sum_congr rfl fun r _ => congrArg (rowGain dy ya yb yc · (y 1)) (Fin.ext ?_))
    show (256 * s.val + r.val) % 2048 = s.val * 256 + r.val
    omega
  · show i ∈ ((View.whole main_v1_3).slice (win0_8.rect ⟨7, hl⟩)).set
    rw [View.set_slice_whole, Rect.mem_set_unit]
    have hi := idx_facts ⟨7, hl⟩
    have b0 : (i 0 : Nat) < 1 := (i 0).isLt
    have b1 : (i 1 : Nat) < 2048 := (i 1).isLt
    intro a
    match a with
    | ⟨0, _⟩ =>
      show win0_8.index ⟨7, _⟩ 0 * 1 ≤ (i 0 : Nat) ∧ (i 0 : Nat) < win0_8.index ⟨7, _⟩ 0 * 1 + 1
      omega
    | ⟨1, _⟩ =>
      show win0_8.index ⟨7, _⟩ 1 * 2048 ≤ (i 1 : Nat) ∧ (i 1 : Nat) < win0_8.index ⟨7, _⟩ 1 * 2048 + 2048
      omega

end Rows

end Cert.OutnIdeal.Hand

end
-- ==== Proof.OutnPair.lean ====
/- The groups' output norms, backward: the kernel's four results are the reference's, on finite arguments. -/
module

public import proofs.«01_k».proof.Defs
public import proofs.«01_k».proof.Proof.OutnValue
public import proofs.«01_k».proof.Proof.Gen.OutnRefIdeal.Run
public import proofs.«01_k».proof.Proof.Gen.OutnRefIdeal.Read
public import proofs.«01_k».proof.Proof.Gen.Pre_outn_finite

@[expose] public section

set_option maxRecDepth 16384

noncomputable section

namespace Cert.OutnPair

open Idealize.ShloMosaic Idealize.ShloMosaic.TcCoe Idealize.SL.Sem Cert.Reals Cert.RowNorm Cert.OutnMath
open Idealize.ShloMosaic (ix1 ix2)

/-- On finite arguments the hand-written gradient of the three groups' norms leaves what differentiating the norms leaves: each group's
    gradient and the gain's. -/
theorem algebraic : algebraic_OutnIdeal_OutnRefIdeal_pre_outn_finite := by
  intro m g m' g' hpre hag
  have hfin : ∀ c : Dev OutnIdeal.nD, ∃ (dy : Fin 2048 → Fin 2048 → ℝ) (ya : Fin 2048 → Fin 768 → ℝ) (yb : Fin 2048 → Fin 512 → ℝ) (yc : Fin 2048 → Fin 768 → ℝ) (gn : Fin 2048 → ℝ),
      (m ((c : Thread OutnIdeal.nD OutnIdeal.τ).loc OutnIdeal.main_arg0) = fun i => (dy (i 0) (i 1) : EReal))
      ∧ (m ((c : Thread OutnIdeal.nD OutnIdeal.τ).loc OutnIdeal.main_arg1) = fun i => (ya (i 0) (i 1) : EReal))
      ∧ (m ((c : Thread OutnIdeal.nD OutnIdeal.τ).loc OutnIdeal.main_arg2) = fun i => (yb (i 0) (i 1) : EReal))
      ∧ (m ((c : Thread OutnIdeal.nD OutnIdeal.τ).loc OutnIdeal.main_arg3) = fun i => (yc (i 0) (i 1) : EReal))
      ∧ (m ((c : Thread OutnIdeal.nD OutnIdeal.τ).loc OutnIdeal.main_arg4) = fun i => (gn (i 0) : EReal)) := fun c => by
    obtain ⟨p0, p1, p2, p3, p4⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    obtain ⟨a3, e3⟩ := array_real _ _ (fun _ => rfl) p3
    obtain ⟨a4, e4⟩ := array_real _ _ (fun _ => rfl) p4
    refine ⟨fun x y => a0 (ix2 x y), fun x y => a1 (ix2 x y), fun x y => a2 (ix2 x y), fun x y => a3 (ix2 x y), fun x => a4 (ix1 x), ?_, ?_, ?_, ?_, ?_⟩
    · exact e0.trans (funext fun i => congrArg (fun i => (a0 i : EReal)) (eq_ix2 i))
    · exact e1.trans (funext fun i => congrArg (fun i => (a1 i : EReal)) (eq_ix2 i))
    · exact e2.trans (funext fun i => congrArg (fun i => (a2 i : EReal)) (eq_ix2 i))
    · exact e3.trans (funext fun i => congrArg (fun i => (a3 i : EReal)) (eq_ix2 i))
    · exact e4.trans (funext fun i => congrArg (fun i => (a4 i : EReal)) (eq_ix1 i))
  choose dy ya yb yc gn h0 h1 h2 h3 h4 using hfin
  refine ⟨fun c i => (dx 768 (ya c (i 0)) (fun k => dy c (i 0) (colA k)) (fun k => gn c (colA k)) (i 1) : EReal),
    fun c i => (dx 512 (yb c (i 0)) (fun k => dy c (i 0) (colB k)) (fun k => gn c (colB k)) (i 1) : EReal),
    fun c i => (dx 768 (yc c (i 0)) (fun k => dy c (i 0) (colC k)) (fun k => gn c (colC k)) (i 1) : EReal),
    fun c i => ((∑ r, OutnIdeal.Hand.rowGain (dy c) (ya c) (yb c) (yc c) r (i 1) : ℝ) : EReal), ?_, ?_⟩
  · refine (θ_run OutnIdeal.defs _ _).mono (fun r h c => ?_) (OutnIdeal.Value.run_blocks m g)
    obtain ⟨e0, e1, e2, e3, k⟩ := h c
    exact ⟨e0.trans (OutnIdeal.Hand.final_5 m c (h0 c) (h1 c) (h4 c)),
      e1.trans (OutnIdeal.Hand.final_6 m c (h0 c) (h2 c) (h4 c)),
      e2.trans (OutnIdeal.Hand.final_7 m c (h0 c) (h3 c) (h4 c)),
      e3.trans (OutnIdeal.Hand.final_8 m c (h0 c) (h1 c) (h2 c) (h3 c)), k⟩
  · refine (θ_run OutnRefIdeal.defs _ _).mono (fun r h c => ?_) (OutnRefIdeal.Value.run m' g')
    obtain ⟨e0, e1, e2, e3, k⟩ := h c
    obtain ⟨q0, q1, q2, q3, q4⟩ := hag c
    have w0 : ∀ x y, m' ((c : Thread OutnRefIdeal.nD OutnRefIdeal.τ).loc OutnRefIdeal.main_arg0) (ix2 x y) = (dy c x y : EReal) := fun x y => congrFun (q0.trans (h0 c)) _
    have w1 : ∀ x y, m' ((c : Thread OutnRefIdeal.nD OutnRefIdeal.τ).loc OutnRefIdeal.main_arg1) (ix2 x y) = (ya c x y : EReal) := fun x y => congrFun (q1.trans (h1 c)) _
    have w2 : ∀ x y, m' ((c : Thread OutnRefIdeal.nD OutnRefIdeal.τ).loc OutnRefIdeal.main_arg2) (ix2 x y) = (yb c x y : EReal) := fun x y => congrFun (q2.trans (h2 c)) _
    have w3 : ∀ x y, m' ((c : Thread OutnRefIdeal.nD OutnRefIdeal.τ).loc OutnRefIdeal.main_arg3) (ix2 x y) = (yc c x y : EReal) := fun x y => congrFun (q3.trans (h3 c)) _
    have w4 : ∀ x, m' ((c : Thread OutnRefIdeal.nD OutnRefIdeal.τ).loc OutnRefIdeal.main_arg4) (ix1 x) = (gn c x : EReal) := fun x => congrFun (q4.trans (h4 c)) _
    refine ⟨e0.trans ((OutnRefIdeal.Read.val_main_v116_eq _ _ ).trans (funext fun i => ?_)),
      e1.trans ((OutnRefIdeal.Read.val_main_v94_eq _ _ ).trans (funext fun i => ?_)),
      e2.trans ((OutnRefIdeal.Read.val_main_v117_eq _ _ ).trans (funext fun i => ?_)),
      e3.trans ((OutnRefIdeal.Read.val_main_v118_eq _ _ _ _ ).trans (funext fun i => ?_)), k⟩
    · exact (congrArg _ (eq_ix2 i)).trans (v114_real w0 w1 w4 _ _)
    · exact (congrArg _ (eq_ix2 i)).trans (v94_real w0 w2 w4 _ _)
    · exact (congrArg _ (eq_ix2 i)).trans (v74_real w0 w3 w4 _ _)
    · exact (congrArg _ (eq_ix2 i)).trans ((v118_real w0 w1 w2 w3 _ _).trans (congrArg _ (OutnIdeal.Hand.gains_sum (i 1))))

end Cert.OutnPair

end
-- ==== Proof.GateMath.lean ====
/-
  The gated convolution, backward: the kernel's block computations and the reference's operations, on real arguments.
  Everything is a column's own affair: the convolution runs along the rows, three taps, nothing outside the array.
-/
module

public import proofs.«01_k».proof.Proof.Reals
public import proofs.«01_k».proof.Proof.Gen.GateIdeal.Skeleton
public import Idealize.ShloMosaic.Lib.KernelVsHost

@[expose] public section

set_option maxRecDepth 16384

noncomputable section

namespace Cert.GateMath

open Idealize.ShloMosaic Cert.Reals
open Idealize.ShloMosaic (ix1 ix2 ix3)

/-! ## One column over the reals -/

/-- The row before; nothing before the first. -/
def prv (a : Fin 2048 → ℝ) (r : Fin 2048) : ℝ := if h : r.val = 0 then 0 else a ⟨r.val - 1, by omega⟩
/-- The row after; nothing after the last. -/
def nxt (a : Fin 2048 → ℝ) (r : Fin 2048) : ℝ := if h : r.val = 2047 then 0 else a ⟨r.val + 1, by omega⟩
/-- The convolution of a column by three taps, and its bias. -/
def conv (a : Fin 2048 → ℝ) (w : Fin 3 → ℝ) (b : ℝ) (r : Fin 2048) : ℝ := prv a r * w 0 + a r * w 1 + nxt a r * w 2 + b
def sg (z : ℝ) : ℝ := 1 / (1 + Real.exp (-z))
/-- The gate's gradient at the convolved gate column `p` and value column `q`. -/
def dgate (d p q : Fin 2048 → ℝ) (r : Fin 2048) : ℝ := d r * q r * (sg (p r) * (1 + p r * (1 - sg (p r))))
/-- The value's gradient there. -/
def dval (d p : Fin 2048 → ℝ) (r : Fin 2048) : ℝ := d r * (p r * sg (p r))
/-- The column's gradient from the convolved column's. -/
def dcol (e : Fin 2048 → ℝ) (w : Fin 3 → ℝ) (r : Fin 2048) : ℝ := nxt e r * w 0 + e r * w 1 + prv e r * w 2
/-- The taps' gradients and the bias's, and four rows of zeros. -/
def dtaps (a e : Fin 2048 → ℝ) (k : Fin 8) : ℝ :=
  if k.val = 0 then ∑ r, prv a r * e r else if k.val = 1 then ∑ r, a r * e r else if k.val = 2 then ∑ r, nxt a r * e r
  else if k.val = 3 then ∑ r, e r else 0

/-- A gate's column, -/
def cg (j : Fin 5632) : Fin 11264 := ⟨j.val, by omega⟩
/-- and a value's. -/
def cv (j : Fin 5632) : Fin 11264 := ⟨5632 + j.val, by omega⟩

/-- A half's column. -/
def col (s : Fin 2) (j : Fin 5632) : Fin 11264 := ⟨s.val * 5632 + j.val, by omega⟩

theorem col_zero (j : Fin 5632) : col 0 j = cg j := Fin.ext (show 0 * 5632 + j.val = j.val by omega)
theorem col_one (j : Fin 5632) : col 1 j = cv j := Fin.ext (show 1 * 5632 + j.val = 5632 + j.val by omega)

section Columns
variable (x : Fin 11264 → Fin 2048 → ℝ) (w : Fin 11264 → Fin 3 → ℝ) (b : Fin 11264 → ℝ) (d : Fin 5632 → Fin 2048 → ℝ)

/-- The gradient that reaches the convolved columns. -/
def dconv (c : Fin 11264) : Fin 2048 → ℝ :=
  if h : c.val < 5632 then dgate (d ⟨c.val, h⟩) (conv (x c) (w c) (b c)) (conv (x (cv ⟨c.val, h⟩)) (w (cv ⟨c.val, h⟩)) (b (cv ⟨c.val, h⟩)))
  else dval (d ⟨c.val - 5632, by omega⟩) (conv (x (cg ⟨c.val - 5632, by omega⟩)) (w (cg ⟨c.val - 5632, by omega⟩)) (b (cg ⟨c.val - 5632, by omega⟩)))

theorem dconv_cg (j : Fin 5632) : dconv x w b d (cg j) = dgate (d j) (conv (x (cg j)) (w (cg j)) (b (cg j))) (conv (x (cv j)) (w (cv j)) (b (cv j))) := dif_pos j.isLt
theorem dconv_cv (j : Fin 5632) : dconv x w b d (cv j) = dval (d j) (conv (x (cg j)) (w (cg j)) (b (cg j))) := by
  have hj : (⟨(cv j).val - 5632, by have := j.isLt; show 5632 + j.val - 5632 < 5632; omega⟩ : Fin 5632) = j := Fin.ext (show 5632 + j.val - 5632 = j.val by omega)
  unfold dconv
  rw [dif_neg (show ¬(cv j).val < 5632 by show ¬5632 + j.val < 5632; omega), hj]

end Columns

/-! ## The kernel's operations -/

section Kernel
open Cert.GateIdeal Cert.GateIdeal.Gen

theorem row_eq_zero (r : Fin 2048) : (BitVec.ofNat 32 r.val = 0#32) ↔ r.val = 0 := by
  rw [← BitVec.toNat_inj, BitVec.toNat_ofNat]
  show r.val % 4294967296 = 0 ↔ _
  omega
theorem row_eq_last (r : Fin 2048) : (BitVec.ofNat 32 r.val = 2047#32) ↔ r.val = 2047 := by
  rw [← BitVec.toNat_inj, BitVec.toNat_ofNat]
  show r.val % 4294967296 = 2047 ↔ _
  omega

theorem select_eq (p q : BitVec 32) (x y : EReal) : Scalar.select (IntOp.cmpi .eq p q) x y = if p = q then x else y := by
  show Scalar.select (BitVec.ofBool (p == q)) x y = _
  rw [Scalar.select_ofBool]
  simp

section
variable {v : FVec Ideal S2048x256 .f32} {a : Fin 2048 → ℝ} {j : Fin 256}

theorem prv_real (hv : ∀ r, v (ix2 r j) = a r) (r : Fin 2048) :
    select k0_pay6 (broadcast S2048x256 (Scalar.ofBits (F := Ideal) .f32 0x00000000#32)) (dynamicRotate 0 1#32 none v rotates_S2048x256_d0) (ix2 r j) = (prv a r : EReal) := by
  pointwise [k0_pay6]
  rw [select_eq, hv]
  simp only [row_eq_zero, prv]
  split
  · rfl
  · exact congrArg (fun i => (a i : EReal)) (Fin.ext (show (r.val + 2048 - 1) % 2048 = r.val - 1 by omega))

theorem nxt_real (hv : ∀ r, v (ix2 r j) = a r) (r : Fin 2048) :
    select k0_pay7 (broadcast S2048x256 (Scalar.ofBits (F := Ideal) .f32 0x00000000#32)) (dynamicRotate 0 2047#32 none v rotates_S2048x256_d0) (ix2 r j) = (nxt a r : EReal) := by
  pointwise [k0_pay7]
  rw [select_eq, hv]
  simp only [row_eq_last, nxt]
  split
  · rfl
  · exact congrArg (fun i => (a i : EReal)) (Fin.ext (show (r.val + 2048 - 2047) % 2048 = r.val + 1 by omega))

/-- A plane's column, without the plane's axis. -/
theorem plane_real {v : Vec Ideal S1x2048x256 .f32} (hv : ∀ r, v (ix3 0 r j) = (a r : EReal)) (r : Fin 2048) : k0_pay8 (F := Ideal) v (ix2 r j) = (a r : EReal) := by
  pointwise [k0_pay8]; exact hv r
theorem pay9_real {v : Vec Ideal S1x2048x256 .f32} (hv : ∀ r, v (ix3 0 r j) = (a r : EReal)) (r : Fin 2048) : k0_pay9 (F := Ideal) v (ix2 r j) = (prv a r : EReal) :=
  prv_real (plane_real hv) r
theorem pay10_real {v : Vec Ideal S1x2048x256 .f32} (hv : ∀ r, v (ix3 0 r j) = (a r : EReal)) (r : Fin 2048) : k0_pay10 (F := Ideal) v (ix2 r j) = (nxt a r : EReal) :=
  nxt_real (plane_real hv) r

/-- What a block of the taps holds at a column: three taps and the bias. -/
structure Taps (u : Vec Ideal S1x8x256 .f32) (j : Fin 256) (w : Fin 3 → ℝ) (b : ℝ) : Prop where
  w0 : u (ix3 0 0 j) = (w 0 : EReal)
  w1 : u (ix3 0 1 j) = (w 1 : EReal)
  w2 : u (ix3 0 2 j) = (w 2 : EReal)
  b : u (ix3 0 3 j) = (b : EReal)

theorem pay11_real {v : Vec Ideal S1x2048x256 .f32} {u : Vec Ideal S1x8x256 .f32} {w : Fin 3 → ℝ} {b : ℝ} (hv : ∀ r, v (ix3 0 r j) = (a r : EReal))
    (hu : Taps u j w b) (r : Fin 2048) : k0_pay11 (F := Ideal) v u (ix2 r j) = (conv a w b r : EReal) := by
  have e0 := pay9_real hv r
  have e1 := plane_real hv r
  have e2 := pay10_real hv r
  unfold k0_pay11
  generalize k0_pay9 (F := Ideal) v = p9 at *
  generalize k0_pay8 (F := Ideal) v = p8 at *
  generalize k0_pay10 (F := Ideal) v = p10 at *
  pointwise []
  rw [e0, e1, e2, hu.w0, hu.w1, hu.w2, hu.b]
  simp only [← EReal.coe_mul, ← EReal.coe_add]
  rfl

/-- The slope of the exponential's reciprocal: the kernel's sigmoid. -/
theorem pay17_real {p : FVec Ideal S2048x256 .f32} {i : S2048x256.Idx} {z : ℝ} (hp : p i = z) : k0_pay17 (F := Ideal) p i = (sg z : EReal) := by
  pointwise [k0_pay17]
  rw [hp, zero_sub, ← EReal.coe_neg, exp_real, ← EReal.coe_one, ← EReal.coe_add, div_real (by positivity)]
  rfl

theorem pay19_real {v : Vec Ideal S1x2048x256 .f32} {u : Vec Ideal S1x8x256 .f32} {w : Fin 3 → ℝ} {b : ℝ} {p : FVec Ideal S2048x256 .f32} {g d : Fin 2048 → ℝ}
    {da : Vec Ideal S2048x256 .f32} (hv : ∀ r, v (ix3 0 r j) = (a r : EReal)) (hu : Taps u j w b) (hp : ∀ r, p (ix2 r j) = g r)
    (hd : ∀ r, da (ix2 r j) = (d r : EReal)) (r : Fin 2048) :
    k0_pay19 (F := Ideal) k0_pay7 p (k0_pay12 v) (k0_pay13 u) (k0_pay14 v) (k0_pay15 v) (Scalar.ofBits .f32 0x00000000#32) da (ix2 r j)
      = (dgate d g (conv a w b) r : EReal) := by
  have hs := pay17_real (hp r)
  have hc := pay11_real hv hu r
  have hg := hp r
  have e := hd r
  show mulf (mulf (k0_pay18 (F := Ideal) da) (k0_pay11 (F := Ideal) v u)) (mulf (k0_pay17 (F := Ideal) p) (addf (broadcast S2048x256 (Scalar.ofBits (F := Ideal) .f32 0x3F800000#32))
    (mulf p (subf (broadcast S2048x256 (Scalar.ofBits (F := Ideal) .f32 0x3F800000#32)) (k0_pay17 (F := Ideal) p))))) (ix2 r j) = _
  generalize k0_pay11 (F := Ideal) v u = p11 at *
  generalize k0_pay17 (F := Ideal) p = p17 at *
  pointwise [k0_pay18]
  rw [hs, hc, hg, e, ← EReal.coe_one]
  simp only [← EReal.coe_mul, ← EReal.coe_add, ← EReal.coe_sub]
  rfl

theorem pay20_real {p : FVec Ideal S2048x256 .f32} {g d : Fin 2048 → ℝ} {da : Vec Ideal S2048x256 .f32} (hp : ∀ r, p (ix2 r j) = g r)
    (hd : ∀ r, da (ix2 r j) = (d r : EReal)) (r : Fin 2048) : k0_pay20 (F := Ideal) p da (ix2 r j) = (dval d g r : EReal) := by
  have hs := pay17_real (hp r)
  have hg := hp r
  have e := hd r
  unfold k0_pay20
  generalize k0_pay17 (F := Ideal) p = p17 at *
  pointwise [k0_pay18]
  rw [hs, hg, e]
  simp only [← EReal.coe_mul]
  rfl

/-- A column's gradient, from the convolved column's gradient `e` and the taps. -/
theorem pay31_real {e : FVec Ideal S2048x256 .f32} {u : Vec Ideal S1x8x256 .f32} {w : Fin 3 → ℝ} {b : ℝ} (hv : ∀ r, e (ix2 r j) = a r) (hu : Taps u j w b) (r : Fin 2048) :
    k0_pay31 (F := Ideal) k0_pay6 k0_pay7 e u (ix3 0 r j) = (dcol a w r : EReal) := by
  have e0 := nxt_real hv r
  have e1 := hv r
  have e2 := prv_real hv r
  unfold k0_pay31
  dsimp only
  generalize select k0_pay6 (broadcast S2048x256 (Scalar.ofBits (F := Ideal) .f32 0x00000000#32)) (dynamicRotate 0 1#32 none e rotates_S2048x256_d0) = p0 at *
  generalize select k0_pay7 (broadcast S2048x256 (Scalar.ofBits (F := Ideal) .f32 0x00000000#32)) (dynamicRotate 0 2047#32 none e rotates_S2048x256_d0) = p1 at *
  pointwise []
  rw [e0, e1, e2, hu.w0, hu.w1, hu.w2]
  simp only [← EReal.coe_mul, ← EReal.coe_add]
  rfl

theorem pay25_eq (e : FVec Ideal S2048x256 .f32) (u : Vec Ideal S1x8x256 .f32) :
    k0_pay25 (F := Ideal) k0_pay6 k0_pay7 e (k0_pay23 u) (dynamicRotate 0 1#32 none e rotates_S2048x256_d0) (Scalar.ofBits .f32 0x00000000#32) = k0_pay31 k0_pay6 k0_pay7 e u := rfl

/-! The taps' gradients: sums along the rows. -/

theorem pay26_real {p e : FVec Ideal S2048x256 .f32} {f g : Fin 2048 → ℝ} (hp : ∀ r, p (ix2 r j) = f r) (he : ∀ r, e (ix2 r j) = g r) :
    k0_pay26 (F := Ideal) p e (ix3 0 0 j) = ((∑ r, f r * g r : ℝ) : EReal) := by
  pointwise [k0_pay26]
  simp only [hp, he, ← EReal.coe_mul, coe_sum]
theorem pay29_real {e : FVec Ideal S2048x256 .f32} {g : Fin 2048 → ℝ} (he : ∀ r, e (ix2 r j) = g r) :
    k0_pay29 (F := Ideal) e (ix3 0 0 j) = ((∑ r, g r : ℝ) : EReal) := by
  pointwise [k0_pay29]
  simp only [he, coe_sum]
theorem pay27_eq (p e : FVec Ideal S2048x256 .f32) : k0_pay27 (F := Ideal) e p = k0_pay26 p e := rfl
theorem pay28_eq (p e : FVec Ideal S2048x256 .f32) : k0_pay28 (F := Ideal) p e = k0_pay26 p e := rfl
theorem pay1_eq (p e : FVec Ideal S2048x256 .f32) : k0_pay1 (F := Ideal) (k0_pay32 p e) = k0_pay26 p e := rfl
theorem pay2_eq (p e : FVec Ideal S2048x256 .f32) : k0_pay2 (F := Ideal) e p = k0_pay26 p e := rfl
theorem pay3_eq (p e : FVec Ideal S2048x256 .f32) : k0_pay3 (F := Ideal) p e = k0_pay26 p e := rfl
theorem pay4_eq (e : FVec Ideal S2048x256 .f32) : k0_pay4 (F := Ideal) e = k0_pay29 e := rfl
theorem pay5_eq : k0_pay5 (F := Ideal) = k0_pay30 := rfl
theorem pay30_real (k : Fin 4) : k0_pay30 (F := Ideal) (ix3 0 k j) = 0 := by pointwise [k0_pay30]

end

end Kernel

end Cert.GateMath

end
-- ==== Proof.GateValue.lean ====
/-
  The gated convolution, backward: what the kernel's two results are, read off its run. A grid point takes 256 gate columns
  and the 256 value columns beside them, all their rows.
-/
module

public import proofs.«01_k».proof.Proof.GateMath
public import proofs.«01_k».proof.Proof.Gen.GateIdeal.Value

@[expose] public section

set_option maxRecDepth 16384

noncomputable section

namespace Cert.GateIdeal.Hand

open Cert.GateIdeal Cert.GateIdeal.Gen Idealize.ShloMosaic Idealize.ShloMosaic.TcCoe Idealize.SL.Sem Cert.Reals Cert.GateMath
open Idealize.ShloMosaic.Pipeline (Dat)
open Idealize.ShloMosaic (ix1 ix2 ix3)

theorem hz : (![0, 0] : Fin 2 → Nat) = fun _ => 0 := funext fun a => by fin_cases a <;> rfl

theorem ext3 {n0 n1 n2 : Nat} {i j : (⟨3, ![n0, n1, n2]⟩ : Shape).Idx} (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-! ## One half's plane of a block -/

abbrev rp0 : Rect S2x2048x256 := Rect.unit (s := S2x2048x256) ![0, 0, 0] S1x2048x256.size inb_S2x2048x256_S1x2048x256_0_0_0
abbrev rp1 : Rect S2x2048x256 := Rect.unit (s := S2x2048x256) ![1, 0, 0] S1x2048x256.size inb_S2x2048x256_S1x2048x256_1_0_0
abbrev rt0 : Rect S2x8x256 := Rect.unit (s := S2x8x256) ![0, 0, 0] S1x8x256.size inb_S2x8x256_S1x8x256_0_0_0
abbrev rt1 : Rect S2x8x256 := Rect.unit (s := S2x8x256) ![1, 0, 0] S1x8x256.size inb_S2x8x256_S1x8x256_1_0_0

theorem ld_p0 {e : EltTy} (X : Vec Ideal S2x2048x256 e) (r : Fin 2048) (j : Fin 256) : View.ld X rp0 (ix3 0 r j) = X (ix3 0 r j) :=
  congrArg X (ext3 rfl (show 0 + 1 * r.val = r.val by omega) (show 0 + 1 * j.val = j.val by omega))
theorem ld_p1 {e : EltTy} (X : Vec Ideal S2x2048x256 e) (r : Fin 2048) (j : Fin 256) : View.ld X rp1 (ix3 0 r j) = X (ix3 1 r j) :=
  congrArg X (ext3 rfl (show 0 + 1 * r.val = r.val by omega) (show 0 + 1 * j.val = j.val by omega))
theorem ld_t0 {e : EltTy} (X : Vec Ideal S2x8x256 e) (k : Fin 8) (j : Fin 256) : View.ld X rt0 (ix3 0 k j) = X (ix3 0 k j) :=
  congrArg X (ext3 rfl (show 0 + 1 * k.val = k.val by omega) (show 0 + 1 * j.val = j.val by omega))
theorem ld_t1 {e : EltTy} (X : Vec Ideal S2x8x256 e) (k : Fin 8) (j : Fin 256) : View.ld X rt1 (ix3 0 k j) = X (ix3 1 k j) :=
  congrArg X (ext3 rfl (show 0 + 1 * k.val = k.val by omega) (show 0 + 1 * j.val = j.val by omega))

section Block
variable {xx : Fin 2 → Fin 256 → Fin 2048 → ℝ} {ww : Fin 2 → Fin 256 → Fin 3 → ℝ} {bb : Fin 2 → Fin 256 → ℝ} {dd : Fin 256 → Fin 2048 → ℝ}
  {X0 : Vec Ideal S2x2048x256 .f32} {X1 : Vec Ideal S2048x256 .f32} {X2 : Vec Ideal S2x8x256 .f32}

/-- What a block holds. -/
structure Holds (X0 : Vec Ideal S2x2048x256 .f32) (X1 : Vec Ideal S2048x256 .f32) (X2 : Vec Ideal S2x8x256 .f32)
    (xx : Fin 2 → Fin 256 → Fin 2048 → ℝ) (ww : Fin 2 → Fin 256 → Fin 3 → ℝ) (bb : Fin 2 → Fin 256 → ℝ) (dd : Fin 256 → Fin 2048 → ℝ) : Prop where
  h : ∀ s r j, X0 (ix3 s r j) = (xx s j r : EReal)
  d : ∀ r j, X1 (ix2 r j) = (dd j r : EReal)
  w0 : ∀ s j, X2 (ix3 s 0 j) = (ww s j 0 : EReal)
  w1 : ∀ s j, X2 (ix3 s 1 j) = (ww s j 1 : EReal)
  w2 : ∀ s j, X2 (ix3 s 2 j) = (ww s j 2 : EReal)
  b : ∀ s j, X2 (ix3 s 3 j) = (bb s j : EReal)

/-- The gradient at the convolved columns, of a block. -/
def ee (xx : Fin 2 → Fin 256 → Fin 2048 → ℝ) (ww : Fin 2 → Fin 256 → Fin 3 → ℝ) (bb : Fin 2 → Fin 256 → ℝ) (dd : Fin 256 → Fin 2048 → ℝ) (s : Fin 2) (j : Fin 256) : Fin 2048 → ℝ :=
  if s = 0 then dgate (dd j) (conv (xx 0 j) (ww 0 j) (bb 0 j)) (conv (xx 1 j) (ww 1 j) (bb 1 j)) else dval (dd j) (conv (xx 0 j) (ww 0 j) (bb 0 j))

variable (H : Holds X0 X1 X2 xx ww bb dd)
include H

theorem taps0 (j : Fin 256) : Taps (View.ld X2 rt0) j (ww 0 j) (bb 0 j) :=
  ⟨(ld_t0 X2 0 j).trans (H.w0 0 j), (ld_t0 X2 1 j).trans (H.w1 0 j), (ld_t0 X2 2 j).trans (H.w2 0 j), (ld_t0 X2 3 j).trans (H.b 0 j)⟩
theorem taps1 (j : Fin 256) : Taps (View.ld X2 rt1) j (ww 1 j) (bb 1 j) :=
  ⟨(ld_t1 X2 0 j).trans (H.w0 1 j), (ld_t1 X2 1 j).trans (H.w1 1 j), (ld_t1 X2 2 j).trans (H.w2 1 j), (ld_t1 X2 3 j).trans (H.b 1 j)⟩
theorem plane0 (j : Fin 256) (r : Fin 2048) : View.ld X0 rp0 (ix3 0 r j) = (xx 0 j r : EReal) := (ld_p0 X0 r j).trans (H.h 0 r j)
theorem plane1 (j : Fin 256) (r : Fin 2048) : View.ld X0 rp1 (ix3 0 r j) = (xx 1 j r : EReal) := (ld_p1 X0 r j).trans (H.h 1 r j)

omit H in
variable (X0 X1 X2) in
/-- The gates' gradient as the kernel computes it, -/
abbrev e0 : FVec Ideal S2048x256 .f32 :=
  k0_pay19 (F := Ideal) k0_pay7 (k0_pay11 (View.ld X0 rp0) (View.ld X2 rt0)) (k0_pay12 (View.ld X0 rp1)) (k0_pay13 (View.ld X2 rt1)) (k0_pay14 (View.ld X0 rp1)) (k0_pay15 (View.ld X0 rp1))
    (FloatOps.ofBits FTy.f32 0#32) X1
omit H in
variable (X0 X1 X2) in
/-- and the values'. -/
abbrev e1 : FVec Ideal S2048x256 .f32 := k0_pay20 (F := Ideal) (k0_pay11 (View.ld X0 rp0) (View.ld X2 rt0)) X1

theorem e0_real (j : Fin 256) (r : Fin 2048) : e0 X0 X1 X2 (ix2 r j) = (ee xx ww bb dd 0 j r : EReal) :=
  pay19_real (plane1 H j) (taps1 H j) (fun r => pay11_real (plane0 H j) (taps0 H j) r) (fun r => H.d r j) r
theorem e1_real (j : Fin 256) (r : Fin 2048) : e1 X0 X1 X2 (ix2 r j) = (ee xx ww bb dd 1 j r : EReal) :=
  pay20_real (fun r => pay11_real (plane0 H j) (taps0 H j) r) (fun r => H.d r j) r

end Block

variable (m : (ℓ : Loc nD τ sig) → Buf (Elt Ideal) ℓ) (c : Dev nD)

/-! ## What a grid point leaves -/

section Point
variable (t : Fin cfg0.N) {xx : Fin 2 → Fin 256 → Fin 2048 → ℝ} {ww : Fin 2 → Fin 256 → Fin 3 → ℝ} {bb : Fin 2 → Fin 256 → ℝ} {dd : Fin 256 → Fin 2048 → ℝ}
  (H : Holds (iblk m c 0 t) (iblk m c 1 t) (iblk m c 2 t) xx ww bb dd)
include H

/-- The columns' gradients, -/
theorem outs_3 : (outsAt0 m c t).1 = (fun y => (dcol (ee xx ww bb dd (y 0) (y 2)) (ww (y 0) (y 2)) (y 1) : EReal) : Vec Ideal S2x2048x256 .bf16) := by
  unfold outsAt0
  dsimp only
  unfold out0_A_3
  rw [View.read_writes_eq_canon _ _ _ fun y => cover0_A_3 (y := y) ..]
  funext y
  refine View.canon_apply_of_pieces (Val := Elt Ideal) (e := .bf16) (fun y => (dcol (ee xx ww bb dd (y 0) (y 2)) (ww (y 0) (y 2)) (y 1) : EReal)) _ ?_ y (cover0_A_3 (y := y) ..)
  unfold kernelRun0_A
  dsimp only
  sl_unfold_words
  simp only [View.readAt_eq_ld, (hs0_0 t).read_unread, (hs0_1 t).read_unread, (hs0_2 t).read_unread, View.ld_unit_zero (S := S2048x256) hz]
  intro pc hpc
  rcases List.mem_cons.mp hpc with rfl | hpc
  · intro x
    have hx : x = ix3 0 (x 1) (x 2) := ext3 (by have : (x 0).val < 1 := (x 0).isLt; show (x 0).val = 0; omega) rfl rfl
    have hy : (Rect.unit (s := S2x2048x256) ![1, 0, 0] S1x2048x256.size inb_S2x2048x256_S1x2048x256_1_0_0).emb x = ix3 1 (x 1) (x 2) :=
      ext3 (by have : (x 0).val < 1 := (x 0).isLt; show 1 + 1 * (x 0).val = 1; omega) (by show 0 + 1 * (x 1).val = (x 1).val; omega) (by show 0 + 1 * (x 2).val = (x 2).val; omega)
    rw [hy]
    exact (congrArg _ hx).trans (pay31_real (e1_real H (x 2)) (taps1 H (x 2)) (x 1))
  · obtain rfl := List.mem_singleton.mp hpc
    intro x
    have hx : x = ix3 0 (x 1) (x 2) := ext3 (by have : (x 0).val < 1 := (x 0).isLt; show (x 0).val = 0; omega) rfl rfl
    have hy : (Rect.unit (s := S2x2048x256) ![0, 0, 0] S1x2048x256.size inb_S2x2048x256_S1x2048x256_0_0_0).emb x = ix3 0 (x 1) (x 2) :=
      ext3 (by have : (x 0).val < 1 := (x 0).isLt; show 0 + 1 * (x 0).val = 0; omega) (by show 0 + 1 * (x 1).val = (x 1).val; omega) (by show 0 + 1 * (x 2).val = (x 2).val; omega)
    rw [hy]
    exact (congrArg _ hx).trans (pay31_real (e0_real H (x 2)) (taps0 H (x 2)) (x 1))

/-- and the taps' and biases'. -/
theorem outs_4 : (outsAt0 m c t).2 = (fun y => (dtaps (xx (y 0) (y 2)) (ee xx ww bb dd (y 0) (y 2)) (y 1) : EReal) : Vec Ideal S2x8x256 .f32) := by
  unfold outsAt0
  dsimp only
  unfold out0_A_4
  rw [View.read_writes_eq_canon _ _ _ fun y => cover0_A_4 (y := y) ..]
  funext y
  refine View.canon_apply_of_pieces (Val := Elt Ideal) (e := .f32) (fun y => (dtaps (xx (y 0) (y 2)) (ee xx ww bb dd (y 0) (y 2)) (y 1) : EReal)) _ ?_ y (cover0_A_4 (y := y) ..)
  unfold kernelRun0_A
  dsimp only
  sl_unfold_words
  simp only [View.readAt_eq_ld, (hs0_0 t).read_unread, (hs0_1 t).read_unread, (hs0_2 t).read_unread, View.ld_unit_zero (S := S2048x256) hz]
  have one : ∀ x : S1x1x256.Idx, x = ix3 0 0 (x 2) := fun x =>
    ext3 (by have : (x 0).val < 1 := (x 0).isLt; show (x 0).val = 0; omega) (by have : (x 1).val < 1 := (x 1).isLt; show (x 1).val = 0; omega) rfl
  have four : ∀ x : S1x4x256.Idx, x = ix3 0 (x 1) (x 2) := fun x => ext3 (by have : (x 0).val < 1 := (x 0).isLt; show (x 0).val = 0; omega) rfl rfl
  have pos1 : ∀ (s : Fin 2) (k : Fin 8) (inb) (x : S1x1x256.Idx), (Rect.unit (s := S2x8x256) ![s.val, k.val, 0] S1x1x256.size inb).emb x = ix3 s k (x 2) := fun s k inb x =>
    ext3 (by have : (x 0).val < 1 := (x 0).isLt; show s.val + 1 * (x 0).val = s.val; omega) (by have : (x 1).val < 1 := (x 1).isLt; show k.val + 1 * (x 1).val = k.val; omega)
      (by show 0 + 1 * (x 2).val = (x 2).val; omega)
  have pos4 : ∀ (s : Fin 2) (inb) (x : S1x4x256.Idx), (Rect.unit (s := S2x8x256) ![s.val, 4, 0] S1x4x256.size inb).emb x
      = ix3 s ⟨4 + (x 1).val, by have : (x 1).val < 4 := (x 1).isLt; omega⟩ (x 2) := fun s inb x =>
    ext3 (by have : (x 0).val < 1 := (x 0).isLt; show s.val + 1 * (x 0).val = s.val; omega) (by show 4 + 1 * (x 1).val = 4 + (x 1).val; omega)
      (by show 0 + 1 * (x 2).val = (x 2).val; omega)
  have at1 : ∀ (s : Fin 2) (k : Fin 8) (inb) (x : S1x1x256.Idx), (fun y : S2x8x256.Idx => (dtaps (xx (y 0) (y 2)) (ee xx ww bb dd (y 0) (y 2)) (y 1) : EReal)) ((Rect.unit (s := S2x8x256) ![s.val, k.val, 0] S1x1x256.size inb).emb x)
      = (dtaps (xx s (x 2)) (ee xx ww bb dd s (x 2)) k : EReal) := fun s k inb x => by rw [pos1]; rfl
  have at4 : ∀ (s : Fin 2) (inb) (x : S1x4x256.Idx), (fun y : S2x8x256.Idx => (dtaps (xx (y 0) (y 2)) (ee xx ww bb dd (y 0) (y 2)) (y 1) : EReal)) ((Rect.unit (s := S2x8x256) ![s.val, 4, 0] S1x4x256.size inb).emb x)
      = (dtaps (xx s (x 2)) (ee xx ww bb dd s (x 2)) ⟨4 + (x 1).val, by have : (x 1).val < 4 := (x 1).isLt; omega⟩ : EReal) := fun s inb x => by rw [pos4]; rfl
  have zero : ∀ (a e : Fin 2048 → ℝ) (k : Fin 4), (0 : EReal) = (dtaps a e ⟨4 + k.val, by omega⟩ : EReal) := fun a e k => by
    rw [dtaps, if_neg (show ¬4 + k.val = 0 by omega), if_neg (show ¬4 + k.val = 1 by omega), if_neg (show ¬4 + k.val = 2 by omega), if_neg (show ¬4 + k.val = 3 by omega)]
    rfl
  intro pc hpc
  simp only [List.mem_cons, List.not_mem_nil, or_false] at hpc
  rcases hpc with rfl | rfl | rfl | rfl | rfl | rfl | rfl | rfl | rfl | rfl <;> intro x
  · exact ((congrArg _ (four x)).trans ((pay30_real (x 1)).trans (zero _ _ (x 1)))).trans (at4 1 inb_S2x8x256_S1x4x256_1_4_0 x).symm
  · exact ((congrArg _ (one x)).trans (pay29_real (e1_real H (x 2)))).trans (at1 1 3 inb_S2x8x256_S1x1x256_1_3_0 x).symm
  · exact ((congrArg _ (one x)).trans (pay26_real (pay10_real (plane1 H (x 2))) (e1_real H (x 2)))).trans (at1 1 2 inb_S2x8x256_S1x1x256_1_2_0 x).symm
  · exact ((congrArg _ (one x)).trans (pay26_real (plane_real (plane1 H (x 2))) (e1_real H (x 2)))).trans (at1 1 1 inb_S2x8x256_S1x1x256_1_1_0 x).symm
  · exact ((congrArg _ (one x)).trans (pay26_real (pay9_real (plane1 H (x 2))) (e1_real H (x 2)))).trans (at1 1 0 inb_S2x8x256_S1x1x256_1_0_0 x).symm
  · exact ((congrArg _ (four x)).trans ((pay30_real (x 1)).trans (zero _ _ (x 1)))).trans (at4 0 inb_S2x8x256_S1x4x256_0_4_0 x).symm
  · exact ((congrArg _ (one x)).trans (pay29_real (e0_real H (x 2)))).trans (at1 0 3 inb_S2x8x256_S1x1x256_0_3_0 x).symm
  · exact ((congrArg _ (one x)).trans (pay26_real (pay10_real (plane0 H (x 2))) (e0_real H (x 2)))).trans (at1 0 2 inb_S2x8x256_S1x1x256_0_2_0 x).symm
  · exact ((congrArg _ (one x)).trans (pay26_real (plane_real (plane0 H (x 2))) (e0_real H (x 2)))).trans (at1 0 1 inb_S2x8x256_S1x1x256_0_1_0 x).symm
  · exact ((congrArg _ (one x)).trans (pay26_real (pay9_real (plane0 H (x 2))) (e0_real H (x 2)))).trans (at1 0 0 inb_S2x8x256_S1x1x256_0_0_0 x).symm

end Point

/-! ## The blocks of the arguments -/

theorem idx_facts : ∀ t : Fin cfg0.N, win0_0.index t 0 = 0 ∧ win0_0.index t 1 = 0 ∧ win0_0.index t 2 = t.val ∧ win0_1.index t 0 = 0 ∧ win0_1.index t 1 = t.val
    ∧ win0_2.index t 0 = 0 ∧ win0_2.index t 1 = 0 ∧ win0_2.index t 2 = t.val ∧ win0_3.index t 0 = 0 ∧ win0_3.index t 1 = 0 ∧ win0_3.index t 2 = t.val
    ∧ win0_4.index t 0 = 0 ∧ win0_4.index t 1 = 0 ∧ win0_4.index t 2 = t.val :=
  (by decide +kernel : ∀ t : Fin grid0.N, _)

/-- The column of a half that column `j` of block `t` is. -/
abbrev tile (t : Fin cfg0.N) (j : Fin 256) : Fin 5632 := ⟨256 * t.val + j.val, by have := t.isLt; have : cfg0.N = 22 := N_0; omega⟩

/-! The prepared arguments, entry by entry. -/

theorem planes_apply (a : Vec Ideal S1x2048x11264 .f32) (s : Fin 2) (r : Fin 2048) (j : Fin 5632) :
    (transpose S2x2048x5632 [1, 0, 2] (shapeCast S2048x2x5632 a shapeCasts_S1x2048x11264_S2048x2x5632) transposes_S2048x2x5632_S2x2048x5632_1_0_2 : Vec Ideal S2x2048x5632 .f32) (ix3 s r j)
      = a (ix3 0 r (col s j)) := by
  pointwise []
  rfl

theorem rows_apply (a : Vec Ideal S1x2048x5632 .f32) (r : Fin 2048) (j : Fin 5632) :
    (shapeCast S2048x5632 a shapeCasts_S1x2048x5632_S2048x5632 : Vec Ideal S2048x5632 .f32) (ix2 r j) = a (ix3 0 r j) := by
  pointwise []

theorem taps_apply (a : Vec Ideal S3x11264 .f32) (b : Vec Ideal S11264 .f32) (s : Fin 2) (k : Fin 8) (j : Fin 5632) :
    (concatenate S2x8x5632 1 [⟨S2x3x5632, (transpose S2x3x5632 [1, 0, 2] (shapeCast S3x2x5632 a shapeCasts_S3x11264_S3x2x5632) transposes_S3x2x5632_S2x3x5632_1_0_2 : Vec Ideal S2x3x5632 .f32)⟩,
      ⟨S2x1x5632, (shapeCast S2x1x5632 b shapeCasts_S11264_S2x1x5632 : Vec Ideal S2x1x5632 .f32)⟩,
      ⟨S2x4x5632, (broadcastInDim S2x4x5632 ![] bcast_S_S2x4x5632 (constant (F := Ideal) S_ .f32 0x00000000#32) : Vec Ideal S2x4x5632 .f32)⟩]
        concatenates_S2x3x5632_S2x1x5632_S2x4x5632_S2x8x5632_d1 : Vec Ideal S2x8x5632 .f32) (ix3 s k j)
      = (if h : k.val < 3 then a (ix2 ⟨k.val, h⟩ (col s j)) else if k.val = 3 then b (ix1 (col s j)) else 0 : EReal) := by
  pointwise []
  split
  · rfl
  · by_cases hk : k.val = 3
    · rw [dif_pos (show k.val - 3 < 1 by omega), if_pos hk]
      rfl
    · rw [dif_neg (show ¬k.val - 3 < 1 by omega), if_neg hk]

theorem iblk0 (t : Fin cfg0.N) (s : Fin 2) (r : Fin 2048) (j : Fin 256) :
    (iblk m c 0 t : Vec Ideal S2x2048x256 .f32) (ix3 s r j) = (m ((c : Thread nD τ).loc main_arg0) : Vec Ideal S1x2048x11264 .f32) (ix3 0 r (col s (tile t j))) := by
  unfold iblk
  rw [View.read_apply]
  show V m c main_v1 _ = _
  have e : ((cfg0.win 0).blk t).view.emb (ix3 s r j) = ix3 s r (tile t j) := by
    have hi := idx_facts t
    refine ext3 ?_ ?_ ?_
    · show win0_0.index t 0 * 2 + 1 * s.val = s.val; omega
    · show win0_0.index t 1 * 2048 + 1 * r.val = r.val; omega
    · show win0_0.index t 2 * 256 + 1 * j.val = 256 * t.val + j.val; omega
  have v : V m c main_v1 = transpose S2x2048x5632 [1, 0, 2] (shapeCast S2048x2x5632 (m (c, Proc.tc.devRef main_arg0)) shapeCasts_S1x2048x11264_S2048x2x5632) transposes_S2048x2x5632_S2x2048x5632_1_0_2 := by
    unfold V; after_results_simp <;> rfl
  rw [e, v]
  exact planes_apply _ s r (tile t j)

theorem iblk1 (t : Fin cfg0.N) (r : Fin 2048) (j : Fin 256) :
    (iblk m c 1 t : Vec Ideal S2048x256 .f32) (ix2 r j) = (m ((c : Thread nD τ).loc main_arg3) : Vec Ideal S1x2048x5632 .f32) (ix3 0 r (tile t j)) := by
  unfold iblk
  rw [View.read_apply]
  show V m c main_v7 _ = _
  have e : ((cfg0.win 1).blk t).view.emb (ix2 r j) = ix2 r (tile t j) := by
    have hi := idx_facts t
    refine Shape.idx_ext₂ ?_ ?_
    · show win0_1.index t 0 * 2048 + 1 * r.val = r.val; omega
    · show win0_1.index t 1 * 256 + 1 * j.val = 256 * t.val + j.val; omega
  have v : V m c main_v7 = shapeCast S2048x5632 (m (c, Proc.tc.devRef main_arg3)) shapeCasts_S1x2048x5632_S2048x5632 := by
    unfold V; after_results_simp <;> rfl
  rw [e, v]
  exact rows_apply _ r (tile t j)

theorem iblk2 (t : Fin cfg0.N) (s : Fin 2) (k : Fin 8) (j : Fin 256) :
    (iblk m c 2 t : Vec Ideal S2x8x256 .f32) (ix3 s k j) = (if h : k.val < 3 then (m ((c : Thread nD τ).loc main_arg1) : Vec Ideal S3x11264 .f32) (ix2 ⟨k.val, h⟩ (col s (tile t j)))
      else if k.val = 3 then (m ((c : Thread nD τ).loc main_arg2) : Vec Ideal S11264 .f32) (ix1 (col s (tile t j))) else 0 : EReal) := by
  unfold iblk
  rw [View.read_apply]
  show V m c main_v6 _ = _
  have e : ((cfg0.win 2).blk t).view.emb (ix3 s k j) = ix3 s k (tile t j) := by
    have hi := idx_facts t
    refine ext3 ?_ ?_ ?_
    · show win0_2.index t 0 * 2 + 1 * s.val = s.val; omega
    · show win0_2.index t 1 * 8 + 1 * k.val = k.val; omega
    · show win0_2.index t 2 * 256 + 1 * j.val = 256 * t.val + j.val; omega
  have v : V m c main_v6 = concatenate S2x8x5632 1 [⟨S2x3x5632, (transpose S2x3x5632 [1, 0, 2] (shapeCast S3x2x5632 (m (c, Proc.tc.devRef main_arg1)) shapeCasts_S3x11264_S3x2x5632) transposes_S3x2x5632_S2x3x5632_1_0_2 : Vec Ideal S2x3x5632 .f32)⟩,
      ⟨S2x1x5632, (shapeCast S2x1x5632 (m (c, Proc.tc.devRef main_arg2)) shapeCasts_S11264_S2x1x5632 : Vec Ideal S2x1x5632 .f32)⟩,
      ⟨S2x4x5632, (broadcastInDim S2x4x5632 ![] bcast_S_S2x4x5632 (constant (F := Ideal) S_ .f32 0x00000000#32) : Vec Ideal S2x4x5632 .f32)⟩] concatenates_S2x3x5632_S2x1x5632_S2x4x5632_S2x8x5632_d1 := by
    unfold V; after_results_simp <;> rfl
  rw [e, v]
  exact taps_apply _ _ s k (tile t j)

section Final
variable {x : Fin 11264 → Fin 2048 → ℝ} {w : Fin 11264 → Fin 3 → ℝ} {b : Fin 11264 → ℝ} {d : Fin 5632 → Fin 2048 → ℝ}
  (h0 : (m ((c : Thread nD τ).loc main_arg0) : Vec Ideal S1x2048x11264 .f32) = fun i => (x (i 2) (i 1) : EReal))
  (h1 : (m ((c : Thread nD τ).loc main_arg1) : Vec Ideal S3x11264 .f32) = fun i => (w (i 1) (i 0) : EReal))
  (h2 : (m ((c : Thread nD τ).loc main_arg2) : Vec Ideal S11264 .f32) = fun i => (b (i 0) : EReal))
  (h3 : (m ((c : Thread nD τ).loc main_arg3) : Vec Ideal S1x2048x5632 .f32) = fun i => (d (i 2) (i 1) : EReal))
include h0 h1 h2 h3

theorem holds (t : Fin cfg0.N) : Holds (iblk m c 0 t) (iblk m c 1 t) (iblk m c 2 t) (fun s j => x (col s (tile t j))) (fun s j => w (col s (tile t j)))
    (fun s j => b (col s (tile t j))) (fun j => d (tile t j)) where
  h s r j := (iblk0 m c t s r j).trans (congrFun h0 _)
  d r j := (iblk1 m c t r j).trans (congrFun h3 _)
  w0 s j := (iblk2 m c t s 0 j).trans (congrFun h1 _)
  w1 s j := (iblk2 m c t s 1 j).trans (congrFun h1 _)
  w2 s j := (iblk2 m c t s 2 j).trans (congrFun h1 _)
  b s j := (iblk2 m c t s 3 j).trans (congrFun h2 _)

omit h0 h1 h2 h3 in
theorem ee_eq (t : Fin cfg0.N) (s : Fin 2) (j : Fin 256) : ee (fun s j => x (col s (tile t j))) (fun s j => w (col s (tile t j)))
    (fun s j => b (col s (tile t j))) (fun j => d (tile t j)) s j = dconv x w b d (col s (tile t j)) := by
  match s with
  | 0 => exact (show _ = dgate _ _ _ from if_pos rfl).trans (by simp only [col_zero, col_one, dconv_cg])
  | 1 => exact (show _ = dval _ _ from if_neg (by decide)).trans (by simp only [col_zero, col_one, dconv_cv])

/-- The columns' gradients, as the kernel leaves them. -/
theorem final_3 : (dats m 0 c).arrAt 3 cfg0.N = (fun i => (dcol (dconv x w b d (col (i 0) (i 2))) (w (col (i 0) (i 2))) (i 1) : EReal) : Vec Ideal S2x2048x5632 .bf16) := by
  refine (dats m 0 c).arrAt_eq_of_cover 3 _ (fun t _ => ?_) fun (i : S2x2048x5632.Idx) =>
    ⟨⟨(i 2 : Nat) / 256, by have h : (i 2 : Nat) < 5632 := (i 2).isLt; have : cfg0.N = 22 := N_0; omega⟩, flush0_3 _, ?_⟩
  · rw [Value.flushed3, outs_3 m c t (holds m c h0 h1 h2 h3 t)]
    funext y
    rw [View.read_apply]
    have he : ((cfg0.win 3).blk t).view.emb y = ix3 (y 0) (y 1) (tile t (y 2)) := by
      have hi := idx_facts t
      refine ext3 ?_ ?_ ?_
      · show win0_3.index t 0 * 2 + 1 * (y 0).val = (y 0).val; omega
      · show win0_3.index t 1 * 2048 + 1 * (y 1).val = (y 1).val; omega
      · show win0_3.index t 2 * 256 + 1 * (y 2).val = 256 * t.val + (y 2).val; omega
    rw [he]
    exact congrArg (fun e : Fin 2048 → ℝ => ((dcol e (w (col (y 0) (tile t (y 2)))) (y 1) : ℝ) : EReal)) (ee_eq t (y 0) (y 2))
  · generalize hp : (⟨(i 2 : Nat) / 256, _⟩ : Fin cfg0.N) = p
    have hv : p.val = (i 2 : Nat) / 256 := by rw [← hp]
    have hi := idx_facts p
    have b0 : (i 0 : Nat) < 2 := (i 0).isLt
    have b1 : (i 1 : Nat) < 2048 := (i 1).isLt
    have b2 : (i 2 : Nat) < 5632 := (i 2).isLt
    show i ∈ ((View.whole main_v8_0).slice (win0_3.rect p)).set
    rw [View.set_slice_whole, Rect.mem_set_unit]
    intro a
    match a with
    | ⟨0, _⟩ => show win0_3.index p 0 * 2 ≤ (i 0 : Nat) ∧ (i 0 : Nat) < win0_3.index p 0 * 2 + 2; omega
    | ⟨1, _⟩ => show win0_3.index p 1 * 2048 ≤ (i 1 : Nat) ∧ (i 1 : Nat) < win0_3.index p 1 * 2048 + 2048; omega
    | ⟨2, _⟩ => show win0_3.index p 2 * 256 ≤ (i 2 : Nat) ∧ (i 2 : Nat) < win0_3.index p 2 * 256 + 256; omega

/-- The taps' and biases' gradients, as the kernel leaves them. -/
theorem final_4 : (dats m 0 c).arrAt 4 cfg0.N = (fun i => (dtaps (x (col (i 0) (i 2))) (dconv x w b d (col (i 0) (i 2))) (i 1) : EReal) : Vec Ideal S2x8x5632 .f32) := by
  refine (dats m 0 c).arrAt_eq_of_cover 4 _ (fun t _ => ?_) fun (i : S2x8x5632.Idx) =>
    ⟨⟨(i 2 : Nat) / 256, by have h : (i 2 : Nat) < 5632 := (i 2).isLt; have : cfg0.N = 22 := N_0; omega⟩, flush0_4 _, ?_⟩
  · rw [Value.flushed4, outs_4 m c t (holds m c h0 h1 h2 h3 t)]
    funext y
    rw [View.read_apply]
    have he : ((cfg0.win 4).blk t).view.emb y = ix3 (y 0) (y 1) (tile t (y 2)) := by
      have hi := idx_facts t
      refine ext3 ?_ ?_ ?_
      · show win0_4.index t 0 * 2 + 1 * (y 0).val = (y 0).val; omega
      · show win0_4.index t 1 * 8 + 1 * (y 1).val = (y 1).val; omega
      · show win0_4.index t 2 * 256 + 1 * (y 2).val = 256 * t.val + (y 2).val; omega
    rw [he]
    exact congrArg (fun e : Fin 2048 → ℝ => ((dtaps (x (col (y 0) (tile t (y 2)))) e (y 1) : ℝ) : EReal)) (ee_eq t (y 0) (y 2))
  · generalize hp : (⟨(i 2 : Nat) / 256, _⟩ : Fin cfg0.N) = p
    have hv : p.val = (i 2 : Nat) / 256 := by rw [← hp]
    have hi := idx_facts p
    have b0 : (i 0 : Nat) < 2 := (i 0).isLt
    have b1 : (i 1 : Nat) < 8 := (i 1).isLt
    have b2 : (i 2 : Nat) < 5632 := (i 2).isLt
    show i ∈ ((View.whole main_v8_1).slice (win0_4.rect p)).set
    rw [View.set_slice_whole, Rect.mem_set_unit]
    intro a
    match a with
    | ⟨0, _⟩ => show win0_4.index p 0 * 2 ≤ (i 0 : Nat) ∧ (i 0 : Nat) < win0_4.index p 0 * 2 + 2; omega
    | ⟨1, _⟩ => show win0_4.index p 1 * 8 ≤ (i 1 : Nat) ∧ (i 1 : Nat) < win0_4.index p 1 * 8 + 8; omega
    | ⟨2, _⟩ => show win0_4.index p 2 * 256 ≤ (i 2 : Nat) ∧ (i 2 : Nat) < win0_4.index p 2 * 256 + 256; omega

end Final

end Cert.GateIdeal.Hand

end
-- ==== Proof.GateRef.lean ====
/-
  The gated convolution, backward: the reference's operations on real arguments. The convolution's gradient is written as
  three padded products added up; row by row that is the three taps run the other way.
-/
module

public import proofs.«01_k».proof.Proof.GateMath
public import proofs.«01_k».proof.Proof.Gen.GateRefIdeal.Read

@[expose] public section

set_option maxRecDepth 16384

noncomputable section

namespace Cert.GateMath

open Idealize.ShloMosaic Cert.Reals
open Idealize.ShloMosaic (ix1 ix2 ix3)
open Cert.GateRefIdeal Cert.GateRefIdeal.Gen Cert.GateRefIdeal.Read

/-- The two sums over axes of one entry. -/
theorem sum_ones {n : Nat} (h : (⟨3, ![1, 1, n]⟩ : Shape).ReducesTo [0, 1] ⟨1, ![n]⟩)
    (v : (⟨3, ![1, 1, n]⟩ : Shape).Idx → EReal) (init : EReal) (a : Fin n) : Ideal.hostReduceAdd h v init (ix1 a) = init + v (ix3 0 0 a) := by
  refine congrArg (init + ·) ?_
  have e : Finset.univ.filter (fun i => h.drop i = ix1 a) = {ix3 0 0 a} := by
    ext i
    simp only [Finset.mem_filter, Finset.mem_univ, true_and, Finset.mem_singleton]
    constructor
    · intro e
      funext x
      match x with
      | ⟨0, _⟩ => exact Fin.ext (by have h0 : (i 0).val < 1 := (i 0).isLt; show (i 0).val = 0; omega)
      | ⟨1, _⟩ => exact Fin.ext (by have h0 : (i 1).val < 1 := (i 1).isLt; show (i 1).val = 0; omega)
      | ⟨2, _⟩ => exact Fin.ext (congrArg Fin.val (congrFun e 0))
    · rintro rfl
      funext x
      match x with
      | ⟨0, _⟩ => rfl
  rw [e, Finset.sum_singleton]

/-- Rows padded above and below. -/
theorem pad_rows {N M n lo hi : Nat} {u : Shape} {X : (⟨3, ![1, N, n]⟩ : Shape).Idx → EReal} {Z : u.Idx → EReal}
    (hp : (⟨3, ![1, N, n]⟩ : Shape).Pads (![0, lo, 0] : Fin 3 → Nat) ![0, hi, 0] ![0, 0, 0] ⟨3, ![1, M, n]⟩) (hu : 0 < u.numel) {f : Fin N → ℝ} {c : Fin n}
    (hX : ∀ r, X (ix3 0 r c) = f r) (hZ : ∀ i, Z i = 0) (z : Fin 1) (r : Fin M) :
    pad (⟨3, ![1, M, n]⟩ : Shape) ![0, lo, 0] ![0, hi, 0] ![0, 0, 0] X Z hp hu (ix3 z r c)
      = ((if h : lo ≤ r.val ∧ r.val - lo < N then f ⟨r.val - lo, h.2⟩ else 0 : ℝ) : EReal) := by
  have hz : z.val = 0 := by omega
  split
  · rename_i h
    rw [pad_apply_of_inside (t := ⟨3, ![1, M, n]⟩) (s := ⟨3, ![1, N, n]⟩) _ _ _ _ _ _ _ _ (ix3 0 ⟨r.val - lo, h.2⟩ c), hX]
    intro a
    match a with
    | ⟨0, _⟩ => show z.val = 0 + 0 * 1; omega
    | ⟨1, _⟩ => show r.val = lo + (r.val - lo) * 1; omega
    | ⟨2, _⟩ => show c.val = 0 + c.val * 1; omega
  · rename_i h
    rw [pad_apply_of_not_inside (t := ⟨3, ![1, M, n]⟩) (s := ⟨3, ![1, N, n]⟩) _ _ _ _ _ _ _ _ 1, hZ]
    · rfl
    · rintro ⟨h1, -, h2⟩
      have h1' : lo ≤ r.val := h1
      have h2' : (r.val - lo) / 1 < N := h2
      exact h ⟨h1', by omega⟩

/-- One row set among three. -/
theorem pad_row {n lo hi : Nat} {u : Shape} {X : (⟨2, ![1, n]⟩ : Shape).Idx → EReal} {Z : u.Idx → EReal}
    (hp : (⟨2, ![1, n]⟩ : Shape).Pads (![lo, 0] : Fin 2 → Nat) ![hi, 0] ![0, 0] ⟨2, ![3, n]⟩) (hu : 0 < u.numel) {f : ℝ} {c : Fin n}
    (hX : X (ix2 0 c) = f) (hZ : ∀ i, Z i = 0) (k : Fin 3) :
    pad (⟨2, ![3, n]⟩ : Shape) ![lo, 0] ![hi, 0] ![0, 0] X Z hp hu (ix2 k c) = ((if k.val = lo then f else 0 : ℝ) : EReal) := by
  split
  · rename_i h
    rw [pad_apply_of_inside (t := ⟨2, ![3, n]⟩) (s := ⟨2, ![1, n]⟩) _ _ _ _ _ _ _ _ (ix2 0 c), hX]
    intro a
    match a with
    | ⟨0, _⟩ => show k.val = lo + 0 * 1; omega
    | ⟨1, _⟩ => show c.val = 0 + c.val * 1; omega
  · rename_i h
    rw [pad_apply_of_not_inside (t := ⟨2, ![3, n]⟩) (s := ⟨2, ![1, n]⟩) _ _ _ _ _ _ _ _ 0, hZ]
    · rfl
    · rintro ⟨h1, -, h2⟩
      have h1' : lo ≤ k.val := h1
      have h2' : (k.val - lo) / 1 < 1 := h2
      exact h (by omega)

section Reference
variable {x : Fin 11264 → Fin 2048 → ℝ} {w : Fin 11264 → Fin 3 → ℝ} {b : Fin 11264 → ℝ} {d : Fin 5632 → Fin 2048 → ℝ} {x0 : FVec Ideal S1x2048x11264 .f32} {x1 : FVec Ideal S3x11264 .f32} {x2 : FVec Ideal S11264 .f32} {x3 : FVec Ideal S1x2048x5632 .f32}
  (h0 : ∀ r c, x0 (ix3 0 r c) = x c r) (h1 : ∀ k c, x1 (ix2 k c) = w c k) (h2 : ∀ c, x2 (ix1 c) = b c) (h3 : ∀ r j, x3 (ix3 0 r j) = d j r)
include h0

theorem v4_real (z : Fin 1) (r : Fin 2048) (c : Fin 11264) : val_main_v4 (F := Ideal) x0 (ix3 z r c) = (prv (x c) r : EReal) := by
  pointwise [val_main_v4, val_main_v1, val_main_v0, val_main_cst]
  simp only [h0, prv]
  split
  · rw [dif_pos (by omega)]; rfl
  · rw [dif_pos (by omega), dif_neg (by omega)]

theorem v10_real (z : Fin 1) (r : Fin 2048) (c : Fin 11264) : val_main_v10 (F := Ideal) x0 (ix3 z r c) = (x c r : EReal) := by
  pointwise [val_main_v10, val_main_v1, val_main_v0, val_main_cst]
  exact h0 r c

theorem v17_real (z : Fin 1) (r : Fin 2048) (c : Fin 11264) : val_main_v17 (F := Ideal) x0 (ix3 z r c) = (nxt (x c) r : EReal) := by
  pointwise [val_main_v17, val_main_v1, val_main_v0, val_main_cst]
  simp only [h0, nxt]
  rw [dif_neg (by omega)]
  split
  · rw [dif_neg (by omega)]
    exact congrArg (fun i => (x c i : EReal)) (Fin.ext (show 2 + r.val - 1 = r.val + 1 by omega))
  · rw [dif_pos (by omega)]; rfl

include h1 h2

theorem v26_real (z : Fin 1) (r : Fin 2048) (c : Fin 11264) : val_main_v26 (F := Ideal) x0 x1 x2 (ix3 z r c) = (conv (x c) (w c) (b c) r : EReal) := by
  pointwise [val_main_v26, val_main_v25, val_main_v24, val_main_v23, val_main_v22, val_main_v21, val_main_v20, val_main_v19, val_main_v18, val_main_v16,
    val_main_v15, val_main_v14, val_main_v13, val_main_v12, val_main_v11, val_main_v9, val_main_v8, val_main_v7, val_main_v6, val_main_v5]
  rw [v4_real h0, v10_real h0, v17_real h0]
  simp only [h1, h2, ← EReal.coe_mul, ← EReal.coe_add]
  rfl

theorem v29_real (z : Fin 1) (r : Fin 2048) (j : Fin 5632) :
    val_main_v29_2 (F := Ideal) x0 x1 x2 (ix3 z r j) = (sg (conv (x (cg j)) (w (cg j)) (b (cg j)) r) : EReal) := by
  pointwise [val_main_v29_2, val_main_call0_v0, val_main_call0_v1, val_main_call0_v2, val_main_call0_v3, val_main_call0_v4, val_main_call0_cst,
    val_main_call0_cst_0, val_main_v27]
  rw [v26_real h0 h1 h2, ← EReal.coe_neg, exp_real, ← EReal.coe_one, ← EReal.coe_add, div_real (by positivity)]
  rfl

include h3

/-- The gradient of the convolution's result, gates then values. -/
theorem v34_real (z : Fin 1) (r : Fin 2048) (c : Fin 11264) : val_main_v34 (F := Ideal) x0 x1 x2 x3 (ix3 z r c) = (dconv x w b d c r : EReal) := by
  pointwise [val_main_v34, val_main_v33, val_main_v32, val_main_v31, val_main_call1_v0, val_main_call1_v1, val_main_call1_v2, val_main_v29_0, val_main_v29_1,
    val_main_call0_v6, val_main_call0_v7, val_main_call0_cst_1, val_main_v27, val_main_v28]
  simp only [v29_real h0 h1 h2, v26_real h0 h1 h2]
  have hz : z = 0 := Subsingleton.elim _ _
  subst hz
  simp only [h3]
  split
  · rename_i hc
    rw [← EReal.coe_one]
    simp only [← EReal.coe_mul, ← EReal.coe_add, ← EReal.coe_sub]
    refine congrArg _ ?_
    rw [dconv, dif_pos hc]
    have hg : cg ⟨c.val, hc⟩ = c := rfl
    simp only [hg, dgate]
    show _ = d _ r * conv (x ⟨5632 + c.val, _⟩) (w ⟨5632 + c.val, _⟩) (b ⟨5632 + c.val, _⟩) r * _
    ring
  · rename_i hc
    simp only [← EReal.coe_mul]
    refine congrArg _ ?_
    rw [dconv, dif_neg hc]
    exact mul_comm _ _

theorem v45_real (k : Fin 3) (c : Fin 11264) :
    val_main_v45 (F := Ideal) x0 x1 x2 x3 (ix2 k c) = ((if k.val = 2 then ∑ r, nxt (x c) r * dconv x w b d c r else 0 : ℝ) : EReal) := by
  unfold val_main_v45
  refine pad_row _ _ ?_ (fun i => by pointwise [val_main_cst_6]) k
  pointwise [val_main_v44, val_main_v43, val_main_cst_5]
  refine (sum_ones _ _ _ c).trans ?_
  pointwise [val_main_v40, val_main_v39, val_main_v38, val_main_cst_4]
  simp only [v17_real h0, v34_real h0 h1 h2 h3, ← EReal.coe_mul, coe_sum, zero_add]

theorem v54_real (k : Fin 3) (c : Fin 11264) :
    val_main_v54 (F := Ideal) x0 x1 x2 x3 (ix2 k c) = ((if k.val = 1 then ∑ r, x c r * dconv x w b d c r else 0 : ℝ) : EReal) := by
  unfold val_main_v54
  refine pad_row _ _ ?_ (fun i => by pointwise [val_main_cst_10]) k
  pointwise [val_main_v53, val_main_v52, val_main_cst_9]
  refine (sum_ones _ _ _ c).trans ?_
  pointwise [val_main_v49, val_main_v48, val_main_v47, val_main_cst_8]
  simp only [v10_real h0, v34_real h0 h1 h2 h3, ← EReal.coe_mul, coe_sum, zero_add]

theorem v65_real (k : Fin 3) (c : Fin 11264) :
    val_main_v65 (F := Ideal) x0 x1 x2 x3 (ix2 k c) = ((if k.val = 0 then ∑ r, prv (x c) r * dconv x w b d c r else 0 : ℝ) : EReal) := by
  unfold val_main_v65
  refine pad_row _ _ ?_ (fun i => by pointwise [val_main_cst_14]) k
  pointwise [val_main_v64, val_main_v63, val_main_cst_13]
  refine (sum_ones _ _ _ c).trans ?_
  pointwise [val_main_v60, val_main_v59, val_main_v58, val_main_cst_12]
  simp only [v4_real h0, v34_real h0 h1 h2 h3, ← EReal.coe_mul, coe_sum, zero_add]

theorem v46_real (z : Fin 1) (r : Fin 2050) (c : Fin 11264) :
    val_main_v46 (F := Ideal) x0 x1 x2 x3 (ix3 z r c) = ((if h : 2 ≤ r.val ∧ r.val - 2 < 2048 then dconv x w b d c ⟨r.val - 2, h.2⟩ * w c 2 else 0 : ℝ) : EReal) := by
  unfold val_main_v46
  refine pad_rows (f := fun r => dconv x w b d c r * w c 2) _ _ (fun r => ?_) (fun i => by pointwise [val_main_cst_7]) z r
  pointwise [val_main_v42, val_main_v41, val_main_v20, val_main_v19, val_main_v18]
  rw [v34_real h0 h1 h2 h3]
  simp only [h1, ← EReal.coe_mul]

theorem v56_real (z : Fin 1) (r : Fin 2050) (c : Fin 11264) :
    val_main_v56 (F := Ideal) x0 x1 x2 x3 (ix3 z r c) = ((if h : 1 ≤ r.val ∧ r.val - 1 < 2048 then dconv x w b d c ⟨r.val - 1, h.2⟩ * w c 1 else 0 : ℝ) : EReal) := by
  unfold val_main_v56
  refine pad_rows (f := fun r => dconv x w b d c r * w c 1) _ _ (fun r => ?_) (fun i => by pointwise [val_main_cst_11]) z r
  pointwise [val_main_v51, val_main_v50, val_main_v13, val_main_v12, val_main_v11]
  rw [v34_real h0 h1 h2 h3]
  simp only [h1, ← EReal.coe_mul]

theorem v67_real (z : Fin 1) (r : Fin 2050) (c : Fin 11264) :
    val_main_v67 (F := Ideal) x0 x1 x2 x3 (ix3 z r c) = ((if h : 0 ≤ r.val ∧ r.val - 0 < 2048 then dconv x w b d c ⟨r.val - 0, h.2⟩ * w c 0 else 0 : ℝ) : EReal) := by
  unfold val_main_v67
  refine pad_rows (f := fun r => dconv x w b d c r * w c 0) _ _ (fun r => ?_) (fun i => by pointwise [val_main_cst_15]) z r
  pointwise [val_main_v62, val_main_v61, val_main_v7, val_main_v6, val_main_v5]
  rw [v34_real h0 h1 h2 h3]
  simp only [h1, ← EReal.coe_mul]

/-- The gradient of the convolved array. -/
theorem v70_real (z : Fin 1) (r : Fin 2048) (c : Fin 11264) : val_main_v70 (F := Ideal) x0 x1 x2 x3 (ix3 z r c) = (dcol (dconv x w b d c) (w c) r : EReal) := by
  pointwise [val_main_v70, val_main_v68, val_main_v57]
  rw [v46_real h0 h1 h2 h3, v56_real h0 h1 h2 h3, v67_real h0 h1 h2 h3]
  simp only [← EReal.coe_add]
  refine congrArg _ ?_
  rw [dcol, prv, nxt, dif_pos (show 1 ≤ 1 + r.val ∧ 1 + r.val - 1 < 2048 by omega)]
  have e : ∀ n h, n = r.val → dconv x w b d c ⟨n, h⟩ = dconv x w b d c r := fun n h hn => congrArg _ (Fin.ext hn)
  have e' : ∀ n h m h', n = m → dconv x w b d c ⟨n, h⟩ = dconv x w b d c ⟨m, h'⟩ := fun n h m h' hn => congrArg _ (Fin.ext hn)
  rw [e _ _ (show 1 + r.val - 1 = r.val by omega)]
  by_cases hz : r.val = 0
  · rw [dif_neg (show ¬(2 ≤ 1 + r.val ∧ 1 + r.val - 2 < 2048) by omega), dif_pos (show 0 ≤ 1 + r.val ∧ 1 + r.val - 0 < 2048 by omega), dif_neg (show ¬r.val = 2047 by omega),
      dif_pos hz, e' (1 + r.val - 0) _ (r.val + 1) (by omega) (by omega)]
    ring
  · rw [dif_pos (show 2 ≤ 1 + r.val ∧ 1 + r.val - 2 < 2048 by omega), dif_neg hz, e' (1 + r.val - 2) _ (r.val - 1) (by omega) (by omega)]
    by_cases hl : r.val = 2047
    · rw [dif_neg (show ¬(0 ≤ 1 + r.val ∧ 1 + r.val - 0 < 2048) by omega), dif_pos hl]
      ring
    · rw [dif_pos (show 0 ≤ 1 + r.val ∧ 1 + r.val - 0 < 2048 by omega), dif_neg hl, e' (1 + r.val - 0) _ (r.val + 1) (by omega) (by omega)]
      ring

theorem v66_real (k : Fin 3) (c : Fin 11264) : val_main_v66 (F := Ideal) x0 x1 x2 x3 (ix2 k c) = (dtaps (x c) (dconv x w b d c) ⟨k.val, by omega⟩ : EReal) := by
  pointwise [val_main_v66, val_main_v55]
  rw [v45_real h0 h1 h2 h3, v54_real h0 h1 h2 h3, v65_real h0 h1 h2 h3, ← EReal.coe_add, ← EReal.coe_add]
  refine congrArg _ ?_
  match k with
  | ⟨0, _⟩ => simp [dtaps]
  | ⟨1, _⟩ => simp [dtaps]
  | ⟨2, _⟩ => simp [dtaps]

theorem v37_real (c : Fin 11264) : val_main_v37 (F := Ideal) x0 x1 x2 x3 (ix1 c) = (dtaps (x c) (dconv x w b d c) 3 : EReal) := by
  pointwise [val_main_v37, val_main_cst_3]
  refine (sum_ones _ _ _ c).trans ?_
  pointwise [val_main_v36, val_main_v35, val_main_cst_2]
  simp only [v34_real h0 h1 h2 h3, coe_sum, zero_add]
  rfl

theorem dh_real (s : Fin 2) (r : Fin 2048) (j : Fin 5632) :
    val_main_v80 (F := Ideal) x0 x1 x2 x3 (ix3 s r j) = (dcol (dconv x w b d (col s j)) (w (col s j)) r : EReal) := by
  pointwise [val_main_v80, val_main_v79, val_main_v78]
  exact v70_real h0 h1 h2 h3 0 r (col s j)

theorem dcw_real (s : Fin 2) (k : Fin 8) (j : Fin 5632) :
    val_main_v77 (F := Ideal) x0 x1 x2 x3 (ix3 s k j) = (dtaps (x (col s j)) (dconv x w b d (col s j)) k : EReal) := by
  pointwise [val_main_v77, val_main_v76, val_main_v75, val_main_v74, val_main_v73, val_main_v72, val_main_v71, val_main_v69, val_main_cst_16]
  rw [dtaps]
  split
  · rename_i hk
    exact v66_real h0 h1 h2 h3 ⟨k.val, hk⟩ (col s j)
  · rename_i hk
    rw [if_neg (show ¬k.val = 0 by omega), if_neg (show ¬k.val = 1 by omega), if_neg (show ¬k.val = 2 by omega)]
    split
    · rw [if_pos (show k.val = 3 by omega)]
      exact v37_real h0 h1 h2 h3 (col s j)
    · rw [if_neg (show ¬k.val = 3 by omega)]
      rfl

end Reference

end Cert.GateMath

end
-- ==== Proof.GatePair.lean ====
/- The gated convolution, backward: the kernel's two results are the reference's, on finite arguments. -/
module

public import proofs.«01_k».proof.Defs
public import proofs.«01_k».proof.Proof.GateValue
public import proofs.«01_k».proof.Proof.GateRef
public import proofs.«01_k».proof.Proof.Gen.GateRefIdeal.Run
public import proofs.«01_k».proof.Proof.Gen.GateRefIdeal.Read
public import proofs.«01_k».proof.Proof.Gen.Pre_gate_finite

@[expose] public section

set_option maxRecDepth 16384

noncomputable section

namespace Cert.GatePair

open Idealize.ShloMosaic Idealize.ShloMosaic.TcCoe Idealize.SL.Sem Cert.Reals Cert.GateMath
open Idealize.ShloMosaic (ix1 ix2 ix3)

/-- The columns of the one batch row. -/
abbrev cols {N n : Nat} (a : Fin 1 → Fin N → Fin n → ℝ) : Fin n → Fin N → ℝ := fun q r => a 0 r q
/-- The taps, column by column. -/
abbrev flipped {n : Nat} (a : Fin 3 → Fin n → ℝ) : Fin n → Fin 3 → ℝ := fun q k => a k q

theorem first_row {N n : Nat} (a : Fin 1 → Fin N → Fin n → ℝ) :
    (fun i : (⟨3, ![1, N, n]⟩ : Shape).Idx => (a (i 0) (i 1) (i 2) : EReal)) = fun i => (cols a (i 2) (i 1) : EReal) :=
  funext fun i => congrArg (fun z => (a z (i 1) (i 2) : EReal)) (Subsingleton.elim _ _)

/-- On finite arguments the hand-written gradient of the gated convolution leaves what differentiating it leaves: the gradient of the
    convolved array, and those of the taps and the biases. -/
theorem algebraic : algebraic_GateIdeal_GateRefIdeal_pre_gate_finite := by
  intro m g m' g' hpre hag
  have hfin : ∀ c : Dev GateIdeal.nD, ∃ (hh : Fin 1 → Fin 2048 → Fin 11264 → ℝ) (w : Fin 3 → Fin 11264 → ℝ) (b : Fin 11264 → ℝ) (d : Fin 1 → Fin 2048 → Fin 5632 → ℝ),
      (m ((c : Thread GateIdeal.nD GateIdeal.τ).loc GateIdeal.main_arg0) = fun i => (hh (i 0) (i 1) (i 2) : EReal))
      ∧ (m ((c : Thread GateIdeal.nD GateIdeal.τ).loc GateIdeal.main_arg1) = fun i => (w (i 0) (i 1) : EReal))
      ∧ (m ((c : Thread GateIdeal.nD GateIdeal.τ).loc GateIdeal.main_arg2) = fun i => (b (i 0) : EReal))
      ∧ (m ((c : Thread GateIdeal.nD GateIdeal.τ).loc GateIdeal.main_arg3) = fun i => (d (i 0) (i 1) (i 2) : EReal)) := fun c => by
    obtain ⟨p0, p1, p2, p3⟩ := hpre c
    obtain ⟨a0, e0⟩ := array_real _ _ (fun _ => rfl) p0
    obtain ⟨a1, e1⟩ := array_real _ _ (fun _ => rfl) p1
    obtain ⟨a2, e2⟩ := array_real _ _ (fun _ => rfl) p2
    obtain ⟨a3, e3⟩ := array_real _ _ (fun _ => rfl) p3
    refine ⟨fun x y z => a0 (ix3 x y z), fun x y => a1 (ix2 x y), fun x => a2 (ix1 x), fun x y z => a3 (ix3 x y z), ?_, ?_, ?_, ?_⟩
    · exact e0.trans (funext fun i => congrArg (fun i => (a0 i : EReal)) (eq_ix3 i))
    · exact e1.trans (funext fun i => congrArg (fun i => (a1 i : EReal)) (eq_ix2 i))
    · exact e2.trans (funext fun i => congrArg (fun i => (a2 i : EReal)) (eq_ix1 i))
    · exact e3.trans (funext fun i => congrArg (fun i => (a3 i : EReal)) (eq_ix3 i))
  choose hh w b d h0 h1 h2 h3 using hfin
  refine ⟨fun c i => (dcol (dconv (cols (hh c)) (flipped (w c)) (b c) (cols (d c)) (col (i 0) (i 2))) (flipped (w c) (col (i 0) (i 2))) (i 1) : EReal),
    fun c i => (dtaps (cols (hh c) (col (i 0) (i 2))) (dconv (cols (hh c)) (flipped (w c)) (b c) (cols (d c)) (col (i 0) (i 2))) (i 1) : EReal), ?_, ?_⟩
  · refine (θ_run GateIdeal.defs _ _).mono (fun r h c => ?_) (GateIdeal.Value.run_blocks m g)
    obtain ⟨e0, e1, k⟩ := h c
    exact ⟨e0.trans (GateIdeal.Hand.final_3 m c ((h0 c).trans (first_row _)) (h1 c) (h2 c) ((h3 c).trans (first_row _))),
      e1.trans (GateIdeal.Hand.final_4 m c ((h0 c).trans (first_row _)) (h1 c) (h2 c) ((h3 c).trans (first_row _))), k⟩
  · refine (θ_run GateRefIdeal.defs _ _).mono (fun r h c => ?_) (GateRefIdeal.Value.run m' g')
    obtain ⟨e0, e1, k⟩ := h c
    obtain ⟨q0, q1, q2, q3⟩ := hag c
    have w0 : ∀ x y z, m' ((c : Thread GateRefIdeal.nD GateRefIdeal.τ).loc GateRefIdeal.main_arg0) (ix3 x y z) = (hh c x y z : EReal) := fun x y z => congrFun (q0.trans (h0 c)) _
    have w1 : ∀ x y, m' ((c : Thread GateRefIdeal.nD GateRefIdeal.τ).loc GateRefIdeal.main_arg1) (ix2 x y) = (w c x y : EReal) := fun x y => congrFun (q1.trans (h1 c)) _
    have w2 : ∀ x, m' ((c : Thread GateRefIdeal.nD GateRefIdeal.τ).loc GateRefIdeal.main_arg2) (ix1 x) = (b c x : EReal) := fun x => congrFun (q2.trans (h2 c)) _
    have w3 : ∀ x y z, m' ((c : Thread GateRefIdeal.nD GateRefIdeal.τ).loc GateRefIdeal.main_arg3) (ix3 x y z) = (d c x y z : EReal) := fun x y z => congrFun (q3.trans (h3 c)) _
    refine ⟨e0.trans ((GateRefIdeal.Read.val_main_v80_eq _ ).trans (funext fun i => ?_)),
      e1.trans ((GateRefIdeal.Read.val_main_v77_eq _ ).trans (funext fun i => ?_)), k⟩
    · exact (congrArg _ (eq_ix3 i)).trans (dh_real (x := cols (hh c)) (w := flipped (w c)) (d := cols (d c)) (w0 0) w1 w2 (w3 0) _ _ _)
    · exact (congrArg _ (eq_ix3 i)).trans (dcw_real (x := cols (hh c)) (w := flipped (w c)) (d := cols (d c)) (w0 0) w1 w2 (w3 0) _ _ _)

end Cert.GatePair

end
-- ==== Proof.FwdNorm.lean ====
/-
  What the forward norms compute, entry by entry: an entry of a row over the row's root mean square, times its gain. Nothing here needs
  finite arguments.
-/
module

public import proofs.«01_k».proof.Proof.Reals

@[expose] public section

noncomputable section

namespace Cert.FwdNorm

open Idealize.ShloMosaic

/-- An entry of a row over the row's root mean square, times a gain; `w` is the float word of the row's width. -/
def normed {n : ℕ} (w : BitVec 32) (x : Fin n → EReal) (g : EReal) (l : Fin n) : EReal :=
  x l * Ideal.rsqrt (Ideal.div (∑ k, x k * x k) (Ideal.ofBits .f32 w) + Ideal.ofBits .f32 0x358637BD#32) * g

end Cert.FwdNorm

end
-- ==== Proof.NormFwdPair.lean ====
/- The residual stream's norm, forward: the kernel's result is the reference's, on any arguments. -/
module

public import proofs.«01_k».proof.Defs
public import proofs.«01_k».proof.Proof.FwdNorm
public import proofs.«01_k».proof.Proof.Gen.NormFwdIdeal.Value
public import proofs.«01_k».proof.Proof.Gen.NormFwdRefIdeal.Run
public import proofs.«01_k».proof.Proof.Gen.NormFwdRefIdeal.Read

@[expose] public section

set_option maxRecDepth 16384

noncomputable section

namespace Cert.NormFwdIdeal.Hand

open Cert.NormFwdIdeal Cert.NormFwdIdeal.Gen Idealize.ShloMosaic Idealize.ShloMosaic.TcCoe Cert.FwdNorm
open Idealize.ShloMosaic (ix1 ix2 ix3 ix4)

variable (m : (ℓ : Loc nD τ sig) → Buf (Elt Ideal) ℓ) (c : Dev nD)

theorem hz : (![0, 0] : Fin 2 → ℕ) = fun _ => 0 := by decide

/-- The argument `xs`. -/
abbrev xs : FVec Ideal S2048x2048 .f32 := m ((c : Thread nD τ).loc main_arg0)
/-- The argument `gn`. -/
abbrev gn : FVec Ideal S2048 .f32 := m ((c : Thread nD τ).loc main_arg1)

/-- A row's norm. -/
def val (x : FVec Ideal S2048x2048 .f32) (g : FVec Ideal S2048 .f32) (r j : Fin 2048) : EReal :=
  normed 0x45000000#32 (fun k => x (ix2 r k)) (g (ix1 j)) j

/-- The block the kernel stores, entry by entry. -/
theorem pay_apply {x : Fin 2048 → EReal} {g : EReal} (v0 : Vec Ideal S512x2048 .f32) (v11 : Vec Ideal S1x2048 .f32) (r : Fin 512) (l : Fin 2048)
    (h0 : ∀ k, v0 (ix2 r k) = x k) (h1 : v11 (ix2 0 l) = g) : k0_pay1 (F := Ideal) v0 v11 (ix2 r l) = normed 0x45000000#32 x g l := by
  pointwise [k0_pay1]
  simp only [h0, h1]
  rfl

theorem arg_rows : (V m c main_arg0 : FVec Ideal S2048x2048 .f32) = xs m c := by
  unfold V
  after_results_simp <;> rfl

theorem gain_row : (V m c main_v0 : FVec Ideal S1x2048 .f32) = shapeCast S1x2048 (gn m c) shapeCasts_S2048_S1x2048 := by
  unfold V
  after_results_simp <;> rfl

/-- The gain laid as a row. -/
theorem gain_apply (g : FVec Ideal S2048 .f32) (l : Fin 2048) : shapeCast S1x2048 g shapeCasts_S2048_S1x2048 (ix2 0 l) = g (ix1 l) :=
  shapeCast_apply g _ (ix2 0 l) (ix1 l) (by
    rewrite [Shape.rowMajor_val_one, Shape.rowMajor_val_two]
    show l.val = 0 * 2048 + l.val
    omega)

theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

/-- The row of the whole array that row `r` of block `t` is. -/
abbrev row (t : Fin cfg0.N) (r : Fin 512) : Fin 2048 := ⟨512 * t.val + r.val, by have := t.isLt; have : cfg0.N = 4 := N_0; omega⟩

theorem iblk0 (t : Fin cfg0.N) (r : Fin 512) (l : Fin 2048) :
    (iblk m c 0 t : FVec Ideal S512x2048 .f32) (ix2 r l) = (V m c main_arg0 : FVec Ideal S2048x2048 .f32) (ix2 (row t r) l) := by
  unfold iblk
  rw [View.read_apply]
  show V m c main_arg0 _ = V m c main_arg0 (ix2 (row t r) l)
  generalize V m c main_arg0 = W
  have hi := idx_facts t
  refine congrArg (W : FVec Ideal S2048x2048 .f32) (Shape.idx_ext₂ ?_ ?_)
  · show win0_0.index t 0 * 512 + 1 * r.val = 512 * t.val + r.val; omega
  · show win0_0.index t 1 * 2048 + 1 * l.val = l.val; omega

theorem iblk1 (t : Fin cfg0.N) (r : Fin 1) (l : Fin 2048) :
    (iblk m c 1 t : FVec Ideal S1x2048 .f32) (ix2 r l) = (V m c main_v0 : FVec Ideal S1x2048 .f32) (ix2 r l) := by
  unfold iblk
  rw [View.read_apply]
  show V m c main_v0 _ = V m c main_v0 (ix2 r l)
  generalize V m c main_v0 = W
  have hi := idx_facts t
  refine congrArg (W : FVec Ideal S1x2048 .f32) (Shape.idx_ext₂ ?_ ?_)
  · show win0_1.index t 0 * 1 + 1 * r.val = r.val; omega
  · show win0_1.index t 1 * 2048 + 1 * l.val = l.val; omega

/-- What a point writes. -/
theorem out_apply (t : Fin cfg0.N) (y : S512x2048.Idx) : out0_2 (iblk m c 0 t) (iblk m c 1 t) y = val (xs m c) (gn m c) (row t (y 0)) (y 1) := by
  unfold out0_2
  rw [View.canon_unit_zero hz, View.ld_unit_zero (S := S512x2048) hz, View.ld_unit_zero (S := S1x2048) hz]
  exact (congrArg _ (eq_ix2 y)).trans (pay_apply _ _ (y 0) (y 1) (fun k => (iblk0 m c t _ k).trans (congrFun (arg_rows m c) _))
    ((iblk1 m c t 0 _).trans ((congrFun (gain_row m c) _).trans (gain_apply _ _))))

/-- The array the kernel leaves. -/
theorem final : (dats m 0 c).arrAt 2 cfg0.N = (fun i => val (xs m c) (gn m c) (i 0) (i 1) : FVec Ideal S2048x2048 .bf16) := by
  refine (dats m 0 c).arrAt_eq_of_cover 2 _ (fun t _ => ?_) fun (i : S2048x2048.Idx) =>
    ⟨⟨(i 0 : Nat) / 512, by have h : (i 0 : Nat) < 2048 := (i 0).isLt; have : cfg0.N = 4 := N_0; omega⟩, flush0_2 _, ?_⟩
  · have hi := idx_facts t
    rw [Value.flushed2]
    funext y
    rw [View.read_apply]
    have he : ((cfg0.win 2).blk t).view.emb y = ix2 (row t (y 0)) (y 1) := by
      refine Shape.idx_ext₂ ?_ ?_
      · show win0_2.index t 0 * 512 + 1 * (y 0).val = 512 * t.val + (y 0).val; omega
      · show win0_2.index t 1 * 2048 + 1 * (y 1).val = (y 1).val; omega
    rw [he]
    exact out_apply m c t y
  · generalize hp : (⟨(i 0 : Nat) / 512, _⟩ : Fin cfg0.N) = p
    have hv : p.val = (i 0 : Nat) / 512 := by rw [← hp]
    have hi := idx_facts p
    have b1 : (i 1 : Nat) < 2048 := (i 1).isLt
    show i ∈ ((View.whole main_v1).slice (win0_2.rect p)).set
    rw [View.set_slice_whole, Rect.mem_set_unit]
    intro a
    match a with
    | ⟨0, _⟩ => show win0_2.index p 0 * 512 ≤ (i 0 : Nat) ∧ (i 0 : Nat) < win0_2.index p 0 * 512 + 512; omega
    | ⟨1, _⟩ => show win0_2.index p 1 * 2048 ≤ (i 1 : Nat) ∧ (i 1 : Nat) < win0_2.index p 1 * 2048 + 2048; omega

end Cert.NormFwdIdeal.Hand

namespace Cert.NormFwdPair

open Idealize.ShloMosaic Idealize.ShloMosaic.TcCoe Idealize.SL.Sem Cert.FwdNorm
open Idealize.ShloMosaic (ix1 ix2)
open Cert.NormFwdRefIdeal Cert.NormFwdRefIdeal.Read

/-- The array the reference leaves, entry by entry. -/
theorem ref_apply (x : FVec Ideal S2048x2048 .f32) (g : FVec Ideal S2048 .f32) (r j : Fin 2048) :
    val_main_v13 (F := Ideal) x g (ix2 r j) = NormFwdIdeal.Hand.val x g r j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The kernel's norm of the residual stream is the reference's, whatever the stream and the gain. -/
theorem algebraic : algebraic_NormFwdIdeal_NormFwdRefIdeal := by
  intro m g m' g' _ hag
  refine ⟨fun c i => NormFwdIdeal.Hand.val (NormFwdIdeal.Hand.xs m c) (NormFwdIdeal.Hand.gn m c) (i 0) (i 1), ?_, ?_⟩
  · refine (θ_run NormFwdIdeal.defs _ _).mono (fun r h c => ?_) (NormFwdIdeal.Value.run_blocks m g)
    obtain ⟨e, k⟩ := h c
    exact ⟨e.trans (NormFwdIdeal.Hand.final m c), k⟩
  · refine (θ_run NormFwdRefIdeal.defs _ _).mono (fun r h c => ?_) (NormFwdRefIdeal.Value.run m' g')
    obtain ⟨e, k⟩ := h c
    obtain ⟨q0, q1⟩ := hag c
    refine ⟨e.trans ((val_main_v13_eq _ _).trans (funext fun i => ?_)), k⟩
    refine (congrArg _ (eq_ix2 i)).trans ((ref_apply _ _ (i 0) (i 1)).trans ?_)
    rw [q0, q1]

end Cert.NormFwdPair

end
-- ==== Proof.OutnFwdPair.lean ====
/- The three groups' output norms, forward: the kernel's result is the reference's, on any arguments. -/
module

public import proofs.«01_k».proof.Defs
public import proofs.«01_k».proof.Proof.FwdNorm
public import proofs.«01_k».proof.Proof.Gen.OutnFwdIdeal.Value
public import proofs.«01_k».proof.Proof.Gen.OutnFwdRefIdeal.Run
public import proofs.«01_k».proof.Proof.Gen.OutnFwdRefIdeal.Read

@[expose] public section

set_option maxRecDepth 16384

noncomputable section

namespace Cert.OutnFwdIdeal.Hand

open Cert.OutnFwdIdeal Cert.OutnFwdIdeal.Gen Idealize.ShloMosaic Idealize.ShloMosaic.TcCoe Cert.FwdNorm
open Idealize.ShloMosaic (ix1 ix2 ix3 ix4)

variable (m : (ℓ : Loc nD τ sig) → Buf (Elt Ideal) ℓ) (c : Dev nD)

theorem hz : (![0, 0] : Fin 2 → ℕ) = fun _ => 0 := by decide

/-- The argument `ya`. -/
abbrev ya : FVec Ideal S2048x768 .f32 := m ((c : Thread nD τ).loc main_arg0)
/-- The argument `yb`. -/
abbrev yb : FVec Ideal S2048x512 .f32 := m ((c : Thread nD τ).loc main_arg1)
/-- The argument `yc`. -/
abbrev yc : FVec Ideal S2048x768 .f32 := m ((c : Thread nD τ).loc main_arg2)
/-- The argument `gn`. -/
abbrev gn : FVec Ideal S2048 .f32 := m ((c : Thread nD τ).loc main_arg3)

/-- A row of the result: each group's norm over its own columns, with the group's part of the gain. -/
def val (a : FVec Ideal S2048x768 .f32) (b : FVec Ideal S2048x512 .f32) (d : FVec Ideal S2048x768 .f32) (g : FVec Ideal S2048 .f32) (r j : Fin 2048) : EReal :=
  if h : j.val < 768 then normed 0x44400000#32 (fun k => a (ix2 r k)) (g (ix1 j)) ⟨j.val, h⟩
  else if h' : j.val < 1280 then normed 0x44000000#32 (fun k => b (ix2 r k)) (g (ix1 j)) ⟨j.val - 768, by omega⟩
  else normed 0x44400000#32 (fun k => d (ix2 r k)) (g (ix1 j)) ⟨j.val - 1280, by omega⟩

theorem val_a {a : FVec Ideal S2048x768 .f32} {b : FVec Ideal S2048x512 .f32} {d : FVec Ideal S2048x768 .f32} {g : FVec Ideal S2048 .f32}
    {r j : Fin 2048} (l : Fin 768) (h : j.val = l.val) : val a b d g r j = normed 0x44400000#32 (fun k => a (ix2 r k)) (g (ix1 j)) l := by
  unfold val
  rw [dif_pos (by omega)]
  exact congrArg _ (Fin.ext h)

theorem val_b {a : FVec Ideal S2048x768 .f32} {b : FVec Ideal S2048x512 .f32} {d : FVec Ideal S2048x768 .f32} {g : FVec Ideal S2048 .f32}
    {r j : Fin 2048} (l : Fin 512) (h : j.val = 768 + l.val) : val a b d g r j = normed 0x44000000#32 (fun k => b (ix2 r k)) (g (ix1 j)) l := by
  unfold val
  rw [dif_neg (by omega), dif_pos (by omega)]
  exact congrArg _ (Fin.ext (by show j.val - 768 = l.val; omega))

theorem val_c {a : FVec Ideal S2048x768 .f32} {b : FVec Ideal S2048x512 .f32} {d : FVec Ideal S2048x768 .f32} {g : FVec Ideal S2048 .f32}
    {r j : Fin 2048} (l : Fin 768) (h : j.val = 1280 + l.val) : val a b d g r j = normed 0x44400000#32 (fun k => d (ix2 r k)) (g (ix1 j)) l := by
  unfold val
  rw [dif_neg (by omega), dif_neg (by omega)]
  exact congrArg _ (Fin.ext (by show j.val - 1280 = l.val; omega))

/-- The first group's block, entry by entry. -/
theorem pay_a {x : Fin 768 → EReal} {g : EReal} (v0 : Vec Ideal S256x768 .f32) (v11 : Vec Ideal S1x768 .f32) (r : Fin 256) (l : Fin 768)
    (h0 : ∀ k, v0 (ix2 r k) = x k) (h1 : v11 (ix2 0 l) = g) : k0_pay2 (F := Ideal) v0 v11 (ix2 r l) = normed 0x44400000#32 x g l := by
  pointwise [k0_pay2]
  simp only [h0, h1]
  rfl

/-- The second group's block. -/
theorem pay_b {x : Fin 512 → EReal} {g : EReal} (v0 : Vec Ideal S256x512 .f32) (v11 : Vec Ideal S1x512 .f32) (r : Fin 256) (l : Fin 512)
    (h0 : ∀ k, v0 (ix2 r k) = x k) (h1 : v11 (ix2 0 l) = g) : k0_pay3 (F := Ideal) v0 v11 (ix2 r l) = normed 0x44000000#32 x g l := by
  pointwise [k0_pay3]
  simp only [h0, h1]
  rfl

/-- The third group's block. -/
theorem pay_c {x : Fin 768 → EReal} {g : EReal} (v0 : Vec Ideal S256x768 .f32) (v11 : Vec Ideal S1x768 .f32) (r : Fin 256) (l : Fin 768)
    (h0 : ∀ k, v0 (ix2 r k) = x k) (h1 : v11 (ix2 0 l) = g) : k0_pay1 (F := Ideal) v0 (k0_pay4 (F := Ideal) v0) v11 (ix2 r l) = normed 0x44400000#32 x g l := by
  pointwise [k0_pay1, k0_pay4]
  simp only [h0, h1]
  rfl

theorem V_ya : (V m c main_arg0 : FVec Ideal S2048x768 .f32) = ya m c := by
  unfold V
  after_results_simp <;> rfl

theorem V_yb : (V m c main_arg1 : FVec Ideal S2048x512 .f32) = yb m c := by
  unfold V
  after_results_simp <;> rfl

theorem V_yc : (V m c main_arg2 : FVec Ideal S2048x768 .f32) = yc m c := by
  unfold V
  after_results_simp <;> rfl

theorem gain_row : (V m c main_v0 : FVec Ideal S1x2048 .f32) = shapeCast S1x2048 (gn m c) shapeCasts_S2048_S1x2048 := by
  unfold V
  after_results_simp <;> rfl

/-- The gain laid as a row. -/
theorem gain_apply (g : FVec Ideal S2048 .f32) (l : Fin 2048) : shapeCast S1x2048 g shapeCasts_S2048_S1x2048 (ix2 0 l) = g (ix1 l) :=
  shapeCast_apply g _ (ix2 0 l) (ix1 l) (by
    rewrite [Shape.rowMajor_val_one, Shape.rowMajor_val_two]
    show l.val = 0 * 2048 + l.val
    omega)

theorem idx_facts : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = 0 ∧ win0_3.index t 1 = 0 ∧ win0_4.index t 0 = t.val ∧ win0_4.index t 1 = 0 :=
  (by decide +kernel : ∀ t : Fin grid0.N, _)

/-- The row of the whole array that row `r` of block `t` is. -/
abbrev row (t : Fin cfg0.N) (r : Fin 256) : Fin 2048 := ⟨256 * t.val + r.val, by have := t.isLt; have : cfg0.N = 8 := N_0; omega⟩

theorem iblk0 (t : Fin cfg0.N) (r : Fin 256) (l : Fin 768) :
    (iblk m c 0 t : FVec Ideal S256x768 .f32) (ix2 r l) = (V m c main_arg0 : FVec Ideal S2048x768 .f32) (ix2 (row t r) l) := by
  unfold iblk
  rw [View.read_apply]
  show V m c main_arg0 _ = V m c main_arg0 (ix2 (row t r) l)
  generalize V m c main_arg0 = W
  have hi := idx_facts t
  refine congrArg (W : FVec Ideal S2048x768 .f32) (Shape.idx_ext₂ ?_ ?_)
  · show win0_0.index t 0 * 256 + 1 * r.val = 256 * t.val + r.val; omega
  · show win0_0.index t 1 * 768 + 1 * l.val = l.val; omega

theorem iblk1 (t : Fin cfg0.N) (r : Fin 256) (l : Fin 512) :
    (iblk m c 1 t : FVec Ideal S256x512 .f32) (ix2 r l) = (V m c main_arg1 : FVec Ideal S2048x512 .f32) (ix2 (row t r) l) := by
  unfold iblk
  rw [View.read_apply]
  show V m c main_arg1 _ = V m c main_arg1 (ix2 (row t r) l)
  generalize V m c main_arg1 = W
  have hi := idx_facts t
  refine congrArg (W : FVec Ideal S2048x512 .f32) (Shape.idx_ext₂ ?_ ?_)
  · show win0_1.index t 0 * 256 + 1 * r.val = 256 * t.val + r.val; omega
  · show win0_1.index t 1 * 512 + 1 * l.val = l.val; omega

theorem iblk2 (t : Fin cfg0.N) (r : Fin 256) (l : Fin 768) :
    (iblk m c 2 t : FVec Ideal S256x768 .f32) (ix2 r l) = (V m c main_arg2 : FVec Ideal S2048x768 .f32) (ix2 (row t r) l) := by
  unfold iblk
  rw [View.read_apply]
  show V m c main_arg2 _ = V m c main_arg2 (ix2 (row t r) l)
  generalize V m c main_arg2 = W
  have hi := idx_facts t
  refine congrArg (W : FVec Ideal S2048x768 .f32) (Shape.idx_ext₂ ?_ ?_)
  · show win0_2.index t 0 * 256 + 1 * r.val = 256 * t.val + r.val; omega
  · show win0_2.index t 1 * 768 + 1 * l.val = l.val; omega

theorem iblk3 (t : Fin cfg0.N) (r : Fin 1) (l : Fin 2048) :
    (iblk m c 3 t : FVec Ideal S1x2048 .f32) (ix2 r l) = (V m c main_v0 : FVec Ideal S1x2048 .f32) (ix2 r l) := by
  unfold iblk
  rw [View.read_apply]
  show V m c main_v0 _ = V m c main_v0 (ix2 r l)
  generalize V m c main_v0 = W
  have hi := idx_facts t
  refine congrArg (W : FVec Ideal S1x2048 .f32) (Shape.idx_ext₂ ?_ ?_)
  · show win0_3.index t 0 * 1 + 1 * r.val = r.val; omega
  · show win0_3.index t 1 * 2048 + 1 * l.val = l.val; omega

theorem gain_at (t : Fin cfg0.N) (l : Fin 2048) : (iblk m c 3 t : FVec Ideal S1x2048 .f32) (ix2 0 l) = gn m c (ix1 l) :=
  (iblk3 m c t 0 _).trans ((congrFun (gain_row m c) _).trans (gain_apply _ _))

/-- What a point writes. -/
abbrev blockVal (t : Fin cfg0.N) : S256x2048.Idx → EReal := fun y => val (ya m c) (yb m c) (yc m c) (gn m c) (row t (y 0)) (y 1)

theorem piece_a (t : Fin cfg0.N) (x : S256x768.Idx) :
    k0_pay2 (F := Ideal) (iblk m c 0 t) (View.ld (iblk m c 3 t) (Rect.unit (s := S1x2048) ![0, 0] S1x768.size inb_S1x2048_S1x768_0_0)) x
      = blockVal m c t ((Rect.unit (s := S256x2048) ![0, 0] S256x768.size inb_S256x2048_S256x768_0_0).emb x) := by
  have hy : (Rect.unit (s := S256x2048) ![0, 0] S256x768.size inb_S256x2048_S256x768_0_0).emb x = ix2 (x 0) ⟨(x 1).val, by have : (x 1).val < 768 := (x 1).isLt; omega⟩ :=
    Shape.idx_ext₂ (by show 0 + 1 * (x 0).val = (x 0).val; omega) (by show 0 + 1 * (x 1).val = (x 1).val; omega)
  rw [hy]
  refine (congrArg _ (eq_ix2 x)).trans ((pay_a _ _ (x 0) (x 1) (fun k => (iblk0 m c t _ k).trans (congrFun (V_ya m c) _)) ?_).trans (val_a (x 1) rfl).symm)
  refine (congrArg (iblk m c 3 t : FVec Ideal S1x2048 .f32) (Shape.idx_ext₂ ?_ ?_)).trans (gain_at m c t _)
  · show 0 + 1 * 0 = 0; omega
  · show 0 + 1 * (x 1).val = (x 1).val; omega

theorem piece_b (t : Fin cfg0.N) (x : S256x512.Idx) :
    k0_pay3 (F := Ideal) (iblk m c 1 t) (View.ld (iblk m c 3 t) (Rect.unit (s := S1x2048) ![0, 768] S1x512.size inb_S1x2048_S1x512_0_768)) x
      = blockVal m c t ((Rect.unit (s := S256x2048) ![0, 768] S256x512.size inb_S256x2048_S256x512_0_768).emb x) := by
  have hy : (Rect.unit (s := S256x2048) ![0, 768] S256x512.size inb_S256x2048_S256x512_0_768).emb x = ix2 (x 0) ⟨768 + (x 1).val, by have : (x 1).val < 512 := (x 1).isLt; omega⟩ :=
    Shape.idx_ext₂ (by show 0 + 1 * (x 0).val = (x 0).val; omega) (by show 768 + 1 * (x 1).val = 768 + (x 1).val; omega)
  rw [hy]
  refine (congrArg _ (eq_ix2 x)).trans ((pay_b _ _ (x 0) (x 1) (fun k => (iblk1 m c t _ k).trans (congrFun (V_yb m c) _)) ?_).trans (val_b (x 1) rfl).symm)
  refine (congrArg (iblk m c 3 t : FVec Ideal S1x2048 .f32) (Shape.idx_ext₂ ?_ ?_)).trans (gain_at m c t _)
  · show 0 + 1 * 0 = 0; omega
  · show 768 + 1 * (x 1).val = 768 + (x 1).val; omega

theorem piece_c (t : Fin cfg0.N) (x : S256x768.Idx) :
    k0_pay1 (F := Ideal) (iblk m c 2 t) (k0_pay4 (F := Ideal) (iblk m c 2 t)) (View.ld (iblk m c 3 t) (Rect.unit (s := S1x2048) ![0, 1280] S1x768.size inb_S1x2048_S1x768_0_1280)) x
      = blockVal m c t ((Rect.unit (s := S256x2048) ![0, 1280] S256x768.size inb_S256x2048_S256x768_0_1280).emb x) := by
  have hy : (Rect.unit (s := S256x2048) ![0, 1280] S256x768.size inb_S256x2048_S256x768_0_1280).emb x = ix2 (x 0) ⟨1280 + (x 1).val, by have : (x 1).val < 768 := (x 1).isLt; omega⟩ :=
    Shape.idx_ext₂ (by show 0 + 1 * (x 0).val = (x 0).val; omega) (by show 1280 + 1 * (x 1).val = 1280 + (x 1).val; omega)
  rw [hy]
  refine (congrArg _ (eq_ix2 x)).trans ((pay_c _ _ (x 0) (x 1) (fun k => (iblk2 m c t _ k).trans (congrFun (V_yc m c) _)) ?_).trans (val_c (x 1) rfl).symm)
  refine (congrArg (iblk m c 3 t : FVec Ideal S1x2048 .f32) (Shape.idx_ext₂ ?_ ?_)).trans (gain_at m c t _)
  · show 0 + 1 * 0 = 0; omega
  · show 1280 + 1 * (x 1).val = 1280 + (x 1).val; omega

theorem out_apply (t : Fin cfg0.N) (y : S256x2048.Idx) : outsAt0 m c t y = blockVal m c t y := by
  unfold outsAt0 out0_A_4
  rw [View.read_writes_eq_canon _ _ _ fun y => cover0_A_4 (y := y) ..]
  refine View.canon_apply_of_pieces (Val := Elt Ideal) (e := .bf16) (blockVal m c t) _ ?_ y (cover0_A_4 (y := y) ..)
  unfold kernelRun0_A
  dsimp only
  sl_unfold_words
  simp only [View.readAt_eq_ld, (hs0_0 t).read_unread, (hs0_1 t).read_unread, (hs0_2 t).read_unread, (hs0_3 t).read_unread, View.ld_unit_zero (S := S256x768) hz, View.ld_unit_zero (S := S256x512) hz]
  intro pc hpc
  simp only [List.mem_cons, List.not_mem_nil, or_false] at hpc
  rcases hpc with rfl | rfl | rfl
  · exact piece_c m c t
  · exact piece_b m c t
  · exact piece_a m c t

/-- The array the kernel leaves. -/
theorem final : (dats m 0 c).arrAt 4 cfg0.N = (fun i => val (ya m c) (yb m c) (yc m c) (gn m c) (i 0) (i 1) : FVec Ideal S2048x2048 .bf16) := by
  refine (dats m 0 c).arrAt_eq_of_cover 4 _ (fun t _ => ?_) fun (i : S2048x2048.Idx) =>
    ⟨⟨(i 0 : Nat) / 256, by have h : (i 0 : Nat) < 2048 := (i 0).isLt; have : cfg0.N = 8 := N_0; omega⟩, flush0_4 _, ?_⟩
  · have hi := idx_facts t
    rw [Value.flushed4]
    funext y
    rw [View.read_apply]
    have he : ((cfg0.win 4).blk t).view.emb y = ix2 (row t (y 0)) (y 1) := by
      refine Shape.idx_ext₂ ?_ ?_
      · show win0_4.index t 0 * 256 + 1 * (y 0).val = 256 * t.val + (y 0).val; omega
      · show win0_4.index t 1 * 2048 + 1 * (y 1).val = (y 1).val; omega
    rw [he]
    exact out_apply m c t y
  · generalize hp : (⟨(i 0 : Nat) / 256, _⟩ : Fin cfg0.N) = p
    have hv : p.val = (i 0 : Nat) / 256 := by rw [← hp]
    have hi := idx_facts p
    have b1 : (i 1 : Nat) < 2048 := (i 1).isLt
    show i ∈ ((View.whole main_v1).slice (win0_4.rect p)).set
    rw [View.set_slice_whole, Rect.mem_set_unit]
    intro a
    match a with
    | ⟨0, _⟩ => show win0_4.index p 0 * 256 ≤ (i 0 : Nat) ∧ (i 0 : Nat) < win0_4.index p 0 * 256 + 256; omega
    | ⟨1, _⟩ => show win0_4.index p 1 * 2048 ≤ (i 1 : Nat) ∧ (i 1 : Nat) < win0_4.index p 1 * 2048 + 2048; omega

end Cert.OutnFwdIdeal.Hand

namespace Cert.OutnFwdPair

open Idealize.ShloMosaic Idealize.ShloMosaic.TcCoe Idealize.SL.Sem Cert.FwdNorm
open Idealize.ShloMosaic (ix1 ix2)
open Cert.OutnFwdRefIdeal Cert.OutnFwdRefIdeal.Read

theorem ref_a (x : FVec Ideal S2048x768 .f32) (g : FVec Ideal S2048 .f32) (r : Fin 2048) (l : Fin 768) :
    val_main_v15 (F := Ideal) x g (ix2 r l) = normed 0x44400000#32 (fun k => x (ix2 r k)) (g (ix1 ⟨l.val, by omega⟩)) l := by
  pointwise [val_main_v15, val_main_v14, val_main_v13, val_main_v12, val_main_v11, val_main_v10, val_main_v9, val_main_v8, val_main_v7, val_main_v6, val_main_v5, val_main_v4, val_main_v3, val_main_v0, val_main_cst, val_main_cst_0, val_main_cst_1, val_main_cst_2, val_main_cst_3, val_main_cst_4, val_main_cst_5, val_main_cst_6, val_main_cst_7]
  rfl

theorem ref_b (x : FVec Ideal S2048x512 .f32) (g : FVec Ideal S2048 .f32) (r : Fin 2048) (l : Fin 512) :
    val_main_v28 (F := Ideal) x g (ix2 r l) = normed 0x44000000#32 (fun k => x (ix2 r k)) (g (ix1 ⟨768 + l.val, by omega⟩)) l := by
  pointwise [val_main_v28, val_main_v27, val_main_v26, val_main_v25, val_main_v24, val_main_v23, val_main_v22, val_main_v21, val_main_v20, val_main_v19, val_main_v18, val_main_v17, val_main_v16, val_main_v1, val_main_cst, val_main_cst_0, val_main_cst_1, val_main_cst_2, val_main_cst_3, val_main_cst_4, val_main_cst_5, val_main_cst_6, val_main_cst_7]
  rfl

theorem ref_c (x : FVec Ideal S2048x768 .f32) (g : FVec Ideal S2048 .f32) (r : Fin 2048) (l : Fin 768) :
    val_main_v41 (F := Ideal) x g (ix2 r l) = normed 0x44400000#32 (fun k => x (ix2 r k)) (g (ix1 ⟨1280 + l.val, by omega⟩)) l := by
  pointwise [val_main_v41, val_main_v40, val_main_v39, val_main_v38, val_main_v37, val_main_v36, val_main_v35, val_main_v34, val_main_v33, val_main_v32, val_main_v31, val_main_v30, val_main_v29, val_main_v2, val_main_cst, val_main_cst_0, val_main_cst_1, val_main_cst_2, val_main_cst_3, val_main_cst_4, val_main_cst_5, val_main_cst_6, val_main_cst_7]
  rfl

/-- The array the reference leaves, entry by entry. -/
theorem ref_apply (a : FVec Ideal S2048x768 .f32) (b : FVec Ideal S2048x512 .f32) (d : FVec Ideal S2048x768 .f32) (g : FVec Ideal S2048 .f32) (r j : Fin 2048) :
    val_main_v43 (F := Ideal) a b d g (ix2 r j) = OutnFwdIdeal.Hand.val a b d g r j := by
  have ha := ref_a a g r
  have hb := ref_b b g r
  have hc := ref_c d g r
  unfold val_main_v43 val_main_v42
  generalize val_main_v15 (F := Ideal) a g = A at ha
  generalize val_main_v28 (F := Ideal) b g = B at hb
  generalize val_main_v41 (F := Ideal) d g = C at hc
  pointwise
  split_ifs with h1
  · exact (ha _).trans (OutnFwdIdeal.Hand.val_a _ rfl).symm
  all_goals first
    | exact absurd rfl ‹¬_ = _›
    | exact (hb _).trans ((congrArg (fun z => normed _ _ (g (ix1 z)) _) (Fin.ext (by show 768 + (j.val - 768) = j.val; omega))).trans
        (OutnFwdIdeal.Hand.val_b ⟨j.val - 768, by omega⟩ (by show j.val = 768 + (j.val - 768); omega)).symm)
    | exact (hc _).trans ((congrArg (fun z => normed _ _ (g (ix1 z)) _) (Fin.ext (by show 1280 + (j.val - 768 - 512) = j.val; omega))).trans
        (OutnFwdIdeal.Hand.val_c ⟨j.val - 768 - 512, by omega⟩ (by show j.val = 1280 + (j.val - 768 - 512); omega)).symm)

/-- The kernel's three output norms are the reference's, whatever the groups' outputs and the gain. -/
theorem algebraic : algebraic_OutnFwdIdeal_OutnFwdRefIdeal := by
  intro m g m' g' _ hag
  refine ⟨fun c i => OutnFwdIdeal.Hand.val (OutnFwdIdeal.Hand.ya m c) (OutnFwdIdeal.Hand.yb m c) (OutnFwdIdeal.Hand.yc m c) (OutnFwdIdeal.Hand.gn m c) (i 0) (i 1), ?_, ?_⟩
  · refine (θ_run OutnFwdIdeal.defs _ _).mono (fun r h c => ?_) (OutnFwdIdeal.Value.run_blocks m g)
    obtain ⟨e, k⟩ := h c
    exact ⟨e.trans (OutnFwdIdeal.Hand.final m c), k⟩
  · refine (θ_run OutnFwdRefIdeal.defs _ _).mono (fun r h c => ?_) (OutnFwdRefIdeal.Value.run m' g')
    obtain ⟨e, k⟩ := h c
    obtain ⟨q0, q1, q2, q3⟩ := hag c
    refine ⟨e.trans ((val_main_v43_eq _ _ _ _).trans (funext fun i => ?_)), k⟩
    refine (congrArg _ (eq_ix2 i)).trans ((ref_apply _ _ _ _ (i 0) (i 1)).trans ?_)
    rw [q0, q1, q2, q3]

end Cert.OutnFwdPair

end
-- ==== Proof.RopeFwd.lean ====
/-
  A rotary turn of one head, lane by lane: it is the turn back by the opposite angles, so the kernel's three products add up as they do
  for the gradient; only the tables it is given differ.
-/
module

public import proofs.«01_k».proof.Proof.RopeMath

@[expose] public section

set_option maxRecDepth 16384

noncomputable section

namespace Cert.RopeFwd

open Idealize.ShloMosaic Cert.RopeMath Cert.RopeKIdeal
open Idealize.ShloMosaic (ix1 ix2)

/-- The turn by the angles whose cosines are `c` and sines `s`. -/
abbrev turn (c s : Fin 32 → EReal) : (Fin 64 → EReal) → Fin 64 → EReal := back c fun i => -s i

/-- A lane of the first half. -/
theorem turn_low (c s : Fin 32 → EReal) (d : Fin 64 → EReal) (l : Fin 64) (h : l.val < 32) :
    turn c s d l = d l * c ⟨l.val, h⟩ - d ⟨l.val + 32, by omega⟩ * s ⟨l.val, h⟩ := by
  rw [turn, back, dif_pos h, mul_neg, sub_eq_add_neg]

/-- A lane of the second half. -/
theorem turn_high (c s : Fin 32 → EReal) (d : Fin 64 → EReal) (l : Fin 64) (h : ¬l.val < 32) :
    turn c s d l = d ⟨l.val - 32, by omega⟩ * s ⟨l.val - 32, by omega⟩ + d l * c ⟨l.val - 32, by omega⟩ := by
  rw [turn, back, dif_neg h, neg_neg, add_comm]

/-- The sines negated, before zeros: what multiplies the lane above. -/
theorem above_apply (T : FVec Ideal S2048x32 .f32) (r : Fin 2048) (l : Fin 128) (O : FVec Ideal S2048x96 .f32) (hO : ∀ l, O (ix2 r l) = 0) (h) :
    concatenate S2048x128 1 [⟨S2048x32, Host.negf T⟩, ⟨S2048x96, O⟩] h (ix2 r l) = tabAbove (fun i => -T (ix2 r i)) l := by
  pointwise []
  unfold tabAbove
  simp only [hO]

/-- The sines between zeros: what multiplies the lane below. -/
theorem below_apply (T : FVec Ideal S2048x32 .f32) (r : Fin 2048) (l : Fin 128) (O : FVec Ideal S2048x32 .f32) (O' : FVec Ideal S2048x64 .f32)
    (hO : ∀ l, O (ix2 r l) = 0) (hO' : ∀ l, O' (ix2 r l) = 0) (h) :
    concatenate S2048x128 1 [⟨S2048x32, O⟩, ⟨S2048x32, T⟩, ⟨S2048x64, O'⟩] h (ix2 r l) = tabBelow (fun i => -T (ix2 r i)) l := by
  have hl := l.isLt
  pointwise []
  unfold tabBelow
  simp only [hO, hO', neg_neg]
  split_ifs <;> first
    | rfl
    | omega
    | exact absurd rfl ‹¬_ = _›
    | rw [dif_pos (show 32 ≤ l.val ∧ l.val < 64 by omega)]
    | rw [dif_neg (show ¬(32 ≤ l.val ∧ l.val < 64) by omega)]

end Cert.RopeFwd

end
-- ==== Proof.RopeQFwdPair.lean ====
/- The rotary turn of the six query heads, forward: the kernel's result is the reference's, on any arguments. -/
module

public import proofs.«01_k».proof.Defs
public import proofs.«01_k».proof.Proof.Cols
public import proofs.«01_k».proof.Proof.RopeFwd
public import proofs.«01_k».proof.Proof.RopeQPair
public import proofs.«01_k».proof.Proof.Gen.RopeQFwdIdeal.Value
public import proofs.«01_k».proof.Proof.Gen.RopeQFwdRefIdeal.Run
public import proofs.«01_k».proof.Proof.Gen.RopeQFwdRefIdeal.Read

@[expose] public section

set_option maxRecDepth 16384

noncomputable section

namespace Cert.RopeQFwdIdeal.Hand

open Cert.RopeQFwdIdeal Cert.RopeQFwdIdeal.Gen Idealize.ShloMosaic Idealize.ShloMosaic.TcCoe Cert.RopeMath Cert.RopeFwd Cert.Cols
open Cert.RopeQFwdRefIdeal.Read (val_main_v18 val_main_v19)
open Cert.RopeQIdeal.Hand (head6 wide_flat pad_head)
open Idealize.ShloMosaic (ix1 ix2 ix3 ix4)

variable (m : (ℓ : Loc nD τ sig) → Buf (Elt Ideal) ℓ) (c : Dev nD)

theorem hz : (![0, 0] : Fin 2 → ℕ) = fun _ => 0 := by decide

/-- The kernel's first table is built from the reference's cosines. -/
theorem table_here : (V m c main_v106 : FVec Ideal S2048x128 .f32) = concatenate S2048x128 1
    [⟨S2048x32, val_main_v18 (F := Ideal)⟩, ⟨S2048x32, val_main_v18 (F := Ideal)⟩,
     ⟨S2048x64, broadcastInDim S2048x64 ![] bcast_S_S2048x64 (constant (F := Ideal) S_ .f32 0x3F800000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem table_above : (V m c main_v109 : FVec Ideal S2048x128 .f32) = concatenate S2048x128 1
    [⟨S2048x32, Host.negf (val_main_v19 (F := Ideal))⟩,
     ⟨S2048x96, broadcastInDim S2048x96 ![] bcast_S_S2048x96 (constant (F := Ideal) S_ .f32 0x00000000#32)⟩]
    concatenates_S2048x32_S2048x96_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

theorem table_below : (V m c main_v112 : FVec Ideal S2048x128 .f32) = concatenate S2048x128 1
    [⟨S2048x32, broadcastInDim S2048x32 ![] bcast_S_S2048x32 (constant (F := Ideal) S_ .f32 0x00000000#32)⟩,
     ⟨S2048x32, val_main_v19 (F := Ideal)⟩,
     ⟨S2048x64, broadcastInDim S2048x64 ![] bcast_S_S2048x64 (constant (F := Ideal) S_ .f32 0x00000000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- The queries the program is given. -/
abbrev qs : FVec Ideal S1x2048x6x192 .f32 := m ((c : Thread nD τ).loc main_arg0)

theorem heads_eq : (V m c main_v7 : FVec Ideal S2048x1536 .f32) = concatenate S2048x1536 1
    [⟨S2048x768, shapeCast S2048x768 (shapeCast S2048x6x128 (extractStridedSlice S1x2048x6x128 ![0, 0, 0, 0] (qs m c) slices_S1x2048x6x192_S1x2048x6x128_0_0_0_0)
        shapeCasts_S1x2048x6x128_S2048x6x128) shapeCasts_S2048x6x128_S2048x768⟩,
     ⟨S2048x768, shapeCast S2048x768 (pad S2048x6x128 ![0, 0, 0] ![0, 0, 64] ![0, 0, 0]
        (shapeCast S2048x6x64 (extractStridedSlice S1x2048x6x64 ![0, 0, 0, 128] (qs m c) slices_S1x2048x6x192_S1x2048x6x64_0_0_0_128) shapeCasts_S1x2048x6x64_S2048x6x64)
        (sitofp .f32 (constantI S_ 32 0#32) : FVec Ideal S_ .f32) pads_S2048x6x64_S2048x6x128_000_000_0640 h_S_) shapeCasts_S2048x6x128_S2048x768⟩]
    concatenates_S2048x768_S2048x768_S2048x1536_d1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- The head of one of the 1536 columns: the six plain ones, then the six to turn. -/
abbrev head12 : Fin 1536 → Fin 12 := Cols.head (N := 1536) 12 rfl

/-- Two groups of six heads side by side. -/
theorem beside_apply (A B : FVec Ideal S2048x768 .f32) (r : Fin 2048) (f g : Fin 6 → Fin 128 → EReal) (hA : ∀ j, A (ix2 r j) = f (head6 j) (lane j))
    (hB : ∀ j, B (ix2 r j) = g (head6 j) (lane j)) (j : Fin 1536) (h) :
    concatenate S2048x1536 1 [⟨S2048x768, A⟩, ⟨S2048x768, B⟩] h (ix2 r j)
      = if h : (head12 j).val < 6 then f ⟨(head12 j).val, h⟩ (lane j) else g ⟨(head12 j).val - 6, by omega⟩ (lane j) := by
  have hj := j.isLt
  have e : (head12 j).val = j.val / 128 := rfl
  pointwise []
  by_cases h1 : j.val < 768
  · rw [dif_pos h1, dif_pos (by omega), hA]
    rfl
  · rw [dif_neg h1, dif_neg (by omega), hB]
    exact congrArg₂ g (Fin.ext (show (j.val - 768) / 128 = j.val / 128 - 6 by omega)) (Fin.ext (show (j.val - 768) % 128 = j.val % 128 by omega))

/-- A plain head's lanes. -/
theorem plain_apply (x : FVec Ideal S1x2048x6x192 .f32) (r : Fin 2048) (j : Fin 768) :
    shapeCast S2048x768 (shapeCast S2048x6x128 (extractStridedSlice S1x2048x6x128 ![0, 0, 0, 0] x slices_S1x2048x6x192_S1x2048x6x128_0_0_0_0)
      shapeCasts_S1x2048x6x128_S2048x6x128) shapeCasts_S2048x6x128_S2048x768 (ix2 r j) = x (ix4 0 r (head6 j) ⟨(lane j).val, by omega⟩) := by
  refine (wide_flat _ r j).trans ((shapeCast_apply _ _ (ix3 r (head6 j) (lane j)) (ix4 0 r (head6 j) (lane j)) ?_).trans ?_)
  · rewrite [Shape.rowMajor_val_four, Shape.rowMajor_val_three]
    show ((0 * 2048 + r.val) * 6 + (head6 j).val) * 128 + (lane j).val = (r.val * 6 + (head6 j).val) * 128 + (lane j).val
    omega
  · pointwise []

/-- The lanes of a head that are turned. -/
theorem part_apply (x : FVec Ideal S1x2048x6x192 .f32) (r : Fin 2048) (h : Fin 6) (k : Fin 64) :
    extractStridedSlice S1x2048x6x64 ![0, 0, 0, 128] x slices_S1x2048x6x192_S1x2048x6x64_0_0_0_128 (ix4 0 r h k) = x (ix4 0 r h ⟨128 + k.val, by omega⟩) := by
  pointwise []

/-- The cosines and the sines of a row's angles. -/
abbrev cosines (r : Fin 2048) : Fin 32 → EReal := fun i => val_main_v18 (F := Ideal) (ix2 r i)
abbrev sinesOf (r : Fin 2048) : Fin 32 → EReal := fun i => val_main_v19 (F := Ideal) (ix2 r i)

/-- The lanes to turn of a head of a row. -/
abbrev lanes (x : FVec Ideal S1x2048x6x192 .f32) (r : Fin 2048) (h : Fin 6) : Fin 64 → EReal := fun k => x (ix4 0 r h ⟨128 + k.val, by omega⟩)

/-- A row of the result, head by head: the plain lanes, then the turned ones, padded. -/
def val (x : FVec Ideal S1x2048x6x192 .f32) (r : Fin 2048) (h : Fin 12) (l : Fin 128) : EReal :=
  if h' : h.val < 6 then x (ix4 0 r ⟨h.val, h'⟩ ⟨l.val, by omega⟩)
  else wide (turn (cosines r) (sinesOf r) (lanes x r ⟨h.val - 6, by omega⟩)) l

theorem heads_apply (r : Fin 2048) (j : Fin 1536) : (V m c main_v7 : FVec Ideal S2048x1536 .f32) (ix2 r j)
    = if h : (head12 j).val < 6 then qs m c (ix4 0 r ⟨(head12 j).val, h⟩ ⟨(lane j).val, by omega⟩)
      else wide (lanes (qs m c) r ⟨(head12 j).val - 6, by omega⟩) (lane j) := by
  rw [heads_eq]
  exact beside_apply _ _ r (fun h l => qs m c (ix4 0 r h ⟨l.val, by omega⟩)) (fun h l => wide (lanes (qs m c) r h) l) (fun j => plain_apply _ r j)
    (fun j => (wide_flat _ r j).trans (pad_head _ _ (fun _ => sitofp_zero (φ := .f32)) _ r _
      (fun k => (RopeQIdeal.Hand.flat_apply _ r _ k).trans (part_apply _ r _ k)) _)) j _

theorem idx_facts : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 :=
  (by decide +kernel : ∀ t : Fin grid0.N, _)

/-- The row of the whole array that row `r` of block `t` is. -/
abbrev row (t : Fin cfg0.N) (r : Fin 512) : Fin 2048 := ⟨512 * t.val + r.val, by have := t.isLt; have : cfg0.N = 4 := N_0; omega⟩

theorem iblk0 (t : Fin cfg0.N) (r : Fin 512) (l : Fin 1536) :
    (iblk m c 0 t : FVec Ideal S512x1536 .f32) (ix2 r l) = (V m c main_v7 : FVec Ideal S2048x1536 .f32) (ix2 (row t r) l) := by
  unfold iblk
  rw [View.read_apply]
  show V m c main_v7 _ = V m c main_v7 (ix2 (row t r) l)
  generalize V m c main_v7 = W
  have hi := idx_facts t
  refine congrArg (W : FVec Ideal S2048x1536 .f32) (Shape.idx_ext₂ ?_ ?_)
  · show win0_0.index t 0 * 512 + 1 * r.val = 512 * t.val + r.val; omega
  · show win0_0.index t 1 * 1536 + 1 * l.val = l.val; omega

theorem iblk1 (t : Fin cfg0.N) (r : Fin 512) (l : Fin 128) :
    (iblk m c 1 t : FVec Ideal S512x128 .f32) (ix2 r l) = (V m c main_v106 : FVec Ideal S2048x128 .f32) (ix2 (row t r) l) := by
  unfold iblk
  rw [View.read_apply]
  show V m c main_v106 _ = V m c main_v106 (ix2 (row t r) l)
  generalize V m c main_v106 = W
  have hi := idx_facts t
  refine congrArg (W : FVec Ideal S2048x128 .f32) (Shape.idx_ext₂ ?_ ?_)
  · show win0_1.index t 0 * 512 + 1 * r.val = 512 * t.val + r.val; omega
  · show win0_1.index t 1 * 128 + 1 * l.val = l.val; omega

theorem iblk2 (t : Fin cfg0.N) (r : Fin 512) (l : Fin 128) :
    (iblk m c 2 t : FVec Ideal S512x128 .f32) (ix2 r l) = (V m c main_v109 : FVec Ideal S2048x128 .f32) (ix2 (row t r) l) := by
  unfold iblk
  rw [View.read_apply]
  show V m c main_v109 _ = V m c main_v109 (ix2 (row t r) l)
  generalize V m c main_v109 = W
  have hi := idx_facts t
  refine congrArg (W : FVec Ideal S2048x128 .f32) (Shape.idx_ext₂ ?_ ?_)
  · show win0_2.index t 0 * 512 + 1 * r.val = 512 * t.val + r.val; omega
  · show win0_2.index t 1 * 128 + 1 * l.val = l.val; omega

theorem iblk3 (t : Fin cfg0.N) (r : Fin 512) (l : Fin 128) :
    (iblk m c 3 t : FVec Ideal S512x128 .f32) (ix2 r l) = (V m c main_v112 : FVec Ideal S2048x128 .f32) (ix2 (row t r) l) := by
  unfold iblk
  rw [View.read_apply]
  show V m c main_v112 _ = V m c main_v112 (ix2 (row t r) l)
  generalize V m c main_v112 = W
  have hi := idx_facts t
  refine congrArg (W : FVec Ideal S2048x128 .f32) (Shape.idx_ext₂ ?_ ?_)
  · show win0_3.index t 0 * 512 + 1 * r.val = 512 * t.val + r.val; omega
  · show win0_3.index t 1 * 128 + 1 * l.val = l.val; omega

/-- The turned head the kernel stores, from the tables and the padded head it reads. -/
theorem pay_apply {c s : Fin 32 → EReal} {d : Fin 64 → EReal} (v0 v2 v4 v6 : FVec Ideal S512x128 .f32) (r : Fin 512)
    (h0 : ∀ l, v0 (ix2 r l) = tabHere c l) (h2 : ∀ l, v2 (ix2 r l) = tabAbove s l) (h4 : ∀ l, v4 (ix2 r l) = tabBelow s l)
    (h6 : ∀ l, v6 (ix2 r l) = wide d l) (l : Fin 128) : k0_pay13 (F := Ideal) (k0_pay4 v0) (k0_pay5 v2) (k0_pay6 v4) v6 (ix2 r l) = wide (back c s d) l := by
  pointwise [k0_pay13, k0_pay4, k0_pay5, k0_pay6]
  simp only [h0, h2, h4, h6]
  exact three_products c s d l

/-- One head's columns of a block. -/
abbrev part (o : ℕ) (hb : ∀ a, (![0, o] : Fin 2 → ℕ) a + S512x128.size a ≤ S512x1536.size a) : Rect S512x1536 :=
  Rect.unit (s := S512x1536) ![0, o] S512x128.size hb

/-- What a point writes. -/
abbrev blockVal (t : Fin cfg0.N) : S512x1536.Idx → EReal := fun y => val (qs m c) (row t (y 0)) (head12 (y 1)) (lane (y 1))

theorem block_at (t : Fin cfg0.N) (h : Fin 12) (o : ℕ) (ho : o = 128 * h.val) (hb) (x : S512x128.Idx) :
    blockVal m c t ((part o hb).emb x) = val (qs m c) (row t (x 0)) h (x 1) := by
  have e : (part o hb).emb x = ix2 (x 0) (col (n := 12) 1536 rfl h (x 1)) :=
    Shape.idx_ext₂ (show 0 + 1 * (x 0).val = (x 0).val by omega) (show o + 1 * (x 1).val = 128 * h.val + (x 1).val by omega)
  rw [e]
  show val (qs m c) (row t (x 0)) (head12 (col (n := 12) 1536 rfl h (x 1))) (lane (col (n := 12) 1536 rfl h (x 1))) = _
  rw [show head12 (col (n := 12) 1536 rfl h (x 1)) = h from head_col rfl h (x 1), lane_col rfl h (x 1)]

/-- What a point reads of a head. -/
theorem read_at (t : Fin cfg0.N) (h : Fin 12) (o : ℕ) (ho : o = 128 * h.val) (hb) (r : Fin 512) (l : Fin 128) :
    (View.ld (iblk m c 0 t) (part o hb) : Vec Ideal S512x128 .f32) (ix2 r l) = if h' : h.val < 6 then qs m c (ix4 0 (row t r) ⟨h.val, h'⟩ ⟨l.val, by omega⟩)
      else wide (lanes (qs m c) (row t r) ⟨h.val - 6, by omega⟩) l := by
  have e : (part o hb).emb (ix2 r l) = ix2 r (col (n := 12) 1536 rfl h l) :=
    Shape.idx_ext₂ (show 0 + 1 * r.val = r.val by omega) (show o + 1 * l.val = 128 * h.val + l.val by omega)
  refine (congrArg (iblk m c 0 t : FVec Ideal S512x1536 .f32) e).trans ((iblk0 m c t r _).trans ((heads_apply m c _ _).trans ?_))
  have e1 : head12 (col (n := 12) 1536 rfl h l) = h := head_col rfl h l
  have e2 : lane (col (n := 12) 1536 rfl h l) = l := lane_col rfl h l
  simp only [e1, e2]

/-- A plain head's store. -/
theorem plain_piece (t : Fin cfg0.N) (h : Fin 12) (h6 : h.val < 6) (o : ℕ) (ho : o = 128 * h.val) (hb) (x : S512x128.Idx) :
    k0_pay7 (F := Ideal) (View.ld (iblk m c 0 t) (part o hb)) x = blockVal m c t ((part o hb).emb x) := by
  rw [block_at m c t h o ho hb x]
  refine Eq.trans ?_ (dif_pos h6).symm
  refine (congrArg _ (eq_ix2 x)).trans (Eq.trans (b := (View.ld (iblk m c 0 t) (part o hb) : Vec Ideal S512x128 .f32) (ix2 (x 0) (x 1))) ?_
    ((read_at m c t h o ho hb _ _).trans (dif_pos h6)))
  generalize (View.ld (iblk m c 0 t) (part o hb) : Vec Ideal S512x128 .f32) = v
  pointwise [k0_pay7]

/-- A turned head's store. -/
theorem turned_piece (t : Fin cfg0.N) (h : Fin 12) (h6 : ¬h.val < 6) (o : ℕ) (ho : o = 128 * h.val) (hb) (x : S512x128.Idx) :
    k0_pay13 (F := Ideal) (k0_pay16 (iblk m c 0 t) (iblk m c 1 t) (iblk m c 2 t) (iblk m c 3 t)) (k0_pay17 (iblk m c 0 t) (iblk m c 1 t) (iblk m c 2 t) (iblk m c 3 t))
      (k0_pay18 (iblk m c 0 t) (iblk m c 1 t) (iblk m c 2 t) (iblk m c 3 t)) (View.ld (iblk m c 0 t) (part o hb)) x = blockVal m c t ((part o hb).emb x) := by
  rw [block_at m c t h o ho hb x]
  refine Eq.trans ?_ (dif_neg h6).symm
  unfold k0_pay16 k0_pay17 k0_pay18
  simp only [View.ld_unit_zero (S := S512x128) hz]
  refine (congrArg _ (eq_ix2 x)).trans (pay_apply _ _ _ _ (x 0) (fun l => (iblk1 m c t _ l).trans ?_) (fun l => (iblk2 m c t _ l).trans ?_)
    (fun l => (iblk3 m c t _ l).trans ?_) (fun l => (read_at m c t h o ho hb _ l).trans (dif_neg h6)) (x 1))
  · rw [table_here]
    exact here_apply _ _ l _ (ones_apply _ _) _
  · rw [table_above]
    exact RopeFwd.above_apply _ _ l _ (fun l => by pointwise []) _
  · rw [table_below]
    exact RopeFwd.below_apply _ _ l _ _ (fun l => by pointwise []) (fun l => by pointwise []) _

theorem out_apply (t : Fin cfg0.N) (y : S512x1536.Idx) :
    out0_4 (iblk m c 0 t) (iblk m c 1 t) (iblk m c 2 t) (iblk m c 3 t) y = blockVal m c t y := by
  unfold out0_4
  refine View.canon_apply_of_pieces (Val := Elt Ideal) (blockVal m c t : FVec Ideal S512x1536 .bf16) _ (fun p hp x => ?_) y (cover0_4 _ _ _ _ _ _ _ _ _ _ _ _ y)
  simp only [List.mem_cons, List.not_mem_nil, or_false] at hp
  rcases hp with rfl | rfl | rfl | rfl | rfl | rfl | rfl | rfl | rfl | rfl | rfl | rfl
  · exact turned_piece m c t 11 (by decide) 1408 rfl _ x
  · exact turned_piece m c t 10 (by decide) 1280 rfl _ x
  · exact turned_piece m c t 9 (by decide) 1152 rfl _ x
  · exact turned_piece m c t 8 (by decide) 1024 rfl _ x
  · exact turned_piece m c t 7 (by decide) 896 rfl _ x
  · exact turned_piece m c t 6 (by decide) 768 rfl _ x
  · exact plain_piece m c t 5 (by decide) 640 rfl _ x
  · exact plain_piece m c t 4 (by decide) 512 rfl _ x
  · exact plain_piece m c t 3 (by decide) 384 rfl _ x
  · exact plain_piece m c t 2 (by decide) 256 rfl _ x
  · exact plain_piece m c t 1 (by decide) 128 rfl _ x
  · exact plain_piece m c t 0 (by decide) 0 rfl _ x

/-- The array the kernel leaves. -/
theorem final : (dats m 0 c).arrAt 4 cfg0.N = (fun i => val (qs m c) (i 0) (head12 (i 1)) (lane (i 1)) : FVec Ideal S2048x1536 .bf16) := by
  refine (dats m 0 c).arrAt_eq_of_cover 4 _ (fun t _ => ?_) fun (i : S2048x1536.Idx) =>
    ⟨⟨(i 0 : Nat) / 512, by have h : (i 0 : Nat) < 2048 := (i 0).isLt; have : cfg0.N = 4 := N_0; omega⟩, flush0_4 _, ?_⟩
  · have hi := idx_facts t
    rw [Value.flushed4]
    funext y
    rw [View.read_apply]
    have he : ((cfg0.win 4).blk t).view.emb y = ix2 (row t (y 0)) (y 1) := by
      refine Shape.idx_ext₂ ?_ ?_
      · show win0_4.index t 0 * 512 + 1 * (y 0).val = 512 * t.val + (y 0).val; omega
      · show win0_4.index t 1 * 1536 + 1 * (y 1).val = (y 1).val; omega
    rw [he]
    exact out_apply m c t y
  · generalize hp : (⟨(i 0 : Nat) / 512, _⟩ : Fin cfg0.N) = p
    have hv : p.val = (i 0 : Nat) / 512 := by rw [← hp]
    have hi := idx_facts p
    have b1 : (i 1 : Nat) < 1536 := (i 1).isLt
    show i ∈ ((View.whole main_v119).slice (win0_4.rect p)).set
    rw [View.set_slice_whole, Rect.mem_set_unit]
    intro a
    match a with
    | ⟨0, _⟩ => show win0_4.index p 0 * 512 ≤ (i 0 : Nat) ∧ (i 0 : Nat) < win0_4.index p 0 * 512 + 512; omega
    | ⟨1, _⟩ => show win0_4.index p 1 * 1536 ≤ (i 1 : Nat) ∧ (i 1 : Nat) < win0_4.index p 1 * 1536 + 1536; omega

end Cert.RopeQFwdIdeal.Hand

namespace Cert.RopeQFwdPair

open Idealize.ShloMosaic Idealize.ShloMosaic.TcCoe Idealize.SL.Sem Cert.RopeMath Cert.RopeFwd Cert.Cols
open Idealize.ShloMosaic (ix1 ix2 ix3 ix4)

section Reference
open Cert.RopeQFwdRefIdeal Cert.RopeQFwdRefIdeal.Gen Cert.RopeQFwdRefIdeal.Read

/-- The first 32 of the reference's turned lanes of a head, -/
theorem v30_apply (x : FVec Ideal S1x2048x6x192 .f32) (r : Fin 2048) (h : Fin 6) (k : Fin 32) :
    val_main_v30 (F := Ideal) x (ix4 0 r h k) = turn (RopeQFwdIdeal.Hand.cosines r) (RopeQFwdIdeal.Hand.sinesOf r) (RopeQFwdIdeal.Hand.lanes x r h) ⟨k.val, by omega⟩ := by
  rw [turn_low _ _ _ _ k.isLt]
  pointwise [val_main_v30, val_main_v29, val_main_v28, val_main_v27, val_main_v26, val_main_v25, val_main_v24, val_main_v23, val_main_v22, val_main_v21, val_main_v20, val_main_v0]
  have e : (⟨128 + (32 + k.val), by omega⟩ : Fin 192) = ⟨128 + (k.val + 32), by omega⟩ := Fin.ext (show 128 + (32 + k.val) = 128 + (k.val + 32) by omega)
  simp only [RopeQFwdIdeal.Hand.lanes, e]

/-- and the last 32. -/
theorem v37_apply (x : FVec Ideal S1x2048x6x192 .f32) (r : Fin 2048) (h : Fin 6) (k : Fin 32) :
    val_main_v37 (F := Ideal) x (ix4 0 r h k) = turn (RopeQFwdIdeal.Hand.cosines r) (RopeQFwdIdeal.Hand.sinesOf r) (RopeQFwdIdeal.Hand.lanes x r h) ⟨32 + k.val, by omega⟩ := by
  rw [turn_high _ _ _ _ (show ¬32 + k.val < 32 by omega)]
  pointwise [val_main_v37, val_main_v36, val_main_v35, val_main_v34, val_main_v33, val_main_v32, val_main_v31, val_main_v25, val_main_v24, val_main_v23, val_main_v22, val_main_v21, val_main_v20, val_main_v0]

/-- The reference's turned 64 lanes of a head. -/
theorem v38_apply (x : FVec Ideal S1x2048x6x192 .f32) (r : Fin 2048) (h : Fin 6) (k : Fin 64) :
    val_main_v38 (F := Ideal) x (ix4 0 r h k) = turn (RopeQFwdIdeal.Hand.cosines r) (RopeQFwdIdeal.Hand.sinesOf r) (RopeQFwdIdeal.Hand.lanes x r h) k := by
  unfold val_main_v38
  have e30 := v30_apply x r h
  have e37 := v37_apply x r h
  generalize val_main_v30 (F := Ideal) x = p at *
  generalize val_main_v37 (F := Ideal) x = q at *
  pointwise []
  by_cases hk : k.val < 32
  · rw [dif_pos hk]
    exact e30 ⟨k.val, hk⟩
  · rw [dif_neg hk]
    refine (e37 ⟨k.val - 32, by omega⟩).trans (congrArg _ (Fin.ext (show 32 + (k.val - 32) = k.val by omega)))

/-- The array the reference leaves. -/
theorem v46_apply (x : FVec Ideal S1x2048x6x192 .f32) (r : Fin 2048) (j : Fin 1536) :
    val_main_v46 (F := Ideal) x (ix2 r j) = RopeQFwdIdeal.Hand.val x r (RopeQFwdIdeal.Hand.head12 j) (lane j) := by
  show val_main_v45 (F := Ideal) x (ix2 r j) = _
  unfold val_main_v45
  refine RopeQFwdIdeal.Hand.beside_apply _ _ r (fun h l => x (ix4 0 r h ⟨l.val, by omega⟩))
    (fun h l => wide (turn (RopeQFwdIdeal.Hand.cosines r) (RopeQFwdIdeal.Hand.sinesOf r) (RopeQFwdIdeal.Hand.lanes x r h)) l) (fun j => ?_) (fun j => ?_) j _
  · exact RopeQFwdIdeal.Hand.plain_apply x r j
  · refine (RopeQIdeal.Hand.wide_flat (val_main_v40 (F := Ideal) x) r j).trans ?_
    unfold val_main_v40
    refine RopeQIdeal.Hand.pad_head _ _ (fun _ => sitofp_zero (φ := .f32)) _ r _ (fun k => ?_) _
    exact (RopeQIdeal.Hand.flat_apply _ r _ k).trans (v38_apply x r _ k)

end Reference

/-- The kernel's turn of the query heads is the reference's, whatever the queries. -/
theorem algebraic : algebraic_RopeQFwdIdeal_RopeQFwdRefIdeal := by
  intro m g m' g' _ hag
  refine ⟨fun c i => RopeQFwdIdeal.Hand.val (RopeQFwdIdeal.Hand.qs m c) (i 0) (RopeQFwdIdeal.Hand.head12 (i 1)) (lane (i 1)), ?_, ?_⟩
  · refine (θ_run RopeQFwdIdeal.defs _ _).mono (fun r h c => ?_) (RopeQFwdIdeal.Value.run_blocks m g)
    obtain ⟨e, k⟩ := h c
    exact ⟨e.trans (RopeQFwdIdeal.Hand.final m c), k⟩
  · refine (θ_run RopeQFwdRefIdeal.defs _ _).mono (fun r h c => ?_) (RopeQFwdRefIdeal.Value.run m' g')
    obtain ⟨e, k⟩ := h c
    refine ⟨e.trans ((RopeQFwdRefIdeal.Read.val_main_v46_eq _ _).trans (funext fun i => ?_)), k⟩
    refine (congrArg _ (eq_ix2 i)).trans ((v46_apply _ (i 0) (i 1)).trans ?_)
    rw [hag c]
    rfl

end Cert.RopeQFwdPair

end
-- ==== Proof.RopeKFwdPair.lean ====
/- The rotary turn of the shared key head, forward: the kernel's result is the reference's, on any arguments. -/
module

public import proofs.«01_k».proof.Defs
public import proofs.«01_k».proof.Proof.RopeFwd
public import proofs.«01_k».proof.Proof.RopeKPair
public import proofs.«01_k».proof.Proof.Gen.RopeKFwdIdeal.Value
public import proofs.«01_k».proof.Proof.Gen.RopeKFwdRefIdeal.Run
public import proofs.«01_k».proof.Proof.Gen.RopeKFwdRefIdeal.Read

@[expose] public section

set_option maxRecDepth 16384

noncomputable section

namespace Cert.RopeKFwdIdeal.Hand

open Cert.RopeKFwdIdeal Cert.RopeKFwdIdeal.Gen Idealize.ShloMosaic Idealize.ShloMosaic.TcCoe Cert.RopeMath Cert.RopeFwd
open Cert.RopeKFwdRefIdeal.Read (val_main_v18 val_main_v19)
open Idealize.ShloMosaic (ix1 ix2 ix3 ix4)

variable (m : (ℓ : Loc nD τ sig) → Buf (Elt Ideal) ℓ) (c : Dev nD)

/-- The kernel's first table is built from the reference's cosines. -/
theorem table_here : (V m c main_v100 : FVec Ideal S2048x128 .f32) = concatenate S2048x128 1
    [⟨S2048x32, val_main_v18 (F := Ideal)⟩, ⟨S2048x32, val_main_v18 (F := Ideal)⟩,
     ⟨S2048x64, broadcastInDim S2048x64 ![] bcast_S_S2048x64 (constant (F := Ideal) S_ .f32 0x3F800000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem table_above : (V m c main_v103 : FVec Ideal S2048x128 .f32) = concatenate S2048x128 1
    [⟨S2048x32, Host.negf (val_main_v19 (F := Ideal))⟩,
     ⟨S2048x96, broadcastInDim S2048x96 ![] bcast_S_S2048x96 (constant (F := Ideal) S_ .f32 0x00000000#32)⟩]
    concatenates_S2048x32_S2048x96_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem table_below : (V m c main_v106 : FVec Ideal S2048x128 .f32) = concatenate S2048x128 1
    [⟨S2048x32, broadcastInDim S2048x32 ![] bcast_S_S2048x32 (constant (F := Ideal) S_ .f32 0x00000000#32)⟩,
     ⟨S2048x32, val_main_v19 (F := Ideal)⟩,
     ⟨S2048x64, broadcastInDim S2048x64 ![] bcast_S_S2048x64 (constant (F := Ideal) S_ .f32 0x00000000#32)⟩]
    concatenates_S2048x32_S2048x32_S2048x64_S2048x128_d1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The keys the program is given, a row's 64 lanes. -/
abbrev key (r : Fin 2048) : Fin 64 → EReal := fun k => (m ((c : Thread nD τ).loc main_arg0) : FVec Ideal S1x2048x64 .f32) (ix3 0 r k)

theorem padded_eq : (V m c main_v1 : FVec Ideal S2048x128 .f32) = pad S2048x128 ![0, 0] ![0, 64] ![0, 0]
    (shapeCast S2048x64 (m ((c : Thread nD τ).loc main_arg0) : FVec Ideal S1x2048x64 .f32) shapeCasts_S1x2048x64_S2048x64)
    (sitofp .f32 (constantI S_ 32 0#32) : FVec Ideal S_ .f32) pads_S2048x64_S2048x128_000_0640 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- Dropping the axis of length one. -/
theorem flat_apply (x : FVec Ideal S1x2048x64 .f32) (r : Fin 2048) (k : Fin 64) :
    shapeCast S2048x64 x shapeCasts_S1x2048x64_S2048x64 (ix2 r k) = x (ix3 0 r k) :=
  shapeCast_apply x _ (ix2 r k) (ix3 0 r k) (by
    rewrite [Shape.rowMajor_val_three, Shape.rowMajor_val_two]
    show (0 * 2048 + r.val) * 64 + k.val = r.val * 64 + k.val
    omega)

theorem padded_apply (r : Fin 2048) (l : Fin 128) : (V m c main_v1 : FVec Ideal S2048x128 .f32) (ix2 r l) = wide (key m c r) l := by
  rw [padded_eq]
  exact RopeKIdeal.Hand.pad_row _ _ (fun _ => sitofp_zero (φ := .f32)) _ r (fun k => flat_apply _ r k) l

/-- The cosines and the sines of a row's angles. -/
abbrev cosines (r : Fin 2048) : Fin 32 → EReal := fun i => val_main_v18 (F := Ideal) (ix2 r i)
abbrev sinesOf (r : Fin 2048) : Fin 32 → EReal := fun i => val_main_v19 (F := Ideal) (ix2 r i)

/-- The only point. -/
abbrev t0 : Fin cfg0.N := ⟨0, by rw [show cfg0.N = 1 from N_0]; omega⟩
theorem eq_t0 (t : Fin cfg0.N) : t = t0 := Fin.ext (by have := t.isLt; have : cfg0.N = 1 := N_0; show t.val = 0; omega)

theorem idx_facts : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0 :=
  (by decide +kernel : ∀ t : Fin grid0.N, _)

theorem iblk0 (t : Fin cfg0.N) (r : Fin 2048) (l : Fin 128) :
    (iblk m c 0 t : FVec Ideal S2048x128 .f32) (ix2 r l) = (V m c main_v1 : FVec Ideal S2048x128 .f32) (ix2 r l) := by
  unfold iblk
  rw [View.read_apply]
  show V m c main_v1 _ = V m c main_v1 (ix2 r l)
  generalize V m c main_v1 = W
  have hi := idx_facts t
  refine congrArg (W : FVec Ideal S2048x128 .f32) (Shape.idx_ext₂ ?_ ?_)
  · show win0_0.index t 0 * 2048 + 1 * r.val = r.val; omega
  · show win0_0.index t 1 * 128 + 1 * l.val = l.val; omega

theorem iblk1 (t : Fin cfg0.N) (r : Fin 2048) (l : Fin 128) :
    (iblk m c 1 t : FVec Ideal S2048x128 .f32) (ix2 r l) = (V m c main_v100 : FVec Ideal S2048x128 .f32) (ix2 r l) := by
  unfold iblk
  rw [View.read_apply]
  show V m c main_v100 _ = V m c main_v100 (ix2 r l)
  generalize V m c main_v100 = W
  have hi := idx_facts t
  refine congrArg (W : FVec Ideal S2048x128 .f32) (Shape.idx_ext₂ ?_ ?_)
  · show win0_1.index t 0 * 2048 + 1 * r.val = r.val; omega
  · show win0_1.index t 1 * 128 + 1 * l.val = l.val; omega

theorem iblk2 (t : Fin cfg0.N) (r : Fin 2048) (l : Fin 128) :
    (iblk m c 2 t : FVec Ideal S2048x128 .f32) (ix2 r l) = (V m c main_v103 : FVec Ideal S2048x128 .f32) (ix2 r l) := by
  unfold iblk
  rw [View.read_apply]
  show V m c main_v103 _ = V m c main_v103 (ix2 r l)
  generalize V m c main_v103 = W
  have hi := idx_facts t
  refine congrArg (W : FVec Ideal S2048x128 .f32) (Shape.idx_ext₂ ?_ ?_)
  · show win0_2.index t 0 * 2048 + 1 * r.val = r.val; omega
  · show win0_2.index t 1 * 128 + 1 * l.val = l.val; omega

theorem iblk3 (t : Fin cfg0.N) (r : Fin 2048) (l : Fin 128) :
    (iblk m c 3 t : FVec Ideal S2048x128 .f32) (ix2 r l) = (V m c main_v106 : FVec Ideal S2048x128 .f32) (ix2 r l) := by
  unfold iblk
  rw [View.read_apply]
  show V m c main_v106 _ = V m c main_v106 (ix2 r l)
  generalize V m c main_v106 = W
  have hi := idx_facts t
  refine congrArg (W : FVec Ideal S2048x128 .f32) (Shape.idx_ext₂ ?_ ?_)
  · show win0_3.index t 0 * 2048 + 1 * r.val = r.val; omega
  · show win0_3.index t 1 * 128 + 1 * l.val = l.val; omega

theorem hz : (![0, 0] : Fin 2 → ℕ) = fun _ => 0 := by decide

/-- What the only point writes. -/
theorem out_apply (t : Fin cfg0.N) (r : Fin 2048) (l : Fin 128) :
    out0_4 (iblk m c 0 t) (iblk m c 1 t) (iblk m c 2 t) (iblk m c 3 t) (ix2 r l) = wide (turn (cosines r) (sinesOf r) (key m c r)) l := by
  unfold out0_4
  rw [View.canon_unit_zero hz]
  simp only [View.ld_unit_zero (S := S2048x128) hz]
  refine pay_apply _ _ _ _ r (fun l => (iblk1 m c t r l).trans ?_) (fun l => (iblk2 m c t r l).trans ?_) (fun l => (iblk3 m c t r l).trans ?_)
    (fun l => (iblk0 m c t r l).trans (padded_apply m c r l)) l
  · rw [table_here]
    exact here_apply _ r l _ (ones_apply r _) _
  · rw [table_above]
    exact RopeFwd.above_apply _ r l _ (fun l => by pointwise []) _
  · rw [table_below]
    exact RopeFwd.below_apply _ r l _ _ (fun l => by pointwise []) (fun l => by pointwise []) _

/-- The array the kernel leaves. -/
theorem final : (dats m 0 c).arrAt 4 cfg0.N = (fun i => wide (turn (cosines (i 0)) (sinesOf (i 0)) (key m c (i 0))) (i 1) : FVec Ideal S2048x128 .bf16) := by
  refine (dats m 0 c).arrAt_eq_of_cover 4 _ (fun t _ => ?_) fun (i : S2048x128.Idx) => ⟨t0, flush0_4 _, ?_⟩
  · rw [Value.flushed4]
    funext y
    rw [View.read_apply]
    have hi := idx_facts t
    have he : ((cfg0.win 4).blk t).view.emb y = ix2 (y 0) (y 1) := by
      refine Shape.idx_ext₂ ?_ ?_
      · show win0_4.index t 0 * 2048 + 1 * (y 0).val = (y 0).val; omega
      · show win0_4.index t 1 * 128 + 1 * (y 1).val = (y 1).val; omega
    rw [he]
    exact (congrArg _ (eq_ix2 y)).trans (out_apply m c t (y 0) (y 1))
  · show i ∈ ((View.whole main_v113).slice (win0_4.rect t0)).set
    rw [View.set_slice_whole, Rect.mem_set_unit]
    have hi := idx_facts t0
    have b0 : (i 0 : Nat) < 2048 := (i 0).isLt
    have b1 : (i 1 : Nat) < 128 := (i 1).isLt
    intro a
    match a with
    | ⟨0, _⟩ => show win0_4.index t0 0 * 2048 ≤ (i 0 : Nat) ∧ (i 0 : Nat) < win0_4.index t0 0 * 2048 + 2048; omega
    | ⟨1, _⟩ => show win0_4.index t0 1 * 128 ≤ (i 1 : Nat) ∧ (i 1 : Nat) < win0_4.index t0 1 * 128 + 128; omega

end Cert.RopeKFwdIdeal.Hand

namespace Cert.RopeKFwdPair

open Idealize.ShloMosaic Idealize.ShloMosaic.TcCoe Idealize.SL.Sem Cert.RopeMath Cert.RopeFwd
open Idealize.ShloMosaic (ix1 ix2 ix3 ix4)

section Reference
open Cert.RopeKFwdRefIdeal Cert.RopeKFwdRefIdeal.Gen Cert.RopeKFwdRefIdeal.Read

/-- The reference's turned 64 lanes. -/
theorem v34_apply (x : FVec Ideal S1x2048x64 .f32) (r : Fin 2048) (k : Fin 64) :
    val_main_v34 (F := Ideal) x (ix4 0 r 0 k) = turn (RopeKFwdIdeal.Hand.cosines r) (RopeKFwdIdeal.Hand.sinesOf r) (fun k => x (ix3 0 r k)) k := by
  pointwise [val_main_v34, val_main_v33, val_main_v32, val_main_v31, val_main_v30, val_main_v29, val_main_v28, val_main_v27,
    val_main_v26, val_main_v25, val_main_v24, val_main_v23, val_main_v22, val_main_v21, val_main_v20, val_main_v0]
  by_cases h : k.val < 32
  · rw [turn_low _ _ _ _ h, dif_pos h]
    have e : (⟨32 + k.val, by omega⟩ : Fin 64) = ⟨k.val + 32, by omega⟩ := Fin.ext (Nat.add_comm _ _)
    rw [e]
  · rw [turn_high _ _ _ _ h, dif_neg h]
    have e : (⟨32 + (k.val - 32), by omega⟩ : Fin 64) = k := Fin.ext (show 32 + (k.val - 32) = k.val by omega)
    rw [e]

/-- The array the reference leaves. -/
theorem v37_apply (x : FVec Ideal S1x2048x64 .f32) (r : Fin 2048) (l : Fin 128) : val_main_v37 (F := Ideal) x (ix2 r l)
    = wide (turn (RopeKFwdIdeal.Hand.cosines r) (RopeKFwdIdeal.Hand.sinesOf r) (fun k => x (ix3 0 r k))) l := by
  show val_main_v36 (F := Ideal) x (ix2 r l) = _
  unfold val_main_v36
  refine RopeKIdeal.Hand.pad_row _ _ (fun _ => sitofp_zero (φ := .f32)) _ r (fun k => ?_) l
  exact (RopeKIdeal.Hand.flat_apply _ r k).trans (v34_apply x r k)

end Reference

/-- The kernel's turn of the shared key head is the reference's, whatever the keys. -/
theorem algebraic : algebraic_RopeKFwdIdeal_RopeKFwdRefIdeal := by
  intro m g m' g' _ hag
  refine ⟨fun c i => wide (turn (RopeKFwdIdeal.Hand.cosines (i 0)) (RopeKFwdIdeal.Hand.sinesOf (i 0)) (RopeKFwdIdeal.Hand.key m c (i 0))) (i 1), ?_, ?_⟩
  · refine (θ_run RopeKFwdIdeal.defs _ _).mono (fun r h c => ?_) (RopeKFwdIdeal.Value.run_blocks m g)
    obtain ⟨e, k⟩ := h c
    exact ⟨e.trans (RopeKFwdIdeal.Hand.final m c), k⟩
  · refine (θ_run RopeKFwdRefIdeal.defs _ _).mono (fun r h c => ?_) (RopeKFwdRefIdeal.Value.run m' g')
    obtain ⟨e, k⟩ := h c
    refine ⟨e.trans ((RopeKFwdRefIdeal.Read.val_main_v37_eq _ _).trans (funext fun i => ?_)), k⟩
    refine (congrArg _ (eq_ix2 i)).trans ((v37_apply _ (i 0) (i 1)).trans ?_)
    rw [hag c]

end Cert.RopeKFwdPair

end
-- ==== Proof.FfnUpPair.lean ====
/-
  The gated convolution, forward: two products, a convolution of three taps along the rows of each, and the silu gate. On any
  arguments, the kernel's two results are the reference's: every column goes through the same sums and products.
-/
module

public import proofs.«01_k».proof.Defs
public import proofs.«01_k».proof.Proof.GateValue
public import proofs.«01_k».proof.Proof.Gen.FfnUpIdeal.Value
public import proofs.«01_k».proof.Proof.Gen.FfnUpRefIdeal.Run
public import proofs.«01_k».proof.Proof.Gen.FfnUpRefIdeal.Read

@[expose] public section

set_option maxRecDepth 16384

noncomputable section

namespace Cert.FfnUpIdeal.Hand

open Idealize.ShloMosaic Idealize.ShloMosaic.TcCoe Cert.GateMath
open Cert.GateIdeal.Hand (hz ext3 taps_apply)
open Idealize.ShloMosaic (ix1 ix2 ix3 ix4)

/-! ## One column -/

/-- The row before; nothing before the first. -/
def above (a : Fin 2048 → EReal) (r : Fin 2048) : EReal := if h : r.val = 0 then 0 else a ⟨r.val - 1, by omega⟩
/-- The row after; nothing after the last. -/
def below (a : Fin 2048 → EReal) (r : Fin 2048) : EReal := if h : r.val = 2047 then 0 else a ⟨r.val + 1, by omega⟩
/-- The convolution of a column by three taps, and its bias. -/
def conv (a : Fin 2048 → EReal) (w : Fin 3 → EReal) (b : EReal) (r : Fin 2048) : EReal := above a r * w 0 + a r * w 1 + below a r * w 2 + b
/-- The gate. -/
def silu (z : EReal) : EReal := z * Ideal.div 1 (1 + Ideal.exp (-z))
/-- A column of the product. -/
def prod (x : Fin 2048 → Fin 2048 → EReal) (u : Fin 2048 → EReal) (r : Fin 2048) : EReal := ∑ k, x r k * u k

section Kernel
open Cert.FfnUpIdeal Cert.FfnUpIdeal.Gen

section
variable {v : FVec Ideal S2048x256 .f32} {a : Fin 2048 → EReal} {j : Fin 256}

theorem above_apply (hv : ∀ r, v (ix2 r j) = a r) (r : Fin 2048) :
    select k0_pay6 (broadcast S2048x256 (Scalar.ofBits (F := Ideal) .f32 0x00000000#32)) (dynamicRotate 0 1#32 none v rotates_S2048x256_d0) (ix2 r j) = above a r := by
  pointwise [k0_pay6]
  rw [select_eq, hv]
  simp only [row_eq_zero, above]
  split
  · rfl
  · exact congrArg a (Fin.ext (show (r.val + 2048 - 1) % 2048 = r.val - 1 by omega))

theorem below_apply (hv : ∀ r, v (ix2 r j) = a r) (r : Fin 2048) :
    select k0_pay7 (broadcast S2048x256 (Scalar.ofBits (F := Ideal) .f32 0x00000000#32)) (dynamicRotate 0 2047#32 none v rotates_S2048x256_d0) (ix2 r j) = below a r := by
  pointwise [k0_pay7]
  rw [select_eq, hv]
  simp only [row_eq_last, below]
  split
  · rfl
  · exact congrArg a (Fin.ext (show (r.val + 2048 - 2047) % 2048 = r.val + 1 by omega))

/-- What a block of the taps holds at a column: three taps and the bias. -/
structure Taps (u : Vec Ideal S1x8x256 .f32) (j : Fin 256) (w : Fin 3 → EReal) (b : EReal) : Prop where
  w0 : u (ix3 0 0 j) = w 0
  w1 : u (ix3 0 1 j) = w 1
  w2 : u (ix3 0 2 j) = w 2
  b : u (ix3 0 3 j) = b

/-- The gates' product of a block, -/
theorem pay2_apply {x : Fin 2048 → Fin 2048 → EReal} {u : Fin 2048 → EReal} (v0 : Vec Ideal S2048x2048 .bf16) (v1 : Vec Ideal S1x1x2048x256 .bf16)
    (h0 : ∀ r k, v0 (ix2 r k) = x r k) (h1 : ∀ k, v1 (ix4 0 0 k j) = u k) (r : Fin 2048) : k0_pay2 (F := Ideal) v0 v1 (ix2 r j) = prod x u r := by
  pointwise [k0_pay2]
  simp only [h0, h1]
  rfl
/-- and the values'. -/
theorem pay3_apply {x : Fin 2048 → Fin 2048 → EReal} {u : Fin 2048 → EReal} (v0 : Vec Ideal S2048x2048 .bf16) (v1 : Vec Ideal S1x1x2048x256 .bf16)
    (h0 : ∀ r k, v0 (ix2 r k) = x r k) (h1 : ∀ k, v1 (ix4 0 0 k j) = u k) (r : Fin 2048) : k0_pay3 (F := Ideal) v0 v1 (ix2 r j) = prod x u r := by
  pointwise [k0_pay3]
  simp only [h0, h1]
  rfl

theorem pay9_apply (v0 : Vec Ideal S2048x2048 .bf16) (v1 : Vec Ideal S1x1x2048x256 .bf16) (hv : ∀ r, k0_pay2 (F := Ideal) v0 v1 (ix2 r j) = a r) (r : Fin 2048) :
    k0_pay9 (F := Ideal) v0 v1 (ix2 r j) = below a r := below_apply hv r

theorem pay10_apply (v0 : Vec Ideal S2048x2048 .bf16) (v1 : Vec Ideal S1x1x2048x256 .bf16) {u : Vec Ideal S1x8x256 .f32} {w : Fin 3 → EReal} {b : EReal}
    (hv : ∀ r, k0_pay2 (F := Ideal) v0 v1 (ix2 r j) = a r) (hu : Taps u j w b) (r : Fin 2048) :
    k0_pay10 (F := Ideal) v0 v1 u (ix2 r j) = above a r * w 0 := by
  have e := above_apply hv r
  unfold k0_pay10
  dsimp only
  generalize select k0_pay6 (broadcast S2048x256 (Scalar.ofBits (F := Ideal) .f32 0x00000000#32)) (dynamicRotate 0 1#32 none (k0_pay2 v0 v1) rotates_S2048x256_d0) = p at *
  pointwise [k0_pay8]
  rw [e, hu.w0]

/-- The gated block the kernel stores. -/
theorem pay1_apply (p q p9 p10 : FVec Ideal S2048x256 .f32) {u0 u1 : Vec Ideal S1x8x256 .f32} {w w' : Fin 3 → EReal} {b b' : EReal} {a' : Fin 2048 → EReal}
    (hp : ∀ r, p (ix2 r j) = a r) (hq : ∀ r, q (ix2 r j) = a' r) (h9 : ∀ r, p9 (ix2 r j) = below a r) (h10 : ∀ r, p10 (ix2 r j) = above a r * w 0)
    (hu : Taps u0 j w b) (hu' : Taps u1 j w' b') (r : Fin 2048) :
    k0_pay1 (F := Ideal) p q k0_pay6 k0_pay7 (k0_pay8 u0) p9 p10 (k0_pay11 u0) u1 (ix2 r j) = silu (conv a w b r) * conv a' w' b' r := by
  have e0 := above_apply hq r
  have e1 := below_apply hq r
  unfold k0_pay1
  dsimp only
  generalize select k0_pay6 (broadcast S2048x256 (Scalar.ofBits (F := Ideal) .f32 0x00000000#32)) (dynamicRotate 0 1#32 none q rotates_S2048x256_d0) = q0 at *
  generalize select k0_pay7 (broadcast S2048x256 (Scalar.ofBits (F := Ideal) .f32 0x00000000#32)) (dynamicRotate 0 2047#32 none q rotates_S2048x256_d0) = q1 at *
  pointwise [k0_pay8, k0_pay11]
  simp only [hp, hq, h9, h10, e0, e1, hu.w1, hu.w2, hu.b, hu'.w0, hu'.w1, hu'.w2, hu'.b, zero_sub]
  rfl

end

variable (m : (ℓ : Loc nD τ sig) → Buf (Elt Ideal) ℓ) (c : Dev nD)

/-- The rows of the input, -/
abbrev xs : FVec Ideal S2048x2048 .bf16 := m ((c : Thread nD τ).loc main_arg0)
/-- the weights, -/
abbrev up : FVec Ideal S2048x11264 .bf16 := m ((c : Thread nD τ).loc main_arg1)
/-- the taps, -/
abbrev tp : FVec Ideal S3x11264 .f32 := m ((c : Thread nD τ).loc main_arg2)
/-- and the biases. -/
abbrev bs : FVec Ideal S11264 .f32 := m ((c : Thread nD τ).loc main_arg3)

/-- A column of the product, -/
def column (x : FVec Ideal S2048x2048 .bf16) (u : FVec Ideal S2048x11264 .bf16) (i : Fin 11264) : Fin 2048 → EReal :=
  prod (fun r k => x (ix2 r k)) (fun k => u (ix2 k i))
/-- convolved, -/
def convolved (x : FVec Ideal S2048x2048 .bf16) (u : FVec Ideal S2048x11264 .bf16) (w : FVec Ideal S3x11264 .f32) (b : FVec Ideal S11264 .f32) (i : Fin 11264) : Fin 2048 → EReal :=
  conv (column x u i) (fun k => w (ix2 k i)) (b (ix1 i))
/-- and a gated column. -/
def gated (x : FVec Ideal S2048x2048 .bf16) (u : FVec Ideal S2048x11264 .bf16) (w : FVec Ideal S3x11264 .f32) (b : FVec Ideal S11264 .f32) (r : Fin 2048) (j : Fin 5632) : EReal :=
  silu (convolved x u w b (col 0 j) r) * convolved x u w b (col 1 j) r

/-! ## The blocks of the arguments -/

theorem ext4 {n0 n1 n2 n3 : Nat} {i j : (⟨4, ![n0, n1, n2, n3]⟩ : Shape).Idx} (h0 : (i 0).val = (j 0).val) (h1 : (i 1).val = (j 1).val) (h2 : (i 2).val = (j 2).val)
    (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

theorem idx_facts : ∀ t : Fin cfg0.N, win0_0.index t 0 = 0 ∧ win0_0.index t 1 = 0
    ∧ win0_1.index t 0 = 0 ∧ win0_1.index t 1 = t.val / 11 ∧ win0_1.index t 2 = 0 ∧ win0_1.index t 3 = t.val % 11
    ∧ win0_2.index t 0 = 0 ∧ win0_2.index t 1 = 0 ∧ win0_2.index t 2 = t.val ∧ win0_3.index t 0 = 0 ∧ win0_3.index t 1 = 0 ∧ win0_3.index t 2 = t.val
    ∧ win0_4.index t 0 = 0 ∧ win0_4.index t 1 = t.val :=
  (by decide +kernel : ∀ t : Fin grid0.N, _)

/-- The column of a half that column `j` of block `t` is. -/
abbrev tile (t : Fin cfg0.N) (j : Fin 256) : Fin 5632 := ⟨256 * t.val + j.val, by have := t.isLt; have : cfg0.N = 22 := N_0; omega⟩

/-- The weights in two halves of two parts each. -/
theorem parts_apply (a : FVec Ideal S2048x11264 .bf16) (s p : Fin 2) (k : Fin 2048) (l : Fin 2816) (i : Fin 11264) (hi : i.val = (2 * s.val + p.val) * 2816 + l.val) :
    (shapeCast S2x2x2048x2816 (transpose S4x2048x2816 [1, 0, 2] (shapeCast S2048x4x2816 a shapeCasts_S2048x11264_S2048x4x2816) transposes_S2048x4x2816_S4x2048x2816_1_0_2)
      shapeCasts_S4x2048x2816_S2x2x2048x2816 : FVec Ideal S2x2x2048x2816 .bf16) (ix4 s p k l) = a (ix2 k i) := by
  pointwise []
  exact congrArg (fun i => a (ix2 k i)) (Fin.ext (by show (s.val * 2 + p.val) * 2816 + l.val = i.val; omega))

theorem arg_rows : (V m c main_arg0 : FVec Ideal S2048x2048 .bf16) = xs m c := by
  unfold V
  after_results_simp <;> rfl

theorem iblk0 (t : Fin cfg0.N) (r l : Fin 2048) : (iblk m c 0 t : FVec Ideal S2048x2048 .bf16) (ix2 r l) = xs m c (ix2 r l) := by
  unfold iblk
  rw [View.read_apply]
  show V m c main_arg0 _ = _
  have e : ((cfg0.win 0).blk t).view.emb (ix2 r l) = ix2 r l := by
    have hi := idx_facts t
    refine Shape.idx_ext₂ ?_ ?_
    · show win0_0.index t 0 * 2048 + 1 * r.val = r.val; omega
    · show win0_0.index t 1 * 2048 + 1 * l.val = l.val; omega
  rw [e]
  exact congrFun (arg_rows m c) _

theorem iblk1 (t : Fin cfg0.N) (s : Fin 2) (k : Fin 2048) (j : Fin 256) :
    (iblk m c 1 t : FVec Ideal S2x1x2048x256 .bf16) (ix4 s 0 k j) = up m c (ix2 k (col s (tile t j))) := by
  unfold iblk
  rw [View.read_apply]
  show V m c main_v2 _ = _
  have ht : t.val < 22 := lt_of_lt_of_eq t.isLt N_0
  have e : ((cfg0.win 1).blk t).view.emb (ix4 s 0 k j) = ix4 s ⟨t.val / 11, by omega⟩ k ⟨256 * (t.val % 11) + j.val, by omega⟩ := by
    have hi := idx_facts t
    refine ext4 ?_ ?_ ?_ ?_
    · show win0_1.index t 0 * 2 + 1 * s.val = s.val; omega
    · show win0_1.index t 1 * 1 + 1 * 0 = t.val / 11; omega
    · show win0_1.index t 2 * 2048 + 1 * k.val = k.val; omega
    · show win0_1.index t 3 * 256 + 1 * j.val = 256 * (t.val % 11) + j.val; omega
  have v : V m c main_v2 = shapeCast S2x2x2048x2816 (transpose S4x2048x2816 [1, 0, 2] (shapeCast S2048x4x2816 (m (c, Proc.tc.devRef main_arg1)) shapeCasts_S2048x11264_S2048x4x2816) transposes_S2048x4x2816_S4x2048x2816_1_0_2)
      shapeCasts_S4x2048x2816_S2x2x2048x2816 := by
    unfold V; after_results_simp <;> rfl
  rw [e, v]
  exact parts_apply _ s _ k _ _ (by show s.val * 5632 + (256 * t.val + j.val) = (2 * s.val + t.val / 11) * 2816 + (256 * (t.val % 11) + j.val); omega)

theorem iblk2 (t : Fin cfg0.N) (s : Fin 2) (k : Fin 8) (j : Fin 256) :
    (iblk m c 2 t : FVec Ideal S2x8x256 .f32) (ix3 s k j) = (if h : k.val < 3 then tp m c (ix2 ⟨k.val, h⟩ (col s (tile t j)))
      else if k.val = 3 then bs m c (ix1 (col s (tile t j))) else 0 : EReal) := by
  unfold iblk
  rw [View.read_apply]
  show V m c main_v7 _ = _
  have e : ((cfg0.win 2).blk t).view.emb (ix3 s k j) = ix3 s k (tile t j) := by
    have hi := idx_facts t
    refine ext3 ?_ ?_ ?_
    · show win0_2.index t 0 * 2 + 1 * s.val = s.val; omega
    · show win0_2.index t 1 * 8 + 1 * k.val = k.val; omega
    · show win0_2.index t 2 * 256 + 1 * j.val = 256 * t.val + j.val; omega
  have v : V m c main_v7 = concatenate S2x8x5632 1 [⟨S2x3x5632, (transpose S2x3x5632 [1, 0, 2] (shapeCast S3x2x5632 (m (c, Proc.tc.devRef main_arg2)) shapeCasts_S3x11264_S3x2x5632) transposes_S3x2x5632_S2x3x5632_1_0_2 : FVec Ideal S2x3x5632 .f32)⟩,
      ⟨S2x1x5632, (shapeCast S2x1x5632 (m (c, Proc.tc.devRef main_arg3)) shapeCasts_S11264_S2x1x5632 : FVec Ideal S2x1x5632 .f32)⟩,
      ⟨S2x4x5632, (broadcastInDim S2x4x5632 ![] bcast_S_S2x4x5632 (constant (F := Ideal) S_ .f32 0x00000000#32) : FVec Ideal S2x4x5632 .f32)⟩] concatenates_S2x3x5632_S2x1x5632_S2x4x5632_S2x8x5632_d1 := by
    unfold V; after_results_simp <;> rfl
  rw [e, v]
  exact taps_apply _ _ s k (tile t j)

/-! ## What a point leaves -/

theorem ld_w0 {e : EltTy} (X : Vec Ideal S2x1x2048x256 e) (r : Fin 2048) (j : Fin 256) : View.ld X r0_1 (ix4 0 0 r j) = X (ix4 0 0 r j) :=
  congrArg X (ext4 rfl rfl (show 0 + 1 * r.val = r.val by omega) (show 0 + 1 * j.val = j.val by omega))
theorem ld_w1 {e : EltTy} (X : Vec Ideal S2x1x2048x256 e) (r : Fin 2048) (j : Fin 256) : View.ld X r0_2 (ix4 0 0 r j) = X (ix4 1 0 r j) :=
  congrArg X (ext4 rfl rfl (show 0 + 1 * r.val = r.val by omega) (show 0 + 1 * j.val = j.val by omega))
theorem ld_t0 {e : EltTy} (X : Vec Ideal S2x8x256 e) (k : Fin 8) (j : Fin 256) : View.ld X r0_5 (ix3 0 k j) = X (ix3 0 k j) :=
  congrArg X (ext3 rfl (show 0 + 1 * k.val = k.val by omega) (show 0 + 1 * j.val = j.val by omega))
theorem ld_t1 {e : EltTy} (X : Vec Ideal S2x8x256 e) (k : Fin 8) (j : Fin 256) : View.ld X r0_6 (ix3 0 k j) = X (ix3 1 k j) :=
  congrArg X (ext3 rfl (show 0 + 1 * k.val = k.val by omega) (show 0 + 1 * j.val = j.val by omega))

theorem taps0 (t : Fin cfg0.N) (j : Fin 256) : Taps (View.ld (iblk m c 2 t) r0_5) j (fun k => tp m c (ix2 k (col 0 (tile t j)))) (bs m c (ix1 (col 0 (tile t j)))) :=
  ⟨(ld_t0 _ 0 j).trans (iblk2 m c t 0 0 j), (ld_t0 _ 1 j).trans (iblk2 m c t 0 1 j), (ld_t0 _ 2 j).trans (iblk2 m c t 0 2 j), (ld_t0 _ 3 j).trans (iblk2 m c t 0 3 j)⟩
theorem taps1 (t : Fin cfg0.N) (j : Fin 256) : Taps (View.ld (iblk m c 2 t) r0_6) j (fun k => tp m c (ix2 k (col 1 (tile t j)))) (bs m c (ix1 (col 1 (tile t j)))) :=
  ⟨(ld_t1 _ 0 j).trans (iblk2 m c t 1 0 j), (ld_t1 _ 1 j).trans (iblk2 m c t 1 1 j), (ld_t1 _ 2 j).trans (iblk2 m c t 1 2 j), (ld_t1 _ 3 j).trans (iblk2 m c t 1 3 j)⟩

theorem gates (t : Fin cfg0.N) (j : Fin 256) (r : Fin 2048) :
    k0_pay2 (F := Ideal) (View.ld (iblk m c 0 t) r0_0) (View.ld (iblk m c 1 t) r0_1) (ix2 r j) = column (xs m c) (up m c) (col 0 (tile t j)) r :=
  pay2_apply _ _ (fun r k => (congrFun (View.ld_unit_zero (S := S2048x2048) hz _ _) _).trans (iblk0 m c t r k)) (fun k => (ld_w0 _ k j).trans (iblk1 m c t 0 k j)) r
theorem values (t : Fin cfg0.N) (j : Fin 256) (r : Fin 2048) :
    k0_pay3 (F := Ideal) (View.ld (iblk m c 0 t) r0_0) (View.ld (iblk m c 1 t) r0_2) (ix2 r j) = column (xs m c) (up m c) (col 1 (tile t j)) r :=
  pay3_apply _ _ (fun r k => (congrFun (View.ld_unit_zero (S := S2048x2048) hz _ _) _).trans (iblk0 m c t r k)) (fun k => (ld_w1 _ k j).trans (iblk1 m c t 1 k j)) r

theorem pay4_apply {v0 : Vec Ideal S2048x2048 .bf16} {v1 : Vec Ideal S1x1x2048x256 .bf16} {f : Fin 2048 → Fin 256 → EReal}
    (h : ∀ r j, k0_pay2 (F := Ideal) v0 v1 (ix2 r j) = f r j) (x : S1x2048x256.Idx) : k0_pay4 (F := Ideal) v0 v1 x = f (x 1) (x 2) := by
  have hx : x = ix3 0 (x 1) (x 2) := ext3 (by have : (x 0).val < 1 := (x 0).isLt; show (x 0).val = 0; omega) rfl rfl
  refine (congrArg _ hx).trans ?_
  unfold k0_pay4
  generalize k0_pay2 (F := Ideal) v0 v1 = p at *
  pointwise []
  exact h _ _
theorem pay5_apply {v0 : Vec Ideal S2048x2048 .bf16} {v1 : Vec Ideal S1x1x2048x256 .bf16} {f : Fin 2048 → Fin 256 → EReal}
    (h : ∀ r j, k0_pay3 (F := Ideal) v0 v1 (ix2 r j) = f r j) (x : S1x2048x256.Idx) : k0_pay5 (F := Ideal) v0 v1 x = f (x 1) (x 2) := by
  have hx : x = ix3 0 (x 1) (x 2) := ext3 (by have : (x 0).val < 1 := (x 0).isLt; show (x 0).val = 0; omega) rfl rfl
  refine (congrArg _ hx).trans ?_
  unfold k0_pay5
  generalize k0_pay3 (F := Ideal) v0 v1 = p at *
  pointwise []
  exact h _ _

/-- Two planes set one beside the other. -/
theorem planes_apply {p q : Vec Ideal S1x2048x256 .f32} {f : Fin 2 → Fin 2048 → Fin 256 → EReal} (hp : ∀ x, p x = f 1 (x 1) (x 2)) (hq : ∀ x, q x = f 0 (x 1) (x 2))
    (y : S2x2048x256.Idx) : View.canon (Val := Elt Ideal) (e := .f32) [⟨r0_4, p⟩, ⟨r0_3, q⟩] y = f (y 0) (y 1) (y 2) := by
  refine View.canon_apply_of_pieces (Val := Elt Ideal) (e := .f32) (fun y : S2x2048x256.Idx => f (y 0) (y 1) (y 2)) _ ?_ y (cover0_3 p q y)
  intro pc hpc
  simp only [List.mem_cons, List.not_mem_nil, or_false] at hpc
  rcases hpc with rfl | rfl <;> intro x
  · have hy : r0_4.emb x = ix3 1 (x 1) (x 2) :=
      ext3 (by have : (x 0).val < 1 := (x 0).isLt; show 1 + 1 * (x 0).val = 1; omega) (by show 0 + 1 * (x 1).val = (x 1).val; omega) (by show 0 + 1 * (x 2).val = (x 2).val; omega)
    rw [hy]
    exact hp x
  · have hy : r0_3.emb x = ix3 0 (x 1) (x 2) :=
      ext3 (by have : (x 0).val < 1 := (x 0).isLt; show 0 + 1 * (x 0).val = 0; omega) (by show 0 + 1 * (x 1).val = (x 1).val; omega) (by show 0 + 1 * (x 2).val = (x 2).val; omega)
    rw [hy]
    exact hq x

/-- The products' columns, -/
theorem out_3 (t : Fin cfg0.N) (y : S2x2048x256.Idx) :
    out0_3 (iblk m c 0 t) (iblk m c 1 t) (iblk m c 2 t) y = column (xs m c) (up m c) (col (y 0) (tile t (y 2))) (y 1) :=
  planes_apply (f := fun s r j => column (xs m c) (up m c) (col s (tile t j)) r) (pay5_apply fun r j => values m c t j r) (pay4_apply fun r j => gates m c t j r) y

/-- and the gated ones. -/
theorem out_4 (t : Fin cfg0.N) (y : S2048x256.Idx) :
    out0_4 (iblk m c 0 t) (iblk m c 1 t) (iblk m c 2 t) y = gated (xs m c) (up m c) (tp m c) (bs m c) (y 0) (tile t (y 1)) := by
  unfold out0_4
  rw [View.canon_unit_zero hz]
  exact (congrArg _ (eq_ix2 y)).trans (pay1_apply _ _ _ _ (gates m c t (y 1)) (values m c t (y 1)) (pay9_apply _ _ (gates m c t (y 1)))
    (pay10_apply _ _ (gates m c t (y 1)) (taps0 m c t (y 1))) (taps0 m c t (y 1)) (taps1 m c t (y 1)) (y 0))

/-- The products, as the kernel leaves them. -/
theorem final_3 : (dats m 0 c).arrAt 3 cfg0.N = (fun i => column (xs m c) (up m c) (col (i 0) (i 2)) (i 1) : FVec Ideal S2x2048x5632 .f32) := by
  refine (dats m 0 c).arrAt_eq_of_cover 3 _ (fun t _ => ?_) fun (i : S2x2048x5632.Idx) =>
    ⟨⟨(i 2 : Nat) / 256, by have h : (i 2 : Nat) < 5632 := (i 2).isLt; have : cfg0.N = 22 := N_0; omega⟩, flush0_3 _, ?_⟩
  · rw [Value.flushed3]
    funext y
    rw [View.read_apply]
    have he : ((cfg0.win 3).blk t).view.emb y = ix3 (y 0) (y 1) (tile t (y 2)) := by
      have hi := idx_facts t
      refine ext3 ?_ ?_ ?_
      · show win0_3.index t 0 * 2 + 1 * (y 0).val = (y 0).val; omega
      · show win0_3.index t 1 * 2048 + 1 * (y 1).val = (y 1).val; omega
      · show win0_3.index t 2 * 256 + 1 * (y 2).val = 256 * t.val + (y 2).val; omega
    rw [he]
    exact out_3 m c t y
  · generalize hp : (⟨(i 2 : Nat) / 256, _⟩ : Fin cfg0.N) = p
    have hv : p.val = (i 2 : Nat) / 256 := by rw [← hp]
    have hi := idx_facts p
    have b0 : (i 0 : Nat) < 2 := (i 0).isLt
    have b1 : (i 1 : Nat) < 2048 := (i 1).isLt
    show i ∈ ((View.whole main_v8_0).slice (win0_3.rect p)).set
    rw [View.set_slice_whole, Rect.mem_set_unit]
    intro a
    match a with
    | ⟨0, _⟩ => show win0_3.index p 0 * 2 ≤ (i 0 : Nat) ∧ (i 0 : Nat) < win0_3.index p 0 * 2 + 2; omega
    | ⟨1, _⟩ => show win0_3.index p 1 * 2048 ≤ (i 1 : Nat) ∧ (i 1 : Nat) < win0_3.index p 1 * 2048 + 2048; omega
    | ⟨2, _⟩ => show win0_3.index p 2 * 256 ≤ (i 2 : Nat) ∧ (i 2 : Nat) < win0_3.index p 2 * 256 + 256; omega

/-- The gated columns, as the kernel leaves them. -/
theorem final_4 : (dats m 0 c).arrAt 4 cfg0.N = (fun i => gated (xs m c) (up m c) (tp m c) (bs m c) (i 0) (i 1) : FVec Ideal S2048x5632 .bf16) := by
  refine (dats m 0 c).arrAt_eq_of_cover 4 _ (fun t _ => ?_) fun (i : S2048x5632.Idx) =>
    ⟨⟨(i 1 : Nat) / 256, by have h : (i 1 : Nat) < 5632 := (i 1).isLt; have : cfg0.N = 22 := N_0; omega⟩, flush0_4 _, ?_⟩
  · rw [Value.flushed4]
    funext y
    rw [View.read_apply]
    have he : ((cfg0.win 4).blk t).view.emb y = ix2 (y 0) (tile t (y 1)) := by
      have hi := idx_facts t
      refine Shape.idx_ext₂ ?_ ?_
      · show win0_4.index t 0 * 2048 + 1 * (y 0).val = (y 0).val; omega
      · show win0_4.index t 1 * 256 + 1 * (y 1).val = 256 * t.val + (y 1).val; omega
    rw [he]
    exact out_4 m c t y
  · generalize hp : (⟨(i 1 : Nat) / 256, _⟩ : Fin cfg0.N) = p
    have hv : p.val = (i 1 : Nat) / 256 := by rw [← hp]
    have hi := idx_facts p
    have b0 : (i 0 : Nat) < 2048 := (i 0).isLt
    show i ∈ ((View.whole main_v8_1).slice (win0_4.rect p)).set
    rw [View.set_slice_whole, Rect.mem_set_unit]
    intro a
    match a with
    | ⟨0, _⟩ => show win0_4.index p 0 * 2048 ≤ (i 0 : Nat) ∧ (i 0 : Nat) < win0_4.index p 0 * 2048 + 2048; omega
    | ⟨1, _⟩ => show win0_4.index p 1 * 256 ≤ (i 1 : Nat) ∧ (i 1 : Nat) < win0_4.index p 1 * 256 + 256; omega

end Kernel

section Reference
open Cert.FfnUpRefIdeal Cert.FfnUpRefIdeal.Gen Cert.FfnUpRefIdeal.Read

/-- Rows padded by one above and below. -/
theorem pad_apply {n : Nat} {u : Shape} {X : (⟨2, ![2048, n]⟩ : Shape).Idx → EReal} {Z : u.Idx → EReal}
    (hp : (⟨2, ![2048, n]⟩ : Shape).Pads (![1, 0] : Fin 2 → Nat) ![1, 0] ![0, 0] ⟨2, ![2050, n]⟩) (hu : 0 < u.numel) (hZ : ∀ i, Z i = 0) (r : Fin 2050) (c : Fin n) :
    pad (⟨2, ![2050, n]⟩ : Shape) ![1, 0] ![1, 0] ![0, 0] X Z hp hu (ix2 r c) = if h : 1 ≤ r.val ∧ r.val - 1 < 2048 then X (ix2 ⟨r.val - 1, h.2⟩ c) else 0 := by
  split
  · rename_i h
    rw [pad_apply_of_inside (t := ⟨2, ![2050, n]⟩) (s := ⟨2, ![2048, n]⟩) _ _ _ _ _ _ _ _ (ix2 ⟨r.val - 1, h.2⟩ c)]
    intro a
    match a with
    | ⟨0, _⟩ => show r.val = 1 + (r.val - 1) * 1; omega
    | ⟨1, _⟩ => show c.val = 0 + c.val * 1; omega
  · rename_i h
    rw [pad_apply_of_not_inside (t := ⟨2, ![2050, n]⟩) (s := ⟨2, ![2048, n]⟩) _ _ _ _ _ _ _ _ 0, hZ]
    rintro ⟨h1, -, h2⟩
    have h1' : 1 ≤ r.val := h1
    have h2' : (r.val - 1) / 1 < 2048 := h2
    exact h ⟨h1', by omega⟩

variable (x : FVec Ideal S2048x2048 .bf16) (u : FVec Ideal S2048x11264 .bf16) (w : FVec Ideal S3x11264 .f32) (b : FVec Ideal S11264 .f32)

theorem v0_apply (r : Fin 2048) (i : Fin 11264) : val_main_v0 (F := Ideal) x u (ix2 r i) = column x u i r := by
  pointwise [val_main_v0]
  rfl

theorem v1_apply (r : Fin 2050) (i : Fin 11264) :
    val_main_v1 (F := Ideal) x u (ix2 r i) = if h : 1 ≤ r.val ∧ r.val - 1 < 2048 then column x u i ⟨r.val - 1, h.2⟩ else 0 := by
  unfold val_main_v1
  refine (pad_apply _ _ (fun _ => sitofp_zero (φ := .f32)) r i).trans ?_
  split
  · exact v0_apply x u _ i
  · rfl

theorem v24_apply (r : Fin 2048) (i : Fin 11264) : val_main_v24 (F := Ideal) x u w b (ix2 r i) = convolved x u w b i r := by
  have h := v1_apply x u
  have h2 : val_main_v2 (F := Ideal) x u (ix2 r i) = above (column x u i) r := by
    unfold val_main_v2
    generalize val_main_v1 (F := Ideal) x u = p at *
    pointwise []
    rw [h, above]
    by_cases hr : r.val = 0
    · rw [dif_pos hr]
      exact dif_neg (show ¬(1 ≤ r.val ∧ r.val - 1 < 2048) by omega)
    · rw [dif_neg hr]
      exact dif_pos (show 1 ≤ r.val ∧ r.val - 1 < 2048 by omega)
  have h8 : val_main_v8 (F := Ideal) x u (ix2 r i) = column x u i r := by
    unfold val_main_v8
    generalize val_main_v1 (F := Ideal) x u = p at *
    pointwise []
    rw [h, dif_pos (show 1 ≤ 1 + r.val ∧ 1 + r.val - 1 < 2048 by omega)]
    exact congrArg _ (Fin.ext (show 1 + r.val - 1 = r.val by omega))
  have h15 : val_main_v15 (F := Ideal) x u (ix2 r i) = below (column x u i) r := by
    unfold val_main_v15
    generalize val_main_v1 (F := Ideal) x u = p at *
    pointwise []
    rw [h, below]
    by_cases hr : r.val = 2047
    · rw [dif_pos hr, dif_neg (fun hh => absurd hh.2 (by show ¬2 + r.val - 1 < 2048; omega))]
    · rw [dif_neg hr, dif_pos (show 1 ≤ 2 + r.val ∧ 2 + r.val - 1 < 2048 by omega)]
      exact congrArg _ (Fin.ext (show 2 + r.val - 1 = r.val + 1 by omega))
  unfold val_main_v24 val_main_v21 val_main_v20 val_main_v14 val_main_v13 val_main_v7
  generalize val_main_v2 (F := Ideal) x u = p2 at *
  generalize val_main_v8 (F := Ideal) x u = p8 at *
  generalize val_main_v15 (F := Ideal) x u = p15 at *
  pointwise [val_main_v23, val_main_v22, val_main_v19, val_main_v18, val_main_v17, val_main_v16, val_main_v12, val_main_v11, val_main_v10, val_main_v9, val_main_v6, val_main_v5, val_main_v4, val_main_v3]
  rw [h2, h8, h15]
  rfl

theorem v31_apply (r : Fin 2048) (j : Fin 5632) : val_main_v31 (F := Ideal) x u w b (ix2 r j) = gated x u w b r j := by
  have h := v24_apply x u w b r
  unfold val_main_v31 val_main_v30 val_main_v29 val_main_call1_v5 val_main_call1_v3 val_main_call1_v1 val_main_call1_v0 val_main_v25 val_main_v26
  generalize val_main_v24 (F := Ideal) x u w b = p at *
  pointwise [val_main_call1_v4, val_main_call1_v2, val_main_call1_cst, val_main_call1_cst_0]
  rw [gated, ← h, ← h, col_zero, col_one]
  rfl

theorem v28_apply (s : Fin 2) (r : Fin 2048) (j : Fin 5632) : val_main_v28 (F := Ideal) x u (ix3 s r j) = column x u (col s j) r := by
  have h := v0_apply x u
  unfold val_main_v28 val_main_v27
  generalize val_main_v0 (F := Ideal) x u = p at *
  pointwise []
  exact h _ _

end Reference

end Cert.FfnUpIdeal.Hand

namespace Cert.FfnUpPair

open Idealize.ShloMosaic Idealize.ShloMosaic.TcCoe Cert.FfnUpIdeal.Hand
open Cert.GateIdeal.Hand (ext3)
open Idealize.ShloMosaic (ix1 ix2 ix3 ix4)

/-- The kernel's products and gated columns are the reference's, whatever the arguments. -/
theorem algebraic : algebraic_FfnUpIdeal_FfnUpRefIdeal := by
  intro m g m' g' _ hag
  refine ⟨fun c i => column (xs m c) (up m c) (Cert.GateMath.col (i 0) (i 2)) (i 1), fun c i => gated (xs m c) (up m c) (tp m c) (bs m c) (i 0) (i 1), ?_, ?_⟩
  · refine (θ_run FfnUpIdeal.defs _ _).mono (fun r h c => ?_) (FfnUpIdeal.Value.run_blocks m g)
    obtain ⟨e3, e4, k⟩ := h c
    exact ⟨e3.trans (final_3 m c), e4.trans (final_4 m c), k⟩
  · refine (θ_run FfnUpRefIdeal.defs _ _).mono (fun r h c => ?_) (FfnUpRefIdeal.Value.run m' g')
    obtain ⟨e3, e4, k⟩ := h c
    obtain ⟨a0, a1, a2, a3⟩ := hag c
    refine ⟨e3.trans ((FfnUpRefIdeal.Read.val_main_v28_eq _ _).trans (funext fun i => ?_)), e4.trans ((FfnUpRefIdeal.Read.val_main_v31_eq _ _).trans (funext fun i => ?_)), k⟩
    · rw [a0, a1]
      exact (congrArg _ (ext3 rfl rfl rfl : i = ix3 (i 0) (i 1) (i 2))).trans (v28_apply _ _ (i 0) (i 1) (i 2))
    · rw [a0, a1, a2, a3]
      exact (congrArg _ (eq_ix2 i)).trans (v31_apply _ _ _ _ (i 0) (i 1))

end Cert.FfnUpPair

end
-- ==== Proof.PrepFwdMath.lean ====
/-
  The rotary turns in front of the attentions, lane by lane: a head turned in its two halves by the row's and the column's angles, and a
  head whose first 32 lanes alone are turned. The kernel's three products add up to them on all extended reals.
-/
module

public import proofs.«01_k».proof.Proof.RopeFwd

@[expose] public section

noncomputable section

namespace Cert.PrepFwd

open Idealize.ShloMosaic Cert.RopeMath Cert.RopeFwd

/-- A head whose lower half is turned by one row of angles and whose upper half by another. -/
def axial (cr sr cc sc : Fin 32 → EReal) (d : Fin 128 → EReal) (l : Fin 128) : EReal :=
  if h : l.val < 64 then turn cr sr (fun k => d ⟨k.val, by omega⟩) ⟨l.val, h⟩
  else turn cc sc (fun k => d ⟨64 + k.val, by omega⟩) ⟨l.val - 64, by omega⟩

/-- A head whose first 32 lanes are turned, the rest kept. -/
def short (c s : Fin 16 → EReal) (d : Fin 128 → EReal) (l : Fin 128) : EReal :=
  if h : l.val < 16 then d l * c ⟨l.val, h⟩ - d ⟨l.val + 16, by omega⟩ * s ⟨l.val, h⟩
  else if h' : l.val < 32 then d ⟨l.val - 16, by omega⟩ * s ⟨l.val - 16, by omega⟩ + d l * c ⟨l.val - 16, by omega⟩
  else d l

/-- What a lane is multiplied by, in halves. -/
def axHere (cr cc : Fin 32 → EReal) (l : Fin 128) : EReal :=
  if h : l.val < 32 then cr ⟨l.val, h⟩ else if h' : l.val < 64 then cr ⟨l.val - 32, by omega⟩
  else if h'' : l.val < 96 then cc ⟨l.val - 64, by omega⟩ else cc ⟨l.val - 96, by omega⟩
/-- What the lane 32 above is multiplied by. -/
def axAbove (sr sc : Fin 32 → EReal) (l : Fin 128) : EReal :=
  if h : l.val < 32 then -sr ⟨l.val, h⟩ else if h' : 64 ≤ l.val ∧ l.val < 96 then -sc ⟨l.val - 64, by omega⟩ else 0
/-- What the lane 32 below is multiplied by. -/
def axBelow (sr sc : Fin 32 → EReal) (l : Fin 128) : EReal :=
  if h : 32 ≤ l.val ∧ l.val < 64 then sr ⟨l.val - 32, by omega⟩ else if h' : 96 ≤ l.val then sc ⟨l.val - 96, by omega⟩ else 0

/-- What a lane is multiplied by where 32 lanes are turned. -/
def shHere (c : Fin 16 → EReal) (l : Fin 128) : EReal :=
  if h : l.val < 16 then c ⟨l.val, h⟩ else if h' : l.val < 32 then c ⟨l.val - 16, by omega⟩ else 1
/-- What the lane 16 above is multiplied by. -/
def shAbove (s : Fin 16 → EReal) (l : Fin 128) : EReal := if h : l.val < 16 then -s ⟨l.val, h⟩ else 0
/-- What the lane 16 below is multiplied by. -/
def shBelow (s : Fin 16 → EReal) (l : Fin 128) : EReal :=
  if h : 16 ≤ l.val ∧ l.val < 32 then s ⟨l.val - 16, by omega⟩ else 0

/-- The lane 16 above, round the end. -/
abbrev above16 (l : Fin 128) : Fin 128 := ⟨(l.val + 128 - 112 % 128) % 128, Nat.mod_lt _ (by omega)⟩
/-- The lane 16 below, round the end. -/
abbrev below16 (l : Fin 128) : Fin 128 := ⟨(l.val + 128 - 16 % 128) % 128, Nat.mod_lt _ (by omega)⟩

/-- The three products of a head turned in halves. -/
theorem axial_products (cr sr cc sc : Fin 32 → EReal) (d : Fin 128 → EReal) (l : Fin 128) :
    d l * axHere cr cc l + d (above l) * axAbove sr sc l + d (below l) * axBelow sr sc l = axial cr sr cc sc d l := by
  have hl := l.isLt
  unfold axial axHere axAbove axBelow
  by_cases h64 : l.val < 64
  · rw [dif_pos h64]
    by_cases h32 : l.val < 32
    · rw [turn_low _ _ _ _ h32, dif_pos h32, dif_pos h32, dif_neg (by omega), dif_neg (by omega), mul_zero, add_zero, mul_neg, sub_eq_add_neg]
      have e : above l = ⟨l.val + 32, by omega⟩ := Fin.ext (show (l.val + 128 - 96 % 128) % 128 = l.val + 32 by omega)
      rw [e]
    · rw [turn_high _ _ _ _ h32, dif_neg h32, dif_pos h64, dif_neg h32, dif_neg (by omega), dif_pos ⟨by omega, h64⟩, mul_zero, add_zero, add_comm]
      have e : below l = ⟨l.val - 32, by omega⟩ := Fin.ext (show (l.val + 128 - 32 % 128) % 128 = l.val - 32 by omega)
      rw [e]
  · rw [dif_neg h64]
    by_cases h96 : l.val < 96
    · rw [turn_low _ _ _ _ (show l.val - 64 < 32 by omega), dif_neg (by omega), dif_neg h64, dif_pos h96, dif_neg (by omega), dif_pos ⟨by omega, h96⟩,
        dif_neg (by omega), dif_neg (by omega), mul_zero, add_zero, mul_neg, sub_eq_add_neg]
      have e : above l = ⟨64 + (l.val - 64 + 32), by omega⟩ := Fin.ext (show (l.val + 128 - 96 % 128) % 128 = 64 + (l.val - 64 + 32) by omega)
      have e' : (⟨64 + (l.val - 64), by omega⟩ : Fin 128) = l := Fin.ext (show 64 + (l.val - 64) = l.val by omega)
      simp only [e, e']
    · rw [turn_high _ _ _ _ (show ¬l.val - 64 < 32 by omega), dif_neg (by omega), dif_neg h64, dif_neg h96, dif_neg (by omega), dif_neg (by omega),
        dif_neg (by omega), dif_pos (by omega), mul_zero, add_zero, add_comm]
      have e : below l = ⟨64 + (l.val - 64 - 32), by omega⟩ := Fin.ext (show (l.val + 128 - 32 % 128) % 128 = 64 + (l.val - 64 - 32) by omega)
      have e' : (⟨64 + (l.val - 64), by omega⟩ : Fin 128) = l := Fin.ext (show 64 + (l.val - 64) = l.val by omega)
      have e2 : (⟨l.val - 64 - 32, by omega⟩ : Fin 32) = ⟨l.val - 96, by omega⟩ := Fin.ext (show l.val - 64 - 32 = l.val - 96 by omega)
      simp only [e, e', e2]

/-- The three products of a head whose first 32 lanes are turned. -/
theorem short_products (c s : Fin 16 → EReal) (d : Fin 128 → EReal) (l : Fin 128) :
    d l * shHere c l + d (above16 l) * shAbove s l + d (below16 l) * shBelow s l = short c s d l := by
  have hl := l.isLt
  unfold short shHere shAbove shBelow
  by_cases h16 : l.val < 16
  · have e : above16 l = ⟨l.val + 16, by omega⟩ := Fin.ext (show (l.val + 128 - 112 % 128) % 128 = l.val + 16 by omega)
    rw [dif_pos h16, dif_pos h16, dif_pos h16, dif_neg (by omega), mul_zero, add_zero, mul_neg, sub_eq_add_neg, e]
  · rw [dif_neg h16, dif_neg h16, dif_neg h16, mul_zero, add_zero]
    by_cases h32 : l.val < 32
    · have e : below16 l = ⟨l.val - 16, by omega⟩ := Fin.ext (show (l.val + 128 - 16 % 128) % 128 = l.val - 16 by omega)
      rw [dif_pos h32, dif_pos ⟨by omega, h32⟩, dif_pos h32, add_comm, e]
    · rw [dif_neg h32, dif_neg (by omega), dif_neg h32, mul_zero, add_zero, mul_one]

end Cert.PrepFwd

end
-- ==== Proof.PrepFwdHost.lean ====
/- The preparation in front of the attentions, forward: the tables and the gains the kernel is given. -/
module

public import proofs.«01_k».proof.Defs
public import proofs.«01_k».proof.Proof.Cols
public import proofs.«01_k».proof.Proof.FwdNorm
public import proofs.«01_k».proof.Proof.PrepFwdMath
public import proofs.«01_k».proof.Proof.Gen.PrepFwdIdeal.Value
public import proofs.«01_k».proof.Proof.Gen.PrepFwdRefIdeal.Run
public import proofs.«01_k».proof.Proof.Gen.PrepFwdRefIdeal.Read

@[expose] public section

set_option maxRecDepth 16384
set_option maxHeartbeats 1000000

noncomputable section

namespace Cert.PrepFwdIdeal.Hand

open Cert.PrepFwdIdeal Cert.PrepFwdIdeal.Gen Idealize.ShloMosaic Idealize.ShloMosaic.TcCoe Cert.RopeMath Cert.FwdNorm Cert.PrepFwd Cert.Cols
open Cert.PrepFwdRefIdeal.Read (val_main_v19 val_main_v20 val_main_v41 val_main_v42 val_main_v60 val_main_v61)
open Idealize.ShloMosaic (ix1 ix2 ix3 ix4)

variable (m : (ℓ : Loc nD τ sig) → Buf (Elt Ideal) ℓ) (c : Dev nD)

theorem hz : (![0, 0] : Fin 2 → ℕ) = fun _ => 0 := by decide

/-- The argument `ps`. -/
abbrev ps : FVec Ideal S2048x4928 .f32 := m ((c : Thread nD τ).loc main_arg0)
/-- The argument `gq`. -/
abbrev gq : FVec Ideal S128 .f32 := m ((c : Thread nD τ).loc main_arg1)
/-- The argument `gk`. -/
abbrev gk : FVec Ideal S128 .f32 := m ((c : Thread nD τ).loc main_arg2)
/-- The argument `gcq`. -/
abbrev gcq : FVec Ideal S512 .f32 := m ((c : Thread nD τ).loc main_arg3)
/-- The argument `gckv`. -/
abbrev gckv : FVec Ideal S512 .f32 := m ((c : Thread nD τ).loc main_arg4)

/-- The angles' cosines and sines, of the row's place, of the column's and of the token's. -/
abbrev cRow (r : Fin 2048) : Fin 32 → EReal := fun i => val_main_v19 (F := Ideal) (ix2 r i)
abbrev sRow (r : Fin 2048) : Fin 32 → EReal := fun i => val_main_v20 (F := Ideal) (ix2 r i)
abbrev cCol (r : Fin 2048) : Fin 32 → EReal := fun i => val_main_v41 (F := Ideal) (ix2 r i)
abbrev sCol (r : Fin 2048) : Fin 32 → EReal := fun i => val_main_v42 (F := Ideal) (ix2 r i)
abbrev cTok (r : Fin 2048) : Fin 16 → EReal := fun i => val_main_v60 (F := Ideal) (ix2 r i)
abbrev sTok (r : Fin 2048) : Fin 16 → EReal := fun i => val_main_v61 (F := Ideal) (ix2 r i)

/-- Some lanes of a row of the projections, from a column on. -/
def lanesAt (n : ℕ) (p : FVec Ideal S2048x4928 .f32) (r : Fin 2048) (o : ℕ) (k : Fin n) : EReal :=
  p (ix2 r ⟨(o + k.val) % 4928, Nat.mod_lt _ (by decide)⟩)

theorem lanesAt_eq (n : ℕ) (p : FVec Ideal S2048x4928 .f32) (r : Fin 2048) (o : ℕ) (k : Fin n) (h : o + k.val < 4928) :
    lanesAt n p r o k = p (ix2 r ⟨o + k.val, h⟩) :=
  congrArg (fun j => p (ix2 r j)) (Fin.ext (Nat.mod_eq_of_lt h))

/-- A head normed and turned in its halves. -/
def valA (p : FVec Ideal S2048x4928 .f32) (g : FVec Ideal S128 .f32) (r : Fin 2048) (o : ℕ) (l : Fin 128) : EReal :=
  axial (cRow r) (sRow r) (cCol r) (sCol r) (fun k => normed 0x43000000#32 (lanesAt 128 p r o) (g (ix1 k)) k) l

/-- A head whose first 32 lanes are turned. -/
def valB (p : FVec Ideal S2048x4928 .f32) (r : Fin 2048) (o : ℕ) (l : Fin 128) : EReal := short (cTok r) (sTok r) (lanesAt 128 p r o) l

/-- A compressed row normed. -/
def valN (p : FVec Ideal S2048x4928 .f32) (g : FVec Ideal S512 .f32) (r : Fin 2048) (o : ℕ) (l : Fin 512) : EReal :=
  normed 0x44000000#32 (lanesAt 512 p r o) (g (ix1 l)) l

/-- The projections are the argument. -/
theorem arg_rows : (V m c main_arg0 : FVec Ideal S2048x4928 .f32) = ps m c := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- The gain `gq` as a row. -/
theorem gain1 : (V m c main_v111 : FVec Ideal S1x128 .f32) = shapeCast S1x128 (gq m c) shapeCasts_S128_S1x128 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- The gain `gk` as a row. -/
theorem gain2 : (V m c main_v112 : FVec Ideal S1x128 .f32) = shapeCast S1x128 (gk m c) shapeCasts_S128_S1x128 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- The gain `gcq` as a row. -/
theorem gain3 : (V m c main_v113 : FVec Ideal S1x512 .f32) = shapeCast S1x512 (gcq m c) shapeCasts_S512_S1x512 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- The gain `gckv` as a row. -/
theorem gain4 : (V m c main_v114 : FVec Ideal S1x512 .f32) = shapeCast S1x512 (gckv m c) shapeCasts_S512_S1x512 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- A gain laid as a row. -/
theorem gain_apply128 (g : FVec Ideal S128 .f32) (l : Fin 128) : shapeCast S1x128 g shapeCasts_S128_S1x128 (ix2 0 l) = g (ix1 l) :=
  shapeCast_apply g _ (ix2 0 l) (ix1 l) (by
    rewrite [Shape.rowMajor_val_one, Shape.rowMajor_val_two]
    show l.val = 0 * 128 + l.val
    omega)

/-- A gain laid as a row. -/
theorem gain_apply512 (g : FVec Ideal S512 .f32) (l : Fin 512) : shapeCast S1x512 g shapeCasts_S512_S1x512 (ix2 0 l) = g (ix1 l) :=
  shapeCast_apply g _ (ix2 0 l) (ix1 l) (by
    rewrite [Shape.rowMajor_val_one, Shape.rowMajor_val_two]
    show l.val = 0 * 512 + l.val
    omega)

/-- One of the six tables. -/
theorem tab5 : (V m c main_v44 : FVec Ideal S2048x128 .f32) = concatenate S2048x128 1 [⟨S2048x32, val_main_v19 (F := Ideal)⟩, ⟨S2048x32, val_main_v19 (F := Ideal)⟩, ⟨S2048x32, val_main_v41 (F := Ideal)⟩, ⟨S2048x32, val_main_v41 (F := Ideal)⟩]
    concatenates_S2048x32_S2048x32_S2048x32_S2048x32_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- One of the six tables. -/
theorem tab6 : (V m c main_v49 : FVec Ideal S2048x128 .f32) = concatenate S2048x128 1 [⟨S2048x32, Host.negf (val_main_v20 (F := Ideal))⟩, ⟨S2048x32, broadcastInDim S2048x32 ![] bcast_S_S2048x32 (constant (F := Ideal) S_ .f32 0x00000000#32)⟩, ⟨S2048x32, Host.negf (val_main_v42 (F := Ideal))⟩, ⟨S2048x32, broadcastInDim S2048x32 ![] bcast_S_S2048x32 (constant (F := Ideal) S_ .f32 0x00000000#32)⟩]
    concatenates_S2048x32_S2048x32_S2048x32_S2048x32_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- One of the six tables. -/
theorem tab7 : (V m c main_v52 : FVec Ideal S2048x128 .f32) = concatenate S2048x128 1 [⟨S2048x32, broadcastInDim S2048x32 ![] bcast_S_S2048x32 (constant (F := Ideal) S_ .f32 0x00000000#32)⟩, ⟨S2048x32, val_main_v20 (F := Ideal)⟩, ⟨S2048x32, broadcastInDim S2048x32 ![] bcast_S_S2048x32 (constant (F := Ideal) S_ .f32 0x00000000#32)⟩, ⟨S2048x32, val_main_v42 (F := Ideal)⟩]
    concatenates_S2048x32_S2048x32_S2048x32_S2048x32_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- One of the six tables. -/
theorem tab8 : (V m c main_v72 : FVec Ideal S2048x128 .f32) = concatenate S2048x128 1 [⟨S2048x16, val_main_v60 (F := Ideal)⟩, ⟨S2048x16, val_main_v60 (F := Ideal)⟩, ⟨S2048x96, broadcastInDim S2048x96 ![] bcast_S_S2048x96 (constant (F := Ideal) S_ .f32 0x3F800000#32)⟩]
    concatenates_S2048x16_S2048x16_S2048x96_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- One of the six tables. -/
theorem tab9 : (V m c main_v75 : FVec Ideal S2048x128 .f32) = concatenate S2048x128 1 [⟨S2048x16, Host.negf (val_main_v61 (F := Ideal))⟩, ⟨S2048x112, broadcastInDim S2048x112 ![] bcast_S_S2048x112 (constant (F := Ideal) S_ .f32 0x00000000#32)⟩]
    concatenates_S2048x16_S2048x112_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

/-- One of the six tables. -/
theorem tab10 : (V m c main_v78 : FVec Ideal S2048x128 .f32) = concatenate S2048x128 1 [⟨S2048x16, broadcastInDim S2048x16 ![] bcast_S_S2048x16 (constant (F := Ideal) S_ .f32 0x00000000#32)⟩, ⟨S2048x16, val_main_v61 (F := Ideal)⟩, ⟨S2048x96, broadcastInDim S2048x96 ![] bcast_S_S2048x96 (constant (F := Ideal) S_ .f32 0x00000000#32)⟩]
    concatenates_S2048x16_S2048x16_S2048x96_S2048x128_d1 := by
  unfold V
  simp only [hostOps0, hostOps0_1, hostOps0_2, hostOps0_3, hostOps0_4, hostOps0_5, hostOps0_6, hostOps0_7, List.flatten_cons, List.flatten_nil,
    List.append_nil, List.cons_append, List.nil_append]
  after_results_simp <;> rfl

theorem tab5_lanes (A B : FVec Ideal S2048x32 .f32) (r : Fin 2048) (l : Fin 128)  (h) :
    concatenate S2048x128 1 [⟨S2048x32, A⟩, ⟨S2048x32, A⟩, ⟨S2048x32, B⟩, ⟨S2048x32, B⟩] h (ix2 r l) = axHere (fun i => A (ix2 r i)) (fun i => B (ix2 r i)) l := by
  have hl := l.isLt
  pointwise []
  unfold axHere
  simp only [Nat.sub_sub, Nat.reduceAdd]
  split_ifs <;> first
    | rfl
    | omega
    | exact absurd rfl ‹¬_ = _›
    | rw [dif_neg (by omega), dif_pos (by omega)]
    | rw [dif_neg (by omega), dif_neg (by omega)]
    | rw [dif_pos (by omega)]
    | rw [dif_neg (by omega)]

theorem tab6_lanes (A B O O' : FVec Ideal S2048x32 .f32) (r : Fin 2048) (l : Fin 128) (hO : ∀ l, O (ix2 r l) = 0) (hO' : ∀ l, O' (ix2 r l) = 0) (h) :
    concatenate S2048x128 1 [⟨S2048x32, Host.negf A⟩, ⟨S2048x32, O⟩, ⟨S2048x32, Host.negf B⟩, ⟨S2048x32, O'⟩] h (ix2 r l) = axAbove (fun i => A (ix2 r i)) (fun i => B (ix2 r i)) l := by
  have hl := l.isLt
  pointwise []
  unfold axAbove
  simp only [hO, hO', Nat.sub_sub, Nat.reduceAdd]
  split_ifs <;> first
    | rfl
    | omega
    | exact absurd rfl ‹¬_ = _›
    | rw [dif_neg (by omega), dif_pos (by omega)]
    | rw [dif_neg (by omega), dif_neg (by omega)]
    | rw [dif_pos (by omega)]
    | rw [dif_neg (by omega)]

theorem tab7_lanes (A B O O' : FVec Ideal S2048x32 .f32) (r : Fin 2048) (l : Fin 128) (hO : ∀ l, O (ix2 r l) = 0) (hO' : ∀ l, O' (ix2 r l) = 0) (h) :
    concatenate S2048x128 1 [⟨S2048x32, O⟩, ⟨S2048x32, A⟩, ⟨S2048x32, O'⟩, ⟨S2048x32, B⟩] h (ix2 r l) = axBelow (fun i => A (ix2 r i)) (fun i => B (ix2 r i)) l := by
  have hl := l.isLt
  pointwise []
  unfold axBelow
  simp only [hO, hO', Nat.sub_sub, Nat.reduceAdd]
  split_ifs <;> first
    | rfl
    | omega
    | exact absurd rfl ‹¬_ = _›
    | rw [dif_neg (by omega), dif_pos (by omega)]
    | rw [dif_neg (by omega), dif_neg (by omega)]
    | rw [dif_pos (by omega)]
    | rw [dif_neg (by omega)]

theorem tab8_lanes (A : FVec Ideal S2048x16 .f32) (O : FVec Ideal S2048x96 .f32) (r : Fin 2048) (l : Fin 128) (hO : ∀ l, O (ix2 r l) = 1) (h) :
    concatenate S2048x128 1 [⟨S2048x16, A⟩, ⟨S2048x16, A⟩, ⟨S2048x96, O⟩] h (ix2 r l) = shHere (fun i => A (ix2 r i)) l := by
  have hl := l.isLt
  pointwise []
  unfold shHere
  simp only [hO, Nat.sub_sub, Nat.reduceAdd]
  split_ifs <;> first
    | rfl
    | omega
    | exact absurd rfl ‹¬_ = _›
    | rw [dif_neg (by omega), dif_pos (by omega)]
    | rw [dif_neg (by omega), dif_neg (by omega)]
    | rw [dif_pos (by omega)]
    | rw [dif_neg (by omega)]

theorem tab9_lanes (A : FVec Ideal S2048x16 .f32) (O : FVec Ideal S2048x112 .f32) (r : Fin 2048) (l : Fin 128) (hO : ∀ l, O (ix2 r l) = 0) (h) :
    concatenate S2048x128 1 [⟨S2048x16, Host.negf A⟩, ⟨S2048x112, O⟩] h (ix2 r l) = shAbove (fun i => A (ix2 r i)) l := by
  have hl := l.isLt
  pointwise []
  unfold shAbove
  simp only [hO]

theorem tab10_lanes (A : FVec Ideal S2048x16 .f32) (O : FVec Ideal S2048x16 .f32) (O' : FVec Ideal S2048x96 .f32) (r : Fin 2048) (l : Fin 128) (hO : ∀ l, O (ix2 r l) = 0) (hO' : ∀ l, O' (ix2 r l) = 0) (h) :
    concatenate S2048x128 1 [⟨S2048x16, O⟩, ⟨S2048x16, A⟩, ⟨S2048x96, O'⟩] h (ix2 r l) = shBelow (fun i => A (ix2 r i)) l := by
  have hl := l.isLt
  pointwise []
  unfold shBelow
  simp only [hO, hO', Nat.sub_sub, Nat.reduceAdd]
  split_ifs <;> first
    | rfl
    | omega
    | exact absurd rfl ‹¬_ = _›
    | rw [dif_neg (by omega), dif_pos (by omega)]
    | rw [dif_neg (by omega), dif_neg (by omega)]
    | rw [dif_pos (by omega)]
    | rw [dif_neg (by omega)]

end Cert.PrepFwdIdeal.Hand

end
-- ==== Proof.PrepFwdBlocks.lean ====
/- The preparation in front of the attentions, forward: what a grid point reads, and what it makes of it. -/
module

public import proofs.«01_k».proof.Defs
public import proofs.«01_k».proof.Proof.PrepFwdHost
public import proofs.«01_k».proof.Proof.Gen.PrepFwdIdeal.Value
public import proofs.«01_k».proof.Proof.Gen.PrepFwdRefIdeal.Run
public import proofs.«01_k».proof.Proof.Gen.PrepFwdRefIdeal.Read

@[expose] public section

set_option maxRecDepth 16384
set_option maxHeartbeats 1000000

noncomputable section

namespace Cert.PrepFwdIdeal.Hand

open Cert.PrepFwdIdeal Cert.PrepFwdIdeal.Gen Idealize.ShloMosaic Idealize.ShloMosaic.TcCoe Cert.RopeMath Cert.FwdNorm Cert.PrepFwd Cert.Cols
open Idealize.ShloMosaic (ix1 ix2 ix3 ix4)

variable (m : (ℓ : Loc nD τ sig) → Buf (Elt Ideal) ℓ) (c : Dev nD)

theorem idx_facts : ∀ t : Fin cfg0.N, win0_0.index t 0 = t.val ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0 :=
  (by decide +kernel : ∀ t : Fin grid0.N, _)

/-- The row of the whole array that row `r` of block `t` is. -/
abbrev row (t : Fin cfg0.N) (r : Fin 256) : Fin 2048 := ⟨256 * t.val + r.val, by have := t.isLt; have : cfg0.N = 8 := N_0; omega⟩

theorem iblk0 (t : Fin cfg0.N) (r : Fin 256) (l : Fin 4928) :
    (iblk m c 0 t : FVec Ideal S256x4928 .f32) (ix2 r l) = (V m c main_arg0 : FVec Ideal S2048x4928 .f32) (ix2 (row t r) l) := by
  unfold iblk
  rw [View.read_apply]
  show V m c main_arg0 _ = V m c main_arg0 (ix2 (row t r) l)
  generalize V m c main_arg0 = W
  have hi := idx_facts t
  refine congrArg (W : FVec Ideal S2048x4928 .f32) (Shape.idx_ext₂ ?_ ?_)
  · show win0_0.index t 0 * 256 + 1 * r.val = 256 * t.val + r.val; omega
  · show win0_0.index t 1 * 4928 + 1 * l.val = l.val; omega

theorem iblk1 (t : Fin cfg0.N) (r : Fin 1) (l : Fin 128) :
    (iblk m c 1 t : FVec Ideal S1x128 .f32) (ix2 r l) = (V m c main_v111 : FVec Ideal S1x128 .f32) (ix2 r l) := by
  unfold iblk
  rw [View.read_apply]
  show V m c main_v111 _ = V m c main_v111 (ix2 r l)
  generalize V m c main_v111 = W
  have hi := idx_facts t
  refine congrArg (W : FVec Ideal S1x128 .f32) (Shape.idx_ext₂ ?_ ?_)
  · show win0_1.index t 0 * 1 + 1 * r.val = r.val; omega
  · show win0_1.index t 1 * 128 + 1 * l.val = l.val; omega

theorem iblk2 (t : Fin cfg0.N) (r : Fin 1) (l : Fin 128) :
    (iblk m c 2 t : FVec Ideal S1x128 .f32) (ix2 r l) = (V m c main_v112 : FVec Ideal S1x128 .f32) (ix2 r l) := by
  unfold iblk
  rw [View.read_apply]
  show V m c main_v112 _ = V m c main_v112 (ix2 r l)
  generalize V m c main_v112 = W
  have hi := idx_facts t
  refine congrArg (W : FVec Ideal S1x128 .f32) (Shape.idx_ext₂ ?_ ?_)
  · show win0_2.index t 0 * 1 + 1 * r.val = r.val; omega
  · show win0_2.index t 1 * 128 + 1 * l.val = l.val; omega

theorem iblk3 (t : Fin cfg0.N) (r : Fin 1) (l : Fin 512) :
    (iblk m c 3 t : FVec Ideal S1x512 .f32) (ix2 r l) = (V m c main_v113 : FVec Ideal S1x512 .f32) (ix2 r l) := by
  unfold iblk
  rw [View.read_apply]
  show V m c main_v113 _ = V m c main_v113 (ix2 r l)
  generalize V m c main_v113 = W
  have hi := idx_facts t
  refine congrArg (W : FVec Ideal S1x512 .f32) (Shape.idx_ext₂ ?_ ?_)
  · show win0_3.index t 0 * 1 + 1 * r.val = r.val; omega
  · show win0_3.index t 1 * 512 + 1 * l.val = l.val; omega

theorem iblk4 (t : Fin cfg0.N) (r : Fin 1) (l : Fin 512) :
    (iblk m c 4 t : FVec Ideal S1x512 .f32) (ix2 r l) = (V m c main_v114 : FVec Ideal S1x512 .f32) (ix2 r l) := by
  unfold iblk
  rw [View.read_apply]
  show V m c main_v114 _ = V m c main_v114 (ix2 r l)
  generalize V m c main_v114 = W
  have hi := idx_facts t
  refine congrArg (W : FVec Ideal S1x512 .f32) (Shape.idx_ext₂ ?_ ?_)
  · show win0_4.index t 0 * 1 + 1 * r.val = r.val; omega
  · show win0_4.index t 1 * 512 + 1 * l.val = l.val; omega

theorem iblk5 (t : Fin cfg0.N) (r : Fin 256) (l : Fin 128) :
    (iblk m c 5 t : FVec Ideal S256x128 .f32) (ix2 r l) = (V m c main_v44 : FVec Ideal S2048x128 .f32) (ix2 (row t r) l) := by
  unfold iblk
  rw [View.read_apply]
  show V m c main_v44 _ = V m c main_v44 (ix2 (row t r) l)
  generalize V m c main_v44 = W
  have hi := idx_facts t
  refine congrArg (W : FVec Ideal S2048x128 .f32) (Shape.idx_ext₂ ?_ ?_)
  · show win0_5.index t 0 * 256 + 1 * r.val = 256 * t.val + r.val; omega
  · show win0_5.index t 1 * 128 + 1 * l.val = l.val; omega

theorem iblk6 (t : Fin cfg0.N) (r : Fin 256) (l : Fin 128) :
    (iblk m c 6 t : FVec Ideal S256x128 .f32) (ix2 r l) = (V m c main_v49 : FVec Ideal S2048x128 .f32) (ix2 (row t r) l) := by
  unfold iblk
  rw [View.read_apply]
  show V m c main_v49 _ = V m c main_v49 (ix2 (row t r) l)
  generalize V m c main_v49 = W
  have hi := idx_facts t
  refine congrArg (W : FVec Ideal S2048x128 .f32) (Shape.idx_ext₂ ?_ ?_)
  · show win0_6.index t 0 * 256 + 1 * r.val = 256 * t.val + r.val; omega
  · show win0_6.index t 1 * 128 + 1 * l.val = l.val; omega

theorem iblk7 (t : Fin cfg0.N) (r : Fin 256) (l : Fin 128) :
    (iblk m c 7 t : FVec Ideal S256x128 .f32) (ix2 r l) = (V m c main_v52 : FVec Ideal S2048x128 .f32) (ix2 (row t r) l) := by
  unfold iblk
  rw [View.read_apply]
  show V m c main_v52 _ = V m c main_v52 (ix2 (row t r) l)
  generalize V m c main_v52 = W
  have hi := idx_facts t
  refine congrArg (W : FVec Ideal S2048x128 .f32) (Shape.idx_ext₂ ?_ ?_)
  · show win0_7.index t 0 * 256 + 1 * r.val = 256 * t.val + r.val; omega
  · show win0_7.index t 1 * 128 + 1 * l.val = l.val; omega

theorem iblk8 (t : Fin cfg0.N) (r : Fin 256) (l : Fin 128) :
    (iblk m c 8 t : FVec Ideal S256x128 .f32) (ix2 r l) = (V m c main_v72 : FVec Ideal S2048x128 .f32) (ix2 (row t r) l) := by
  unfold iblk
  rw [View.read_apply]
  show V m c main_v72 _ = V m c main_v72 (ix2 (row t r) l)
  generalize V m c main_v72 = W
  have hi := idx_facts t
  refine congrArg (W : FVec Ideal S2048x128 .f32) (Shape.idx_ext₂ ?_ ?_)
  · show win0_8.index t 0 * 256 + 1 * r.val = 256 * t.val + r.val; omega
  · show win0_8.index t 1 * 128 + 1 * l.val = l.val; omega

theorem iblk9 (t : Fin cfg0.N) (r : Fin 256) (l : Fin 128) :
    (iblk m c 9 t : FVec Ideal S256x128 .f32) (ix2 r l) = (V m c main_v75 : FVec Ideal S2048x128 .f32) (ix2 (row t r) l) := by
  unfold iblk
  rw [View.read_apply]
  show V m c main_v75 _ = V m c main_v75 (ix2 (row t r) l)
  generalize V m c main_v75 = W
  have hi := idx_facts t
  refine congrArg (W : FVec Ideal S2048x128 .f32) (Shape.idx_ext₂ ?_ ?_)
  · show win0_9.index t 0 * 256 + 1 * r.val = 256 * t.val + r.val; omega
  · show win0_9.index t 1 * 128 + 1 * l.val = l.val; omega

theorem iblk10 (t : Fin cfg0.N) (r : Fin 256) (l : Fin 128) :
    (iblk m c 10 t : FVec Ideal S256x128 .f32) (ix2 r l) = (V m c main_v78 : FVec Ideal S2048x128 .f32) (ix2 (row t r) l) := by
  unfold iblk
  rw [View.read_apply]
  show V m c main_v78 _ = V m c main_v78 (ix2 (row t r) l)
  generalize V m c main_v78 = W
  have hi := idx_facts t
  refine congrArg (W : FVec Ideal S2048x128 .f32) (Shape.idx_ext₂ ?_ ?_)
  · show win0_10.index t 0 * 256 + 1 * r.val = 256 * t.val + r.val; omega
  · show win0_10.index t 1 * 128 + 1 * l.val = l.val; omega

/-- What a point reads of its rows, a group of columns. -/
theorem read_at (n : ℕ) (t : Fin cfg0.N) (o : ℕ) (hn : o + n ≤ 4928) (hb) (r : Fin 256) (l : Fin n) :
    (View.ld (iblk m c 0 t) (Rect.unit (s := S256x4928) ![0, o] ![256, n] hb) : Vec Ideal ⟨2, ![256, n]⟩ .f32) (ix2 r l) = lanesAt n (ps m c) (row t r) o l := by
  have hl : o + l.val < 4928 := by have := l.isLt; omega
  have e : (Rect.unit (s := S256x4928) ![0, o] ![256, n] hb).emb (ix2 r l) = ix2 r ⟨o + l.val, hl⟩ :=
    Shape.idx_ext₂ (show 0 + 1 * r.val = r.val by omega) (show o + 1 * l.val = o + l.val by omega)
  refine (congrArg (iblk m c 0 t : FVec Ideal S256x4928 .f32) e).trans ((iblk0 m c t r _).trans ?_)
  rw [arg_rows, lanesAt_eq _ _ _ _ _ hl]

/-- A normed and turned head, from the tables, the lanes and the gains read. -/
theorem payA {cr sr cc sc : Fin 32 → EReal} {x g : Fin 128 → EReal} (v0 v2 v4 v : Vec Ideal S256x128 .f32) (w : Vec Ideal S1x128 .f32) (r : Fin 256)
    (h0 : ∀ l, v0 (ix2 r l) = axHere cr cc l) (h2 : ∀ l, v2 (ix2 r l) = axAbove sr sc l) (h4 : ∀ l, v4 (ix2 r l) = axBelow sr sc l)
    (hv : ∀ l, v (ix2 r l) = x l) (hw : ∀ l, w (ix2 0 l) = g l) (l : Fin 128) :
    k0_pay9 (F := Ideal) (k0_pay2 v0) (k0_pay3 v2) (k0_pay4 v4) v w (ix2 r l) = axial cr sr cc sc (fun k => normed 0x43000000#32 x (g k) k) l := by
  pointwise [k0_pay9, k0_pay2, k0_pay3, k0_pay4]
  simp only [h0, h2, h4, hv, hw]
  exact axial_products cr sr cc sc (fun k => normed 0x43000000#32 x (g k) k) l

/-- A head turned in its first 32 lanes. -/
theorem payB {c s : Fin 16 → EReal} {x : Fin 128 → EReal} (v0 v2 v4 v : Vec Ideal S256x128 .f32) (r : Fin 256)
    (h0 : ∀ l, v0 (ix2 r l) = shHere c l) (h2 : ∀ l, v2 (ix2 r l) = shAbove s l) (h4 : ∀ l, v4 (ix2 r l) = shBelow s l)
    (hv : ∀ l, v (ix2 r l) = x l) (l : Fin 128) :
    k0_pay37 (F := Ideal) (k0_pay5 v0) (k0_pay6 v2) (k0_pay7 v4) v (ix2 r l) = short c s x l := by
  pointwise [k0_pay37, k0_pay5, k0_pay6, k0_pay7]
  simp only [h0, h2, h4, hv]
  exact short_products c s x l

/-- A normed compressed row. -/
theorem payN {x : Fin 512 → EReal} {g : EReal} (v : Vec Ideal S256x512 .f32) (w : Vec Ideal S1x512 .f32) (r : Fin 256) (l : Fin 512)
    (hv : ∀ l, v (ix2 r l) = x l) (hw : w (ix2 0 l) = g) : k0_pay43 (F := Ideal) v w (ix2 r l) = normed 0x44000000#32 x g l := by
  pointwise [k0_pay43]
  simp only [hv, hw]
  rfl

theorem ones_at (r : Fin 2048) (l : Fin 96) : broadcastInDim S2048x96 ![] bcast_S_S2048x96 (constant (F := Ideal) S_ .f32 0x3F800000#32) (ix2 r l) = 1 := by
  pointwise []

theorem at5 (t : Fin cfg0.N) (r : Fin 256) (l : Fin 128) : (View.ld (iblk m c 5 t) r0_0 : Vec Ideal S256x128 .f32) (ix2 r l) = axHere (cRow (row t r)) (cCol (row t r)) l := by
  refine (congrFun (View.ld_unit_zero (S := S256x128) hz _ (iblk m c 5 t)) _).trans ((iblk5 m c t r l).trans ?_)
  rw [tab5]
  exact tab5_lanes _ _ _ l  _

theorem at6 (t : Fin cfg0.N) (r : Fin 256) (l : Fin 128) : (View.ld (iblk m c 6 t) r0_0 : Vec Ideal S256x128 .f32) (ix2 r l) = axAbove (sRow (row t r)) (sCol (row t r)) l := by
  refine (congrFun (View.ld_unit_zero (S := S256x128) hz _ (iblk m c 6 t)) _).trans ((iblk6 m c t r l).trans ?_)
  rw [tab6]
  exact tab6_lanes _ _ _ _ _ l (fun l => by pointwise []) (fun l => by pointwise []) _

theorem at7 (t : Fin cfg0.N) (r : Fin 256) (l : Fin 128) : (View.ld (iblk m c 7 t) r0_0 : Vec Ideal S256x128 .f32) (ix2 r l) = axBelow (sRow (row t r)) (sCol (row t r)) l := by
  refine (congrFun (View.ld_unit_zero (S := S256x128) hz _ (iblk m c 7 t)) _).trans ((iblk7 m c t r l).trans ?_)
  rw [tab7]
  exact tab7_lanes _ _ _ _ _ l (fun l => by pointwise []) (fun l => by pointwise []) _

theorem at8 (t : Fin cfg0.N) (r : Fin 256) (l : Fin 128) : (View.ld (iblk m c 8 t) r0_0 : Vec Ideal S256x128 .f32) (ix2 r l) = shHere (cTok (row t r)) l := by
  refine (congrFun (View.ld_unit_zero (S := S256x128) hz _ (iblk m c 8 t)) _).trans ((iblk8 m c t r l).trans ?_)
  rw [tab8]
  exact tab8_lanes _ _ _ l (fun l => ones_at _ l) _

theorem at9 (t : Fin cfg0.N) (r : Fin 256) (l : Fin 128) : (View.ld (iblk m c 9 t) r0_0 : Vec Ideal S256x128 .f32) (ix2 r l) = shAbove (sTok (row t r)) l := by
  refine (congrFun (View.ld_unit_zero (S := S256x128) hz _ (iblk m c 9 t)) _).trans ((iblk9 m c t r l).trans ?_)
  rw [tab9]
  exact tab9_lanes _ _ _ l (fun l => by pointwise []) _

theorem at10 (t : Fin cfg0.N) (r : Fin 256) (l : Fin 128) : (View.ld (iblk m c 10 t) r0_0 : Vec Ideal S256x128 .f32) (ix2 r l) = shBelow (sTok (row t r)) l := by
  refine (congrFun (View.ld_unit_zero (S := S256x128) hz _ (iblk m c 10 t)) _).trans ((iblk10 m c t r l).trans ?_)
  rw [tab10]
  exact tab10_lanes _ _ _ _ l (fun l => by pointwise []) (fun l => by pointwise []) _

theorem at1 (t : Fin cfg0.N) (l : Fin 128) : (View.ld (iblk m c 1 t) r0_2 : Vec Ideal S1x128 .f32) (ix2 0 l) = gq m c (ix1 l) := by
  refine (congrFun (View.ld_unit_zero (S := S1x128) hz _ (iblk m c 1 t)) _).trans ((iblk1 m c t 0 l).trans ?_)
  rw [gain1]
  exact gain_apply128 _ l

theorem at2 (t : Fin cfg0.N) (l : Fin 128) : (View.ld (iblk m c 2 t) r0_2 : Vec Ideal S1x128 .f32) (ix2 0 l) = gk m c (ix1 l) := by
  refine (congrFun (View.ld_unit_zero (S := S1x128) hz _ (iblk m c 2 t)) _).trans ((iblk2 m c t 0 l).trans ?_)
  rw [gain2]
  exact gain_apply128 _ l

theorem at3 (t : Fin cfg0.N) (l : Fin 512) : (View.ld (iblk m c 3 t) r0_53 : Vec Ideal S1x512 .f32) (ix2 0 l) = gcq m c (ix1 l) := by
  refine (congrFun (View.ld_unit_zero (S := S1x512) hz _ (iblk m c 3 t)) _).trans ((iblk3 m c t 0 l).trans ?_)
  rw [gain3]
  exact gain_apply512 _ l

theorem at4 (t : Fin cfg0.N) (l : Fin 512) : (View.ld (iblk m c 4 t) r0_53 : Vec Ideal S1x512 .f32) (ix2 0 l) = gckv m c (ix1 l) := by
  refine (congrFun (View.ld_unit_zero (S := S1x512) hz _ (iblk m c 4 t)) _).trans ((iblk4 m c t 0 l).trans ?_)
  rw [gain4]
  exact gain_apply512 _ l

end Cert.PrepFwdIdeal.Hand

end
-- ==== Proof.PrepFwdOuts.lean ====
/- The preparation in front of the attentions, forward: what the kernel leaves in its seven arrays. -/
module

public import proofs.«01_k».proof.Defs
public import proofs.«01_k».proof.Proof.PrepFwdBlocks
public import proofs.«01_k».proof.Proof.Gen.PrepFwdIdeal.Value
public import proofs.«01_k».proof.Proof.Gen.PrepFwdRefIdeal.Run
public import proofs.«01_k».proof.Proof.Gen.PrepFwdRefIdeal.Read

@[expose] public section

set_option maxRecDepth 16384
set_option maxHeartbeats 1000000

noncomputable section

namespace Cert.PrepFwdIdeal.Hand

open Cert.PrepFwdIdeal Cert.PrepFwdIdeal.Gen Idealize.ShloMosaic Idealize.ShloMosaic.TcCoe Cert.RopeMath Cert.FwdNorm Cert.PrepFwd Cert.Cols
open Idealize.ShloMosaic (ix1 ix2 ix3 ix4)

variable (m : (ℓ : Loc nD τ sig) → Buf (Elt Ideal) ℓ) (c : Dev nD)

/-- Where a head's columns of a block land. -/
theorem piece_col {N : ℕ} (o : ℕ) (d : ℕ) (ho : o = 128 * d) (hb) (x : S256x128.Idx) (f : Fin 256 → ℕ → Fin 128 → EReal) :
    f (x 0) o (x 1) = (fun y : (⟨2, ![256, N]⟩ : Shape).Idx => f (y 0) (128 * ((y 1).val / 128)) ⟨(y 1).val % 128, Nat.mod_lt _ (by decide)⟩)
      ((Rect.unit (s := ⟨2, ![256, N]⟩) ![0, o] ![256, 128] hb).emb x) := by
  have hx : (x 1).val < 128 := (x 1).isLt
  have e0 : ((Rect.unit (s := ⟨2, ![256, N]⟩) ![0, o] ![256, 128] hb).emb x) 0 = x 0 := Fin.ext (show 0 + 1 * (x 0).val = (x 0).val by omega)
  have e1 : (((Rect.unit (s := ⟨2, ![256, N]⟩) ![0, o] ![256, 128] hb).emb x) 1).val = o + (x 1).val := show o + 1 * (x 1).val = o + (x 1).val by omega
  show _ = f (((Rect.unit (s := ⟨2, ![256, N]⟩) ![0, o] ![256, 128] hb).emb x) 0) _ _
  rw [e0]
  have e2 : 128 * ((((Rect.unit (s := ⟨2, ![256, N]⟩) ![0, o] ![256, 128] hb).emb x) 1).val / 128) = o := by rw [e1]; omega
  have e3 : (⟨(((Rect.unit (s := ⟨2, ![256, N]⟩) ![0, o] ![256, 128] hb).emb x) 1).val % 128, Nat.mod_lt _ (by decide)⟩ : Fin 128) = x 1 :=
    Fin.ext (show (((Rect.unit (s := ⟨2, ![256, N]⟩) ![0, o] ![256, 128] hb).emb x) 1).val % 128 = (x 1).val by rw [e1]; omega)
  rw [e2, e3]

/-- A store of a query or key head of the first attention. -/
theorem pieceA (t : Fin cfg0.N) (g : FVec Ideal S128 .f32) (w : Vec Ideal S1x128 .f32) (hw : ∀ l, w (ix2 0 l) = g (ix1 l)) (o : ℕ) (hn : o + 128 ≤ 4928) (hb) (x : S256x128.Idx) :
    k0_pay9 (F := Ideal) (k0_pay2 (View.ld (iblk m c 5 t) r0_0)) (k0_pay3 (View.ld (iblk m c 6 t) r0_0)) (k0_pay4 (View.ld (iblk m c 7 t) r0_0))
      (View.ld (iblk m c 0 t) (Rect.unit (s := S256x4928) ![0, o] S256x128.size hb)) w x = valA (ps m c) g (row t (x 0)) o (x 1) :=
  (congrArg _ (eq_ix2 x)).trans (payA _ _ _ _ w (x 0) (fun l => at5 m c t _ l) (fun l => at6 m c t _ l) (fun l => at7 m c t _ l)
    (fun l => read_at m c 128 t o hn hb _ l) hw (x 1))

/-- A store of a head of the second attention. -/
theorem pieceB (t : Fin cfg0.N) (o : ℕ) (hn : o + 128 ≤ 4928) (hb) (x : S256x128.Idx) :
    k0_pay37 (F := Ideal) (k0_pay5 (View.ld (iblk m c 8 t) r0_0)) (k0_pay6 (View.ld (iblk m c 9 t) r0_0)) (k0_pay7 (View.ld (iblk m c 10 t) r0_0))
      (View.ld (iblk m c 0 t) (Rect.unit (s := S256x4928) ![0, o] S256x128.size hb)) x = valB (ps m c) (row t (x 0)) o (x 1) :=
  (congrArg _ (eq_ix2 x)).trans (payB _ _ _ _ (x 0) (fun l => at8 m c t _ l) (fun l => at9 m c t _ l) (fun l => at10 m c t _ l)
    (fun l => read_at m c 128 t o hn hb _ l) (x 1))

theorem out11 (t : Fin cfg0.N) (y : S256x768.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = valA (ps m c) (gq m c) (row t (y 0)) (0 + 128 * ((y 1).val / 128)) ⟨(y 1).val % 128, Nat.mod_lt _ (by decide)⟩ := by
  unfold out0_11
  refine View.canon_apply_of_pieces (Val := Elt Ideal) (e := .bf16) (fun y : S256x768.Idx => valA (ps m c) (gq m c) (row t (y 0)) (0 + 128 * ((y 1).val / 128))
    ⟨(y 1).val % 128, Nat.mod_lt _ (by decide)⟩) _ (fun p hp x => ?_) y (cover0_11 _ _ _ _ _ _ y)
  simp only [List.mem_cons, List.not_mem_nil, or_false] at hp
  rcases hp with rfl | rfl | rfl | rfl | rfl | rfl
  · exact (pieceA m c t (gq m c) _ (at1 m c t) 640 (by decide) _ x).trans (piece_col (N := 768) 640 5 rfl (by decide) x fun r o l => valA (ps m c) (gq m c) (row t r) (0 + o) l)
  · exact (pieceA m c t (gq m c) _ (at1 m c t) 512 (by decide) _ x).trans (piece_col (N := 768) 512 4 rfl (by decide) x fun r o l => valA (ps m c) (gq m c) (row t r) (0 + o) l)
  · exact (pieceA m c t (gq m c) _ (at1 m c t) 384 (by decide) _ x).trans (piece_col (N := 768) 384 3 rfl (by decide) x fun r o l => valA (ps m c) (gq m c) (row t r) (0 + o) l)
  · exact (pieceA m c t (gq m c) _ (at1 m c t) 256 (by decide) _ x).trans (piece_col (N := 768) 256 2 rfl (by decide) x fun r o l => valA (ps m c) (gq m c) (row t r) (0 + o) l)
  · exact (pieceA m c t (gq m c) _ (at1 m c t) 128 (by decide) _ x).trans (piece_col (N := 768) 128 1 rfl (by decide) x fun r o l => valA (ps m c) (gq m c) (row t r) (0 + o) l)
  · exact (pieceA m c t (gq m c) _ (at1 m c t) 0 (by decide) _ x).trans (piece_col (N := 768) 0 0 rfl (by decide) x fun r o l => valA (ps m c) (gq m c) (row t r) (0 + o) l)

theorem out12 (t : Fin cfg0.N) (y : S256x256.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = valA (ps m c) (gk m c) (row t (y 0)) (768 + 128 * ((y 1).val / 128)) ⟨(y 1).val % 128, Nat.mod_lt _ (by decide)⟩ := by
  unfold out0_12
  refine View.canon_apply_of_pieces (Val := Elt Ideal) (e := .bf16) (fun y : S256x256.Idx => valA (ps m c) (gk m c) (row t (y 0)) (768 + 128 * ((y 1).val / 128))
    ⟨(y 1).val % 128, Nat.mod_lt _ (by decide)⟩) _ (fun p hp x => ?_) y (cover0_12 _ _ y)
  simp only [List.mem_cons, List.not_mem_nil, or_false] at hp
  rcases hp with rfl | rfl
  · exact (pieceA m c t (gk m c) _ (at2 m c t) 896 (by decide) _ x).trans (piece_col (N := 256) 128 1 rfl (by decide) x fun r o l => valA (ps m c) (gk m c) (row t r) (768 + o) l)
  · exact (pieceA m c t (gk m c) _ (at2 m c t) 768 (by decide) _ x).trans (piece_col (N := 256) 0 0 rfl (by decide) x fun r o l => valA (ps m c) (gk m c) (row t r) (768 + o) l)

theorem out14 (t : Fin cfg0.N) (y : S256x1536.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = valB (ps m c) (row t (y 0)) (1280 + 128 * ((y 1).val / 128)) ⟨(y 1).val % 128, Nat.mod_lt _ (by decide)⟩ := by
  unfold out0_14
  refine View.canon_apply_of_pieces (Val := Elt Ideal) (e := .f32) (fun y : S256x1536.Idx => valB (ps m c) (row t (y 0)) (1280 + 128 * ((y 1).val / 128))
    ⟨(y 1).val % 128, Nat.mod_lt _ (by decide)⟩) _ (fun p hp x => ?_) y (cover0_14 _ _ _ _ _ _ _ _ _ _ _ _ y)
  simp only [List.mem_cons, List.not_mem_nil, or_false] at hp
  rcases hp with rfl | rfl | rfl | rfl | rfl | rfl | rfl | rfl | rfl | rfl | rfl | rfl
  · exact (pieceB m c t  2688 (by decide) _ x).trans (piece_col (N := 1536) 1408 11 rfl (by decide) x fun r o l => valB (ps m c) (row t r) (1280 + o) l)
  · exact (pieceB m c t  2560 (by decide) _ x).trans (piece_col (N := 1536) 1280 10 rfl (by decide) x fun r o l => valB (ps m c) (row t r) (1280 + o) l)
  · exact (pieceB m c t  2432 (by decide) _ x).trans (piece_col (N := 1536) 1152 9 rfl (by decide) x fun r o l => valB (ps m c) (row t r) (1280 + o) l)
  · exact (pieceB m c t  2304 (by decide) _ x).trans (piece_col (N := 1536) 1024 8 rfl (by decide) x fun r o l => valB (ps m c) (row t r) (1280 + o) l)
  · exact (pieceB m c t  2176 (by decide) _ x).trans (piece_col (N := 1536) 896 7 rfl (by decide) x fun r o l => valB (ps m c) (row t r) (1280 + o) l)
  · exact (pieceB m c t  2048 (by decide) _ x).trans (piece_col (N := 1536) 768 6 rfl (by decide) x fun r o l => valB (ps m c) (row t r) (1280 + o) l)
  · exact (pieceB m c t  1920 (by decide) _ x).trans (piece_col (N := 1536) 640 5 rfl (by decide) x fun r o l => valB (ps m c) (row t r) (1280 + o) l)
  · exact (pieceB m c t  1792 (by decide) _ x).trans (piece_col (N := 1536) 512 4 rfl (by decide) x fun r o l => valB (ps m c) (row t r) (1280 + o) l)
  · exact (pieceB m c t  1664 (by decide) _ x).trans (piece_col (N := 1536) 384 3 rfl (by decide) x fun r o l => valB (ps m c) (row t r) (1280 + o) l)
  · exact (pieceB m c t  1536 (by decide) _ x).trans (piece_col (N := 1536) 256 2 rfl (by decide) x fun r o l => valB (ps m c) (row t r) (1280 + o) l)
  · exact (pieceB m c t  1408 (by decide) _ x).trans (piece_col (N := 1536) 128 1 rfl (by decide) x fun r o l => valB (ps m c) (row t r) (1280 + o) l)
  · exact (pieceB m c t  1280 (by decide) _ x).trans (piece_col (N := 1536) 0 0 rfl (by decide) x fun r o l => valB (ps m c) (row t r) (1280 + o) l)

theorem out15 (t : Fin cfg0.N) (y : S256x512.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = valB (ps m c) (row t (y 0)) (2816 + 128 * ((y 1).val / 128)) ⟨(y 1).val % 128, Nat.mod_lt _ (by decide)⟩ := by
  unfold out0_15
  refine View.canon_apply_of_pieces (Val := Elt Ideal) (e := .f32) (fun y : S256x512.Idx => valB (ps m c) (row t (y 0)) (2816 + 128 * ((y 1).val / 128))
    ⟨(y 1).val % 128, Nat.mod_lt _ (by decide)⟩) _ (fun p hp x => ?_) y (cover0_15 _ _ _ _ y)
  simp only [List.mem_cons, List.not_mem_nil, or_false] at hp
  rcases hp with rfl | rfl | rfl | rfl
  · exact (pieceB m c t  3200 (by decide) _ x).trans (piece_col (N := 512) 384 3 rfl (by decide) x fun r o l => valB (ps m c) (row t r) (2816 + o) l)
  · exact (pieceB m c t  3072 (by decide) _ x).trans (piece_col (N := 512) 256 2 rfl (by decide) x fun r o l => valB (ps m c) (row t r) (2816 + o) l)
  · exact (pieceB m c t  2944 (by decide) _ x).trans (piece_col (N := 512) 128 1 rfl (by decide) x fun r o l => valB (ps m c) (row t r) (2816 + o) l)
  · exact (pieceB m c t  2816 (by decide) _ x).trans (piece_col (N := 512) 0 0 rfl (by decide) x fun r o l => valB (ps m c) (row t r) (2816 + o) l)

theorem out13 (t : Fin cfg0.N) (y : S256x256.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = lanesAt 256 (ps m c) (row t (y 0)) 1024 (y 1) := by
  unfold out0_13
  refine (congrFun (View.canon_unit_zero hz _ _) y).trans ((congrArg _ (eq_ix2 y)).trans ?_)
  exact read_at m c 256 t 1024 (by decide) _ _ _

theorem out16 (t : Fin cfg0.N) (y : S256x512.Idx) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y = valN (ps m c) (gcq m c) (row t (y 0)) 3840 (y 1) := by
  unfold out0_16
  refine (congrFun (View.canon_unit_zero hz _ _) y).trans ((congrArg _ (eq_ix2 y)).trans ?_)
  exact payN _ _ _ _ (fun l => read_at m c 512 t 3840 (by decide) _ _ l) (at3 m c t _)

theorem out17 (t : Fin cfg0.N) (y : S256x512.Idx) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y = valN (ps m c) (gckv m c) (row t (y 0)) 4352 (y 1) := by
  unfold out0_17
  refine (congrFun (View.canon_unit_zero hz _ _) y).trans ((congrArg _ (eq_ix2 y)).trans ?_)
  exact payN _ _ _ _ (fun l => read_at m c 512 t 4352 (by decide) _ _ l) (at4 m c t _)

end Cert.PrepFwdIdeal.Hand

end
-- ==== Proof.PrepFwdValue.lean ====
/- The preparation in front of the attentions, forward: what the kernel leaves in its seven arrays. -/
module

public import proofs.«01_k».proof.Defs
public import proofs.«01_k».proof.Proof.PrepFwdOuts
public import proofs.«01_k».proof.Proof.Gen.PrepFwdIdeal.Value
public import proofs.«01_k».proof.Proof.Gen.PrepFwdRefIdeal.Run
public import proofs.«01_k».proof.Proof.Gen.PrepFwdRefIdeal.Read

@[expose] public section

set_option maxRecDepth 16384
set_option maxHeartbeats 1000000

noncomputable section

namespace Cert.PrepFwdIdeal.Hand

open Cert.PrepFwdIdeal Cert.PrepFwdIdeal.Gen Idealize.ShloMosaic Idealize.ShloMosaic.TcCoe Cert.RopeMath Cert.FwdNorm Cert.PrepFwd Cert.Cols
open Idealize.ShloMosaic (ix1 ix2 ix3 ix4)

variable (m : (ℓ : Loc nD τ sig) → Buf (Elt Ideal) ℓ) (c : Dev nD)

theorem idx11 : ∀ t : Fin cfg0.N, win0_11.index t 0 = t.val ∧ win0_11.index t 1 = 0 :=
  (by decide +kernel : ∀ t : Fin grid0.N, _)

/-- The array of window 11. -/
theorem final11 : (dats m 0 c).arrAt 11 cfg0.N = (fun i => valA (ps m c) (gq m c) (i 0) (0 + 128 * ((i 1).val / 128)) ⟨(i 1).val % 128, Nat.mod_lt _ (by decide)⟩ : FVec Ideal S2048x768 .bf16) := by
  refine (dats m 0 c).arrAt_eq_of_cover 11 _ (fun t _ => ?_) fun (i : S2048x768.Idx) =>
    ⟨⟨(i 0 : Nat) / 256, by have h : (i 0 : Nat) < 2048 := (i 0).isLt; have : cfg0.N = 8 := N_0; omega⟩, flush0_11 _, ?_⟩
  · have hi := idx11 t
    rw [Value.flushed11]
    funext y
    rw [View.read_apply]
    have he : ((cfg0.win 11).blk t).view.emb y = ix2 (row t (y 0)) (y 1) := by
      refine Shape.idx_ext₂ ?_ ?_
      · show win0_11.index t 0 * 256 + 1 * (y 0).val = 256 * t.val + (y 0).val; omega
      · show win0_11.index t 1 * 768 + 1 * (y 1).val = (y 1).val; omega
    rw [he]
    exact out11 m c t y
  · generalize hp : (⟨(i 0 : Nat) / 256, _⟩ : Fin cfg0.N) = p
    have hv : p.val = (i 0 : Nat) / 256 := by rw [← hp]
    have hi := idx11 p
    have b1 : (i 1 : Nat) < 768 := (i 1).isLt
    show i ∈ ((View.whole main_v115_0).slice (win0_11.rect p)).set
    rw [View.set_slice_whole, Rect.mem_set_unit]
    intro a
    match a with
    | ⟨0, _⟩ => show win0_11.index p 0 * 256 ≤ (i 0 : Nat) ∧ (i 0 : Nat) < win0_11.index p 0 * 256 + 256; omega
    | ⟨1, _⟩ => show win0_11.index p 1 * 768 ≤ (i 1 : Nat) ∧ (i 1 : Nat) < win0_11.index p 1 * 768 + 768; omega

theorem idx12 : ∀ t : Fin cfg0.N, win0_12.index t 0 = t.val ∧ win0_12.index t 1 = 0 :=
  (by decide +kernel : ∀ t : Fin grid0.N, _)

/-- The array of window 12. -/
theorem final12 : (dats m 0 c).arrAt 12 cfg0.N = (fun i => valA (ps m c) (gk m c) (i 0) (768 + 128 * ((i 1).val / 128)) ⟨(i 1).val % 128, Nat.mod_lt _ (by decide)⟩ : FVec Ideal S2048x256 .bf16) := by
  refine (dats m 0 c).arrAt_eq_of_cover 12 _ (fun t _ => ?_) fun (i : S2048x256.Idx) =>
    ⟨⟨(i 0 : Nat) / 256, by have h : (i 0 : Nat) < 2048 := (i 0).isLt; have : cfg0.N = 8 := N_0; omega⟩, flush0_12 _, ?_⟩
  · have hi := idx12 t
    rw [Value.flushed12]
    funext y
    rw [View.read_apply]
    have he : ((cfg0.win 12).blk t).view.emb y = ix2 (row t (y 0)) (y 1) := by
      refine Shape.idx_ext₂ ?_ ?_
      · show win0_12.index t 0 * 256 + 1 * (y 0).val = 256 * t.val + (y 0).val; omega
      · show win0_12.index t 1 * 256 + 1 * (y 1).val = (y 1).val; omega
    rw [he]
    exact out12 m c t y
  · generalize hp : (⟨(i 0 : Nat) / 256, _⟩ : Fin cfg0.N) = p
    have hv : p.val = (i 0 : Nat) / 256 := by rw [← hp]
    have hi := idx12 p
    have b1 : (i 1 : Nat) < 256 := (i 1).isLt
    show i ∈ ((View.whole main_v115_1).slice (win0_12.rect p)).set
    rw [View.set_slice_whole, Rect.mem_set_unit]
    intro a
    match a with
    | ⟨0, _⟩ => show win0_12.index p 0 * 256 ≤ (i 0 : Nat) ∧ (i 0 : Nat) < win0_12.index p 0 * 256 + 256; omega
    | ⟨1, _⟩ => show win0_12.index p 1 * 256 ≤ (i 1 : Nat) ∧ (i 1 : Nat) < win0_12.index p 1 * 256 + 256; omega

theorem idx14 : ∀ t : Fin cfg0.N, win0_14.index t 0 = t.val ∧ win0_14.index t 1 = 0 :=
  (by decide +kernel : ∀ t : Fin grid0.N, _)

/-- The array of window 14. -/
theorem final14 : (dats m 0 c).arrAt 14 cfg0.N = (fun i => valB (ps m c) (i 0) (1280 + 128 * ((i 1).val / 128)) ⟨(i 1).val % 128, Nat.mod_lt _ (by decide)⟩ : FVec Ideal S2048x1536 .f32) := by
  refine (dats m 0 c).arrAt_eq_of_cover 14 _ (fun t _ => ?_) fun (i : S2048x1536.Idx) =>
    ⟨⟨(i 0 : Nat) / 256, by have h : (i 0 : Nat) < 2048 := (i 0).isLt; have : cfg0.N = 8 := N_0; omega⟩, flush0_14 _, ?_⟩
  · have hi := idx14 t
    rw [Value.flushed14]
    funext y
    rw [View.read_apply]
    have he : ((cfg0.win 14).blk t).view.emb y = ix2 (row t (y 0)) (y 1) := by
      refine Shape.idx_ext₂ ?_ ?_
      · show win0_14.index t 0 * 256 + 1 * (y 0).val = 256 * t.val + (y 0).val; omega
      · show win0_14.index t 1 * 1536 + 1 * (y 1).val = (y 1).val; omega
    rw [he]
    exact out14 m c t y
  · generalize hp : (⟨(i 0 : Nat) / 256, _⟩ : Fin cfg0.N) = p
    have hv : p.val = (i 0 : Nat) / 256 := by rw [← hp]
    have hi := idx14 p
    have b1 : (i 1 : Nat) < 1536 := (i 1).isLt
    show i ∈ ((View.whole main_v115_3).slice (win0_14.rect p)).set
    rw [View.set_slice_whole, Rect.mem_set_unit]
    intro a
    match a with
    | ⟨0, _⟩ => show win0_14.index p 0 * 256 ≤ (i 0 : Nat) ∧ (i 0 : Nat) < win0_14.index p 0 * 256 + 256; omega
    | ⟨1, _⟩ => show win0_14.index p 1 * 1536 ≤ (i 1 : Nat) ∧ (i 1 : Nat) < win0_14.index p 1 * 1536 + 1536; omega

theorem idx15 : ∀ t : Fin cfg0.N, win0_15.index t 0 = t.val ∧ win0_15.index t 1 = 0 :=
  (by decide +kernel : ∀ t : Fin grid0.N, _)

/-- The array of window 15. -/
theorem final15 : (dats m 0 c).arrAt 15 cfg0.N = (fun i => valB (ps m c) (i 0) (2816 + 128 * ((i 1).val / 128)) ⟨(i 1).val % 128, Nat.mod_lt _ (by decide)⟩ : FVec Ideal S2048x512 .f32) := by
  refine (dats m 0 c).arrAt_eq_of_cover 15 _ (fun t _ => ?_) fun (i : S2048x512.Idx) =>
    ⟨⟨(i 0 : Nat) / 256, by have h : (i 0 : Nat) < 2048 := (i 0).isLt; have : cfg0.N = 8 := N_0; omega⟩, flush0_15 _, ?_⟩
  · have hi := idx15 t
    rw [Value.flushed15]
    funext y
    rw [View.read_apply]
    have he : ((cfg0.win 15).blk t).view.emb y = ix2 (row t (y 0)) (y 1) := by
      refine Shape.idx_ext₂ ?_ ?_
      · show win0_15.index t 0 * 256 + 1 * (y 0).val = 256 * t.val + (y 0).val; omega
      · show win0_15.index t 1 * 512 + 1 * (y 1).val = (y 1).val; omega
    rw [he]
    exact out15 m c t y
  · generalize hp : (⟨(i 0 : Nat) / 256, _⟩ : Fin cfg0.N) = p
    have hv : p.val = (i 0 : Nat) / 256 := by rw [← hp]
    have hi := idx15 p
    have b1 : (i 1 : Nat) < 512 := (i 1).isLt
    show i ∈ ((View.whole main_v115_4).slice (win0_15.rect p)).set
    rw [View.set_slice_whole, Rect.mem_set_unit]
    intro a
    match a with
    | ⟨0, _⟩ => show win0_15.index p 0 * 256 ≤ (i 0 : Nat) ∧ (i 0 : Nat) < win0_15.index p 0 * 256 + 256; omega
    | ⟨1, _⟩ => show win0_15.index p 1 * 512 ≤ (i 1 : Nat) ∧ (i 1 : Nat) < win0_15.index p 1 * 512 + 512; omega

theorem idx13 : ∀ t : Fin cfg0.N, win0_13.index t 0 = t.val ∧ win0_13.index t 1 = 0 :=
  (by decide +kernel : ∀ t : Fin grid0.N, _)

/-- The values of the first attention. -/
theorem final13 : (dats m 0 c).arrAt 13 cfg0.N = (fun i => lanesAt 256 (ps m c) (i 0) 1024 (i 1) : FVec Ideal S2048x256 .bf16) := by
  refine (dats m 0 c).arrAt_eq_of_cover 13 _ (fun t _ => ?_) fun (i : S2048x256.Idx) =>
    ⟨⟨(i 0 : Nat) / 256, by have h : (i 0 : Nat) < 2048 := (i 0).isLt; have : cfg0.N = 8 := N_0; omega⟩, flush0_13 _, ?_⟩
  · have hi := idx13 t
    rw [Value.flushed13]
    funext y
    rw [View.read_apply]
    have he : ((cfg0.win 13).blk t).view.emb y = ix2 (row t (y 0)) (y 1) := by
      refine Shape.idx_ext₂ ?_ ?_
      · show win0_13.index t 0 * 256 + 1 * (y 0).val = 256 * t.val + (y 0).val; omega
      · show win0_13.index t 1 * 256 + 1 * (y 1).val = (y 1).val; omega
    rw [he]
    exact out13 m c t y
  · generalize hp : (⟨(i 0 : Nat) / 256, _⟩ : Fin cfg0.N) = p
    have hv : p.val = (i 0 : Nat) / 256 := by rw [← hp]
    have hi := idx13 p
    have b1 : (i 1 : Nat) < 256 := (i 1).isLt
    show i ∈ ((View.whole main_v115_2).slice (win0_13.rect p)).set
    rw [View.set_slice_whole, Rect.mem_set_unit]
    intro a
    match a with
    | ⟨0, _⟩ => show win0_13.index p 0 * 256 ≤ (i 0 : Nat) ∧ (i 0 : Nat) < win0_13.index p 0 * 256 + 256; omega
    | ⟨1, _⟩ => show win0_13.index p 1 * 256 ≤ (i 1 : Nat) ∧ (i 1 : Nat) < win0_13.index p 1 * 256 + 256; omega

theorem idx16 : ∀ t : Fin cfg0.N, win0_16.index t 0 = t.val ∧ win0_16.index t 1 = 0 :=
  (by decide +kernel : ∀ t : Fin grid0.N, _)

/-- A compressed array normed. -/
theorem final16 : (dats m 0 c).arrAt 16 cfg0.N = (fun i => valN (ps m c) (gcq m c) (i 0) 3840 (i 1) : FVec Ideal S2048x512 .bf16) := by
  refine (dats m 0 c).arrAt_eq_of_cover 16 _ (fun t _ => ?_) fun (i : S2048x512.Idx) =>
    ⟨⟨(i 0 : Nat) / 256, by have h : (i 0 : Nat) < 2048 := (i 0).isLt; have : cfg0.N = 8 := N_0; omega⟩, flush0_16 _, ?_⟩
  · have hi := idx16 t
    rw [Value.flushed16]
    funext y
    rw [View.read_apply]
    have he : ((cfg0.win 16).blk t).view.emb y = ix2 (row t (y 0)) (y 1) := by
      refine Shape.idx_ext₂ ?_ ?_
      · show win0_16.index t 0 * 256 + 1 * (y 0).val = 256 * t.val + (y 0).val; omega
      · show win0_16.index t 1 * 512 + 1 * (y 1).val = (y 1).val; omega
    rw [he]
    exact out16 m c t y
  · generalize hp : (⟨(i 0 : Nat) / 256, _⟩ : Fin cfg0.N) = p
    have hv : p.val = (i 0 : Nat) / 256 := by rw [← hp]
    have hi := idx16 p
    have b1 : (i 1 : Nat) < 512 := (i 1).isLt
    show i ∈ ((View.whole main_v115_5).slice (win0_16.rect p)).set
    rw [View.set_slice_whole, Rect.mem_set_unit]
    intro a
    match a with
    | ⟨0, _⟩ => show win0_16.index p 0 * 256 ≤ (i 0 : Nat) ∧ (i 0 : Nat) < win0_16.index p 0 * 256 + 256; omega
    | ⟨1, _⟩ => show win0_16.index p 1 * 512 ≤ (i 1 : Nat) ∧ (i 1 : Nat) < win0_16.index p 1 * 512 + 512; omega

theorem idx17 : ∀ t : Fin cfg0.N, win0_17.index t 0 = t.val ∧ win0_17.index t 1 = 0 :=
  (by decide +kernel : ∀ t : Fin grid0.N, _)

/-- A compressed array normed. -/
theorem final17 : (dats m 0 c).arrAt 17 cfg0.N = (fun i => valN (ps m c) (gckv m c) (i 0) 4352 (i 1) : FVec Ideal S2048x512 .bf16) := by
  refine (dats m 0 c).arrAt_eq_of_cover 17 _ (fun t _ => ?_) fun (i : S2048x512.Idx) =>
    ⟨⟨(i 0 : Nat) / 256, by have h : (i 0 : Nat) < 2048 := (i 0).isLt; have : cfg0.N = 8 := N_0; omega⟩, flush0_17 _, ?_⟩
  · have hi := idx17 t
    rw [Value.flushed17]
    funext y
    rw [View.read_apply]
    have he : ((cfg0.win 17).blk t).view.emb y = ix2 (row t (y 0)) (y 1) := by
      refine Shape.idx_ext₂ ?_ ?_
      · show win0_17.index t 0 * 256 + 1 * (y 0).val = 256 * t.val + (y 0).val; omega
      · show win0_17.index t 1 * 512 + 1 * (y 1).val = (y 1).val; omega
    rw [he]
    exact out17 m c t y
  · generalize hp : (⟨(i 0 : Nat) / 256, _⟩ : Fin cfg0.N) = p
    have hv : p.val = (i 0 : Nat) / 256 := by rw [← hp]
    have hi := idx17 p
    have b1 : (i 1 : Nat) < 512 := (i 1).isLt
    show i ∈ ((View.whole main_v115_6).slice (win0_17.rect p)).set
    rw [View.set_slice_whole, Rect.mem_set_unit]
    intro a
    match a with
    | ⟨0, _⟩ => show win0_17.index p 0 * 256 ≤ (i 0 : Nat) ∧ (i 0 : Nat) < win0_17.index p 0 * 256 + 256; omega
    | ⟨1, _⟩ => show win0_17.index p 1 * 512 ≤ (i 1 : Nat) ∧ (i 1 : Nat) < win0_17.index p 1 * 512 + 512; omega

end Cert.PrepFwdIdeal.Hand

end
-- ==== Proof.PrepFwdRef.lean ====
/- The preparation in front of the attentions, forward: the reference's seven results, entry by entry. -/
module

public import proofs.«01_k».proof.Proof.PrepFwdHost
public import proofs.«01_k».proof.Proof.Gen.PrepFwdRefIdeal.Read

@[expose] public section

set_option maxRecDepth 16384
set_option maxHeartbeats 1000000

noncomputable section

namespace Cert.PrepFwdRefIdeal.Hand

open Cert.PrepFwdRefIdeal Cert.PrepFwdRefIdeal.Read Idealize.ShloMosaic Cert.FwdNorm Cert.PrepFwd Cert.RopeFwd
open Cert.PrepFwdIdeal.Hand (lanesAt lanesAt_eq valA valB valN cRow sRow cCol sCol cTok sTok)
open Idealize.ShloMosaic (ix1 ix2 ix3 ix4)

variable (x0 : FVec Ideal S2048x4928 .f32) (x1 x2 : FVec Ideal S128 .f32) (x3 x4 : FVec Ideal S512 .f32)

/-- The lanes of the query heads of the first attention. -/
theorem v70_apply (r : Fin 2048) (h : Fin 6) (k : Fin 128) : val_main_v70 (F := Ideal) x0 (ix3 r h k) = lanesAt 128 x0 r (128 * h.val) k := by
  rw [lanesAt_eq _ _ _ _ _ (by omega)]
  unfold val_main_v70
  refine (shapeCast_apply _ _ (ix3 r h k) (ix2 r ⟨128 * h.val + k.val, by omega⟩) ?_).trans ?_
  · rewrite [Shape.rowMajor_val_two, Shape.rowMajor_val_three]
    show r.val * 768 + (128 * h.val + k.val) = (r.val * 6 + h.val) * 128 + k.val
    omega
  · pointwise [val_main_v62]

/-- The lanes of the key heads of the first attention. -/
theorem v84_apply (r : Fin 2048) (h : Fin 2) (k : Fin 128) : val_main_v84 (F := Ideal) x0 (ix3 r h k) = lanesAt 128 x0 r (768 + 128 * h.val) k := by
  rw [lanesAt_eq _ _ _ _ _ (by omega)]
  unfold val_main_v84
  refine (shapeCast_apply _ _ (ix3 r h k) (ix2 r ⟨128 * h.val + k.val, by omega⟩) ?_).trans ?_
  · rewrite [Shape.rowMajor_val_two, Shape.rowMajor_val_three]
    show r.val * 256 + (128 * h.val + k.val) = (r.val * 2 + h.val) * 128 + k.val
    omega
  · pointwise [val_main_v63]
    exact congrArg x0 (Shape.idx_ext₂ rfl (show 768 + (128 * h.val + k.val) = 768 + 128 * h.val + k.val by omega))

/-- The lanes of the heads of the second attention. -/
theorem v134_apply (r : Fin 2048) (h : Fin 16) (k : Fin 128) : val_main_v134 (F := Ideal) x0 (ix3 r h k) = lanesAt 128 x0 r (1280 + 128 * h.val) k := by
  rw [lanesAt_eq _ _ _ _ _ (by omega)]
  unfold val_main_v134
  refine (shapeCast_apply _ _ (ix3 r h k) (ix2 r ⟨128 * h.val + k.val, by omega⟩) ?_).trans ?_
  · rewrite [Shape.rowMajor_val_two, Shape.rowMajor_val_three]
    show r.val * 2048 + (128 * h.val + k.val) = (r.val * 16 + h.val) * 128 + k.val
    omega
  · pointwise [val_main_v65]
    exact congrArg x0 (Shape.idx_ext₂ rfl (show 1280 + (128 * h.val + k.val) = 1280 + 128 * h.val + k.val by omega))

/-- A query head normed. -/
theorem v83_apply (r : Fin 2048) (h : Fin 6) (k : Fin 128) :
    val_main_v83 (F := Ideal) x0 x1 (ix3 r h k) = normed 0x43000000#32 (lanesAt 128 x0 r (128 * h.val)) (x1 (ix1 k)) k := by
  have e := v70_apply x0 r h
  pointwise [val_main_v83, val_main_v80, val_main_v79, val_main_v78, val_main_v77, val_main_v76, val_main_v75, val_main_v74, val_main_v73, val_main_v72,
    val_main_v71, val_main_v82, val_main_v81, val_main_cst_11, val_main_cst_12, val_main_cst_13]
  simp only [e]
  rfl

/-- A key head normed. -/
theorem v97_apply (r : Fin 2048) (h : Fin 2) (k : Fin 128) :
    val_main_v97 (F := Ideal) x0 x2 (ix3 r h k) = normed 0x43000000#32 (lanesAt 128 x0 r (768 + 128 * h.val)) (x2 (ix1 k)) k := by
  have e := v84_apply x0 r h
  pointwise [val_main_v97, val_main_v94, val_main_v93, val_main_v92, val_main_v91, val_main_v90, val_main_v89, val_main_v88, val_main_v87, val_main_v86,
    val_main_v85, val_main_v96, val_main_v95, val_main_cst_14, val_main_cst_15, val_main_cst_16]
  simp only [e]
  rfl

/-- The heads of the first attention: the queries', then the keys'. -/
theorem v98_low (r : Fin 2048) (h : Fin 8) (h6 : h.val < 6) (k : Fin 128) :
    val_main_v98 (F := Ideal) x0 x1 x2 (ix3 r h k) = normed 0x43000000#32 (lanesAt 128 x0 r (128 * h.val)) (x1 (ix1 k)) k := by
  refine Eq.trans ?_ (v83_apply x0 x1 r ⟨h.val, h6⟩ k)
  unfold val_main_v98
  generalize val_main_v83 (F := Ideal) x0 x1 = A
  generalize val_main_v97 (F := Ideal) x0 x2 = B
  pointwise []
  exact dif_pos h6

theorem v98_high (r : Fin 2048) (h : Fin 2) (k : Fin 128) :
    val_main_v98 (F := Ideal) x0 x1 x2 (ix3 r ⟨6 + h.val, by omega⟩ k) = normed 0x43000000#32 (lanesAt 128 x0 r (768 + 128 * h.val)) (x2 (ix1 k)) k := by
  refine Eq.trans ?_ (v97_apply x0 x2 r h k)
  unfold val_main_v98
  generalize val_main_v83 (F := Ideal) x0 x1 = A
  generalize val_main_v97 (F := Ideal) x0 x2 = B
  pointwise []

/-- The lower half of a head turned. -/
theorem v114_apply (r : Fin 2048) (h : Fin 8) (l : Fin 64) : val_main_v114 (F := Ideal) x0 x1 x2 (ix3 r h l)
    = turn (cRow r) (sRow r) (fun k => val_main_v98 (F := Ideal) x0 x1 x2 (ix3 r h ⟨k.val, by omega⟩)) l := by
  have e1 : ∀ i : Fin 32, val_main_v108 (F := Ideal) x0 x1 x2 (ix3 r h i) = val_main_v98 (F := Ideal) x0 x1 x2 (ix3 r h ⟨i.val, by omega⟩) * cRow r i
      - val_main_v98 (F := Ideal) x0 x1 x2 (ix3 r h ⟨i.val + 32, by omega⟩) * sRow r i := fun i => by
    generalize hX : val_main_v98 (F := Ideal) x0 x1 x2 = X
    pointwise [val_main_v108, val_main_v107, val_main_v106, val_main_v105, val_main_v104, val_main_v103, val_main_v102, val_main_v101, val_main_v100, val_main_v99, hX]
    simp only [Nat.add_comm 32]
  have e2 : ∀ i : Fin 32, val_main_v113 (F := Ideal) x0 x1 x2 (ix3 r h i) = val_main_v98 (F := Ideal) x0 x1 x2 (ix3 r h ⟨i.val, by omega⟩) * sRow r i
      + val_main_v98 (F := Ideal) x0 x1 x2 (ix3 r h ⟨i.val + 32, by omega⟩) * cRow r i := fun i => by
    generalize hX : val_main_v98 (F := Ideal) x0 x1 x2 = X
    pointwise [val_main_v113, val_main_v112, val_main_v111, val_main_v110, val_main_v109, val_main_v103, val_main_v102, val_main_v101, val_main_v100, val_main_v99, hX]
    simp only [Nat.add_comm 32]
  have hl := l.isLt
  unfold val_main_v114
  generalize val_main_v108 (F := Ideal) x0 x1 x2 = A at *
  generalize val_main_v113 (F := Ideal) x0 x1 x2 = B at *
  pointwise []
  by_cases h32 : l.val < 32
  · rw [turn_low _ _ _ _ h32, dif_pos h32, e1]
  · rw [turn_high _ _ _ _ h32, dif_neg h32, e2]
    simp only [Nat.sub_add_cancel (show 32 ≤ l.val by omega)]

/-- The upper half of a head turned. -/
theorem v130_apply (r : Fin 2048) (h : Fin 8) (l : Fin 64) : val_main_v130 (F := Ideal) x0 x1 x2 (ix3 r h l)
    = turn (cCol r) (sCol r) (fun k => val_main_v98 (F := Ideal) x0 x1 x2 (ix3 r h ⟨64 + k.val, by omega⟩)) l := by
  have e1 : ∀ i : Fin 32, val_main_v124 (F := Ideal) x0 x1 x2 (ix3 r h i) = val_main_v98 (F := Ideal) x0 x1 x2 (ix3 r h ⟨64 + i.val, by omega⟩) * cCol r i
      - val_main_v98 (F := Ideal) x0 x1 x2 (ix3 r h ⟨64 + (i.val + 32), by omega⟩) * sCol r i := fun i => by
    generalize hX : val_main_v98 (F := Ideal) x0 x1 x2 = X
    pointwise [val_main_v124, val_main_v123, val_main_v122, val_main_v121, val_main_v120, val_main_v119, val_main_v118, val_main_v117, val_main_v116, val_main_v115, hX]
    simp only [Nat.add_comm 32]
  have e2 : ∀ i : Fin 32, val_main_v129 (F := Ideal) x0 x1 x2 (ix3 r h i) = val_main_v98 (F := Ideal) x0 x1 x2 (ix3 r h ⟨64 + i.val, by omega⟩) * sCol r i
      + val_main_v98 (F := Ideal) x0 x1 x2 (ix3 r h ⟨64 + (i.val + 32), by omega⟩) * cCol r i := fun i => by
    generalize hX : val_main_v98 (F := Ideal) x0 x1 x2 = X
    pointwise [val_main_v129, val_main_v128, val_main_v127, val_main_v126, val_main_v125, val_main_v119, val_main_v118, val_main_v117, val_main_v116, val_main_v115, hX]
    simp only [Nat.add_comm 32]
  have hl := l.isLt
  unfold val_main_v130
  generalize val_main_v124 (F := Ideal) x0 x1 x2 = A at *
  generalize val_main_v129 (F := Ideal) x0 x1 x2 = B at *
  pointwise []
  by_cases h32 : l.val < 32
  · rw [turn_low _ _ _ _ h32, dif_pos h32, e1]
  · rw [turn_high _ _ _ _ h32, dif_neg h32, e2]
    simp only [Nat.sub_add_cancel (show 32 ≤ l.val by omega)]

/-- A head of the first attention turned. -/
theorem v131_apply (r : Fin 2048) (h : Fin 8) (l : Fin 128) : val_main_v131 (F := Ideal) x0 x1 x2 (ix3 r h l)
    = axial (cRow r) (sRow r) (cCol r) (sCol r) (fun k => val_main_v98 (F := Ideal) x0 x1 x2 (ix3 r h k)) l := by
  have e1 := v114_apply x0 x1 x2 r h
  have e2 := v130_apply x0 x1 x2 r h
  unfold val_main_v131 axial
  generalize val_main_v114 (F := Ideal) x0 x1 x2 = A at *
  generalize val_main_v130 (F := Ideal) x0 x1 x2 = B at *
  pointwise []
  by_cases h64 : l.val < 64
  · rw [dif_pos h64, dif_pos h64, e1]
  · rw [dif_neg h64, dif_neg h64, e2]

/-- The heads of the first attention side by side, narrowed. -/
theorem v133_apply (r : Fin 2048) (h : Fin 8) (l : Fin 128) (j : Fin 1024) (hj : j.val = 128 * h.val + l.val) :
    val_main_v133 (F := Ideal) x0 x1 x2 (ix2 r j) = val_main_v131 (F := Ideal) x0 x1 x2 (ix3 r h l) := by
  have e : val_main_v132 (F := Ideal) x0 x1 x2 (ix2 r j) = val_main_v131 (F := Ideal) x0 x1 x2 (ix3 r h l) := by
    unfold val_main_v132
    refine shapeCast_apply _ _ (ix2 r j) (ix3 r h l) ?_
    rewrite [Shape.rowMajor_val_two, Shape.rowMajor_val_three]
    show (r.val * 8 + h.val) * 128 + l.val = r.val * 1024 + j.val
    omega
  refine Eq.trans ?_ e
  unfold val_main_v133
  generalize val_main_v132 (F := Ideal) x0 x1 x2 = X
  pointwise []

theorem v154_apply (r : Fin 2048) (j : Fin 768) :
    val_main_v154 (F := Ideal) x0 x1 x2 (ix2 r j) = valA x0 x1 r (0 + 128 * (j.val / 128)) ⟨j.val % 128, Nat.mod_lt _ (by decide)⟩ := by
  have e := v133_apply x0 x1 x2 r ⟨j.val / 128, by omega⟩ ⟨j.val % 128, Nat.mod_lt _ (by decide)⟩ ⟨j.val, by omega⟩ (show j.val = 128 * (j.val / 128) + j.val % 128 by omega)
  refine Eq.trans ?_ (e.trans ((v131_apply x0 x1 x2 r _ _).trans ?_))
  · unfold val_main_v154
    generalize val_main_v133 (F := Ideal) x0 x1 x2 = X
    pointwise []
  · unfold valA
    rw [Nat.zero_add]
    exact congrArg (fun d => axial _ _ _ _ d _) (funext fun k => v98_low x0 x1 x2 r ⟨j.val / 128, by omega⟩ (show j.val / 128 < 6 by omega) k)

theorem v155_apply (r : Fin 2048) (j : Fin 256) :
    val_main_v155 (F := Ideal) x0 x1 x2 (ix2 r j) = valA x0 x2 r (768 + 128 * (j.val / 128)) ⟨j.val % 128, Nat.mod_lt _ (by decide)⟩ := by
  have e := v133_apply x0 x1 x2 r ⟨6 + j.val / 128, by omega⟩ ⟨j.val % 128, Nat.mod_lt _ (by decide)⟩ ⟨768 + j.val, by omega⟩
    (show 768 + j.val = 128 * (6 + j.val / 128) + j.val % 128 by omega)
  refine Eq.trans ?_ (e.trans ((v131_apply x0 x1 x2 r _ _).trans ?_))
  · unfold val_main_v155
    generalize val_main_v133 (F := Ideal) x0 x1 x2 = X
    pointwise []
  · unfold valA
    exact congrArg (fun d => axial _ _ _ _ d _) (funext fun k => v98_high x0 x1 x2 r ⟨j.val / 128, by omega⟩ k)

theorem v156_apply (r : Fin 2048) (j : Fin 256) : val_main_v156 (F := Ideal) x0 (ix2 r j) = lanesAt 256 x0 r 1024 j := by
  rw [lanesAt_eq _ _ _ _ _ (by omega)]
  pointwise [val_main_v156, val_main_v64]

/-- The lanes of a head of the second attention that are turned. -/
theorem v150_apply (r : Fin 2048) (h : Fin 16) (l : Fin 32) : val_main_v150 (F := Ideal) x0 (ix3 r h l)
    = short (cTok r) (sTok r) (fun k => val_main_v134 (F := Ideal) x0 (ix3 r h k)) ⟨l.val, by omega⟩ := by
  have e1 : ∀ i : Fin 16, val_main_v144 (F := Ideal) x0 (ix3 r h i) = val_main_v134 (F := Ideal) x0 (ix3 r h ⟨i.val, by omega⟩) * cTok r i
      - val_main_v134 (F := Ideal) x0 (ix3 r h ⟨i.val + 16, by omega⟩) * sTok r i := fun i => by
    generalize hX : val_main_v134 (F := Ideal) x0 = X
    pointwise [val_main_v144, val_main_v143, val_main_v142, val_main_v141, val_main_v140, val_main_v139, val_main_v138, val_main_v137, val_main_v136, val_main_v135, hX]
    simp only [Nat.add_comm 16]
  have e2 : ∀ i : Fin 16, val_main_v149 (F := Ideal) x0 (ix3 r h i) = val_main_v134 (F := Ideal) x0 (ix3 r h ⟨i.val, by omega⟩) * sTok r i
      + val_main_v134 (F := Ideal) x0 (ix3 r h ⟨i.val + 16, by omega⟩) * cTok r i := fun i => by
    generalize hX : val_main_v134 (F := Ideal) x0 = X
    pointwise [val_main_v149, val_main_v148, val_main_v147, val_main_v146, val_main_v145, val_main_v139, val_main_v138, val_main_v137, val_main_v136, val_main_v135, hX]
    simp only [Nat.add_comm 16]
  have hl := l.isLt
  unfold val_main_v150 short
  generalize val_main_v144 (F := Ideal) x0 = A at *
  generalize val_main_v149 (F := Ideal) x0 = B at *
  pointwise []
  by_cases h16 : l.val < 16
  · rw [dif_pos h16, dif_pos h16, e1]
  · rw [dif_neg h16, dif_neg h16, e2]
    simp only [Nat.sub_add_cancel (show 16 ≤ l.val by omega)]

/-- A head of the second attention, its first lanes turned. -/
theorem v152_apply (r : Fin 2048) (h : Fin 16) (l : Fin 128) : val_main_v152 (F := Ideal) x0 (ix3 r h l)
    = short (cTok r) (sTok r) (fun k => val_main_v134 (F := Ideal) x0 (ix3 r h k)) l := by
  have e1 := v150_apply x0 r h
  have e2 : ∀ i : Fin 96, val_main_v151 (F := Ideal) x0 (ix3 r h i) = val_main_v134 (F := Ideal) x0 (ix3 r h ⟨32 + i.val, by omega⟩) := fun i => by
    generalize hX : val_main_v134 (F := Ideal) x0 = X
    pointwise [val_main_v151, hX]
  unfold val_main_v152
  generalize val_main_v150 (F := Ideal) x0 = A at *
  generalize val_main_v151 (F := Ideal) x0 = B at *
  pointwise []
  by_cases h32 : l.val < 32
  · rw [dif_pos h32, e1]
  · rw [dif_neg h32, e2]
    unfold short
    rw [dif_neg (by omega), dif_neg h32]
    simp only [Nat.add_sub_cancel' (show 32 ≤ l.val by omega)]

/-- The heads of the second attention side by side. -/
theorem v153_apply (r : Fin 2048) (h : Fin 16) (l : Fin 128) (j : Fin 2048) (hj : j.val = 128 * h.val + l.val) :
    val_main_v153 (F := Ideal) x0 (ix2 r j) = valB x0 r (1280 + 128 * h.val) l := by
  unfold val_main_v153
  refine (shapeCast_apply _ _ (ix2 r j) (ix3 r h l) ?_).trans ((v152_apply x0 r h l).trans ?_)
  · rewrite [Shape.rowMajor_val_two, Shape.rowMajor_val_three]
    show (r.val * 16 + h.val) * 128 + l.val = r.val * 2048 + j.val
    omega
  · exact congrArg (fun d => short _ _ d l) (funext fun k => v134_apply x0 r h k)

theorem v157_apply (r : Fin 2048) (j : Fin 1536) :
    val_main_v157 (F := Ideal) x0 (ix2 r j) = valB x0 r (1280 + 128 * (j.val / 128)) ⟨j.val % 128, Nat.mod_lt _ (by decide)⟩ := by
  refine Eq.trans ?_ (v153_apply x0 r ⟨j.val / 128, by omega⟩ ⟨j.val % 128, Nat.mod_lt _ (by decide)⟩ ⟨j.val, by omega⟩
    (show j.val = 128 * (j.val / 128) + j.val % 128 by omega))
  unfold val_main_v157
  generalize val_main_v153 (F := Ideal) x0 = X
  pointwise []

theorem v158_apply (r : Fin 2048) (j : Fin 512) :
    val_main_v158 (F := Ideal) x0 (ix2 r j) = valB x0 r (2816 + 128 * (j.val / 128)) ⟨j.val % 128, Nat.mod_lt _ (by decide)⟩ := by
  have e := v153_apply x0 r ⟨12 + j.val / 128, by omega⟩ ⟨j.val % 128, Nat.mod_lt _ (by decide)⟩ ⟨1536 + j.val, by omega⟩
    (show 1536 + j.val = 128 * (12 + j.val / 128) + j.val % 128 by omega)
  rw [show 1280 + 128 * (12 + j.val / 128) = 2816 + 128 * (j.val / 128) by omega] at e
  refine Eq.trans ?_ e
  unfold val_main_v158
  generalize val_main_v153 (F := Ideal) x0 = X
  pointwise []

theorem v172_apply (r : Fin 2048) (j : Fin 512) : val_main_v172 (F := Ideal) x0 x3 (ix2 r j) = valN x0 x3 r 3840 j := by
  have e : ∀ k : Fin 512, val_main_v67 (F := Ideal) x0 (ix2 r k) = lanesAt 512 x0 r 3840 k := fun k => by
    rw [lanesAt_eq _ _ _ _ _ (by omega)]
    pointwise [val_main_v67]
  generalize hX : val_main_v67 (F := Ideal) x0 = X at *
  pointwise [val_main_v172, val_main_v171, val_main_v170, val_main_v169, val_main_v168, val_main_v167, val_main_v166, val_main_v165, val_main_v164,
    val_main_v163, val_main_v162, val_main_v161, val_main_v160, val_main_v159, val_main_cst_17, val_main_cst_18, val_main_cst_19, hX]
  simp only [e]
  rfl

theorem v186_apply (r : Fin 2048) (j : Fin 512) : val_main_v186 (F := Ideal) x0 x4 (ix2 r j) = valN x0 x4 r 4352 j := by
  have e : ∀ k : Fin 512, val_main_v68 (F := Ideal) x0 (ix2 r k) = lanesAt 512 x0 r 4352 k := fun k => by
    rw [lanesAt_eq _ _ _ _ _ (by omega)]
    pointwise [val_main_v68]
  generalize hX : val_main_v68 (F := Ideal) x0 = X at *
  pointwise [val_main_v186, val_main_v185, val_main_v184, val_main_v183, val_main_v182, val_main_v181, val_main_v180, val_main_v179, val_main_v178,
    val_main_v177, val_main_v176, val_main_v175, val_main_v174, val_main_v173, val_main_cst_20, val_main_cst_21, val_main_cst_22, hX]
  simp only [e]
  rfl

end Cert.PrepFwdRefIdeal.Hand

end
-- ==== Proof.PrepFwdPair.lean ====
/- The preparation in front of the attentions, forward: the kernel's seven results are the reference's, on any arguments. -/
module

public import proofs.«01_k».proof.Defs
public import proofs.«01_k».proof.Proof.PrepFwdValue
public import proofs.«01_k».proof.Proof.PrepFwdRef
public import proofs.«01_k».proof.Proof.Gen.PrepFwdRefIdeal.Run

@[expose] public section

set_option maxRecDepth 16384

noncomputable section

namespace Cert.PrepFwdPair

open Idealize.ShloMosaic Idealize.ShloMosaic.TcCoe
open Cert.PrepFwdIdeal.Hand (lanesAt valA valB valN ps gq gk gcq gckv)
open Cert.PrepFwdRefIdeal.Hand (v154_apply v155_apply v156_apply v157_apply v158_apply v172_apply v186_apply)
open Idealize.ShloMosaic (ix1 ix2 ix3 ix4)

/-- The kernel's seven results are the reference's: no precondition. -/
theorem algebraic : algebraic_PrepFwdIdeal_PrepFwdRefIdeal := by
  intro m g m' g' _ hag
  refine ⟨fun c i => valA (ps m c) (gq m c) (i 0) (0 + 128 * ((i 1).val / 128)) ⟨(i 1).val % 128, Nat.mod_lt _ (by decide)⟩,
    fun c i => valA (ps m c) (gk m c) (i 0) (768 + 128 * ((i 1).val / 128)) ⟨(i 1).val % 128, Nat.mod_lt _ (by decide)⟩,
    fun c i => lanesAt 256 (ps m c) (i 0) 1024 (i 1),
    fun c i => valB (ps m c) (i 0) (1280 + 128 * ((i 1).val / 128)) ⟨(i 1).val % 128, Nat.mod_lt _ (by decide)⟩,
    fun c i => valB (ps m c) (i 0) (2816 + 128 * ((i 1).val / 128)) ⟨(i 1).val % 128, Nat.mod_lt _ (by decide)⟩,
    fun c i => valN (ps m c) (gcq m c) (i 0) 3840 (i 1), fun c i => valN (ps m c) (gckv m c) (i 0) 4352 (i 1), ?_, ?_⟩
  · refine (θ_run PrepFwdIdeal.defs _ _).mono (fun r h c => ?_) (PrepFwdIdeal.Value.run_blocks m g)
    obtain ⟨e0, e1, e2, e3, e4, e5, e6, k⟩ := h c
    exact ⟨e0.trans (PrepFwdIdeal.Hand.final11 m c), e1.trans (PrepFwdIdeal.Hand.final12 m c), e2.trans (PrepFwdIdeal.Hand.final13 m c),
      e3.trans (PrepFwdIdeal.Hand.final14 m c), e4.trans (PrepFwdIdeal.Hand.final15 m c), e5.trans (PrepFwdIdeal.Hand.final16 m c),
      e6.trans (PrepFwdIdeal.Hand.final17 m c), k⟩
  · refine (θ_run PrepFwdRefIdeal.defs _ _).mono (fun r h c => ?_) (PrepFwdRefIdeal.Value.run m' g')
    obtain ⟨e0, e1, e2, e3, e4, e5, e6, k⟩ := h c
    obtain ⟨q0, q1, q2, q3, q4⟩ := hag c
    refine ⟨e0.trans ((PrepFwdRefIdeal.Read.val_main_v154_eq _).trans (funext fun i => ?_)),
      e1.trans ((PrepFwdRefIdeal.Read.val_main_v155_eq _).trans (funext fun i => ?_)),
      e2.trans ((PrepFwdRefIdeal.Read.val_main_v156_eq _).trans (funext fun i => ?_)),
      e3.trans ((PrepFwdRefIdeal.Read.val_main_v157_eq _).trans (funext fun i => ?_)),
      e4.trans ((PrepFwdRefIdeal.Read.val_main_v158_eq _).trans (funext fun i => ?_)),
      e5.trans ((PrepFwdRefIdeal.Read.val_main_v172_eq _).trans (funext fun i => ?_)),
      e6.trans ((PrepFwdRefIdeal.Read.val_main_v186_eq _).trans (funext fun i => ?_)), k⟩
    · exact (congrArg _ (eq_ix2 i)).trans ((v154_apply _ _ _ (i 0) (i 1)).trans (congrArg₂ (fun p g => valA p g (i 0) (0 + 128 * ((i 1).val / 128)) ⟨(i 1).val % 128, Nat.mod_lt _ (by decide)⟩) q0 q1))
    · exact (congrArg _ (eq_ix2 i)).trans ((v155_apply _ _ _ (i 0) (i 1)).trans (congrArg₂ (fun p g => valA p g (i 0) (768 + 128 * ((i 1).val / 128)) ⟨(i 1).val % 128, Nat.mod_lt _ (by decide)⟩) q0 q2))
    · exact (congrArg _ (eq_ix2 i)).trans ((v156_apply _ (i 0) (i 1)).trans (congrArg (fun p => lanesAt 256 p (i 0) 1024 (i 1)) q0))
    · exact (congrArg _ (eq_ix2 i)).trans ((v157_apply _ (i 0) (i 1)).trans (congrArg (fun p => valB p (i 0) (1280 + 128 * ((i 1).val / 128)) ⟨(i 1).val % 128, Nat.mod_lt _ (by decide)⟩) q0))
    · exact (congrArg _ (eq_ix2 i)).trans ((v158_apply _ (i 0) (i 1)).trans (congrArg (fun p => valB p (i 0) (2816 + 128 * ((i 1).val / 128)) ⟨(i 1).val % 128, Nat.mod_lt _ (by decide)⟩) q0))
    · exact (congrArg _ (eq_ix2 i)).trans ((v172_apply _ _ (i 0) (i 1)).trans (congrArg₂ (fun p g => valN p g (i 0) 3840 (i 1)) q0 q3))
    · exact (congrArg _ (eq_ix2 i)).trans ((v186_apply _ _ (i 0) (i 1)).trans (congrArg₂ (fun p g => valN p g (i 0) 4352 (i 1)) q0 q4))

end Cert.PrepFwdPair

end
-- ==== Proof.DownPair.lean ====
/-
  The feed-forward's product down, forward: the hidden columns in two halves, the first half's product kept between the grid's
  points, the second half's and the residual added to it. On any arguments, every entry is the reference's sum.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pointwise

@[expose] public section

set_option maxRecDepth 16384

noncomputable section

namespace Cert.DownIdeal.Hand

open Idealize.ShloMosaic Idealize.ShloMosaic.TcCoe
open Idealize.ShloMosaic (ix1 ix2 ix3 ix4)

theorem hz : (![0, 0] : Fin 2 → Nat) = fun _ => 0 := funext fun a => by fin_cases a <;> rfl

/-- A sum over the columns of both halves. -/
theorem sum_two (f : Fin 5632 → EReal) :
    ∑ k : Fin 2816, f ⟨k.val, by omega⟩ + ∑ k : Fin 2816, f ⟨2816 + k.val, by omega⟩ = ∑ k, f k :=
  (Fin.sum_univ_add (a := 2816) (b := 2816) f).symm

section Kernel
open Cert.DownIdeal Cert.DownIdeal.Gen

/-- The first half's product, -/
theorem pay1_apply (x : Vec Ideal S1024x2816 .bf16) (w : Vec Ideal S2816x1024 .bf16) (r j : Fin 1024) :
    k0_pay1 (F := Ideal) x w (ix2 r j) = ∑ k : Fin 2816, (x (ix2 r k) : EReal) * w (ix2 k j) := by
  pointwise [k0_pay1]

/-- and the second half's, added to the first and to the residual. -/
theorem pay2_apply (a : Vec Ideal S1024x1024 .f32) (x : Vec Ideal S1024x2816 .bf16) (w : Vec Ideal S2816x1024 .bf16) (z : Vec Ideal S1024x1024 .f32) (r j : Fin 1024) :
    k0_pay2 (F := Ideal) a x w z (ix2 r j) = (a (ix2 r j) : EReal) + ∑ k : Fin 2816, (x (ix2 r k) : EReal) * w (ix2 k j) + z (ix2 r j) := by
  pointwise [k0_pay2]

variable (m : (ℓ : Loc nD τ sig) → Buf (Elt Ideal) ℓ) (c : Dev nD)

/-- The hidden columns, -/
abbrev hid : FVec Ideal S2048x5632 .bf16 := m ((c : Thread nD τ).loc main_arg0)
/-- the weights, -/
abbrev wts : FVec Ideal S5632x2048 .bf16 := m ((c : Thread nD τ).loc main_arg1)
/-- and the residual. -/
abbrev res : FVec Ideal S2048x2048 .f32 := m ((c : Thread nD τ).loc main_arg2)

/-- An entry of the result. -/
def entry (x : FVec Ideal S2048x5632 .bf16) (w : FVec Ideal S5632x2048 .bf16) (z : FVec Ideal S2048x2048 .f32) (r j : Fin 2048) : EReal :=
  z (ix2 r j) + ∑ k : Fin 5632, (x (ix2 r k) : EReal) * w (ix2 k j)

theorem idx0 : ∀ t : Fin cfg0.N, win0_0.index t 0 = t.val / 4 ∧ win0_0.index t 1 = t.val % 2 := (by decide +kernel : ∀ t : Fin grid0.N, _)
theorem idx1 : ∀ t : Fin cfg0.N, win0_1.index t 0 = t.val % 2 ∧ win0_1.index t 1 = t.val / 2 % 2 := (by decide +kernel : ∀ t : Fin grid0.N, _)
theorem idx2 : ∀ t : Fin cfg0.N, win0_2.index t 0 = t.val / 4 ∧ win0_2.index t 1 = t.val / 2 % 2 := (by decide +kernel : ∀ t : Fin grid0.N, _)
theorem idx3 : ∀ t : Fin cfg0.N, win0_3.index t 0 = t.val / 4 ∧ win0_3.index t 1 = t.val / 2 % 2 := (by decide +kernel : ∀ t : Fin grid0.N, _)

theorem lt8 (t : Fin cfg0.N) : t.val < 8 := lt_of_lt_of_eq t.isLt N_0
/-- The row of the result that row `r` of a point's block is, -/
abbrev row (t : Fin cfg0.N) (r : Fin 1024) : Fin 2048 := ⟨1024 * (t.val / 4) + r.val, by have := lt8 t; omega⟩
/-- its column, -/
abbrev col (t : Fin cfg0.N) (j : Fin 1024) : Fin 2048 := ⟨1024 * (t.val / 2 % 2) + j.val, by omega⟩
/-- and the column of the hidden ones. -/
abbrev mid (t : Fin cfg0.N) (k : Fin 2816) : Fin 5632 := ⟨2816 * (t.val % 2) + k.val, by omega⟩

theorem iblk0 (t : Fin cfg0.N) (r : Fin 1024) (k : Fin 2816) : (iblk m c 0 t : Vec Ideal S1024x2816 .bf16) (ix2 r k) = hid m c (ix2 (row t r) (mid t k)) := by
  unfold iblk
  rw [View.read_apply]
  show V m c main_arg0 _ = V m c main_arg0 _
  have hi := idx0 t
  refine congrArg (V m c main_arg0 : FVec Ideal S2048x5632 .bf16) (Shape.idx_ext₂ ?_ ?_)
  · show win0_0.index t 0 * 1024 + 1 * r.val = 1024 * (t.val / 4) + r.val; omega
  · show win0_0.index t 1 * 2816 + 1 * k.val = 2816 * (t.val % 2) + k.val; omega

theorem iblk1 (t : Fin cfg0.N) (k : Fin 2816) (j : Fin 1024) : (iblk m c 1 t : Vec Ideal S2816x1024 .bf16) (ix2 k j) = wts m c (ix2 (mid t k) (col t j)) := by
  unfold iblk
  rw [View.read_apply]
  show V m c main_arg1 _ = V m c main_arg1 _
  have hi := idx1 t
  refine congrArg (V m c main_arg1 : FVec Ideal S5632x2048 .bf16) (Shape.idx_ext₂ ?_ ?_)
  · show win0_1.index t 0 * 2816 + 1 * k.val = 2816 * (t.val % 2) + k.val; omega
  · show win0_1.index t 1 * 1024 + 1 * j.val = 1024 * (t.val / 2 % 2) + j.val; omega

theorem iblk2 (t : Fin cfg0.N) (r j : Fin 1024) : (iblk m c 2 t : Vec Ideal S1024x1024 .f32) (ix2 r j) = res m c (ix2 (row t r) (col t j)) := by
  unfold iblk
  rw [View.read_apply]
  show V m c main_arg2 _ = V m c main_arg2 _
  have hi := idx2 t
  refine congrArg (V m c main_arg2 : FVec Ideal S2048x2048 .f32) (Shape.idx_ext₂ ?_ ?_)
  · show win0_2.index t 0 * 1024 + 1 * r.val = 1024 * (t.val / 4) + r.val; omega
  · show win0_2.index t 1 * 1024 + 1 * j.val = 1024 * (t.val / 2 % 2) + j.val; omega

/-- What a first point keeps: the product of its blocks. -/
theorem kept (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0
  rw [View.read_writes_eq_canon _ _ _ fun y => scover0_A_0 (y := y) ..]
  unfold kernelRun0_A
  dsimp only
  sl_unfold_words
  rw [View.canon_unit_zero hz]
  simp only [View.readAt_eq_ld, (hs0_0 t).read_unread, (hs0_1 t).read_unread, (hs0_2 t).read_unread, View.ld_unit_zero (S := S1024x2816) hz, View.ld_unit_zero (S := S2816x1024) hz]

/-- What a second point leaves: the product of its blocks over what the first kept, and the residual. -/
theorem left (t : Fin cfg0.N) (h0 : t.val % 2 = 1) :
    (outsAt0 m c t.val t.isLt).1 = k0_pay2 (F := Ideal) (outsAt0 m c (t.val - 1) (Nat.lt_of_le_of_lt (Nat.sub_le _ _) t.isLt)).2 (iblk m c 0 t) (iblk m c 1 t) (iblk m c 2 t) := by
  rw [outsAt0_B m c t (by omega) h0]
  dsimp only
  unfold out0_B_3
  rw [View.read_writes_eq_canon _ _ _ fun y => cover0_B_3 (y := y) ..]
  unfold kernelRun0_B
  dsimp only
  sl_unfold_words
  rw [View.canon_unit_zero hz]
  simp only [View.readAt_eq_ld, (hs0_0 t).read_unread, (hs0_1 t).read_unread, (hs0_2 t).read_unread, (Memref.isWhole_whole _).read_unread,
    View.ld_unit_zero (S := S1024x2816) hz, View.ld_unit_zero (S := S2816x1024) hz, View.ld_unit_zero (S := S1024x1024) hz]

/-- An entry of what a second point leaves. -/
theorem out_apply (t : Fin cfg0.N) (h0 : t.val % 2 = 1) (r j : Fin 1024) :
    (outsAt0 m c t.val t.isLt).1 (ix2 r j) = entry (hid m c) (wts m c) (res m c) (row t r) (col t j) := by
  obtain ⟨p, hp⟩ : ∃ p : Fin cfg0.N, p.val = t.val - 1 := ⟨⟨t.val - 1, Nat.lt_of_le_of_lt (Nat.sub_le _ _) t.isLt⟩, rfl⟩
  have hk : (outsAt0 m c (t.val - 1) (Nat.lt_of_le_of_lt (Nat.sub_le _ _) t.isLt)).2 = k0_pay1 (F := Ideal) (iblk m c 0 p) (iblk m c 1 p) := by
    rw [← kept m c p (by omega)]
    simp only [hp]
  rw [left m c t h0, hk, pay2_apply, pay1_apply]
  simp only [iblk0, iblk1, iblk2]
  rw [entry, add_comm, ← sum_two]
  refine congrArg _ (congrArg₂ _ (Finset.sum_congr rfl fun k _ => ?_) (Finset.sum_congr rfl fun k _ => ?_))
  · have e0 : row p r = row t r := Fin.ext (by show 1024 * (p.val / 4) + r.val = 1024 * (t.val / 4) + r.val; omega)
    have e1 : col p j = col t j := Fin.ext (by show 1024 * (p.val / 2 % 2) + j.val = 1024 * (t.val / 2 % 2) + j.val; omega)
    have e2 : mid p k = ⟨k.val, by omega⟩ := Fin.ext (by show 2816 * (p.val % 2) + k.val = k.val; omega)
    rw [e0, e1, e2]
  · have e2 : mid t k = ⟨2816 + k.val, by omega⟩ := Fin.ext (by show 2816 * (t.val % 2) + k.val = 2816 + k.val; omega)
    rw [e2]

/-- The array the kernel leaves. -/
theorem final : (dats m 0 c).arrAt 3 cfg0.N = (fun i => entry (hid m c) (wts m c) (res m c) (i 0) (i 1) : FVec Ideal S2048x2048 .f32) := by
  refine (dats m 0 c).arrAt_eq_of_cover 3 _ (fun t hf => ?_) fun (i : S2048x2048.Idx) =>
    ⟨⟨4 * ((i 0 : Nat) / 1024) + 2 * ((i 1 : Nat) / 1024) + 1, by
      have h : (i 0 : Nat) < 2048 := (i 0).isLt; have h' : (i 1 : Nat) < 2048 := (i 1).isLt; have : cfg0.N = 8 := N_0; omega⟩, (flush0_3 _).mpr (by
      show (4 * ((i 0 : Nat) / 1024) + 2 * ((i 1 : Nat) / 1024) + 1) % 2 = 1; omega), ?_⟩
  · have hi := idx3 t
    have ht : t.val % 2 = 1 := (flush0_3 t).mp hf
    rw [Value.flushed3]
    funext y
    rw [View.read_apply]
    have he : ((cfg0.win 3).blk t).view.emb y = ix2 (row t (y 0)) (col t (y 1)) := by
      refine Shape.idx_ext₂ ?_ ?_
      · show win0_3.index t 0 * 1024 + 1 * (y 0).val = 1024 * (t.val / 4) + (y 0).val; omega
      · show win0_3.index t 1 * 1024 + 1 * (y 1).val = 1024 * (t.val / 2 % 2) + (y 1).val; omega
    rw [he]
    exact (congrArg _ (eq_ix2 y)).trans (out_apply m c t ht (y 0) (y 1))
  · generalize hp : (⟨4 * ((i 0 : Nat) / 1024) + 2 * ((i 1 : Nat) / 1024) + 1, _⟩ : Fin cfg0.N) = p
    have hv : p.val = 4 * ((i 0 : Nat) / 1024) + 2 * ((i 1 : Nat) / 1024) + 1 := by rw [← hp]
    have hi := idx3 p
    have b0 : (i 0 : Nat) < 2048 := (i 0).isLt
    have b1 : (i 1 : Nat) < 2048 := (i 1).isLt
    show i ∈ ((View.whole main_v0).slice (win0_3.rect p)).set
    rw [View.set_slice_whole, Rect.mem_set_unit]
    intro a
    match a with
    | ⟨0, _⟩ => show win0_3.index p 0 * 1024 ≤ (i 0 : Nat) ∧ (i 0 : Nat) < win0_3.index p 0 * 1024 + 1024; omega
    | ⟨1, _⟩ => show win0_3.index p 1 * 1024 ≤ (i 1 : Nat) ∧ (i 1 : Nat) < win0_3.index p 1 * 1024 + 1024; omega

end Kernel

open Cert.DownRefIdeal.Read in
/-- The reference's entry. -/
theorem ref_apply (x : FVec Ideal DownIdeal.S2048x5632 .bf16) (w : FVec Ideal DownIdeal.S5632x2048 .bf16) (z : FVec Ideal DownIdeal.S2048x2048 .f32) (r j : Fin 2048) :
    val_main_v1 (F := Ideal) x w z (ix2 r j) = entry x w z r j := by
  pointwise [val_main_v1, val_main_v0]
  rfl

end Cert.DownIdeal.Hand

namespace Cert.DownPair

open Idealize.ShloMosaic Idealize.ShloMosaic.TcCoe Cert.DownIdeal.Hand

/-- The kernel's product and residual are the reference's, whatever the arguments. -/
theorem algebraic : algebraic_DownIdeal_DownRefIdeal := by
  intro m g m' g' _ hag
  refine ⟨fun c i => entry (hid m c) (wts m c) (res m c) (i 0) (i 1), ?_, ?_⟩
  · refine (θ_run DownIdeal.defs _ _).mono (fun r h c => ?_) (DownIdeal.Value.run_blocks m g)
    obtain ⟨e, k⟩ := h c
    exact ⟨e.trans (final m c), k⟩
  · refine (θ_run DownRefIdeal.defs _ _).mono (fun r h c => ?_) (DownRefIdeal.Value.run m' g')
    obtain ⟨e, k⟩ := h c
    obtain ⟨a0, a1, a2⟩ := hag c
    refine ⟨e.trans ((DownRefIdeal.Read.val_main_v1_eq _ _ _).trans (funext fun i => ?_)), k⟩
    rw [a0, a1, a2]
    exact (congrArg _ (eq_ix2 i)).trans (ref_apply _ _ _ (i 0) (i 1))

end Cert.DownPair

end
-- ==== Proof.UpDxPair.lean ====
/-
  The product up's gradient with respect to its argument: the columns in four quarters, a quarter at a point, the sum kept
  between them. On any arguments, every entry is the reference's sum.
-/
module

public import proofs.«01_k».proof.Defs
public import proofs.«01_k».proof.Proof.FfnUpPair
public import proofs.«01_k».proof.Proof.Gen.UpDxIdeal.Value
public import proofs.«01_k».proof.Proof.Gen.UpDxRefIdeal.Run
public import proofs.«01_k».proof.Proof.Gen.UpDxRefIdeal.Read

@[expose] public section

set_option maxRecDepth 16384

noncomputable section

namespace Cert.UpDxIdeal.Hand

open Idealize.ShloMosaic Idealize.ShloMosaic.TcCoe
open Idealize.ShloMosaic (ix1 ix2 ix3 ix4)
open Cert.GateIdeal.Hand (hz ext3)
open Cert.FfnUpIdeal.Hand (ext4 parts_apply)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A sum over the columns of the four quarters. -/
theorem sum_four (f : Fin 11264 → EReal) :
    ∑ k : Fin 2816, f ⟨k.val, by omega⟩ + ∑ k : Fin 2816, f ⟨2816 + k.val, by omega⟩ + ∑ k : Fin 2816, f ⟨5632 + k.val, by omega⟩
      + ∑ k : Fin 2816, f ⟨8448 + k.val, by omega⟩ = ∑ k, f k := by
  rw [Fin.sum_univ_add (a := 8448) (b := 2816) f, Fin.sum_univ_add (a := 5632) (b := 2816), Fin.sum_univ_add (a := 2816) (b := 2816)]
  rfl

/-- The gradient's columns in two halves. -/
theorem halves_apply (a : FVec Ideal UpDxIdeal.S2048x11264 .bf16) (s : Fin 2) (r : Fin 2048) (l : Fin 5632) :
    (transpose UpDxIdeal.S2x2048x5632 [1, 0, 2] (shapeCast UpDxIdeal.S2048x2x5632 a UpDxIdeal.Gen.shapeCasts_S2048x11264_S2048x2x5632) UpDxIdeal.Gen.transposes_S2048x2x5632_S2x2048x5632_1_0_2
      : FVec Ideal UpDxIdeal.S2x2048x5632 .bf16) (ix3 s r l) = a (ix2 r ⟨5632 * s.val + l.val, by omega⟩) := by
  pointwise []
  exact congrArg (fun i => a (ix2 r i)) (Fin.ext (by show s.val * 5632 + l.val = 5632 * s.val + l.val; omega))

section Kernel
open Cert.UpDxIdeal Cert.UpDxIdeal.Gen

/-- The product of a point's blocks. -/
def part (x : Vec Ideal S1x1024x2816 .bf16) (w : Vec Ideal S1x1x1024x2816 .bf16) (r j : Fin 1024) : EReal :=
  ∑ k : Fin 2816, (x (ix3 0 r k) : EReal) * w (ix4 0 0 j k)

theorem pay1_apply (x : Vec Ideal S1x1024x2816 .bf16) (w : Vec Ideal S1x1x1024x2816 .bf16) (r j : Fin 1024) :
    k0_pay1 (F := Ideal) x w (ix2 r j) = part x w r j := by
  pointwise [k0_pay1]
  rfl

theorem pay2_apply (a : Vec Ideal S1024x1024 .f32) (x : Vec Ideal S1x1024x2816 .bf16) (w : Vec Ideal S1x1x1024x2816 .bf16) (r j : Fin 1024) :
    k0_pay2 (F := Ideal) a x w (ix2 r j) = (a (ix2 r j) : EReal) + part x w r j := by
  pointwise [k0_pay2]
  rfl

theorem pay3_apply (a : Vec Ideal S1024x1024 .f32) (x : Vec Ideal S1x1024x2816 .bf16) (w : Vec Ideal S1x1x1024x2816 .bf16) (r j : Fin 1024) :
    k0_pay3 (F := Ideal) a x w (ix2 r j) = (a (ix2 r j) : EReal) + part x w r j := by
  pointwise [k0_pay3]
  rfl

variable (m : (ℓ : Loc nD τ sig) → Buf (Elt Ideal) ℓ) (c : Dev nD)

/-- The weights, -/
abbrev wts : FVec Ideal S2048x11264 .bf16 := m ((c : Thread nD τ).loc main_arg0)
/-- and the product's gradient. -/
abbrev grd : FVec Ideal S2048x11264 .bf16 := m ((c : Thread nD τ).loc main_arg1)

/-- An entry of the result. -/
def entry (w d : FVec Ideal S2048x11264 .bf16) (r j : Fin 2048) : EReal := ∑ k : Fin 11264, (d (ix2 r k) : EReal) * w (ix2 j k)

theorem idx0 : ∀ t : Fin cfg0.N, win0_0.index t 0 = t.val % 4 / 2 ∧ win0_0.index t 1 = t.val / 8 ∧ win0_0.index t 2 = t.val % 2 := (by decide +kernel : ∀ t : Fin grid0.N, _)
theorem idx1 : ∀ t : Fin cfg0.N, win0_1.index t 0 = t.val % 4 / 2 ∧ win0_1.index t 1 = t.val % 2 ∧ win0_1.index t 2 = t.val / 4 % 2 ∧ win0_1.index t 3 = 0 :=
  (by decide +kernel : ∀ t : Fin grid0.N, _)
theorem idx2 : ∀ t : Fin cfg0.N, win0_2.index t 0 = t.val / 8 ∧ win0_2.index t 1 = t.val / 4 % 2 := (by decide +kernel : ∀ t : Fin grid0.N, _)

theorem lt16 (t : Fin cfg0.N) : t.val < 16 := lt_of_lt_of_eq t.isLt N_0
/-- The row of the result that row `r` of a point's block is, -/
abbrev row (t : Fin cfg0.N) (r : Fin 1024) : Fin 2048 := ⟨1024 * (t.val / 8) + r.val, by have := lt16 t; omega⟩
/-- its column, -/
abbrev col (t : Fin cfg0.N) (j : Fin 1024) : Fin 2048 := ⟨1024 * (t.val / 4 % 2) + j.val, by omega⟩
/-- and the column of the product. -/
abbrev mid (t : Fin cfg0.N) (k : Fin 2816) : Fin 11264 := ⟨2816 * (t.val % 4) + k.val, by omega⟩

theorem iblk0 (t : Fin cfg0.N) (r : Fin 1024) (k : Fin 2816) : (iblk m c 0 t : Vec Ideal S1x1024x2816 .bf16) (ix3 0 r k) = grd m c (ix2 (row t r) (mid t k)) := by
  unfold iblk
  rw [View.read_apply]
  show V m c main_v4 _ = _
  have ht := lt16 t
  have e : ((cfg0.win 0).blk t).view.emb (ix3 0 r k) = ix3 ⟨t.val % 4 / 2, by omega⟩ (row t r) ⟨2816 * (t.val % 2) + k.val, by omega⟩ := by
    have hi := idx0 t
    refine ext3 ?_ ?_ ?_
    · show win0_0.index t 0 * 1 + 1 * 0 = t.val % 4 / 2; omega
    · show win0_0.index t 1 * 1024 + 1 * r.val = 1024 * (t.val / 8) + r.val; omega
    · show win0_0.index t 2 * 2816 + 1 * k.val = 2816 * (t.val % 2) + k.val; omega
  have v : V m c main_v4 = transpose S2x2048x5632 [1, 0, 2] (shapeCast S2048x2x5632 (m (c, Proc.tc.devRef main_arg1)) shapeCasts_S2048x11264_S2048x2x5632) transposes_S2048x2x5632_S2x2048x5632_1_0_2 := by
    unfold V; after_results_simp <;> rfl
  rw [e, v]
  refine (halves_apply _ _ _ _).trans (congrArg (fun i => grd m c (ix2 (row t r) i)) (Fin.ext ?_))
  show 5632 * (t.val % 4 / 2) + (2816 * (t.val % 2) + k.val) = 2816 * (t.val % 4) + k.val
  omega

theorem iblk1 (t : Fin cfg0.N) (j : Fin 1024) (k : Fin 2816) : (iblk m c 1 t : Vec Ideal S1x1x1024x2816 .bf16) (ix4 0 0 j k) = wts m c (ix2 (col t j) (mid t k)) := by
  unfold iblk
  rw [View.read_apply]
  show V m c main_v2 _ = _
  have ht := lt16 t
  have e : ((cfg0.win 1).blk t).view.emb (ix4 0 0 j k) = ix4 ⟨t.val % 4 / 2, by omega⟩ ⟨t.val % 2, by omega⟩ (col t j) k := by
    have hi := idx1 t
    refine ext4 ?_ ?_ ?_ ?_
    · show win0_1.index t 0 * 1 + 1 * 0 = t.val % 4 / 2; omega
    · show win0_1.index t 1 * 1 + 1 * 0 = t.val % 2; omega
    · show win0_1.index t 2 * 1024 + 1 * j.val = 1024 * (t.val / 4 % 2) + j.val; omega
    · show win0_1.index t 3 * 2816 + 1 * k.val = k.val; omega
  have v : V m c main_v2 = shapeCast S2x2x2048x2816 (transpose S4x2048x2816 [1, 0, 2] (shapeCast S2048x4x2816 (m (c, Proc.tc.devRef main_arg0)) shapeCasts_S2048x11264_S2048x4x2816) transposes_S2048x4x2816_S4x2048x2816_1_0_2)
      shapeCasts_S4x2048x2816_S2x2x2048x2816 := by
    unfold V; after_results_simp <;> rfl
  rw [e, v]
  exact parts_apply _ _ _ _ _ _ (by show 2816 * (t.val % 4) + k.val = (2 * (t.val % 4 / 2) + t.val % 2) * 2816 + k.val; omega)

/-- What a first point keeps: the product of its blocks, -/
theorem kept_first (t : Fin cfg0.N) (h : t.val % 4 = 0) (r j : Fin 1024) :
    (outsAt0 m c t.val t.isLt).2 (ix2 r j) = part (iblk m c 0 t) (iblk m c 1 t) r j := by
  rw [outsAt0_A m c t h (by omega) (by omega)]
  dsimp only
  unfold sout0_A_0
  rw [View.read_writes_eq_canon _ _ _ fun y => scover0_A_0 (y := y) ..]
  unfold kernelRun0_A
  dsimp only
  sl_unfold_words
  rw [View.canon_unit_zero hz]
  simp only [View.readAt_eq_ld, (hs0_0 t).read_unread, (hs0_1 t).read_unread, View.ld_unit_zero (S := S1x1024x2816) hz3, View.ld_unit_zero (S := S1x1x1024x2816) hz4]
  exact pay1_apply _ _ r j

/-- a middle point, its product over what the point before kept; -/
theorem kept_next (t : Fin cfg0.N) (h : 1 ≤ t.val % 4 ∧ t.val % 4 ≤ 2) (r j : Fin 1024) :
    (outsAt0 m c t.val t.isLt).2 (ix2 r j)
      = ((outsAt0 m c (t.val - 1) (Nat.lt_of_le_of_lt (Nat.sub_le _ _) t.isLt)).2 (ix2 r j) : EReal) + part (iblk m c 0 t) (iblk m c 1 t) r j := by
  rw [outsAt0_B m c t (by omega) h (by omega)]
  dsimp only
  unfold sout0_B_0
  rw [View.read_writes_eq_canon _ _ _ fun y => scover0_B_0 (y := y) ..]
  unfold kernelRun0_B
  dsimp only
  sl_unfold_words
  rw [View.canon_unit_zero hz]
  simp only [View.readAt_eq_ld, (hs0_0 t).read_unread, (hs0_1 t).read_unread, (Memref.isWhole_whole _).read_unread,
    View.ld_unit_zero (S := S1x1024x2816) hz3, View.ld_unit_zero (S := S1x1x1024x2816) hz4, View.ld_unit_zero (S := S1024x1024) hz]
  exact pay2_apply _ _ _ r j

/-- and what a last point leaves: its own over that. -/
theorem left (t : Fin cfg0.N) (h : t.val % 4 = 3) (r j : Fin 1024) :
    (outsAt0 m c t.val t.isLt).1 (ix2 r j)
      = ((outsAt0 m c (t.val - 1) (Nat.lt_of_le_of_lt (Nat.sub_le _ _) t.isLt)).2 (ix2 r j) : EReal) + part (iblk m c 0 t) (iblk m c 1 t) r j := by
  rw [outsAt0_C m c t (by omega) (by omega) h]
  dsimp only
  unfold out0_C_2
  rw [View.read_writes_eq_canon _ _ _ fun y => cover0_C_2 (y := y) ..]
  unfold kernelRun0_C
  dsimp only
  sl_unfold_words
  rw [View.canon_unit_zero hz]
  simp only [View.readAt_eq_ld, (hs0_0 t).read_unread, (hs0_1 t).read_unread, (Memref.isWhole_whole _).read_unread,
    View.ld_unit_zero (S := S1x1024x2816) hz3, View.ld_unit_zero (S := S1x1x1024x2816) hz4, View.ld_unit_zero (S := S1024x1024) hz]
  exact pay3_apply _ _ _ r j

/-- The product of a point's blocks is a quarter of the entry's sum. -/
theorem part_eq (t p : Fin cfg0.N) (h : p.val / 4 = t.val / 4) (r j : Fin 1024) (n : ℕ) (hn : n = 2816 * (p.val % 4)) (hb : ∀ k : Fin 2816, n + k.val < 11264) :
    part (iblk m c 0 p) (iblk m c 1 p) r j = ∑ k : Fin 2816, (grd m c (ix2 (row t r) ⟨n + k.val, hb k⟩) : EReal) * wts m c (ix2 (col t j) ⟨n + k.val, hb k⟩) := by
  refine Finset.sum_congr rfl fun k _ => ?_
  have e0 : row p r = row t r := Fin.ext (by show 1024 * (p.val / 8) + r.val = 1024 * (t.val / 8) + r.val; omega)
  have e1 : col p j = col t j := Fin.ext (by show 1024 * (p.val / 4 % 2) + j.val = 1024 * (t.val / 4 % 2) + j.val; omega)
  have e2 : mid p k = ⟨n + k.val, hb k⟩ := Fin.ext (by show 2816 * (p.val % 4) + k.val = n + k.val; omega)
  rw [iblk0, iblk1, e0, e1, e2]

/-- An entry of what a last point leaves. -/
theorem out_apply (t : Fin cfg0.N) (h : t.val % 4 = 3) (r j : Fin 1024) :
    (outsAt0 m c t.val t.isLt).1 (ix2 r j) = entry (wts m c) (grd m c) (row t r) (col t j) := by
  have at' (n : ℕ) (hn : n < cfg0.N) (p : Fin cfg0.N) (hp : p.val = n) : (outsAt0 m c n hn).2 = (outsAt0 m c p.val p.isLt).2 := by simp only [hp]
  have hl := t.isLt
  rw [left m c t h, at' _ _ ⟨t.val - 1, by omega⟩ rfl, kept_next m c ⟨t.val - 1, by omega⟩ (by show 1 ≤ (t.val - 1) % 4 ∧ (t.val - 1) % 4 ≤ 2; omega),
    at' _ _ ⟨t.val - 2, by omega⟩ (by show t.val - 2 = t.val - 1 - 1; omega), kept_next m c ⟨t.val - 2, by omega⟩ (by show 1 ≤ (t.val - 2) % 4 ∧ (t.val - 2) % 4 ≤ 2; omega),
    at' _ _ ⟨t.val - 3, by omega⟩ (by show t.val - 3 = t.val - 2 - 1; omega), kept_first m c ⟨t.val - 3, by omega⟩ (by show (t.val - 3) % 4 = 0; omega),
    part_eq m c t ⟨t.val - 3, by omega⟩ (by show (t.val - 3) / 4 = t.val / 4; omega) r j 0 (by show 0 = 2816 * ((t.val - 3) % 4); omega) (fun k => by omega),
    part_eq m c t ⟨t.val - 2, by omega⟩ (by show (t.val - 2) / 4 = t.val / 4; omega) r j 2816 (by show 2816 = 2816 * ((t.val - 2) % 4); omega) (fun k => by omega),
    part_eq m c t ⟨t.val - 1, by omega⟩ (by show (t.val - 1) / 4 = t.val / 4; omega) r j 5632 (by show 5632 = 2816 * ((t.val - 1) % 4); omega) (fun k => by omega),
    part_eq m c t t rfl r j 8448 (by omega) (fun k => by omega), entry, ← sum_four]
  simp only [Nat.zero_add]

/-- The array the kernel leaves. -/
theorem final : (dats m 0 c).arrAt 2 cfg0.N = (fun i => entry (wts m c) (grd m c) (i 0) (i 1) : FVec Ideal S2048x2048 .f32) := by
  refine (dats m 0 c).arrAt_eq_of_cover 2 _ (fun t hf => ?_) fun (i : S2048x2048.Idx) =>
    ⟨⟨8 * ((i 0 : Nat) / 1024) + 4 * ((i 1 : Nat) / 1024) + 3, by
      have h : (i 0 : Nat) < 2048 := (i 0).isLt; have h' : (i 1 : Nat) < 2048 := (i 1).isLt; have : cfg0.N = 16 := N_0; omega⟩, (flush0_2 _).mpr (by
      show (8 * ((i 0 : Nat) / 1024) + 4 * ((i 1 : Nat) / 1024) + 3) % 4 = 3; omega), ?_⟩
  · have hi := idx2 t
    have ht : t.val % 4 = 3 := (flush0_2 t).mp hf
    rw [Value.flushed2]
    funext y
    rw [View.read_apply]
    have he : ((cfg0.win 2).blk t).view.emb y = ix2 (row t (y 0)) (col t (y 1)) := by
      refine Shape.idx_ext₂ ?_ ?_
      · show win0_2.index t 0 * 1024 + 1 * (y 0).val = 1024 * (t.val / 8) + (y 0).val; omega
      · show win0_2.index t 1 * 1024 + 1 * (y 1).val = 1024 * (t.val / 4 % 2) + (y 1).val; omega
    rw [he]
    exact (congrArg _ (eq_ix2 y)).trans (out_apply m c t ht (y 0) (y 1))
  · generalize hp : (⟨8 * ((i 0 : Nat) / 1024) + 4 * ((i 1 : Nat) / 1024) + 3, _⟩ : Fin cfg0.N) = p
    have hv : p.val = 8 * ((i 0 : Nat) / 1024) + 4 * ((i 1 : Nat) / 1024) + 3 := by rw [← hp]
    have hi := idx2 p
    have b0 : (i 0 : Nat) < 2048 := (i 0).isLt
    have b1 : (i 1 : Nat) < 2048 := (i 1).isLt
    show i ∈ ((View.whole main_v5).slice (win0_2.rect p)).set
    rw [View.set_slice_whole, Rect.mem_set_unit]
    intro a
    match a with
    | ⟨0, _⟩ => show win0_2.index p 0 * 1024 ≤ (i 0 : Nat) ∧ (i 0 : Nat) < win0_2.index p 0 * 1024 + 1024; omega
    | ⟨1, _⟩ => show win0_2.index p 1 * 1024 ≤ (i 1 : Nat) ∧ (i 1 : Nat) < win0_2.index p 1 * 1024 + 1024; omega

end Kernel

open Cert.UpDxRefIdeal.Read in
/-- The reference's entry. -/
theorem ref_apply (w d : FVec Ideal UpDxIdeal.S2048x11264 .bf16) (r j : Fin 2048) : val_main_v4 (F := Ideal) w d (ix2 r j) = entry w d r j := by
  pointwise [val_main_v4, val_main_v3, val_main_v1]
  rfl

end Cert.UpDxIdeal.Hand

namespace Cert.UpDxPair

open Idealize.ShloMosaic Idealize.ShloMosaic.TcCoe Cert.UpDxIdeal.Hand

/-- The kernel's product is the reference's gradient, whatever the arguments. -/
theorem algebraic : algebraic_UpDxIdeal_UpDxRefIdeal := by
  intro m g m' g' _ hag
  refine ⟨fun c i => entry (wts m c) (grd m c) (i 0) (i 1), ?_, ?_⟩
  · refine (θ_run UpDxIdeal.defs _ _).mono (fun r h c => ?_) (UpDxIdeal.Value.run_blocks m g)
    obtain ⟨e, k⟩ := h c
    exact ⟨e.trans (final m c), k⟩
  · refine (θ_run UpDxRefIdeal.defs _ _).mono (fun r h c => ?_) (UpDxRefIdeal.Value.run m' g')
    obtain ⟨e, k⟩ := h c
    obtain ⟨a0, a1⟩ := hag c
    refine ⟨e.trans ((UpDxRefIdeal.Read.val_main_v4_eq _ _).trans (funext fun i => ?_)), k⟩
    rw [a0, a1]
    exact (congrArg _ (eq_ix2 i)).trans (ref_apply _ _ (i 0) (i 1))

end Cert.UpDxPair

end
-- ==== Proof.UpDwPair.lean ====
/-
  The product up's gradient with respect to its weights, laid out in the four quarters the step's sum takes: one product a
  point. On any arguments, every entry is the reference's sum.
-/
module

public import proofs.«01_k».proof.Defs
public import proofs.«01_k».proof.Proof.UpDxPair
public import proofs.«01_k».proof.Proof.Gen.UpDwIdeal.Value
public import proofs.«01_k».proof.Proof.Gen.UpDwRefIdeal.Run
public import proofs.«01_k».proof.Proof.Gen.UpDwRefIdeal.Read

@[expose] public section

set_option maxRecDepth 16384

noncomputable section

namespace Cert.UpDwIdeal.Hand

open Idealize.ShloMosaic Idealize.ShloMosaic.TcCoe
open Idealize.ShloMosaic (ix1 ix2 ix3 ix4)
open Cert.GateIdeal.Hand (hz ext3)
open Cert.FfnUpIdeal.Hand (ext4)
open Cert.UpDxIdeal.Hand (hz3 hz4 halves_apply)

section Kernel
open Cert.UpDwIdeal Cert.UpDwIdeal.Gen

theorem pay1_apply (x : Vec Ideal S2048x1024 .bf16) (d : Vec Ideal S1x2048x1408 .bf16) (r : Fin 1024) (l : Fin 1408) :
    k0_pay1 (F := Ideal) x d (ix4 0 0 r l) = ∑ k : Fin 2048, (x (ix2 k r) : EReal) * d (ix3 0 k l) := by
  pointwise [k0_pay1]

variable (m : (ℓ : Loc nD τ sig) → Buf (Elt Ideal) ℓ) (c : Dev nD)

/-- The product's argument, -/
abbrev arg : FVec Ideal S2048x2048 .bf16 := m ((c : Thread nD τ).loc main_arg0)
/-- and its gradient. -/
abbrev grd : FVec Ideal S2048x11264 .bf16 := m ((c : Thread nD τ).loc main_arg1)

/-- An entry of the result: quarter `2 s + p`, row `r`, column `l`. -/
def entry (x : FVec Ideal S2048x2048 .bf16) (d : FVec Ideal S2048x11264 .bf16) (s p : Fin 2) (r : Fin 2048) (l : Fin 2816) : EReal :=
  ∑ k : Fin 2048, (x (ix2 k r) : EReal) * d (ix2 k ⟨2816 * (2 * s.val + p.val) + l.val, by omega⟩)

theorem idx0 : ∀ t : Fin cfg0.N, win0_0.index t 0 = 0 ∧ win0_0.index t 1 = t.val / 8 := (by decide +kernel : ∀ t : Fin grid0.N, _)
theorem idx1 : ∀ t : Fin cfg0.N, win0_1.index t 0 = t.val % 8 / 4 ∧ win0_1.index t 1 = 0 ∧ win0_1.index t 2 = t.val % 4 := (by decide +kernel : ∀ t : Fin grid0.N, _)
theorem idx2 : ∀ t : Fin cfg0.N, win0_2.index t 0 = t.val % 8 / 4 ∧ win0_2.index t 1 = t.val % 4 / 2 ∧ win0_2.index t 2 = t.val / 8 ∧ win0_2.index t 3 = t.val % 2 :=
  (by decide +kernel : ∀ t : Fin grid0.N, _)

theorem lt16 (t : Fin cfg0.N) : t.val < 16 := lt_of_lt_of_eq t.isLt N_0
/-- The row of the result that row `r` of a point's block is, -/
abbrev row (t : Fin cfg0.N) (r : Fin 1024) : Fin 2048 := ⟨1024 * (t.val / 8) + r.val, by have := lt16 t; omega⟩
/-- and its column. -/
abbrev col (t : Fin cfg0.N) (l : Fin 1408) : Fin 2816 := ⟨1408 * (t.val % 2) + l.val, by omega⟩

theorem iblk0 (t : Fin cfg0.N) (k : Fin 2048) (r : Fin 1024) : (iblk m c 0 t : Vec Ideal S2048x1024 .bf16) (ix2 k r) = arg m c (ix2 k (row t r)) := by
  unfold iblk
  rw [View.read_apply]
  show V m c main_arg0 _ = _
  have e : ((cfg0.win 0).blk t).view.emb (ix2 k r) = ix2 k (row t r) := by
    have hi := idx0 t
    refine Shape.idx_ext₂ ?_ ?_
    · show win0_0.index t 0 * 2048 + 1 * k.val = k.val; omega
    · show win0_0.index t 1 * 1024 + 1 * r.val = 1024 * (t.val / 8) + r.val; omega
  have v : V m c main_arg0 = m (c, Proc.tc.devRef main_arg0) := by
    unfold V; after_results_simp <;> rfl
  rw [e, v]

theorem iblk1 (t : Fin cfg0.N) (k : Fin 2048) (l : Fin 1408) :
    (iblk m c 1 t : Vec Ideal S1x2048x1408 .bf16) (ix3 0 k l) = grd m c (ix2 k ⟨2816 * (2 * (t.val % 8 / 4) + t.val % 4 / 2) + (1408 * (t.val % 2) + l.val), by omega⟩) := by
  unfold iblk
  rw [View.read_apply]
  show V m c main_v1 _ = _
  have e : ((cfg0.win 1).blk t).view.emb (ix3 0 k l) = ix3 ⟨t.val % 8 / 4, by omega⟩ k ⟨1408 * (t.val % 4) + l.val, by omega⟩ := by
    have hi := idx1 t
    refine ext3 ?_ ?_ ?_
    · show win0_1.index t 0 * 1 + 1 * 0 = t.val % 8 / 4; omega
    · show win0_1.index t 1 * 2048 + 1 * k.val = k.val; omega
    · show win0_1.index t 2 * 1408 + 1 * l.val = 1408 * (t.val % 4) + l.val; omega
  have v : V m c main_v1 = transpose S2x2048x5632 [1, 0, 2] (shapeCast S2048x2x5632 (m (c, Proc.tc.devRef main_arg1)) shapeCasts_S2048x11264_S2048x2x5632) transposes_S2048x2x5632_S2x2048x5632_1_0_2 := by
    unfold V; after_results_simp <;> rfl
  rw [e, v]
  refine (halves_apply _ _ _ _).trans (congrArg (fun i => grd m c (ix2 k i)) (Fin.ext ?_))
  show 5632 * (t.val % 8 / 4) + (1408 * (t.val % 4) + l.val) = 2816 * (2 * (t.val % 8 / 4) + t.val % 4 / 2) + (1408 * (t.val % 2) + l.val)
  omega

/-- An entry of what a point leaves. -/
theorem out_apply (t : Fin cfg0.N) (y : S1x1x1024x1408.Idx) :
    out0_2 (iblk m c 0 t) (iblk m c 1 t) y = entry (arg m c) (grd m c) ⟨t.val % 8 / 4, by omega⟩ ⟨t.val % 4 / 2, by omega⟩ (row t (y 2)) (col t (y 3)) := by
  unfold out0_2
  rw [View.canon_unit_zero hz4, View.ld_unit_zero (S := S2048x1024) hz, View.ld_unit_zero (S := S1x2048x1408) hz3]
  have hy : y = ix4 0 0 (y 2) (y 3) := ext4 (by have h : (y 0).val < 1 := (y 0).isLt; show (y 0).val = 0; omega)
    (by have h : (y 1).val < 1 := (y 1).isLt; show (y 1).val = 0; omega) rfl rfl
  refine (congrArg _ hy).trans ((pay1_apply _ _ _ _).trans (Finset.sum_congr rfl fun k _ => ?_))
  exact congrArg₂ (fun a b : EReal => a * b) (iblk0 m c t k (y 2)) (iblk1 m c t k (y 3))

/-- The array the kernel leaves. -/
theorem final : (dats m 0 c).arrAt 2 cfg0.N = (fun i => entry (arg m c) (grd m c) (i 0) (i 1) (i 2) (i 3) : FVec Ideal S2x2x2048x2816 .f32) := by
  refine (dats m 0 c).arrAt_eq_of_cover 2 _ (fun t _ => ?_) fun (i : S2x2x2048x2816.Idx) =>
    ⟨⟨8 * ((i 2 : Nat) / 1024) + 4 * (i 0 : Nat) + 2 * (i 1 : Nat) + (i 3 : Nat) / 1408, by
      have h0 : (i 0 : Nat) < 2 := (i 0).isLt; have h1 : (i 1 : Nat) < 2 := (i 1).isLt; have h2 : (i 2 : Nat) < 2048 := (i 2).isLt
      have h3 : (i 3 : Nat) < 2816 := (i 3).isLt; have : cfg0.N = 16 := N_0; omega⟩, flush0_2 _, ?_⟩
  · have hi := idx2 t
    rw [Value.flushed2]
    funext y
    rw [View.read_apply]
    have he : ((cfg0.win 2).blk t).view.emb y = ix4 ⟨t.val % 8 / 4, by omega⟩ ⟨t.val % 4 / 2, by omega⟩ (row t (y 2)) (col t (y 3)) := by
      have h0 : (y 0).val < 1 := (y 0).isLt
      have h1 : (y 1).val < 1 := (y 1).isLt
      refine ext4 ?_ ?_ ?_ ?_
      · show win0_2.index t 0 * 1 + 1 * (y 0).val = t.val % 8 / 4; omega
      · show win0_2.index t 1 * 1 + 1 * (y 1).val = t.val % 4 / 2; omega
      · show win0_2.index t 2 * 1024 + 1 * (y 2).val = 1024 * (t.val / 8) + (y 2).val; omega
      · show win0_2.index t 3 * 1408 + 1 * (y 3).val = 1408 * (t.val % 2) + (y 3).val; omega
    rw [he]
    exact out_apply m c t y
  · generalize hp : (⟨8 * ((i 2 : Nat) / 1024) + 4 * (i 0 : Nat) + 2 * (i 1 : Nat) + (i 3 : Nat) / 1408, _⟩ : Fin cfg0.N) = p
    have hv : p.val = 8 * ((i 2 : Nat) / 1024) + 4 * (i 0 : Nat) + 2 * (i 1 : Nat) + (i 3 : Nat) / 1408 := by rw [← hp]
    have hi := idx2 p
    have b0 : (i 0 : Nat) < 2 := (i 0).isLt
    have b1 : (i 1 : Nat) < 2 := (i 1).isLt
    have b2 : (i 2 : Nat) < 2048 := (i 2).isLt
    have b3 : (i 3 : Nat) < 2816 := (i 3).isLt
    show i ∈ ((View.whole main_v2).slice (win0_2.rect p)).set
    rw [View.set_slice_whole, Rect.mem_set_unit]
    intro a
    match a with
    | ⟨0, _⟩ => show win0_2.index p 0 * 1 ≤ (i 0 : Nat) ∧ (i 0 : Nat) < win0_2.index p 0 * 1 + 1; omega
    | ⟨1, _⟩ => show win0_2.index p 1 * 1 ≤ (i 1 : Nat) ∧ (i 1 : Nat) < win0_2.index p 1 * 1 + 1; omega
    | ⟨2, _⟩ => show win0_2.index p 2 * 1024 ≤ (i 2 : Nat) ∧ (i 2 : Nat) < win0_2.index p 2 * 1024 + 1024; omega
    | ⟨3, _⟩ => show win0_2.index p 3 * 1408 ≤ (i 3 : Nat) ∧ (i 3 : Nat) < win0_2.index p 3 * 1408 + 1408; omega

end Kernel

section Reference
open Cert.UpDwRefIdeal Cert.UpDwRefIdeal.Gen Cert.UpDwRefIdeal.Read

theorem v4_apply (x : FVec Ideal S2048x2048 .bf16) (d : FVec Ideal S2048x11264 .bf16) (i : Fin 11264) (r : Fin 2048) :
    val_main_v4 (F := Ideal) x d (ix2 i r) = ∑ k : Fin 2048, (x (ix2 k r) : EReal) * d (ix2 k i) := by
  have e : val_main_v4 (F := Ideal) x d (ix2 i r) = ∑ k : Fin 2048, (d (ix2 k i) : EReal) * x (ix2 k r) := by
    pointwise [val_main_v4, val_main_v3, val_main_v1]
  exact e.trans (Finset.sum_congr rfl fun k _ => mul_comm _ _)

/-- The reference's entry. -/
theorem ref_apply (x : FVec Ideal S2048x2048 .bf16) (d : FVec Ideal S2048x11264 .bf16) (s p : Fin 2) (r : Fin 2048) (l : Fin 2816) :
    val_main_v8 (F := Ideal) x d (ix4 s p r l) = entry x d s p r l := by
  have h := v4_apply x d
  unfold val_main_v8 val_main_v7 val_main_v6 val_main_v5
  generalize val_main_v4 (F := Ideal) x d = q at *
  pointwise []
  refine (congrArg (fun i => q (ix2 i r)) (Fin.ext ?_)).trans (h ⟨2816 * (2 * s.val + p.val) + l.val, by omega⟩ r)
  show (s.val * 2 + p.val) * 2816 + l.val = 2816 * (2 * s.val + p.val) + l.val
  omega

end Reference

end Cert.UpDwIdeal.Hand

namespace Cert.UpDwPair

open Idealize.ShloMosaic Idealize.ShloMosaic.TcCoe Cert.UpDwIdeal.Hand
open Idealize.ShloMosaic (ix4)

/-- The kernel's product is the reference's gradient, whatever the arguments. -/
theorem algebraic : algebraic_UpDwIdeal_UpDwRefIdeal := by
  intro m g m' g' _ hag
  refine ⟨fun c i => entry (arg m c) (grd m c) (i 0) (i 1) (i 2) (i 3), ?_, ?_⟩
  · refine (θ_run UpDwIdeal.defs _ _).mono (fun r h c => ?_) (UpDwIdeal.Value.run_blocks m g)
    obtain ⟨e, k⟩ := h c
    exact ⟨e.trans (final m c), k⟩
  · refine (θ_run UpDwRefIdeal.defs _ _).mono (fun r h c => ?_) (UpDwRefIdeal.Value.run m' g')
    obtain ⟨e, k⟩ := h c
    obtain ⟨a0, a1⟩ := hag c
    refine ⟨e.trans ((UpDwRefIdeal.Read.val_main_v8_eq _ _).trans (funext fun i => ?_)), k⟩
    rw [a0, a1]
    exact (congrArg _ (Cert.FfnUpIdeal.Hand.ext4 rfl rfl rfl rfl : i = ix4 (i 0) (i 1) (i 2) (i 3))).trans (ref_apply _ _ (i 0) (i 1) (i 2) (i 3))

end Cert.UpDwPair

end
-- ==== Proof.AdamSmallPair.lean ====
/- The optimiser on the small weights, packed into rows: the kernel's three results are the reference's, on any arguments. -/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise

@[expose] public section

noncomputable section

namespace Cert.AdamSmallPair

open Idealize.ShloMosaic Idealize.ShloMosaic.TcCoe
open Cert.AdamSmallRefIdeal.Read

/-- The step of the weights, entry by entry. -/
theorem step_eq (g w p s : FVec Ideal AdamSmallIdeal.S440x128 .f32) :
    AdamSmallIdeal.Value.G4 (F := Ideal) g w p s = val_main_v23 (F := Ideal) g w p s := by
  funext i
  pointwise [val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2, val_main_v1, val_main_v0]
  rfl

/-- The mean of the gradients. -/
theorem mean_eq (g p : FVec Ideal AdamSmallIdeal.S440x128 .f32) : AdamSmallIdeal.Value.G5 (F := Ideal) g p = val_main_v4 (F := Ideal) g p := by
  funext i
  pointwise [val_main_v4, val_main_v3, val_main_v2, val_main_v1, val_main_v0]
  rfl

/-- The mean of their squares. -/
theorem square_eq (g s : FVec Ideal AdamSmallIdeal.S440x128 .f32) : AdamSmallIdeal.Value.G6 (F := Ideal) g s = val_main_v10 (F := Ideal) g s := by
  funext i
  pointwise [val_main_v10, val_main_v9, val_main_v8, val_main_v7, val_main_v6, val_main_v5]
  rfl

/-- The kernel's three results are the reference's: no precondition. -/
theorem algebraic : algebraic_AdamSmallIdeal_AdamSmallRefIdeal := by
  intro m g m' g' _ hag
  refine ⟨_, _, _, AdamSmallIdeal.Value.run m g, ?_⟩
  refine (θ_run AdamSmallRefIdeal.defs _ _).mono (fun r h c => ?_) (AdamSmallRefIdeal.Value.run m' g')
  obtain ⟨e0, e1, e2, k⟩ := h c
  obtain ⟨q0, q1, q2, q3⟩ := hag c
  refine ⟨e0.trans ((val_main_v23_eq _ _ _ _).trans ?_), e1.trans ((val_main_v4_eq _ _).trans ?_), e2.trans ((val_main_v10_eq _ _).trans ?_), k⟩
  · rw [q0, q1, q2, q3]
    exact (step_eq _ _ _ _).symm
  · rw [q0, q2]
    exact (mean_eq _ _).symm
  · rw [q0, q3]
    exact (square_eq _ _).symm

end Cert.AdamSmallPair

end
-- ==== Proof.Triple.lean ====
/- Blocks of one layer, some rows and every column of an array of three axes: where their entries lie, and which entries they hold. -/
module

public import Idealize.ShloMosaic.Lib.Pointwise

@[expose] public section

namespace Cert.Triple

open Idealize.ShloMosaic

/-- Indices of three axes are equal when their places on each are. -/
theorem ext3 {a b d : Nat} {i j : Shape.Idx ⟨3, ![a, b, d]⟩} (h0 : (i 0).val = (j 0).val) (h1 : (i 1).val = (j 1).val) (h2 : (i 2).val = (j 2).val) : i = j :=
  funext fun k => match k with
  | ⟨0, _⟩ => Fin.ext h0
  | ⟨1, _⟩ => Fin.ext h1
  | ⟨2, _⟩ => Fin.ext h2

/-- The places of a block's entries, from the block's index. -/
theorem places {f : Fin 3 → Nat} {n p q : Nat} (e : f = ![p, q, 0]) (y : Shape.Idx ⟨3, ![1, n, 2816]⟩) :
    f 0 * 1 + 1 * (y 0).val = p ∧ f 1 * n + 1 * (y 1).val = q * n + (y 1).val ∧ f 2 * 2816 + 1 * (y 2).val = (y 2).val := by
  have hy : (y 0).val < 1 := (y 0).isLt
  subst e
  refine ⟨?_, ?_, ?_⟩
  · show p * 1 + 1 * (y 0).val = _; omega
  · show q * n + 1 * (y 1).val = _; rw [Nat.one_mul]
  · show 0 * 2816 + 1 * (y 2).val = _; omega

/-- The block of an entry's layer and rows holds it. -/
theorem holds {a b : Nat} {f : Fin 3 → Nat} {n p q : Nat} (e : f = ![p, q, 0]) (i : Shape.Idx ⟨3, ![a, b, 2816]⟩) (h0 : p = (i 0).val)
    (h1 : q * n ≤ (i 1).val ∧ (i 1).val < q * n + n)
    (k : Fin 3) : f k * (![1, n, 2816] : Fin 3 → Nat) k ≤ (i k).val ∧ (i k).val < f k * (![1, n, 2816] : Fin 3 → Nat) k + (![1, n, 2816] : Fin 3 → Nat) k := by
  have b2 : (i 2).val < 2816 := (i 2).isLt
  subst e
  match k with
  | ⟨0, _⟩ => show p * 1 ≤ (i 0).val ∧ (i 0).val < p * 1 + 1; omega
  | ⟨1, _⟩ => exact h1
  | ⟨2, _⟩ => exact ⟨by show 0 * 2816 ≤ (i 2).val; rw [Nat.zero_mul]; exact Nat.zero_le _, by show (i 2).val < 0 * 2816 + 2816; rw [Nat.zero_mul, Nat.zero_add]; exact b2⟩

/-- A block holds entries of its own layer only. -/
theorem layer {a b : Nat} {f : Fin 3 → Nat} {q : Nat} (e : f = ![0, q, 0]) (i : Shape.Idx ⟨3, ![a, b, 2816]⟩) (h : (i 0).val < f 0 * 1 + 1) : (i 0).val = 0 := by
  subst e
  have h' : (i 0).val < 0 * 1 + 1 := h
  omega

end Cert.Triple

end
-- ==== Proof.AdamLayerPair.lean ====
/-
  The optimiser on the layers' weights: the first kernel steps the second layer, and the second kernel writes the first layer into the
  same arrays. What they leave together is what the reference leaves of both layers, on any arguments.
-/
module

public import proofs.«01_k».proof.Defs
public import proofs.«01_k».proof.Proof.Gen.AdamLayerIdeal.Frame
public import proofs.«01_k».proof.Proof.Gen.AdamLayerRefIdeal.Run
public import proofs.«01_k».proof.Proof.Gen.AdamLayerRefIdeal.Read
public import proofs.«01_k».proof.Proof.Triple

@[expose] public section

set_option maxRecDepth 16384

noncomputable section

namespace Cert.AdamLayerIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Triple Cert.AdamLayerIdeal Cert.AdamLayerIdeal.Gen
open Idealize.ShloMosaic (ix1 ix2 ix3 ix4)

/-! One entry of the optimiser's results, from one entry of each argument. -/

/-- The mean of the gradients. -/
def mean (g p : Ideal .f32) : Ideal .f32 :=
  FloatOps.addf (FloatOps.mulf (FloatOps.ofBits .f32 0x3F666666#32) p) (FloatOps.mulf (FloatOps.ofBits .f32 0x3DCCCCCD#32) g)

/-- The mean of their squares. -/
def square (g s : Ideal .f32) : Ideal .f32 :=
  FloatOps.addf (FloatOps.mulf (FloatOps.ofBits .f32 0x3F7FBE77#32) s) (FloatOps.mulf (FloatOps.ofBits .f32 0x3A83126F#32) (FloatOps.mulf g g))

/-- The step of the weight. -/
def move (g w p s : Ideal .f32) : Ideal .f32 :=
  FloatOps.mulf (FloatOps.ofBits .f32 0xBA83126F#32) (FloatOps.addf
    (FloatOps.divf (FloatOps.divf (mean g p) (FloatOps.ofBits .f32 0x3F26BD02#32))
      (FloatOps.addf (FloatOps.sqrt (FloatOps.divf (square g s) (FloatOps.ofBits .f32 0x3C231ACC#32))) (FloatOps.ofBits .f32 0x322BCC77#32)))
    (FloatOps.mulf (FloatOps.ofBits .f32 0x3C23D70A#32) w))

/-- Where a block's entry lies in the block of two axes. -/
abbrev low (y : S1x128x2816.Idx) : S128x2816.Idx := ix2 (y 1) (y 2)

/-- A block given a leading axis, at an entry. -/
theorem lift (x : FVec Ideal S128x2816 .f32) (y : S1x128x2816.Idx) : shapeCast S1x128x2816 x shapeCasts_S128x2816_S1x128x2816 y = x (low y) := by
  have h0 : (y 0).val < 1 := (y 0).isLt
  refine shapeCast_apply x shapeCasts_S128x2816_S1x128x2816 y (low y) ?_
  rewrite [Shape.rowMajor_val_three, Shape.rowMajor_val_two]
  show (y 1).val * 2816 + (y 2).val = ((y 0).val * 128 + (y 1).val) * 2816 + (y 2).val
  omega

/-- A block without its leading axis, at an entry. -/
theorem drop (x : FVec Ideal S1x128x2816 .f32) (y : S1x128x2816.Idx) : shapeCast S128x2816 x shapeCasts_S1x128x2816_S128x2816 (low y) = x y := by
  have h0 : (y 0).val < 1 := (y 0).isLt
  refine shapeCast_apply x shapeCasts_S1x128x2816_S128x2816 (low y) y ?_
  rewrite [Shape.rowMajor_val_three, Shape.rowMajor_val_two]
  show ((y 0).val * 128 + (y 1).val) * 2816 + (y 2).val = (y 1).val * 2816 + (y 2).val
  omega

/-! What a body stores, entry by entry. -/

variable (x0 : Vec Ideal S128x2816 .f32) (x1 x2 x3 : Vec Ideal S1x128x2816 .f32) (y : S1x128x2816.Idx)

/-- The stored gradient. -/
theorem pay_entry : k0_pay7 (F := Ideal) x0 y = x0 (low y) := lift x0 y

/-- The stored mean of the gradients. -/
theorem pay_mean : k0_pay2 (F := Ideal) (k0_pay4 x0 x2) y = mean (x0 (low y)) (x2 y) := by
  refine (lift (k0_pay4 (F := Ideal) x0 x2) y).trans ?_
  show mean (x0 (low y)) (shapeCast S128x2816 x2 shapeCasts_S1x128x2816_S128x2816 (low y)) = _
  rw [drop x2 y]

/-- The stored mean of their squares. -/
theorem pay_square : k0_pay3 (F := Ideal) (k0_pay5 x0 x3) y = square (x0 (low y)) (x3 y) := by
  refine (lift (k0_pay5 (F := Ideal) x0 x3) y).trans ?_
  show square (x0 (low y)) (shapeCast S128x2816 x3 shapeCasts_S1x128x2816_S128x2816 (low y)) = _
  rw [drop x3 y]

/-- The stored step of the weights. -/
theorem pay_move : k0_pay1 (F := Ideal) (k0_pay6 x0 x1 x2 x3) y = move (x0 (low y)) (x1 y) (x2 y) (x3 y) := by
  refine (lift (k0_pay6 (F := Ideal) x0 x1 x2 x3) y).trans ?_
  show move (x0 (low y)) (shapeCast S128x2816 x1 shapeCasts_S1x128x2816_S128x2816 (low y)) (shapeCast S128x2816 x2 shapeCasts_S1x128x2816_S128x2816 (low y))
    (shapeCast S128x2816 x3 shapeCasts_S1x128x2816_S128x2816 (low y)) = _
  rw [drop x1 y, drop x2 y, drop x3 y]

/-- The offsets of a whole block of two axes are zeros. -/
theorem hz2 : (![0, 0] : Fin 2 → Nat) = fun _ => 0 := funext fun a => by fin_cases a <;> rfl
/-- The offsets of a whole block of three axes are zeros. -/
theorem hz : (![0, 0, 0] : Fin 3 → Nat) = fun _ => 0 := funext fun a => by fin_cases a <;> rfl

/-! The first kernel's body. -/

/-- The first kernel's block of the gradients, at an entry. -/
theorem body0_4 : out0_4 (F := Ideal) x0 x1 x2 x3 y = x0 (low y) := by
  unfold out0_4
  rw [View.canon_unit_zero hz]
  simp only [View.ld_unit_zero (S := S1x128x2816) hz, View.ld_unit_zero (S := S128x2816) hz2]
  exact pay_entry x0 y

/-- The first kernel's block of the steps of the weights, at an entry. -/
theorem body0_5 : out0_5 (F := Ideal) x0 x1 x2 x3 y = move (x0 (low y)) (x1 y) (x2 y) (x3 y) := by
  unfold out0_5
  rw [View.canon_unit_zero hz]
  simp only [View.ld_unit_zero (S := S1x128x2816) hz, View.ld_unit_zero (S := S128x2816) hz2]
  exact pay_move x0 x1 x2 x3 y

/-- The first kernel's block of the means of the gradients, at an entry. -/
theorem body0_6 : out0_6 (F := Ideal) x0 x1 x2 x3 y = mean (x0 (low y)) (x2 y) := by
  unfold out0_6
  rw [View.canon_unit_zero hz]
  simp only [View.ld_unit_zero (S := S1x128x2816) hz, View.ld_unit_zero (S := S128x2816) hz2]
  exact pay_mean x0 x2 y

/-- The first kernel's block of the means of their squares, at an entry. -/
theorem body0_7 : out0_7 (F := Ideal) x0 x1 x2 x3 y = square (x0 (low y)) (x3 y) := by
  unfold out0_7
  rw [View.canon_unit_zero hz]
  simp only [View.ld_unit_zero (S := S1x128x2816) hz, View.ld_unit_zero (S := S128x2816) hz2]
  exact pay_square x0 x3 y

/-! The second kernel's body stores the same formulas. -/

variable (c : Dev nD)

/-- The second kernel's block of the gradients, at an entry. -/
theorem body1_4 (i : grid1.Coords) (a0 h0 a1 h1 a2 h2 a3 h3 a4 h4 a5 h5 a6 h6 a7 h7) : out1_A_4 (F := Ideal) c i a0 h0 a1 h1 a2 h2 a3 h3 a4 h4 a5 h5 a6 h6 a7 h7 x0 x1 x2 x3 y = x0 (low y) := by
  unfold out1_A_4
  rw [View.read_writes_eq_canon _ _ _ fun y => cover1_A_4 (y := y) ..]
  unfold kernelRun1_A
  dsimp only
  sl_unfold_words
  rw [View.canon_unit_zero hz]
  simp only [View.readAt_eq_ld, h0.read_unread, h1.read_unread, h2.read_unread, h3.read_unread, View.ld_unit_zero (S := S1x128x2816) hz, View.ld_unit_zero (S := S128x2816) hz2]
  exact pay_entry x0 y

/-- The second kernel's block of the steps of the weights, at an entry. -/
theorem body1_5 (i : grid1.Coords) (a0 h0 a1 h1 a2 h2 a3 h3 a4 h4 a5 h5 a6 h6 a7 h7) : out1_A_5 (F := Ideal) c i a0 h0 a1 h1 a2 h2 a3 h3 a4 h4 a5 h5 a6 h6 a7 h7 x0 x1 x2 x3 y = move (x0 (low y)) (x1 y) (x2 y) (x3 y) := by
  unfold out1_A_5
  rw [View.read_writes_eq_canon _ _ _ fun y => cover1_A_5 (y := y) ..]
  unfold kernelRun1_A
  dsimp only
  sl_unfold_words
  rw [View.canon_unit_zero hz]
  simp only [View.readAt_eq_ld, h0.read_unread, h1.read_unread, h2.read_unread, h3.read_unread, View.ld_unit_zero (S := S1x128x2816) hz, View.ld_unit_zero (S := S128x2816) hz2]
  exact pay_move x0 x1 x2 x3 y

/-- The second kernel's block of the means of the gradients, at an entry. -/
theorem body1_6 (i : grid1.Coords) (a0 h0 a1 h1 a2 h2 a3 h3 a4 h4 a5 h5 a6 h6 a7 h7) : out1_A_6 (F := Ideal) c i a0 h0 a1 h1 a2 h2 a3 h3 a4 h4 a5 h5 a6 h6 a7 h7 x0 x1 x2 x3 y = mean (x0 (low y)) (x2 y) := by
  unfold out1_A_6
  rw [View.read_writes_eq_canon _ _ _ fun y => cover1_A_6 (y := y) ..]
  unfold kernelRun1_A
  dsimp only
  sl_unfold_words
  rw [View.canon_unit_zero hz]
  simp only [View.readAt_eq_ld, h0.read_unread, h1.read_unread, h2.read_unread, h3.read_unread, View.ld_unit_zero (S := S1x128x2816) hz, View.ld_unit_zero (S := S128x2816) hz2]
  exact pay_mean x0 x2 y

/-- The second kernel's block of the means of their squares, at an entry. -/
theorem body1_7 (i : grid1.Coords) (a0 h0 a1 h1 a2 h2 a3 h3 a4 h4 a5 h5 a6 h6 a7 h7) : out1_A_7 (F := Ideal) c i a0 h0 a1 h1 a2 h2 a3 h3 a4 h4 a5 h5 a6 h6 a7 h7 x0 x1 x2 x3 y = square (x0 (low y)) (x3 y) := by
  unfold out1_A_7
  rw [View.read_writes_eq_canon _ _ _ fun y => cover1_A_7 (y := y) ..]
  unfold kernelRun1_A
  dsimp only
  sl_unfold_words
  rw [View.canon_unit_zero hz]
  simp only [View.readAt_eq_ld, h0.read_unread, h1.read_unread, h2.read_unread, h3.read_unread, View.ld_unit_zero (S := S1x128x2816) hz, View.ld_unit_zero (S := S128x2816) hz2]
  exact pay_square x0 x3 y

/-! Where the blocks lie. -/

/-- The first kernel reads the gradient's blocks in the grid's order. -/
theorem in0 : ∀ t : Fin grid0.N, cc0_transform_0 (grid0.coords t) = ![t.val, 0] := by decide +kernel
/-- The first kernel's blocks of the second layer follow the grid's order. -/
theorem at0 : ∀ t : Fin grid0.N, cc0_transform_4 (grid0.coords t) = ![1, t.val, 0] := by decide +kernel
/-- The second kernel reads the gradient's blocks in the grid's order. -/
theorem in1 : ∀ t : Fin grid1.N, cc1_transform_0 (grid1.coords t) = ![t.val, 0] := by decide +kernel
/-- The second kernel's blocks of the first layer follow the grid's order. -/
theorem at1 : ∀ t : Fin grid1.N, cc1_transform_8 (grid1.coords t) = ![0, t.val, 0] := by decide +kernel

/-- The first grid has sixteen points. -/
theorem lt0 (t : Fin grid0.N) : t.val < 16 := lt_of_lt_of_eq t.isLt N_0
/-- The second grid has sixteen points. -/
theorem lt1 (t : Fin grid1.N) : t.val < 16 := lt_of_lt_of_eq t.isLt N_1

/-- A row of a block, in a layer. -/
abbrev row (t : Nat) (h : t < 16) (y : S1x128x2816.Idx) : Fin 2048 := ⟨t * 128 + (y 1).val, by have : (y 1).val < 128 := (y 1).isLt; omega⟩

/-- An entry of a block, in a layer. -/
abbrev here (k : Fin 2) (t : Nat) (h : t < 16) (y : S1x128x2816.Idx) : S2x2048x2816.Idx := ix3 k (row t h y) (y 2)

/-- The places of a gradient's block. -/
theorem spots {f : Fin 2 → Nat} {q : Nat} (e : f = ![q, 0]) (h : q < 16) (y : S1x128x2816.Idx) (k : Fin 2) :
    f k * (![128, 2816] : Fin 2 → Nat) k + 1 * ((low y) k).val = ((ix2 (row q h y) (y 2) : S2048x2816.Idx) k).val := by
  subst e
  match k with
  | ⟨0, _⟩ => show q * 128 + 1 * (y 1).val = q * 128 + (y 1).val; omega
  | ⟨1, _⟩ => show 0 * 2816 + 1 * (y 2).val = (y 2).val; omega

variable (m : (ℓ : Loc nD τ sig) → Buf (Elt Ideal) ℓ) (ρ : Dev nD → PrngReg)

/-! The arguments, and what both layers of the results hold. -/

abbrev grad0 : FVec Ideal S2048x2816 .f32 := m ((c : Thread nD τ).loc main_arg0)
abbrev grad1 : FVec Ideal S2048x2816 .f32 := m ((c : Thread nD τ).loc main_arg1)
abbrev wts : FVec Ideal S2x2048x2816 .f32 := m ((c : Thread nD τ).loc main_arg2)
abbrev mom : FVec Ideal S2x2048x2816 .f32 := m ((c : Thread nD τ).loc main_arg3)
abbrev sqs : FVec Ideal S2x2048x2816 .f32 := m ((c : Thread nD τ).loc main_arg4)

/-- The two layers' gradients, one after the other. -/
def pile : FVec Ideal S2x2048x2816 .f32 := fun i => if (i 0).val = 0 then grad0 c m (ix2 (i 1) (i 2)) else grad1 c m (ix2 (i 1) (i 2))

/-- The steps of the weights, -/
def moved : FVec Ideal S2x2048x2816 .f32 := fun i => move (pile c m i) (wts c m i) (mom c m i) (sqs c m i)

/-- the means of the gradients, -/
def means : FVec Ideal S2x2048x2816 .f32 := fun i => mean (pile c m i) (mom c m i)

/-- and of their squares. -/
def squares : FVec Ideal S2x2048x2816 .f32 := fun i => square (pile c m i) (sqs c m i)

/-! What a point of the first kernel reads. -/

/-- An entry of the gradient block a point of the first kernel reads. -/
theorem read0_0 (t : Fin grid0.N) (y : S1x128x2816.Idx) : (iblk0 (V0 m ρ) c 0 t : Vec Ideal S128x2816 .f32) (low y) = pile c m (here 1 t.val (lt0 t) y) :=
  congrArg (grad1 c m) (funext fun k => Fin.ext (spots (in0 t) (lt0 t) y k))

/-- An entry of the weights block a point of the first kernel reads. -/
theorem read0_1 (t : Fin grid0.N) (y : S1x128x2816.Idx) : (iblk0 (V0 m ρ) c 1 t : Vec Ideal S1x128x2816 .f32) y = wts c m (here 1 t.val (lt0 t) y) := by
  obtain ⟨h0, h1, h2⟩ := places (at0 t) y
  exact congrArg (wts c m) (ext3 h0 h1 h2)

/-- An entry of the first mean block a point of the first kernel reads. -/
theorem read0_2 (t : Fin grid0.N) (y : S1x128x2816.Idx) : (iblk0 (V0 m ρ) c 2 t : Vec Ideal S1x128x2816 .f32) y = mom c m (here 1 t.val (lt0 t) y) := by
  obtain ⟨h0, h1, h2⟩ := places (at0 t) y
  exact congrArg (mom c m) (ext3 h0 h1 h2)

/-- An entry of the second mean block a point of the first kernel reads. -/
theorem read0_3 (t : Fin grid0.N) (y : S1x128x2816.Idx) : (iblk0 (V0 m ρ) c 3 t : Vec Ideal S1x128x2816 .f32) y = sqs c m (here 1 t.val (lt0 t) y) := by
  obtain ⟨h0, h1, h2⟩ := places (at0 t) y
  exact congrArg (sqs c m) (ext3 h0 h1 h2)

/-! What a point of the second kernel reads. -/

/-- An entry of the gradient block a point of the second kernel reads. -/
theorem read1_0 (t : Fin grid1.N) (y : S1x128x2816.Idx) : (iblk1 (V2 m ρ) c 0 t : Vec Ideal S128x2816 .f32) (low y) = pile c m (here 0 t.val (lt1 t) y) :=
  (congrFun (W2_args m ρ c main_arg0 (by decide)) _).trans (congrArg (grad0 c m) (funext fun k => Fin.ext (spots (in1 t) (lt1 t) y k)))

/-- An entry of the weights block a point of the second kernel reads. -/
theorem read1_1 (t : Fin grid1.N) (y : S1x128x2816.Idx) : (iblk1 (V2 m ρ) c 1 t : Vec Ideal S1x128x2816 .f32) y = wts c m (here 0 t.val (lt1 t) y) := by
  obtain ⟨h0, h1, h2⟩ := places (at1 t) y
  exact (congrFun (W2_args m ρ c main_arg2 (by decide)) _).trans (congrArg (wts c m) (ext3 h0 h1 h2))

/-- An entry of the first mean block a point of the second kernel reads. -/
theorem read1_2 (t : Fin grid1.N) (y : S1x128x2816.Idx) : (iblk1 (V2 m ρ) c 2 t : Vec Ideal S1x128x2816 .f32) y = mom c m (here 0 t.val (lt1 t) y) := by
  obtain ⟨h0, h1, h2⟩ := places (at1 t) y
  exact (congrFun (W2_args m ρ c main_arg3 (by decide)) _).trans (congrArg (mom c m) (ext3 h0 h1 h2))

/-- An entry of the second mean block a point of the second kernel reads. -/
theorem read1_3 (t : Fin grid1.N) (y : S1x128x2816.Idx) : (iblk1 (V2 m ρ) c 3 t : Vec Ideal S1x128x2816 .f32) y = sqs c m (here 0 t.val (lt1 t) y) := by
  obtain ⟨h0, h1, h2⟩ := places (at1 t) y
  exact (congrFun (W2_args m ρ c main_arg4 (by decide)) _).trans (congrArg (sqs c m) (ext3 h0 h1 h2))

/-! What a point of the first kernel leaves, and the second layer of its arrays. -/

/-- An entry of the gradients a point of the first kernel leaves. -/
theorem left0_4 (t : Fin grid0.N) (y : S1x128x2816.Idx) :
    out0_4 (F := Ideal) (iblk0 (V0 m ρ) c 0 t) (iblk0 (V0 m ρ) c 1 t) (iblk0 (V0 m ρ) c 2 t) (iblk0 (V0 m ρ) c 3 t) y = pile c m (here 1 t.val (lt0 t) y) := by
  refine (body0_4 _ _ _ _ y).trans ?_
  rw [read0_0 c m ρ t y]

/-- An entry of the steps of the weights a point of the first kernel leaves. -/
theorem left0_5 (t : Fin grid0.N) (y : S1x128x2816.Idx) :
    out0_5 (F := Ideal) (iblk0 (V0 m ρ) c 0 t) (iblk0 (V0 m ρ) c 1 t) (iblk0 (V0 m ρ) c 2 t) (iblk0 (V0 m ρ) c 3 t) y = moved c m (here 1 t.val (lt0 t) y) := by
  refine (body0_5 _ _ _ _ y).trans ?_
  rw [read0_0 c m ρ t y, read0_1 c m ρ t y, read0_2 c m ρ t y, read0_3 c m ρ t y]
  rfl

/-- An entry of the means of the gradients a point of the first kernel leaves. -/
theorem left0_6 (t : Fin grid0.N) (y : S1x128x2816.Idx) :
    out0_6 (F := Ideal) (iblk0 (V0 m ρ) c 0 t) (iblk0 (V0 m ρ) c 1 t) (iblk0 (V0 m ρ) c 2 t) (iblk0 (V0 m ρ) c 3 t) y = means c m (here 1 t.val (lt0 t) y) := by
  refine (body0_6 _ _ _ _ y).trans ?_
  rw [read0_0 c m ρ t y, read0_2 c m ρ t y]
  rfl

/-- An entry of the means of their squares a point of the first kernel leaves. -/
theorem left0_7 (t : Fin grid0.N) (y : S1x128x2816.Idx) :
    out0_7 (F := Ideal) (iblk0 (V0 m ρ) c 0 t) (iblk0 (V0 m ρ) c 1 t) (iblk0 (V0 m ρ) c 2 t) (iblk0 (V0 m ρ) c 3 t) y = squares c m (here 1 t.val (lt0 t) y) := by
  refine (body0_7 _ _ _ _ y).trans ?_
  rw [read0_0 c m ρ t y, read0_3 c m ρ t y]
  rfl

/-- The second layer of the gradients, after the first kernel. -/
theorem final0_4 (i : S2x2048x2816.Idx) (h : (i 0).val = 1) : ((dat0 (V0 m ρ) c).arrAt 4 grid0.N : FVec Ideal S2x2048x2816 .f32) i = pile c m i := by
  have b1 : (i 1).val < 2048 := (i 1).isLt
  obtain ⟨p, hv⟩ : ∃ p : Fin grid0.N, p.val = (i 1).val / 128 := ⟨⟨(i 1).val / 128, by rw [N_0]; omega⟩, rfl⟩
  refine (dat0 (V0 m ρ) c).arrAt_apply_of_mem 4 (pile c m) (fun t _ => ?_) grid0.N p i p.isLt (flush0_4 p)
    ((congrArg (fun s => i ∈ s) (View.set_slice_whole main_v0_0 _)).mpr ((Rect.mem_set_unit ..).mpr (holds (at0 p) i h.symm (by omega))))
  show (dat0 (V0 m ρ) c).after 4 t = _
  rw [after0_4]
  funext y
  obtain ⟨h0, h1, h2⟩ := places (at0 t) y
  exact (left0_4 c m ρ t y).trans (congrArg (pile c m) (ext3 h0 h1 h2 : _ = here 1 t.val (lt0 t) y).symm)

/-- The second layer of the steps of the weights, after the first kernel. -/
theorem final0_5 (i : S2x2048x2816.Idx) (h : (i 0).val = 1) : ((dat0 (V0 m ρ) c).arrAt 5 grid0.N : FVec Ideal S2x2048x2816 .f32) i = moved c m i := by
  have b1 : (i 1).val < 2048 := (i 1).isLt
  obtain ⟨p, hv⟩ : ∃ p : Fin grid0.N, p.val = (i 1).val / 128 := ⟨⟨(i 1).val / 128, by rw [N_0]; omega⟩, rfl⟩
  refine (dat0 (V0 m ρ) c).arrAt_apply_of_mem 5 (moved c m) (fun t _ => ?_) grid0.N p i p.isLt (flush0_5 p)
    ((congrArg (fun s => i ∈ s) (View.set_slice_whole main_v0_1 _)).mpr ((Rect.mem_set_unit ..).mpr (holds (at0 p) i h.symm (by omega))))
  show (dat0 (V0 m ρ) c).after 5 t = _
  rw [after0_5]
  funext y
  obtain ⟨h0, h1, h2⟩ := places (at0 t) y
  exact (left0_5 c m ρ t y).trans (congrArg (moved c m) (ext3 h0 h1 h2 : _ = here 1 t.val (lt0 t) y).symm)

/-- The second layer of the means of the gradients, after the first kernel. -/
theorem final0_6 (i : S2x2048x2816.Idx) (h : (i 0).val = 1) : ((dat0 (V0 m ρ) c).arrAt 6 grid0.N : FVec Ideal S2x2048x2816 .f32) i = means c m i := by
  have b1 : (i 1).val < 2048 := (i 1).isLt
  obtain ⟨p, hv⟩ : ∃ p : Fin grid0.N, p.val = (i 1).val / 128 := ⟨⟨(i 1).val / 128, by rw [N_0]; omega⟩, rfl⟩
  refine (dat0 (V0 m ρ) c).arrAt_apply_of_mem 6 (means c m) (fun t _ => ?_) grid0.N p i p.isLt (flush0_6 p)
    ((congrArg (fun s => i ∈ s) (View.set_slice_whole main_v0_2 _)).mpr ((Rect.mem_set_unit ..).mpr (holds (at0 p) i h.symm (by omega))))
  show (dat0 (V0 m ρ) c).after 6 t = _
  rw [after0_6]
  funext y
  obtain ⟨h0, h1, h2⟩ := places (at0 t) y
  exact (left0_6 c m ρ t y).trans (congrArg (means c m) (ext3 h0 h1 h2 : _ = here 1 t.val (lt0 t) y).symm)

/-- The second layer of the means of their squares, after the first kernel. -/
theorem final0_7 (i : S2x2048x2816.Idx) (h : (i 0).val = 1) : ((dat0 (V0 m ρ) c).arrAt 7 grid0.N : FVec Ideal S2x2048x2816 .f32) i = squares c m i := by
  have b1 : (i 1).val < 2048 := (i 1).isLt
  obtain ⟨p, hv⟩ : ∃ p : Fin grid0.N, p.val = (i 1).val / 128 := ⟨⟨(i 1).val / 128, by rw [N_0]; omega⟩, rfl⟩
  refine (dat0 (V0 m ρ) c).arrAt_apply_of_mem 7 (squares c m) (fun t _ => ?_) grid0.N p i p.isLt (flush0_7 p)
    ((congrArg (fun s => i ∈ s) (View.set_slice_whole main_v0_3 _)).mpr ((Rect.mem_set_unit ..).mpr (holds (at0 p) i h.symm (by omega))))
  show (dat0 (V0 m ρ) c).after 7 t = _
  rw [after0_7]
  funext y
  obtain ⟨h0, h1, h2⟩ := places (at0 t) y
  exact (left0_7 c m ρ t y).trans (congrArg (squares c m) (ext3 h0 h1 h2 : _ = here 1 t.val (lt0 t) y).symm)

/-! The second kernel is entered with those arrays, -/

/-- The second kernel's array of the gradients starts as the first kernel left it. -/
theorem entered_0 : V2 m ρ c main_v1_0 = (dat0 (V0 m ρ) c).arrAt 4 grid0.N := by
  refine Eq.trans ?_ (W1_arr m ρ c 4)
  show StableHlo.after hostOps1 (W1 m ρ c) (Proc.devRef .tc main_v1_0) = _
  generalize W1 m ρ c = W
  after_results
  rfl

/-- The second kernel's array of the steps of the weights starts as the first kernel left it. -/
theorem entered_1 : V2 m ρ c main_v1_1 = (dat0 (V0 m ρ) c).arrAt 5 grid0.N := by
  refine Eq.trans ?_ (W1_arr m ρ c 5)
  show StableHlo.after hostOps1 (W1 m ρ c) (Proc.devRef .tc main_v1_1) = _
  generalize W1 m ρ c = W
  after_results
  rfl

/-- The second kernel's array of the means of the gradients starts as the first kernel left it. -/
theorem entered_2 : V2 m ρ c main_v1_2 = (dat0 (V0 m ρ) c).arrAt 6 grid0.N := by
  refine Eq.trans ?_ (W1_arr m ρ c 6)
  show StableHlo.after hostOps1 (W1 m ρ c) (Proc.devRef .tc main_v1_2) = _
  generalize W1 m ρ c = W
  after_results
  rfl

/-- The second kernel's array of the means of their squares starts as the first kernel left it. -/
theorem entered_3 : V2 m ρ c main_v1_3 = (dat0 (V0 m ρ) c).arrAt 7 grid0.N := by
  refine Eq.trans ?_ (W1_arr m ρ c 7)
  show StableHlo.after hostOps1 (W1 m ρ c) (Proc.devRef .tc main_v1_3) = _
  generalize W1 m ρ c = W
  after_results
  rfl

/-! leaves the first layer, and keeps the second. -/

/-- An entry of the gradients a point of the second kernel leaves. -/
theorem left1_4 (t : Fin grid1.N) (y : S1x128x2816.Idx) : (outsAt1 (V2 m ρ) c t).1 y = pile c m (here 0 t.val (lt1 t) y) := by
  unfold outsAt1
  dsimp only
  refine (body1_4 (iblk1 (V2 m ρ) c 0 t) (iblk1 (V2 m ρ) c 1 t) (iblk1 (V2 m ρ) c 2 t) (iblk1 (V2 m ρ) c 3 t) y c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)).trans ?_
  rw [read1_0 c m ρ t y]

/-- An entry of the steps of the weights a point of the second kernel leaves. -/
theorem left1_5 (t : Fin grid1.N) (y : S1x128x2816.Idx) : (outsAt1 (V2 m ρ) c t).2.1 y = moved c m (here 0 t.val (lt1 t) y) := by
  unfold outsAt1
  dsimp only
  refine (body1_5 (iblk1 (V2 m ρ) c 0 t) (iblk1 (V2 m ρ) c 1 t) (iblk1 (V2 m ρ) c 2 t) (iblk1 (V2 m ρ) c 3 t) y c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)).trans ?_
  rw [read1_0 c m ρ t y, read1_1 c m ρ t y, read1_2 c m ρ t y, read1_3 c m ρ t y]
  rfl

/-- An entry of the means of the gradients a point of the second kernel leaves. -/
theorem left1_6 (t : Fin grid1.N) (y : S1x128x2816.Idx) : (outsAt1 (V2 m ρ) c t).2.2.1 y = means c m (here 0 t.val (lt1 t) y) := by
  unfold outsAt1
  dsimp only
  refine (body1_6 (iblk1 (V2 m ρ) c 0 t) (iblk1 (V2 m ρ) c 1 t) (iblk1 (V2 m ρ) c 2 t) (iblk1 (V2 m ρ) c 3 t) y c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)).trans ?_
  rw [read1_0 c m ρ t y, read1_2 c m ρ t y]
  rfl

/-- An entry of the means of their squares a point of the second kernel leaves. -/
theorem left1_7 (t : Fin grid1.N) (y : S1x128x2816.Idx) : (outsAt1 (V2 m ρ) c t).2.2.2 y = squares c m (here 0 t.val (lt1 t) y) := by
  unfold outsAt1
  dsimp only
  refine (body1_7 (iblk1 (V2 m ρ) c 0 t) (iblk1 (V2 m ρ) c 1 t) (iblk1 (V2 m ρ) c 2 t) (iblk1 (V2 m ρ) c 3 t) y c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)).trans ?_
  rw [read1_0 c m ρ t y, read1_3 c m ρ t y]
  rfl

/-- The gradients. -/
theorem final1_4 (i : S2x2048x2816.Idx) : ((dat1 (V2 m ρ) c).arrAt 4 grid1.N : FVec Ideal S2x2048x2816 .f32) i = pile c m i := by
  have b0 : (i 0).val < 2 := (i 0).isLt
  have b1 : (i 1).val < 2048 := (i 1).isLt
  by_cases h : (i 0).val = 0
  · obtain ⟨p, hv⟩ : ∃ p : Fin grid1.N, p.val = (i 1).val / 128 := ⟨⟨(i 1).val / 128, by rw [N_1]; omega⟩, rfl⟩
    refine (dat1 (V2 m ρ) c).arrAt_apply_of_mem 4 (pile c m) (fun t _ => ?_) grid1.N p i p.isLt (flush1_4 p)
      ((congrArg (fun s => i ∈ s) (View.set_slice_whole main_v1_0 _)).mpr ((Rect.mem_set_unit ..).mpr (holds (at1 p) i h.symm (by omega))))
    show (dat1 (V2 m ρ) c).after 4 t = _
    rw [after1_4]
    funext y
    obtain ⟨h0, h1, h2⟩ := places (at1 t) y
    exact (left1_4 c m ρ t y).trans (congrArg (pile c m) (ext3 h0 h1 h2 : _ = here 0 t.val (lt1 t) y).symm)
  · refine ((dat1 (V2 m ρ) c).arrAt_apply_of_forall_not_mem 4 grid1.N i fun t _ _ hi => h ?_).trans
      ((congrFun (A_eq1 (V2 m ρ) c 4) i).trans ((congrFun (entered_0 c m ρ) i).trans (final0_4 c m ρ i (by omega))))
    exact layer (at1 t) i ((Rect.mem_set_unit ..).mp ((congrArg (fun s => i ∈ s) (View.set_slice_whole main_v1_0 _)).mp hi) 0).2

/-- The steps of the weights. -/
theorem final1_5 (i : S2x2048x2816.Idx) : ((dat1 (V2 m ρ) c).arrAt 5 grid1.N : FVec Ideal S2x2048x2816 .f32) i = moved c m i := by
  have b0 : (i 0).val < 2 := (i 0).isLt
  have b1 : (i 1).val < 2048 := (i 1).isLt
  by_cases h : (i 0).val = 0
  · obtain ⟨p, hv⟩ : ∃ p : Fin grid1.N, p.val = (i 1).val / 128 := ⟨⟨(i 1).val / 128, by rw [N_1]; omega⟩, rfl⟩
    refine (dat1 (V2 m ρ) c).arrAt_apply_of_mem 5 (moved c m) (fun t _ => ?_) grid1.N p i p.isLt (flush1_5 p)
      ((congrArg (fun s => i ∈ s) (View.set_slice_whole main_v1_1 _)).mpr ((Rect.mem_set_unit ..).mpr (holds (at1 p) i h.symm (by omega))))
    show (dat1 (V2 m ρ) c).after 5 t = _
    rw [after1_5]
    funext y
    obtain ⟨h0, h1, h2⟩ := places (at1 t) y
    exact (left1_5 c m ρ t y).trans (congrArg (moved c m) (ext3 h0 h1 h2 : _ = here 0 t.val (lt1 t) y).symm)
  · refine ((dat1 (V2 m ρ) c).arrAt_apply_of_forall_not_mem 5 grid1.N i fun t _ _ hi => h ?_).trans
      ((congrFun (A_eq1 (V2 m ρ) c 5) i).trans ((congrFun (entered_1 c m ρ) i).trans (final0_5 c m ρ i (by omega))))
    exact layer (at1 t) i ((Rect.mem_set_unit ..).mp ((congrArg (fun s => i ∈ s) (View.set_slice_whole main_v1_1 _)).mp hi) 0).2

/-- The means of the gradients. -/
theorem final1_6 (i : S2x2048x2816.Idx) : ((dat1 (V2 m ρ) c).arrAt 6 grid1.N : FVec Ideal S2x2048x2816 .f32) i = means c m i := by
  have b0 : (i 0).val < 2 := (i 0).isLt
  have b1 : (i 1).val < 2048 := (i 1).isLt
  by_cases h : (i 0).val = 0
  · obtain ⟨p, hv⟩ : ∃ p : Fin grid1.N, p.val = (i 1).val / 128 := ⟨⟨(i 1).val / 128, by rw [N_1]; omega⟩, rfl⟩
    refine (dat1 (V2 m ρ) c).arrAt_apply_of_mem 6 (means c m) (fun t _ => ?_) grid1.N p i p.isLt (flush1_6 p)
      ((congrArg (fun s => i ∈ s) (View.set_slice_whole main_v1_2 _)).mpr ((Rect.mem_set_unit ..).mpr (holds (at1 p) i h.symm (by omega))))
    show (dat1 (V2 m ρ) c).after 6 t = _
    rw [after1_6]
    funext y
    obtain ⟨h0, h1, h2⟩ := places (at1 t) y
    exact (left1_6 c m ρ t y).trans (congrArg (means c m) (ext3 h0 h1 h2 : _ = here 0 t.val (lt1 t) y).symm)
  · refine ((dat1 (V2 m ρ) c).arrAt_apply_of_forall_not_mem 6 grid1.N i fun t _ _ hi => h ?_).trans
      ((congrFun (A_eq1 (V2 m ρ) c 6) i).trans ((congrFun (entered_2 c m ρ) i).trans (final0_6 c m ρ i (by omega))))
    exact layer (at1 t) i ((Rect.mem_set_unit ..).mp ((congrArg (fun s => i ∈ s) (View.set_slice_whole main_v1_2 _)).mp hi) 0).2

/-- The means of their squares. -/
theorem final1_7 (i : S2x2048x2816.Idx) : ((dat1 (V2 m ρ) c).arrAt 7 grid1.N : FVec Ideal S2x2048x2816 .f32) i = squares c m i := by
  have b0 : (i 0).val < 2 := (i 0).isLt
  have b1 : (i 1).val < 2048 := (i 1).isLt
  by_cases h : (i 0).val = 0
  · obtain ⟨p, hv⟩ : ∃ p : Fin grid1.N, p.val = (i 1).val / 128 := ⟨⟨(i 1).val / 128, by rw [N_1]; omega⟩, rfl⟩
    refine (dat1 (V2 m ρ) c).arrAt_apply_of_mem 7 (squares c m) (fun t _ => ?_) grid1.N p i p.isLt (flush1_7 p)
      ((congrArg (fun s => i ∈ s) (View.set_slice_whole main_v1_3 _)).mpr ((Rect.mem_set_unit ..).mpr (holds (at1 p) i h.symm (by omega))))
    show (dat1 (V2 m ρ) c).after 7 t = _
    rw [after1_7]
    funext y
    obtain ⟨h0, h1, h2⟩ := places (at1 t) y
    exact (left1_7 c m ρ t y).trans (congrArg (squares c m) (ext3 h0 h1 h2 : _ = here 0 t.val (lt1 t) y).symm)
  · refine ((dat1 (V2 m ρ) c).arrAt_apply_of_forall_not_mem 7 grid1.N i fun t _ _ hi => h ?_).trans
      ((congrFun (A_eq1 (V2 m ρ) c 7) i).trans ((congrFun (entered_3 c m ρ) i).trans (final0_7 c m ρ i (by omega))))
    exact layer (at1 t) i ((Rect.mem_set_unit ..).mp ((congrArg (fun s => i ∈ s) (View.set_slice_whole main_v1_3 _)).mp hi) 0).2

local notation "𝕄" => MT nD τ sig Unit (Elt Ideal) ℕ (UR sig nD τ) ℕ

-- the launch's implicit arguments are found by unifying its conclusion with this one, through plain definitions in a type
set_option backward.isDefEq.respectTransparency.types false in
/-- Every buffer of the program ends with what the two regions leave: the launch over the host stretch and the regions. -/
theorem run : θ_run defs (onTc (τ := τ) (main (F := Ideal))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

end Cert.AdamLayerIdeal.Hand

namespace Cert.AdamLayerPair

open Idealize.ShloMosaic Idealize.ShloMosaic.TcCoe Cert.AdamLayerIdeal Cert.AdamLayerIdeal.Hand
open Cert.AdamLayerRefIdeal.Read
open Idealize.ShloMosaic (ix1 ix2 ix3 ix4)

variable (c : Dev nD) (m : (ℓ : Loc nD τ sig) → Buf (Elt Ideal) ℓ)

/-- The reference joins the two gradients. -/
theorem ref_pile : val_main_v2 (F := Ideal) (grad0 c m) (grad1 c m) = pile c m := by
  funext i
  unfold val_main_v2
  by_cases h : (i 0).val = 0
  · refine (concatenate_pair_apply_left (t := S2x2048x2816) (s₁ := AdamLayerRefIdeal.S1x2048x2816) (s₂ := AdamLayerRefIdeal.S1x2048x2816) 0 _ _ _ i rfl (ix3 0 (i 1) (i 2)) ?_).trans
      ((val_main_v0_apply _ _).trans ((congrArg (grad0 c m) ?_).trans (if_pos h).symm))
    · intro b
      match b with
      | ⟨0, _⟩ => exact h.symm
      | ⟨1, _⟩ => rfl
      | ⟨2, _⟩ => rfl
    · funext a
      match a with
      | ⟨0, _⟩ => rfl
      | ⟨1, _⟩ => rfl
  · refine (concatenate_pair_apply_right (t := S2x2048x2816) (s₁ := AdamLayerRefIdeal.S1x2048x2816) (s₂ := AdamLayerRefIdeal.S1x2048x2816) 0 _ _ _ i rfl rfl (ix3 0 (i 1) (i 2)) ?_ ?_).trans
      ((val_main_v1_apply _ _).trans ((congrArg (grad1 c m) ?_).trans (if_neg h).symm))
    · intro b hb
      match b with
      | ⟨0, _⟩ => exact absurd rfl hb
      | ⟨1, _⟩ => rfl
      | ⟨2, _⟩ => rfl
    · have b0 : (i 0).val < 2 := (i 0).isLt
      show 0 + 1 = (i 0).val
      omega
    · funext a
      match a with
      | ⟨0, _⟩ => rfl
      | ⟨1, _⟩ => rfl

/-- The reference's means of the gradients. -/
theorem ref_means : val_main_v7 (F := Ideal) (grad0 c m) (grad1 c m) (mom c m) = means c m := by
  funext i
  show mean (val_main_v2 (F := Ideal) (grad0 c m) (grad1 c m) i) (mom c m i) = _
  rw [ref_pile]
  rfl

/-- The reference's means of the squares. -/
theorem ref_squares : val_main_v13 (F := Ideal) (grad0 c m) (grad1 c m) (sqs c m) = squares c m := by
  funext i
  show square (val_main_v2 (F := Ideal) (grad0 c m) (grad1 c m) i) (sqs c m i) = _
  rw [ref_pile]
  rfl

/-- The reference's steps of the weights. -/
theorem ref_moved : val_main_v26 (F := Ideal) (grad0 c m) (grad1 c m) (wts c m) (mom c m) (sqs c m) = moved c m := by
  funext i
  show move (val_main_v2 (F := Ideal) (grad0 c m) (grad1 c m) i) (wts c m i) (mom c m i) (sqs c m i) = _
  rw [ref_pile]
  rfl

/-- The kernels' four results are the reference's: no precondition. -/
theorem algebraic : algebraic_AdamLayerIdeal_AdamLayerRefIdeal := by
  intro m g m' g' _ hag
  refine ⟨fun c => pile c m, fun c => moved c m, fun c => means c m, fun c => squares c m, ?_, ?_⟩
  · refine (θ_run AdamLayerIdeal.defs _ _).mono (fun r h c => ?_) (run m g)
    exact ⟨(h c _ (Gen.mem_uc main_v1_0 (by decide))).trans ((Gen.W3_arr m g c 4).trans (funext fun i => final1_4 c m g i)),
      (h c _ (Gen.mem_uc main_v1_1 (by decide))).trans ((Gen.W3_arr m g c 5).trans (funext fun i => final1_5 c m g i)),
      (h c _ (Gen.mem_uc main_v1_2 (by decide))).trans ((Gen.W3_arr m g c 6).trans (funext fun i => final1_6 c m g i)),
      (h c _ (Gen.mem_uc main_v1_3 (by decide))).trans ((Gen.W3_arr m g c 7).trans (funext fun i => final1_7 c m g i)),
      (h c _ (Gen.mem_uc main_arg0 (by decide))).trans (Gen.W3_main_arg0 m g c),
      (h c _ (Gen.mem_uc main_arg1 (by decide))).trans (Gen.W3_main_arg1 m g c),
      (h c _ (Gen.mem_uc main_arg2 (by decide))).trans (Gen.W3_main_arg2 m g c),
      (h c _ (Gen.mem_uc main_arg3 (by decide))).trans (Gen.W3_main_arg3 m g c),
      (h c _ (Gen.mem_uc main_arg4 (by decide))).trans (Gen.W3_main_arg4 m g c)⟩
  · refine (θ_run AdamLayerRefIdeal.defs _ _).mono (fun r h c => ?_) (AdamLayerRefIdeal.Value.run m' g')
    obtain ⟨e0, e1, e2, e3, k⟩ := h c
    obtain ⟨q0, q1, q2, q3, q4⟩ := hag c
    refine ⟨e0.trans ((val_main_v2_eq _ _).trans ?_), e1.trans ((val_main_v26_eq _ _ _ _ _).trans ?_), e2.trans ((val_main_v7_eq _ _ _).trans ?_), e3.trans ((val_main_v13_eq _ _ _).trans ?_), k⟩
    · rw [q0, q1]
      exact ref_pile c m
    · rw [q0, q1, q2, q3, q4]
      exact ref_moved c m
    · rw [q0, q1, q3]
      exact ref_means c m
    · rw [q0, q1, q4]
      exact ref_squares c m

end Cert.AdamLayerPair

end
-- ==== Proof.AddHalfPair.lean ====
/-
  The half of a weight's gradient that a core keeps, added to its sibling's and narrowed. The table of the device's place holds
  zeros, so the index map that reads it is the plain one. On any arguments the kernel's array is the reference's.
-/
module

public import proofs.«01_k».proof.Defs
public import proofs.«01_k».proof.Proof.Gen.AddHalf.Frame
public import proofs.«01_k».proof.Proof.Gen.AddHalfIdeal.Frame
public import proofs.«01_k».proof.Proof.Gen.AddHalfRefIdeal.Run
public import proofs.«01_k».proof.Proof.Gen.AddHalfRefIdeal.Read
public import proofs.«01_k».proof.Proof.Triple

@[expose] public section

set_option maxRecDepth 16384

noncomputable section

namespace Cert.AddHalf.Hand

open Idealize.ShloMosaic Idealize.ShloMosaic.TcCoe Cert.AddHalf Cert.AddHalf.Gen

variable {F : FTy → Type} [FloatOps F] (m : (ℓ : Loc nD τ sig) → Buf (Elt F) ℓ)

/-- The table holds zeros. -/
theorem table : (tbl m 0 : Vec F S2 .i32) = fun _ => 0#32 := by
  show (V m 0 main_v0 : Vec F S2 .i32) = _
  unfold V
  after_results_simp <;> rfl

/-- The kept half's blocks are read in the grid's order. -/
theorem place (i : grid0.Coords) : cc0_transform_0 inb_S2_S1_0 numel1_S1 (tbl m) i = ![(i 0).val, (i 1).val, 0] := by
  have h : (tbl m).at 0 (Rect.unit (s := S2) ![0] S1.size inb_S2_S1_0) numel1_S1 = 0#32 := congrFun (table m) _
  unfold cc0_transform_0
  rw [h]
  clear h
  revert i
  decide +kernel

/-- They lie in the array. -/
theorem ok : Ok m := fun i => ⟨fun a => by
  rw [place m i]
  exact (by decide +kernel : ∀ (i : grid0.Coords) (a : Fin 3), (![(i 0).val, (i 1).val, 0] a + 1) * S1x256x2816.size a ≤ S4x2048x2816.size a) i a, .inl rfl⟩

end Cert.AddHalf.Hand

namespace Cert.AddHalfIdeal.Hand

open Idealize.ShloMosaic Idealize.ShloMosaic.TcCoe Cert.Triple Cert.AddHalfIdeal Cert.AddHalfIdeal.Gen
open Idealize.ShloMosaic (ix1 ix2 ix3 ix4)

variable (m : (ℓ : Loc nD τ sig) → Buf (Elt Ideal) ℓ) (c : Dev nD)

theorem table : (tbl m 0 : Vec Ideal S2 .i32) = fun _ => 0#32 := by
  show (V m 0 main_v0 : Vec Ideal S2 .i32) = _
  unfold V
  after_results_simp <;> rfl

theorem place (i : grid0.Coords) : cc0_transform_0 inb_S2_S1_0 numel1_S1 (tbl m) i = ![(i 0).val, (i 1).val, 0] := by
  have h : (tbl m).at 0 (Rect.unit (s := S2) ![0] S1.size inb_S2_S1_0) numel1_S1 = 0#32 := congrFun (table m) _
  unfold cc0_transform_0
  rw [h]
  clear h
  revert i
  decide +kernel

theorem ok : Ok m := fun i => ⟨fun a => by
  rw [place m i]
  exact (by decide +kernel : ∀ (i : grid0.Coords) (a : Fin 3), (![(i 0).val, (i 1).val, 0] a + 1) * S1x256x2816.size a ≤ S4x2048x2816.size a) i a, .inl rfl⟩

/-- The gradient, -/
abbrev grad : FVec Ideal S4x2048x2816 .f32 := m ((c : Thread nD τ).loc main_arg0)
/-- and the sibling's half. -/
abbrev theirs : FVec Ideal S4x1024x2816 .f32 := m ((c : Thread nD τ).loc main_arg1)

/-- Where an entry of the result lies in the gradient. -/
abbrev wide (i : S4x1024x2816.Idx) : S4x2048x2816.Idx := ix3 (i 0) ⟨(i 1).val, lt_trans (i 1).isLt (by decide)⟩ (i 2)

/-- An entry of the result. -/
def entry (g : FVec Ideal S4x2048x2816 .f32) (h : FVec Ideal S4x1024x2816 .f32) (i : S4x1024x2816.Idx) : EReal :=
  (g (wide i) : EReal) + h i

theorem pay1_apply (x y : Vec Ideal S1x256x2816 .f32) (i : S1x256x2816.Idx) : k0_pay1 (F := Ideal) x y i = (x i : EReal) + y i := by
  rw [eq_ix3 i]
  pointwise [k0_pay1]

theorem hz : (![0, 0, 0] : Fin 3 → Nat) = fun _ => 0 := funext fun a => by fin_cases a <;> rfl

theorem idx0 (t : Fin grid0.N) : cc0_transform_0 inb_S2_S1_0 numel1_S1 (tbl m) (grid0.coords t) = ![t.val / 4, t.val % 4, 0] :=
  (place m (grid0.coords t)).trans ((by decide +kernel : ∀ t : Fin grid0.N, (![(grid0.coords t 0).val, (grid0.coords t 1).val, 0] : Fin 3 → Nat) = ![t.val / 4, t.val % 4, 0]) t)
theorem idx1 : ∀ t : Fin grid0.N, cc0_transform_1 (grid0.coords t) = ![t.val / 4, t.val % 4, 0] := by decide +kernel
theorem idx2 : ∀ t : Fin grid0.N, cc0_transform_2 (grid0.coords t) = ![t.val / 4, t.val % 4, 0] := by decide +kernel

/-- What the body leaves of its two blocks, -/
theorem body (i : grid0.Coords) (a0 h0 a1 h1 a2 h2) (x0 x1 : Vec Ideal S1x256x2816 .f32) (xt) :
    out0_A_2 (F := Ideal) c i a0 h0 a1 h1 a2 h2 x0 x1 xt = k0_pay1 (F := Ideal) x0 x1 := by
  unfold out0_A_2
  rw [View.read_writes_eq_canon _ _ _ fun y => cover0_A_2 (y := y) ..]
  unfold kernelRun0_A
  dsimp only
  sl_unfold_words
  rw [View.canon_unit_zero hz]
  simp only [View.readAt_eq_ld, h0.read_unread, h1.read_unread, View.ld_unit_zero (S := S1x256x2816) hz]

theorem lt16 (t : Fin grid0.N) : t.val < 16 := lt_of_lt_of_eq t.isLt N_0

/-- where an entry of a point's block lies in the result. -/
abbrev here (t : Fin grid0.N) (y : S1x256x2816.Idx) : S4x1024x2816.Idx :=
  ix3 ⟨t.val / 4, by have := lt16 t; omega⟩ ⟨t.val % 4 * 256 + (y 1).val, by have : (y 1).val < 256 := (y 1).isLt; omega⟩ (y 2)

theorem iblk0 (t : Fin grid0.N) (y : S1x256x2816.Idx) : (iblk m (ok m) c 0 t : Vec Ideal S1x256x2816 .f32) y = grad m c (wide (here t y)) := by
  obtain ⟨h0, h1, h2⟩ := places (idx0 m t) y
  exact (congrFun (V_main_arg0 m c) _).trans (congrArg (grad m c) (ext3 h0 h1 h2))

theorem iblk1 (t : Fin grid0.N) (y : S1x256x2816.Idx) : (iblk m (ok m) c 1 t : Vec Ideal S1x256x2816 .f32) y = theirs m c (here t y) := by
  obtain ⟨h0, h1, h2⟩ := places (idx1 t) y
  exact (congrFun (V_main_arg1 m c) _).trans (congrArg (theirs m c) (ext3 h0 h1 h2))

/-- An entry of what a point leaves. -/
theorem left (t : Fin grid0.N) (y : S1x256x2816.Idx) : outsAt0 m (ok m) c t y = entry (grad m c) (theirs m c) (here t y) := by
  unfold outsAt0
  refine (congrFun (body c _ _ _ _ _ _ _ _ _ _) y).trans ((pay1_apply _ _ y).trans ?_)
  exact congrArg₂ (fun a b : EReal => a + b) (iblk0 m c t y) (iblk1 m c t y)

/-- The array the kernel leaves. -/
theorem final : (dats m (ok m) 0 c).arrAt 2 grid0.N = (entry (grad m c) (theirs m c) : FVec Ideal S4x1024x2816 .bf16) := by
  refine (dats m (ok m) 0 c).arrAt_eq_of_cover 2 _ (fun t _ => ?_) fun (i : S4x1024x2816.Idx) => ?_
  · show (dats m (ok m) 0 c).after 2 t = _
    rw [after0_2]
    funext y
    obtain ⟨h0, h1, h2⟩ := places (idx2 t) y
    exact (left m c t y).trans (congrArg (entry (grad m c) (theirs m c)) (ext3 h0 h1 h2 : _ = here t y).symm)
  · have b0 : (i 0).val < 4 := (i 0).isLt
    have b1 : (i 1).val < 1024 := (i 1).isLt
    obtain ⟨p, hv⟩ : ∃ p : Fin grid0.N, p.val = 4 * (i 0).val + (i 1).val / 256 := ⟨⟨4 * (i 0).val + (i 1).val / 256, by rw [N_0]; omega⟩, rfl⟩
    exact ⟨p, flush0_2 _ p, (congrArg (fun s => i ∈ s) (View.set_slice_whole main_v1 _)).mpr ((Rect.mem_set_unit ..).mpr (holds (idx2 p) i (by omega) (by omega)))⟩

end Cert.AddHalfIdeal.Hand

namespace Cert.AddHalfPair

open Idealize.ShloMosaic Idealize.ShloMosaic.TcCoe Cert.Triple Cert.AddHalfIdeal.Hand

/-- The kernel's sum is the reference's, whatever the arguments. -/
theorem algebraic : algebraic_AddHalfIdeal_AddHalfRefIdeal := by
  intro m g m' g' _ hag
  refine ⟨fun c => entry (grad m c) (theirs m c), ?_, ?_⟩
  · refine (θ_run AddHalfIdeal.defs _ _).mono (fun r h c => ?_) (θ_run_and (AddHalfIdeal.Gen.run_main m g (ok m)) (AddHalfIdeal.Gen.unchanged m g (ok m)))
    exact ⟨((h.1 c).1 2).trans (final m c), h.2 c⟩
  · refine (θ_run AddHalfRefIdeal.defs _ _).mono (fun r h c => ?_) (AddHalfRefIdeal.Value.run m' g')
    obtain ⟨e, k⟩ := h c
    obtain ⟨a0, a1⟩ := hag c
    refine ⟨e.trans ((AddHalfRefIdeal.Read.val_main_v2_eq _ _).trans (funext fun i => ?_)), k⟩
    rw [a0, a1]
    refine congrArg₂ (fun a b : EReal => a + b) ?_ rfl
    exact (AddHalfRefIdeal.Read.val_main_v0_apply _ i).trans (congrArg (grad m c) (ext3 rfl rfl rfl))

end Cert.AddHalfPair

end
-- ==== Proof.SumChipsPair.lean ====
/-
  The four chips' sums of a weight's gradient, read widened and added. The table of the device's place holds zeros: the chip's own part
  is the first, and the half it sums is the first of the rows. On any arguments the half is the reference's array.
-/
module

public import proofs.«01_k».proof.Defs
public import proofs.«01_k».proof.Proof.Gen.SumChips.Frame
public import proofs.«01_k».proof.Proof.Gen.SumChipsIdeal.Frame
public import proofs.«01_k».proof.Proof.Gen.SumChipsRefIdeal.Run
public import proofs.«01_k».proof.Proof.Gen.SumChipsRefIdeal.Read
public import proofs.«01_k».proof.Proof.Triple

@[expose] public section

set_option maxRecDepth 16384

noncomputable section

namespace Cert.SumChips.Hand

open Idealize.ShloMosaic Idealize.ShloMosaic.TcCoe Cert.Triple Cert.SumChips Cert.SumChips.Gen

variable {F : FTy → Type} [FloatOps F] (m : (ℓ : Loc nD τ sig) → Buf (Elt F) ℓ)

/-- The table holds zeros. -/
theorem table : (tbl m 0 : Vec F S2 .i32) = fun _ => 0#32 := by
  show (V m 0 main_v0 : Vec F S2 .i32) = _
  unfold V V0
  simp only [List.flatten_cons, List.flatten_nil, List.append_nil]
  after_results_simp <;> rfl

/-- The chip's own block and the other three chips' are read in the grid's order, and the sums written from the first row. -/
theorem place (i : grid0.Coords) : cc0_transform_0 inb_S2_S1_1 numel1_S1 (tbl m) i = ![0, (i 0).val, 0] ∧ cc0_transform_1 inb_S2_S1_1 numel1_S1 (tbl m) i = ![1, (i 0).val, 0]
    ∧ cc0_transform_2 inb_S2_S1_1 numel1_S1 (tbl m) i = ![2, (i 0).val, 0] ∧ cc0_transform_3 inb_S2_S1_1 numel1_S1 (tbl m) i = ![3, (i 0).val, 0]
    ∧ cc0_transform_4 inb_S2_S1_0 numel1_S1 (tbl m) i = ![(i 0).val, 0] := by
  have h0 : (tbl m).at 0 (Rect.unit (s := S2) ![0] S1.size inb_S2_S1_0) numel1_S1 = 0#32 := congrFun (table m) _
  have h1 : (tbl m).at 0 (Rect.unit (s := S2) ![1] S1.size inb_S2_S1_1) numel1_S1 = 0#32 := congrFun (table m) _
  unfold cc0_transform_0 cc0_transform_1 cc0_transform_2 cc0_transform_3 cc0_transform_4
  rw [h0, h1]
  clear h0 h1
  revert i
  decide +kernel

/-- A block of each chip's part lies in it. -/
theorem inside : ∀ (k : Fin 4) (i : grid0.Coords) (a : Fin 3), (![k.val, (i 0).val, 0] a + 1) * S1x256x2816.size a ≤ S4x1024x2816.size a := by decide +kernel

/-- The blocks lie in their arrays. -/
theorem ok : Ok m := by
  refine ⟨fun i => ⟨fun a => ?_, .inr (Affine.block_words_dvd (of_decide_eq_true rfl) (by decide))⟩, fun i => ⟨fun a => ?_, .inr (Affine.block_words_dvd (of_decide_eq_true rfl) (by decide))⟩,
    fun i => ⟨fun a => ?_, .inr (Affine.block_words_dvd (of_decide_eq_true rfl) (by decide))⟩, fun i => ⟨fun a => ?_, .inr (Affine.block_words_dvd (of_decide_eq_true rfl) (by decide))⟩, fun i => ⟨fun a => ?_, .inl rfl⟩⟩
  · rw [(place m i).1]; exact inside 0 i a
  · rw [(place m i).2.1]; exact inside 1 i a
  · rw [(place m i).2.2.1]; exact inside 2 i a
  · rw [(place m i).2.2.2.1]; exact inside 3 i a
  · rw [(place m i).2.2.2.2]
    exact (by decide +kernel : ∀ (i : grid0.Coords) (a : Fin 2), (![(i 0).val, 0] a + 1) * S256x2816.size a ≤ S2048x2816.size a) i a

end Cert.SumChips.Hand

namespace Cert.SumChipsIdeal.Hand

open Idealize.ShloMosaic Idealize.ShloMosaic.TcCoe Cert.Triple Cert.SumChipsIdeal Cert.SumChipsIdeal.Gen

open Idealize.ShloMosaic (ix1 ix2 ix3 ix4)

variable (m : (ℓ : Loc nD τ sig) → Buf (Elt Ideal) ℓ) (c : Dev nD)

/-- The table holds zeros. -/
theorem table : (tbl m 0 : Vec Ideal S2 .i32) = fun _ => 0#32 := by
  show (V m 0 main_v0 : Vec Ideal S2 .i32) = _
  unfold V V0
  simp only [List.flatten_cons, List.flatten_nil, List.append_nil]
  after_results_simp <;> rfl

/-- The chip's own block and the other three chips' are read in the grid's order, and the sums written from the first row. -/
theorem place (i : grid0.Coords) : cc0_transform_0 inb_S2_S1_1 numel1_S1 (tbl m) i = ![0, (i 0).val, 0] ∧ cc0_transform_1 inb_S2_S1_1 numel1_S1 (tbl m) i = ![1, (i 0).val, 0]
    ∧ cc0_transform_2 inb_S2_S1_1 numel1_S1 (tbl m) i = ![2, (i 0).val, 0] ∧ cc0_transform_3 inb_S2_S1_1 numel1_S1 (tbl m) i = ![3, (i 0).val, 0]
    ∧ cc0_transform_4 inb_S2_S1_0 numel1_S1 (tbl m) i = ![(i 0).val, 0] := by
  have h0 : (tbl m).at 0 (Rect.unit (s := S2) ![0] S1.size inb_S2_S1_0) numel1_S1 = 0#32 := congrFun (table m) _
  have h1 : (tbl m).at 0 (Rect.unit (s := S2) ![1] S1.size inb_S2_S1_1) numel1_S1 = 0#32 := congrFun (table m) _
  unfold cc0_transform_0 cc0_transform_1 cc0_transform_2 cc0_transform_3 cc0_transform_4
  rw [h0, h1]
  clear h0 h1
  revert i
  decide +kernel

/-- A block of each chip's part lies in it. -/
theorem inside : ∀ (k : Fin 4) (i : grid0.Coords) (a : Fin 3), (![k.val, (i 0).val, 0] a + 1) * S1x256x2816.size a ≤ S4x1024x2816.size a := by decide +kernel

/-- The blocks lie in their arrays. -/
theorem ok : Ok m := by
  refine ⟨fun i => ⟨fun a => ?_, .inr (Affine.block_words_dvd (of_decide_eq_true rfl) (by decide))⟩, fun i => ⟨fun a => ?_, .inr (Affine.block_words_dvd (of_decide_eq_true rfl) (by decide))⟩,
    fun i => ⟨fun a => ?_, .inr (Affine.block_words_dvd (of_decide_eq_true rfl) (by decide))⟩, fun i => ⟨fun a => ?_, .inr (Affine.block_words_dvd (of_decide_eq_true rfl) (by decide))⟩, fun i => ⟨fun a => ?_, .inl rfl⟩⟩
  · rw [(place m i).1]; exact inside 0 i a
  · rw [(place m i).2.1]; exact inside 1 i a
  · rw [(place m i).2.2.1]; exact inside 2 i a
  · rw [(place m i).2.2.2.1]; exact inside 3 i a
  · rw [(place m i).2.2.2.2]
    exact (by decide +kernel : ∀ (i : grid0.Coords) (a : Fin 2), (![(i 0).val, 0] a + 1) * S256x2816.size a ≤ S2048x2816.size a) i a

/-- The chip's own parts, and the parts of the four chips. -/
abbrev own : FVec Ideal S4x1024x2816 .bf16 := m ((c : Thread nD τ).loc main_arg0)
abbrev parts : FVec Ideal S4x1024x2816 .bf16 := m ((c : Thread nD τ).loc main_arg1)

/-- A row and a column of the sum. -/
def total (x y : FVec Ideal S4x1024x2816 .bf16) (r : Fin 1024) (j : Fin 2816) : EReal := x (ix3 0 r j) + y (ix3 1 r j) + y (ix3 2 r j) + y (ix3 3 r j)

/-- The sum as the entries of the array the kernel leaves; the rows of the other half repeat it. -/
def entry (x y : FVec Ideal S4x1024x2816 .bf16) (i : S2048x2816.Idx) : EReal := total x y ⟨(i 0).val % 1024, Nat.mod_lt _ (by decide)⟩ (i 1)

theorem pay1_apply (x y z w : Vec Ideal S1x256x2816 .bf16) (i : S256x2816.Idx) :
    k0_pay1 (F := Ideal) x y z w i = ((x (ix3 0 (i 0) (i 1)) + y (ix3 0 (i 0) (i 1)) + z (ix3 0 (i 0) (i 1)) + w (ix3 0 (i 0) (i 1)) : EReal)) := by
  have s : ∀ x : Vec Ideal S1x256x2816 .bf16, shapeCast S256x2816 x shapeCasts_S1x256x2816_S256x2816 i = x (ix3 0 (i 0) (i 1)) := fun x => by
    refine shapeCast_apply x shapeCasts_S1x256x2816_S256x2816 i _ ?_
    rewrite [Shape.rowMajor_val_three, Shape.rowMajor_val_two]
    show (0 * 256 + (i 0).val) * 2816 + (i 1).val = (i 0).val * 2816 + (i 1).val
    omega
  rw [← s x, ← s y, ← s z, ← s w]
  rfl

theorem hz : (![0, 0, 0] : Fin 3 → Nat) = fun _ => 0 := funext fun a => by fin_cases a <;> rfl
theorem hz' : (![0, 0] : Fin 2 → Nat) = fun _ => 0 := funext fun a => by fin_cases a <;> rfl

theorem coord : ∀ t : Fin grid0.N, (grid0.coords t 0).val = t.val := by decide +kernel

/-- Every point writes its block back. -/
theorem flush (t : Fin grid0.N) : ((cfgM m (ok m)).win 4).flush t = true := by
  show Pipeline.Window.flushOf grid0 true (cc0_transform_4 inb_S2_S1_0 numel1_S1 (tbl m)) t = true
  rw [show cc0_transform_4 inb_S2_S1_0 numel1_S1 (tbl m) = fun i => ![(i 0).val, 0] from funext fun i => (place m i).2.2.2.2]
  revert t
  decide +kernel

/-- What the body leaves of its blocks. -/
theorem body (i : grid0.Coords) (a0 h0 a1 h1 a2 h2 a3 h3 a4 h4) (x0 x1 x2 x3 : Vec Ideal S1x256x2816 .bf16) (xt) :
    out0_A_4 (F := Ideal) c i a0 h0 a1 h1 a2 h2 a3 h3 a4 h4 x0 x1 x2 x3 xt = k0_pay1 (F := Ideal) x0 x1 x2 x3 := by
  unfold out0_A_4
  rw [View.read_writes_eq_canon _ _ _ fun y => cover0_A_4 (y := y) ..]
  unfold kernelRun0_A
  dsimp only
  sl_unfold_words
  rw [View.canon_unit_zero hz']
  simp only [View.readAt_eq_ld, h0.read_unread, h1.read_unread, h2.read_unread, h3.read_unread, View.ld_unit_zero (S := S1x256x2816) hz]

theorem lt4 (t : Fin grid0.N) : t.val < 4 := lt_of_lt_of_eq t.isLt N_0

/-- The row of a point's block in the half. -/
abbrev row (t : Fin grid0.N) (r : Fin 256) : Fin 1024 := ⟨t.val * 256 + r.val, by have := lt4 t; have := r.isLt; omega⟩

/-- A block's entry of a chip's part, from the block's index. -/
theorem at_part {f : Fin 3 → Nat} {k : Fin 4} (t : Fin grid0.N) (e : f = ![k.val, (grid0.coords t 0).val, 0]) (y : S1x256x2816.Idx) (i : S4x1024x2816.Idx)
    (hi : ∀ a, (i a).val = f a * S1x256x2816.size a + 1 * (y a).val) : i = ix3 k (row t (y 1)) (y 2) := by
  obtain ⟨h0, h1, h2⟩ := places e y
  refine ext3 ((hi 0).trans h0) ((hi 1).trans (h1.trans ?_)) ((hi 2).trans h2)
  rw [coord t]
  rfl

theorem iblk0 (t : Fin grid0.N) (y : S1x256x2816.Idx) : (iblk m (ok m) c 0 t : Vec Ideal S1x256x2816 .bf16) y = own m c (ix3 0 (row t (y 1)) (y 2)) :=
  (congrFun (V_main_arg0 m c) _).trans (congrArg (own m c) (at_part t (k := 0) (place m (grid0.coords t)).1 y _ fun _ => rfl))
theorem iblk1 (t : Fin grid0.N) (y : S1x256x2816.Idx) : (iblk m (ok m) c 1 t : Vec Ideal S1x256x2816 .bf16) y = parts m c (ix3 1 (row t (y 1)) (y 2)) :=
  (congrFun (V_main_arg1 m c) _).trans (congrArg (parts m c) (at_part t (k := 1) (place m (grid0.coords t)).2.1 y _ fun _ => rfl))
theorem iblk2 (t : Fin grid0.N) (y : S1x256x2816.Idx) : (iblk m (ok m) c 2 t : Vec Ideal S1x256x2816 .bf16) y = parts m c (ix3 2 (row t (y 1)) (y 2)) :=
  (congrFun (V_main_arg1 m c) _).trans (congrArg (parts m c) (at_part t (k := 2) (place m (grid0.coords t)).2.2.1 y _ fun _ => rfl))
theorem iblk3 (t : Fin grid0.N) (y : S1x256x2816.Idx) : (iblk m (ok m) c 3 t : Vec Ideal S1x256x2816 .bf16) y = parts m c (ix3 3 (row t (y 1)) (y 2)) :=
  (congrFun (V_main_arg1 m c) _).trans (congrArg (parts m c) (at_part t (k := 3) (place m (grid0.coords t)).2.2.2.1 y _ fun _ => rfl))

/-- An entry of what a point leaves. -/
theorem left (t : Fin grid0.N) (y : S256x2816.Idx) : outsAt0 m (ok m) c t y = total (own m c) (parts m c) (row t (y 0)) (y 1) := by
  unfold outsAt0
  refine (congrFun (body c _ _ _ _ _ _ _ _ _ _ _ _ _ _ _ _) y).trans ((pay1_apply _ _ _ _ y).trans ?_)
  rw [iblk0, iblk1, iblk2, iblk3]
  rfl

/-- The half the kernel leaves. -/
theorem final (i : S2048x2816.Idx) (h : (i 0).val < 1024) : ((dats m (ok m) 0 c).arrAt 4 grid0.N : FVec Ideal S2048x2816 .f32) i = entry (own m c) (parts m c) i := by
  have b1 : (i 1).val < 2816 := (i 1).isLt
  obtain ⟨p, hv⟩ : ∃ p : Fin grid0.N, p.val = (i 0).val / 256 := ⟨⟨(i 0).val / 256, by rw [N_0]; omega⟩, rfl⟩
  refine (dats m (ok m) 0 c).arrAt_apply_of_mem 4 (entry (own m c) (parts m c)) (fun t _ => ?_) grid0.N p i p.isLt (flush m p)
    ((congrArg (fun s => i ∈ s) (View.set_slice_whole main_v1 _)).mpr ((Rect.mem_set_unit ..).mpr fun a => ?_))
  · show (dats m (ok m) 0 c).after 4 t = _
    rw [after0_4]
    funext y
    have hy : (y 0).val < 256 := (y 0).isLt
    have ht := lt4 t
    have e := (place m (grid0.coords t)).2.2.2.2
    have hc := coord t
    refine (left m c t y).trans (congrArg₂ (total (own m c) (parts m c)) (Fin.ext ?_) (Fin.ext ?_))
    · show t.val * 256 + (y 0).val = (cc0_transform_4 inb_S2_S1_0 numel1_S1 (tbl m) (grid0.coords t) 0 * 256 + 1 * (y 0).val) % 1024
      rw [e]
      show t.val * 256 + (y 0).val = ((grid0.coords t 0).val * 256 + 1 * (y 0).val) % 1024
      omega
    · show (y 1).val = cc0_transform_4 inb_S2_S1_0 numel1_S1 (tbl m) (grid0.coords t) 1 * 2816 + 1 * (y 1).val
      rw [e]
      show (y 1).val = 0 * 2816 + 1 * (y 1).val
      omega
  · have e := (place m (grid0.coords p)).2.2.2.2
    have hc := coord p
    match a with
    | ⟨0, _⟩ =>
      show cc0_transform_4 inb_S2_S1_0 numel1_S1 (tbl m) (grid0.coords p) 0 * 256 ≤ (i 0).val ∧ (i 0).val < cc0_transform_4 inb_S2_S1_0 numel1_S1 (tbl m) (grid0.coords p) 0 * 256 + 256
      rw [e]
      show (grid0.coords p 0).val * 256 ≤ (i 0).val ∧ (i 0).val < (grid0.coords p 0).val * 256 + 256
      omega
    | ⟨1, _⟩ =>
      show cc0_transform_4 inb_S2_S1_0 numel1_S1 (tbl m) (grid0.coords p) 1 * 2816 ≤ (i 1).val ∧ (i 1).val < cc0_transform_4 inb_S2_S1_0 numel1_S1 (tbl m) (grid0.coords p) 1 * 2816 + 2816
      rw [e]
      show 0 * 2816 ≤ (i 1).val ∧ (i 1).val < 0 * 2816 + 2816
      omega

/-- What the host reads off that half. -/
theorem tail_eq : Pipeline.afterTail pcfgs (fun _ => adm m (ok m)) (dats m (ok m)) 0 (V0 m) [hostOps1 (F := Ideal)] c main_v2
    = (fun i => total (own m c) (parts m c) (i 0) (i 1) : FVec Ideal S1024x2816 .f32) := by
  unfold Pipeline.afterTail
  have h := Pipeline.withArrays_arr_shared spec0 c (V0 m c) (fun w => (dats m (ok m) 0 c).arrAt w grid0.N) ((dats m (ok m) 0 c).arrAt_sharedIn sharedIn0 (V0 m c) (fun w => A_eq m (ok m) c w) grid0.N) 4
  generalize Pipeline.withArrays spec0 c (V0 m c) (fun w => (dats m (ok m) 0 c).arrAt w grid0.N) = W at h ⊢
  simp only [List.flatten_cons, List.flatten_nil, List.append_nil]
  after_results
  funext i
  have hi : (i 0).val < 1024 := (i 0).isLt
  refine (extractStridedSlice_apply ![0, 0] _ slices_S2048x2816_S1024x2816_0_0 i (ix2 ⟨(i 0).val, by omega⟩ (i 1)) (fun a => ?_)).trans
    ((congrFun h _).trans ((final m c _ hi).trans (congrArg (total (own m c) (parts m c) · (i 1)) (Fin.ext (Nat.mod_eq_of_lt hi)))))
  match a with
  | ⟨0, _⟩ => exact (Nat.zero_add _).symm
  | ⟨1, _⟩ => exact (Nat.zero_add _).symm

end Cert.SumChipsIdeal.Hand

namespace Cert.SumChipsPair

open Idealize.ShloMosaic Idealize.ShloMosaic.TcCoe Cert.Triple Cert.SumChipsIdeal.Hand
open Idealize.ShloMosaic (ix1 ix2 ix3 ix4)
open Cert.SumChipsRefIdeal.Read

/-- Row and column out of a place in row-major order. -/
theorem flat (i : Shape.Idx ⟨2, ![1024, 2816]⟩) : ((i 0).val * 2816 + (i 1).val) / 2816 % 1024 = (i 0).val ∧ ((i 0).val * 2816 + (i 1).val) % 2816 = (i 1).val := by
  have h0 : (i 0).val < 1024 := (i 0).isLt
  have h1 : (i 1).val < 2816 := (i 1).isLt
  omega

/-- The kernel's half is the reference's array, whatever the arguments. -/
theorem algebraic : algebraic_SumChipsIdeal_SumChipsRefIdeal := by
  intro m g m' g' _ hag
  refine ⟨fun c i => total (own m c) (parts m c) (i 0) (i 1), ?_, ?_⟩
  · refine (θ_run SumChipsIdeal.defs _ _).mono (fun r h c => ?_) (θ_run_and (SumChipsIdeal.Gen.run_main m g (ok m)) (SumChipsIdeal.Gen.unchanged m g (ok m)))
    exact ⟨((h.1 c).2 SumChipsIdeal.main_v2 (Pipeline.mem_restRefs_of SumChipsIdeal.main_v2 (by decide) (by decide : ∀ w, (SumChipsIdeal.spec0 w).arr.view.ref ≠ SumChipsIdeal.main_v2))).trans (tail_eq m c), h.2 c⟩
  · refine (θ_run SumChipsRefIdeal.defs _ _).mono (fun r h c => ?_) (SumChipsRefIdeal.Value.run m' g')
    obtain ⟨e, k⟩ := h c
    refine ⟨e.trans ((val_main_v14_eq _ _).trans (funext fun i => ?_)), k⟩
    rw [(hag c).1, (hag c).2]
    rw [val_main_v14_apply, val_main_v10_apply, val_main_v6_apply, val_main_v2_apply, val_main_v1_apply, val_main_v0_apply, val_main_v5_apply, val_main_v4_apply, val_main_v3_apply,
      val_main_v9_apply, val_main_v8_apply, val_main_v7_apply, val_main_v13_apply, val_main_v12_apply, val_main_v11_apply]
    refine congrArg₂ (· + ·) (congrArg₂ (· + ·) (congrArg₂ (· + ·) (congrArg (own m c) ?_) (congrArg (parts m c) ?_)) (congrArg (parts m c) ?_)) (congrArg (parts m c) ?_)
    all_goals exact ext3 rfl (flat i).1 (flat i).2

end Cert.SumChipsPair

end
-- ==== Proof.CastLayerPair.lean ====
/-
  A layer's shard of a weight, narrowed into its chip's slot of the gathered array. The table of the device's place holds zeros, so
  the slot is the first. On any arguments that slot is the reference's array.
-/
module

public import proofs.«01_k».proof.Defs
public import proofs.«01_k».proof.Proof.Gen.CastLayer.Frame
public import proofs.«01_k».proof.Proof.Gen.CastLayerIdeal.Frame
public import proofs.«01_k».proof.Proof.Gen.CastLayerRefIdeal.Run
public import proofs.«01_k».proof.Proof.Gen.CastLayerRefIdeal.Read
public import proofs.«01_k».proof.Proof.Triple

@[expose] public section

set_option maxRecDepth 16384

noncomputable section

namespace Cert.CastLayer.Hand

open Idealize.ShloMosaic Idealize.ShloMosaic.TcCoe Cert.CastLayer Cert.CastLayer.Gen

variable {F : FTy → Type} [FloatOps F] (m : (ℓ : Loc nD τ sig) → Buf (Elt F) ℓ)

/-- The table holds zeros. -/
theorem table : (tbl m 0 : Vec F S2 .i32) = fun _ => 0#32 := by
  show (V m 0 main_v0 : Vec F S2 .i32) = _
  unfold V V0
  simp only [List.flatten_cons, List.flatten_nil, List.append_nil]
  after_results_simp <;> rfl

/-- The blocks are written into the first slot, in the grid's order. -/
theorem place (i : grid0.Coords) : cc0_transform_1 inb_S2_S1_1 numel1_S1 (tbl m) i = ![0, (i 0).val, 0] := by
  have h : (tbl m).at 0 (Rect.unit (s := S2) ![1] S1.size inb_S2_S1_1) numel1_S1 = 0#32 := congrFun (table m) _
  unfold cc0_transform_1
  rw [h]
  clear h
  revert i
  decide +kernel

/-- They lie in the array. -/
theorem ok : Ok m := fun i => ⟨fun a => by
  rw [place m i]
  exact (by decide +kernel : ∀ (i : grid0.Coords) (a : Fin 3), (![0, (i 0).val, 0] a + 1) * S1x256x2816.size a ≤ S4x2048x2816.size a) i a, .inr (Affine.block_words_dvd (of_decide_eq_true rfl) (by decide))⟩

end Cert.CastLayer.Hand

namespace Cert.CastLayerIdeal.Hand

open Idealize.ShloMosaic Idealize.ShloMosaic.TcCoe Cert.Triple Cert.CastLayerIdeal Cert.CastLayerIdeal.Gen

open Idealize.ShloMosaic (ix1 ix2 ix3 ix4)

variable (m : (ℓ : Loc nD τ sig) → Buf (Elt Ideal) ℓ) (c : Dev nD)

/-- The table holds zeros. -/
theorem table : (tbl m 0 : Vec Ideal S2 .i32) = fun _ => 0#32 := by
  show (V m 0 main_v0 : Vec Ideal S2 .i32) = _
  unfold V V0
  simp only [List.flatten_cons, List.flatten_nil, List.append_nil]
  after_results_simp <;> rfl

/-- The blocks are written into the first slot, in the grid's order. -/
theorem place (i : grid0.Coords) : cc0_transform_1 inb_S2_S1_1 numel1_S1 (tbl m) i = ![0, (i 0).val, 0] := by
  have h : (tbl m).at 0 (Rect.unit (s := S2) ![1] S1.size inb_S2_S1_1) numel1_S1 = 0#32 := congrFun (table m) _
  unfold cc0_transform_1
  rw [h]
  clear h
  revert i
  decide +kernel

/-- They lie in the array. -/
theorem ok : Ok m := fun i => ⟨fun a => by
  rw [place m i]
  exact (by decide +kernel : ∀ (i : grid0.Coords) (a : Fin 3), (![0, (i 0).val, 0] a + 1) * S1x256x2816.size a ≤ S4x2048x2816.size a) i a, .inr (Affine.block_words_dvd (of_decide_eq_true rfl) (by decide))⟩

/-- The weights. -/
abbrev wts : FVec Ideal S2x2048x2816 .f32 := m ((c : Thread nD τ).loc main_arg0)

/-- What the gathered array's slots would hold. -/
def entry (w : FVec Ideal S2x2048x2816 .f32) (i : S4x2048x2816.Idx) : EReal := w (ix3 1 (i 1) (i 2))

theorem pay1_apply (x : Vec Ideal S1x256x2816 .f32) (i : S1x256x2816.Idx) : k0_pay1 (F := Ideal) x i = (x i : EReal) := by
  rw [eq_ix3 i]
  pointwise [k0_pay1]

theorem hz : (![0, 0, 0] : Fin 3 → Nat) = fun _ => 0 := funext fun a => by fin_cases a <;> rfl

theorem idx0 : ∀ t : Fin grid0.N, cc0_transform_0 (grid0.coords t) = ![1, t.val, 0] := by decide +kernel
theorem idx1 (t : Fin grid0.N) : cc0_transform_1 inb_S2_S1_1 numel1_S1 (tbl m) (grid0.coords t) = ![0, t.val, 0] :=
  (place m (grid0.coords t)).trans ((by decide +kernel : ∀ t : Fin grid0.N, (![0, (grid0.coords t 0).val, 0] : Fin 3 → Nat) = ![0, t.val, 0]) t)

/-- Every point writes its block back. -/
theorem flush (t : Fin grid0.N) : ((cfgM m (ok m)).win 1).flush t = true := by
  show Pipeline.Window.flushOf grid0 true (cc0_transform_1 inb_S2_S1_1 numel1_S1 (tbl m)) t = true
  rw [show cc0_transform_1 inb_S2_S1_1 numel1_S1 (tbl m) = fun i => ![0, (i 0).val, 0] from funext (place m)]
  revert t
  decide +kernel

/-- What the body leaves of its block. -/
theorem body (i : grid0.Coords) (a0 h0 a1 h1) (x0 : Vec Ideal S1x256x2816 .f32) (xt) :
    out0_A_1 (F := Ideal) c i a0 h0 a1 h1 x0 xt = k0_pay1 (F := Ideal) x0 := by
  unfold out0_A_1
  rw [View.read_writes_eq_canon _ _ _ fun y => cover0_A_1 (y := y) ..]
  unfold kernelRun0_A
  dsimp only
  sl_unfold_words
  rw [View.canon_unit_zero hz]
  simp only [View.readAt_eq_ld, h0.read_unread, View.ld_unit_zero (S := S1x256x2816) hz]

theorem lt8 (t : Fin grid0.N) : t.val < 8 := lt_of_lt_of_eq t.isLt N_0

/-- Where an entry of a point's block lies in a layer. -/
abbrev here {n : Nat} (k : Fin n) (t : Fin grid0.N) (y : S1x256x2816.Idx) : Shape.Idx ⟨3, ![n, 2048, 2816]⟩ :=
  ix3 k ⟨t.val * 256 + (y 1).val, by have := lt8 t; have : (y 1).val < 256 := (y 1).isLt; omega⟩ (y 2)

theorem iblk0 (t : Fin grid0.N) (y : S1x256x2816.Idx) : (iblk m (ok m) c 0 t : Vec Ideal S1x256x2816 .f32) y = wts m c (here 1 t y) := by
  obtain ⟨h0, h1, h2⟩ := places (idx0 t) y
  exact (congrFun (V_main_arg0 m c) _).trans (congrArg (wts m c) (ext3 h0 h1 h2))

/-- An entry of what a point leaves. -/
theorem left (t : Fin grid0.N) (y : S1x256x2816.Idx) : outsAt0 m (ok m) c t y = entry (wts m c) (here 0 t y) := by
  unfold outsAt0
  exact (congrFun (body c _ _ _ _ _ _ _) y).trans ((pay1_apply _ y).trans (iblk0 m c t y))

/-- The first slot of the array the kernel leaves. -/
theorem final (i : S4x2048x2816.Idx) (h : (i 0).val = 0) : ((dats m (ok m) 0 c).arrAt 1 grid0.N : FVec Ideal S4x2048x2816 .bf16) i = entry (wts m c) i := by
  have b1 : (i 1).val < 2048 := (i 1).isLt
  obtain ⟨p, hv⟩ : ∃ p : Fin grid0.N, p.val = (i 1).val / 256 := ⟨⟨(i 1).val / 256, by rw [N_0]; omega⟩, rfl⟩
  refine (dats m (ok m) 0 c).arrAt_apply_of_mem 1 (entry (wts m c)) (fun t _ => ?_) grid0.N p i p.isLt (flush m p)
    ((congrArg (fun s => i ∈ s) (View.set_slice_whole main_v1 _)).mpr ((Rect.mem_set_unit ..).mpr (holds (idx1 m p) i (by omega) (by omega))))
  show (dats m (ok m) 0 c).after 1 t = _
  rw [after0_1]
  funext y
  obtain ⟨h0, h1, h2⟩ := places (idx1 m t) y
  exact (left m c t y).trans (congrArg (entry (wts m c)) (ext3 h0 h1 h2 : _ = here 0 t y).symm)

/-- What the host reads off that slot. -/
theorem tail_eq : Pipeline.afterTail pcfgs (fun _ => adm m (ok m)) (dats m (ok m)) 0 (V0 m) [hostOps1 (F := Ideal)] c main_v3
    = (fun i => wts m c (ix3 1 (i 0) (i 1)) : FVec Ideal S2048x2816 .bf16) := by
  unfold Pipeline.afterTail
  have h := Pipeline.withArrays_arr spec0 (launch0 (F := Ideal)).win.arr_inj c (V0 m c) (fun w => (dats m (ok m) 0 c).arrAt w grid0.N) 1
  generalize Pipeline.withArrays spec0 c (V0 m c) (fun w => (dats m (ok m) 0 c).arrAt w grid0.N) = W at h ⊢
  simp only [List.flatten_cons, List.flatten_nil, List.append_nil]
  after_results
  funext i
  refine (shapeCast_apply _ shapeCasts_S1x2048x2816_S2048x2816 i (ix3 0 (i 0) (i 1)) ?_).trans
    ((extractStridedSlice_apply ![0, 0, 0] _ slices_S4x2048x2816_S1x2048x2816_0_0_0 (ix3 0 (i 0) (i 1)) (ix3 0 (i 0) (i 1)) (fun a => ?_)).trans ((congrFun h _).trans (final m c _ rfl)))
  · rewrite [Shape.rowMajor_val_three, Shape.rowMajor_val_two]
    show (0 * 2048 + (i 0).val) * 2816 + (i 1).val = (i 0).val * 2816 + (i 1).val
    omega
  · match a with
    | ⟨0, _⟩ => rfl
    | ⟨1, _⟩ => exact (Nat.zero_add _).symm
    | ⟨2, _⟩ => exact (Nat.zero_add _).symm

end Cert.CastLayerIdeal.Hand

namespace Cert.CastLayerPair

open Idealize.ShloMosaic Idealize.ShloMosaic.TcCoe Cert.Triple Cert.CastLayerIdeal.Hand
open Idealize.ShloMosaic (ix1 ix2 ix3 ix4)

/-- The kernel's slot is the reference's array, whatever the arguments. -/
theorem algebraic : algebraic_CastLayerIdeal_CastLayerRefIdeal := by
  intro m g m' g' _ hag
  refine ⟨fun c i => wts m c (ix3 1 (i 0) (i 1)), ?_, ?_⟩
  · refine (θ_run CastLayerIdeal.defs _ _).mono (fun r h c => ?_) (θ_run_and (CastLayerIdeal.Gen.run_main m g (ok m)) (CastLayerIdeal.Gen.unchanged m g (ok m)))
    exact ⟨((h.1 c).2 CastLayerIdeal.main_v3 (Pipeline.mem_restRefs_of CastLayerIdeal.main_v3 (by decide) (by decide : ∀ w, (CastLayerIdeal.spec0 w).arr.view.ref ≠ CastLayerIdeal.main_v3))).trans (tail_eq m c), h.2 c⟩
  · refine (θ_run CastLayerRefIdeal.defs _ _).mono (fun r h c => ?_) (CastLayerRefIdeal.Value.run m' g')
    obtain ⟨e, k⟩ := h c
    refine ⟨e.trans ((CastLayerRefIdeal.Read.val_main_v2_eq _).trans (funext fun i => ?_)), k⟩
    rw [hag c]
    refine (CastLayerRefIdeal.Read.val_main_v1_apply _ i).trans ((CastLayerRefIdeal.Read.val_main_v0_apply _ _).trans (congrArg (wts m c) (ext3 rfl ?_ ?_)))
    · have h0 : (i 0).val < 2048 := (i 0).isLt
      have h1 : (i 1).val < 2816 := (i 1).isLt
      show ((i 0).val * 2816 + (i 1).val) / 2816 % 2048 = (i 0).val
      omega
    · have h1 : (i 1).val < 2816 := (i 1).isLt
      show ((i 0).val * 2816 + (i 1).val) % 2816 = (i 1).val
      omega

end Cert.CastLayerPair

end
-- ==== Proof.lean ====
/- The claims: for each pair the frames of the kernel, of its ideal reading and of the reference, that the ideal reading preserves
   the kernel, and that the kernel and the reference leave equal arrays, on finite
   arguments where a precondition says so. -/
module

public import proofs.«01_k».proof.Defs
public import proofs.«01_k».proof.Proof.NormPair
public import proofs.«01_k».proof.Proof.GqaPair
public import proofs.«01_k».proof.Proof.MlaPair
public import proofs.«01_k».proof.Proof.FnormPair
public import proofs.«01_k».proof.Proof.LossPair
public import proofs.«01_k».proof.Proof.RopeQPair
public import proofs.«01_k».proof.Proof.RopeKPair
public import proofs.«01_k».proof.Proof.OutnPair
public import proofs.«01_k».proof.Proof.GatePair
public import proofs.«01_k».proof.Proof.NormFwdPair
public import proofs.«01_k».proof.Proof.OutnFwdPair
public import proofs.«01_k».proof.Proof.RopeQFwdPair
public import proofs.«01_k».proof.Proof.RopeKFwdPair
public import proofs.«01_k».proof.Proof.FfnUpPair
public import proofs.«01_k».proof.Proof.PrepFwdPair
public import proofs.«01_k».proof.Proof.DownPair
public import proofs.«01_k».proof.Proof.UpDxPair
public import proofs.«01_k».proof.Proof.UpDwPair
public import proofs.«01_k».proof.Proof.AdamSmallPair
public import proofs.«01_k».proof.Proof.AdamLayerPair
public import proofs.«01_k».proof.Proof.AddHalfPair
public import proofs.«01_k».proof.Proof.SumChipsPair
public import proofs.«01_k».proof.Proof.CastLayerPair
public import proofs.«01_k».proof.Proof.Gen.Norm.Frame
public import proofs.«01_k».proof.Proof.Gen.Gqa.Frame
public import proofs.«01_k».proof.Proof.Gen.Mla.Frame
public import proofs.«01_k».proof.Proof.Gen.Fnorm.Frame
public import proofs.«01_k».proof.Proof.Gen.Loss.Frame
public import proofs.«01_k».proof.Proof.Gen.RopeQ.Frame
public import proofs.«01_k».proof.Proof.Gen.RopeK.Frame
public import proofs.«01_k».proof.Proof.Gen.Outn.Frame
public import proofs.«01_k».proof.Proof.Gen.Gate.Frame
public import proofs.«01_k».proof.Proof.Gen.NormFwd.Frame
public import proofs.«01_k».proof.Proof.Gen.OutnFwd.Frame
public import proofs.«01_k».proof.Proof.Gen.RopeQFwd.Frame
public import proofs.«01_k».proof.Proof.Gen.RopeKFwd.Frame
public import proofs.«01_k».proof.Proof.Gen.FfnUp.Frame
public import proofs.«01_k».proof.Proof.Gen.PrepFwd.Frame
public import proofs.«01_k».proof.Proof.Gen.Down.Frame
public import proofs.«01_k».proof.Proof.Gen.UpDx.Frame
public import proofs.«01_k».proof.Proof.Gen.UpDw.Frame
public import proofs.«01_k».proof.Proof.Gen.AdamSmall.Frame
public import proofs.«01_k».proof.Proof.Gen.AdamLayer.Frame
public import proofs.«01_k».proof.Proof.Gen.AddHalf.Frame
public import proofs.«01_k».proof.Proof.Gen.SumChips.Frame
public import proofs.«01_k».proof.Proof.Gen.CastLayer.Frame
public import proofs.«01_k».proof.Proof.Gen.NormIdeal.Frame
public import proofs.«01_k».proof.Proof.Gen.GqaIdeal.Frame
public import proofs.«01_k».proof.Proof.Gen.MlaIdeal.Frame
public import proofs.«01_k».proof.Proof.Gen.FnormIdeal.Frame
public import proofs.«01_k».proof.Proof.Gen.LossIdeal.Frame
public import proofs.«01_k».proof.Proof.Gen.RopeQIdeal.Frame
public import proofs.«01_k».proof.Proof.Gen.RopeKIdeal.Frame
public import proofs.«01_k».proof.Proof.Gen.OutnIdeal.Frame
public import proofs.«01_k».proof.Proof.Gen.GateIdeal.Frame
public import proofs.«01_k».proof.Proof.Gen.NormFwdIdeal.Frame
public import proofs.«01_k».proof.Proof.Gen.OutnFwdIdeal.Frame
public import proofs.«01_k».proof.Proof.Gen.RopeQFwdIdeal.Frame
public import proofs.«01_k».proof.Proof.Gen.RopeKFwdIdeal.Frame
public import proofs.«01_k».proof.Proof.Gen.FfnUpIdeal.Frame
public import proofs.«01_k».proof.Proof.Gen.PrepFwdIdeal.Frame
public import proofs.«01_k».proof.Proof.Gen.DownIdeal.Frame
public import proofs.«01_k».proof.Proof.Gen.UpDxIdeal.Frame
public import proofs.«01_k».proof.Proof.Gen.UpDwIdeal.Frame
public import proofs.«01_k».proof.Proof.Gen.AdamSmallIdeal.Frame
public import proofs.«01_k».proof.Proof.Gen.AdamLayerIdeal.Frame
public import proofs.«01_k».proof.Proof.Gen.AddHalfIdeal.Frame
public import proofs.«01_k».proof.Proof.Gen.SumChipsIdeal.Frame
public import proofs.«01_k».proof.Proof.Gen.CastLayerIdeal.Frame
public import proofs.«01_k».proof.Proof.Gen.NormRefIdeal.Run
public import proofs.«01_k».proof.Proof.Gen.GqaRefIdeal.Run
public import proofs.«01_k».proof.Proof.Gen.MlaRefIdeal.Run
public import proofs.«01_k».proof.Proof.Gen.FnormRefIdeal.Run
public import proofs.«01_k».proof.Proof.Gen.LossRefIdeal.Run
public import proofs.«01_k».proof.Proof.Gen.RopeQRefIdeal.Run
public import proofs.«01_k».proof.Proof.Gen.RopeKRefIdeal.Run
public import proofs.«01_k».proof.Proof.Gen.OutnRefIdeal.Run
public import proofs.«01_k».proof.Proof.Gen.GateRefIdeal.Run
public import proofs.«01_k».proof.Proof.Gen.NormFwdRefIdeal.Run
public import proofs.«01_k».proof.Proof.Gen.OutnFwdRefIdeal.Run
public import proofs.«01_k».proof.Proof.Gen.RopeQFwdRefIdeal.Run
public import proofs.«01_k».proof.Proof.Gen.RopeKFwdRefIdeal.Run
public import proofs.«01_k».proof.Proof.Gen.FfnUpRefIdeal.Run
public import proofs.«01_k».proof.Proof.Gen.PrepFwdRefIdeal.Run
public import proofs.«01_k».proof.Proof.Gen.DownRefIdeal.Run
public import proofs.«01_k».proof.Proof.Gen.UpDxRefIdeal.Run
public import proofs.«01_k».proof.Proof.Gen.UpDwRefIdeal.Run
public import proofs.«01_k».proof.Proof.Gen.AdamSmallRefIdeal.Run
public import proofs.«01_k».proof.Proof.Gen.AdamLayerRefIdeal.Run
public import proofs.«01_k».proof.Proof.Gen.AddHalfRefIdeal.Run
public import proofs.«01_k».proof.Proof.Gen.SumChipsRefIdeal.Run
public import proofs.«01_k».proof.Proof.Gen.CastLayerRefIdeal.Run
public import proofs.«01_k».proof.Proof.Gen.Pre_norm_finite
public import proofs.«01_k».proof.Proof.Gen.Pre_gqa_finite
public import proofs.«01_k».proof.Proof.Gen.Pre_mla_finite
public import proofs.«01_k».proof.Proof.Gen.Pre_fnorm_finite
public import proofs.«01_k».proof.Proof.Gen.Pre_outn_finite
public import proofs.«01_k».proof.Proof.Gen.Pre_gate_finite
public import Idealize.ShloMosaic.Adequacy
public import Idealize.ShloMosaic.Init

@[expose] public section

noncomputable section

namespace Cert.Proof

open Idealize.ShloMosaic Idealize.SL.Sem

/-- `NormRefIdeal` runs, keeps its arguments and leaves every counter at zero. -/
theorem frame_NormRef : Cert.quiescent_NormRefIdeal := fun m ρ _ =>
  (θ_run Cert.NormRefIdeal.defs _ _).mono (fun r h => ⟨fun c => (h c).2.2.2, sem_eq_zero_of_no_sems (by decide) r.2⟩) (Cert.NormRefIdeal.Value.run m ρ)

/-- `GqaRefIdeal` runs, keeps its arguments and leaves every counter at zero. -/
theorem frame_GqaRef : Cert.quiescent_GqaRefIdeal := fun m ρ _ =>
  (θ_run Cert.GqaRefIdeal.defs _ _).mono (fun r h => ⟨fun c => (h c).2.2.2.2, sem_eq_zero_of_no_sems (by decide) r.2⟩) (Cert.GqaRefIdeal.Value.run m ρ)

/-- `MlaRefIdeal` runs, keeps its arguments and leaves every counter at zero. -/
theorem frame_MlaRef : Cert.quiescent_MlaRefIdeal := fun m ρ _ =>
  (θ_run Cert.MlaRefIdeal.defs _ _).mono (fun r h => ⟨fun c => (h c).2.2.2.2.2, sem_eq_zero_of_no_sems (by decide) r.2⟩) (Cert.MlaRefIdeal.Value.run m ρ)

/-- `FnormRefIdeal` runs, keeps its arguments and leaves every counter at zero. -/
theorem frame_FnormRef : Cert.quiescent_FnormRefIdeal := fun m ρ _ =>
  (θ_run Cert.FnormRefIdeal.defs _ _).mono (fun r h => ⟨fun c => (h c).2.2.2, sem_eq_zero_of_no_sems (by decide) r.2⟩) (Cert.FnormRefIdeal.Value.run m ρ)

/-- `LossRefIdeal` runs, keeps its arguments and leaves every counter at zero. -/
theorem frame_LossRef : Cert.quiescent_LossRefIdeal := fun m ρ _ =>
  (θ_run Cert.LossRefIdeal.defs _ _).mono (fun r h => ⟨fun c => (h c).2.2, sem_eq_zero_of_no_sems (by decide) r.2⟩) (Cert.LossRefIdeal.Value.run m ρ)

/-- `RopeQRefIdeal` runs, keeps its arguments and leaves every counter at zero. -/
theorem frame_RopeQRef : Cert.quiescent_RopeQRefIdeal := fun m ρ _ =>
  (θ_run Cert.RopeQRefIdeal.defs _ _).mono (fun r h => ⟨fun c => (h c).2, sem_eq_zero_of_no_sems (by decide) r.2⟩) (Cert.RopeQRefIdeal.Value.run m ρ)

/-- `RopeKRefIdeal` runs, keeps its arguments and leaves every counter at zero. -/
theorem frame_RopeKRef : Cert.quiescent_RopeKRefIdeal := fun m ρ _ =>
  (θ_run Cert.RopeKRefIdeal.defs _ _).mono (fun r h => ⟨fun c => (h c).2, sem_eq_zero_of_no_sems (by decide) r.2⟩) (Cert.RopeKRefIdeal.Value.run m ρ)

/-- `OutnRefIdeal` runs, keeps its arguments and leaves every counter at zero. -/
theorem frame_OutnRef : Cert.quiescent_OutnRefIdeal := fun m ρ _ =>
  (θ_run Cert.OutnRefIdeal.defs _ _).mono (fun r h => ⟨fun c => (h c).2.2.2.2, sem_eq_zero_of_no_sems (by decide) r.2⟩) (Cert.OutnRefIdeal.Value.run m ρ)

/-- `GateRefIdeal` runs, keeps its arguments and leaves every counter at zero. -/
theorem frame_GateRef : Cert.quiescent_GateRefIdeal := fun m ρ _ =>
  (θ_run Cert.GateRefIdeal.defs _ _).mono (fun r h => ⟨fun c => (h c).2.2, sem_eq_zero_of_no_sems (by decide) r.2⟩) (Cert.GateRefIdeal.Value.run m ρ)

/-- `NormFwdRefIdeal` runs, keeps its arguments and leaves every counter at zero. -/
theorem frame_NormFwdRef : Cert.quiescent_NormFwdRefIdeal := fun m ρ _ =>
  (θ_run Cert.NormFwdRefIdeal.defs _ _).mono (fun r h => ⟨fun c => (h c).2, sem_eq_zero_of_no_sems (by decide) r.2⟩) (Cert.NormFwdRefIdeal.Value.run m ρ)

/-- `OutnFwdRefIdeal` runs, keeps its arguments and leaves every counter at zero. -/
theorem frame_OutnFwdRef : Cert.quiescent_OutnFwdRefIdeal := fun m ρ _ =>
  (θ_run Cert.OutnFwdRefIdeal.defs _ _).mono (fun r h => ⟨fun c => (h c).2, sem_eq_zero_of_no_sems (by decide) r.2⟩) (Cert.OutnFwdRefIdeal.Value.run m ρ)

/-- `RopeQFwdRefIdeal` runs, keeps its arguments and leaves every counter at zero. -/
theorem frame_RopeQFwdRef : Cert.quiescent_RopeQFwdRefIdeal := fun m ρ _ =>
  (θ_run Cert.RopeQFwdRefIdeal.defs _ _).mono (fun r h => ⟨fun c => (h c).2, sem_eq_zero_of_no_sems (by decide) r.2⟩) (Cert.RopeQFwdRefIdeal.Value.run m ρ)

/-- `RopeKFwdRefIdeal` runs, keeps its arguments and leaves every counter at zero. -/
theorem frame_RopeKFwdRef : Cert.quiescent_RopeKFwdRefIdeal := fun m ρ _ =>
  (θ_run Cert.RopeKFwdRefIdeal.defs _ _).mono (fun r h => ⟨fun c => (h c).2, sem_eq_zero_of_no_sems (by decide) r.2⟩) (Cert.RopeKFwdRefIdeal.Value.run m ρ)

/-- `FfnUpRefIdeal` runs, keeps its arguments and leaves every counter at zero. -/
theorem frame_FfnUpRef : Cert.quiescent_FfnUpRefIdeal := fun m ρ _ =>
  (θ_run Cert.FfnUpRefIdeal.defs _ _).mono (fun r h => ⟨fun c => (h c).2.2, sem_eq_zero_of_no_sems (by decide) r.2⟩) (Cert.FfnUpRefIdeal.Value.run m ρ)

/-- `PrepFwdRefIdeal` runs, keeps its arguments and leaves every counter at zero. -/
theorem frame_PrepFwdRef : Cert.quiescent_PrepFwdRefIdeal := fun m ρ _ =>
  (θ_run Cert.PrepFwdRefIdeal.defs _ _).mono (fun r h => ⟨fun c => (h c).2.2.2.2.2.2.2, sem_eq_zero_of_no_sems (by decide) r.2⟩) (Cert.PrepFwdRefIdeal.Value.run m ρ)

/-- `DownRefIdeal` runs, keeps its arguments and leaves every counter at zero. -/
theorem frame_DownRef : Cert.quiescent_DownRefIdeal := fun m ρ _ =>
  (θ_run Cert.DownRefIdeal.defs _ _).mono (fun r h => ⟨fun c => (h c).2, sem_eq_zero_of_no_sems (by decide) r.2⟩) (Cert.DownRefIdeal.Value.run m ρ)

/-- `UpDxRefIdeal` runs, keeps its arguments and leaves every counter at zero. -/
theorem frame_UpDxRef : Cert.quiescent_UpDxRefIdeal := fun m ρ _ =>
  (θ_run Cert.UpDxRefIdeal.defs _ _).mono (fun r h => ⟨fun c => (h c).2, sem_eq_zero_of_no_sems (by decide) r.2⟩) (Cert.UpDxRefIdeal.Value.run m ρ)

/-- `UpDwRefIdeal` runs, keeps its arguments and leaves every counter at zero. -/
theorem frame_UpDwRef : Cert.quiescent_UpDwRefIdeal := fun m ρ _ =>
  (θ_run Cert.UpDwRefIdeal.defs _ _).mono (fun r h => ⟨fun c => (h c).2, sem_eq_zero_of_no_sems (by decide) r.2⟩) (Cert.UpDwRefIdeal.Value.run m ρ)

/-- `AdamSmallRefIdeal` runs, keeps its arguments and leaves every counter at zero. -/
theorem frame_AdamSmallRef : Cert.quiescent_AdamSmallRefIdeal := fun m ρ _ =>
  (θ_run Cert.AdamSmallRefIdeal.defs _ _).mono (fun r h => ⟨fun c => (h c).2.2.2, sem_eq_zero_of_no_sems (by decide) r.2⟩) (Cert.AdamSmallRefIdeal.Value.run m ρ)

/-- `AdamLayerRefIdeal` runs, keeps its arguments and leaves every counter at zero. -/
theorem frame_AdamLayerRef : Cert.quiescent_AdamLayerRefIdeal := fun m ρ _ =>
  (θ_run Cert.AdamLayerRefIdeal.defs _ _).mono (fun r h => ⟨fun c => (h c).2.2.2.2, sem_eq_zero_of_no_sems (by decide) r.2⟩) (Cert.AdamLayerRefIdeal.Value.run m ρ)

/-- `AddHalfRefIdeal` runs, keeps its arguments and leaves every counter at zero. -/
theorem frame_AddHalfRef : Cert.quiescent_AddHalfRefIdeal := fun m ρ _ =>
  (θ_run Cert.AddHalfRefIdeal.defs _ _).mono (fun r h => ⟨fun c => (h c).2, sem_eq_zero_of_no_sems (by decide) r.2⟩) (Cert.AddHalfRefIdeal.Value.run m ρ)

/-- `SumChipsRefIdeal` runs, keeps its arguments and leaves every counter at zero. -/
theorem frame_SumChipsRef : Cert.quiescent_SumChipsRefIdeal := fun m ρ _ =>
  (θ_run Cert.SumChipsRefIdeal.defs _ _).mono (fun r h => ⟨fun c => (h c).2, sem_eq_zero_of_no_sems (by decide) r.2⟩) (Cert.SumChipsRefIdeal.Value.run m ρ)

/-- `CastLayerRefIdeal` runs, keeps its arguments and leaves every counter at zero. -/
theorem frame_CastLayerRef : Cert.quiescent_CastLayerRefIdeal := fun m ρ _ =>
  (θ_run Cert.CastLayerRefIdeal.defs _ _).mono (fun r h => ⟨fun c => (h c).2, sem_eq_zero_of_no_sems (by decide) r.2⟩) (Cert.CastLayerRefIdeal.Value.run m ρ)

/-- All the claims of `Cert.Claim`. -/
theorem claim : Cert.Claim := ⟨Cert.Norm.Gen.facts, Cert.NormIdeal.Gen.facts, Cert.NormRefIdeal.Gen.facts, Cert.Gqa.Gen.facts, Cert.GqaIdeal.Gen.facts, Cert.GqaRefIdeal.Gen.facts, Cert.Mla.Gen.facts, Cert.MlaIdeal.Gen.facts, Cert.MlaRefIdeal.Gen.facts, Cert.Fnorm.Gen.facts, Cert.FnormIdeal.Gen.facts, Cert.FnormRefIdeal.Gen.facts, Cert.Loss.Gen.facts, Cert.LossIdeal.Gen.facts, Cert.LossRefIdeal.Gen.facts, Cert.RopeQ.Gen.facts, Cert.RopeQIdeal.Gen.facts, Cert.RopeQRefIdeal.Gen.facts, Cert.RopeK.Gen.facts, Cert.RopeKIdeal.Gen.facts, Cert.RopeKRefIdeal.Gen.facts, Cert.Outn.Gen.facts, Cert.OutnIdeal.Gen.facts, Cert.OutnRefIdeal.Gen.facts, Cert.Gate.Gen.facts, Cert.GateIdeal.Gen.facts, Cert.GateRefIdeal.Gen.facts, Cert.NormFwd.Gen.facts, Cert.NormFwdIdeal.Gen.facts, Cert.NormFwdRefIdeal.Gen.facts, Cert.OutnFwd.Gen.facts, Cert.OutnFwdIdeal.Gen.facts, Cert.OutnFwdRefIdeal.Gen.facts, Cert.RopeQFwd.Gen.facts, Cert.RopeQFwdIdeal.Gen.facts, Cert.RopeQFwdRefIdeal.Gen.facts, Cert.RopeKFwd.Gen.facts, Cert.RopeKFwdIdeal.Gen.facts, Cert.RopeKFwdRefIdeal.Gen.facts, Cert.FfnUp.Gen.facts, Cert.FfnUpIdeal.Gen.facts, Cert.FfnUpRefIdeal.Gen.facts, Cert.PrepFwd.Gen.facts, Cert.PrepFwdIdeal.Gen.facts, Cert.PrepFwdRefIdeal.Gen.facts, Cert.Down.Gen.facts, Cert.DownIdeal.Gen.facts, Cert.DownRefIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.AdamSmall.Gen.facts, Cert.AdamSmallIdeal.Gen.facts, Cert.AdamSmallRefIdeal.Gen.facts, Cert.AdamLayer.Gen.facts, Cert.AdamLayerIdeal.Gen.facts, Cert.AdamLayerRefIdeal.Gen.facts, Cert.AddHalf.Gen.facts, Cert.AddHalfIdeal.Gen.facts, Cert.AddHalfRefIdeal.Gen.facts, Cert.SumChips.Gen.facts, Cert.SumChipsIdeal.Gen.facts, Cert.SumChipsRefIdeal.Gen.facts, Cert.CastLayer.Gen.facts, Cert.CastLayerIdeal.Gen.facts, Cert.CastLayerRefIdeal.Gen.facts, Cert.Pre_norm_finite.Gen.facts, Cert.Pre_gqa_finite.Gen.facts, Cert.Pre_mla_finite.Gen.facts, Cert.Pre_fnorm_finite.Gen.facts, Cert.Pre_outn_finite.Gen.facts, Cert.Pre_gate_finite.Gen.facts,
  fun m ρ _ => Cert.Norm.Gen.frame m ρ,
  fun m ρ _ => Cert.NormIdeal.Gen.frame m ρ,
  fun m ρ _ => Cert.NormIdeal.Gen.frame m ρ,
  frame_NormRef,
  fun m ρ _ => frame_NormRef m ρ trivial,
  fun m ρ _ => Cert.Gqa.Gen.frame m ρ,
  fun m ρ _ => Cert.GqaIdeal.Gen.frame m ρ,
  fun m ρ _ => Cert.GqaIdeal.Gen.frame m ρ,
  frame_GqaRef,
  fun m ρ _ => frame_GqaRef m ρ trivial,
  fun m ρ _ => Cert.Mla.Gen.frame m ρ,
  fun m ρ _ => Cert.MlaIdeal.Gen.frame m ρ,
  fun m ρ _ => Cert.MlaIdeal.Gen.frame m ρ,
  frame_MlaRef,
  fun m ρ _ => frame_MlaRef m ρ trivial,
  fun m ρ _ => Cert.Fnorm.Gen.frame m ρ,
  fun m ρ _ => Cert.FnormIdeal.Gen.frame m ρ,
  fun m ρ _ => Cert.FnormIdeal.Gen.frame m ρ,
  frame_FnormRef,
  fun m ρ _ => frame_FnormRef m ρ trivial,
  fun m ρ _ => Cert.Loss.Gen.frame m ρ,
  fun m ρ _ => Cert.LossIdeal.Gen.frame m ρ,
  frame_LossRef,
  fun m ρ _ => Cert.RopeQ.Gen.frame m ρ,
  fun m ρ _ => Cert.RopeQIdeal.Gen.frame m ρ,
  frame_RopeQRef,
  fun m ρ _ => Cert.RopeK.Gen.frame m ρ,
  fun m ρ _ => Cert.RopeKIdeal.Gen.frame m ρ,
  frame_RopeKRef,
  fun m ρ _ => Cert.Outn.Gen.frame m ρ,
  fun m ρ _ => Cert.OutnIdeal.Gen.frame m ρ,
  fun m ρ _ => Cert.OutnIdeal.Gen.frame m ρ,
  frame_OutnRef,
  fun m ρ _ => frame_OutnRef m ρ trivial,
  fun m ρ _ => Cert.Gate.Gen.frame m ρ,
  fun m ρ _ => Cert.GateIdeal.Gen.frame m ρ,
  fun m ρ _ => Cert.GateIdeal.Gen.frame m ρ,
  frame_GateRef,
  fun m ρ _ => frame_GateRef m ρ trivial,
  fun m ρ _ => Cert.NormFwd.Gen.frame m ρ,
  fun m ρ _ => Cert.NormFwdIdeal.Gen.frame m ρ,
  frame_NormFwdRef,
  fun m ρ _ => Cert.OutnFwd.Gen.frame m ρ,
  fun m ρ _ => Cert.OutnFwdIdeal.Gen.frame m ρ,
  frame_OutnFwdRef,
  fun m ρ _ => Cert.RopeQFwd.Gen.frame m ρ,
  fun m ρ _ => Cert.RopeQFwdIdeal.Gen.frame m ρ,
  frame_RopeQFwdRef,
  fun m ρ _ => Cert.RopeKFwd.Gen.frame m ρ,
  fun m ρ _ => Cert.RopeKFwdIdeal.Gen.frame m ρ,
  frame_RopeKFwdRef,
  fun m ρ _ => Cert.FfnUp.Gen.frame m ρ,
  fun m ρ _ => Cert.FfnUpIdeal.Gen.frame m ρ,
  frame_FfnUpRef,
  fun m ρ _ => Cert.PrepFwd.Gen.frame m ρ,
  fun m ρ _ => Cert.PrepFwdIdeal.Gen.frame m ρ,
  frame_PrepFwdRef,
  fun m ρ _ => Cert.Down.Gen.frame m ρ,
  fun m ρ _ => Cert.DownIdeal.Gen.frame m ρ,
  frame_DownRef,
  fun m ρ _ => Cert.UpDx.Gen.frame m ρ,
  fun m ρ _ => Cert.UpDxIdeal.Gen.frame m ρ,
  frame_UpDxRef,
  fun m ρ _ => Cert.UpDw.Gen.frame m ρ,
  fun m ρ _ => Cert.UpDwIdeal.Gen.frame m ρ,
  frame_UpDwRef,
  fun m ρ _ => Cert.AdamSmall.Gen.frame m ρ,
  fun m ρ _ => Cert.AdamSmallIdeal.Gen.frame m ρ,
  frame_AdamSmallRef,
  fun m ρ _ => Cert.AdamLayer.Gen.frame m ρ,
  fun m ρ _ => Cert.AdamLayerIdeal.Gen.frame m ρ,
  frame_AdamLayerRef,
  fun m ρ _ => Cert.AddHalf.Gen.frame m ρ (Cert.AddHalf.Hand.ok m),
  fun m ρ _ => Cert.AddHalfIdeal.Gen.frame m ρ (Cert.AddHalfIdeal.Hand.ok m),
  frame_AddHalfRef,
  fun m ρ _ => Cert.SumChips.Gen.frame m ρ (Cert.SumChips.Hand.ok m),
  fun m ρ _ => Cert.SumChipsIdeal.Gen.frame m ρ (Cert.SumChipsIdeal.Hand.ok m),
  frame_SumChipsRef,
  fun m ρ _ => Cert.CastLayer.Gen.frame m ρ (Cert.CastLayer.Hand.ok m),
  fun m ρ _ => Cert.CastLayerIdeal.Gen.frame m ρ (Cert.CastLayerIdeal.Hand.ok m),
  frame_CastLayerRef,
  trivial,
  Cert.NormPair.algebraic,
  trivial,
  Cert.GqaPair.algebraic,
  trivial,
  Cert.MlaPair.algebraic,
  trivial,
  Cert.FnormPair.algebraic,
  trivial,
  Cert.LossPair.algebraic,
  trivial,
  Cert.RopeQPair.algebraic,
  trivial,
  Cert.RopeKPair.algebraic,
  trivial,
  Cert.OutnPair.algebraic,
  trivial,
  Cert.GatePair.algebraic,
  trivial,
  Cert.NormFwdPair.algebraic,
  trivial,
  Cert.OutnFwdPair.algebraic,
  trivial,
  Cert.RopeQFwdPair.algebraic,
  trivial,
  Cert.RopeKFwdPair.algebraic,
  trivial,
  Cert.FfnUpPair.algebraic,
  trivial,
  Cert.PrepFwdPair.algebraic,
  trivial,
  Cert.DownPair.algebraic,
  trivial,
  Cert.UpDxPair.algebraic,
  trivial,
  Cert.UpDwPair.algebraic,
  trivial,
  Cert.AdamSmallPair.algebraic,
  trivial,
  Cert.AdamLayerPair.algebraic,
  trivial,
  Cert.AddHalfPair.algebraic,
  trivial,
  Cert.SumChipsPair.algebraic,
  trivial,
  Cert.CastLayerPair.algebraic⟩

end Cert.Proof

end
